-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v168_0)) (v1 : (c : Dev Cert.KernelIdeal.nD) → Buf (Elt Ideal) ((c.tc : Thread Cert.KernelIdeal.nD Cert.KernelIdeal.τ).loc Cert.KernelIdeal.main_v168_1)) (v2 : (c : Dev Cert.KernelIdeal.nD) → Buf (Elt Ideal) ((c.tc : Thread Cert.KernelIdeal.nD Cert.KernelIdeal.τ).loc Cert.KernelIdeal.main_v168_2)) (v3 : (c : Dev Cert.KernelIdeal.nD) → Buf (Elt Ideal) ((c.tc : Thread Cert.KernelIdeal.nD Cert.KernelIdeal.τ).loc Cert.KernelIdeal.main_v168_3)) (v4 : (c : Dev Cert.KernelIdeal.nD) → Buf (Elt Ideal) ((c.tc : Thread Cert.KernelIdeal.nD Cert.KernelIdeal.τ).loc Cert.KernelIdeal.main_v168_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168_0) = v0 c
          ∧ r.2.mem ((c.tc : Thread Cert.KernelIdeal.nD Cert.KernelIdeal.τ).loc Cert.KernelIdeal.main_v168_1) = v1 c
          ∧ r.2.mem ((c.tc : Thread Cert.KernelIdeal.nD Cert.KernelIdeal.τ).loc Cert.KernelIdeal.main_v168_2) = v2 c
          ∧ r.2.mem ((c.tc : Thread Cert.KernelIdeal.nD Cert.KernelIdeal.τ).loc Cert.KernelIdeal.main_v168_3) = v3 c
          ∧ r.2.mem ((c.tc : Thread Cert.KernelIdeal.nD Cert.KernelIdeal.τ).loc Cert.KernelIdeal.main_v168_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v523) = v0 c
          ∧ r.2.mem ((c.tc : Thread Cert.ReferenceIdeal.nD Cert.ReferenceIdeal.τ).loc Cert.ReferenceIdeal.main_v524) = v1 c
          ∧ r.2.mem ((c.tc : Thread Cert.ReferenceIdeal.nD Cert.ReferenceIdeal.τ).loc Cert.ReferenceIdeal.main_v525) = v2 c
          ∧ r.2.mem ((c.tc : Thread Cert.ReferenceIdeal.nD Cert.ReferenceIdeal.τ).loc Cert.ReferenceIdeal.main_v520) = v3 c
          ∧ r.2.mem ((c.tc : Thread Cert.ReferenceIdeal.nD Cert.ReferenceIdeal.τ).loc Cert.ReferenceIdeal.main_v522) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2048x512 : Shape := ⟨2, ![2048, 512]⟩
abbrev S31x512 : Shape := ⟨2, ![31, 512]⟩
abbrev S1x512 : Shape := ⟨2, ![1, 512]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S31x512 : S_.BroadcastsInDim S31x512 (![] : Fin 0 → Fin S31x512.rank)
  bcast_S_S1x512 : S_.BroadcastsInDim S1x512 (![] : Fin 0 → Fin S1x512.rank)

variable [Facts]

def fn_part1 {F : FTy → Type} [FloatOps F] (main_arg6 : FVec F S1x512 .f32) (main_v0 : FVec F S2048x512 .f32) (main_v3 : IVec S2048x512 1) (main_v6 : IVec S2048x512 1) (main_v9 : IVec S2048x512 1) (main_v12 : IVec S31x512 1) (main_v15 : IVec S1x512 1) (main_v16 : FVec F S1x512 .f32) (main_v17 : FVec F S1x512 .f32) : IVec S2048x512 1 × IVec S2048x512 1 × IVec S2048x512 1 × IVec S31x512 1 × IVec S1x512 1 × IVec S1x512 1 × IVec S1x512 1 × IVec S2048x512 1 :=
  let main_v18 : IVec S1x512 1 := cmpf .olt main_v16 main_v17
  let main_v19 : FVec F S1x512 .f32 := Host.absf main_arg6
  let main_cst_5 : FVec F S_ .f32 := constant S_ .f32 0x7F800000#32
  let main_v20 : FVec F S1x512 .f32 := broadcastInDim S1x512 ![] bcast_S_S1x512 main_cst_5
  let main_v21 : IVec S1x512 1 := cmpf .olt main_v19 main_v20
  let main_v22 : FVec F S2048x512 .f32 := Host.absf main_v0
  let main_cst_6 : FVec F S_ .f32 := constant S_ .f32 0x7F800000#32
  let main_v23 : FVec F S2048x512 .f32 := broadcastInDim S2048x512 ![] bcast_S_S2048x512 main_cst_6
  let main_v24 : IVec S2048x512 1 := cmpf .olt main_v22 main_v23
  (main_v3, main_v6, main_v9, main_v12, main_v15, main_v18, main_v21, main_v24)

def fn {F : FTy → Type} [FloatOps F] (main_arg0 : FVec F S2048x512 .f32) (main_arg1 : FVec F S2048x512 .f32) (main_arg2 : FVec F S2048x512 .f32) (main_arg3 : FVec F S31x512 .f32) (main_arg4 : FVec F S1x512 .f32) (main_arg5 : FVec F S1x512 .f32) (main_arg6 : FVec F S1x512 .f32) (main_arg7 : FVec F S2048x512 .bf16) : IVec S2048x512 1 × IVec S2048x512 1 × IVec S2048x512 1 × IVec S31x512 1 × IVec S1x512 1 × IVec S1x512 1 × IVec S1x512 1 × IVec S2048x512 1 :=
  let main_v0 : FVec F S2048x512 .f32 := (extf .f32 · bitsLt_bf16_f32) main_arg7
  let main_v1 : FVec F S2048x512 .f32 := Host.absf main_arg0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_v7 : FVec F S2048x512 .f32 := Host.absf main_arg2
  let main_cst_1 : FVec F S_ .f32 := constant S_ .f32 0x7F800000#32
  let main_v8 : FVec F S2048x512 .f32 := broadcastInDim S2048x512 ![] bcast_S_S2048x512 main_cst_1
  let main_v9 : IVec S2048x512 1 := cmpf .olt main_v7 main_v8
  let main_v10 : FVec F S31x512 .f32 := Host.absf main_arg3
  let main_cst_2 : FVec F S_ .f32 := constant S_ .f32 0x7F800000#32
  let main_v11 : FVec F S31x512 .f32 := broadcastInDim S31x512 ![] bcast_S_S31x512 main_cst_2
  let main_v12 : IVec S31x512 1 := cmpf .olt main_v10 main_v11
  let main_v13 : FVec F S1x512 .f32 := Host.absf main_arg4
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x512 .f32 := Host.absf main_arg5
  let main_cst_4 : FVec F S_ .f32 := constant S_ .f32 0x7F800000#32
  let main_v17 : FVec F S1x512 .f32 := broadcastInDim S1x512 ![] bcast_S_S1x512 main_cst_4
  fn_part1 (F := F) main_arg6 main_v0 main_v3 main_v6 main_v9 main_v12 main_v15 main_v16 main_v17
-- ==== Kernel.lean ====
abbrev S2048x512 : Shape := ⟨2, ![2048, 512]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S32x4x128 : Shape := ⟨3, ![32, 4, 128]⟩
abbrev S4x32x128 : Shape := ⟨3, ![4, 32, 128]⟩
abbrev S30x512 : Shape := ⟨2, ![30, 512]⟩
abbrev S2078x512 : Shape := ⟨2, ![2078, 512]⟩
abbrev S16x1024 : Shape := ⟨2, ![16, 1024]⟩
abbrev S8x512 : Shape := ⟨2, ![8, 512]⟩
abbrev S2080x512 : Shape := ⟨2, ![2080, 512]⟩
abbrev S8x4x288x128 : Shape := ⟨4, ![8, 4, 288, 128]⟩
abbrev S256x512 : Shape := ⟨2, ![256, 512]⟩
abbrev S5 : Shape := ⟨1, ![5]⟩
abbrev S4 : Shape := ⟨1, ![4]⟩
abbrev S1 : Shape := ⟨1, ![1]⟩
abbrev S256 : Shape := ⟨1, ![256]⟩
abbrev S256x1 : Shape := ⟨2, ![256, 1]⟩
abbrev S512x512 : Shape := ⟨2, ![512, 512]⟩
abbrev S512 : Shape := ⟨1, ![512]⟩
abbrev S288x512 : Shape := ⟨2, ![288, 512]⟩
abbrev S288x128 : Shape := ⟨2, ![288, 128]⟩
abbrev S1x1x288x128 : Shape := ⟨4, ![1, 1, 288, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S8x128 : Shape := ⟨2, ![8, 128]⟩

abbrev nBuf : Space → Nat
  | .hbm => 186
  | .vmem => 17
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S31x512, .f32⟩
  | 4 => ⟨S1x512, .f32⟩
  | 5 => ⟨S1x512, .f32⟩
  | 6 => ⟨S1x512, .f32⟩
  | 7 => ⟨S2048x512, .bf16⟩
  | 8 => ⟨S_, .i32⟩
  | 9 => ⟨S_, .f32⟩
  | 10 => ⟨S32x512, .f32⟩
  | 11 => ⟨S32x4x128, .f32⟩
  | 12 => ⟨S4x32x128, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S2048x512, .f32⟩
  | 22 => ⟨S_, .f32⟩
  | 23 => ⟨S30x512, .f32⟩
  | 24 => ⟨S2078x512, .f32⟩
  | 25 => ⟨S2048x512, .f32⟩
  | 26 => ⟨S1x512, .f32⟩
  | 27 => ⟨S2048x512, .f32⟩
  | 28 => ⟨S2048x512, .f32⟩
  | 29 => ⟨S2048x512, .f32⟩
  | 30 => ⟨S1x512, .f32⟩
  | 31 => ⟨S2048x512, .f32⟩
  | 32 => ⟨S2048x512, .f32⟩
  | 33 => ⟨S2048x512, .f32⟩
  | 34 => ⟨S2048x512, .f32⟩
  | 35 => ⟨S1x512, .f32⟩
  | 36 => ⟨S2048x512, .f32⟩
  | 37 => ⟨S2048x512, .f32⟩
  | 38 => ⟨S2048x512, .f32⟩
  | 39 => ⟨S2048x512, .f32⟩
  | 40 => ⟨S1x512, .f32⟩
  | 41 => ⟨S2048x512, .f32⟩
  | 42 => ⟨S2048x512, .f32⟩
  | 43 => ⟨S2048x512, .f32⟩
  | 44 => ⟨S2048x512, .f32⟩
  | 45 => ⟨S1x512, .f32⟩
  | 46 => ⟨S2048x512, .f32⟩
  | 47 => ⟨S2048x512, .f32⟩
  | 48 => ⟨S2048x512, .f32⟩
  | 49 => ⟨S2048x512, .f32⟩
  | 50 => ⟨S1x512, .f32⟩
  | 51 => ⟨S2048x512, .f32⟩
  | 52 => ⟨S2048x512, .f32⟩
  | 53 => ⟨S2048x512, .f32⟩
  | 54 => ⟨S2048x512, .f32⟩
  | 55 => ⟨S1x512, .f32⟩
  | 56 => ⟨S2048x512, .f32⟩
  | 57 => ⟨S2048x512, .f32⟩
  | 58 => ⟨S2048x512, .f32⟩
  | 59 => ⟨S2048x512, .f32⟩
  | 60 => ⟨S1x512, .f32⟩
  | 61 => ⟨S2048x512, .f32⟩
  | 62 => ⟨S2048x512, .f32⟩
  | 63 => ⟨S2048x512, .f32⟩
  | 64 => ⟨S2048x512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S1x512, .f32⟩
  | 71 => ⟨S2048x512, .f32⟩
  | 72 => ⟨S2048x512, .f32⟩
  | 73 => ⟨S2048x512, .f32⟩
  | 74 => ⟨S2048x512, .f32⟩
  | 75 => ⟨S1x512, .f32⟩
  | 76 => ⟨S2048x512, .f32⟩
  | 77 => ⟨S2048x512, .f32⟩
  | 78 => ⟨S2048x512, .f32⟩
  | 79 => ⟨S2048x512, .f32⟩
  | 80 => ⟨S1x512, .f32⟩
  | 81 => ⟨S2048x512, .f32⟩
  | 82 => ⟨S2048x512, .f32⟩
  | 83 => ⟨S2048x512, .f32⟩
  | 84 => ⟨S2048x512, .f32⟩
  | 85 => ⟨S1x512, .f32⟩
  | 86 => ⟨S2048x512, .f32⟩
  | 87 => ⟨S2048x512, .f32⟩
  | 88 => ⟨S2048x512, .f32⟩
  | 89 => ⟨S2048x512, .f32⟩
  | 90 => ⟨S1x512, .f32⟩
  | 91 => ⟨S2048x512, .f32⟩
  | 92 => ⟨S2048x512, .f32⟩
  | 93 => ⟨S2048x512, .f32⟩
  | 94 => ⟨S2048x512, .f32⟩
  | 95 => ⟨S1x512, .f32⟩
  | 96 => ⟨S2048x512, .f32⟩
  | 97 => ⟨S2048x512, .f32⟩
  | 98 => ⟨S2048x512, .f32⟩
  | 99 => ⟨S2048x512, .f32⟩
  | 100 => ⟨S1x512, .f32⟩
  | 101 => ⟨S2048x512, .f32⟩
  | 102 => ⟨S2048x512, .f32⟩
  | 103 => ⟨S2048x512, .f32⟩
  | 104 => ⟨S2048x512, .f32⟩
  | 105 => ⟨S1x512, .f32⟩
  | 106 => ⟨S2048x512, .f32⟩
  | 107 => ⟨S2048x512, .f32⟩
  | 108 => ⟨S2048x512, .f32⟩
  | 109 => ⟨S2048x512, .f32⟩
  | 110 => ⟨S1x512, .f32⟩
  | 111 => ⟨S2048x512, .f32⟩
  | 112 => ⟨S2048x512, .f32⟩
  | 113 => ⟨S2048x512, .f32⟩
  | 114 => ⟨S2048x512, .f32⟩
  | 115 => ⟨S1x512, .f32⟩
  | 116 => ⟨S2048x512, .f32⟩
  | 117 => ⟨S2048x512, .f32⟩
  | 118 => ⟨S2048x512, .f32⟩
  | 119 => ⟨S2048x512, .f32⟩
  | 120 => ⟨S1x512, .f32⟩
  | 121 => ⟨S2048x512, .f32⟩
  | 122 => ⟨S2048x512, .f32⟩
  | 123 => ⟨S2048x512, .f32⟩
  | 124 => ⟨S2048x512, .f32⟩
  | 125 => ⟨S1x512, .f32⟩
  | 126 => ⟨S2048x512, .f32⟩
  | 127 => ⟨S2048x512, .f32⟩
  | _ => ⟨S2048x512, .f32⟩

abbrev hbmTy0_1 (i : Nat) : BufTy := match i % 128 with
  | 0 => ⟨S2048x512, .f32⟩
  | 1 => ⟨S2048x512, .f32⟩
  | 2 => ⟨S1x512, .f32⟩
  | 3 => ⟨S2048x512, .f32⟩
  | 4 => ⟨S2048x512, .f32⟩
  | 5 => ⟨S2048x512, .f32⟩
  | 6 => ⟨S2048x512, .f32⟩
  | 7 => ⟨S1x512, .f32⟩
  | 8 => ⟨S2048x512, .f32⟩
  | 9 => ⟨S2048x512, .f32⟩
  | 10 => ⟨S2048x512, .f32⟩
  | 11 => ⟨S2048x512, .f32⟩
  | 12 => ⟨S1x512, .f32⟩
  | 13 => ⟨S2048x512, .f32⟩
  | 14 => ⟨S2048x512, .f32⟩
  | 15 => ⟨S2048x512, .f32⟩
  | 16 => ⟨S2048x512, .f32⟩
  | 17 => ⟨S1x512, .f32⟩
  | 18 => ⟨S2048x512, .f32⟩
  | 19 => ⟨S2048x512, .f32⟩
  | 20 => ⟨S2048x512, .f32⟩
  | 21 => ⟨S2048x512, .f32⟩
  | 22 => ⟨S1x512, .f32⟩
  | 23 => ⟨S2048x512, .f32⟩
  | 24 => ⟨S2048x512, .f32⟩
  | 25 => ⟨S2048x512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S1x512, .f32⟩
  | 33 => ⟨S2048x512, .f32⟩
  | 34 => ⟨S2048x512, .f32⟩
  | 35 => ⟨S2048x512, .f32⟩
  | 36 => ⟨S2048x512, .f32⟩
  | 37 => ⟨S1x512, .f32⟩
  | 38 => ⟨S2048x512, .f32⟩
  | 39 => ⟨S2048x512, .f32⟩
  | 40 => ⟨S2048x512, .f32⟩
  | 41 => ⟨S2048x512, .f32⟩
  | 42 => ⟨S1x512, .f32⟩
  | 43 => ⟨S2048x512, .f32⟩
  | 44 => ⟨S2048x512, .f32⟩
  | 45 => ⟨S2048x512, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S2048x512, .bf16⟩
  | 54 => ⟨S2048x512, .bf16⟩
  | 55 => ⟨S2048x512, .bf16⟩
  | 56 => ⟨S16x1024, .f32⟩
  | 57 => ⟨S8x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S4x32x128, .f32⟩
  | .local _ .vmem, ⟨1, _⟩ => ⟨S1x512, .f32⟩
  | .local _ .vmem, ⟨2, _⟩ => ⟨S1x512, .f32⟩
  | .local _ .vmem, ⟨3, _⟩ => ⟨S16x1024, .f32⟩
  | .local _ .vmem, ⟨4, _⟩ => ⟨S8x512, .f32⟩
  | .local _ .vmem, ⟨5, _⟩ => ⟨S2080x512, .f32⟩
  | .local _ .vmem, ⟨6, _⟩ => ⟨S2080x512, .f32⟩
  | .local _ .vmem, ⟨7, _⟩ => ⟨S8x4x288x128, .f32⟩
  | .local _ .vmem, ⟨8, _⟩ => ⟨S256x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168_0 : Ref sig .tc := ⟨.hbm, 181, rfl⟩
abbrev main_v168_1 : Ref sig .tc := ⟨.hbm, 182, rfl⟩
abbrev main_v168_2 : Ref sig .tc := ⟨.hbm, 183, rfl⟩
abbrev main_v168_3 : Ref sig .tc := ⟨.hbm, 184, rfl⟩
abbrev main_v168_4 : Ref sig .tc := ⟨.hbm, 185, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_12 : BitVec 32 := 0#32
  let c8_i32 : BitVec 32 := 8#32
  let v33 : BitVec 32 := Scalar.addi c0_i32_12 c8_i32
  let c1_i32_13 : BitVec 32 := 1#32
  ⟨c0_i32_12, v33, c1_i32_13⟩
def k0_mult1 (k0_t1 : Fin k0_t1_loop.trips) : BitVec 32 :=
  let c0_i32_12 : BitVec 32 := 0#32
  let c1_i32_13 : BitVec 32 := 1#32
  let arg29 : BitVec 32 := Scf.iv c0_i32_12 c1_i32_13 k0_t1
  let c256_i32 : BitVec 32 := 256#32
  let v227 : BitVec 32 := Scalar.muli arg29 c256_i32
  v227
def k0_off1 (k0_t1 : Fin k0_t1_loop.trips) : Fin 2 → Nat :=
  let c0_i32_12 : BitVec 32 := 0#32
  let c1_i32_13 : BitVec 32 := 1#32
  let arg29 : BitVec 32 := Scf.iv c0_i32_12 c1_i32_13 k0_t1
  let c256_i32 : BitVec 32 := 256#32
  let v227 : BitVec 32 := Scalar.muli arg29 c256_i32
  let v228 : BitVec 32 := v227
  let v229 : Index := Scalar.indexCast v228
  let c0_186 : Index := 0#32
  ![v229.toNat, 0]
def k0_off2 (k0_t1 : Fin k0_t1_loop.trips) : Fin 2 → Nat :=
  let c32_i32 : BitVec 32 := 32#32
  let c0_i32_12 : BitVec 32 := 0#32
  let c1_i32_13 : BitVec 32 := 1#32
  let arg29 : BitVec 32 := Scf.iv c0_i32_12 c1_i32_13 k0_t1
  let c256_i32 : BitVec 32 := 256#32
  let v227 : BitVec 32 := Scalar.muli arg29 c256_i32
  let v228 : BitVec 32 := v227
  let v241 : BitVec 32 := Scalar.addi c32_i32 v228
  let v242 : Index := Scalar.indexCast v241
  let c0_191 : Index := 0#32
  ![v242.toNat, 0]
def k0_off3 (k0_t1 : Fin k0_t1_loop.trips) : Fin 2 → Nat :=
  let c0_i32_12 : BitVec 32 := 0#32
  let c1_i32_13 : BitVec 32 := 1#32
  let arg29 : BitVec 32 := Scf.iv c0_i32_12 c1_i32_13 k0_t1
  let c256_i32 : BitVec 32 := 256#32
  let v227 : BitVec 32 := Scalar.muli arg29 c256_i32
  let v228 : BitVec 32 := v227
  let v345 : Index := Scalar.indexCast v228
  let c0_227 : Index := 0#32
  ![v345.toNat, 0]
def k0_cond1 (k0_t1 : Fin k0_t1_loop.trips) : BitVec 1 :=
  let c0_i32_12 : BitVec 32 := 0#32
  let c1_i32_13 : BitVec 32 := 1#32
  let arg29 : BitVec 32 := Scf.iv c0_i32_12 c1_i32_13 k0_t1
  let c2_i32_228 : BitVec 32 := 2#32
  let c0_i32_229 : BitVec 32 := 0#32
  let v349 : BitVec 1 := Scalar.cmpi .eq c2_i32_228 c0_i32_229
  let c1_i32_230 : BitVec 32 := 1#32
  let v350 : BitVec 32 := Scalar.select v349 c1_i32_230 c2_i32_228
  let v351 : BitVec 32 := Scalar.remsi arg29 v350
  let c0_i32_232 : BitVec 32 := 0#32
  let v353 : BitVec 1 := Scalar.cmpi .slt v351 c0_i32_232
  let c0_i32_233 : BitVec 32 := 0#32
  let v354 : BitVec 1 := Scalar.cmpi .slt v350 c0_i32_233
  let v355 : BitVec 1 := Scalar.xori v353 v354
  let c0_i32_231 : BitVec 32 := 0#32
  let v352 : BitVec 1 := Scalar.cmpi .ne v351 c0_i32_231
  let v356 : BitVec 1 := Scalar.andi v355 v352
  let v357 : BitVec 32 := Scalar.addi v351 v350
  let v358 : BitVec 32 := Scalar.select v356 v357 v351
  let c1_i32_234 : BitVec 32 := 1#32
  let v359 : BitVec 1 := Scalar.cmpi .eq v358 c1_i32_234
  let v360 : BitVec 32 := Scalar.extui v359
  let c0_i32_235 : BitVec 32 := 0#32
  let v361 : BitVec 1 := Scalar.cmpi .ne v360 c0_i32_235
  v361

def k0_mult2 (k0_t1 : Fin k0_t1_loop.trips) : BitVec 32 :=
  let c0_i32_12 : BitVec 32 := 0#32
  let c1_i32_13 : BitVec 32 := 1#32
  let arg29 : BitVec 32 := Scf.iv c0_i32_12 c1_i32_13 k0_t1
  let c0_i32_240 : BitVec 32 := 0#32
  let v373 : BitVec 1 := Scalar.cmpi .sgt arg29 c0_i32_240
  let v374 : BitVec 32 := Scalar.extui v373
  let c0_i32_241 : BitVec 32 := 0#32
  let v375 : BitVec 1 := Scalar.cmpi .slt arg29 c0_i32_241
  let v376 : BitVec 32 := Scalar.extui v375
  let v377 : BitVec 32 := Scalar.subi v374 v376
  let c2_i32_239 : BitVec 32 := 2#32
  let c0_i32_242 : BitVec 32 := 0#32
  let v378 : BitVec 1 := Scalar.cmpi .sgt c2_i32_239 c0_i32_242
  let v379 : BitVec 32 := Scalar.extui v378
  let c0_i32_243 : BitVec 32 := 0#32
  let v380 : BitVec 1 := Scalar.cmpi .slt c2_i32_239 c0_i32_243
  let v381 : BitVec 32 := Scalar.extui v380
  let v382 : BitVec 32 := Scalar.subi v379 v381
  let v383 : BitVec 1 := Scalar.cmpi .ne v377 v382
  let v384 : BitVec 32 := Scalar.remsi arg29 c2_i32_239
  let c0_i32_244 : BitVec 32 := 0#32
  let v385 : BitVec 1 := Scalar.cmpi .ne v384 c0_i32_244
  let v386 : BitVec 1 := Scalar.andi v383 v385
  let v372 : BitVec 32 := Scalar.divsi arg29 c2_i32_239
  let c1_i32_245 : BitVec 32 := 1#32
  let v387 : BitVec 32 := Scalar.subi v372 c1_i32_245
  let v388 : BitVec 32 := Scalar.select v386 v387 v372
  let c512_i32_246 : BitVec 32 := 512#32
  let v389 : BitVec 32 := Scalar.muli v388 c512_i32_246
  v389
def k0_off4 (k0_t1 : Fin k0_t1_loop.trips) : Fin 1 → Nat :=
  let c0_i32_12 : BitVec 32 := 0#32
  let c1_i32_13 : BitVec 32 := 1#32
  let arg29 : BitVec 32 := Scf.iv c0_i32_12 c1_i32_13 k0_t1
  let c0_i32_240 : BitVec 32 := 0#32
  let v373 : BitVec 1 := Scalar.cmpi .sgt arg29 c0_i32_240
  let v374 : BitVec 32 := Scalar.extui v373
  let c0_i32_241 : BitVec 32 := 0#32
  let v375 : BitVec 1 := Scalar.cmpi .slt arg29 c0_i32_241
  let v376 : BitVec 32 := Scalar.extui v375
  let v377 : BitVec 32 := Scalar.subi v374 v376
  let c2_i32_239 : BitVec 32 := 2#32
  let c0_i32_242 : BitVec 32 := 0#32
  let v378 : BitVec 1 := Scalar.cmpi .sgt c2_i32_239 c0_i32_242
  let v379 : BitVec 32 := Scalar.extui v378
  let c0_i32_243 : BitVec 32 := 0#32
  let v380 : BitVec 1 := Scalar.cmpi .slt c2_i32_239 c0_i32_243
  let v381 : BitVec 32 := Scalar.extui v380
  let v382 : BitVec 32 := Scalar.subi v379 v381
  let v383 : BitVec 1 := Scalar.cmpi .ne v377 v382
  let v384 : BitVec 32 := Scalar.remsi arg29 c2_i32_239
  let c0_i32_244 : BitVec 32 := 0#32
  let v385 : BitVec 1 := Scalar.cmpi .ne v384 c0_i32_244
  let v386 : BitVec 1 := Scalar.andi v383 v385
  let v372 : BitVec 32 := Scalar.divsi arg29 c2_i32_239
  let c1_i32_245 : BitVec 32 := 1#32
  let v387 : BitVec 32 := Scalar.subi v372 c1_i32_245
  let v388 : BitVec 32 := Scalar.select v386 v387 v372
  ![v388.toNat]
def k0_off5 (k0_t1 : Fin k0_t1_loop.trips) : Fin 2 → Nat :=
  let c0_i32_12 : BitVec 32 := 0#32
  let c1_i32_13 : BitVec 32 := 1#32
  let arg29 : BitVec 32 := Scf.iv c0_i32_12 c1_i32_13 k0_t1
  let c0_i32_240 : BitVec 32 := 0#32
  let v373 : BitVec 1 := Scalar.cmpi .sgt arg29 c0_i32_240
  let v374 : BitVec 32 := Scalar.extui v373
  let c0_i32_241 : BitVec 32 := 0#32
  let v375 : BitVec 1 := Scalar.cmpi .slt arg29 c0_i32_241
  let v376 : BitVec 32 := Scalar.extui v375
  let v377 : BitVec 32 := Scalar.subi v374 v376
  let c2_i32_239 : BitVec 32 := 2#32
  let c0_i32_242 : BitVec 32 := 0#32
  let v378 : BitVec 1 := Scalar.cmpi .sgt c2_i32_239 c0_i32_242
  let v379 : BitVec 32 := Scalar.extui v378
  let c0_i32_243 : BitVec 32 := 0#32
  let v380 : BitVec 1 := Scalar.cmpi .slt c2_i32_239 c0_i32_243
  let v381 : BitVec 32 := Scalar.extui v380
  let v382 : BitVec 32 := Scalar.subi v379 v381
  let v383 : BitVec 1 := Scalar.cmpi .ne v377 v382
  let v384 : BitVec 32 := Scalar.remsi arg29 c2_i32_239
  let c0_i32_244 : BitVec 32 := 0#32
  let v385 : BitVec 1 := Scalar.cmpi .ne v384 c0_i32_244
  let v386 : BitVec 1 := Scalar.andi v383 v385
  let v372 : BitVec 32 := Scalar.divsi arg29 c2_i32_239
  let c1_i32_245 : BitVec 32 := 1#32
  let v387 : BitVec 32 := Scalar.subi v372 c1_i32_245
  let v388 : BitVec 32 := Scalar.select v386 v387 v372
  let c512_i32_246 : BitVec 32 := 512#32
  let v389 : BitVec 32 := Scalar.muli v388 c512_i32_246
  let v390 : BitVec 32 := v389
  let c0_i32_247 : BitVec 32 := 0#32
  ![v390.toNat, 0]
@[reducible] def k0_t2_loop : Scf.Loop 32 :=
  let c0_i32_22 : BitVec 32 := 0#32
  let c8_i32_23 : BitVec 32 := 8#32
  let v40 : BitVec 32 := Scalar.addi c0_i32_22 c8_i32_23
  let c1_i32_24 : BitVec 32 := 1#32
  ⟨c0_i32_22, v40, c1_i32_24⟩
def k0_mult3 (k0_t2 : Fin k0_t2_loop.trips) : BitVec 32 :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  v227
def k0_off6 (k0_t2 : Fin k0_t2_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let v229 : Index := Scalar.indexCast v228
  let c0_186 : Index := 0#32
  ![v229.toNat, 0]
@[reducible] def k0_t3_loop : Scf.Loop 32 :=
  let c0_i32_315 : BitVec 32 := 0#32
  let c2_i32_316 : BitVec 32 := 2#32
  let v366 : BitVec 32 := Scalar.addi c0_i32_315 c2_i32_316
  let c1_i32_317 : BitVec 32 := 1#32
  ⟨c0_i32_315, v366, c1_i32_317⟩
def k0_mult4 (k0_t3 : Fin k0_t3_loop.trips) : BitVec 32 :=
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  v524
def k0_off7 (k0_t3 : Fin k0_t3_loop.trips) (c24_i32 : BitVec 32) : Fin 4 → Nat :=
  let c6_491 : Index := 6#32
  let c0_492 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v526 : BitVec 32 := Scalar.addi v525 c24_i32
  let v527 : Index := Scalar.indexCast v526
  let c0_493 : Index := 0#32
  ![6, 0, v527.toNat, 0]
def k0_off8 (k0_t3 : Fin k0_t3_loop.trips) (c24_i32_497 : BitVec 32) : Fin 4 → Nat :=
  let c5_498 : Index := 5#32
  let c0_499 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v534 : BitVec 32 := Scalar.addi v525 c24_i32_497
  let v535 : Index := Scalar.indexCast v534
  let c0_500 : Index := 0#32
  ![5, 0, v535.toNat, 0]
def k0_off9 (k0_t3 : Fin k0_t3_loop.trips) (c24_i32_504 : BitVec 32) : Fin 4 → Nat :=
  let c4_505 : Index := 4#32
  let c0_506 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v543 : BitVec 32 := Scalar.addi v525 c24_i32_504
  let v544 : Index := Scalar.indexCast v543
  let c0_507 : Index := 0#32
  ![4, 0, v544.toNat, 0]
def k0_off10 (k0_t3 : Fin k0_t3_loop.trips) (c24_i32_511 : BitVec 32) : Fin 4 → Nat :=
  let c3_512 : Index := 3#32
  let c0_513 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v552 : BitVec 32 := Scalar.addi v525 c24_i32_511
  let v553 : Index := Scalar.indexCast v552
  let c0_514 : Index := 0#32
  ![3, 0, v553.toNat, 0]
def k0_off11 (k0_t3 : Fin k0_t3_loop.trips) (c24_i32_518 : BitVec 32) : Fin 4 → Nat :=
  let c2_519 : Index := 2#32
  let c0_520 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v561 : BitVec 32 := Scalar.addi v525 c24_i32_518
  let v562 : Index := Scalar.indexCast v561
  let c0_521 : Index := 0#32
  ![2, 0, v562.toNat, 0]
def k0_off12 (k0_t3 : Fin k0_t3_loop.trips) (c24_i32_525 : BitVec 32) : Fin 4 → Nat :=
  let c1_526 : Index := 1#32
  let c0_527 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v570 : BitVec 32 := Scalar.addi v525 c24_i32_525
  let v571 : Index := Scalar.indexCast v570
  let c0_528 : Index := 0#32
  ![1, 0, v571.toNat, 0]
def k0_off13 (k0_t3 : Fin k0_t3_loop.trips) (c24_i32_532 : BitVec 32) : Fin 4 → Nat :=
  let c0_533 : Index := 0#32
  let c0_534 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v579 : BitVec 32 := Scalar.addi v525 c24_i32_532
  let v580 : Index := Scalar.indexCast v579
  let c0_535 : Index := 0#32
  ![0, 0, v580.toNat, 0]
def k0_off14 (k0_t3 : Fin k0_t3_loop.trips) (c16_i32 : BitVec 32) : Fin 4 → Nat :=
  let c7_539 : Index := 7#32
  let c0_540 : Index := 0#32
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v588 : BitVec 32 := Scalar.addi v525 c16_i32
  let v589 : Index := Scalar.indexCast v588
  let c0_541 : Index := 0#32
  ![7, 0, v589.toNat, 0]
def k0_off15 (k0_t2 : Fin k0_t2_loop.trips) (k0_t3 : Fin k0_t3_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_315 : BitVec 32 := 0#32
  let c1_i32_317 : BitVec 32 := 1#32
  let arg30 : BitVec 32 := Scf.iv c0_i32_315 c1_i32_317 k0_t3
  let c128_i32 : BitVec 32 := 128#32
  let v524 : BitVec 32 := Scalar.muli arg30 c128_i32
  let v525 : BitVec 32 := v524
  let v804 : BitVec 32 := Scalar.addi v228 v525
  let v805 : Index := Scalar.indexCast v804
  let c0_693 : Index := 0#32
  ![v805.toNat, 0]
@[reducible] def k0_t4_loop : Scf.Loop 32 :=
  let c0_i32_319 : BitVec 32 := 0#32
  let c2_i32_320 : BitVec 32 := 2#32
  let v367 : BitVec 32 := Scalar.addi c0_i32_319 c2_i32_320
  let c1_i32_321 : BitVec 32 := 1#32
  ⟨c0_i32_319, v367, c1_i32_321⟩
def k0_mult5 (k0_t4 : Fin k0_t4_loop.trips) : BitVec 32 :=
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  v524
def k0_off16 (k0_t4 : Fin k0_t4_loop.trips) (c24_i32 : BitVec 32) : Fin 4 → Nat :=
  let c6_491 : Index := 6#32
  let c1_492 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v526 : BitVec 32 := Scalar.addi v525 c24_i32
  let v527 : Index := Scalar.indexCast v526
  let c0_493 : Index := 0#32
  ![6, 1, v527.toNat, 0]
def k0_off17 (k0_t4 : Fin k0_t4_loop.trips) (c24_i32_497 : BitVec 32) : Fin 4 → Nat :=
  let c5_498 : Index := 5#32
  let c1_499 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v534 : BitVec 32 := Scalar.addi v525 c24_i32_497
  let v535 : Index := Scalar.indexCast v534
  let c0_500 : Index := 0#32
  ![5, 1, v535.toNat, 0]
def k0_off18 (k0_t4 : Fin k0_t4_loop.trips) (c24_i32_504 : BitVec 32) : Fin 4 → Nat :=
  let c4_505 : Index := 4#32
  let c1_506 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v543 : BitVec 32 := Scalar.addi v525 c24_i32_504
  let v544 : Index := Scalar.indexCast v543
  let c0_507 : Index := 0#32
  ![4, 1, v544.toNat, 0]
def k0_off19 (k0_t4 : Fin k0_t4_loop.trips) (c24_i32_511 : BitVec 32) : Fin 4 → Nat :=
  let c3_512 : Index := 3#32
  let c1_513 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v552 : BitVec 32 := Scalar.addi v525 c24_i32_511
  let v553 : Index := Scalar.indexCast v552
  let c0_514 : Index := 0#32
  ![3, 1, v553.toNat, 0]
def k0_off20 (k0_t4 : Fin k0_t4_loop.trips) (c24_i32_518 : BitVec 32) : Fin 4 → Nat :=
  let c2_519 : Index := 2#32
  let c1_520 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v561 : BitVec 32 := Scalar.addi v525 c24_i32_518
  let v562 : Index := Scalar.indexCast v561
  let c0_521 : Index := 0#32
  ![2, 1, v562.toNat, 0]
def k0_off21 (k0_t4 : Fin k0_t4_loop.trips) (c24_i32_525 : BitVec 32) : Fin 4 → Nat :=
  let c1_526 : Index := 1#32
  let c1_527 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v570 : BitVec 32 := Scalar.addi v525 c24_i32_525
  let v571 : Index := Scalar.indexCast v570
  let c0_528 : Index := 0#32
  ![1, 1, v571.toNat, 0]
def k0_off22 (k0_t4 : Fin k0_t4_loop.trips) (c24_i32_532 : BitVec 32) : Fin 4 → Nat :=
  let c0_533 : Index := 0#32
  let c1_534 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v579 : BitVec 32 := Scalar.addi v525 c24_i32_532
  let v580 : Index := Scalar.indexCast v579
  let c0_535 : Index := 0#32
  ![0, 1, v580.toNat, 0]
def k0_off23 (k0_t4 : Fin k0_t4_loop.trips) (c16_i32 : BitVec 32) : Fin 4 → Nat :=
  let c7_539 : Index := 7#32
  let c1_540 : Index := 1#32
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v588 : BitVec 32 := Scalar.addi v525 c16_i32
  let v589 : Index := Scalar.indexCast v588
  let c0_541 : Index := 0#32
  ![7, 1, v589.toNat, 0]
def k0_off24 (k0_t2 : Fin k0_t2_loop.trips) (k0_t4 : Fin k0_t4_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_319 : BitVec 32 := 0#32
  let c1_i32_321 : BitVec 32 := 1#32
  let arg30 : BitVec 32 := Scf.iv c0_i32_319 c1_i32_321 k0_t4
  let c128_i32 : BitVec 32 := 128#32
  let v524 : BitVec 32 := Scalar.muli arg30 c128_i32
  let v525 : BitVec 32 := v524
  let v804 : BitVec 32 := Scalar.addi v228 v525
  let v805 : Index := Scalar.indexCast v804
  let c128_693 : Index := 128#32
  ![v805.toNat, 128]
@[reducible] def k0_t5_loop : Scf.Loop 32 :=
  let c0_i32_323 : BitVec 32 := 0#32
  let c2_i32_324 : BitVec 32 := 2#32
  let v368 : BitVec 32 := Scalar.addi c0_i32_323 c2_i32_324
  let c1_i32_325 : BitVec 32 := 1#32
  ⟨c0_i32_323, v368, c1_i32_325⟩
def k0_mult6 (k0_t5 : Fin k0_t5_loop.trips) : BitVec 32 :=
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  v524
def k0_off25 (k0_t5 : Fin k0_t5_loop.trips) (c24_i32 : BitVec 32) : Fin 4 → Nat :=
  let c6_491 : Index := 6#32
  let c2_492 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v526 : BitVec 32 := Scalar.addi v525 c24_i32
  let v527 : Index := Scalar.indexCast v526
  let c0_493 : Index := 0#32
  ![6, 2, v527.toNat, 0]
def k0_off26 (k0_t5 : Fin k0_t5_loop.trips) (c24_i32_497 : BitVec 32) : Fin 4 → Nat :=
  let c5_498 : Index := 5#32
  let c2_499 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v534 : BitVec 32 := Scalar.addi v525 c24_i32_497
  let v535 : Index := Scalar.indexCast v534
  let c0_500 : Index := 0#32
  ![5, 2, v535.toNat, 0]
def k0_off27 (k0_t5 : Fin k0_t5_loop.trips) (c24_i32_504 : BitVec 32) : Fin 4 → Nat :=
  let c4_505 : Index := 4#32
  let c2_506 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v543 : BitVec 32 := Scalar.addi v525 c24_i32_504
  let v544 : Index := Scalar.indexCast v543
  let c0_507 : Index := 0#32
  ![4, 2, v544.toNat, 0]
def k0_off28 (k0_t5 : Fin k0_t5_loop.trips) (c24_i32_511 : BitVec 32) : Fin 4 → Nat :=
  let c3_512 : Index := 3#32
  let c2_513 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v552 : BitVec 32 := Scalar.addi v525 c24_i32_511
  let v553 : Index := Scalar.indexCast v552
  let c0_514 : Index := 0#32
  ![3, 2, v553.toNat, 0]
def k0_off29 (k0_t5 : Fin k0_t5_loop.trips) (c24_i32_518 : BitVec 32) : Fin 4 → Nat :=
  let c2_519 : Index := 2#32
  let c2_520 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v561 : BitVec 32 := Scalar.addi v525 c24_i32_518
  let v562 : Index := Scalar.indexCast v561
  let c0_521 : Index := 0#32
  ![2, 2, v562.toNat, 0]
def k0_off30 (k0_t5 : Fin k0_t5_loop.trips) (c24_i32_525 : BitVec 32) : Fin 4 → Nat :=
  let c1_526 : Index := 1#32
  let c2_527 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v570 : BitVec 32 := Scalar.addi v525 c24_i32_525
  let v571 : Index := Scalar.indexCast v570
  let c0_528 : Index := 0#32
  ![1, 2, v571.toNat, 0]
def k0_off31 (k0_t5 : Fin k0_t5_loop.trips) (c24_i32_532 : BitVec 32) : Fin 4 → Nat :=
  let c0_533 : Index := 0#32
  let c2_534 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v579 : BitVec 32 := Scalar.addi v525 c24_i32_532
  let v580 : Index := Scalar.indexCast v579
  let c0_535 : Index := 0#32
  ![0, 2, v580.toNat, 0]
def k0_off32 (k0_t5 : Fin k0_t5_loop.trips) (c16_i32 : BitVec 32) : Fin 4 → Nat :=
  let c7_539 : Index := 7#32
  let c2_540 : Index := 2#32
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v588 : BitVec 32 := Scalar.addi v525 c16_i32
  let v589 : Index := Scalar.indexCast v588
  let c0_541 : Index := 0#32
  ![7, 2, v589.toNat, 0]
def k0_off33 (k0_t2 : Fin k0_t2_loop.trips) (k0_t5 : Fin k0_t5_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_323 : BitVec 32 := 0#32
  let c1_i32_325 : BitVec 32 := 1#32
  let arg30 : BitVec 32 := Scf.iv c0_i32_323 c1_i32_325 k0_t5
  let c128_i32 : BitVec 32 := 128#32
  let v524 : BitVec 32 := Scalar.muli arg30 c128_i32
  let v525 : BitVec 32 := v524
  let v804 : BitVec 32 := Scalar.addi v228 v525
  let v805 : Index := Scalar.indexCast v804
  let c256 : Index := 256#32
  ![v805.toNat, 256]
@[reducible] def k0_t6_loop : Scf.Loop 32 :=
  let c0_i32_327 : BitVec 32 := 0#32
  let c2_i32_328 : BitVec 32 := 2#32
  let v369 : BitVec 32 := Scalar.addi c0_i32_327 c2_i32_328
  let c1_i32_329 : BitVec 32 := 1#32
  ⟨c0_i32_327, v369, c1_i32_329⟩
def k0_mult7 (k0_t6 : Fin k0_t6_loop.trips) : BitVec 32 :=
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  v524
def k0_off34 (k0_t6 : Fin k0_t6_loop.trips) (c24_i32 : BitVec 32) : Fin 4 → Nat :=
  let c6_491 : Index := 6#32
  let c3_492 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v526 : BitVec 32 := Scalar.addi v525 c24_i32
  let v527 : Index := Scalar.indexCast v526
  let c0_493 : Index := 0#32
  ![6, 3, v527.toNat, 0]
def k0_off35 (k0_t6 : Fin k0_t6_loop.trips) (c24_i32_497 : BitVec 32) : Fin 4 → Nat :=
  let c5_498 : Index := 5#32
  let c3_499 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v534 : BitVec 32 := Scalar.addi v525 c24_i32_497
  let v535 : Index := Scalar.indexCast v534
  let c0_500 : Index := 0#32
  ![5, 3, v535.toNat, 0]
def k0_off36 (k0_t6 : Fin k0_t6_loop.trips) (c24_i32_504 : BitVec 32) : Fin 4 → Nat :=
  let c4_505 : Index := 4#32
  let c3_506 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v543 : BitVec 32 := Scalar.addi v525 c24_i32_504
  let v544 : Index := Scalar.indexCast v543
  let c0_507 : Index := 0#32
  ![4, 3, v544.toNat, 0]
def k0_off37 (k0_t6 : Fin k0_t6_loop.trips) (c24_i32_511 : BitVec 32) : Fin 4 → Nat :=
  let c3_512 : Index := 3#32
  let c3_513 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v552 : BitVec 32 := Scalar.addi v525 c24_i32_511
  let v553 : Index := Scalar.indexCast v552
  let c0_514 : Index := 0#32
  ![3, 3, v553.toNat, 0]
def k0_off38 (k0_t6 : Fin k0_t6_loop.trips) (c24_i32_518 : BitVec 32) : Fin 4 → Nat :=
  let c2_519 : Index := 2#32
  let c3_520 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v561 : BitVec 32 := Scalar.addi v525 c24_i32_518
  let v562 : Index := Scalar.indexCast v561
  let c0_521 : Index := 0#32
  ![2, 3, v562.toNat, 0]
def k0_off39 (k0_t6 : Fin k0_t6_loop.trips) (c24_i32_525 : BitVec 32) : Fin 4 → Nat :=
  let c1_526 : Index := 1#32
  let c3_527 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v570 : BitVec 32 := Scalar.addi v525 c24_i32_525
  let v571 : Index := Scalar.indexCast v570
  let c0_528 : Index := 0#32
  ![1, 3, v571.toNat, 0]
def k0_off40 (k0_t6 : Fin k0_t6_loop.trips) (c24_i32_532 : BitVec 32) : Fin 4 → Nat :=
  let c0_533 : Index := 0#32
  let c3_534 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v579 : BitVec 32 := Scalar.addi v525 c24_i32_532
  let v580 : Index := Scalar.indexCast v579
  let c0_535 : Index := 0#32
  ![0, 3, v580.toNat, 0]
def k0_off41 (k0_t6 : Fin k0_t6_loop.trips) (c16_i32 : BitVec 32) : Fin 4 → Nat :=
  let c7_539 : Index := 7#32
  let c3_540 : Index := 3#32
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v588 : BitVec 32 := Scalar.addi v525 c16_i32
  let v589 : Index := Scalar.indexCast v588
  let c0_541 : Index := 0#32
  ![7, 3, v589.toNat, 0]
def k0_off42 (k0_t2 : Fin k0_t2_loop.trips) (k0_t6 : Fin k0_t6_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_327 : BitVec 32 := 0#32
  let c1_i32_329 : BitVec 32 := 1#32
  let arg30 : BitVec 32 := Scf.iv c0_i32_327 c1_i32_329 k0_t6
  let c128_i32 : BitVec 32 := 128#32
  let v524 : BitVec 32 := Scalar.muli arg30 c128_i32
  let v525 : BitVec 32 := v524
  let v804 : BitVec 32 := Scalar.addi v228 v525
  let v805 : Index := Scalar.indexCast v804
  let c384 : Index := 384#32
  ![v805.toNat, 384]
@[reducible] def k0_t7_loop : Scf.Loop 32 :=
  let c0_i32_467 : BitVec 32 := 0#32
  let c2_i32_468 : BitVec 32 := 2#32
  let v507 : BitVec 32 := Scalar.addi c0_i32_467 c2_i32_468
  let c1_i32_469 : BitVec 32 := 1#32
  ⟨c0_i32_467, v507, c1_i32_469⟩
def k0_mult8 (k0_t7 : Fin k0_t7_loop.trips) : BitVec 32 :=
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  v524
def k0_off43 (k0_t2 : Fin k0_t2_loop.trips) (k0_t7 : Fin k0_t7_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v526 : BitVec 32 := Scalar.addi v228 v525
  let v527 : Index := Scalar.indexCast v526
  let c0_491 : Index := 0#32
  ![v527.toNat, 0]
def k0_off44 (k0_t7 : Fin k0_t7_loop.trips) (c0_i32_492 : BitVec 32) : Fin 4 → Nat :=
  let c2_493 : Index := 2#32
  let c0_494 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v529 : BitVec 32 := Scalar.addi v525 c0_i32_492
  let v530 : Index := Scalar.indexCast v529
  let c0_495 : Index := 0#32
  ![2, 0, v530.toNat, 0]
def k0_off45 (k0_t7 : Fin k0_t7_loop.trips) (c0_i32_500 : BitVec 32) : Fin 4 → Nat :=
  let c3_501 : Index := 3#32
  let c0_502 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v570 : BitVec 32 := Scalar.addi v525 c0_i32_500
  let v571 : Index := Scalar.indexCast v570
  let c0_503 : Index := 0#32
  ![3, 0, v571.toNat, 0]
def k0_off46 (k0_t7 : Fin k0_t7_loop.trips) (c0_i32_508 : BitVec 32) : Fin 4 → Nat :=
  let c4_509 : Index := 4#32
  let c0_510 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v611 : BitVec 32 := Scalar.addi v525 c0_i32_508
  let v612 : Index := Scalar.indexCast v611
  let c0_511 : Index := 0#32
  ![4, 0, v612.toNat, 0]
def k0_off47 (k0_t7 : Fin k0_t7_loop.trips) (c0_i32_516 : BitVec 32) : Fin 4 → Nat :=
  let c5_517 : Index := 5#32
  let c0_518 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v652 : BitVec 32 := Scalar.addi v525 c0_i32_516
  let v653 : Index := Scalar.indexCast v652
  let c0_519 : Index := 0#32
  ![5, 0, v653.toNat, 0]
def k0_off48 (k0_t7 : Fin k0_t7_loop.trips) (c0_i32_524 : BitVec 32) : Fin 4 → Nat :=
  let c6_525 : Index := 6#32
  let c0_526 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v693 : BitVec 32 := Scalar.addi v525 c0_i32_524
  let v694 : Index := Scalar.indexCast v693
  let c0_527 : Index := 0#32
  ![6, 0, v694.toNat, 0]
def k0_off49 (k0_t7 : Fin k0_t7_loop.trips) (c0_i32_532 : BitVec 32) : Fin 4 → Nat :=
  let c7_533 : Index := 7#32
  let c0_534 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v734 : BitVec 32 := Scalar.addi v525 c0_i32_532
  let v735 : Index := Scalar.indexCast v734
  let c0_535 : Index := 0#32
  ![7, 0, v735.toNat, 0]
def k0_off50 (k0_t7 : Fin k0_t7_loop.trips) (c8_i32_540 : BitVec 32) : Fin 4 → Nat :=
  let c0_541 : Index := 0#32
  let c0_542 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v775 : BitVec 32 := Scalar.addi v525 c8_i32_540
  let v776 : Index := Scalar.indexCast v775
  let c0_543 : Index := 0#32
  ![0, 0, v776.toNat, 0]
def k0_off51 (k0_t7 : Fin k0_t7_loop.trips) (c8_i32_548 : BitVec 32) : Fin 4 → Nat :=
  let c1_549 : Index := 1#32
  let c0_550 : Index := 0#32
  let c0_i32_467 : BitVec 32 := 0#32
  let c1_i32_469 : BitVec 32 := 1#32
  let arg30 : BitVec 32 := Scf.iv c0_i32_467 c1_i32_469 k0_t7
  let c128_i32 : BitVec 32 := 128#32
  let v524 : BitVec 32 := Scalar.muli arg30 c128_i32
  let v525 : BitVec 32 := v524
  let v816 : BitVec 32 := Scalar.addi v525 c8_i32_548
  let v817 : Index := Scalar.indexCast v816
  let c0_551 : Index := 0#32
  ![1, 0, v817.toNat, 0]
@[reducible] def k0_t8_loop : Scf.Loop 32 :=
  let c0_i32_471 : BitVec 32 := 0#32
  let c2_i32_472 : BitVec 32 := 2#32
  let v508 : BitVec 32 := Scalar.addi c0_i32_471 c2_i32_472
  let c1_i32_473 : BitVec 32 := 1#32
  ⟨c0_i32_471, v508, c1_i32_473⟩
def k0_mult9 (k0_t8 : Fin k0_t8_loop.trips) : BitVec 32 :=
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  v524
def k0_off52 (k0_t2 : Fin k0_t2_loop.trips) (k0_t8 : Fin k0_t8_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v526 : BitVec 32 := Scalar.addi v228 v525
  let v527 : Index := Scalar.indexCast v526
  let c128_491 : Index := 128#32
  ![v527.toNat, 128]
def k0_off53 (k0_t8 : Fin k0_t8_loop.trips) (c0_i32_492 : BitVec 32) : Fin 4 → Nat :=
  let c2_493 : Index := 2#32
  let c1_494 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v529 : BitVec 32 := Scalar.addi v525 c0_i32_492
  let v530 : Index := Scalar.indexCast v529
  let c0_495 : Index := 0#32
  ![2, 1, v530.toNat, 0]
def k0_off54 (k0_t8 : Fin k0_t8_loop.trips) (c0_i32_500 : BitVec 32) : Fin 4 → Nat :=
  let c3_501 : Index := 3#32
  let c1_502 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v570 : BitVec 32 := Scalar.addi v525 c0_i32_500
  let v571 : Index := Scalar.indexCast v570
  let c0_503 : Index := 0#32
  ![3, 1, v571.toNat, 0]
def k0_off55 (k0_t8 : Fin k0_t8_loop.trips) (c0_i32_508 : BitVec 32) : Fin 4 → Nat :=
  let c4_509 : Index := 4#32
  let c1_510 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v611 : BitVec 32 := Scalar.addi v525 c0_i32_508
  let v612 : Index := Scalar.indexCast v611
  let c0_511 : Index := 0#32
  ![4, 1, v612.toNat, 0]
def k0_off56 (k0_t8 : Fin k0_t8_loop.trips) (c0_i32_516 : BitVec 32) : Fin 4 → Nat :=
  let c5_517 : Index := 5#32
  let c1_518 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v652 : BitVec 32 := Scalar.addi v525 c0_i32_516
  let v653 : Index := Scalar.indexCast v652
  let c0_519 : Index := 0#32
  ![5, 1, v653.toNat, 0]
def k0_off57 (k0_t8 : Fin k0_t8_loop.trips) (c0_i32_524 : BitVec 32) : Fin 4 → Nat :=
  let c6_525 : Index := 6#32
  let c1_526 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v693 : BitVec 32 := Scalar.addi v525 c0_i32_524
  let v694 : Index := Scalar.indexCast v693
  let c0_527 : Index := 0#32
  ![6, 1, v694.toNat, 0]
def k0_off58 (k0_t8 : Fin k0_t8_loop.trips) (c0_i32_532 : BitVec 32) : Fin 4 → Nat :=
  let c7_533 : Index := 7#32
  let c1_534 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v734 : BitVec 32 := Scalar.addi v525 c0_i32_532
  let v735 : Index := Scalar.indexCast v734
  let c0_535 : Index := 0#32
  ![7, 1, v735.toNat, 0]
def k0_off59 (k0_t8 : Fin k0_t8_loop.trips) (c8_i32_540 : BitVec 32) : Fin 4 → Nat :=
  let c0_541 : Index := 0#32
  let c1_542 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v775 : BitVec 32 := Scalar.addi v525 c8_i32_540
  let v776 : Index := Scalar.indexCast v775
  let c0_543 : Index := 0#32
  ![0, 1, v776.toNat, 0]
def k0_off60 (k0_t8 : Fin k0_t8_loop.trips) (c8_i32_548 : BitVec 32) : Fin 4 → Nat :=
  let c1_549 : Index := 1#32
  let c1_550 : Index := 1#32
  let c0_i32_471 : BitVec 32 := 0#32
  let c1_i32_473 : BitVec 32 := 1#32
  let arg30 : BitVec 32 := Scf.iv c0_i32_471 c1_i32_473 k0_t8
  let c128_i32 : BitVec 32 := 128#32
  let v524 : BitVec 32 := Scalar.muli arg30 c128_i32
  let v525 : BitVec 32 := v524
  let v816 : BitVec 32 := Scalar.addi v525 c8_i32_548
  let v817 : Index := Scalar.indexCast v816
  let c0_551 : Index := 0#32
  ![1, 1, v817.toNat, 0]
@[reducible] def k0_t9_loop : Scf.Loop 32 :=
  let c0_i32_475 : BitVec 32 := 0#32
  let c2_i32_476 : BitVec 32 := 2#32
  let v509 : BitVec 32 := Scalar.addi c0_i32_475 c2_i32_476
  let c1_i32_477 : BitVec 32 := 1#32
  ⟨c0_i32_475, v509, c1_i32_477⟩
def k0_mult10 (k0_t9 : Fin k0_t9_loop.trips) : BitVec 32 :=
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  v524
def k0_off61 (k0_t2 : Fin k0_t2_loop.trips) (k0_t9 : Fin k0_t9_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v526 : BitVec 32 := Scalar.addi v228 v525
  let v527 : Index := Scalar.indexCast v526
  let c256 : Index := 256#32
  ![v527.toNat, 256]
def k0_off62 (k0_t9 : Fin k0_t9_loop.trips) (c0_i32_491 : BitVec 32) : Fin 4 → Nat :=
  let c2_492 : Index := 2#32
  let c2_493 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v529 : BitVec 32 := Scalar.addi v525 c0_i32_491
  let v530 : Index := Scalar.indexCast v529
  let c0_494 : Index := 0#32
  ![2, 2, v530.toNat, 0]
def k0_off63 (k0_t9 : Fin k0_t9_loop.trips) (c0_i32_499 : BitVec 32) : Fin 4 → Nat :=
  let c3_500 : Index := 3#32
  let c2_501 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v570 : BitVec 32 := Scalar.addi v525 c0_i32_499
  let v571 : Index := Scalar.indexCast v570
  let c0_502 : Index := 0#32
  ![3, 2, v571.toNat, 0]
def k0_off64 (k0_t9 : Fin k0_t9_loop.trips) (c0_i32_507 : BitVec 32) : Fin 4 → Nat :=
  let c4_508 : Index := 4#32
  let c2_509 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v611 : BitVec 32 := Scalar.addi v525 c0_i32_507
  let v612 : Index := Scalar.indexCast v611
  let c0_510 : Index := 0#32
  ![4, 2, v612.toNat, 0]
def k0_off65 (k0_t9 : Fin k0_t9_loop.trips) (c0_i32_515 : BitVec 32) : Fin 4 → Nat :=
  let c5_516 : Index := 5#32
  let c2_517 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v652 : BitVec 32 := Scalar.addi v525 c0_i32_515
  let v653 : Index := Scalar.indexCast v652
  let c0_518 : Index := 0#32
  ![5, 2, v653.toNat, 0]
def k0_off66 (k0_t9 : Fin k0_t9_loop.trips) (c0_i32_523 : BitVec 32) : Fin 4 → Nat :=
  let c6_524 : Index := 6#32
  let c2_525 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v693 : BitVec 32 := Scalar.addi v525 c0_i32_523
  let v694 : Index := Scalar.indexCast v693
  let c0_526 : Index := 0#32
  ![6, 2, v694.toNat, 0]
def k0_off67 (k0_t9 : Fin k0_t9_loop.trips) (c0_i32_531 : BitVec 32) : Fin 4 → Nat :=
  let c7_532 : Index := 7#32
  let c2_533 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v734 : BitVec 32 := Scalar.addi v525 c0_i32_531
  let v735 : Index := Scalar.indexCast v734
  let c0_534 : Index := 0#32
  ![7, 2, v735.toNat, 0]
def k0_off68 (k0_t9 : Fin k0_t9_loop.trips) (c8_i32_539 : BitVec 32) : Fin 4 → Nat :=
  let c0_540 : Index := 0#32
  let c2_541 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v775 : BitVec 32 := Scalar.addi v525 c8_i32_539
  let v776 : Index := Scalar.indexCast v775
  let c0_542 : Index := 0#32
  ![0, 2, v776.toNat, 0]
def k0_off69 (k0_t9 : Fin k0_t9_loop.trips) (c8_i32_547 : BitVec 32) : Fin 4 → Nat :=
  let c1_548 : Index := 1#32
  let c2_549 : Index := 2#32
  let c0_i32_475 : BitVec 32 := 0#32
  let c1_i32_477 : BitVec 32 := 1#32
  let arg30 : BitVec 32 := Scf.iv c0_i32_475 c1_i32_477 k0_t9
  let c128_i32 : BitVec 32 := 128#32
  let v524 : BitVec 32 := Scalar.muli arg30 c128_i32
  let v525 : BitVec 32 := v524
  let v816 : BitVec 32 := Scalar.addi v525 c8_i32_547
  let v817 : Index := Scalar.indexCast v816
  let c0_550 : Index := 0#32
  ![1, 2, v817.toNat, 0]
@[reducible] def k0_t10_loop : Scf.Loop 32 :=
  let c0_i32_479 : BitVec 32 := 0#32
  let c2_i32_480 : BitVec 32 := 2#32
  let v510 : BitVec 32 := Scalar.addi c0_i32_479 c2_i32_480
  let c1_i32_481 : BitVec 32 := 1#32
  ⟨c0_i32_479, v510, c1_i32_481⟩
def k0_mult11 (k0_t10 : Fin k0_t10_loop.trips) : BitVec 32 :=
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  v524
def k0_off70 (k0_t2 : Fin k0_t2_loop.trips) (k0_t10 : Fin k0_t10_loop.trips) : Fin 2 → Nat :=
  let c0_i32_22 : BitVec 32 := 0#32
  let c1_i32_24 : BitVec 32 := 1#32
  let arg29 : BitVec 32 := Scf.iv c0_i32_22 c1_i32_24 k0_t2
  let c256_i32 : BitVec 32 := 256#32
  let v227 : BitVec 32 := Scalar.muli arg29 c256_i32
  let v228 : BitVec 32 := v227
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v526 : BitVec 32 := Scalar.addi v228 v525
  let v527 : Index := Scalar.indexCast v526
  let c384 : Index := 384#32
  ![v527.toNat, 384]
def k0_off71 (k0_t10 : Fin k0_t10_loop.trips) (c0_i32_491 : BitVec 32) : Fin 4 → Nat :=
  let c2_492 : Index := 2#32
  let c3_493 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v529 : BitVec 32 := Scalar.addi v525 c0_i32_491
  let v530 : Index := Scalar.indexCast v529
  let c0_494 : Index := 0#32
  ![2, 3, v530.toNat, 0]
def k0_off72 (k0_t10 : Fin k0_t10_loop.trips) (c0_i32_499 : BitVec 32) : Fin 4 → Nat :=
  let c3_500 : Index := 3#32
  let c3_501 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v570 : BitVec 32 := Scalar.addi v525 c0_i32_499
  let v571 : Index := Scalar.indexCast v570
  let c0_502 : Index := 0#32
  ![3, 3, v571.toNat, 0]
def k0_off73 (k0_t10 : Fin k0_t10_loop.trips) (c0_i32_507 : BitVec 32) : Fin 4 → Nat :=
  let c4_508 : Index := 4#32
  let c3_509 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v611 : BitVec 32 := Scalar.addi v525 c0_i32_507
  let v612 : Index := Scalar.indexCast v611
  let c0_510 : Index := 0#32
  ![4, 3, v612.toNat, 0]
def k0_off74 (k0_t10 : Fin k0_t10_loop.trips) (c0_i32_515 : BitVec 32) : Fin 4 → Nat :=
  let c5_516 : Index := 5#32
  let c3_517 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v652 : BitVec 32 := Scalar.addi v525 c0_i32_515
  let v653 : Index := Scalar.indexCast v652
  let c0_518 : Index := 0#32
  ![5, 3, v653.toNat, 0]
def k0_off75 (k0_t10 : Fin k0_t10_loop.trips) (c0_i32_523 : BitVec 32) : Fin 4 → Nat :=
  let c6_524 : Index := 6#32
  let c3_525 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v693 : BitVec 32 := Scalar.addi v525 c0_i32_523
  let v694 : Index := Scalar.indexCast v693
  let c0_526 : Index := 0#32
  ![6, 3, v694.toNat, 0]
def k0_off76 (k0_t10 : Fin k0_t10_loop.trips) (c0_i32_531 : BitVec 32) : Fin 4 → Nat :=
  let c7_532 : Index := 7#32
  let c3_533 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v734 : BitVec 32 := Scalar.addi v525 c0_i32_531
  let v735 : Index := Scalar.indexCast v734
  let c0_534 : Index := 0#32
  ![7, 3, v735.toNat, 0]
def k0_off77 (k0_t10 : Fin k0_t10_loop.trips) (c8_i32_539 : BitVec 32) : Fin 4 → Nat :=
  let c0_540 : Index := 0#32
  let c3_541 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v775 : BitVec 32 := Scalar.addi v525 c8_i32_539
  let v776 : Index := Scalar.indexCast v775
  let c0_542 : Index := 0#32
  ![0, 3, v776.toNat, 0]
def k0_off78 (k0_t10 : Fin k0_t10_loop.trips) (c8_i32_547 : BitVec 32) : Fin 4 → Nat :=
  let c1_548 : Index := 1#32
  let c3_549 : Index := 3#32
  let c0_i32_479 : BitVec 32 := 0#32
  let c1_i32_481 : BitVec 32 := 1#32
  let arg30 : BitVec 32 := Scf.iv c0_i32_479 c1_i32_481 k0_t10
  let c128_i32 : BitVec 32 := 128#32
  let v524 : BitVec 32 := Scalar.muli arg30 c128_i32
  let v525 : BitVec 32 := v524
  let v816 : BitVec 32 := Scalar.addi v525 c8_i32_547
  let v817 : Index := Scalar.indexCast v816
  let c0_550 : Index := 0#32
  ![1, 3, v817.toNat, 0]
def k0_cond2 (k0_t2 : Fin k0_t2_loop.trips) : BitVec 1 :=
  let c0_i32_22 : BitVec 32 := 0#32
  let c1_i32_24 : BitVec 32 := 1#32
  let arg29 : BitVec 32 := Scf.iv c0_i32_22 c1_i32_24 k0_t2
  let c2_i32_483 : BitVec 32 := 2#32
  let c0_i32_484 : BitVec 32 := 0#32
  let v511 : BitVec 1 := Scalar.cmpi .eq c2_i32_483 c0_i32_484
  let c1_i32_485 : BitVec 32 := 1#32
  let v512 : BitVec 32 := Scalar.select v511 c1_i32_485 c2_i32_483
  let v513 : BitVec 32 := Scalar.remsi arg29 v512
  let c0_i32_487 : BitVec 32 := 0#32
  let v515 : BitVec 1 := Scalar.cmpi .slt v513 c0_i32_487
  let c0_i32_488 : BitVec 32 := 0#32
  let v516 : BitVec 1 := Scalar.cmpi .slt v512 c0_i32_488
  let v517 : BitVec 1 := Scalar.xori v515 v516
  let c0_i32_486 : BitVec 32 := 0#32
  let v514 : BitVec 1 := Scalar.cmpi .ne v513 c0_i32_486
  let v518 : BitVec 1 := Scalar.andi v517 v514
  let v519 : BitVec 32 := Scalar.addi v513 v512
  let v520 : BitVec 32 := Scalar.select v518 v519 v513
  let c1_i32_489 : BitVec 32 := 1#32
  let v521 : BitVec 1 := Scalar.cmpi .eq v520 c1_i32_489
  let v522 : BitVec 32 := Scalar.extui v521
  let c0_i32_490 : BitVec 32 := 0#32
  let v523 : BitVec 1 := Scalar.cmpi .ne v522 c0_i32_490
  v523

def k0_mult12 (k0_t2 : Fin k0_t2_loop.trips) : BitVec 32 :=
  let c0_i32_22 : BitVec 32 := 0#32
  let c1_i32_24 : BitVec 32 := 1#32
  let arg29 : BitVec 32 := Scf.iv c0_i32_22 c1_i32_24 k0_t2
  let c0_i32_492 : BitVec 32 := 0#32
  let v525 : BitVec 1 := Scalar.cmpi .sgt arg29 c0_i32_492
  let v526 : BitVec 32 := Scalar.extui v525
  let c0_i32_493 : BitVec 32 := 0#32
  let v527 : BitVec 1 := Scalar.cmpi .slt arg29 c0_i32_493
  let v528 : BitVec 32 := Scalar.extui v527
  let v529 : BitVec 32 := Scalar.subi v526 v528
  let c2_i32_491 : BitVec 32 := 2#32
  let c0_i32_494 : BitVec 32 := 0#32
  let v530 : BitVec 1 := Scalar.cmpi .sgt c2_i32_491 c0_i32_494
  let v531 : BitVec 32 := Scalar.extui v530
  let c0_i32_495 : BitVec 32 := 0#32
  let v532 : BitVec 1 := Scalar.cmpi .slt c2_i32_491 c0_i32_495
  let v533 : BitVec 32 := Scalar.extui v532
  let v534 : BitVec 32 := Scalar.subi v531 v533
  let v535 : BitVec 1 := Scalar.cmpi .ne v529 v534
  let v536 : BitVec 32 := Scalar.remsi arg29 c2_i32_491
  let c0_i32_496 : BitVec 32 := 0#32
  let v537 : BitVec 1 := Scalar.cmpi .ne v536 c0_i32_496
  let v538 : BitVec 1 := Scalar.andi v535 v537
  let v524 : BitVec 32 := Scalar.divsi arg29 c2_i32_491
  let c1_i32_497 : BitVec 32 := 1#32
  let v539 : BitVec 32 := Scalar.subi v524 c1_i32_497
  let v540 : BitVec 32 := Scalar.select v538 v539 v524
  let c512_i32_498 : BitVec 32 := 512#32
  let v541 : BitVec 32 := Scalar.muli v540 c512_i32_498
  v541
def k0_off79 (k0_t2 : Fin k0_t2_loop.trips) : Fin 1 → Nat :=
  let c0_i32_22 : BitVec 32 := 0#32
  let c1_i32_24 : BitVec 32 := 1#32
  let arg29 : BitVec 32 := Scf.iv c0_i32_22 c1_i32_24 k0_t2
  let c0_i32_492 : BitVec 32 := 0#32
  let v525 : BitVec 1 := Scalar.cmpi .sgt arg29 c0_i32_492
  let v526 : BitVec 32 := Scalar.extui v525
  let c0_i32_493 : BitVec 32 := 0#32
  let v527 : BitVec 1 := Scalar.cmpi .slt arg29 c0_i32_493
  let v528 : BitVec 32 := Scalar.extui v527
  let v529 : BitVec 32 := Scalar.subi v526 v528
  let c2_i32_491 : BitVec 32 := 2#32
  let c0_i32_494 : BitVec 32 := 0#32
  let v530 : BitVec 1 := Scalar.cmpi .sgt c2_i32_491 c0_i32_494
  let v531 : BitVec 32 := Scalar.extui v530
  let c0_i32_495 : BitVec 32 := 0#32
  let v532 : BitVec 1 := Scalar.cmpi .slt c2_i32_491 c0_i32_495
  let v533 : BitVec 32 := Scalar.extui v532
  let v534 : BitVec 32 := Scalar.subi v531 v533
  let v535 : BitVec 1 := Scalar.cmpi .ne v529 v534
  let v536 : BitVec 32 := Scalar.remsi arg29 c2_i32_491
  let c0_i32_496 : BitVec 32 := 0#32
  let v537 : BitVec 1 := Scalar.cmpi .ne v536 c0_i32_496
  let v538 : BitVec 1 := Scalar.andi v535 v537
  let v524 : BitVec 32 := Scalar.divsi arg29 c2_i32_491
  let c1_i32_497 : BitVec 32 := 1#32
  let v539 : BitVec 32 := Scalar.subi v524 c1_i32_497
  let v540 : BitVec 32 := Scalar.select v538 v539 v524
  ![v540.toNat]
def k0_off80 (k0_t2 : Fin k0_t2_loop.trips) : Fin 2 → Nat :=
  let c0_i32_22 : BitVec 32 := 0#32
  let c1_i32_24 : BitVec 32 := 1#32
  let arg29 : BitVec 32 := Scf.iv c0_i32_22 c1_i32_24 k0_t2
  let c0_i32_492 : BitVec 32 := 0#32
  let v525 : BitVec 1 := Scalar.cmpi .sgt arg29 c0_i32_492
  let v526 : BitVec 32 := Scalar.extui v525
  let c0_i32_493 : BitVec 32 := 0#32
  let v527 : BitVec 1 := Scalar.cmpi .slt arg29 c0_i32_493
  let v528 : BitVec 32 := Scalar.extui v527
  let v529 : BitVec 32 := Scalar.subi v526 v528
  let c2_i32_491 : BitVec 32 := 2#32
  let c0_i32_494 : BitVec 32 := 0#32
  let v530 : BitVec 1 := Scalar.cmpi .sgt c2_i32_491 c0_i32_494
  let v531 : BitVec 32 := Scalar.extui v530
  let c0_i32_495 : BitVec 32 := 0#32
  let v532 : BitVec 1 := Scalar.cmpi .slt c2_i32_491 c0_i32_495
  let v533 : BitVec 32 := Scalar.extui v532
  let v534 : BitVec 32 := Scalar.subi v531 v533
  let v535 : BitVec 1 := Scalar.cmpi .ne v529 v534
  let v536 : BitVec 32 := Scalar.remsi arg29 c2_i32_491
  let c0_i32_496 : BitVec 32 := 0#32
  let v537 : BitVec 1 := Scalar.cmpi .ne v536 c0_i32_496
  let v538 : BitVec 1 := Scalar.andi v535 v537
  let v524 : BitVec 32 := Scalar.divsi arg29 c2_i32_491
  let c1_i32_497 : BitVec 32 := 1#32
  let v539 : BitVec 32 := Scalar.subi v524 c1_i32_497
  let v540 : BitVec 32 := Scalar.select v538 v539 v524
  let c512_i32_498 : BitVec 32 := 512#32
  let v541 : BitVec 32 := Scalar.muli v540 c512_i32_498
  let v542 : BitVec 32 := v541
  let c0_i32_499 : BitVec 32 := 0#32
  ![v542.toNat, 0]
def k0_mult13 (k0_t2 : Fin k0_t2_loop.trips) : BitVec 32 :=
  let c0_i32_22 : BitVec 32 := 0#32
  let c1_i32_24 : BitVec 32 := 1#32
  let arg29 : BitVec 32 := Scf.iv c0_i32_22 c1_i32_24 k0_t2
  let c0_i32_492 : BitVec 32 := 0#32
  let v525 : BitVec 1 := Scalar.cmpi .sgt arg29 c0_i32_492
  let v526 : BitVec 32 := Scalar.extui v525
  let c0_i32_493 : BitVec 32 := 0#32
  let v527 : BitVec 1 := Scalar.cmpi .slt arg29 c0_i32_493
  let v528 : BitVec 32 := Scalar.extui v527
  let v529 : BitVec 32 := Scalar.subi v526 v528
  let c2_i32_491 : BitVec 32 := 2#32
  let c0_i32_494 : BitVec 32 := 0#32
  let v530 : BitVec 1 := Scalar.cmpi .sgt c2_i32_491 c0_i32_494
  let v531 : BitVec 32 := Scalar.extui v530
  let c0_i32_495 : BitVec 32 := 0#32
  let v532 : BitVec 1 := Scalar.cmpi .slt c2_i32_491 c0_i32_495
  let v533 : BitVec 32 := Scalar.extui v532
  let v534 : BitVec 32 := Scalar.subi v531 v533
  let v535 : BitVec 1 := Scalar.cmpi .ne v529 v534
  let v536 : BitVec 32 := Scalar.remsi arg29 c2_i32_491
  let c0_i32_496 : BitVec 32 := 0#32
  let v537 : BitVec 1 := Scalar.cmpi .ne v536 c0_i32_496
  let v538 : BitVec 1 := Scalar.andi v535 v537
  let v524 : BitVec 32 := Scalar.divsi arg29 c2_i32_491
  let c1_i32_497 : BitVec 32 := 1#32
  let v539 : BitVec 32 := Scalar.subi v524 c1_i32_497
  let v540 : BitVec 32 := Scalar.select v538 v539 v524
  let c512_i32_501 : BitVec 32 := 512#32
  let v547 : BitVec 32 := Scalar.muli v540 c512_i32_501
  v547
def k0_mult14 : BitVec 32 :=
  let c0_i32_26 : BitVec 32 := 0#32
  c0_i32_26
def k0_mult15 : BitVec 32 :=
  let c512_i32 : BitVec 32 := 512#32
  c512_i32
def k0_mult16 : BitVec 32 :=
  let c1024_i32 : BitVec 32 := 1024#32
  c1024_i32
def k0_mult17 : BitVec 32 :=
  let c1536_i32 : BitVec 32 := 1536#32
  c1536_i32
def k0_mult18 : BitVec 32 :=
  let c0_i32_39 : BitVec 32 := 0#32
  c0_i32_39
def k0_mult19 : BitVec 32 :=
  let c512_i32_43 : BitVec 32 := 512#32
  c512_i32_43
def k0_mult20 : BitVec 32 :=
  let c1024_i32_47 : BitVec 32 := 1024#32
  c1024_i32_47
def k0_mult21 : BitVec 32 :=
  let c1536_i32_51 : BitVec 32 := 1536#32
  c1536_i32_51
def k0_mult22 : BitVec 32 :=
  let c0_i32_55 : BitVec 32 := 0#32
  c0_i32_55
def k0_mult23 : BitVec 32 :=
  let c512_i32_59 : BitVec 32 := 512#32
  c512_i32_59
def k0_mult24 : BitVec 32 :=
  let c1024_i32_63 : BitVec 32 := 1024#32
  c1024_i32_63
def k0_mult25 : BitVec 32 :=
  let c1536_i32_67 : BitVec 32 := 1536#32
  c1536_i32_67
abbrev stage0_0 : Fin 1 → Memref sig .tc .vmem S4x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S31x512 : Shape := ⟨2, ![31, 512]⟩
abbrev S1x512 : Shape := ⟨2, ![1, 512]⟩
abbrev S_ : Shape := ⟨0, ![]⟩
abbrev S30x512 : Shape := ⟨2, ![30, 512]⟩
abbrev S2078x512 : Shape := ⟨2, ![2078, 512]⟩
abbrev S2048 : Shape := ⟨1, ![2048]⟩
abbrev S2048x1 : Shape := ⟨2, ![2048, 1]⟩
abbrev S512 : Shape := ⟨1, ![512]⟩
abbrev S32x512 : Shape := ⟨2, ![32, 512]⟩
abbrev S16x1024 : Shape := ⟨2, ![16, 1024]⟩
abbrev S5x512 : Shape := ⟨2, ![5, 512]⟩
abbrev S8x512 : Shape := ⟨2, ![8, 512]⟩

abbrev nBuf : Space → Nat
  | .hbm => 682
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S31x512, .f32⟩
  | 4 => ⟨S1x512, .f32⟩
  | 5 => ⟨S1x512, .f32⟩
  | 6 => ⟨S1x512, .f32⟩
  | 7 => ⟨S2048x512, .bf16⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S2048x512, .f32⟩
  | 20 => ⟨S2048x512, .f32⟩
  | 21 => ⟨S_, .f32⟩
  | 22 => ⟨S30x512, .f32⟩
  | 23 => ⟨S2078x512, .f32⟩
  | 24 => ⟨S_, .f32⟩
  | 25 => ⟨S30x512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S1x512, .f32⟩
  | 32 => ⟨S2048x512, .f32⟩
  | 33 => ⟨S2048x512, .f32⟩
  | 34 => ⟨S2048x512, .f32⟩
  | 35 => ⟨S2048x512, .f32⟩
  | 36 => ⟨S1x512, .f32⟩
  | 37 => ⟨S2048x512, .f32⟩
  | 38 => ⟨S2048x512, .f32⟩
  | 39 => ⟨S2048x512, .f32⟩
  | 40 => ⟨S2048x512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S2048x512, .f32⟩
  | 48 => ⟨S2048x512, .f32⟩
  | 49 => ⟨S2048x512, .f32⟩
  | 50 => ⟨S2048x512, .f32⟩
  | 51 => ⟨S1x512, .f32⟩
  | 52 => ⟨S2048x512, .f32⟩
  | 53 => ⟨S2048x512, .f32⟩
  | 54 => ⟨S2048x512, .f32⟩
  | 55 => ⟨S2048x512, .f32⟩
  | 56 => ⟨S1x512, .f32⟩
  | 57 => ⟨S2048x512, .f32⟩
  | 58 => ⟨S2048x512, .f32⟩
  | 59 => ⟨S2048x512, .f32⟩
  | 60 => ⟨S2048x512, .f32⟩
  | 61 => ⟨S1x512, .f32⟩
  | 62 => ⟨S2048x512, .f32⟩
  | 63 => ⟨S2048x512, .f32⟩
  | 64 => ⟨S2048x512, .f32⟩
  | 65 => ⟨S2048x512, .f32⟩
  | 66 => ⟨S1x512, .f32⟩
  | 67 => ⟨S2048x512, .f32⟩
  | 68 => ⟨S2048x512, .f32⟩
  | 69 => ⟨S2048x512, .f32⟩
  | 70 => ⟨S2048x512, .f32⟩
  | 71 => ⟨S1x512, .f32⟩
  | 72 => ⟨S2048x512, .f32⟩
  | 73 => ⟨S2048x512, .f32⟩
  | 74 => ⟨S2048x512, .f32⟩
  | 75 => ⟨S2048x512, .f32⟩
  | 76 => ⟨S1x512, .f32⟩
  | 77 => ⟨S2048x512, .f32⟩
  | 78 => ⟨S2048x512, .f32⟩
  | 79 => ⟨S2048x512, .f32⟩
  | 80 => ⟨S2048x512, .f32⟩
  | 81 => ⟨S1x512, .f32⟩
  | 82 => ⟨S2048x512, .f32⟩
  | 83 => ⟨S2048x512, .f32⟩
  | 84 => ⟨S2048x512, .f32⟩
  | 85 => ⟨S2048x512, .f32⟩
  | 86 => ⟨S1x512, .f32⟩
  | 87 => ⟨S2048x512, .f32⟩
  | 88 => ⟨S2048x512, .f32⟩
  | 89 => ⟨S2048x512, .f32⟩
  | 90 => ⟨S2048x512, .f32⟩
  | 91 => ⟨S1x512, .f32⟩
  | 92 => ⟨S2048x512, .f32⟩
  | 93 => ⟨S2048x512, .f32⟩
  | 94 => ⟨S2048x512, .f32⟩
  | 95 => ⟨S2048x512, .f32⟩
  | 96 => ⟨S1x512, .f32⟩
  | 97 => ⟨S2048x512, .f32⟩
  | 98 => ⟨S2048x512, .f32⟩
  | 99 => ⟨S2048x512, .f32⟩
  | 100 => ⟨S2048x512, .f32⟩
  | 101 => ⟨S1x512, .f32⟩
  | 102 => ⟨S2048x512, .f32⟩
  | 103 => ⟨S2048x512, .f32⟩
  | 104 => ⟨S2048x512, .f32⟩
  | 105 => ⟨S2048x512, .f32⟩
  | 106 => ⟨S1x512, .f32⟩
  | 107 => ⟨S2048x512, .f32⟩
  | 108 => ⟨S2048x512, .f32⟩
  | 109 => ⟨S2048x512, .f32⟩
  | 110 => ⟨S2048x512, .f32⟩
  | 111 => ⟨S1x512, .f32⟩
  | 112 => ⟨S2048x512, .f32⟩
  | 113 => ⟨S2048x512, .f32⟩
  | 114 => ⟨S2048x512, .f32⟩
  | 115 => ⟨S2048x512, .f32⟩
  | 116 => ⟨S1x512, .f32⟩
  | 117 => ⟨S2048x512, .f32⟩
  | 118 => ⟨S2048x512, .f32⟩
  | 119 => ⟨S2048x512, .f32⟩
  | 120 => ⟨S2048x512, .f32⟩
  | 121 => ⟨S1x512, .f32⟩
  | 122 => ⟨S2048x512, .f32⟩
  | 123 => ⟨S2048x512, .f32⟩
  | 124 => ⟨S2048x512, .f32⟩
  | 125 => ⟨S2048x512, .f32⟩
  | 126 => ⟨S1x512, .f32⟩
  | 127 => ⟨S2048x512, .f32⟩
  | _ => ⟨S2048x512, .f32⟩

abbrev hbmTy0_1 (i : Nat) : BufTy := match i % 128 with
  | 0 => ⟨S2048x512, .f32⟩
  | 1 => ⟨S2048x512, .f32⟩
  | 2 => ⟨S2048x512, .f32⟩
  | 3 => ⟨S1x512, .f32⟩
  | 4 => ⟨S2048x512, .f32⟩
  | 5 => ⟨S2048x512, .f32⟩
  | 6 => ⟨S2048x512, .f32⟩
  | 7 => ⟨S2048x512, .f32⟩
  | 8 => ⟨S1x512, .f32⟩
  | 9 => ⟨S2048x512, .f32⟩
  | 10 => ⟨S2048x512, .f32⟩
  | 11 => ⟨S2048x512, .f32⟩
  | 12 => ⟨S2048x512, .f32⟩
  | 13 => ⟨S1x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S2048x512, .f32⟩
  | 20 => ⟨S2048x512, .f32⟩
  | 21 => ⟨S2048x512, .f32⟩
  | 22 => ⟨S2048x512, .f32⟩
  | 23 => ⟨S1x512, .f32⟩
  | 24 => ⟨S2048x512, .f32⟩
  | 25 => ⟨S2048x512, .f32⟩
  | 26 => ⟨S2048x512, .f32⟩
  | 27 => ⟨S2048x512, .f32⟩
  | 28 => ⟨S1x512, .f32⟩
  | 29 => ⟨S2048x512, .f32⟩
  | 30 => ⟨S2048x512, .f32⟩
  | 31 => ⟨S2048x512, .f32⟩
  | 32 => ⟨S2048x512, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S1x512, .f32⟩
  | 49 => ⟨S2048x512, .f32⟩
  | 50 => ⟨S2048x512, .f32⟩
  | 51 => ⟨S2048x512, .f32⟩
  | 52 => ⟨S2048x512, .f32⟩
  | 53 => ⟨S2048x512, .f32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S2048x512, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S2048x512, .f32⟩
  | 73 => ⟨S2048x512, .f32⟩
  | 74 => ⟨S_, .f32⟩
  | 75 => ⟨S2048x1, .f32⟩
  | 76 => ⟨S2048x1, .f32⟩
  | 77 => ⟨S2048x1, .f32⟩
  | 78 => ⟨S2048x1, .f32⟩
  | 79 => ⟨S_, .f32⟩
  | 80 => ⟨S2048x1, .f32⟩
  | 81 => ⟨S2048x1, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S2048x512, .f32⟩
  | 88 => ⟨S2048x512, .f32⟩
  | 89 => ⟨S2048x512, .f32⟩
  | 90 => ⟨S_, .f32⟩
  | 91 => ⟨S2048x512, .f32⟩
  | 92 => ⟨S2048x512, .f32⟩
  | 93 => ⟨S_, .f32⟩
  | 94 => ⟨S2048x512, .f32⟩
  | 95 => ⟨S2048x512, .f32⟩
  | 96 => ⟨S_, .f32⟩
  | 97 => ⟨S2048x512, .f32⟩
  | 98 => ⟨S2048x512, .f32⟩
  | 99 => ⟨S2048x512, .f32⟩
  | 100 => ⟨S2048x512, .f32⟩
  | 101 => ⟨S2048x512, .f32⟩
  | 102 => ⟨S2048x512, .f32⟩
  | 103 => ⟨S_, .f32⟩
  | 104 => ⟨S2048x512, .f32⟩
  | 105 => ⟨S2048x512, .f32⟩
  | 106 => ⟨S_, .f32⟩
  | 107 => ⟨S2048x512, .f32⟩
  | 108 => ⟨S2048x512, .f32⟩
  | 109 => ⟨S_, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | 118 => ⟨S2048x512, .f32⟩
  | 119 => ⟨S2048x512, .f32⟩
  | 120 => ⟨S2048x512, .f32⟩
  | 121 => ⟨S2048x512, .f32⟩
  | 122 => ⟨S2048x512, .f32⟩
  | 123 => ⟨S2048x512, .f32⟩
  | 124 => ⟨S2048x512, .f32⟩
  | 125 => ⟨S2048x512, .f32⟩
  | 126 => ⟨S_, .f32⟩
  | 127 => ⟨S512, .f32⟩
  | _ => ⟨S2048x512, .f32⟩

abbrev hbmTy0_2 (i : Nat) : BufTy := match i % 128 with
  | 0 => ⟨S1x512, .f32⟩
  | 1 => ⟨S2048x512, .f32⟩
  | 2 => ⟨S_, .f32⟩
  | 3 => ⟨S512, .f32⟩
  | 4 => ⟨S1x512, .f32⟩
  | 5 => ⟨S2048x512, .f32⟩
  | 6 => ⟨S2048x512, .f32⟩
  | 7 => ⟨S2048x512, .f32⟩
  | 8 => ⟨S_, .f32⟩
  | 9 => ⟨S2048, .f32⟩
  | 10 => ⟨S2048x1, .f32⟩
  | 11 => ⟨S2048x512, .f32⟩
  | 12 => ⟨S2048x512, .f32⟩
  | 13 => ⟨S2048x1, .f32⟩
  | 14 => ⟨S2048x512, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S_, .f32⟩
  | 22 => ⟨S2048, .f32⟩
  | 23 => ⟨S2048x512, .f32⟩
  | 24 => ⟨S2048x512, .f32⟩
  | 25 => ⟨S2048x512, .f32⟩
  | 26 => ⟨S_, .f32⟩
  | 27 => ⟨S2048, .f32⟩
  | 28 => ⟨S2048x1, .f32⟩
  | 29 => ⟨S2048x512, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048, .f32⟩
  | 36 => ⟨S2048x512, .f32⟩
  | 37 => ⟨S2048x512, .f32⟩
  | 38 => ⟨S_, .f32⟩
  | 39 => ⟨S512, .f32⟩
  | 40 => ⟨S1x512, .f32⟩
  | 41 => ⟨S2048x512, .f32⟩
  | 42 => ⟨S_, .f32⟩
  | 43 => ⟨S512, .f32⟩
  | 44 => ⟨S1x512, .f32⟩
  | 45 => ⟨S2048x512, .f32⟩
  | 46 => ⟨S2048x512, .f32⟩
  | 47 => ⟨S_, .f32⟩
  | 48 => ⟨S31x512, .f32⟩
  | 49 => ⟨S_, .f32⟩
  | 50 => ⟨S2078x512, .f32⟩
  | 51 => ⟨S2048x512, .f32⟩
  | 52 => ⟨S_, .f32⟩
  | 53 => ⟨S512, .f32⟩
  | 54 => ⟨S1x512, .f32⟩
  | 55 => ⟨S2048x512, .f32⟩
  | 56 => ⟨S2048x512, .f32⟩
  | 57 => ⟨S_, .f32⟩
  | 58 => ⟨S31x512, .f32⟩
  | 59 => ⟨S31x512, .f32⟩
  | 60 => ⟨S_, .f32⟩
  | 61 => ⟨S2078x512, .f32⟩
  | 62 => ⟨S2078x512, .f32⟩
  | 63 => ⟨S2048x512, .f32⟩
  | 64 => ⟨S_, .f32⟩
  | 65 => ⟨S512, .f32⟩
  | 66 => ⟨S1x512, .f32⟩
  | 67 => ⟨S2048x512, .f32⟩
  | 68 => ⟨S2048x512, .f32⟩
  | 69 => ⟨S_, .f32⟩
  | 70 => ⟨S31x512, .f32⟩
  | 71 => ⟨S31x512, .f32⟩
  | 72 => ⟨S_, .f32⟩
  | 73 => ⟨S2078x512, .f32⟩
  | 74 => ⟨S2078x512, .f32⟩
  | 75 => ⟨S2048x512, .f32⟩
  | 76 => ⟨S_, .f32⟩
  | 77 => ⟨S512, .f32⟩
  | 78 => ⟨S1x512, .f32⟩
  | 79 => ⟨S2048x512, .f32⟩
  | 80 => ⟨S2048x512, .f32⟩
  | 81 => ⟨S_, .f32⟩
  | 82 => ⟨S31x512, .f32⟩
  | 83 => ⟨S31x512, .f32⟩
  | 84 => ⟨S_, .f32⟩
  | 85 => ⟨S2078x512, .f32⟩
  | 86 => ⟨S2078x512, .f32⟩
  | 87 => ⟨S2048x512, .f32⟩
  | 88 => ⟨S_, .f32⟩
  | 89 => ⟨S512, .f32⟩
  | 90 => ⟨S1x512, .f32⟩
  | 91 => ⟨S2048x512, .f32⟩
  | 92 => ⟨S2048x512, .f32⟩
  | 93 => ⟨S_, .f32⟩
  | 94 => ⟨S31x512, .f32⟩
  | 95 => ⟨S31x512, .f32⟩
  | 96 => ⟨S_, .f32⟩
  | 97 => ⟨S2078x512, .f32⟩
  | 98 => ⟨S2078x512, .f32⟩
  | 99 => ⟨S2048x512, .f32⟩
  | 100 => ⟨S_, .f32⟩
  | 101 => ⟨S512, .f32⟩
  | 102 => ⟨S1x512, .f32⟩
  | 103 => ⟨S2048x512, .f32⟩
  | 104 => ⟨S2048x512, .f32⟩
  | 105 => ⟨S_, .f32⟩
  | 106 => ⟨S31x512, .f32⟩
  | 107 => ⟨S31x512, .f32⟩
  | 108 => ⟨S_, .f32⟩
  | 109 => ⟨S2078x512, .f32⟩
  | 110 => ⟨S2078x512, .f32⟩
  | 111 => ⟨S2048x512, .f32⟩
  | 112 => ⟨S_, .f32⟩
  | 113 => ⟨S512, .f32⟩
  | 114 => ⟨S1x512, .f32⟩
  | 115 => ⟨S2048x512, .f32⟩
  | 116 => ⟨S2048x512, .f32⟩
  | 117 => ⟨S_, .f32⟩
  | 118 => ⟨S31x512, .f32⟩
  | 119 => ⟨S31x512, .f32⟩
  | 120 => ⟨S_, .f32⟩
  | 121 => ⟨S2078x512, .f32⟩
  | 122 => ⟨S2078x512, .f32⟩
  | 123 => ⟨S2048x512, .f32⟩
  | 124 => ⟨S_, .f32⟩
  | 125 => ⟨S512, .f32⟩
  | 126 => ⟨S1x512, .f32⟩
  | 127 => ⟨S2048x512, .f32⟩
  | _ => ⟨S2048x512, .f32⟩

abbrev hbmTy0_3 (i : Nat) : BufTy := match i % 128 with
  | 0 => ⟨S2048x512, .f32⟩
  | 1 => ⟨S_, .f32⟩
  | 2 => ⟨S31x512, .f32⟩
  | 3 => ⟨S31x512, .f32⟩
  | 4 => ⟨S_, .f32⟩
  | 5 => ⟨S2078x512, .f32⟩
  | 6 => ⟨S2078x512, .f32⟩
  | 7 => ⟨S2048x512, .f32⟩
  | 8 => ⟨S_, .f32⟩
  | 9 => ⟨S512, .f32⟩
  | 10 => ⟨S1x512, .f32⟩
  | 11 => ⟨S2048x512, .f32⟩
  | 12 => ⟨S2048x512, .f32⟩
  | 13 => ⟨S_, .f32⟩
  | 14 => ⟨S31x512, .f32⟩
  | 15 => ⟨S31x512, .f32⟩
  | 16 => ⟨S_, .f32⟩
  | 17 => ⟨S2078x512, .f32⟩
  | 18 => ⟨S2078x512, .f32⟩
  | 19 => ⟨S2048x512, .f32⟩
  | 20 => ⟨S_, .f32⟩
  | 21 => ⟨S512, .f32⟩
  | 22 => ⟨S1x512, .f32⟩
  | 23 => ⟨S2048x512, .f32⟩
  | 24 => ⟨S2048x512, .f32⟩
  | 25 => ⟨S_, .f32⟩
  | 26 => ⟨S31x512, .f32⟩
  | 27 => ⟨S31x512, .f32⟩
  | 28 => ⟨S_, .f32⟩
  | 29 => ⟨S2078x512, .f32⟩
  | 30 => ⟨S2078x512, .f32⟩
  | 31 => ⟨S2048x512, .f32⟩
  | 32 => ⟨S_, .f32⟩
  | 33 => ⟨S512, .f32⟩
  | 34 => ⟨S1x512, .f32⟩
  | 35 => ⟨S2048x512, .f32⟩
  | 36 => ⟨S2048x512, .f32⟩
  | 37 => ⟨S_, .f32⟩
  | 38 => ⟨S31x512, .f32⟩
  | 39 => ⟨S31x512, .f32⟩
  | 40 => ⟨S_, .f32⟩
  | 41 => ⟨S2078x512, .f32⟩
  | 42 => ⟨S2078x512, .f32⟩
  | 43 => ⟨S2048x512, .f32⟩
  | 44 => ⟨S_, .f32⟩
  | 45 => ⟨S512, .f32⟩
  | 46 => ⟨S1x512, .f32⟩
  | 47 => ⟨S2048x512, .f32⟩
  | 48 => ⟨S2048x512, .f32⟩
  | 49 => ⟨S_, .f32⟩
  | 50 => ⟨S31x512, .f32⟩
  | 51 => ⟨S31x512, .f32⟩
  | 52 => ⟨S_, .f32⟩
  | 53 => ⟨S2078x512, .f32⟩
  | 54 => ⟨S2078x512, .f32⟩
  | 55 => ⟨S2048x512, .f32⟩
  | 56 => ⟨S_, .f32⟩
  | 57 => ⟨S512, .f32⟩
  | 58 => ⟨S1x512, .f32⟩
  | 59 => ⟨S2048x512, .f32⟩
  | 60 => ⟨S2048x512, .f32⟩
  | 61 => ⟨S_, .f32⟩
  | 62 => ⟨S31x512, .f32⟩
  | 63 => ⟨S31x512, .f32⟩
  | 64 => ⟨S_, .f32⟩
  | 65 => ⟨S2078x512, .f32⟩
  | 66 => ⟨S2078x512, .f32⟩
  | 67 => ⟨S2048x512, .f32⟩
  | 68 => ⟨S_, .f32⟩
  | 69 => ⟨S512, .f32⟩
  | 70 => ⟨S1x512, .f32⟩
  | 71 => ⟨S2048x512, .f32⟩
  | 72 => ⟨S2048x512, .f32⟩
  | 73 => ⟨S_, .f32⟩
  | 74 => ⟨S31x512, .f32⟩
  | 75 => ⟨S31x512, .f32⟩
  | 76 => ⟨S_, .f32⟩
  | 77 => ⟨S2078x512, .f32⟩
  | 78 => ⟨S2078x512, .f32⟩
  | 79 => ⟨S2048x512, .f32⟩
  | 80 => ⟨S_, .f32⟩
  | 81 => ⟨S512, .f32⟩
  | 82 => ⟨S1x512, .f32⟩
  | 83 => ⟨S2048x512, .f32⟩
  | 84 => ⟨S2048x512, .f32⟩
  | 85 => ⟨S_, .f32⟩
  | 86 => ⟨S31x512, .f32⟩
  | 87 => ⟨S31x512, .f32⟩
  | 88 => ⟨S_, .f32⟩
  | 89 => ⟨S2078x512, .f32⟩
  | 90 => ⟨S2078x512, .f32⟩
  | 91 => ⟨S2048x512, .f32⟩
  | 92 => ⟨S_, .f32⟩
  | 93 => ⟨S512, .f32⟩
  | 94 => ⟨S1x512, .f32⟩
  | 95 => ⟨S2048x512, .f32⟩
  | 96 => ⟨S2048x512, .f32⟩
  | 97 => ⟨S_, .f32⟩
  | 98 => ⟨S31x512, .f32⟩
  | 99 => ⟨S31x512, .f32⟩
  | 100 => ⟨S_, .f32⟩
  | 101 => ⟨S2078x512, .f32⟩
  | 102 => ⟨S2078x512, .f32⟩
  | 103 => ⟨S2048x512, .f32⟩
  | 104 => ⟨S_, .f32⟩
  | 105 => ⟨S512, .f32⟩
  | 106 => ⟨S1x512, .f32⟩
  | 107 => ⟨S2048x512, .f32⟩
  | 108 => ⟨S2048x512, .f32⟩
  | 109 => ⟨S_, .f32⟩
  | 110 => ⟨S31x512, .f32⟩
  | 111 => ⟨S31x512, .f32⟩
  | 112 => ⟨S_, .f32⟩
  | 113 => ⟨S2078x512, .f32⟩
  | 114 => ⟨S2078x512, .f32⟩
  | 115 => ⟨S2048x512, .f32⟩
  | 116 => ⟨S_, .f32⟩
  | 117 => ⟨S512, .f32⟩
  | 118 => ⟨S1x512, .f32⟩
  | 119 => ⟨S2048x512, .f32⟩
  | 120 => ⟨S2048x512, .f32⟩
  | 121 => ⟨S_, .f32⟩
  | 122 => ⟨S31x512, .f32⟩
  | 123 => ⟨S31x512, .f32⟩
  | 124 => ⟨S_, .f32⟩
  | 125 => ⟨S2078x512, .f32⟩
  | 126 => ⟨S2078x512, .f32⟩
  | 127 => ⟨S2048x512, .f32⟩
  | _ => ⟨S2048x512, .f32⟩

abbrev hbmTy0_4 (i : Nat) : BufTy := match i % 128 with
  | 0 => ⟨S_, .f32⟩
  | 1 => ⟨S512, .f32⟩
  | 2 => ⟨S1x512, .f32⟩
  | 3 => ⟨S2048x512, .f32⟩
  | 4 => ⟨S2048x512, .f32⟩
  | 5 => ⟨S_, .f32⟩
  | 6 => ⟨S31x512, .f32⟩
  | 7 => ⟨S31x512, .f32⟩
  | 8 => ⟨S_, .f32⟩
  | 9 => ⟨S2078x512, .f32⟩
  | 10 => ⟨S2078x512, .f32⟩
  | 11 => ⟨S2048x512, .f32⟩
  | 12 => ⟨S_, .f32⟩
  | 13 => ⟨S512, .f32⟩
  | 14 => ⟨S1x512, .f32⟩
  | 15 => ⟨S2048x512, .f32⟩
  | 16 => ⟨S2048x512, .f32⟩
  | 17 => ⟨S_, .f32⟩
  | 18 => ⟨S31x512, .f32⟩
  | 19 => ⟨S31x512, .f32⟩
  | 20 => ⟨S_, .f32⟩
  | 21 => ⟨S2078x512, .f32⟩
  | 22 => ⟨S2078x512, .f32⟩
  | 23 => ⟨S2048x512, .f32⟩
  | 24 => ⟨S_, .f32⟩
  | 25 => ⟨S512, .f32⟩
  | 26 => ⟨S1x512, .f32⟩
  | 27 => ⟨S2048x512, .f32⟩
  | 28 => ⟨S2048x512, .f32⟩
  | 29 => ⟨S_, .f32⟩
  | 30 => ⟨S31x512, .f32⟩
  | 31 => ⟨S31x512, .f32⟩
  | 32 => ⟨S_, .f32⟩
  | 33 => ⟨S2078x512, .f32⟩
  | 34 => ⟨S2078x512, .f32⟩
  | 35 => ⟨S2048x512, .f32⟩
  | 36 => ⟨S_, .f32⟩
  | 37 => ⟨S512, .f32⟩
  | 38 => ⟨S1x512, .f32⟩
  | 39 => ⟨S2048x512, .f32⟩
  | 40 => ⟨S2048x512, .f32⟩
  | 41 => ⟨S_, .f32⟩
  | 42 => ⟨S31x512, .f32⟩
  | 43 => ⟨S31x512, .f32⟩
  | 44 => ⟨S_, .f32⟩
  | 45 => ⟨S2078x512, .f32⟩
  | 46 => ⟨S2078x512, .f32⟩
  | 47 => ⟨S2048x512, .f32⟩
  | 48 => ⟨S_, .f32⟩
  | 49 => ⟨S512, .f32⟩
  | 50 => ⟨S1x512, .f32⟩
  | 51 => ⟨S2048x512, .f32⟩
  | 52 => ⟨S2048x512, .f32⟩
  | 53 => ⟨S_, .f32⟩
  | 54 => ⟨S31x512, .f32⟩
  | 55 => ⟨S31x512, .f32⟩
  | 56 => ⟨S_, .f32⟩
  | 57 => ⟨S2078x512, .f32⟩
  | 58 => ⟨S2078x512, .f32⟩
  | 59 => ⟨S2048x512, .f32⟩
  | 60 => ⟨S_, .f32⟩
  | 61 => ⟨S512, .f32⟩
  | 62 => ⟨S1x512, .f32⟩
  | 63 => ⟨S2048x512, .f32⟩
  | 64 => ⟨S2048x512, .f32⟩
  | 65 => ⟨S_, .f32⟩
  | 66 => ⟨S31x512, .f32⟩
  | 67 => ⟨S31x512, .f32⟩
  | 68 => ⟨S_, .f32⟩
  | 69 => ⟨S2078x512, .f32⟩
  | 70 => ⟨S2078x512, .f32⟩
  | 71 => ⟨S2048x512, .f32⟩
  | 72 => ⟨S_, .f32⟩
  | 73 => ⟨S512, .f32⟩
  | 74 => ⟨S1x512, .f32⟩
  | 75 => ⟨S2048x512, .f32⟩
  | 76 => ⟨S2048x512, .f32⟩
  | 77 => ⟨S_, .f32⟩
  | 78 => ⟨S31x512, .f32⟩
  | 79 => ⟨S31x512, .f32⟩
  | 80 => ⟨S_, .f32⟩
  | 81 => ⟨S2078x512, .f32⟩
  | 82 => ⟨S2078x512, .f32⟩
  | 83 => ⟨S2048x512, .f32⟩
  | 84 => ⟨S_, .f32⟩
  | 85 => ⟨S512, .f32⟩
  | 86 => ⟨S1x512, .f32⟩
  | 87 => ⟨S2048x512, .f32⟩
  | 88 => ⟨S2048x512, .f32⟩
  | 89 => ⟨S_, .f32⟩
  | 90 => ⟨S31x512, .f32⟩
  | 91 => ⟨S31x512, .f32⟩
  | 92 => ⟨S_, .f32⟩
  | 93 => ⟨S2078x512, .f32⟩
  | 94 => ⟨S2078x512, .f32⟩
  | 95 => ⟨S2048x512, .f32⟩
  | 96 => ⟨S_, .f32⟩
  | 97 => ⟨S512, .f32⟩
  | 98 => ⟨S1x512, .f32⟩
  | 99 => ⟨S2048x512, .f32⟩
  | 100 => ⟨S2048x512, .f32⟩
  | 101 => ⟨S_, .f32⟩
  | 102 => ⟨S31x512, .f32⟩
  | 103 => ⟨S31x512, .f32⟩
  | 104 => ⟨S_, .f32⟩
  | 105 => ⟨S2078x512, .f32⟩
  | 106 => ⟨S2078x512, .f32⟩
  | 107 => ⟨S2048x512, .f32⟩
  | 108 => ⟨S_, .f32⟩
  | 109 => ⟨S512, .f32⟩
  | 110 => ⟨S1x512, .f32⟩
  | 111 => ⟨S2048x512, .f32⟩
  | 112 => ⟨S2048x512, .f32⟩
  | 113 => ⟨S_, .f32⟩
  | 114 => ⟨S31x512, .f32⟩
  | 115 => ⟨S31x512, .f32⟩
  | 116 => ⟨S_, .f32⟩
  | 117 => ⟨S2078x512, .f32⟩
  | 118 => ⟨S2078x512, .f32⟩
  | 119 => ⟨S2048x512, .f32⟩
  | 120 => ⟨S_, .f32⟩
  | 121 => ⟨S512, .f32⟩
  | 122 => ⟨S1x512, .f32⟩
  | 123 => ⟨S2048x512, .f32⟩
  | 124 => ⟨S2048x512, .f32⟩
  | 125 => ⟨S_, .f32⟩
  | 126 => ⟨S31x512, .f32⟩
  | 127 => ⟨S31x512, .f32⟩
  | _ => ⟨S2048x512, .f32⟩

abbrev hbmTy0_5 (i : Nat) : BufTy := match i % 128 with
  | 0 => ⟨S_, .f32⟩
  | 1 => ⟨S2078x512, .f32⟩
  | 2 => ⟨S2078x512, .f32⟩
  | 3 => ⟨S2048x512, .f32⟩
  | 4 => ⟨S_, .f32⟩
  | 5 => ⟨S512, .f32⟩
  | 6 => ⟨S1x512, .f32⟩
  | 7 => ⟨S2048x512, .f32⟩
  | 8 => ⟨S2048x512, .f32⟩
  | 9 => ⟨S_, .f32⟩
  | 10 => ⟨S31x512, .f32⟩
  | 11 => ⟨S31x512, .f32⟩
  | 12 => ⟨S_, .f32⟩
  | 13 => ⟨S2078x512, .f32⟩
  | 14 => ⟨S2078x512, .f32⟩
  | 15 => ⟨S2048x512, .f32⟩
  | 16 => ⟨S_, .f32⟩
  | 17 => ⟨S512, .f32⟩
  | 18 => ⟨S1x512, .f32⟩
  | 19 => ⟨S2048x512, .f32⟩
  | 20 => ⟨S2048x512, .f32⟩
  | 21 => ⟨S_, .f32⟩
  | 22 => ⟨S31x512, .f32⟩
  | 23 => ⟨S31x512, .f32⟩
  | 24 => ⟨S_, .f32⟩
  | 25 => ⟨S2078x512, .f32⟩
  | 26 => ⟨S2078x512, .f32⟩
  | 27 => ⟨S30x512, .f32⟩
  | 28 => ⟨S2048x512, .f32⟩
  | 29 => ⟨S2048x512, .f32⟩
  | 30 => ⟨S2048x512, .f32⟩
  | 31 => ⟨S2048x512, .f32⟩
  | 32 => ⟨S_, .i32⟩
  | 33 => ⟨S_, .f32⟩
  | 34 => ⟨S32x512, .f32⟩
  | 35 => ⟨S16x1024, .f32⟩
  | 36 => ⟨S_, .f32⟩
  | 37 => ⟨S5x512, .f32⟩
  | 38 => ⟨S8x512, .f32⟩
  | 39 => ⟨S2048x512, .bf16⟩
  | 40 => ⟨S2048x512, .bf16⟩
  | 41 => ⟨S2048x512, .bf16⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_cst_4 : Ref sig .tc := ⟨.hbm, 182, rfl⟩
abbrev main_v169 : Ref sig .tc := ⟨.hbm, 183, rfl⟩
abbrev main_v170 : Ref sig .tc := ⟨.hbm, 184, rfl⟩
abbrev main_cst_5 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_cst_6 : Ref sig .tc := ⟨.hbm, 191, rfl⟩
abbrev main_v176 : Ref sig .tc := ⟨.hbm, 192, rfl⟩
abbrev main_v177 : Ref sig .tc := ⟨.hbm, 193, rfl⟩
abbrev main_cst_7 : Ref sig .tc := ⟨.hbm, 194, rfl⟩
abbrev main_v178 : Ref sig .tc := ⟨.hbm, 195, rfl⟩
abbrev main_v179 : Ref sig .tc := ⟨.hbm, 196, rfl⟩
abbrev main_cst_8 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_cst_9 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_cst_10 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_call0_v0 : Ref sig .tc := ⟨.hbm, 216, rfl⟩
abbrev main_call0_v1 : Ref sig .tc := ⟨.hbm, 217, rfl⟩
abbrev main_call0_cst : Ref sig .tc := ⟨.hbm, 218, rfl⟩
abbrev main_call0_v2 : Ref sig .tc := ⟨.hbm, 219, rfl⟩
abbrev main_call0_v3 : Ref sig .tc := ⟨.hbm, 220, rfl⟩
abbrev main_call0_cst_0 : Ref sig .tc := ⟨.hbm, 221, rfl⟩
abbrev main_call0_v4 : Ref sig .tc := ⟨.hbm, 222, rfl⟩
abbrev main_v196_2 : Ref sig .tc := ⟨.hbm, 223, rfl⟩
abbrev main_call0_cst_1 : Ref sig .tc := ⟨.hbm, 224, rfl⟩
abbrev main_call0_v6 : Ref sig .tc := ⟨.hbm, 225, rfl⟩
abbrev main_call0_v7 : Ref sig .tc := ⟨.hbm, 226, rfl⟩
abbrev main_v196_1 : Ref sig .tc := ⟨.hbm, 227, rfl⟩
abbrev main_v196_0 : Ref sig .tc := ⟨.hbm, 228, rfl⟩
abbrev main_call1_v0 : Ref sig .tc := ⟨.hbm, 229, rfl⟩
abbrev main_call1_v1 : Ref sig .tc := ⟨.hbm, 230, rfl⟩
abbrev main_call1_cst : Ref sig .tc := ⟨.hbm, 231, rfl⟩
abbrev main_call1_v2 : Ref sig .tc := ⟨.hbm, 232, rfl⟩
abbrev main_call1_v3 : Ref sig .tc := ⟨.hbm, 233, rfl⟩
abbrev main_call1_cst_0 : Ref sig .tc := ⟨.hbm, 234, rfl⟩
abbrev main_call1_v4 : Ref sig .tc := ⟨.hbm, 235, rfl⟩
abbrev main_v197_2 : Ref sig .tc := ⟨.hbm, 236, rfl⟩
abbrev main_call1_cst_1 : Ref sig .tc := ⟨.hbm, 237, rfl⟩
abbrev main_call1_v6 : Ref sig .tc := ⟨.hbm, 238, rfl⟩
abbrev main_call1_v7 : Ref sig .tc := ⟨.hbm, 239, rfl⟩
abbrev main_v197_1 : Ref sig .tc := ⟨.hbm, 240, rfl⟩
abbrev main_v197_0 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_call2_v0 : Ref sig .tc := ⟨.hbm, 246, rfl⟩
abbrev main_call2_v1 : Ref sig .tc := ⟨.hbm, 247, rfl⟩
abbrev main_call2_v2 : Ref sig .tc := ⟨.hbm, 248, rfl⟩
abbrev main_v202 : Ref sig .tc := ⟨.hbm, 249, rfl⟩
abbrev main_call3_v0 : Ref sig .tc := ⟨.hbm, 250, rfl⟩
abbrev main_call3_v1 : Ref sig .tc := ⟨.hbm, 251, rfl⟩
abbrev main_call3_v2 : Ref sig .tc := ⟨.hbm, 252, rfl⟩
abbrev main_v203 : Ref sig .tc := ⟨.hbm, 253, rfl⟩
abbrev main_cst_11 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_cst_12 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_cst_13 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_cst_14 : Ref sig .tc := ⟨.hbm, 271, rfl⟩
abbrev main_v218 : Ref sig .tc := ⟨.hbm, 272, rfl⟩
abbrev main_v219 : Ref sig .tc := ⟨.hbm, 273, rfl⟩
abbrev main_cst_15 : Ref sig .tc := ⟨.hbm, 274, rfl⟩
abbrev main_v220 : Ref sig .tc := ⟨.hbm, 275, rfl⟩
abbrev main_v221 : Ref sig .tc := ⟨.hbm, 276, rfl⟩
abbrev main_cst_16 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_cst_17 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_cst_18 : Ref sig .tc := ⟨.hbm, 287, rfl⟩
abbrev main_v230 : Ref sig .tc := ⟨.hbm, 288, rfl⟩
abbrev main_v231 : Ref sig .tc := ⟨.hbm, 289, rfl⟩
abbrev main_cst_19 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_20 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_cst_21 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_cst_22 : Ref sig .tc := ⟨.hbm, 303, rfl⟩
abbrev main_v242 : Ref sig .tc := ⟨.hbm, 304, rfl⟩
abbrev main_cst_23 : Ref sig .tc := ⟨.hbm, 305, rfl⟩
abbrev main_v243 : Ref sig .tc := ⟨.hbm, 306, rfl⟩
abbrev main_v244 : Ref sig .tc := ⟨.hbm, 307, rfl⟩
abbrev main_cst_24 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_cst_25 : Ref sig .tc := ⟨.hbm, 313, rfl⟩
abbrev main_v249 : Ref sig .tc := ⟨.hbm, 314, rfl⟩
abbrev main_v250 : Ref sig .tc := ⟨.hbm, 315, rfl⟩
abbrev main_cst_26 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_cst_27 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_cst_28 : Ref sig .tc := ⟨.hbm, 325, rfl⟩
abbrev main_v258 : Ref sig .tc := ⟨.hbm, 326, rfl⟩
abbrev main_v259 : Ref sig .tc := ⟨.hbm, 327, rfl⟩
abbrev main_cst_29 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_cst_30 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_cst_31 : Ref sig .tc := ⟨.hbm, 337, rfl⟩
abbrev main_v267 : Ref sig .tc := ⟨.hbm, 338, rfl⟩
abbrev main_v268 : Ref sig .tc := ⟨.hbm, 339, rfl⟩
abbrev main_cst_32 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_cst_33 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_cst_34 : Ref sig .tc := ⟨.hbm, 349, rfl⟩
abbrev main_v276 : Ref sig .tc := ⟨.hbm, 350, rfl⟩
abbrev main_v277 : Ref sig .tc := ⟨.hbm, 351, rfl⟩
abbrev main_cst_35 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_cst_36 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_cst_37 : Ref sig .tc := ⟨.hbm, 361, rfl⟩
abbrev main_v285 : Ref sig .tc := ⟨.hbm, 362, rfl⟩
abbrev main_v286 : Ref sig .tc := ⟨.hbm, 363, rfl⟩
abbrev main_cst_38 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_cst_39 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_cst_40 : Ref sig .tc := ⟨.hbm, 373, rfl⟩
abbrev main_v294 : Ref sig .tc := ⟨.hbm, 374, rfl⟩
abbrev main_v295 : Ref sig .tc := ⟨.hbm, 375, rfl⟩
abbrev main_cst_41 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_cst_42 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_cst_43 : Ref sig .tc := ⟨.hbm, 385, rfl⟩
abbrev main_v303 : Ref sig .tc := ⟨.hbm, 386, rfl⟩
abbrev main_v304 : Ref sig .tc := ⟨.hbm, 387, rfl⟩
abbrev main_cst_44 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_cst_45 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_cst_46 : Ref sig .tc := ⟨.hbm, 397, rfl⟩
abbrev main_v312 : Ref sig .tc := ⟨.hbm, 398, rfl⟩
abbrev main_v313 : Ref sig .tc := ⟨.hbm, 399, rfl⟩
abbrev main_cst_47 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_cst_48 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_cst_49 : Ref sig .tc := ⟨.hbm, 409, rfl⟩
abbrev main_v321 : Ref sig .tc := ⟨.hbm, 410, rfl⟩
abbrev main_v322 : Ref sig .tc := ⟨.hbm, 411, rfl⟩
abbrev main_cst_50 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_cst_51 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_cst_52 : Ref sig .tc := ⟨.hbm, 421, rfl⟩
abbrev main_v330 : Ref sig .tc := ⟨.hbm, 422, rfl⟩
abbrev main_v331 : Ref sig .tc := ⟨.hbm, 423, rfl⟩
abbrev main_cst_53 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_cst_54 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_v338 : Ref sig .tc := ⟨.hbm, 432, rfl⟩
abbrev main_cst_55 : Ref sig .tc := ⟨.hbm, 433, rfl⟩
abbrev main_v339 : Ref sig .tc := ⟨.hbm, 434, rfl⟩
abbrev main_v340 : Ref sig .tc := ⟨.hbm, 435, rfl⟩
abbrev main_cst_56 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_cst_57 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_cst_58 : Ref sig .tc := ⟨.hbm, 445, rfl⟩
abbrev main_v348 : Ref sig .tc := ⟨.hbm, 446, rfl⟩
abbrev main_v349 : Ref sig .tc := ⟨.hbm, 447, rfl⟩
abbrev main_cst_59 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_cst_60 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_cst_61 : Ref sig .tc := ⟨.hbm, 457, rfl⟩
abbrev main_v357 : Ref sig .tc := ⟨.hbm, 458, rfl⟩
abbrev main_v358 : Ref sig .tc := ⟨.hbm, 459, rfl⟩
abbrev main_cst_62 : Ref sig .tc := ⟨.hbm, 460, rfl⟩
abbrev main_v359 : Ref sig .tc := ⟨.hbm, 461, rfl⟩
abbrev main_v360 : Ref sig .tc := ⟨.hbm, 462, rfl⟩
abbrev main_v361 : Ref sig .tc := ⟨.hbm, 463, rfl⟩
abbrev main_cst_63 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_cst_64 : Ref sig .tc := ⟨.hbm, 469, rfl⟩
abbrev main_v366 : Ref sig .tc := ⟨.hbm, 470, rfl⟩
abbrev main_v367 : Ref sig .tc := ⟨.hbm, 471, rfl⟩
abbrev main_cst_65 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_cst_66 : Ref sig .tc := ⟨.hbm, 476, rfl⟩
abbrev main_v371 : Ref sig .tc := ⟨.hbm, 477, rfl⟩
abbrev main_v372 : Ref sig .tc := ⟨.hbm, 478, rfl⟩
abbrev main_v373 : Ref sig .tc := ⟨.hbm, 479, rfl⟩
abbrev main_v374 : Ref sig .tc := ⟨.hbm, 480, rfl⟩
abbrev main_cst_67 : Ref sig .tc := ⟨.hbm, 481, rfl⟩
abbrev main_v375 : Ref sig .tc := ⟨.hbm, 482, rfl⟩
abbrev main_v376 : Ref sig .tc := ⟨.hbm, 483, rfl⟩
abbrev main_cst_68 : Ref sig .tc := ⟨.hbm, 484, rfl⟩
abbrev main_v377 : Ref sig .tc := ⟨.hbm, 485, rfl⟩
abbrev main_v378 : Ref sig .tc := ⟨.hbm, 486, rfl⟩
abbrev main_v379 : Ref sig .tc := ⟨.hbm, 487, rfl⟩
abbrev main_cst_69 : Ref sig .tc := ⟨.hbm, 488, rfl⟩
abbrev main_v380 : Ref sig .tc := ⟨.hbm, 489, rfl⟩
abbrev main_v381 : Ref sig .tc := ⟨.hbm, 490, rfl⟩
abbrev main_v382 : Ref sig .tc := ⟨.hbm, 491, rfl⟩
abbrev main_v383 : Ref sig .tc := ⟨.hbm, 492, rfl⟩
abbrev main_cst_70 : Ref sig .tc := ⟨.hbm, 493, rfl⟩
abbrev main_v384 : Ref sig .tc := ⟨.hbm, 494, rfl⟩
abbrev main_v385 : Ref sig .tc := ⟨.hbm, 495, rfl⟩
abbrev main_cst_71 : Ref sig .tc := ⟨.hbm, 496, rfl⟩
abbrev main_v386 : Ref sig .tc := ⟨.hbm, 497, rfl⟩
abbrev main_v387 : Ref sig .tc := ⟨.hbm, 498, rfl⟩
abbrev main_v388 : Ref sig .tc := ⟨.hbm, 499, rfl⟩
abbrev main_cst_72 : Ref sig .tc := ⟨.hbm, 500, rfl⟩
abbrev main_v389 : Ref sig .tc := ⟨.hbm, 501, rfl⟩
abbrev main_v390 : Ref sig .tc := ⟨.hbm, 502, rfl⟩
abbrev main_v391 : Ref sig .tc := ⟨.hbm, 503, rfl⟩
abbrev main_v392 : Ref sig .tc := ⟨.hbm, 504, rfl⟩
abbrev main_cst_73 : Ref sig .tc := ⟨.hbm, 505, rfl⟩
abbrev main_v393 : Ref sig .tc := ⟨.hbm, 506, rfl⟩
abbrev main_v394 : Ref sig .tc := ⟨.hbm, 507, rfl⟩
abbrev main_cst_74 : Ref sig .tc := ⟨.hbm, 508, rfl⟩
abbrev main_v395 : Ref sig .tc := ⟨.hbm, 509, rfl⟩
abbrev main_v396 : Ref sig .tc := ⟨.hbm, 510, rfl⟩
abbrev main_v397 : Ref sig .tc := ⟨.hbm, 511, rfl⟩
abbrev main_cst_75 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_cst_76 : Ref sig .tc := ⟨.hbm, 517, rfl⟩
abbrev main_v402 : Ref sig .tc := ⟨.hbm, 518, rfl⟩
abbrev main_v403 : Ref sig .tc := ⟨.hbm, 519, rfl⟩
abbrev main_cst_77 : Ref sig .tc := ⟨.hbm, 520, rfl⟩
abbrev main_v404 : Ref sig .tc := ⟨.hbm, 521, rfl⟩
abbrev main_v405 : Ref sig .tc := ⟨.hbm, 522, rfl⟩
abbrev main_v406 : Ref sig .tc := ⟨.hbm, 523, rfl⟩
abbrev main_cst_78 : Ref sig .tc := ⟨.hbm, 524, rfl⟩
abbrev main_v407 : Ref sig .tc := ⟨.hbm, 525, rfl⟩
abbrev main_v408 : Ref sig .tc := ⟨.hbm, 526, rfl⟩
abbrev main_v409 : Ref sig .tc := ⟨.hbm, 527, rfl⟩
abbrev main_v410 : Ref sig .tc := ⟨.hbm, 528, rfl⟩
abbrev main_cst_79 : Ref sig .tc := ⟨.hbm, 529, rfl⟩
abbrev main_v411 : Ref sig .tc := ⟨.hbm, 530, rfl⟩
abbrev main_v412 : Ref sig .tc := ⟨.hbm, 531, rfl⟩
abbrev main_cst_80 : Ref sig .tc := ⟨.hbm, 532, rfl⟩
abbrev main_v413 : Ref sig .tc := ⟨.hbm, 533, rfl⟩
abbrev main_v414 : Ref sig .tc := ⟨.hbm, 534, rfl⟩
abbrev main_v415 : Ref sig .tc := ⟨.hbm, 535, rfl⟩
abbrev main_cst_81 : Ref sig .tc := ⟨.hbm, 536, rfl⟩
abbrev main_v416 : Ref sig .tc := ⟨.hbm, 537, rfl⟩
abbrev main_v417 : Ref sig .tc := ⟨.hbm, 538, rfl⟩
abbrev main_v418 : Ref sig .tc := ⟨.hbm, 539, rfl⟩
abbrev main_v419 : Ref sig .tc := ⟨.hbm, 540, rfl⟩
abbrev main_cst_82 : Ref sig .tc := ⟨.hbm, 541, rfl⟩
abbrev main_v420 : Ref sig .tc := ⟨.hbm, 542, rfl⟩
abbrev main_v421 : Ref sig .tc := ⟨.hbm, 543, rfl⟩
abbrev main_cst_83 : Ref sig .tc := ⟨.hbm, 544, rfl⟩
abbrev main_v422 : Ref sig .tc := ⟨.hbm, 545, rfl⟩
abbrev main_v423 : Ref sig .tc := ⟨.hbm, 546, rfl⟩
abbrev main_v424 : Ref sig .tc := ⟨.hbm, 547, rfl⟩
abbrev main_cst_84 : Ref sig .tc := ⟨.hbm, 548, rfl⟩
abbrev main_v425 : Ref sig .tc := ⟨.hbm, 549, rfl⟩
abbrev main_v426 : Ref sig .tc := ⟨.hbm, 550, rfl⟩
abbrev main_v427 : Ref sig .tc := ⟨.hbm, 551, rfl⟩
abbrev main_v428 : Ref sig .tc := ⟨.hbm, 552, rfl⟩
abbrev main_cst_85 : Ref sig .tc := ⟨.hbm, 553, rfl⟩
abbrev main_v429 : Ref sig .tc := ⟨.hbm, 554, rfl⟩
abbrev main_v430 : Ref sig .tc := ⟨.hbm, 555, rfl⟩
abbrev main_cst_86 : Ref sig .tc := ⟨.hbm, 556, rfl⟩
abbrev main_v431 : Ref sig .tc := ⟨.hbm, 557, rfl⟩
abbrev main_v432 : Ref sig .tc := ⟨.hbm, 558, rfl⟩
abbrev main_v433 : Ref sig .tc := ⟨.hbm, 559, rfl⟩
abbrev main_cst_87 : Ref sig .tc := ⟨.hbm, 560, rfl⟩
abbrev main_v434 : Ref sig .tc := ⟨.hbm, 561, rfl⟩
abbrev main_v435 : Ref sig .tc := ⟨.hbm, 562, rfl⟩
abbrev main_v436 : Ref sig .tc := ⟨.hbm, 563, rfl⟩
abbrev main_v437 : Ref sig .tc := ⟨.hbm, 564, rfl⟩
abbrev main_cst_88 : Ref sig .tc := ⟨.hbm, 565, rfl⟩
abbrev main_v438 : Ref sig .tc := ⟨.hbm, 566, rfl⟩
abbrev main_v439 : Ref sig .tc := ⟨.hbm, 567, rfl⟩
abbrev main_cst_89 : Ref sig .tc := ⟨.hbm, 568, rfl⟩
abbrev main_v440 : Ref sig .tc := ⟨.hbm, 569, rfl⟩
abbrev main_v441 : Ref sig .tc := ⟨.hbm, 570, rfl⟩
abbrev main_v442 : Ref sig .tc := ⟨.hbm, 571, rfl⟩
abbrev main_cst_90 : Ref sig .tc := ⟨.hbm, 572, rfl⟩
abbrev main_v443 : Ref sig .tc := ⟨.hbm, 573, rfl⟩
abbrev main_v444 : Ref sig .tc := ⟨.hbm, 574, rfl⟩
abbrev main_v445 : Ref sig .tc := ⟨.hbm, 575, rfl⟩
abbrev main_v446 : Ref sig .tc := ⟨.hbm, 576, rfl⟩
abbrev main_cst_91 : Ref sig .tc := ⟨.hbm, 577, rfl⟩
abbrev main_v447 : Ref sig .tc := ⟨.hbm, 578, rfl⟩
abbrev main_v448 : Ref sig .tc := ⟨.hbm, 579, rfl⟩
abbrev main_cst_92 : Ref sig .tc := ⟨.hbm, 580, rfl⟩
abbrev main_v449 : Ref sig .tc := ⟨.hbm, 581, rfl⟩
abbrev main_v450 : Ref sig .tc := ⟨.hbm, 582, rfl⟩
abbrev main_v451 : Ref sig .tc := ⟨.hbm, 583, rfl⟩
abbrev main_cst_93 : Ref sig .tc := ⟨.hbm, 584, rfl⟩
abbrev main_v452 : Ref sig .tc := ⟨.hbm, 585, rfl⟩
abbrev main_v453 : Ref sig .tc := ⟨.hbm, 586, rfl⟩
abbrev main_v454 : Ref sig .tc := ⟨.hbm, 587, rfl⟩
abbrev main_v455 : Ref sig .tc := ⟨.hbm, 588, rfl⟩
abbrev main_cst_94 : Ref sig .tc := ⟨.hbm, 589, rfl⟩
abbrev main_v456 : Ref sig .tc := ⟨.hbm, 590, rfl⟩
abbrev main_v457 : Ref sig .tc := ⟨.hbm, 591, rfl⟩
abbrev main_cst_95 : Ref sig .tc := ⟨.hbm, 592, rfl⟩
abbrev main_v458 : Ref sig .tc := ⟨.hbm, 593, rfl⟩
abbrev main_v459 : Ref sig .tc := ⟨.hbm, 594, rfl⟩
abbrev main_v460 : Ref sig .tc := ⟨.hbm, 595, rfl⟩
abbrev main_cst_96 : Ref sig .tc := ⟨.hbm, 596, rfl⟩
abbrev main_v461 : Ref sig .tc := ⟨.hbm, 597, rfl⟩
abbrev main_v462 : Ref sig .tc := ⟨.hbm, 598, rfl⟩
abbrev main_v463 : Ref sig .tc := ⟨.hbm, 599, rfl⟩
abbrev main_v464 : Ref sig .tc := ⟨.hbm, 600, rfl⟩
abbrev main_cst_97 : Ref sig .tc := ⟨.hbm, 601, rfl⟩
abbrev main_v465 : Ref sig .tc := ⟨.hbm, 602, rfl⟩
abbrev main_v466 : Ref sig .tc := ⟨.hbm, 603, rfl⟩
abbrev main_cst_98 : Ref sig .tc := ⟨.hbm, 604, rfl⟩
abbrev main_v467 : Ref sig .tc := ⟨.hbm, 605, rfl⟩
abbrev main_v468 : Ref sig .tc := ⟨.hbm, 606, rfl⟩
abbrev main_v469 : Ref sig .tc := ⟨.hbm, 607, rfl⟩
abbrev main_cst_99 : Ref sig .tc := ⟨.hbm, 608, rfl⟩
abbrev main_v470 : Ref sig .tc := ⟨.hbm, 609, rfl⟩
abbrev main_v471 : Ref sig .tc := ⟨.hbm, 610, rfl⟩
abbrev main_v472 : Ref sig .tc := ⟨.hbm, 611, rfl⟩
abbrev main_v473 : Ref sig .tc := ⟨.hbm, 612, rfl⟩
abbrev main_cst_100 : Ref sig .tc := ⟨.hbm, 613, rfl⟩
abbrev main_v474 : Ref sig .tc := ⟨.hbm, 614, rfl⟩
abbrev main_v475 : Ref sig .tc := ⟨.hbm, 615, rfl⟩
abbrev main_cst_101 : Ref sig .tc := ⟨.hbm, 616, rfl⟩
abbrev main_v476 : Ref sig .tc := ⟨.hbm, 617, rfl⟩
abbrev main_v477 : Ref sig .tc := ⟨.hbm, 618, rfl⟩
abbrev main_v478 : Ref sig .tc := ⟨.hbm, 619, rfl⟩
abbrev main_cst_102 : Ref sig .tc := ⟨.hbm, 620, rfl⟩
abbrev main_v479 : Ref sig .tc := ⟨.hbm, 621, rfl⟩
abbrev main_v480 : Ref sig .tc := ⟨.hbm, 622, rfl⟩
abbrev main_v481 : Ref sig .tc := ⟨.hbm, 623, rfl⟩
abbrev main_v482 : Ref sig .tc := ⟨.hbm, 624, rfl⟩
abbrev main_cst_103 : Ref sig .tc := ⟨.hbm, 625, rfl⟩
abbrev main_v483 : Ref sig .tc := ⟨.hbm, 626, rfl⟩
abbrev main_v484 : Ref sig .tc := ⟨.hbm, 627, rfl⟩
abbrev main_cst_104 : Ref sig .tc := ⟨.hbm, 628, rfl⟩
abbrev main_v485 : Ref sig .tc := ⟨.hbm, 629, rfl⟩
abbrev main_v486 : Ref sig .tc := ⟨.hbm, 630, rfl⟩
abbrev main_v487 : Ref sig .tc := ⟨.hbm, 631, rfl⟩
abbrev main_cst_105 : Ref sig .tc := ⟨.hbm, 632, rfl⟩
abbrev main_v488 : Ref sig .tc := ⟨.hbm, 633, rfl⟩
abbrev main_v489 : Ref sig .tc := ⟨.hbm, 634, rfl⟩
abbrev main_v490 : Ref sig .tc := ⟨.hbm, 635, rfl⟩
abbrev main_v491 : Ref sig .tc := ⟨.hbm, 636, rfl⟩
abbrev main_cst_106 : Ref sig .tc := ⟨.hbm, 637, rfl⟩
abbrev main_v492 : Ref sig .tc := ⟨.hbm, 638, rfl⟩
abbrev main_v493 : Ref sig .tc := ⟨.hbm, 639, rfl⟩
abbrev main_cst_107 : Ref sig .tc := ⟨.hbm, 640, rfl⟩
abbrev main_v494 : Ref sig .tc := ⟨.hbm, 641, rfl⟩
abbrev main_v495 : Ref sig .tc := ⟨.hbm, 642, rfl⟩
abbrev main_v496 : Ref sig .tc := ⟨.hbm, 643, rfl⟩
abbrev main_cst_108 : Ref sig .tc := ⟨.hbm, 644, rfl⟩
abbrev main_v497 : Ref sig .tc := ⟨.hbm, 645, rfl⟩
abbrev main_v498 : Ref sig .tc := ⟨.hbm, 646, rfl⟩
abbrev main_v499 : Ref sig .tc := ⟨.hbm, 647, rfl⟩
abbrev main_v500 : Ref sig .tc := ⟨.hbm, 648, rfl⟩
abbrev main_cst_109 : Ref sig .tc := ⟨.hbm, 649, rfl⟩
abbrev main_v501 : Ref sig .tc := ⟨.hbm, 650, rfl⟩
abbrev main_v502 : Ref sig .tc := ⟨.hbm, 651, rfl⟩
abbrev main_cst_110 : Ref sig .tc := ⟨.hbm, 652, rfl⟩
abbrev main_v503 : Ref sig .tc := ⟨.hbm, 653, rfl⟩
abbrev main_v504 : Ref sig .tc := ⟨.hbm, 654, rfl⟩
abbrev main_v505 : Ref sig .tc := ⟨.hbm, 655, rfl⟩
abbrev main_cst_111 : Ref sig .tc := ⟨.hbm, 656, rfl⟩
abbrev main_v506 : Ref sig .tc := ⟨.hbm, 657, rfl⟩
abbrev main_v507 : Ref sig .tc := ⟨.hbm, 658, rfl⟩
abbrev main_v508 : Ref sig .tc := ⟨.hbm, 659, rfl⟩
abbrev main_v509 : Ref sig .tc := ⟨.hbm, 660, rfl⟩
abbrev main_cst_112 : Ref sig .tc := ⟨.hbm, 661, rfl⟩
abbrev main_v510 : Ref sig .tc := ⟨.hbm, 662, rfl⟩
abbrev main_v511 : Ref sig .tc := ⟨.hbm, 663, rfl⟩
abbrev main_cst_113 : Ref sig .tc := ⟨.hbm, 664, rfl⟩
abbrev main_v512 : Ref sig .tc := ⟨.hbm, 665, rfl⟩
abbrev main_v513 : Ref sig .tc := ⟨.hbm, 666, rfl⟩
abbrev main_v514 : Ref sig .tc := ⟨.hbm, 667, rfl⟩
abbrev main_v515 : Ref sig .tc := ⟨.hbm, 668, rfl⟩
abbrev main_v516 : Ref sig .tc := ⟨.hbm, 669, rfl⟩
abbrev main_v517 : Ref sig .tc := ⟨.hbm, 670, rfl⟩
abbrev main_v518 : Ref sig .tc := ⟨.hbm, 671, rfl⟩
abbrev main_c : Ref sig .tc := ⟨.hbm, 672, rfl⟩
abbrev main_call4_v0 : Ref sig .tc := ⟨.hbm, 673, rfl⟩
abbrev main_v519 : Ref sig .tc := ⟨.hbm, 674, rfl⟩
abbrev main_v520 : Ref sig .tc := ⟨.hbm, 675, rfl⟩
abbrev main_cst_114 : Ref sig .tc := ⟨.hbm, 676, rfl⟩
abbrev main_v521 : Ref sig .tc := ⟨.hbm, 677, rfl⟩
abbrev main_v522 : Ref sig .tc := ⟨.hbm, 678, rfl⟩
abbrev main_v523 : Ref sig .tc := ⟨.hbm, 679, rfl⟩
abbrev main_v524 : Ref sig .tc := ⟨.hbm, 680, rfl⟩
abbrev main_v525 : Ref sig .tc := ⟨.hbm, 681, rfl⟩

abbrev nD : Nat := 1
abbrev τ : Topo := Topo.v7x

variable {F : FTy → Type} [FloatOps F]
-- ==== Kernel2.lean ====
abbrev S2048x512 : Shape := ⟨2, ![2048, 512]⟩
abbrev S2048x1024 : Shape := ⟨2, ![2048, 1024]⟩
abbrev S1x1024 : Shape := ⟨2, ![1, 1024]⟩
abbrev S1024x1024 : Shape := ⟨2, ![1024, 1024]⟩
abbrev S8x1024 : Shape := ⟨2, ![8, 1024]⟩
abbrev S512x512 : Shape := ⟨2, ![512, 512]⟩
abbrev S512x1024 : Shape := ⟨2, ![512, 1024]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1024x1024, .bf16⟩
  | .hbm, ⟨6, _⟩ => ⟨S2048x1024, .f32⟩
  | .hbm, ⟨7, _⟩ => ⟨S2048x512, .bf16⟩
  | .hbm, ⟨8, _⟩ => ⟨S2048x512, .bf16⟩
  | .hbm, ⟨9, _⟩ => ⟨S1024x1024, .bf16⟩
  | .hbm, ⟨10, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x1024, .bf16⟩
  | .local _ .vmem, ⟨17, _⟩ => ⟨S8x1024, .f32⟩
  | .local _ .vmem, ⟨18, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v49 : BitVec 1 := Scalar.cmpi .eq arg0 c3_i32
  let v50 : BitVec 32 := Scalar.extui v49
  let c0_i32_36 : BitVec 32 := 0#32
  let v51 : BitVec 1 := Scalar.cmpi .ne v50 c0_i32_36
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x512 : Shape := ⟨2, ![2048, 512]⟩
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S1024 : Shape := ⟨1, ![1024]⟩
abbrev S6x1024 : Shape := ⟨2, ![6, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1024x1024, .bf16⟩
  | .hbm, ⟨6, _⟩ => ⟨S2048x512, .f32⟩
  | .hbm, ⟨7, _⟩ => ⟨S2048x512, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S1024x1024, .f32⟩
  | .hbm, ⟨45, _⟩ => ⟨S1024x1024, .f32⟩
  | .hbm, ⟨46, _⟩ => ⟨S2048x1024, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S6x1024, .f32⟩
  | .hbm, ⟨54, _⟩ => ⟨S8x1024, .f32⟩
  | .hbm, ⟨55, _⟩ => ⟨S2048x512, .bf16⟩
  | .hbm, ⟨56, _⟩ => ⟨S2048x512, .bf16⟩
  | .hbm, ⟨57, _⟩ => ⟨S1024x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel3.lean ====
abbrev S2048x512 : Shape := ⟨2, ![2048, 512]⟩
abbrev S2048x256 : Shape := ⟨2, ![2048, 256]⟩
abbrev S2048x1024 : Shape := ⟨2, ![2048, 1024]⟩
abbrev S1x1024 : Shape := ⟨2, ![1, 1024]⟩
abbrev S1024x2816 : Shape := ⟨2, ![1024, 2816]⟩
abbrev S_ : Shape := ⟨0, ![]⟩
abbrev S2816x1024 : Shape := ⟨2, ![2816, 1024]⟩
abbrev S8x1024 : Shape := ⟨2, ![8, 1024]⟩
abbrev S256x512 : Shape := ⟨2, ![256, 512]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1024 : Shape := ⟨1, ![1024]⟩

abbrev nBuf : Space → Nat
  | .hbm => 20
  | .vmem => 25
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x2816, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S2816x1024, .f32⟩
  | .hbm, ⟨16, _⟩ => ⟨S2816x1024, .bf16⟩
  | .hbm, ⟨17, _⟩ => ⟨S2048x1024, .f32⟩
  | .hbm, ⟨18, _⟩ => ⟨S2816x1024, .bf16⟩
  | .hbm, ⟨19, _⟩ => ⟨S8x1024, .f32⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S2816x1024, .bf16⟩
  | .local _ .vmem, ⟨20, _⟩ => ⟨S256x1024, .f32⟩
  | .local _ .vmem, ⟨21, _⟩ => ⟨S256x1024, .f32⟩
  | .local _ .vmem, ⟨22, _⟩ => ⟨S2816x1024, .bf16⟩
  | .local _ .vmem, ⟨23, _⟩ => ⟨S8x1024, .f32⟩
  | .local _ .vmem, ⟨24, _⟩ => ⟨S2816x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_53 : BitVec 32 := 0#32
  let v83 : BitVec 1 := Scalar.cmpi .ne v82 c0_i32_53
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S2048x512 : Shape := ⟨2, ![2048, 512]⟩
abbrev S2048x256 : Shape := ⟨2, ![2048, 256]⟩
abbrev S2048x1024 : Shape := ⟨2, ![2048, 1024]⟩
abbrev S1x1024 : Shape := ⟨2, ![1, 1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2816x1024 : Shape := ⟨2, ![2816, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x256, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x2816, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x2816, .f32⟩
  | .hbm, ⟨39, _⟩ => ⟨S2048x512, .f32⟩
  | .hbm, ⟨40, _⟩ => ⟨S2048x256, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x2816, .f32⟩
  | .hbm, ⟨46, _⟩ => ⟨S2816x1024, .f32⟩
  | .hbm, ⟨47, _⟩ => ⟨S1024x2816, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S5x1024, .f32⟩
  | .hbm, ⟨84, _⟩ => ⟨S8x1024, .f32⟩
  | .hbm, ⟨85, _⟩ => ⟨S2816x1024, .f32⟩
  | .hbm, ⟨86, _⟩ => ⟨S2816x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Proof.OutCase.lean ====
/-
  What one step of the output projection's grid leaves in each of its staging buffers: the case lemmas.
  The steps come in three cases (the first, a middle one, the last); in each of them the body's stores are
  read back as the payloads of the step's input blocks. Every later module reasons over these payloads alone.
-/
module

public import proofs.«01_k».proof.Proof.Gen.Kernel2Ideal.Value
public import Idealize.ShloMosaic.Lib.Pipeline.Value
public import Idealize.ShloMosaic.Lib.Tactic
public import Idealize.ShloMosaic.Lib.Pipeline.ReadBack
public import Idealize.ShloMosaic.Lib.WritesUnit
public import Idealize.ShloMosaic.Lib.ValueIdx

@[expose] public section

noncomputable section

namespace Cert.Kernel2Ideal.OutCase

open Cert.Kernel2Ideal Cert.Kernel2Ideal.Gen Idealize.ShloMosaic Idealize.ShloMosaic.TcCoe Idealize.SL.Sem
open Idealize.ShloMosaic.Pipeline (Dat)
open Idealize.ShloMosaic.ValueIdx (ix2)

variable {F : FTy → Type} [FloatOps F]
variable (c : Dev nD) (i : grid0.Coords)
  (a1 : Memref sig .tc .vmem S512x512 .bf16) (h1 : a1.IsWhole)
  (a2 : Memref sig .tc .vmem S512x512 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S1024x1024 .bf16) (h6 : a6.IsWhole)
  (a7 : Memref sig .tc .vmem S512x1024 .f32) (h7 : a7.IsWhole)
  (a8 : Memref sig .tc .vmem S512x512 .bf16) (h8 : a8.IsWhole)
  (a9 : Memref sig .tc .vmem S512x512 .bf16) (h9 : a9.IsWhole)
  (a10 : Memref sig .tc .vmem S1024x1024 .bf16) (h10 : a10.IsWhole)
  (a11 : Memref sig .tc .vmem S8x1024 .f32) (h11 : a11.IsWhole)
  (a12 : Memref sig .tc .vmem S1024x1024 .f32) (h12 : a12.IsWhole)
variable (x0 x1 : Vec F S512x512 .bf16) (x2 x3 : Vec F S512x1024 .f32) (x4 : Vec F S1x1024 .f32) (x5 : Vec F S1024x1024 .bf16)
  (xo : Vec F S8x1024 .f32) (xs : Vec F S1024x1024 .f32)

/-- The two zero offsets of a whole load or store, as a constant function. -/
theorem hz : (![0, 0] : Fin 2 → Nat) = fun _ => 0 := funext fun a => by fin_cases a <;> rfl

/-- Case A: the cotangent of the residual stream the step writes. -/
theorem v_out0_A_6 (hc0 : cond0_0 i) (hc1 : ¬cond0_1 i) :
    out0_A_6 c i a1 h1 a2 h2 a3 h3 a4 h4 a5 h5 a6 h6 a7 h7 a8 h8 a9 h9 a10 h10 a11 h11 a12 h12 hc0 hc1 x0 x1 x2 x3 x4 x5 = k0_pay13 x0 x1 x5 x4 x2 x3 := by
  unfold out0_A_6
  rw [View.read_writes_eq_canon _ _ _ (fun _ => cover0_A_6 ..)]
  unfold kernelRun0_A
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case A: the attention half of the mixer cotangent. -/
theorem v_out0_A_7 (hc0 : cond0_0 i) (hc1 : ¬cond0_1 i) :
    out0_A_7 c i a1 h1 a2 h2 a3 h3 a4 h4 a5 h5 a6 h6 a7 h7 a8 h8 a9 h9 a10 h10 a11 h11 a12 h12 hc0 hc1 x0 x1 x2 x3 x4 x5 = k0_pay4 x4 (k0_pay13 x0 x1 x5 x4 x2 x3) x5 := by
  unfold out0_A_7
  rw [View.read_writes_eq_canon _ _ _ (fun _ => cover0_A_7 ..)]
  unfold kernelRun0_A
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case A: the convolution half of the mixer cotangent. -/
theorem v_out0_A_8 (hc0 : cond0_0 i) (hc1 : ¬cond0_1 i) :
    out0_A_8 c i a1 h1 a2 h2 a3 h3 a4 h4 a5 h5 a6 h6 a7 h7 a8 h8 a9 h9 a10 h10 a11 h11 a12 h12 hc0 hc1 x0 x1 x2 x3 x4 x5 = k0_pay5 x4 (k0_pay13 x0 x1 x5 x4 x2 x3) x5 := by
  unfold out0_A_8
  rw [View.read_writes_eq_canon _ _ _ (fun _ => cover0_A_8 ..)]
  unfold kernelRun0_A
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case B: the cotangent of the residual stream the step writes. -/
theorem v_out0_B_6 (hc0 : ¬cond0_0 i) (hc1 : ¬cond0_1 i) :
    out0_B_6 c i a1 h1 a2 h2 a3 h3 a4 h4 a5 h5 a6 h6 a7 h7 a8 h8 a9 h9 a10 h10 a11 h11 a12 h12 hc0 hc1 x0 x1 x2 x3 x4 x5 xo xs = k0_pay13 x0 x1 x5 x4 x2 x3 := by
  unfold out0_B_6
  rw [View.read_writes_eq_canon _ _ _ (fun _ => cover0_B_6 ..)]
  unfold kernelRun0_B
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case B: the attention half of the mixer cotangent. -/
theorem v_out0_B_7 (hc0 : ¬cond0_0 i) (hc1 : ¬cond0_1 i) :
    out0_B_7 c i a1 h1 a2 h2 a3 h3 a4 h4 a5 h5 a6 h6 a7 h7 a8 h8 a9 h9 a10 h10 a11 h11 a12 h12 hc0 hc1 x0 x1 x2 x3 x4 x5 xo xs = k0_pay4 x4 (k0_pay13 x0 x1 x5 x4 x2 x3) x5 := by
  unfold out0_B_7
  rw [View.read_writes_eq_canon _ _ _ (fun _ => cover0_B_7 ..)]
  unfold kernelRun0_B
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case B: the convolution half of the mixer cotangent. -/
theorem v_out0_B_8 (hc0 : ¬cond0_0 i) (hc1 : ¬cond0_1 i) :
    out0_B_8 c i a1 h1 a2 h2 a3 h3 a4 h4 a5 h5 a6 h6 a7 h7 a8 h8 a9 h9 a10 h10 a11 h11 a12 h12 hc0 hc1 x0 x1 x2 x3 x4 x5 xo xs = k0_pay5 x4 (k0_pay13 x0 x1 x5 x4 x2 x3) x5 := by
  unfold out0_B_8
  rw [View.read_writes_eq_canon _ _ _ (fun _ => cover0_B_8 ..)]
  unfold kernelRun0_B
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case C: the cotangent of the residual stream the step writes. -/
theorem v_out0_C_6 (hc0 : ¬cond0_0 i) (hc1 : cond0_1 i) :
    out0_C_6 c i a1 h1 a2 h2 a3 h3 a4 h4 a5 h5 a6 h6 a7 h7 a8 h8 a9 h9 a10 h10 a11 h11 a12 h12 hc0 hc1 x0 x1 x2 x3 x4 x5 xo xs = k0_pay13 x0 x1 x5 x4 x2 x3 := by
  unfold out0_C_6
  rw [View.read_writes_eq_canon _ _ _ (fun _ => cover0_C_6 ..)]
  unfold kernelRun0_C
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case C: the attention half of the mixer cotangent. -/
theorem v_out0_C_7 (hc0 : ¬cond0_0 i) (hc1 : cond0_1 i) :
    out0_C_7 c i a1 h1 a2 h2 a3 h3 a4 h4 a5 h5 a6 h6 a7 h7 a8 h8 a9 h9 a10 h10 a11 h11 a12 h12 hc0 hc1 x0 x1 x2 x3 x4 x5 xo xs = k0_pay4 x4 (k0_pay13 x0 x1 x5 x4 x2 x3) x5 := by
  unfold out0_C_7
  rw [View.read_writes_eq_canon _ _ _ (fun _ => cover0_C_7 ..)]
  unfold kernelRun0_C
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case C: the convolution half of the mixer cotangent. -/
theorem v_out0_C_8 (hc0 : ¬cond0_0 i) (hc1 : cond0_1 i) :
    out0_C_8 c i a1 h1 a2 h2 a3 h3 a4 h4 a5 h5 a6 h6 a7 h7 a8 h8 a9 h9 a10 h10 a11 h11 a12 h12 hc0 hc1 x0 x1 x2 x3 x4 x5 xo xs = k0_pay5 x4 (k0_pay13 x0 x1 x5 x4 x2 x3) x5 := by
  unfold out0_C_8
  rw [View.read_writes_eq_canon _ _ _ (fun _ => cover0_C_8 ..)]
  unfold kernelRun0_C
  dsimp only
  sl_unfold_words
  rw [View.canon_unit_zero hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case A: the carried weight-gradient accumulator, started from zero. -/
theorem v_sout0_A (hc0 : cond0_0 i) (hc1 : ¬cond0_1 i) :
    sout0_A_0 c i a1 h1 a2 h2 a3 h3 a4 h4 a5 h5 a6 h6 a7 h7 a8 h8 a9 h9 a10 h10 a11 h11 a12 h12 hc0 hc1 x0 x1 x2 x3 x4 x5 = k0_pay6 (k0_pay10 x0 x1) x4 (k0_pay13 x0 x1 x5 x4 x2 x3) k0_pay8 := by
  unfold sout0_A_0
  unfold kernelRun0_A
  dsimp only
  sl_unfold_words
  rw [View.read_writes_junk_eq_canon, View.canon_cons_unit_zero (S := S1024x1024) hz, View.readCov_unit_zero (S := S1024x1024) _ hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case B: the carried weight-gradient accumulator, one tile further. -/
theorem v_sout0_B (hc0 : ¬cond0_0 i) (hc1 : ¬cond0_1 i) :
    sout0_B_0 c i a1 h1 a2 h2 a3 h3 a4 h4 a5 h5 a6 h6 a7 h7 a8 h8 a9 h9 a10 h10 a11 h11 a12 h12 hc0 hc1 x0 x1 x2 x3 x4 x5 xo xs = k0_pay6 (k0_pay10 x0 x1) x4 (k0_pay13 x0 x1 x5 x4 x2 x3) xs := by
  unfold sout0_B_0
  unfold kernelRun0_B
  dsimp only
  sl_unfold_words
  rw [View.read_writes_junk_eq_canon, View.canon_cons_unit_zero (S := S1024x1024) hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case C: the carried weight-gradient accumulator, one tile further. -/
theorem v_sout0_C (hc0 : ¬cond0_0 i) (hc1 : cond0_1 i) :
    sout0_C_0 c i a1 h1 a2 h2 a3 h3 a4 h4 a5 h5 a6 h6 a7 h7 a8 h8 a9 h9 a10 h10 a11 h11 a12 h12 hc0 hc1 x0 x1 x2 x3 x4 x5 xo xs = k0_pay6 (k0_pay10 x0 x1) x4 (k0_pay13 x0 x1 x5 x4 x2 x3) xs := by
  unfold sout0_C_0
  unfold kernelRun0_C
  dsimp only
  sl_unfold_words
  rw [View.read_writes_junk_eq_canon, View.canon_cons_unit_zero (S := S1024x1024) hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case C: the weight gradient, the accumulator rounded to bf16. -/
theorem v_out0_C_9 (hc0 : ¬cond0_0 i) (hc1 : cond0_1 i) :
    out0_C_9 c i a1 h1 a2 h2 a3 h3 a4 h4 a5 h5 a6 h6 a7 h7 a8 h8 a9 h9 a10 h10 a11 h11 a12 h12 hc0 hc1 x0 x1 x2 x3 x4 x5 xo xs
      = k0_pay7 (k0_pay6 (k0_pay10 x0 x1) x4 (k0_pay13 x0 x1 x5 x4 x2 x3) xs) := by
  unfold out0_C_9
  unfold kernelRun0_C
  dsimp only
  sl_unfold_words
  rw [View.read_writes_junk_eq_canon, View.canon_cons_unit_zero (S := S1024x1024) hz, View.readCov_unit_zero (S := S1024x1024) _ hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Row `r` of the reduction buffer. -/
def rowOf (r : Fin 8) (Z : Vec F S8x1024 .f32) : Vec F S1x1024 .f32 := fun j => Z (ix2 r (j 1))

/-- The reduction buffer with its rows 0 and 1 replaced. -/
def rowsOver (p0 p1 : Vec F S1x1024 .f32) (Z : Vec F S8x1024 .f32) : Vec F S8x1024 .f32 := fun y =>
  if (y 0).val = 0 then p0 (ix2 0 (y 1)) else if (y 0).val = 1 then p1 (ix2 0 (y 1)) else Z y

omit [FloatOps F] in
/-- Two stores of one row each, rows 0 and 1, over any earlier contents. -/
theorem read_rows {sg : RefSig} {κ : Kind} {sp : Space} (v : View sg κ sp S8x1024 .f32) (f : v.ty.Contents (Elt F)) (inb1 inb0)
    (p0 p1 : Vec F S1x1024 .f32) (L : List (View.Piece (Elt F) S8x1024 .f32)) :
    v.read (Elt F) (v.writes (Elt F) f ((⟨Rect.unit ![1, 0] ![1, 1024] inb1, p1⟩ : View.Piece (Elt F) S8x1024 .f32)
        :: (⟨Rect.unit ![0, 0] ![1, 1024] inb0, p0⟩ : View.Piece (Elt F) S8x1024 .f32) :: L))
      = rowsOver p0 p1 (v.read (Elt F) (v.writes (Elt F) f L)) := by
  funext y
  have h8 : (y 0).val < 8 := (y 0).isLt
  have h1024 : (y 1).val < 1024 := (y 1).isLt
  by_cases h0 : (y 0).val = 0
  · rw [View.read_writes_cons_unit_of_not_mem v f inb1 p1 _ y rfl 0 (Or.inl (by show (y 0).val < 1; omega))]
    rw [View.read_writes_cons_unit_of_mem v f inb0 p0 _ y (ix2 0 (y 1)) rfl (fun a => by
      fin_cases a
      · exact h0
      · exact (Nat.zero_add _).symm)]
    unfold rowsOver
    rw [if_pos h0]
  · by_cases h1 : (y 0).val = 1
    · rw [View.read_writes_cons_unit_of_mem v f inb1 p1 _ y (ix2 0 (y 1)) rfl (fun a => by
        fin_cases a
        · exact h1
        · exact (Nat.zero_add _).symm)]
      unfold rowsOver
      rw [if_neg h0, if_pos h1]
    · rw [View.read_writes_cons_unit_of_not_mem v f inb1 p1 _ y rfl 0 (Or.inr (by show 1 + 1 ≤ (y 0).val; omega)),
        View.read_writes_cons_unit_of_not_mem v f inb0 p0 _ y rfl 0 (Or.inr (by show 0 + 1 ≤ (y 0).val; omega))]
      unfold rowsOver
      rw [if_neg h0, if_neg h1]

omit [FloatOps F] in
/-- A load of row 0. -/
theorem ld_row0 (Z : Vec F S8x1024 .f32) (inb) :
    View.ld (S := S8x1024) (e' := .f32) Z (Rect.unit ![0, 0] ![1, 1024] inb) = rowOf 0 Z :=
  funext fun j => congrArg Z (funext fun a => by
    have hj : (j 0).val < 1 := (j 0).isLt
    fin_cases a
    · exact Fin.ext (by show 0 + 1 * (j 0).val = 0; omega)
    · exact Fin.ext (by show 0 + 1 * (j 1).val = (j 1).val; omega))

omit [FloatOps F] in
/-- A load of row 1. -/
theorem ld_row1 (Z : Vec F S8x1024 .f32) (inb) :
    View.ld (S := S8x1024) (e' := .f32) Z (Rect.unit ![1, 0] ![1, 1024] inb) = rowOf 1 Z :=
  funext fun j => congrArg Z (funext fun a => by
    have hj : (j 0).val < 1 := (j 0).isLt
    fin_cases a
    · exact Fin.ext (by show 1 + 1 * (j 0).val = 1; omega)
    · exact Fin.ext (by show 0 + 1 * (j 1).val = (j 1).val; omega))

/-- A load of row 0 after a fill. -/
theorem fill_row0 {sg : RefSig} {κ : Kind} {sp : Space} (v : View sg κ sp S8x1024 .f32) (Z : Vec F S8x1024 .f32) (inb inb') :
    v.readCov [(⟨Rect.unit (s := S8x1024) ![0, 0] S8x1024.size inb, Z⟩ : View.Piece (Elt F) S8x1024 .f32)]
      (Rect.unit (s := S8x1024) ![0, 0] S1x1024.size inb').toLoadRect = rowOf 0 Z :=
  (View.readCov_fill v inb Z [] (Rect.unit (s := S8x1024) ![0, 0] S1x1024.size inb') (fun a => by fin_cases a <;> rfl)).trans (ld_row0 Z inb')

/-- A load of row 1 after a fill and a store of row 0. -/
theorem fill_row1 {sg : RefSig} {κ : Kind} {sp : Space} (v : View sg κ sp S8x1024 .f32) (Z : Vec F S8x1024 .f32)
    (p0 : Vec F S1x1024 .f32) (inb inb0 inb') :
    v.readCov [(⟨Rect.unit (s := S8x1024) ![0, 0] S1x1024.size inb0, p0⟩ : View.Piece (Elt F) S8x1024 .f32),
        (⟨Rect.unit (s := S8x1024) ![0, 0] S8x1024.size inb, Z⟩ : View.Piece (Elt F) S8x1024 .f32)]
      (Rect.unit (s := S8x1024) ![1, 0] S1x1024.size inb').toLoadRect = rowOf 1 Z :=
  (View.readCov_skip v (Rect.unit (s := S8x1024) ![0, 0] S1x1024.size inb0) p0 _ (Rect.unit (s := S8x1024) ![1, 0] S1x1024.size inb').toLoadRect (by rfl)).trans
    ((View.readCov_fill v inb Z [] (Rect.unit (s := S8x1024) ![1, 0] S1x1024.size inb') (fun a => by fin_cases a <;> rfl)).trans (ld_row1 Z inb'))

/-- The reduction buffer after a step, from what it held before. -/
def redStep (x0 x1 : Vec F S512x512 .bf16) (x2 x3 : Vec F S512x1024 .f32) (x4 : Vec F S1x1024 .f32)
    (x5 : Vec F S1024x1024 .bf16) (Z : Vec F S8x1024 .f32) : Vec F S8x1024 .f32 :=
  rowsOver (k0_pay14 x0 x1 x5 x4 x2 x3 (rowOf 0 Z)) (k0_pay1 (k0_pay15 (rowOf 1 Z)) (k0_pay16 x0 x1 x5 x4 x2 x3)) Z

/-- Case A: the reduction buffer, started from zero. -/
theorem v_out0_A_10 (hc0 : cond0_0 i) (hc1 : ¬cond0_1 i) :
    out0_A_10 c i a1 h1 a2 h2 a3 h3 a4 h4 a5 h5 a6 h6 a7 h7 a8 h8 a9 h9 a10 h10 a11 h11 a12 h12 hc0 hc1 x0 x1 x2 x3 x4 x5 = redStep x0 x1 x2 x3 x4 x5 k0_pay9 := by
  unfold out0_A_10
  unfold kernelRun0_A
  dsimp only
  sl_unfold_words
  refine (read_rows VO0_10 _ _ _ _ _ _).trans ?_
  unfold redStep
  rw [fill_row1, fill_row0]
  rw [View.read_writes_junk_eq_canon, View.canon_cons_unit_zero (S := S8x1024) hz]
  simp only [View.readAt_eq_ld, Memref.IsWhole.read_unread, View.ld_unit_zero (S := S1024x1024) hz, View.ld_unit_zero (S := S1x1024) hz, View.ld_unit_zero (S := S512x1024) hz, View.ld_unit_zero (S := S512x512) hz]

/-- Case B: the reduction buffer, one tile further. -/
theorem v_out0_B_10 (hc0 : ¬cond0_0 i) (hc1 : ¬cond0_1 i) :
    out0_B_10 c i a1 h1 a2 h2 a3 h3 a4 h4 a5 h5 a6 h6 a7 h7 a8 h8 a9 h9 a10 h10 a11 h11 a12 h12 hc0 hc1 x0 x1 x2 x3 x4 x5 xo xs = redStep x0 x1 x2 x3 x4 x5 xo := by
  unfold out0_B_10
  unfold kernelRun0_B
  dsimp only
  sl_unfold_words
  simp only [View.readAt_eq_ld, Memref.IsWhole.read_unread, View.ld_unit_zero (S := S1024x1024) hz, View.ld_unit_zero (S := S1x1024) hz, View.ld_unit_zero (S := S512x1024) hz, View.ld_unit_zero (S := S512x512) hz]
  rw [ld_row0, ld_row1]
  refine (read_rows a11.view _ _ _ _ _ _).trans ?_
  unfold redStep
  rw [View.writes_nil, h11.read_unread]

/-- Case C: the reduction buffer, one tile further. -/
theorem v_out0_C_10 (hc0 : ¬cond0_0 i) (hc1 : cond0_1 i) :
    out0_C_10 c i a1 h1 a2 h2 a3 h3 a4 h4 a5 h5 a6 h6 a7 h7 a8 h8 a9 h9 a10 h10 a11 h11 a12 h12 hc0 hc1 x0 x1 x2 x3 x4 x5 xo xs = redStep x0 x1 x2 x3 x4 x5 xo := by
  unfold out0_C_10
  unfold kernelRun0_C
  dsimp only
  sl_unfold_words
  simp only [View.readAt_eq_ld, Memref.IsWhole.read_unread, View.ld_unit_zero (S := S1024x1024) hz, View.ld_unit_zero (S := S1x1024) hz, View.ld_unit_zero (S := S512x1024) hz, View.ld_unit_zero (S := S512x512) hz]
  rw [ld_row0, ld_row1]
  refine (read_rows a11.view _ _ _ _ _ _).trans ?_
  unfold redStep
  rw [View.writes_nil, h11.read_unread]
end Cert.Kernel2Ideal.OutCase

end
-- ==== Proof.OutFold.lean ====
/-
  The output projection's grid as a fold: what each step leaves in the three per-tile results, and the two buffers
  carried from one step to the next (the reduction rows and the weight-gradient accumulator).
-/
module

public import proofs.«01_k».proof.Proof.OutCase

@[expose] public section

noncomputable section

namespace Cert.Kernel2Ideal.OutFold

open Cert.Kernel2Ideal Cert.Kernel2Ideal.Gen Cert.Kernel2Ideal.OutCase Cert.Kernel2Ideal.Value
open Idealize.ShloMosaic Idealize.ShloMosaic.TcCoe Idealize.SL.Sem

variable {F : FTy → Type} [FloatOps F]
variable (m : (ℓ : Loc nD τ sig) → Buf (Elt F) ℓ) (c : Dev nD)

/-- The residual cotangent of tile `t`. -/
def tileD (t : Fin cfg0.N) : FVec F S512x1024 .f32 :=
  k0_pay13 (iblk m c 0 t) (iblk m c 1 t) (iblk m c 5 t) (iblk m c 4 t) (iblk m c 2 t) (iblk m c 3 t)

/-- The reduction rows after a step at tile `t`, over what they held before. -/
def tileRed (t : Fin cfg0.N) (Z : Vec F S8x1024 .f32) : Vec F S8x1024 .f32 :=
  redStep (iblk m c 0 t) (iblk m c 1 t) (iblk m c 2 t) (iblk m c 3 t) (iblk m c 4 t) (iblk m c 5 t) Z

/-- The weight-gradient accumulator after a step at tile `t`, over what it held before. -/
def tileAcc (t : Fin cfg0.N) (Z : Vec F S1024x1024 .f32) : FVec F S1024x1024 .f32 :=
  k0_pay6 (k0_pay10 (iblk m c 0 t) (iblk m c 1 t)) (iblk m c 4 t) (tileD m c t) Z

/-- The reduction rows after step `n`. -/
def redAt : (n : ℕ) → n < cfg0.N → Vec F S8x1024 .f32
  | 0, h => tileRed m c ⟨0, h⟩ k0_pay9
  | n + 1, h => tileRed m c ⟨n + 1, h⟩ (redAt n (Nat.lt_of_succ_lt h))

/-- The weight-gradient accumulator after step `n`. -/
def accAt : (n : ℕ) → n < cfg0.N → Vec F S1024x1024 .f32
  | 0, h => tileAcc m c ⟨0, h⟩ k0_pay8
  | n + 1, h => tileAcc m c ⟨n + 1, h⟩ (accAt n (Nat.lt_of_succ_lt h))

/-- Step `n` leaves the residual cotangent of its own tile. -/
theorem outs_6 (n : ℕ) (h : n < cfg0.N) : (outsAt0 m c n h).1 = tileD m c ⟨n, h⟩ := by
  have hN := lt_of_lt_of_eq h (show cfg0.N = 4 from N_0)
  by_cases h0 : n % 4 = 0
  · have h1 : ¬ n % 4 = 3 := by omega
    rw [outsAt0_A m c ⟨n, h⟩ h0 h1]; dsimp only [tileD]; rw [v_out0_A_6]
  · by_cases h1 : n % 4 = 3
    · rw [outsAt0_C m c ⟨n, h⟩ h0 h1]; dsimp only [tileD]; rw [v_out0_C_6]
    · rw [outsAt0_B m c ⟨n, h⟩ h0 h1]; dsimp only [tileD]; rw [v_out0_B_6]

/-- Step `n` leaves the first half of the mixer cotangent of its own tile. -/
theorem outs_7 (n : ℕ) (h : n < cfg0.N) : (outsAt0 m c n h).2.1 = k0_pay4 (iblk m c 4 ⟨n, h⟩) (tileD m c ⟨n, h⟩) (iblk m c 5 ⟨n, h⟩) := by
  have hN := lt_of_lt_of_eq h (show cfg0.N = 4 from N_0)
  by_cases h0 : n % 4 = 0
  · have h1 : ¬ n % 4 = 3 := by omega
    rw [outsAt0_A m c ⟨n, h⟩ h0 h1]; dsimp only [tileD]; rw [v_out0_A_7]
  · by_cases h1 : n % 4 = 3
    · rw [outsAt0_C m c ⟨n, h⟩ h0 h1]; dsimp only [tileD]; rw [v_out0_C_7]
    · rw [outsAt0_B m c ⟨n, h⟩ h0 h1]; dsimp only [tileD]; rw [v_out0_B_7]

/-- Step `n` leaves the second half of the mixer cotangent of its own tile. -/
theorem outs_8 (n : ℕ) (h : n < cfg0.N) : (outsAt0 m c n h).2.2.1 = k0_pay5 (iblk m c 4 ⟨n, h⟩) (tileD m c ⟨n, h⟩) (iblk m c 5 ⟨n, h⟩) := by
  have hN := lt_of_lt_of_eq h (show cfg0.N = 4 from N_0)
  by_cases h0 : n % 4 = 0
  · have h1 : ¬ n % 4 = 3 := by omega
    rw [outsAt0_A m c ⟨n, h⟩ h0 h1]; dsimp only [tileD]; rw [v_out0_A_8]
  · by_cases h1 : n % 4 = 3
    · rw [outsAt0_C m c ⟨n, h⟩ h0 h1]; dsimp only [tileD]; rw [v_out0_C_8]
    · rw [outsAt0_B m c ⟨n, h⟩ h0 h1]; dsimp only [tileD]; rw [v_out0_B_8]

/-- Step `n` leaves the reduction rows as the fold says. -/
theorem outs_red : ∀ (n : ℕ) (h : n < cfg0.N), (outsAt0 m c n h).2.2.2.2.1 = redAt m c n h
  | 0, h => by
    rw [outsAt0_A m c ⟨0, h⟩ (Nat.zero_mod 4) (by change ¬ 0 % 4 = 3; decide)]
    dsimp only [redAt, tileRed, tileD]; rw [v_out0_A_10]
  | n + 1, h => by
    have hN := lt_of_lt_of_eq h (show cfg0.N = 4 from N_0)
    have h0 : ¬(n + 1) % 4 = 0 := by omega
    have ih := outs_red n (Nat.lt_of_succ_lt h)
    by_cases h1 : (n + 1) % 4 = 3
    · rw [outsAt0_C m c ⟨n + 1, h⟩ h0 h1]
      dsimp only [redAt, tileRed, tileD]
      rw [v_out0_C_10, ← ih]; rfl
    · rw [outsAt0_B m c ⟨n + 1, h⟩ h0 h1]
      dsimp only [redAt, tileRed, tileD]
      rw [v_out0_B_10, ← ih]; rfl

/-- Step `n` leaves the weight-gradient accumulator as the fold says. -/
theorem outs_acc : ∀ (n : ℕ) (h : n < cfg0.N), (outsAt0 m c n h).2.2.2.2.2 = accAt m c n h
  | 0, h => by
    rw [outsAt0_A m c ⟨0, h⟩ (Nat.zero_mod 4) (by change ¬ 0 % 4 = 3; decide)]
    dsimp only [accAt, tileAcc, tileD]; rw [v_sout0_A]
  | n + 1, h => by
    have hN := lt_of_lt_of_eq h (show cfg0.N = 4 from N_0)
    have h0 : ¬(n + 1) % 4 = 0 := by omega
    have ih := outs_acc n (Nat.lt_of_succ_lt h)
    by_cases h1 : (n + 1) % 4 = 3
    · rw [outsAt0_C m c ⟨n + 1, h⟩ h0 h1]
      dsimp only [accAt, tileAcc, tileD]
      rw [v_sout0_C, ← ih]; rfl
    · rw [outsAt0_B m c ⟨n + 1, h⟩ h0 h1]
      dsimp only [accAt, tileAcc, tileD]
      rw [v_sout0_B, ← ih]; rfl

/-- The last step leaves the weight gradient: the accumulator rounded. -/
theorem outs_9 (h : 3 < cfg0.N) : (outsAt0 m c 3 h).2.2.2.1 = k0_pay7 (accAt m c 3 h) := by
  rw [outsAt0_C m c ⟨3, h⟩ (by change ¬ 3 % 4 = 0; decide) (by change 3 % 4 = 3; decide)]
  rw [show accAt m c 3 h = tileAcc m c ⟨3, h⟩ (accAt m c 2 (Nat.lt_of_succ_lt h)) from rfl, ← outs_acc]
  dsimp only [tileAcc, tileD]
  rw [v_out0_C_9]

/-- The residual cotangent's array, at an index: the tile that holds it. -/
theorem G6_apply (i : S2048x1024.Idx) (h : pt6Of i < cfg0.N) : G6 m c i = tileD m c ⟨pt6Of i, h⟩ (loc6Of i) := by
  unfold G6
  rw [dif_pos h, ← outsAt0_sweep, outs_6]

/-- The first half of the mixer cotangent, at an index. -/
theorem G7_apply (i : S2048x512.Idx) (h : pt7Of i < cfg0.N) :
    G7 m c i = k0_pay4 (iblk m c 4 ⟨pt7Of i, h⟩) (tileD m c ⟨pt7Of i, h⟩) (iblk m c 5 ⟨pt7Of i, h⟩) (loc7Of i) := by
  unfold G7
  rw [dif_pos h, ← outsAt0_sweep, outs_7]

/-- The second half of the mixer cotangent, at an index. -/
theorem G8_apply (i : S2048x512.Idx) (h : pt8Of i < cfg0.N) :
    G8 m c i = k0_pay5 (iblk m c 4 ⟨pt8Of i, h⟩) (tileD m c ⟨pt8Of i, h⟩) (iblk m c 5 ⟨pt8Of i, h⟩) (loc8Of i) := by
  unfold G8
  rw [dif_pos h, ← outsAt0_sweep, outs_8]

/-- The weight gradient's array. -/
theorem G9_eq (h : 3 < cfg0.N) : G9 m c = k0_pay7 (accAt m c 3 h) := by
  rw [G9_last, ← outsAt0_sweep, outs_9]

/-- The reduction rows' array. -/
theorem G10_eq (h : 3 < cfg0.N) : G10 m c = redAt m c 3 h := by
  rw [G10_last, ← outsAt0_sweep, outs_red]

end Cert.Kernel2Ideal.OutFold

end
-- ==== Proof.OutRead.lean ====
/-
  The output projection's arithmetic read at an index, over the ideal floats: the mixer row, the product, the residual
  error and its cotangent, once for the kernel's tiles.
-/
module

public import proofs.«01_k».proof.Proof.OutFold
public import Idealize.ShloMosaic.Lib.Pointwise

@[expose] public section

set_option maxRecDepth 16384

noncomputable section

namespace Cert.Kernel2Ideal.OutRead

open Cert.Kernel2Ideal Cert.Kernel2Ideal.Gen Cert.Kernel2Ideal.OutCase
open Idealize.ShloMosaic Idealize.ShloMosaic.TcCoe Idealize.SL.Sem

variable (b0 b1 : Vec Ideal S512x512 .bf16) (b2 b3 : Vec Ideal S512x1024 .f32) (g : Vec Ideal S1x1024 .f32)
  (w : Vec Ideal S1024x1024 .bf16)

/-- The mixer row of a tile. -/
theorem pay10_apply (r : Fin 512) (k : Fin 1024) :
    k0_pay10 b0 b1 (ix2 r k) = if h : k.val < 512 then b0 (ix2 r ⟨k.val, h⟩) else b1 (ix2 r ⟨k.val - 512, by omega⟩) := by
  pointwise [k0_pay10]

/-- The product of a tile. -/
theorem pay11_apply (r : Fin 512) (n : Fin 1024) :
    k0_pay11 b0 b1 w (ix2 r n) = ∑ k : Fin 1024, k0_pay10 b0 b1 (ix2 r k) * w (ix2 k n) := by
  pointwise [k0_pay11]

/-- The residual error of a tile. -/
theorem pay12_apply (r : Fin 512) (n : Fin 1024) :
    k0_pay12 b0 b1 w g b2 b3 (ix2 r n) = b2 (ix2 r n) + g (ix2 0 n) * k0_pay11 b0 b1 w (ix2 r n) - b3 (ix2 r n) := by
  pointwise [k0_pay12]

/-- The residual cotangent of a tile. -/
theorem pay13_apply (r : Fin 512) (n : Fin 1024) :
    k0_pay13 b0 b1 w g b2 b3 (ix2 r n) = k0_pay12 b0 b1 w g b2 b3 (ix2 r n) * Ideal.ofBits .f32 0x3A800000#32 := by
  pointwise [k0_pay13]

variable (d : Vec Ideal S512x1024 .f32)

/-- The first half of the mixer cotangent. -/
theorem pay4_apply (r : Fin 512) (k : Fin 512) :
    k0_pay4 g d w (ix2 r k) = ∑ n : Fin 1024, d (ix2 r n) * g (ix2 0 n) * w (ix2 ⟨k.val, by omega⟩ n) := by
  pointwise [k0_pay4, k0_pay3, k0_pay2]

/-- The second half of the mixer cotangent. -/
theorem pay5_apply (r : Fin 512) (k : Fin 512) :
    k0_pay5 g d w (ix2 r k) = ∑ n : Fin 1024, d (ix2 r n) * g (ix2 0 n) * w (ix2 ⟨512 + k.val, by omega⟩ n) := by
  pointwise [k0_pay5, k0_pay3, k0_pay2]

/-- The weight gradient's step. -/
theorem pay6_apply (v : Vec Ideal S512x1024 .bf16) (z : Vec Ideal S1024x1024 .f32) (k n : Fin 1024) :
    k0_pay6 v g d z (ix2 k n) = z (ix2 k n) + ∑ r : Fin 512, v (ix2 r k) * (d (ix2 r n) * g (ix2 0 n)) := by
  pointwise [k0_pay6, k0_pay2]

/-- The gate's row, a step. -/
theorem pay14_apply (z : Vec Ideal S1x1024 .f32) (n : Fin 1024) :
    k0_pay14 b0 b1 w g b2 b3 z (ix2 0 n) = z (ix2 0 n)
      + ∑ r : Fin 512, k0_pay13 b0 b1 w g b2 b3 (ix2 r n) * k0_pay11 b0 b1 w (ix2 r n) := by
  pointwise [k0_pay14]

/-- The squared error's column sums over a tile. -/
theorem pay16_apply (n : Fin 1024) :
    k0_pay16 b0 b1 w g b2 b3 (ix2 0 n)
      = ∑ r : Fin 512, k0_pay12 b0 b1 w g b2 b3 (ix2 r n) * k0_pay12 b0 b1 w g b2 b3 (ix2 r n) := by
  pointwise [k0_pay16]

/-- The weight gradient's rounding. -/
theorem pay7_apply (z : Vec Ideal S1024x1024 .f32) (k n : Fin 1024) : k0_pay7 z (ix2 k n) = z (ix2 k n) := by
  pointwise [k0_pay7]

/-- The weight gradient's start. -/
theorem pay8_apply (k n : Fin 1024) : (k0_pay8 (F := Ideal)) (ix2 k n) = 0 := by
  pointwise [k0_pay8]

/-- The reduction rows' start. -/
theorem pay9_apply (a : Fin 8) (n : Fin 1024) : (k0_pay9 (F := Ideal)) (ix2 a n) = 0 := by
  pointwise [k0_pay9]

end Cert.Kernel2Ideal.OutRead

end
-- ==== Proof.OutRef.lean ====
/-
  The reference of the output projection read at an index, over the ideal floats: each of its values as the plain
  formula, in the names of the values before it.
-/
module

public import proofs.«01_k».proof.Proof.Gen.Reference2Ideal.Read
public import Idealize.ShloMosaic.Lib.Pointwise

@[expose] public section

set_option maxRecDepth 16384

noncomputable section

namespace Cert.Reference2Ideal.OutRef

open Cert.Reference2Ideal Cert.Reference2Ideal.Read
open Idealize.ShloMosaic Idealize.ShloMosaic.TcCoe Idealize.SL.Sem

variable (x0 x1 : (⟨S2048x512, .bf16⟩ : BufTy).Contents (Elt Ideal))
  (x2 x3 : (⟨S2048x1024, .f32⟩ : BufTy).Contents (Elt Ideal)) (x4 : (⟨S1x1024, .f32⟩ : BufTy).Contents (Elt Ideal))
  (x5 : (⟨S1024x1024, .bf16⟩ : BufTy).Contents (Elt Ideal))

/-- The mixer row. -/
theorem mix (r : Fin 2048) (k : Fin 1024) :
    val_main_v3 (F := Ideal) x0 x1 (ix2 r k) = if h : k.val < 512 then x0 (ix2 r ⟨k.val, h⟩) else x1 (ix2 r ⟨k.val - 512, by omega⟩) := by
  pointwise [val_main_v3, val_main_v0, val_main_v1]

/-- The output projection. -/
theorem y (r : Fin 2048) (n : Fin 1024) :
    val_main_v4 (F := Ideal) x0 x1 x5 (ix2 r n) = ∑ k : Fin 1024, val_main_v3 (F := Ideal) x0 x1 (ix2 r k) * x5 (ix2 k n) := by
  pointwise [val_main_v4, val_main_v2]

/-- The residual error. -/
theorem err (r : Fin 2048) (n : Fin 1024) :
    val_main_v8 (F := Ideal) x0 x1 x2 x3 x4 x5 (ix2 r n) = x2 (ix2 r n) + x4 (ix2 0 n) * val_main_v4 (F := Ideal) x0 x1 x5 (ix2 r n) - x3 (ix2 r n) := by
  pointwise [val_main_v8, val_main_v7, val_main_v6, val_main_v5]

/-- Half over the width, times twice the error, is the error over the width. -/
theorem scale (e : EReal) :
    Ideal.div (Ideal.ofBits .f32 0x3F000000#32) (Ideal.ofBits .f32 0x44800000#32) * (Ideal.ofBits .f32 0x40000000#32 * e)
      = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, Ideal.div_coe (by norm_num), ← mul_assoc, ← EReal.coe_mul, ← EReal.coe_mul, mul_comm]
  congr 2; norm_num

/-- The residual cotangent: the error over the width. -/
theorem dy (r : Fin 2048) (n : Fin 1024) :
    val_main_v22 (F := Ideal) x0 x1 x2 x3 x4 x5 (ix2 r n) = val_main_v8 (F := Ideal) x0 x1 x2 x3 x4 x5 (ix2 r n) * Ideal.ofBits .f32 0x3A800000#32 := by
  pointwise [val_main_v22, val_main_v21, val_main_v20, val_main_v18, val_main_v17, val_main_v19, val_main_v11, val_main_v10, val_main_cst, val_main_cst_4, val_main_cst_5, val_main_cst_6]
  exact scale _

/-- The cotangent of the projection. -/
theorem dyg (r : Fin 2048) (n : Fin 1024) :
    val_main_v25 (F := Ideal) x0 x1 x2 x3 x4 x5 (ix2 r n) = x4 (ix2 0 n) * val_main_v22 (F := Ideal) x0 x1 x2 x3 x4 x5 (ix2 r n) := by
  pointwise [val_main_v25, val_main_v24]

/-- The first half of the mixer's cotangent. -/
theorem dmix_a (r : Fin 2048) (k : Fin 512) :
    val_main_v38 (F := Ideal) x0 x1 x2 x3 x4 x5 (ix2 r k) = ∑ n : Fin 1024, val_main_v25 (F := Ideal) x0 x1 x2 x3 x4 x5 (ix2 r n) * x5 (ix2 ⟨k.val, by omega⟩ n) := by
  pointwise [val_main_v38, val_main_v32, val_main_v31, val_main_v2]

/-- The second half of the mixer's cotangent. -/
theorem dmix_b (r : Fin 2048) (k : Fin 512) :
    val_main_v39 (F := Ideal) x0 x1 x2 x3 x4 x5 (ix2 r k) = ∑ n : Fin 1024, val_main_v25 (F := Ideal) x0 x1 x2 x3 x4 x5 (ix2 r n) * x5 (ix2 ⟨512 + k.val, by omega⟩ n) := by
  pointwise [val_main_v39, val_main_v33, val_main_v31, val_main_v2]

/-- The weight's gradient. -/
theorem dw (k n : Fin 1024) :
    val_main_v40 (F := Ideal) x0 x1 x2 x3 x4 x5 (ix2 k n) = ∑ r : Fin 2048, val_main_v25 (F := Ideal) x0 x1 x2 x3 x4 x5 (ix2 r n) * val_main_v3 (F := Ideal) x0 x1 (ix2 r k) := by
  pointwise [val_main_v40, val_main_v30, val_main_v29]

/-- The reduction rows: the gate's gradient, the squared error's column sums, six rows of zeros. -/
theorem red (a : Fin 8) (n : Fin 1024) :
    val_main_v37 (F := Ideal) x0 x1 x2 x3 x4 x5 (ix2 a n) = if a.val = 0 then ∑ r : Fin 2048, val_main_v22 (F := Ideal) x0 x1 x2 x3 x4 x5 (ix2 r n) * val_main_v4 (F := Ideal) x0 x1 x5 (ix2 r n)
      else if a.val = 1 then ∑ r : Fin 2048, val_main_v8 (F := Ideal) x0 x1 x2 x3 x4 x5 (ix2 r n) * val_main_v8 (F := Ideal) x0 x1 x2 x3 x4 x5 (ix2 r n) else 0 := by
  pointwise [val_main_v37, val_main_v28, val_main_v27, val_main_v26, val_main_v35, val_main_v34, val_main_v9, val_main_v36, val_main_cst_7, val_main_cst_8, val_main_cst_9]
  have ha := a.isLt
  by_cases h0 : a.val = 0
  · rw [dif_pos (by omega), if_pos h0]
  · by_cases h1 : a.val = 1
    · rw [dif_neg (by omega), dif_pos (by omega), if_neg h0, if_pos h1]
    · rw [dif_neg (by omega), dif_neg (by omega), if_neg h0, if_neg h1]

end Cert.Reference2Ideal.OutRef

end
-- ==== Proof.OutValue.lean ====
/-
  The output projection's five results are the reference's: the residual cotangent, the two halves of the mixer's
  cotangent, the weight gradient (four tiles of rows summed) and the reduction rows.
-/
module

public import proofs.«01_k».proof.Proof.OutRead
public import proofs.«01_k».proof.Proof.OutRef

@[expose] public section

set_option maxRecDepth 16384

noncomputable section

namespace Cert.Kernel2Ideal.OutValue

open Cert.Kernel2Ideal Cert.Kernel2Ideal.Gen Cert.Kernel2Ideal.OutCase Cert.Kernel2Ideal.OutFold Cert.Kernel2Ideal.OutRead
open Cert.Kernel2Ideal.Value Cert.Reference2Ideal.Read
open Idealize.ShloMosaic Idealize.ShloMosaic.TcCoe Idealize.SL.Sem

/-- Row `r` of tile `t`, among all the rows. -/
def row (t : Fin cfg0.N) (r : Fin 512) : Fin 2048 :=
  ⟨t.val * 512 + r.val, by have := lt_of_lt_of_eq t.isLt (show cfg0.N = 4 from N_0); omega⟩

section Blocks

variable {F : FTy → Type} [FloatOps F]
variable (m : (ℓ : Loc nD τ sig) → Buf (Elt F) ℓ) (c : Dev nD) (t : Fin cfg0.N)

/-- Window 0's block at tile `t`: the tile's rows of the argument. -/
theorem blk0 (r : Fin 512) (k : Fin 512) :
    (iblk m c 0 t : Vec F S512x512 .bf16) (ix2 r k) = m ((c : Thread nD τ).loc main_arg0) (ix2 (row t r) k) := by
  have hi : win0_0.index t 0 = t.val ∧ win0_0.index t 1 = 0 := by
    rcases fin_N0 t with rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- Window 1's block at tile `t`: the tile's rows of the argument. -/
theorem blk1 (r : Fin 512) (k : Fin 512) :
    (iblk m c 1 t : Vec F S512x512 .bf16) (ix2 r k) = m ((c : Thread nD τ).loc main_arg1) (ix2 (row t r) k) := by
  have hi : win0_1.index t 0 = t.val ∧ win0_1.index t 1 = 0 := by
    rcases fin_N0 t with rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val * 512 + r.val; rw [hi.1]; omega
  | ⟨1, _⟩ => show win0_1.index t 1 * 512 + 1 * k.val = k.val; rw [hi.2]; omega

/-- Window 2's block at tile `t`: the tile's rows of the argument. -/
theorem blk2 (r : Fin 512) (k : Fin 1024) :
    (iblk m c 2 t : Vec F S512x1024 .f32) (ix2 r k) = m ((c : Thread nD τ).loc main_arg2) (ix2 (row t r) k) := by
  have hi : win0_2.index t 0 = t.val ∧ win0_2.index t 1 = 0 := by
    rcases fin_N0 t with rfl | rfl | rfl | rfl <;> decide
  unfold iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [hi.1]; omega
  | ⟨1, _⟩ => show win0_2.index t 1 * 1024 + 1 * k.val = k.val; rw [hi.2]; omega

/-- Window 3's block at tile `t`: the tile's rows of the argument. -/
theorem blk3 (r : Fin 512) (k : Fin 1024) :
    (iblk m c 3 t : Vec F S512x1024 .f32) (ix2 r k) = m ((c : Thread nD τ).loc main_arg3) (ix2 (row t r) k) := by
  have hi : win0_3.index t 0 = t.val ∧ win0_3.index t 1 = 0 := by
    rcases fin_N0 t with rfl | rfl | rfl | rfl <;> decide
  unfold iblk
  rw [View.read_apply]
  show V m c main_arg3 _ = m (c.tc.loc main_arg3) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * k.val = k.val; rw [hi.2]; omega

/-- Window 4's block is the whole argument. -/
theorem blk4 : (iblk m c 4 t : Vec F S1x1024 .f32) = m ((c : Thread nD τ).loc main_arg4) := by
  have hi : win0_4.index t 0 = 0 ∧ win0_4.index t 1 = 0 := by
    rcases fin_N0 t with rfl | rfl | rfl | rfl <;> decide
  funext j
  unfold iblk
  rw [View.read_apply]
  show V m c main_arg4 _ = m (c.tc.loc main_arg4) _
  unfold V
  congr 1
  funext a
  apply Fin.ext
  match a with
  | ⟨0, _⟩ => show win0_4.index t 0 * 1 + 1 * (j 0).val = (j 0).val; rw [hi.1]; omega
  | ⟨1, _⟩ => show win0_4.index t 1 * 1024 + 1 * (j 1).val = (j 1).val; rw [hi.2]; omega

/-- Window 5's block is the whole argument. -/
theorem blk5 : (iblk m c 5 t : Vec F S1024x1024 .bf16) = m ((c : Thread nD τ).loc main_arg5) := by
  have hi : win0_5.index t 0 = 0 ∧ win0_5.index t 1 = 0 := by
    rcases fin_N0 t with rfl | rfl | rfl | rfl <;> decide
  funext j
  unfold iblk
  rw [View.read_apply]
  show V m c main_arg5 _ = m (c.tc.loc main_arg5) _
  unfold V
  congr 1
  funext a
  apply Fin.ext
  match a with
  | ⟨0, _⟩ => show win0_5.index t 0 * 1024 + 1 * (j 0).val = (j 0).val; rw [hi.1]; omega
  | ⟨1, _⟩ => show win0_5.index t 1 * 1024 + 1 * (j 1).val = (j 1).val; rw [hi.2]; omega

end Blocks

variable (m : (ℓ : Loc nD τ sig) → Buf (Elt Ideal) ℓ) (c : Dev nD)

/-- The reference's mixer rows at the kernel's arguments. -/
abbrev Mix : Vec Ideal S2048x1024 .f32 :=
  val_main_v3 (F := Ideal) (m ((c : Thread nD τ).loc main_arg0)) (m ((c : Thread nD τ).loc main_arg1))

/-- The reference's projection at the kernel's arguments. -/
abbrev Yv : Vec Ideal S2048x1024 .f32 :=
  val_main_v4 (F := Ideal) (m ((c : Thread nD τ).loc main_arg0)) (m ((c : Thread nD τ).loc main_arg1)) (m ((c : Thread nD τ).loc main_arg5))

/-- The reference's residual error at the kernel's arguments. -/
abbrev Err : Vec Ideal S2048x1024 .f32 :=
  val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's residual cotangent at the kernel's arguments. -/
abbrev Dy : Vec Ideal S2048x1024 .f32 :=
  val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's cotangent of the projection at the kernel's arguments. -/
abbrev Dyg : Vec Ideal S2048x1024 .f32 :=
  val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The gate. -/
abbrev Gv : Vec Ideal S1x1024 .f32 := m ((c : Thread nD τ).loc main_arg4)

/-- The residual stream. -/
abbrev Xv : Vec Ideal S2048x1024 .f32 := m ((c : Thread nD τ).loc main_arg2)

/-- The target. -/
abbrev Tv : Vec Ideal S2048x1024 .f32 := m ((c : Thread nD τ).loc main_arg3)

/-- The weight. -/
abbrev Wv : Vec Ideal S1024x1024 .bf16 := m ((c : Thread nD τ).loc main_arg5)

/-- The mixer rows at an index. -/
theorem Mix_apply (r : Fin 2048) (k : Fin 1024) : Mix m c (ix2 r k)
    = if h : k.val < 512 then (m ((c : Thread nD τ).loc main_arg0)) (ix2 r ⟨k.val, h⟩) else (m ((c : Thread nD τ).loc main_arg1)) (ix2 r ⟨k.val - 512, by omega⟩) :=
  Cert.Reference2Ideal.OutRef.mix _ _ r k

/-- The projection at an index. -/
theorem Yv_apply (r : Fin 2048) (n : Fin 1024) :
    Yv m c (ix2 r n) = ∑ k : Fin 1024, Mix m c (ix2 r k) * Wv m c (ix2 k n) :=
  Cert.Reference2Ideal.OutRef.y _ _ _ r n

/-- The residual error at an index. -/
theorem Err_apply (r : Fin 2048) (n : Fin 1024) : Err m c (ix2 r n)
    = Xv m c (ix2 r n) + Gv m c (ix2 0 n) * Yv m c (ix2 r n) - Tv m c (ix2 r n) :=
  Cert.Reference2Ideal.OutRef.err _ _ _ _ _ _ r n

/-- The residual cotangent at an index. -/
theorem Dy_apply (r : Fin 2048) (n : Fin 1024) :
    Dy m c (ix2 r n) = Err m c (ix2 r n) * Ideal.ofBits .f32 0x3A800000#32 :=
  Cert.Reference2Ideal.OutRef.dy _ _ _ _ _ _ r n

/-- The cotangent of the projection at an index. -/
theorem Dyg_apply (r : Fin 2048) (n : Fin 1024) :
    Dyg m c (ix2 r n) = Gv m c (ix2 0 n) * Dy m c (ix2 r n) :=
  Cert.Reference2Ideal.OutRef.dyg _ _ _ _ _ _ r n

variable (t : Fin cfg0.N)

/-- A tile's mixer rows. -/
theorem tile_mix (r : Fin 512) (k : Fin 1024) :
    k0_pay10 (iblk m c 0 t) (iblk m c 1 t) (ix2 r k) = Mix m c (ix2 (row t r) k) := by
  rw [pay10_apply, Mix_apply]
  by_cases h : k.val < 512
  · rw [dif_pos h, dif_pos h]; exact blk0 m c t r ⟨k.val, h⟩
  · rw [dif_neg h, dif_neg h]; exact blk1 m c t r ⟨k.val - 512, by omega⟩

/-- A tile's projection. -/
theorem tile_y (r : Fin 512) (n : Fin 1024) :
    k0_pay11 (iblk m c 0 t) (iblk m c 1 t) (iblk m c 5 t) (ix2 r n)
      = Yv m c (ix2 (row t r) n) := by
  rw [pay11_apply, Yv_apply, blk5]
  exact Finset.sum_congr rfl fun k _ => by rw [tile_mix]

/-- A tile's residual error. -/
theorem tile_err (r : Fin 512) (n : Fin 1024) :
    k0_pay12 (iblk m c 0 t) (iblk m c 1 t) (iblk m c 5 t) (iblk m c 4 t) (iblk m c 2 t) (iblk m c 3 t) (ix2 r n)
      = Err m c (ix2 (row t r) n) := by
  rw [pay12_apply, Err_apply, tile_y, blk4, blk2, blk3]

/-- A tile's residual cotangent. -/
theorem tile_dy (r : Fin 512) (n : Fin 1024) :
    tileD m c t (ix2 r n) = Dy m c (ix2 (row t r) n) := by
  unfold tileD
  rw [pay13_apply, Dy_apply, tile_err]

/-- A tile's cotangent of the projection. -/
theorem tile_dyg (r : Fin 512) (n : Fin 1024) :
    tileD m c t (ix2 r n) * Gv m c (ix2 0 n) = Dyg m c (ix2 (row t r) n) := by
  rw [tile_dy, Dyg_apply, mul_comm]

/-- An index of an array of 2048 rows: its tile and its row in the tile. -/
theorem row_split (a : Fin 2048) (h : a.val / 512 < cfg0.N) : row ⟨a.val / 512, h⟩ ⟨a.val % 512, by omega⟩ = a := by
  apply Fin.ext; show a.val / 512 * 512 + a.val % 512 = a.val; omega

/-- One step of the weight gradient. -/
theorem tileAcc_apply (Z : Vec Ideal S1024x1024 .f32) (k n : Fin 1024) :
    tileAcc m c t Z (ix2 k n) = Z (ix2 k n) + ∑ r : Fin 512,
      Dyg m c (ix2 (row t r) n) * Mix m c (ix2 (row t r) k) := by
  unfold tileAcc
  rw [pay6_apply]
  refine congrArg (Z (ix2 k n) + ·) (Finset.sum_congr rfl fun r _ => ?_)
  rw [tile_mix, blk4, tile_dyg, mul_comm]

/-- One step of the reduction rows. -/
theorem tileRed_apply (Z : Vec Ideal S8x1024 .f32) (a : Fin 8) (n : Fin 1024) :
    tileRed m c t Z (ix2 a n) = if a.val = 0 then Z (ix2 a n) + ∑ r : Fin 512,
        Dy m c (ix2 (row t r) n) * Yv m c (ix2 (row t r) n)
      else if a.val = 1 then Z (ix2 a n) + ∑ r : Fin 512,
        Err m c (ix2 (row t r) n) * Err m c (ix2 (row t r) n)
      else Z (ix2 a n) := by
  unfold tileRed redStep rowsOver
  show (if a.val = 0 then _ else if a.val = 1 then _ else _) = _
  split_ifs with h0 h1
  · obtain rfl : a = 0 := Fin.ext h0
    refine (pay14_apply ..).trans ?_
    refine congrArg₂ (· + ·) rfl (Finset.sum_congr rfl fun r _ => ?_)
    exact congrArg₂ (· * ·) (tile_dy m c t r n) (tile_y m c t r n)
  · obtain rfl : a = 1 := Fin.ext h1
    refine congrArg₂ (· + ·) ?_ ((pay16_apply ..).trans (Finset.sum_congr rfl fun r _ => ?_))
    · pointwise [k0_pay15]; rfl
    · exact congrArg₂ (· * ·) (tile_err m c t r n) (tile_err m c t r n)
  · rfl

/-- A sum over all the rows, tile by tile. -/
theorem sum_rows (f : Fin 2048 → EReal) (h3 : 3 < cfg0.N) :
    ∑ r : Fin 2048, f r = (((0 + ∑ r : Fin 512, f (row ⟨0, by omega⟩ r)) + ∑ r : Fin 512, f (row ⟨1, by omega⟩ r))
      + ∑ r : Fin 512, f (row ⟨2, by omega⟩ r)) + ∑ r : Fin 512, f (row ⟨3, h3⟩ r) := by
  rw [Fin.sum_univ_tiles 4 512 (by norm_num) f, Fin.sum_univ_four, zero_add]
  rfl

/-- The residual cotangent is the reference's. -/
theorem value6 : G6 m c = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  have hN : i0.val / 512 < cfg0.N := lt_of_lt_of_eq (by omega) (show cfg0.N = 4 from N_0).symm
  have hp : pt6Of (ix2 i0 i1) = i0.val / 512 := by
    show 1 * (i0.val / 512 - 0) + 1 * (i1.val / 1024 - 0) = _; omega
  have hl : loc6Of (ix2 i0 i1) = ix2 (⟨i0.val % 512, by omega⟩ : Fin 512) i1 := by
    funext a
    match a with
    | ⟨0, _⟩ => rfl
    | ⟨1, _⟩ => exact Fin.ext (show i1.val % 1024 = i1.val by omega)
  have ht : (⟨pt6Of (ix2 i0 i1), hp ▸ hN⟩ : Fin cfg0.N) = ⟨i0.val / 512, hN⟩ := Fin.ext hp
  rw [G6_apply m c _ (hp ▸ hN), hl, ht, tile_dy, row_split]

/-- The first half of the mixer's cotangent is the reference's. -/
theorem value7 : G7 m c = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  have hN : i0.val / 512 < cfg0.N := lt_of_lt_of_eq (by omega) (show cfg0.N = 4 from N_0).symm
  have hp : pt7Of (ix2 i0 i1) = i0.val / 512 := by
    show 1 * (i0.val / 512 - 0) + 1 * (i1.val / 512 - 0) = _; omega
  have hl : loc7Of (ix2 i0 i1) = ix2 (⟨i0.val % 512, by omega⟩ : Fin 512) i1 := by
    funext a
    match a with
    | ⟨0, _⟩ => rfl
    | ⟨1, _⟩ => exact Fin.ext (show i1.val % 512 = i1.val by omega)
  have ht : (⟨pt7Of (ix2 i0 i1), hp ▸ hN⟩ : Fin cfg0.N) = ⟨i0.val / 512, hN⟩ := Fin.ext hp
  rw [G7_apply m c _ (hp ▸ hN), hl, ht, blk5, blk4]
  refine (pay4_apply ..).trans (Eq.trans ?_ (Cert.Reference2Ideal.OutRef.dmix_a ..).symm)
  exact Finset.sum_congr rfl fun n _ => congrArg (· * _) ((tile_dyg ..).trans (by rw [row_split]))

/-- The second half of the mixer's cotangent is the reference's. -/
theorem value8 : G8 m c = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  have hN : i0.val / 512 < cfg0.N := lt_of_lt_of_eq (by omega) (show cfg0.N = 4 from N_0).symm
  have hp : pt8Of (ix2 i0 i1) = i0.val / 512 := by
    show 1 * (i0.val / 512 - 0) + 1 * (i1.val / 512 - 0) = _; omega
  have hl : loc8Of (ix2 i0 i1) = ix2 (⟨i0.val % 512, by omega⟩ : Fin 512) i1 := by
    funext a
    match a with
    | ⟨0, _⟩ => rfl
    | ⟨1, _⟩ => exact Fin.ext (show i1.val % 512 = i1.val by omega)
  have ht : (⟨pt8Of (ix2 i0 i1), hp ▸ hN⟩ : Fin cfg0.N) = ⟨i0.val / 512, hN⟩ := Fin.ext hp
  rw [G8_apply m c _ (hp ▸ hN), hl, ht, blk5, blk4]
  refine (pay5_apply ..).trans (Eq.trans ?_ (Cert.Reference2Ideal.OutRef.dmix_b ..).symm)
  exact Finset.sum_congr rfl fun n _ => congrArg (· * _) ((tile_dyg ..).trans (by rw [row_split]))

/-- The weight gradient is the reference's. -/
theorem value9 : G9 m c = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h3 : 3 < cfg0.N := by rw [show cfg0.N = 4 from N_0]; omega
  rw [G9_eq m c h3]
  funext i
  idx_vars i
  refine (pay7_apply ..).trans (Eq.trans ?_ (Cert.Reference2Ideal.OutRef.dw ..).symm)
  refine Eq.trans ?_ (sum_rows (fun r => Dyg m c (ix2 r i1) * Mix m c (ix2 r i0)) h3).symm
  simp only [OutFold.accAt, tileAcc_apply, pay8_apply]

/-- The reduction rows are the reference's. -/
theorem value10 : G10 m c = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h3 : 3 < cfg0.N := by rw [show cfg0.N = 4 from N_0]; omega
  rw [G10_eq m c h3]
  funext i
  idx_vars i
  refine Eq.trans ?_ (Cert.Reference2Ideal.OutRef.red ..).symm
  have e0 := sum_rows (fun r => Dy m c (ix2 r i1) * Yv m c (ix2 r i1)) h3
  have e1 := sum_rows (fun r => Err m c (ix2 r i1) * Err m c (ix2 r i1)) h3
  simp only [OutFold.redAt, tileRed_apply, pay9_apply]
  split_ifs
  · exact e0.symm
  · exact e1.symm
  · rfl

end Cert.Kernel2Ideal.OutValue

end
-- ==== Proof.OutClaim.lean ====
/-
  The claims about the output projection: it runs and keeps its arguments, and its five results are the reference's.
-/
module

public import proofs.«01_k».proof.Defs
public import proofs.«01_k».proof.Proof.Gen.Kernel2.Frame
public import proofs.«01_k».proof.Proof.Gen.Reference2Ideal.Run
public import proofs.«01_k».proof.Proof.OutValue

@[expose] public section

namespace Cert.Proof

open Idealize.ShloMosaic Idealize.ShloMosaic.TcCoe Idealize.SL.Sem

/-- The output projection runs, at the machine's floats: it ends, keeps its arguments and leaves every counter at zero. -/
theorem out_frame : Cert.quiescent_Kernel2 := fun m ρ _ => Cert.Kernel2.Gen.frame m ρ

/-- The same at the ideal floats. -/
theorem out_frame_ideal : Cert.quiescent_Kernel2Ideal := fun m ρ _ => Cert.Kernel2Ideal.Gen.frame m ρ

/-- The reference runs and keeps its arguments; it declares no semaphore. -/
theorem out_frame_ref : Cert.quiescent_Reference2Ideal := fun m ρ _ =>
  (θ_run Cert.Reference2Ideal.defs _ _).mono (fun r h => ⟨fun c => (h c).2.2.2.2.2,
      Idealize.ShloMosaic.sem_eq_zero_of_no_sems (by decide) r.2⟩)
    (Cert.Reference2Ideal.Value.run (F := Ideal) m ρ)

/-- No operation was rewritten. -/
theorem out_preserves : Cert.preserves_Kernel2_Kernel2Ideal := trivial

/-- The output projection's results are the reference's, over the ideal floats. -/
theorem out_algebraic : Cert.algebraic_Kernel2Ideal_Reference2Ideal := by
  intro m ρ m' ρ' _ ha
  refine ⟨fun c => Cert.Kernel2Ideal.Value.G6 m c, fun c => Cert.Kernel2Ideal.Value.G7 m c,
    fun c => Cert.Kernel2Ideal.Value.G8 m c, fun c => Cert.Kernel2Ideal.Value.G9 m c,
    fun c => Cert.Kernel2Ideal.Value.G10 m c, Cert.Kernel2Ideal.Value.run m ρ,
    (θ_run Cert.Reference2Ideal.defs _ _).mono (fun r h c => ?_) (Cert.Reference2Ideal.Value.run (F := Ideal) m' ρ')⟩
  obtain ⟨h22, h38, h39, h40, h37, hargs⟩ := h c
  obtain ⟨a0, a1, a2, a3, a4, a5⟩ := ha c
  rw [Cert.Reference2Ideal.Read.val_main_v22_eq] at h22
  rw [Cert.Reference2Ideal.Read.val_main_v38_eq] at h38
  rw [Cert.Reference2Ideal.Read.val_main_v39_eq] at h39
  rw [Cert.Reference2Ideal.Read.val_main_v40_eq] at h40
  rw [Cert.Reference2Ideal.Read.val_main_v37_eq] at h37
  rw [a0, a1, a2, a3, a4, a5] at h22 h38 h39 h40 h37
  exact ⟨h22.trans (Cert.Kernel2Ideal.OutValue.value6 m c).symm, h38.trans (Cert.Kernel2Ideal.OutValue.value7 m c).symm,
    h39.trans (Cert.Kernel2Ideal.OutValue.value8 m c).symm, h40.trans (Cert.Kernel2Ideal.OutValue.value9 m c).symm,
    h37.trans (Cert.Kernel2Ideal.OutValue.value10 m c).symm, hargs⟩

end Cert.Proof

end
-- ==== Proof.ConvSlab.lean ====
/-
  The blocks of 512 rows in which the kernel sends its three large results to HBM while it goes on computing: the rows
  of a block are written in vector memory by two trips of a loop, the second of which issues the block's transfer on
  the block's own semaphore; the transfer is waited for after the loops. Here is what is held of one block before a
  trip, how a transfer is issued out of it, and how the four blocks of a buffer are dealt and put together again.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Exec
public import Idealize.ShloMosaic.Lib.WritesUnit
public import Idealize.ShloMosaic.Lib.Transfers
public import Idealize.ShloMosaic.Lib.Pipeline.FrameValue

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters of the transfers the kernel issues itself. -/
abbrev EC : UEmb Counters 𝕄 := countersEmb (U := Pipeline.UD sig nD τ)

/-- Rows `512 m` to `512 m + 511` of a (2048, 512) buffer. -/
abbrev slab (m : ℕ) (hm : m < 4) : Rect S2048x512 :=
  Rect.unit (s := S2048x512) ![512 * m, 0] S512x512.size (by intro a; fin_cases a <;> simp [S512x512] <;> omega)

/-- An index lies in block `m` when its row does. -/
theorem mem_slab {m : ℕ} {hm : m < 4} {i : S2048x512.Idx} :
    i ∈ (slab m hm).set ↔ 512 * m ≤ (i 0).val ∧ (i 0).val < 512 * m + 512 := by
  rw [Rect.mem_set_unit, Fin.forall_fin_two]
  have h1 : (i 1).val < 512 := (i 1).isLt
  constructor
  · rintro ⟨h, -⟩; exact h
  · intro h; exact ⟨h, Nat.zero_le _, by simpa [S512x512] using h1⟩

/-- Contents known to be `G` at the indices `P` are, after a store of `G`'s own values at a rectangle, `G` at the
    indices `P` and at the rectangle's. -/
theorem store_extends {κ : Kind} {sp : Space} {s : Shape} {e : EltTy} (v : View sig κ sp s e) (f : BufTy.Contents (Elt F) v.ty)
    (r : Rect s) (w : r.shape.Idx → Elt F e) (G : s.Idx → Elt F e) (P : s.Idx → Prop)
    (hP : ∀ i, P i → v.read (Elt F) f i = G i) (hw : ∀ x, w x = G (r.emb x)) (i : s.Idx) (hi : P i ∨ i ∈ r.set) :
    v.read (Elt F) (v.writes (Elt F) f [⟨r, w⟩]) i = G i := by
  show v.read (Elt F) ((v.slice r).write (Elt F) f w Finset.univ) i = G i
  by_cases h : i ∈ r.set
  · rw [← Rect.map_emb_univ, Finset.mem_map] at h
    obtain ⟨x, -, rfl⟩ := h
    rw [View.read_slice_write_emb (v := v) (Val := Elt F) _ _ _ (Finset.mem_univ x), hw]
  · rw [View.read_slice_write_of_not_mem (v := v) (Val := Elt F) _ _ _ _ (by rw [Rect.map_emb_univ]; exact h)]
    exact hP i (hi.resolve_right h)

/-- Membership in a run of whole rows: the row says it. -/
theorem mem_rows {R W : ℕ} {off : Fin 2 → ℕ} {o : ℕ} (hoff : off = ![o, 0])
    {inb : ∀ a : Fin 2, off a + (![W, 512] : Fin 2 → ℕ) a ≤ (![R, 512] : Fin 2 → ℕ) a} {i : (⟨2, ![R, 512]⟩ : Shape).Idx} :
    i ∈ (Rect.unit (s := ⟨2, ![R, 512]⟩) off (![W, 512] : Fin 2 → ℕ) inb).set ↔ o ≤ (i 0).val ∧ (i 0).val < o + W := by
  subst hoff
  rw [Rect.mem_set_unit, Fin.forall_fin_two]
  have h1 : (i 1).val < 512 := (i 1).isLt
  constructor
  · rintro ⟨h, -⟩; exact h
  · intro h; exact ⟨h, Nat.zero_le _, by simpa using h1⟩

/-- The rows of a trip in a (2048, 512) buffer. -/
theorem mem_rows_2048 {off : Fin 2 → ℕ} {o : ℕ} (hoff : off = ![o, 0]) {inb : ∀ a, off a + S256x512.size a ≤ S2048x512.size a}
    {i : S2048x512.Idx} :
    i ∈ (Rect.unit (s := S2048x512) off S256x512.size inb).set ↔ o ≤ (i 0).val ∧ (i 0).val < o + 256 :=
  mem_rows (R := 2048) (W := 256) hoff

/-- The rows of a trip in a (2080, 512) buffer. -/
theorem mem_rows_2080 {off : Fin 2 → ℕ} {o : ℕ} (hoff : off = ![o, 0]) {inb : ∀ a, off a + S256x512.size a ≤ S2080x512.size a}
    {i : S2080x512.Idx} :
    i ∈ (Rect.unit (s := S2080x512) off S256x512.size inb).set ↔ o ≤ (i 0).val ∧ (i 0).val < o + 256 :=
  mem_rows (R := 2080) (W := 256) hoff

/-- Rows written before stay as they are and the trip's own rows become `G`'s. -/
theorem store_rows {κ : Kind} {sp : Space} {e : EltTy} (v : View sig κ sp S2048x512 e) (f : BufTy.Contents (Elt F) v.ty)
    {off : Fin 2 → ℕ} {o : ℕ} (hoff : off = ![o, 0]) (inb : ∀ a, off a + S256x512.size a ≤ S2048x512.size a)
    (w : S256x512.Idx → Elt F e) (G : S2048x512.Idx → Elt F e) (B : Finset S2048x512.Idx)
    (hP : ∀ i ∈ B, (i 0).val < o → v.read (Elt F) f i = G i)
    (hw : ∀ x : S256x512.Idx, w x = G ((Rect.unit (s := S2048x512) off S256x512.size inb).emb x)) :
    ∀ i ∈ B, (i 0).val < o + 256 →
      v.read (Elt F) (v.writes (Elt F) f [⟨Rect.unit (s := S2048x512) off S256x512.size inb, w⟩]) i = G i := by
  intro i hi hlt
  refine store_extends v f (Rect.unit (s := S2048x512) off S256x512.size inb) w G (fun i => i ∈ B ∧ (i 0).val < o)
    (fun i h => hP i h.1 h.2) hw i ?_
  by_cases hlo : (i 0).val < o
  · exact Or.inl ⟨hi, hlo⟩
  · exact Or.inr ((mem_rows_2048 hoff).mpr ⟨Nat.le_of_not_lt hlo, hlt⟩)

/-- The words of a transfer into a block addressed by a computed offset are those of the block the offset says. -/
theorem amount_eq (dst : Memref sig .tc .hbm S2048x512 .bf16) {sem : DmaSem sig} {N m : ℕ} {hm : m < 4}
    {off : Fin 2 → ℕ} {inb : ∀ a, off a + S512x512.size a ≤ S2048x512.size a} (hoff : off = ![512 * m, 0]) (h2)
    (hN : ∀ h2, ((dst.slice (slab m hm) h2).view.amount (.dma sem)) = N) :
    ((dst.slice (Rect.unit (s := S2048x512) off S512x512.size inb) h2).view.amount (.dma sem)) = N := by
  subst hoff; exact hN h2

section

variable (c : Dev nD) (src : Memref sig .tc .vmem S2048x512 .bf16) (dst : Memref sig .tc .hbm S2048x512 .bf16)
variable (G : S2048x512.Idx → Elt F .bf16)

/-- Block `m` after its transfer: the destination holds `G` there, the source is held at some contents. -/
def Done (m : ℕ) (hm : m < 4) : sProp 𝕄 :=
  iprop(∃ (f : BufTy.Contents (Elt F) src.view.ty) (fd : BufTy.Contents (Elt F) dst.view.ty),
    (src.view.loc (c : Thread nD τ) ↦[src.view.setOn (slab m hm).set]{fullShare} f)
    ∗ (dst.view.loc (c : Thread nD τ) ↦[dst.view.setOn (slab m hm).set]{fullShare} fd)
    ∗ ⌜∀ i ∈ (slab m hm).set, dst.view.read (Elt F) fd i = G i⌝)

/-- Block `m` before its transfer is issued, the rows before row `n` written: they hold `G`. -/
def Filling (sem : DmaSem sig) (n m : ℕ) (hm : m < 4) : sProp 𝕄 :=
  iprop(∃ (f : BufTy.Contents (Elt F) src.view.ty) (fd : BufTy.Contents (Elt F) dst.view.ty),
    (src.view.loc (c : Thread nD τ) ↦[src.view.setOn (slab m hm).set]{fullShare} f)
    ∗ (dst.view.loc (c : Thread nD τ) ↦[dst.view.setOn (slab m hm).set]{fullShare} fd)
    ∗ semVal ((c : Thread nD τ), SemLoc.dma sem) 0
    ∗ ⌜∀ i ∈ (slab m hm).set, (i 0).val < n → src.view.read (Elt F) f i = G i⌝)

/-- Block `m` before trip `k`: its transfer in flight when both its trips are done, else being filled. -/
def Block (sem : DmaSem sig) (N k m : ℕ) (hm : m < 4) : sProp 𝕄 :=
  if 2 * m + 2 ≤ k then Transfers.Flight EC (c : Thread nD τ) (.dma sem) () N (Done c src dst G m hm)
  else Filling c src dst G sem (256 * k) m hm

theorem block_flight {sem : DmaSem sig} {N k m : ℕ} {hm : m < 4} (h : 2 * m + 2 ≤ k) :
    Block c src dst G sem N k m hm
      = Transfers.Flight EC (c : Thread nD τ) (.dma sem) () N (Done c src dst G m hm) := if_pos h

theorem block_filling {sem : DmaSem sig} {N k m : ℕ} {hm : m < 4} (h : ¬ 2 * m + 2 ≤ k) :
    Block c src dst G sem N k m hm = Filling c src dst G sem (256 * k) m hm := if_neg h

/-- A block that trip `k` does not touch is the same after it. -/
theorem block_succ {sem : DmaSem sig} {N k m : ℕ} {hm : m < 4} (h : m ≠ k / 2) :
    Block c src dst G sem N k m hm ⊢ Block c src dst G sem N (k + 1) m hm := by
  by_cases h1 : 2 * m + 2 ≤ k
  · rw [block_flight _ _ _ _ h1, block_flight _ _ _ _ (by omega)]
  · rw [block_filling _ _ _ _ h1, block_filling _ _ _ _ (by omega)]
    unfold Filling
    iintro ⟨%f, %fd, H1, H2, H3, %hf⟩
    iexists f; iexists fd
    isplitl [H1]; · iexact H1
    isplitl [H2]; · iexact H2
    isplitl [H3]; · iexact H3
    ipureintro
    intro i hi hlt
    have := mem_slab.mp hi
    exact hf i hi (by omega)

/-- The transfer of a filled block is issued: what is then held is the flight, which delivers the block done. -/
theorem issue (𝒱 : Variants) (bd : Option 𝒱.V) {α : Type} {sem : DmaSem sig} {N n m : ℕ} {hm : m < 4} (hn : 512 * m + 512 ≤ n)
    {off : Fin 2 → ℕ} {inb : ∀ a, off a + S512x512.size a ≤ S2048x512.size a} (hoff : off = ![512 * m, 0])
    {h1 h2} {sm : SemLoc sig} (hsm : sm = .dma sem)
    (hN : ((dst.slice (Rect.unit (s := S2048x512) off S512x512.size inb) h2).view.amount (.dma sem)) = N) (hN0 : 0 < N)
    {hsrc : (src.slice (Rect.unit (s := S2048x512) off S512x512.size inb) h1).view.WordExact}
    {hdst : (dst.slice (Rect.unit (s := S2048x512) off S512x512.size inb) h2).view.WordExact}
    {hsem : (DmaTarget.here (dst.slice (Rect.unit (s := S2048x512) off S512x512.size inb) h2) :
      DmaTarget nD τ sig (Proc.tc : Proc τ) .hbm S512x512 .bf16).Typed .vmem sm}
    {k : PUnit → Prog (TpuEff nD τ sig (Elt F) Λ₀ .tc) α} {Q : α → sProp 𝕄} :
    Filling c src dst G sem n m hm
      ⊢ iprop((Transfers.Flight EC (c : Thread nD τ) (.dma sem) () N (Done c src dst G m hm)
            -∗ wp frame (wpE (defs₀ (F := F)) 𝒱 (c : Thread nD τ) bd) Set.univ (k ⟨⟩) Q)
          -∗ wp frame (wpE (defs₀ (F := F)) 𝒱 (c : Thread nD τ) bd) Set.univ
            (.op (.enqueueDmaAs (src.slice (Rect.unit (s := S2048x512) off S512x512.size inb) h1)
              (.here (dst.slice (Rect.unit (s := S2048x512) off S512x512.size inb) h2)) .same sm hsrc hdst hsem) k) Q) := by
  subst hoff hsm
  unfold Filling
  iintro ⟨%f, %fd, H1, H2, H3, %hf⟩ Hk
  iapply (Transfers.wp_dmaLocal EC 𝒱 (c : Thread nD τ) bd
    (src := src.slice (slab m hm) h1) (dst := dst.slice (slab m hm) h2) (fs := f) (fd := fd) (q := fullShare)
    (Sd := dst.view.setOn (slab m hm).set) () N hN hN0 ?_) $$ [H1 H2 H3] [Hk]
  · exact (View.set_slice _ _).subset
  · isplitl [H1]
    · rw [show (src.slice (slab m hm) h1).view.set = src.view.setOn (slab m hm).set from View.set_slice _ _]
      iexact H1
    isplitl [H2]
    · iexact H2
    iexact H3
  · iintro HF
    iapply Hk
    iapply (Transfers.Flight_mono (D' := Done c src dst G m hm) ?_) $$ HF
    iintro ⟨Hd, Hs⟩
    unfold Done
    iexists f
    iexists _
    isplitl [Hs]
    · rw [← show (src.slice (slab m hm) h1).view.set = src.view.setOn (slab m hm).set from View.set_slice _ _]
      iexact Hs
    isplitl [Hd]; · iexact Hd
    ipureintro
    intro i hi
    have hrow := mem_slab.mp hi
    have hfi := hf i hi (by omega)
    rw [← Rect.map_emb_univ, Finset.mem_map] at hi
    obtain ⟨x, -, rfl⟩ := hi
    rw [← hfi]
    exact View.read_slice_write_emb (v := dst.view) (Val := Elt F) _ _ _ (Finset.mem_univ x)

end

/-- Entry `m` of an array of four semaphores. -/
abbrev sem4 (a : DmaSems sig S4) (m : ℕ) (hm : m < 4) : DmaSem sig :=
  ((a.slice (Rect.unit (s := S4) ![m] S1.size (by intro a; fin_cases a; simp [S1]; omega))).squeeze S_ squeezes_S1_S_).sem

/-- An entry addressed by a computed offset is the entry the offset says. -/
theorem sem4_eq (a : DmaSems sig S4) {m : ℕ} (hm : m < 4) {off : Fin 1 → ℕ}
    (inb : ∀ a, off a + S1.size a ≤ S4.size a) (hoff : off = ![m]) :
    ((a.slice (Rect.unit (s := S4) off S1.size inb)).squeeze S_ squeezes_S1_S_).sem = sem4 a m hm := by
  subst hoff; rfl

/-- The four blocks of a buffer before trip `k`. -/
def Blocks (c : Dev nD) (src : Memref sig .tc .vmem S2048x512 .bf16) (dst : Memref sig .tc .hbm S2048x512 .bf16)
    (G : S2048x512.Idx → Elt F .bf16) (sems : DmaSems sig S4) (N k : ℕ) : sProp 𝕄 :=
  iprop(Block c src dst G (sem4 sems 0 (by decide)) N k 0 (by decide)
    ∗ Block c src dst G (sem4 sems 1 (by decide)) N k 1 (by decide)
    ∗ Block c src dst G (sem4 sems 2 (by decide)) N k 2 (by decide)
    ∗ Block c src dst G (sem4 sems 3 (by decide)) N k 3 (by decide))

/-- Trip `k` takes its own block out of the four and puts it back one trip further; the others follow. -/
theorem blocks_take (c : Dev nD) (src : Memref sig .tc .vmem S2048x512 .bf16) (dst : Memref sig .tc .hbm S2048x512 .bf16)
    (G : S2048x512.Idx → Elt F .bf16) (sems : DmaSems sig S4) (N k m : ℕ) (hm : m < 4) (hk : m = k / 2) :
    Blocks c src dst G sems N k
      ⊢ iprop(Block c src dst G (sem4 sems m hm) N k m hm
          ∗ (Block c src dst G (sem4 sems m hm) N (k + 1) m hm -∗ Blocks c src dst G sems N (k + 1))) := by
  unfold Blocks
  iintro ⟨H0, H1, H2, H3⟩
  rcases (by omega : m = 0 ∨ m = 1 ∨ m = 2 ∨ m = 3) with rfl | rfl | rfl | rfl
  · isplitl [H0]; · iexact H0
    iintro H0
    isplitl [H0]; · iexact H0
    isplitl [H1]; · iapply (block_succ c src dst G (by omega)); iexact H1
    isplitl [H2]; · iapply (block_succ c src dst G (by omega)); iexact H2
    iapply (block_succ c src dst G (by omega)); iexact H3
  · isplitl [H1]; · iexact H1
    iintro H1
    isplitl [H0]; · iapply (block_succ c src dst G (by omega)); iexact H0
    isplitl [H1]; · iexact H1
    isplitl [H2]; · iapply (block_succ c src dst G (by omega)); iexact H2
    iapply (block_succ c src dst G (by omega)); iexact H3
  · isplitl [H2]; · iexact H2
    iintro H2
    isplitl [H0]; · iapply (block_succ c src dst G (by omega)); iexact H0
    isplitl [H1]; · iapply (block_succ c src dst G (by omega)); iexact H1
    isplitl [H2]; · iexact H2
    iapply (block_succ c src dst G (by omega)); iexact H3
  · isplitl [H3]; · iexact H3
    iintro H3
    isplitl [H0]; · iapply (block_succ c src dst G (by omega)); iexact H0
    isplitl [H1]; · iapply (block_succ c src dst G (by omega)); iexact H1
    isplitl [H2]; · iapply (block_succ c src dst G (by omega)); iexact H2
    iexact H3

end Cert.Proof.Conv
-- ==== Proof.ConvT1.lean ====
/-
  The kernel's first loop: eight trips, each over 256 rows.  A trip writes the rows of the gated input and of the
  gradient at the convolution's output into vector memory, writes the rows of the gradient at the gate, and adds to
  three running column sums; every second trip sends a block of 512 rows of the gate's gradient to HBM.
-/
module

public import proofs.«01_k».proof.Proof.ConvSlab

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable
  (X6 : BufTy.Contents (Elt F) A6.view.ty)
  (X7 : BufTy.Contents (Elt F) A7.view.ty)
  (X17 : BufTy.Contents (Elt F) A17.view.ty)
  (X18 : BufTy.Contents (Elt F) A18.view.ty)
  (X19 : BufTy.Contents (Elt F) A19.view.ty)
  (X20 : BufTy.Contents (Elt F) A20.view.ty)
  (X21 : BufTy.Contents (Elt F) A21.view.ty)

/-- The carried column sums. -/
abbrev Acc (F : FTy → Type) [FloatOps F] : Type := FVec F S1x512 .f32 × FVec F S1x512 .f32 × FVec F S1x512 .f32

/-- The rows trip `k` reads of a (2048, 512) buffer. -/
abbrev rows {e : EltTy} (a : Memref sig .tc .vmem S2048x512 e) (X : BufTy.Contents (Elt F) a.view.ty) (k : Fin k0_t1_loop.trips) :
    Vec F S256x512 e :=
  View.readAt (Elt F) a.view (Rect.unit (s := S2048x512) (k0_off1 k) S256x512.size (k0_off1_inb k)).toLoadRect X

/-- A (1, 512) buffer, read whole. -/
abbrev line (a : Memref sig .tc .vmem S1x512 .f32) (X : BufTy.Contents (Elt F) a.view.ty) : Vec F S1x512 .f32 :=
  View.readAt (Elt F) a.view (Rect.unit (s := S1x512) ![0, 0] S1x512.size inb_S1x512_S1x512_0_0).toLoadRect X

/-- The gradient at the gate that a trip stores, from its rows of `cz`, `gb`, `dmix` and the norm's two lines. -/
abbrev gateTile (cz gb : FVec F S256x512 .f32) (dm : FVec F S256x512 .bf16) (lw lb : FVec F S1x512 .f32) : FVec F S256x512 .bf16 :=
  k0_pay8 (k0_pay5 cz lw) lb gb dm

/-- The normed line before its activation. -/
abbrev normTile (cz : FVec F S256x512 .f32) (lw lb : FVec F S1x512 .f32) : FVec F S256x512 .f32 := k0_pay6 (k0_pay5 cz lw) lb

/-- The gradient at the norm's output. -/
abbrev dnormTile (cz gb : FVec F S256x512 .f32) (dm : FVec F S256x512 .bf16) (lw lb : FVec F S1x512 .f32) : FVec F S256x512 .f32 :=
  k0_pay10 (normTile cz lw lb) (k0_pay9 gb dm)

/-- The gradient at the convolution's output, as it enters the running sum. -/
abbrev dconvTile (cz gb : FVec F S256x512 .f32) (dm : FVec F S256x512 .bf16) (lw lb : FVec F S1x512 .f32) : FVec F S256x512 .f32 :=
  k0_pay11 (k0_pay3 cz) (k0_pay4 cz) (normTile cz lw lb) (k0_pay9 gb dm) lw

/-- The gradient at the convolution's output, as it is stored. -/
abbrev dconvStored (cz gb : FVec F S256x512 .f32) (dm : FVec F S256x512 .bf16) (lw lb : FVec F S1x512 .f32) : FVec F S256x512 .f32 :=
  k0_pay12 (k0_pay3 cz) (k0_pay4 cz) (normTile cz lw lb) (k0_pay9 gb dm) lw

/-- The column sums after a trip. -/
abbrev accStep (a : Acc F) (cz gb : FVec F S256x512 .f32) (dm : FVec F S256x512 .bf16) (lw lb : FVec F S1x512 .f32) : Acc F :=
  (k0_pay940 a.1 (dconvTile cz gb dm lw lb), k0_pay941 a.2.1 (k0_pay4 cz) (dnormTile cz gb dm lw lb),
    k0_pay942 a.2.2 (dnormTile cz gb dm lw lb))

/-- The buffers the first loop only reads. -/
def Reads1 (c : Dev nD) : sProp 𝕄 :=
  iprop((A6.view.loc (c : Thread nD τ) ↦{fullShare} X6)
    ∗ (A7.view.loc (c : Thread nD τ) ↦{fullShare} X7)
    ∗ (A17.view.loc (c : Thread nD τ) ↦{fullShare} X17)
    ∗ (A18.view.loc (c : Thread nD τ) ↦{fullShare} X18)
    ∗ (A19.view.loc (c : Thread nD τ) ↦{fullShare} X19)
    ∗ (A20.view.loc (c : Thread nD τ) ↦{fullShare} X20)
    ∗ (A21.view.loc (c : Thread nD τ) ↦{fullShare} X21))

/-- Trip `k` sends its block when `k` is odd. -/
theorem cond1_iff : ∀ k : Fin k0_t1_loop.trips, k0_cond1 k = 1#1 ↔ k.val % 2 = 1 := by decide +kernel

theorem off4_eq : ∀ (k : Fin k0_t1_loop.trips), k0_cond1 k = 1#1 → k0_off4 k = ![k.val / 2] := by decide +kernel

theorem off5_eq : ∀ (k : Fin k0_t1_loop.trips), k0_cond1 k = 1#1 → k0_off5 k = ![512 * (k.val / 2), 0] := by decide +kernel

/-- One trip of the first loop, its block of the gate's gradient taken out of the four. -/
theorem trip1 (𝒱 : Variants) (c : Dev nD) (bd : Option 𝒱.V) (N : ℕ)
    (hN : ∀ (m : ℕ) (hm : m < 4) (sem : DmaSem sig), ∀ h2, ((A10.slice (slab m hm) h2).view.amount (.dma sem)) = N) (hN0 : 0 < N)
    (k : Fin k0_t1_loop.trips) (m : ℕ) (hm : m < 4) (hmk : m = k.val / 2) (acc : Acc F)
    (X13 : BufTy.Contents (Elt F) A13.view.ty) (X14 : BufTy.Contents (Elt F) A14.view.ty)
    (G : S2048x512.Idx → Elt F .bf16)
    (hG : ∀ x : S256x512.Idx, G ((Rect.unit (s := S2048x512) (k0_off1 k) S256x512.size (k0_off1_inb k)).emb x)
      = gateTile (rows A20 X20 k) (rows A19 X19 k) (rows A21 X21 k) (line A6 X6) (line A7 X7) x) :
    iprop(Reads1 A6 A7 A17 A18 A19 A20 A21 X6 X7 X17 X18 X19 X20 X21 c
      ∗ (A13.view.loc (c : Thread nD τ) ↦{fullShare} X13) ∗ (A14.view.loc (c : Thread nD τ) ↦{fullShare} X14)
      ∗ Block c A24 A10 G (sem4 A28 m hm) N k.val m hm)
    ⊢ wp frame (wpE (defs₀ (F := F)) 𝒱 (c : Thread nD τ) bd) Set.univ
        (k0_t1_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k acc)
        (fun acc' => iprop(⌜acc' = accStep acc (rows A20 X20 k) (rows A19 X19 k) (rows A21 X21 k) (line A6 X6) (line A7 X7)⌝
          ∗ Reads1 A6 A7 A17 A18 A19 A20 A21 X6 X7 X17 X18 X19 X20 X21 c
          ∗ (A13.view.loc (c : Thread nD τ) ↦{fullShare} (A13.view.writes (Elt F) X13
              [⟨Rect.unit (s := S2080x512) (k0_off2 k) S256x512.size (k0_off2_inb k), k0_pay1 (rows A17 X17 k) (rows A18 X18 k)⟩]))
          ∗ (A14.view.loc (c : Thread nD τ) ↦{fullShare} (A14.view.writes (Elt F) X14
              [⟨Rect.unit (s := S2080x512) (k0_off3 k) S256x512.size (k0_off3_inb k),
                dconvStored (rows A20 X20 k) (rows A19 X19 k) (rows A21 X21 k) (line A6 X6) (line A7 X7)⟩]))
          ∗ Block c A24 A10 G (sem4 A28 m hm) N (k.val + 1) m hm)) := by
  have hk : k.val < 8 := Nat.lt_of_lt_of_le k.isLt k0_t1_abs.2.1
  have b1 : 512 * m ≤ 256 * k.val := by omega
  have b2 : 256 * k.val + 256 ≤ 512 * m + 512 := by omega
  obtain ⟨a0, a1, a2⟩ := acc
  rw [block_filling (k := k.val) _ _ _ _ (by omega)]
  unfold k0_t1_body Reads1 Filling
  iintro ⟨⟨H6, H7, H17, H18, H19, H20, H21⟩, H13, H14, ⟨%f, %fd, H24, H10, Hs, %hf⟩⟩
  set_option sl_exec.stopBefore "k0_cond1" in sl_exec
  have hfill : ∀ (v : FVec F S256x512 .bf16), (∀ x, v x = G ((Rect.unit (s := S2048x512) (k0_off1 k) S256x512.size (k0_off1_inb k)).emb x)) →
      ∀ i ∈ (slab m hm).set, (i 0).val < 256 * (k.val + 1) → A24.view.read (Elt F) (A24.view.writes (Elt F) f
        [⟨Rect.unit (s := S2048x512) (k0_off1 k) S256x512.size (k0_off1_inb k), v⟩]) i = G i := by
    intro v hv
    exact store_rows A24.view f (k0_off1_eq k) _ v G (slab m hm).set hf hv
  by_cases hc : k0_cond1 k = 1#1
  · have hodd := (cond1_iff k).mp hc
    have ho5 := off5_eq k hc
    have ho4 := off4_eq k hc
    rw [dif_pos hc, block_flight (k := k.val + 1) _ _ _ _ (by omega)]
    rw [← hmk] at ho5 ho4
    iapply (issue (n := 256 * (k.val + 1)) (hm := hm) c A24 A10 G 𝒱 bd (by omega) ho5
      (congrArg SemLoc.dma (sem4_eq A28 hm (k0_off4_inb k hc) ho4)) ?_ hN0) $$ [H24 H10 Hs] [H6 H7 H13 H14 H17 H18 H19 H20 H21]
    · exact amount_eq A10 ho5 _ (hN m hm _)
    · unfold Filling
      iexists _; iexists _
      isplitl [H24]; · iexact H24
      isplitl [H10]; · iexact H10
      isplitl [Hs]; · iexact Hs
      ipureintro
      exact hfill _ (fun x => (hG x).symm)
    iintro HF
    dsimp only [Prog.bind]
    sl_step
    isplitr; · ipureintro; rfl
    isplitl [H6 H7 H17 H18 H19 H20 H21]
    · isplitl [H6]; · iexact H6
      isplitl [H7]; · iexact H7
      isplitl [H17]; · iexact H17
      isplitl [H18]; · iexact H18
      isplitl [H19]; · iexact H19
      isplitl [H20]; · iexact H20
      iexact H21
    isplitl [H13]; · iexact H13
    isplitl [H14]; · iexact H14
    iexact HF
  · have hev : ¬ k.val % 2 = 1 := fun h => hc ((cond1_iff k).mpr h)
    rw [dif_neg hc, block_filling (k := k.val + 1) _ _ _ _ (by omega)]
    sl_step
    isplitr; · ipureintro; rfl
    isplitl [H6 H7 H17 H18 H19 H20 H21]
    · isplitl [H6]; · iexact H6
      isplitl [H7]; · iexact H7
      isplitl [H17]; · iexact H17
      isplitl [H18]; · iexact H18
      isplitl [H19]; · iexact H19
      isplitl [H20]; · iexact H20
      iexact H21
    isplitl [H13]; · iexact H13
    isplitl [H14]; · iexact H14
    unfold Filling
    iexists _; iexists _
    isplitl [H24]; · iexact H24
    isplitl [H10]; · iexact H10
    isplitl [Hs]; · iexact Hs
    ipureintro
    exact hfill _ (fun x => (hG x).symm)

end Cert.Proof.Conv
-- ==== Proof.ConvSpec.lean ====
/-
  What the loops leave in their buffers, as functions of what the kernel was given: whole arrays put together from the
  rows, or the tiles, of the single trips; and the first loop's invariant, kept by a trip.
-/
module

public import proofs.«01_k».proof.Proof.ConvT1
public import Idealize.ShloMosaic.Lib.WholeRead
public import Idealize.ShloMosaic.Lib.Pointwise

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 8 := by decide +kernel
theorem trips2 : k0_t2_loop.trips = 8 := by decide +kernel

/-- An array of 2048 rows out of the blocks of 256 rows of eight trips. -/
def pickRows {α : Type} (P : Fin k0_t1_loop.trips → S256x512.Idx → α) : S2048x512.Idx → α := fun i =>
  P ⟨(i 0).val / 256, by have h : (i 0).val < 2048 := (i 0).isLt; rw [trips1]; omega⟩
    (ix2 (⟨(i 0).val % 256, Nat.mod_lt _ (by decide)⟩ : Fin 256) (⟨(i 1).val, (i 1).isLt⟩ : Fin 512))

/-- Row `256 k + r` of the array is row `r` of trip `k`. -/
theorem pickRows_at {α : Type} (P : Fin k0_t1_loop.trips → S256x512.Idx → α) (k : Fin k0_t1_loop.trips) (x : S256x512.Idx)
    (i : S2048x512.Idx) (h0 : (i 0).val = 256 * k.val + (x 0).val) (h1 : (i 1).val = (x 1).val) : pickRows P i = P k x := by
  have hx : (x 0).val < 256 := (x 0).isLt
  unfold pickRows
  have e1 : (⟨(i 0).val / 256, by have h : (i 0).val < 2048 := (i 0).isLt; rw [trips1]; omega⟩ : Fin k0_t1_loop.trips) = k :=
    Fin.ext (by show (i 0).val / 256 = k.val; omega)
  rw [e1]
  congr 1
  funext a
  match a with
  | ⟨0, _⟩ => exact Fin.ext (show (i 0).val % 256 = (x 0).val by omega)
  | ⟨1, _⟩ => exact Fin.ext h1

/-- The rows of trip `k` of an array. -/
abbrev rowsOf {e : EltTy} (U : Vec F S2048x512 e) (k : Fin k0_t1_loop.trips) : Vec F S256x512 e := fun x =>
  U ((Rect.unit (s := S2048x512) (k0_off1 k) S256x512.size (k0_off1_inb k)).emb x)

section
variable (ua ug gb cz : Vec F S2048x512 .f32) (dm : Vec F S2048x512 .bf16) (lw lb : Vec F S1x512 .f32)

/-- The gradient at the gate. -/
def gateGrad : Vec F S2048x512 .bf16 := pickRows fun k => gateTile (rowsOf cz k) (rowsOf gb k) (rowsOf dm k) lw lb

/-- The gated input of the convolution, under 32 rows of zeros. -/
def gatedPad : Vec F S2080x512 .f32 := fun i =>
  if h : (i 0).val < 32 then k0_pay936 (ix2 (⟨(i 0).val, h⟩ : Fin 32) (⟨(i 1).val, (i 1).isLt⟩ : Fin 512))
  else pickRows (fun k => k0_pay1 (rowsOf ua k) (rowsOf ug k))
    (ix2 (⟨(i 0).val - 32, by have h : (i 0).val < 2080 := (i 0).isLt; omega⟩ : Fin 2048) (⟨(i 1).val, (i 1).isLt⟩ : Fin 512))

/-- The gradient at the convolution's output, over 32 rows of zeros. -/
def dconvPad : Vec F S2080x512 .f32 := fun i =>
  if h : (i 0).val < 2048 then pickRows (fun k => dconvStored (rowsOf cz k) (rowsOf gb k) (rowsOf dm k) lw lb)
    (ix2 (⟨(i 0).val, h⟩ : Fin 2048) (⟨(i 1).val, (i 1).isLt⟩ : Fin 512))
  else k0_pay937 (ix2 (⟨(i 0).val - 2048, by have h : (i 0).val < 2080 := (i 0).isLt; omega⟩ : Fin 32) (⟨(i 1).val, (i 1).isLt⟩ : Fin 512))

/-- The carried column sums before trip `n`. -/
def accAt : ℕ → Acc F
  | 0 => (k0_pay939, k0_pay939, k0_pay939)
  | n + 1 => if h : n < k0_t1_loop.trips then
      accStep (accAt n) (rowsOf cz ⟨n, h⟩) (rowsOf gb ⟨n, h⟩) (rowsOf dm ⟨n, h⟩) lw lb else accAt n

theorem accAt_succ (k : Fin k0_t1_loop.trips) : accAt gb cz dm lw lb (k.val + 1)
    = accStep (accAt gb cz dm lw lb k.val) (rowsOf cz k) (rowsOf gb k) (rowsOf dm k) lw lb := by
  rw [accAt, dif_pos k.isLt]

/-- Where a trip's rectangle puts its entries. -/
theorem emb_rows {R W : ℕ} {off : Fin 2 → ℕ} {o : ℕ} (hoff : off = ![o, 0])
    {inb : ∀ a : Fin 2, off a + (![W, 512] : Fin 2 → ℕ) a ≤ (![R, 512] : Fin 2 → ℕ) a} (x : (⟨2, ![W, 512]⟩ : Shape).Idx) :
    (((Rect.unit (s := ⟨2, ![R, 512]⟩) off (![W, 512] : Fin 2 → ℕ) inb).emb x) 0).val = o + (x 0).val
      ∧ (((Rect.unit (s := ⟨2, ![R, 512]⟩) off (![W, 512] : Fin 2 → ℕ) inb).emb x) 1).val = (x 1).val := by
  subst hoff
  constructor
  · rw [Rect.emb_apply]; simp
  · rw [Rect.emb_apply]; simp

theorem gateGrad_emb (k : Fin k0_t1_loop.trips) (x : S256x512.Idx) :
    gateGrad gb cz dm lw lb ((Rect.unit (s := S2048x512) (k0_off1 k) S256x512.size (k0_off1_inb k)).emb x)
      = gateTile (rowsOf cz k) (rowsOf gb k) (rowsOf dm k) lw lb x := by
  have h := emb_rows (R := 2048) (W := 256) (k0_off1_eq k) (inb := k0_off1_inb k) x
  exact pickRows_at _ k x _ h.1 h.2

theorem gatedPad_emb (k : Fin k0_t1_loop.trips) (x : S256x512.Idx) :
    k0_pay1 (rowsOf ua k) (rowsOf ug k) x
      = gatedPad ua ug ((Rect.unit (s := S2080x512) (k0_off2 k) S256x512.size (k0_off2_inb k)).emb x) := by
  have h := emb_rows (R := 2080) (W := 256) (k0_off2_eq k) (inb := k0_off2_inb k) x
  unfold gatedPad
  generalize (Rect.unit (s := S2080x512) (k0_off2 k) S256x512.size (k0_off2_inb k)).emb x = i at h
  have h0 : (i 0).val = 256 * k.val + 32 + (x 0).val := h.1
  rw [dif_neg (show ¬ (i 0).val < 32 by omega)]
  exact (pickRows_at (fun k => k0_pay1 (rowsOf ua k) (rowsOf ug k)) k x _ (by show (i 0).val - 32 = _; omega) h.2).symm

theorem dconvPad_emb (k : Fin k0_t1_loop.trips) (x : S256x512.Idx) :
    dconvStored (rowsOf cz k) (rowsOf gb k) (rowsOf dm k) lw lb x
      = dconvPad gb cz dm lw lb ((Rect.unit (s := S2080x512) (k0_off3 k) S256x512.size (k0_off3_inb k)).emb x) := by
  have h := emb_rows (R := 2080) (W := 256) (k0_off3_eq k) (inb := k0_off3_inb k) x
  have hk : k.val < 8 := Nat.lt_of_lt_of_le k.isLt k0_t1_abs.2.1
  have hx : (x 0).val < 256 := (x 0).isLt
  unfold dconvPad
  generalize (Rect.unit (s := S2080x512) (k0_off3 k) S256x512.size (k0_off3_inb k)).emb x = i at h
  have h0 : (i 0).val = 256 * k.val + (x 0).val := h.1
  rw [dif_pos (show (i 0).val < 2048 by omega)]
  exact (pickRows_at (fun k => dconvStored (rowsOf cz k) (rowsOf gb k) (rowsOf dm k) lw lb) k x _ h0 h.2).symm

end

/-- The rows a trip loads of a buffer held at an array are the array's. -/
theorem rows_unread {e : EltTy} {a : Memref sig .tc .vmem S2048x512 e} (h : a.IsWhole) (U : Vec F S2048x512 e) (k : Fin k0_t1_loop.trips) :
    rows a (h.unread U) k = rowsOf U k := by
  funext x; exact h.readAt_unread U (Rect.unit (s := S2048x512) (k0_off1 k) S256x512.size (k0_off1_inb k)).toLoadRect x

theorem line_unread {a : Memref sig .tc .vmem S1x512 .f32} (h : a.IsWhole) (U : Vec F S1x512 .f32) : line a (h.unread U) = U := by
  funext x
  refine (h.readAt_unread U (Rect.unit (s := S1x512) ![0, 0] S1x512.size inb_S1x512_S1x512_0_0).toLoadRect x).trans (congrArg U ?_)
  funext d
  refine Fin.ext ?_
  show ((Rect.unit (s := S1x512) ![0, 0] S1x512.size inb_S1x512_S1x512_0_0).emb x d).val = _
  rw [Rect.emb_apply]
  fin_cases d <;> simp

variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable (ua ug gb cz : Vec F S2048x512 .f32) (dm : Vec F S2048x512 .bf16) (lw lb : Vec F S1x512 .f32)

/-- What the first loop reads, at the arrays the kernel was given. -/
abbrev Given1 (c : Dev nD) : sProp 𝕄 :=
  Reads1 A6 A7 A17 A18 A19 A20 A21 (B6.unread lw) (B7.unread lb) (B17.unread ua) (B18.unread ug)
    (B19.unread gb) (B20.unread cz) (B21.unread dm) c

/-- Before trip `k` of the first loop. -/
def inv1 (c : Dev nD) (N k : ℕ) (acc : Acc F) : sProp 𝕄 :=
  iprop(⌜acc = accAt gb cz dm lw lb k⌝
    ∗ Given1 A6 B6 A7 B7 A17 B17 A18 B18 A19 B19 A20 B20 A21 B21 ua ug gb cz dm lw lb c
    ∗ (∃ f13 : BufTy.Contents (Elt F) A13.view.ty, (A13.view.loc (c : Thread nD τ) ↦{fullShare} f13)
        ∗ ⌜∀ i : S2080x512.Idx, (i 0).val < 256 * k + 32 → A13.view.read (Elt F) f13 i = gatedPad ua ug i⌝)
    ∗ (∃ f14 : BufTy.Contents (Elt F) A14.view.ty, (A14.view.loc (c : Thread nD τ) ↦{fullShare} f14)
        ∗ ⌜∀ i : S2080x512.Idx, ((i 0).val < 256 * k ∨ 2048 ≤ (i 0).val) → A14.view.read (Elt F) f14 i = dconvPad gb cz dm lw lb i⌝)
    ∗ Blocks c A24 A10 (gateGrad gb cz dm lw lb) A28 N k)

/-- A trip of the first loop keeps its invariant. -/
theorem step1 (𝒱 : Variants) (c : Dev nD) (bd : Option 𝒱.V) (N : ℕ)
    (hN : ∀ (m : ℕ) (hm : m < 4) (sem : DmaSem sig), ∀ h2, ((A10.slice (slab m hm) h2).view.amount (.dma sem)) = N) (hN0 : 0 < N)
    (k : Fin k0_t1_loop.trips) (acc : Acc F) :
    inv1 A6 B6 A7 B7 A10 A13 A14 A17 B17 A18 B18 A19 B19 A20 B20 A21 B21 A24 A28 ua ug gb cz dm lw lb c N k.val acc
    ⊢ wp frame (wpE (defs₀ (F := F)) 𝒱 (c : Thread nD τ) bd) Set.univ
        (k0_t1_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k acc)
        (fun acc' => inv1 A6 B6 A7 B7 A10 A13 A14 A17 B17 A18 B18 A19 B19 A20 B20 A21 B21 A24 A28 ua ug gb cz dm lw lb c N (k.val + 1) acc') := by
  have hk : k.val < 8 := Nat.lt_of_lt_of_le k.isLt k0_t1_abs.2.1
  unfold inv1
  iintro ⟨%hacc, HR, ⟨%f13, H13, %h13⟩, ⟨%f14, H14, %h14⟩, HB⟩
  ihave HB2 := (blocks_take c A24 A10 (gateGrad gb cz dm lw lb) A28 N k.val (k.val / 2) (by omega) rfl) $$ HB
  icases HB2 with ⟨HB, HC⟩
  iapply (wp_wand frame (wpE (defs₀ (F := F)) 𝒱 (c : Thread nD τ) bd) Set.univ) $$ [HR H13 H14 HB] [HC]
  · iapply (trip1 A0 B0 A1 B1 A2 B2 A3 B3 A4 B4 A5 B5 A6 B6 A7 B7 A8 B8 A9 B9 A10 B10 A11 B11 A12 B12 A13 B13 A14 B14 A15 B15 A16 B16 A17 B17 A18 B18 A19 B19 A20 B20 A21 B21 A22 B22 A23 B23 A24 B24 A25 A26 A27 A28 _ _ _ _ _ _ _ 𝒱 c bd N hN hN0 k (k.val / 2) (by omega) rfl acc f13 f14 (gateGrad gb cz dm lw lb) ?_) $$ [HR H13 H14 HB]
    · intro x
      rw [rows_unread, rows_unread, rows_unread, line_unread, line_unread]
      exact gateGrad_emb gb cz dm lw lb k x
    isplitl [HR]; · iexact HR
    isplitl [H13]; · iexact H13
    isplitl [H14]; · iexact H14
    iexact HB
  · iintro %acc' ⟨%ha, HR, H13, H14, HB⟩
    isplitr
    · ipureintro
      rw [ha, hacc, accAt_succ, rows_unread, rows_unread, rows_unread, line_unread, line_unread]
    isplitl [HR]; · iexact HR
    isplitl [H13]
    · iexists _
      isplitl [H13]; · iexact H13
      ipureintro
      intro i hi
      refine store_extends A13.view f13 _ _ (gatedPad ua ug) (fun i => (i 0).val < 256 * k.val + 32) h13 ?_ i ?_
      · intro x
        rw [rows_unread, rows_unread]
        exact gatedPad_emb ua ug k x
      · by_cases h : (i 0).val < 256 * k.val + 32
        · exact Or.inl h
        · exact Or.inr ((mem_rows_2080 (k0_off2_eq k)).mpr ⟨by omega, by omega⟩)
    isplitl [H14]
    · iexists _
      isplitl [H14]; · iexact H14
      ipureintro
      intro i hi
      refine store_extends A14.view f14 _ _ (dconvPad gb cz dm lw lb) (fun i => (i 0).val < 256 * k.val ∨ 2048 ≤ (i 0).val) h14 ?_ i ?_
      · intro x
        rw [rows_unread, rows_unread, rows_unread, line_unread, line_unread]
        exact dconvPad_emb gb cz dm lw lb k x
      · by_cases h : (i 0).val < 256 * k.val ∨ 2048 ≤ (i 0).val
        · exact Or.inl h
        · exact Or.inr ((mem_rows_2080 (k0_off3_eq k)).mpr ⟨by omega, by omega⟩)
    iapply HC
    iexact HB

end Cert.Proof.Conv
-- ==== Proof.ConvTaps.lean ====
/-
  The four inner loops that form the gradient at the convolution's input, one for each run of 128 lanes: two trips
  each, a trip over 128 rows. A trip adds up the thirty-one taps' products, multiplies by the gate's two factors and
  stores the rows of the two gradients. The values a trip stores are found by its run.
-/
module

public import proofs.«01_k».proof.Proof.ConvT1

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable
  (X5 : BufTy.Contents (Elt F) A5.view.ty)
  (X15 : BufTy.Contents (Elt F) A15.view.ty)
  (X17 : BufTy.Contents (Elt F) A17.view.ty)
  (X18 : BufTy.Contents (Elt F) A18.view.ty)

/-- What the four loops only read. -/
def Reads2 (c : Dev nD) : sProp 𝕄 :=
  iprop((A5.view.loc (c : Thread nD τ) ↦{fullShare} X5)
    ∗ (A15.view.loc (c : Thread nD τ) ↦{fullShare} X15)
    ∗ (A17.view.loc (c : Thread nD τ) ↦{fullShare} X17)
    ∗ (A18.view.loc (c : Thread nD τ) ↦{fullShare} X18))

/-- One trip of the loop over lanes 0 to 127: the rows it stores of the two gradients, and its run. -/
@[irreducible] def tap0 (𝒱 : Variants) (c : Dev nD) (bd : Option 𝒱.V) (k2 : Fin k0_t2_loop.trips)
    (k : Fin k0_t3_loop.trips) :
    Σ' P22 : FVec F S128x128 .bf16, { P23 : FVec F S128x128 .bf16 // ∀ (v228 : BitVec 32) (v349 : FVec F S288x512 .f32) (m : ℕ) (hm : m < 4), m = k2.val / 2 →
      ∀ (f22 : BufTy.Contents (Elt F) A22.view.ty) (f23 : BufTy.Contents (Elt F) A23.view.ty),
      iprop(Reads2 A5 A15 A17 A18 X5 X15 X17 X18 c
        ∗ (A22.view.loc (c : Thread nD τ) ↦[A22.view.setOn (slab m hm).set]{fullShare} f22)
        ∗ (A23.view.loc (c : Thread nD τ) ↦[A23.view.setOn (slab m hm).set]{fullShare} f23))
      ⊢ wp frame (wpE (defs₀ (F := F)) 𝒱 (c : Thread nD τ) bd) Set.univ
          (k0_t3_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
          (fun _ => iprop(Reads2 A5 A15 A17 A18 X5 X15 X17 X18 c
            ∗ (A22.view.loc (c : Thread nD τ) ↦[A22.view.setOn (slab m hm).set]{fullShare} (A22.view.writes (Elt F) f22
                [⟨Rect.unit (s := S2048x512) (k0_off15 k2 k) S128x128.size (k0_off15_inb k2 k), P22⟩]))
            ∗ (A23.view.loc (c : Thread nD τ) ↦[A23.view.setOn (slab m hm).set]{fullShare} (A23.view.writes (Elt F) f23
                [⟨Rect.unit (s := S2048x512) (k0_off15 k2 k) S128x128.size (k0_off15_inb k2 k), P23⟩])))) } := by
  have hk : k.val < 2 := Nat.lt_of_lt_of_le k.isLt k0_t3_abs.2.1
  have hk2 : k2.val < 8 := Nat.lt_of_lt_of_le k2.isLt k0_t2_abs.2.1
  refine ⟨?_, ?_, fun v228 v349 m hm hmk f22 f23 => ?run⟩
  case run =>
    have b1 : 512 * m ≤ 256 * k2.val := by omega
    have b2 : 256 * k2.val + 256 ≤ 512 * m + 512 := by omega
    unfold k0_t3_body Reads2
    iintro ⟨⟨H5, H15, H17, H18⟩, H22, H23⟩
    sl_exec
    sl_step
    sl_close

/-- One trip of the loop over lanes 128 to 255: the rows it stores of the two gradients, and its run. -/
@[irreducible] def tap1 (𝒱 : Variants) (c : Dev nD) (bd : Option 𝒱.V) (k2 : Fin k0_t2_loop.trips)
    (k : Fin k0_t4_loop.trips) :
    Σ' P22 : FVec F S128x128 .bf16, { P23 : FVec F S128x128 .bf16 // ∀ (v228 : BitVec 32) (v349 : FVec F S288x512 .f32) (m : ℕ) (hm : m < 4), m = k2.val / 2 →
      ∀ (f22 : BufTy.Contents (Elt F) A22.view.ty) (f23 : BufTy.Contents (Elt F) A23.view.ty),
      iprop(Reads2 A5 A15 A17 A18 X5 X15 X17 X18 c
        ∗ (A22.view.loc (c : Thread nD τ) ↦[A22.view.setOn (slab m hm).set]{fullShare} f22)
        ∗ (A23.view.loc (c : Thread nD τ) ↦[A23.view.setOn (slab m hm).set]{fullShare} f23))
      ⊢ wp frame (wpE (defs₀ (F := F)) 𝒱 (c : Thread nD τ) bd) Set.univ
          (k0_t4_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
          (fun _ => iprop(Reads2 A5 A15 A17 A18 X5 X15 X17 X18 c
            ∗ (A22.view.loc (c : Thread nD τ) ↦[A22.view.setOn (slab m hm).set]{fullShare} (A22.view.writes (Elt F) f22
                [⟨Rect.unit (s := S2048x512) (k0_off24 k2 k) S128x128.size (k0_off24_inb k2 k), P22⟩]))
            ∗ (A23.view.loc (c : Thread nD τ) ↦[A23.view.setOn (slab m hm).set]{fullShare} (A23.view.writes (Elt F) f23
                [⟨Rect.unit (s := S2048x512) (k0_off24 k2 k) S128x128.size (k0_off24_inb k2 k), P23⟩])))) } := by
  have hk : k.val < 2 := Nat.lt_of_lt_of_le k.isLt k0_t4_abs.2.1
  have hk2 : k2.val < 8 := Nat.lt_of_lt_of_le k2.isLt k0_t2_abs.2.1
  refine ⟨?_, ?_, fun v228 v349 m hm hmk f22 f23 => ?run⟩
  case run =>
    have b1 : 512 * m ≤ 256 * k2.val := by omega
    have b2 : 256 * k2.val + 256 ≤ 512 * m + 512 := by omega
    unfold k0_t4_body Reads2
    iintro ⟨⟨H5, H15, H17, H18⟩, H22, H23⟩
    sl_exec
    sl_step
    sl_close

/-- One trip of the loop over lanes 256 to 383: the rows it stores of the two gradients, and its run. -/
@[irreducible] def tap2 (𝒱 : Variants) (c : Dev nD) (bd : Option 𝒱.V) (k2 : Fin k0_t2_loop.trips)
    (k : Fin k0_t5_loop.trips) :
    Σ' P22 : FVec F S128x128 .bf16, { P23 : FVec F S128x128 .bf16 // ∀ (v228 : BitVec 32) (v349 : FVec F S288x512 .f32) (m : ℕ) (hm : m < 4), m = k2.val / 2 →
      ∀ (f22 : BufTy.Contents (Elt F) A22.view.ty) (f23 : BufTy.Contents (Elt F) A23.view.ty),
      iprop(Reads2 A5 A15 A17 A18 X5 X15 X17 X18 c
        ∗ (A22.view.loc (c : Thread nD τ) ↦[A22.view.setOn (slab m hm).set]{fullShare} f22)
        ∗ (A23.view.loc (c : Thread nD τ) ↦[A23.view.setOn (slab m hm).set]{fullShare} f23))
      ⊢ wp frame (wpE (defs₀ (F := F)) 𝒱 (c : Thread nD τ) bd) Set.univ
          (k0_t5_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
          (fun _ => iprop(Reads2 A5 A15 A17 A18 X5 X15 X17 X18 c
            ∗ (A22.view.loc (c : Thread nD τ) ↦[A22.view.setOn (slab m hm).set]{fullShare} (A22.view.writes (Elt F) f22
                [⟨Rect.unit (s := S2048x512) (k0_off33 k2 k) S128x128.size (k0_off33_inb k2 k), P22⟩]))
            ∗ (A23.view.loc (c : Thread nD τ) ↦[A23.view.setOn (slab m hm).set]{fullShare} (A23.view.writes (Elt F) f23
                [⟨Rect.unit (s := S2048x512) (k0_off33 k2 k) S128x128.size (k0_off33_inb k2 k), P23⟩])))) } := by
  have hk : k.val < 2 := Nat.lt_of_lt_of_le k.isLt k0_t5_abs.2.1
  have hk2 : k2.val < 8 := Nat.lt_of_lt_of_le k2.isLt k0_t2_abs.2.1
  refine ⟨?_, ?_, fun v228 v349 m hm hmk f22 f23 => ?run⟩
  case run =>
    have b1 : 512 * m ≤ 256 * k2.val := by omega
    have b2 : 256 * k2.val + 256 ≤ 512 * m + 512 := by omega
    unfold k0_t5_body Reads2
    iintro ⟨⟨H5, H15, H17, H18⟩, H22, H23⟩
    sl_exec
    sl_step
    sl_close

/-- One trip of the loop over lanes 384 to 511: the rows it stores of the two gradients, and its run. -/
@[irreducible] def tap3 (𝒱 : Variants) (c : Dev nD) (bd : Option 𝒱.V) (k2 : Fin k0_t2_loop.trips)
    (k : Fin k0_t6_loop.trips) :
    Σ' P22 : FVec F S128x128 .bf16, { P23 : FVec F S128x128 .bf16 // ∀ (v228 : BitVec 32) (v349 : FVec F S288x512 .f32) (m : ℕ) (hm : m < 4), m = k2.val / 2 →
      ∀ (f22 : BufTy.Contents (Elt F) A22.view.ty) (f23 : BufTy.Contents (Elt F) A23.view.ty),
      iprop(Reads2 A5 A15 A17 A18 X5 X15 X17 X18 c
        ∗ (A22.view.loc (c : Thread nD τ) ↦[A22.view.setOn (slab m hm).set]{fullShare} f22)
        ∗ (A23.view.loc (c : Thread nD τ) ↦[A23.view.setOn (slab m hm).set]{fullShare} f23))
      ⊢ wp frame (wpE (defs₀ (F := F)) 𝒱 (c : Thread nD τ) bd) Set.univ
          (k0_t6_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
          (fun _ => iprop(Reads2 A5 A15 A17 A18 X5 X15 X17 X18 c
            ∗ (A22.view.loc (c : Thread nD τ) ↦[A22.view.setOn (slab m hm).set]{fullShare} (A22.view.writes (Elt F) f22
                [⟨Rect.unit (s := S2048x512) (k0_off42 k2 k) S128x128.size (k0_off42_inb k2 k), P22⟩]))
            ∗ (A23.view.loc (c : Thread nD τ) ↦[A23.view.setOn (slab m hm).set]{fullShare} (A23.view.writes (Elt F) f23
                [⟨Rect.unit (s := S2048x512) (k0_off42 k2 k) S128x128.size (k0_off42_inb k2 k), P23⟩])))) } := by
  have hk : k.val < 2 := Nat.lt_of_lt_of_le k.isLt k0_t6_abs.2.1
  have hk2 : k2.val < 8 := Nat.lt_of_lt_of_le k2.isLt k0_t2_abs.2.1
  refine ⟨?_, ?_, fun v228 v349 m hm hmk f22 f23 => ?run⟩
  case run =>
    have b1 : 512 * m ≤ 256 * k2.val := by omega
    have b2 : 256 * k2.val + 256 ≤ 512 * m + 512 := by omega
    unfold k0_t6_body Reads2
    iintro ⟨⟨H5, H15, H17, H18⟩, H22, H23⟩
    sl_exec
    sl_step
    sl_close

end Cert.Proof.Conv
-- ==== Proof.ConvAcc.lean ====
/-
  The four inner loops that add to the taps' gradients, one for each run of 128 lanes: two trips each, a trip over
  128 rows. A trip adds, into eight rows for each tap, the products of the gradient at the convolution's output and the
  shifted inputs. The pieces a trip stores are found by its run, as functions of what it found there.
-/
module

public import proofs.«01_k».proof.Proof.ConvT1

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable
  (X14 : BufTy.Contents (Elt F) A14.view.ty)
  (X15 : BufTy.Contents (Elt F) A15.view.ty)

/-- What the four loops only read. -/
def Reads3 (c : Dev nD) : sProp 𝕄 :=
  iprop((A14.view.loc (c : Thread nD τ) ↦{fullShare} X14)
    ∗ (A15.view.loc (c : Thread nD τ) ↦{fullShare} X15))

/-- One trip of the loop over lanes 0 to 127: the pieces it stores of the sums, and its run. -/
@[irreducible] def grad0 (𝒱 : Variants) (c : Dev nD) (bd : Option 𝒱.V) (k2 : Fin k0_t2_loop.trips)
    (k : Fin k0_t7_loop.trips) :
    { L : BufTy.Contents (Elt F) A16.view.ty → List (View.Piece (Elt F) S256x512 .f32) //
      ∀ (v228 : BitVec 32) (v371 : FVec F S288x512 .f32) (f16 : BufTy.Contents (Elt F) A16.view.ty),
      iprop(Reads3 A14 A15 X14 X15 c ∗ (A16.view.loc (c : Thread nD τ) ↦{fullShare} f16))
      ⊢ wp frame (wpE (defs₀ (F := F)) 𝒱 (c : Thread nD τ) bd) Set.univ
          (k0_t7_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v371 k PUnit.unit)
          (fun _ => iprop(Reads3 A14 A15 X14 X15 c
            ∗ (A16.view.loc (c : Thread nD τ) ↦{fullShare} (A16.view.writes (Elt F) f16 (L f16))))) } := by
  have hk : k.val < 2 := Nat.lt_of_lt_of_le k.isLt k0_t7_abs.2.1
  refine ⟨?_, fun v228 v371 f16 => ?run⟩
  case run =>
    unfold k0_t7_body Reads3
    iintro ⟨⟨H14, H15⟩, H16⟩
    sl_exec
    sl_step
    sl_close

/-- One trip of the loop over lanes 128 to 255: the pieces it stores of the sums, and its run. -/
@[irreducible] def grad1 (𝒱 : Variants) (c : Dev nD) (bd : Option 𝒱.V) (k2 : Fin k0_t2_loop.trips)
    (k : Fin k0_t8_loop.trips) :
    { L : BufTy.Contents (Elt F) A16.view.ty → List (View.Piece (Elt F) S256x512 .f32) //
      ∀ (v228 : BitVec 32) (v371 : FVec F S288x512 .f32) (f16 : BufTy.Contents (Elt F) A16.view.ty),
      iprop(Reads3 A14 A15 X14 X15 c ∗ (A16.view.loc (c : Thread nD τ) ↦{fullShare} f16))
      ⊢ wp frame (wpE (defs₀ (F := F)) 𝒱 (c : Thread nD τ) bd) Set.univ
          (k0_t8_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v371 k PUnit.unit)
          (fun _ => iprop(Reads3 A14 A15 X14 X15 c
            ∗ (A16.view.loc (c : Thread nD τ) ↦{fullShare} (A16.view.writes (Elt F) f16 (L f16))))) } := by
  have hk : k.val < 2 := Nat.lt_of_lt_of_le k.isLt k0_t8_abs.2.1
  refine ⟨?_, fun v228 v371 f16 => ?run⟩
  case run =>
    unfold k0_t8_body Reads3
    iintro ⟨⟨H14, H15⟩, H16⟩
    sl_exec
    sl_step
    sl_close

/-- One trip of the loop over lanes 256 to 383: the pieces it stores of the sums, and its run. -/
@[irreducible] def grad2 (𝒱 : Variants) (c : Dev nD) (bd : Option 𝒱.V) (k2 : Fin k0_t2_loop.trips)
    (k : Fin k0_t9_loop.trips) :
    { L : BufTy.Contents (Elt F) A16.view.ty → List (View.Piece (Elt F) S256x512 .f32) //
      ∀ (v228 : BitVec 32) (v371 : FVec F S288x512 .f32) (f16 : BufTy.Contents (Elt F) A16.view.ty),
      iprop(Reads3 A14 A15 X14 X15 c ∗ (A16.view.loc (c : Thread nD τ) ↦{fullShare} f16))
      ⊢ wp frame (wpE (defs₀ (F := F)) 𝒱 (c : Thread nD τ) bd) Set.univ
          (k0_t9_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v371 k PUnit.unit)
          (fun _ => iprop(Reads3 A14 A15 X14 X15 c
            ∗ (A16.view.loc (c : Thread nD τ) ↦{fullShare} (A16.view.writes (Elt F) f16 (L f16))))) } := by
  have hk : k.val < 2 := Nat.lt_of_lt_of_le k.isLt k0_t9_abs.2.1
  refine ⟨?_, fun v228 v371 f16 => ?run⟩
  case run =>
    unfold k0_t9_body Reads3
    iintro ⟨⟨H14, H15⟩, H16⟩
    sl_exec
    sl_step
    sl_close

/-- One trip of the loop over lanes 384 to 511: the pieces it stores of the sums, and its run. -/
@[irreducible] def grad3 (𝒱 : Variants) (c : Dev nD) (bd : Option 𝒱.V) (k2 : Fin k0_t2_loop.trips)
    (k : Fin k0_t10_loop.trips) :
    { L : BufTy.Contents (Elt F) A16.view.ty → List (View.Piece (Elt F) S256x512 .f32) //
      ∀ (v228 : BitVec 32) (w0 w1 : BitVec 32) (f16 : BufTy.Contents (Elt F) A16.view.ty),
      iprop(Reads3 A14 A15 X14 X15 c ∗ (A16.view.loc (c : Thread nD τ) ↦{fullShare} f16))
      ⊢ wp frame (wpE (defs₀ (F := F)) 𝒱 (c : Thread nD τ) bd) Set.univ
          (k0_t10_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 w0 w1 k PUnit.unit)
          (fun _ => iprop(Reads3 A14 A15 X14 X15 c
            ∗ (A16.view.loc (c : Thread nD τ) ↦{fullShare} (A16.view.writes (Elt F) f16 (L f16))))) } := by
  have hk : k.val < 2 := Nat.lt_of_lt_of_le k.isLt k0_t10_abs.2.1
  refine ⟨?_, fun v228 w0 w1 f16 => ?run⟩
  case run =>
    unfold k0_t10_body Reads3
    iintro ⟨⟨H14, H15⟩, H16⟩
    sl_exec
    sl_step
    sl_close

end Cert.Proof.Conv
-- ==== Proof.ConvLoops.lean ====
/-
  The inner loops' invariants, kept by their trips, and the eight shifted copies of a trip's rows that they read.
-/
module

public import proofs.«01_k».proof.Proof.ConvSpec
public import proofs.«01_k».proof.Proof.ConvTaps
public import proofs.«01_k».proof.Proof.ConvAcc

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips3 : k0_t3_loop.trips = 2 := by decide +kernel
theorem trips4 : k0_t4_loop.trips = 2 := by decide +kernel
theorem trips5 : k0_t5_loop.trips = 2 := by decide +kernel
theorem trips6 : k0_t6_loop.trips = 2 := by decide +kernel

/-- Eight copies of 288 rows, the `b`-th moved up by `b` rows, each cut into four runs of 128 lanes. -/
def shifted (v : Vec F S288x512 .f32) : Vec F S8x4x288x128 .f32 := fun i =>
  v (ix2 (⟨((i 2).val + (i 0).val) % 288, Nat.mod_lt _ (by decide)⟩ : Fin 288)
    (⟨128 * (i 1).val + (i 3).val, by
      have h1 : (i 1).val < 4 := (i 1).isLt
      have h3 : (i 3).val < 128 := (i 3).isLt
      omega⟩ : Fin 512))

/-- A buffer whose stores are all `G`'s own values, and cover it, holds `G`. -/
theorem writes_all {κ : Kind} {sp : Space} {s : Shape} {e : EltTy} (v : View sig κ sp s e) (f : BufTy.Contents (Elt F) v.ty)
    (G : s.Idx → Elt F e) : ∀ (L : List (View.Piece (Elt F) s e)), (∀ p ∈ L, ∀ x, p.2 x = G (p.1.emb x)) →
      ∀ i, (∃ p ∈ L, i ∈ p.1.set) → v.read (Elt F) (v.writes (Elt F) f L) i = G i
  | [], _, i, h => by obtain ⟨p, hp, -⟩ := h; cases hp
  | p :: L, hL, i, h => by
    refine store_extends v (v.writes (Elt F) f L) p.1 p.2 G (fun i => ∃ p ∈ L, i ∈ p.1.set)
      (fun i hi => writes_all v f G L (fun q hq => hL q (List.mem_cons_of_mem _ hq)) i hi) (hL p List.mem_cons_self) i ?_
    obtain ⟨q, hq, hi⟩ := h
    rcases List.mem_cons.mp hq with rfl | hq
    · exact Or.inr hi
    · exact Or.inl ⟨q, hq, hi⟩

/-- The same of a whole buffer that is held. -/
theorem hold_all {s : Shape} {e : EltTy} {a : Memref sig .tc .vmem s e} (h : a.IsWhole) (c : Dev nD) (f : BufTy.Contents (Elt F) a.view.ty)
    (G : s.Idx → Elt F e) (L : List (View.Piece (Elt F) s e)) (hL : ∀ p ∈ L, ∀ x, p.2 x = G (p.1.emb x))
    (hc : ∀ i, ∃ p ∈ L, i ∈ p.1.set) :
    iprop(a.view.loc (c : Thread nD τ) ↦{fullShare} (a.view.writes (Elt F) f L) : sProp 𝕄)
      ⊢ iprop(a.view.loc (c : Thread nD τ) ↦{fullShare} (h.unread G)) := by
  rw [h.eq_unread (funext fun i => writes_all a.view f G L hL i (hc i))]

/-- What holds of a list's first entry and of the rest holds of the list. -/
theorem all_cons {α : Type*} {p : α → Prop} {a : α} {L : List α} (h : p a) (h' : ∀ x ∈ L, p x) : ∀ x ∈ a :: L, p x :=
  List.forall_mem_cons.mpr ⟨h, h'⟩

/-- Rows not moved. -/
theorem rot_zero (v : Vec F S288x512 .f32) (r : Fin 288) (l : Fin 512) :
    v (ix2 r l) = v (ix2 (⟨(r.val + 0) % 288, Nat.mod_lt _ (by decide)⟩ : Fin 288) l) := by
  congr 2
  exact Fin.ext (Nat.mod_eq_of_lt r.isLt).symm

/-- The rows moved up by `b`. -/
theorem rot_at (v : Vec F S288x512 .f32) (b : ℕ) (n : BitVec 32) (hn : n.toNat = 288 - b) (hb : 0 < b) (hb' : b < 8)
    (h : S288x512.Rotates 0 none) (r : Fin 288) (l : Fin 512) :
    dynamicRotate 0 n none v h (ix2 r l) = v (ix2 (⟨(r.val + b) % 288, Nat.mod_lt _ (by decide)⟩ : Fin 288) l) := by
  rw [Pointwise.dynamicRotate_apply]
  congr 1
  funext d
  match d with
  | ⟨0, _⟩ =>
    refine Fin.ext ?_
    show (r.val + 288 - (n.toNat + 0) % 288) % 288 = (r.val + b) % 288
    have := r.isLt
    rw [hn]; omega
  | ⟨1, _⟩ => rfl

/-- What is stored of the copy moved by `b`, for a run of lanes. -/
theorem stage_tile (v w : Vec F S288x512 .f32) (b c : ℕ) (hb : b < 8) (hc : c < 4)
    (hw : ∀ (r : Fin 288) (l : Fin 512), w (ix2 r l) = v (ix2 (⟨(r.val + b) % 288, Nat.mod_lt _ (by decide)⟩ : Fin 288) l))
    (h : S288x512.Slices ![0, 128 * c] S288x128) (h' : S288x128.ShapeCasts S1x1x288x128)
    (inb : ∀ a, (![b, c, 0, 0] : Fin 4 → ℕ) a + S1x1x288x128.size a ≤ S8x4x288x128.size a) (x : S1x1x288x128.Idx) :
    shapeCast S1x1x288x128 (extractStridedSlice S288x128 ![0, 128 * c] w h) h' x
      = shifted v ((Rect.unit (s := S8x4x288x128) ![b, c, 0, 0] S1x1x288x128.size inb).emb x) := by
  have hx0 : (x 0).val < 1 := (x 0).isLt
  have hx1 : (x 1).val < 1 := (x 1).isLt
  have hx2 : (x 2).val < 288 := (x 2).isLt
  have hx3 : (x 3).val < 128 := (x 3).isLt
  refine Eq.trans (b := w (ix2 (⟨(x 2).val, hx2⟩ : Fin 288) (⟨128 * c + (x 3).val, by omega⟩ : Fin 512))) ?_ ?_
  · have ex : x = Idealize.ShloMosaic.ix4 (0 : Fin 1) (0 : Fin 1) (⟨(x 2).val, hx2⟩ : Fin 288) (⟨(x 3).val, hx3⟩ : Fin 128) := by
      funext d
      match d with
      | ⟨0, _⟩ => exact Fin.ext (show (x 0).val = 0 by omega)
      | ⟨1, _⟩ => exact Fin.ext (show (x 1).val = 0 by omega)
      | ⟨2, _⟩ => rfl
      | ⟨3, _⟩ => rfl
    conv_lhs => rw [ex]
    pointwise
  rw [hw]
  unfold shifted
  congr 1
  funext d
  match d with
  | ⟨0, _⟩ =>
    refine Fin.ext ?_
    show ((x 2).val + b) % 288 = (((Rect.unit (s := S8x4x288x128) ![b, c, 0, 0] S1x1x288x128.size inb).emb x 2).val
      + ((Rect.unit (s := S8x4x288x128) ![b, c, 0, 0] S1x1x288x128.size inb).emb x 0).val) % 288
    rw [Rect.emb_apply, Rect.emb_apply]
    simp
    omega
  | ⟨1, _⟩ =>
    refine Fin.ext ?_
    show 128 * c + (x 3).val = 128 * ((Rect.unit (s := S8x4x288x128) ![b, c, 0, 0] S1x1x288x128.size inb).emb x 1).val
      + ((Rect.unit (s := S8x4x288x128) ![b, c, 0, 0] S1x1x288x128.size inb).emb x 3).val
    rw [Rect.emb_apply, Rect.emb_apply]
    simp
    omega

/-- The same tile, of the rows moved up by `b`. -/
theorem stage_rot (v : Vec F S288x512 .f32) (b c : ℕ) (n : BitVec 32) (hb : 0 < b ∧ b < 8 ∧ c < 4 ∧ n.toNat = 288 - b)
    (h : S288x512.Slices ![0, 128 * c] S288x128)
    (inb : ∀ a, (![b, c, 0, 0] : Fin 4 → ℕ) a + S1x1x288x128.size a ≤ S8x4x288x128.size a) (x : S1x1x288x128.Idx) :
    shapeCast S1x1x288x128 (extractStridedSlice S288x128 ![0, 128 * c] (dynamicRotate 0 n none v rotates_S288x512_d0) h)
        shapeCasts_S288x128_S1x1x288x128 x
      = shifted v ((Rect.unit (s := S8x4x288x128) ![b, c, 0, 0] S1x1x288x128.size inb).emb x) :=
  stage_tile v _ b c hb.2.1 hb.2.2.1 (rot_at v b n hb.2.2.2 hb.1 hb.2.1 _) h _ inb x

/-- The same tile, of the rows left in place. -/
theorem stage_still (v : Vec F S288x512 .f32) (c : ℕ) (hc : c < 4) (h : S288x512.Slices ![0, 128 * c] S288x128)
    (inb : ∀ a, (![0, c, 0, 0] : Fin 4 → ℕ) a + S1x1x288x128.size a ≤ S8x4x288x128.size a) (x : S1x1x288x128.Idx) :
    shapeCast S1x1x288x128 (extractStridedSlice S288x128 ![0, 128 * c] v h) shapeCasts_S288x128_S1x1x288x128 x
      = shifted v ((Rect.unit (s := S8x4x288x128) ![0, c, 0, 0] S1x1x288x128.size inb).emb x) :=
  stage_tile v v 0 c (by decide) hc (rot_zero v) h _ inb x

/-- The rows a trip of the second loop loads, from 32 rows beyond its own. -/
abbrev rows288 (U : Vec F S2080x512 .f32) (k : Fin k0_t2_loop.trips) : Vec F S288x512 .f32 := fun x =>
  U ((Rect.unit (s := S2080x512) (k0_off6 k) S288x512.size (k0_off6_inb k)).emb x)

/-- A run of 128 lanes of an array of 2048 rows, out of tiles of 128 rows, two a trip. -/
def pickStrip {α : Type} {n : ℕ} (hn : n = 2) (P : Fin k0_t2_loop.trips → Fin n → S128x128.Idx → α) : S2048x512.Idx → α := fun i =>
  P ⟨(i 0).val / 256, by have h : (i 0).val < 2048 := (i 0).isLt; rw [trips2]; omega⟩
    ⟨(i 0).val % 256 / 128, by rw [hn]; omega⟩
    (ix2 (⟨(i 0).val % 128, Nat.mod_lt _ (by decide)⟩ : Fin 128) (⟨(i 1).val % 128, Nat.mod_lt _ (by decide)⟩ : Fin 128))

theorem pickStrip_at {α : Type} {n : ℕ} (hn : n = 2) (P : Fin k0_t2_loop.trips → Fin n → S128x128.Idx → α)
    (k2 : Fin k0_t2_loop.trips) (k : Fin n) (x : S128x128.Idx) (c : ℕ) (i : S2048x512.Idx)
    (h0 : (i 0).val = 256 * k2.val + 128 * k.val + (x 0).val) (h1 : (i 1).val = 128 * c + (x 1).val) :
    pickStrip hn P i = P k2 k x := by
  have hx : (x 0).val < 128 := (x 0).isLt
  have hx1 : (x 1).val < 128 := (x 1).isLt
  have hk : k.val < 2 := hn ▸ k.isLt
  unfold pickStrip
  have e1 : (⟨(i 0).val / 256, by have h : (i 0).val < 2048 := (i 0).isLt; rw [trips2]; omega⟩ : Fin k0_t2_loop.trips) = k2 :=
    Fin.ext (by show (i 0).val / 256 = k2.val; omega)
  have e2 : (⟨(i 0).val % 256 / 128, by rw [hn]; omega⟩ : Fin n) = k := Fin.ext (by show (i 0).val % 256 / 128 = k.val; omega)
  rw [e1, e2]
  congr 1
  funext a
  match a with
  | ⟨0, _⟩ => exact Fin.ext (show (i 0).val % 128 = (x 0).val by omega)
  | ⟨1, _⟩ => exact Fin.ext (show (i 1).val % 128 = (x 1).val by omega)

/-- Four runs of lanes side by side. -/
def joinStrips {α : Type} (A0 A1 A2 A3 : S2048x512.Idx → α) : S2048x512.Idx → α := fun i =>
  if (i 1).val < 128 then A0 i else if (i 1).val < 256 then A1 i else if (i 1).val < 384 then A2 i else A3 i

/-- Where a tile's rectangle puts its entries. -/
theorem emb_tile {off : Fin 2 → ℕ} {o c : ℕ} (hoff : off = ![o, c]) {inb : ∀ a, off a + S128x128.size a ≤ S2048x512.size a}
    (x : S128x128.Idx) :
    (((Rect.unit (s := S2048x512) off S128x128.size inb).emb x) 0).val = o + (x 0).val
      ∧ (((Rect.unit (s := S2048x512) off S128x128.size inb).emb x) 1).val = c + (x 1).val := by
  subst hoff
  constructor
  · rw [Rect.emb_apply]; simp
  · rw [Rect.emb_apply]; simp

theorem mem_tile {off : Fin 2 → ℕ} {o c : ℕ} (hoff : off = ![o, c]) {inb : ∀ a, off a + S128x128.size a ≤ S2048x512.size a}
    {i : S2048x512.Idx} : i ∈ (Rect.unit (s := S2048x512) off S128x128.size inb).set
      ↔ (o ≤ (i 0).val ∧ (i 0).val < o + 128) ∧ (c ≤ (i 1).val ∧ (i 1).val < c + 128) := by
  subst hoff
  rw [Rect.mem_set_unit, Fin.forall_fin_two]
  exact Iff.rfl

/-- What is written of a large result before trip `n` of the loop over run `c` of lanes, in trip `k2` of the second loop. -/
def Known (k2 c n : ℕ) (i : S2048x512.Idx) : Prop :=
  (i 0).val < 256 * k2 ∨ ((i 0).val < 256 * k2 + 256 ∧ (i 1).val < 128 * c)
    ∨ ((i 0).val < 256 * k2 + 128 * n ∧ (i 1).val < 128 * c + 128)

/-- A tile's store takes what is known one trip further. -/
theorem store_tile {κ : Kind} {sp : Space} {e : EltTy} (v : View sig κ sp S2048x512 e) (f : BufTy.Contents (Elt F) v.ty)
    {off : Fin 2 → ℕ} {k2 n c : ℕ} (hoff : off = ![256 * k2 + 128 * n, 128 * c]) (inb : ∀ a, off a + S128x128.size a ≤ S2048x512.size a)
    (w : S128x128.Idx → Elt F e) (G : S2048x512.Idx → Elt F e) (B : Finset S2048x512.Idx) (hn : n < 2)
    (hP : ∀ i ∈ B, Known k2 c n i → v.read (Elt F) f i = G i)
    (hw : ∀ x : S128x128.Idx, w x = G ((Rect.unit (s := S2048x512) off S128x128.size inb).emb x)) :
    ∀ i ∈ B, Known k2 c (n + 1) i →
      v.read (Elt F) (v.writes (Elt F) f [⟨Rect.unit (s := S2048x512) off S128x128.size inb, w⟩]) i = G i := by
  intro i hi hk
  refine store_extends v f (Rect.unit (s := S2048x512) off S128x128.size inb) w G (fun i => i ∈ B ∧ Known k2 c n i)
    (fun i h => hP i h.1 h.2) hw i ?_
  rw [mem_tile hoff]
  unfold Known at hk ⊢
  by_cases h : (256 * k2 + 128 * n ≤ (i 0).val ∧ (i 0).val < 256 * k2 + 128 * n + 128) ∧ (128 * c ≤ (i 1).val ∧ (i 1).val < 128 * c + 128)
  · exact Or.inr h
  · exact Or.inl ⟨hi, by omega⟩

variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable (X5 : BufTy.Contents (Elt F) A5.view.ty) (X17 : BufTy.Contents (Elt F) A17.view.ty) (X18 : BufTy.Contents (Elt F) A18.view.ty)
  (X14 : BufTy.Contents (Elt F) A14.view.ty)

/-- The gradient at the first factor's input, out of the tiles the inner loops store, `D` the gradient at the convolution's output. -/
def uaGrad (D : Vec F S2080x512 .f32) (𝒱 : Variants) (c : Dev nD) (bd : Option 𝒱.V) : S2048x512.Idx → Elt F .bf16 :=
  joinStrips
    (pickStrip trips3 fun k2 k => (tap0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).1)
    (pickStrip trips4 fun k2 k => (tap1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).1)
    (pickStrip trips5 fun k2 k => (tap2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).1)
    (pickStrip trips6 fun k2 k => (tap3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).1)

/-- The gradient at the second factor's input, out of the tiles the inner loops store, `D` the gradient at the convolution's output. -/
def ugGrad (D : Vec F S2080x512 .f32) (𝒱 : Variants) (c : Dev nD) (bd : Option 𝒱.V) : S2048x512.Idx → Elt F .bf16 :=
  joinStrips
    (pickStrip trips3 fun k2 k => (tap0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.1)
    (pickStrip trips4 fun k2 k => (tap1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.1)
    (pickStrip trips5 fun k2 k => (tap2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.1)
    (pickStrip trips6 fun k2 k => (tap3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.1)

/-- Before trip `n` of the inner loop over run `cc` of lanes. -/
def invTap (c : Dev nD) (X15 : BufTy.Contents (Elt F) A15.view.ty) (A B : S2048x512.Idx → Elt F .bf16) (k2 m : ℕ) (hm : m < 4) (cc n : ℕ) : sProp 𝕄 :=
  iprop(Reads2 A5 A15 A17 A18 X5 X15 X17 X18 c
    ∗ (∃ f : BufTy.Contents (Elt F) A22.view.ty, (A22.view.loc (c : Thread nD τ) ↦[A22.view.setOn (slab m hm).set]{fullShare} f)
        ∗ ⌜∀ i ∈ (slab m hm).set, Known k2 cc n i → A22.view.read (Elt F) f i = A i⌝)
    ∗ (∃ f : BufTy.Contents (Elt F) A23.view.ty, (A23.view.loc (c : Thread nD τ) ↦[A23.view.setOn (slab m hm).set]{fullShare} f)
        ∗ ⌜∀ i ∈ (slab m hm).set, Known k2 cc n i → A23.view.read (Elt F) f i = B i⌝))

/-- A trip of the loop over run 0 of lanes keeps it. -/
theorem stepTap0 (D : Vec F S2080x512 .f32) (𝒱 : Variants) (c : Dev nD) (bd : Option 𝒱.V) (k2 : Fin k0_t2_loop.trips) (v228 : BitVec 32)
    (v349 : FVec F S288x512 .f32) (m : ℕ) (hm : m < 4) (hmk : m = k2.val / 2) (k : Fin k0_t3_loop.trips) :
    invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 0 k.val
    ⊢ wp frame (wpE (defs₀ (F := F)) 𝒱 (c : Thread nD τ) bd) Set.univ
        (k0_t3_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
        (fun _ => invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 0 (k.val + 1)) := by
  unfold invTap
  iintro ⟨HR, ⟨%f22, H22, %h22⟩, ⟨%f23, H23, %h23⟩⟩
  iapply (wp_wand frame (wpE (defs₀ (F := F)) 𝒱 (c : Thread nD τ) bd) Set.univ) $$ [HR H22 H23] []
  · iapply ((tap0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.2 v228 v349 m hm hmk f22 f23) $$ [HR H22 H23]
    isplitl [HR]; · iexact HR
    isplitl [H22]; · iexact H22
    iexact H23
  iintro %_ ⟨HR, H22, H23⟩
  isplitl [HR]; · iexact HR
  isplitl [H22]
  · iexists _
    isplitl [H22]; · iexact H22
    ipureintro
    refine store_tile A22.view f22 (k0_off15_eq k2 k) (k0_off15_inb k2 k) _ _ _ (Nat.lt_of_lt_of_le k.isLt k0_t3_abs.2.1) h22 fun x => ?_
    have h := emb_tile (k0_off15_eq k2 k) (inb := k0_off15_inb k2 k) x
    have hx : (x 1).val < 128 := (x 1).isLt
    unfold uaGrad joinStrips
    generalize (Rect.unit (s := S2048x512) (k0_off15 k2 k) S128x128.size (k0_off15_inb k2 k)).emb x = i at h
    rw [if_pos (show (i 1).val < 128 by omega)]
    rw [pickStrip_at trips3 _ k2 k x 0 i h.1 h.2]
  · iexists _
    isplitl [H23]; · iexact H23
    ipureintro
    refine store_tile A23.view f23 (k0_off15_eq k2 k) (k0_off15_inb k2 k) _ _ _ (Nat.lt_of_lt_of_le k.isLt k0_t3_abs.2.1) h23 fun x => ?_
    have h := emb_tile (k0_off15_eq k2 k) (inb := k0_off15_inb k2 k) x
    have hx : (x 1).val < 128 := (x 1).isLt
    unfold ugGrad joinStrips
    generalize (Rect.unit (s := S2048x512) (k0_off15 k2 k) S128x128.size (k0_off15_inb k2 k)).emb x = i at h
    rw [if_pos (show (i 1).val < 128 by omega)]
    rw [pickStrip_at trips3 _ k2 k x 0 i h.1 h.2]

/-- A trip of the loop over run 1 of lanes keeps it. -/
theorem stepTap1 (D : Vec F S2080x512 .f32) (𝒱 : Variants) (c : Dev nD) (bd : Option 𝒱.V) (k2 : Fin k0_t2_loop.trips) (v228 : BitVec 32)
    (v349 : FVec F S288x512 .f32) (m : ℕ) (hm : m < 4) (hmk : m = k2.val / 2) (k : Fin k0_t4_loop.trips) :
    invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 1 k.val
    ⊢ wp frame (wpE (defs₀ (F := F)) 𝒱 (c : Thread nD τ) bd) Set.univ
        (k0_t4_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
        (fun _ => invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 1 (k.val + 1)) := by
  unfold invTap
  iintro ⟨HR, ⟨%f22, H22, %h22⟩, ⟨%f23, H23, %h23⟩⟩
  iapply (wp_wand frame (wpE (defs₀ (F := F)) 𝒱 (c : Thread nD τ) bd) Set.univ) $$ [HR H22 H23] []
  · iapply ((tap1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.2 v228 v349 m hm hmk f22 f23) $$ [HR H22 H23]
    isplitl [HR]; · iexact HR
    isplitl [H22]; · iexact H22
    iexact H23
  iintro %_ ⟨HR, H22, H23⟩
  isplitl [HR]; · iexact HR
  isplitl [H22]
  · iexists _
    isplitl [H22]; · iexact H22
    ipureintro
    refine store_tile A22.view f22 (k0_off24_eq k2 k) (k0_off24_inb k2 k) _ _ _ (Nat.lt_of_lt_of_le k.isLt k0_t4_abs.2.1) h22 fun x => ?_
    have h := emb_tile (k0_off24_eq k2 k) (inb := k0_off24_inb k2 k) x
    have hx : (x 1).val < 128 := (x 1).isLt
    unfold uaGrad joinStrips
    generalize (Rect.unit (s := S2048x512) (k0_off24 k2 k) S128x128.size (k0_off24_inb k2 k)).emb x = i at h
    rw [if_neg (show ¬ (i 1).val < 128 by omega), if_pos (show (i 1).val < 256 by omega)]
    rw [pickStrip_at trips4 _ k2 k x 1 i h.1 h.2]
  · iexists _
    isplitl [H23]; · iexact H23
    ipureintro
    refine store_tile A23.view f23 (k0_off24_eq k2 k) (k0_off24_inb k2 k) _ _ _ (Nat.lt_of_lt_of_le k.isLt k0_t4_abs.2.1) h23 fun x => ?_
    have h := emb_tile (k0_off24_eq k2 k) (inb := k0_off24_inb k2 k) x
    have hx : (x 1).val < 128 := (x 1).isLt
    unfold ugGrad joinStrips
    generalize (Rect.unit (s := S2048x512) (k0_off24 k2 k) S128x128.size (k0_off24_inb k2 k)).emb x = i at h
    rw [if_neg (show ¬ (i 1).val < 128 by omega), if_pos (show (i 1).val < 256 by omega)]
    rw [pickStrip_at trips4 _ k2 k x 1 i h.1 h.2]

/-- A trip of the loop over run 2 of lanes keeps it. -/
theorem stepTap2 (D : Vec F S2080x512 .f32) (𝒱 : Variants) (c : Dev nD) (bd : Option 𝒱.V) (k2 : Fin k0_t2_loop.trips) (v228 : BitVec 32)
    (v349 : FVec F S288x512 .f32) (m : ℕ) (hm : m < 4) (hmk : m = k2.val / 2) (k : Fin k0_t5_loop.trips) :
    invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 2 k.val
    ⊢ wp frame (wpE (defs₀ (F := F)) 𝒱 (c : Thread nD τ) bd) Set.univ
        (k0_t5_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
        (fun _ => invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 2 (k.val + 1)) := by
  unfold invTap
  iintro ⟨HR, ⟨%f22, H22, %h22⟩, ⟨%f23, H23, %h23⟩⟩
  iapply (wp_wand frame (wpE (defs₀ (F := F)) 𝒱 (c : Thread nD τ) bd) Set.univ) $$ [HR H22 H23] []
  · iapply ((tap2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.2 v228 v349 m hm hmk f22 f23) $$ [HR H22 H23]
    isplitl [HR]; · iexact HR
    isplitl [H22]; · iexact H22
    iexact H23
  iintro %_ ⟨HR, H22, H23⟩
  isplitl [HR]; · iexact HR
  isplitl [H22]
  · iexists _
    isplitl [H22]; · iexact H22
    ipureintro
    refine store_tile A22.view f22 (k0_off33_eq k2 k) (k0_off33_inb k2 k) _ _ _ (Nat.lt_of_lt_of_le k.isLt k0_t5_abs.2.1) h22 fun x => ?_
    have h := emb_tile (k0_off33_eq k2 k) (inb := k0_off33_inb k2 k) x
    have hx : (x 1).val < 128 := (x 1).isLt
    unfold uaGrad joinStrips
    generalize (Rect.unit (s := S2048x512) (k0_off33 k2 k) S128x128.size (k0_off33_inb k2 k)).emb x = i at h
    rw [if_neg (show ¬ (i 1).val < 128 by omega), if_neg (show ¬ (i 1).val < 256 by omega), if_pos (show (i 1).val < 384 by omega)]
    rw [pickStrip_at trips5 _ k2 k x 2 i h.1 h.2]
  · iexists _
    isplitl [H23]; · iexact H23
    ipureintro
    refine store_tile A23.view f23 (k0_off33_eq k2 k) (k0_off33_inb k2 k) _ _ _ (Nat.lt_of_lt_of_le k.isLt k0_t5_abs.2.1) h23 fun x => ?_
    have h := emb_tile (k0_off33_eq k2 k) (inb := k0_off33_inb k2 k) x
    have hx : (x 1).val < 128 := (x 1).isLt
    unfold ugGrad joinStrips
    generalize (Rect.unit (s := S2048x512) (k0_off33 k2 k) S128x128.size (k0_off33_inb k2 k)).emb x = i at h
    rw [if_neg (show ¬ (i 1).val < 128 by omega), if_neg (show ¬ (i 1).val < 256 by omega), if_pos (show (i 1).val < 384 by omega)]
    rw [pickStrip_at trips5 _ k2 k x 2 i h.1 h.2]

/-- A trip of the loop over run 3 of lanes keeps it. -/
theorem stepTap3 (D : Vec F S2080x512 .f32) (𝒱 : Variants) (c : Dev nD) (bd : Option 𝒱.V) (k2 : Fin k0_t2_loop.trips) (v228 : BitVec 32)
    (v349 : FVec F S288x512 .f32) (m : ℕ) (hm : m < 4) (hmk : m = k2.val / 2) (k : Fin k0_t6_loop.trips) :
    invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 3 k.val
    ⊢ wp frame (wpE (defs₀ (F := F)) 𝒱 (c : Thread nD τ) bd) Set.univ
        (k0_t6_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v349 k PUnit.unit)
        (fun _ => invTap A5 A15 A17 A18 A22 A23 X5 X17 X18 c (B15.unread (shifted (rows288 D k2)))
      (uaGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd)
      (ugGrad
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X5 X17 X18 D 𝒱 c bd) k2.val m hm 3 (k.val + 1)) := by
  unfold invTap
  iintro ⟨HR, ⟨%f22, H22, %h22⟩, ⟨%f23, H23, %h23⟩⟩
  iapply (wp_wand frame (wpE (defs₀ (F := F)) 𝒱 (c : Thread nD τ) bd) Set.univ) $$ [HR H22 H23] []
  · iapply ((tap3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X5 (B15.unread (shifted (rows288 D k2))) X17 X18 𝒱 c bd k2 k).2.2 v228 v349 m hm hmk f22 f23) $$ [HR H22 H23]
    isplitl [HR]; · iexact HR
    isplitl [H22]; · iexact H22
    iexact H23
  iintro %_ ⟨HR, H22, H23⟩
  isplitl [HR]; · iexact HR
  isplitl [H22]
  · iexists _
    isplitl [H22]; · iexact H22
    ipureintro
    refine store_tile A22.view f22 (k0_off42_eq k2 k) (k0_off42_inb k2 k) _ _ _ (Nat.lt_of_lt_of_le k.isLt k0_t6_abs.2.1) h22 fun x => ?_
    have h := emb_tile (k0_off42_eq k2 k) (inb := k0_off42_inb k2 k) x
    have hx : (x 1).val < 128 := (x 1).isLt
    unfold uaGrad joinStrips
    generalize (Rect.unit (s := S2048x512) (k0_off42 k2 k) S128x128.size (k0_off42_inb k2 k)).emb x = i at h
    rw [if_neg (show ¬ (i 1).val < 128 by omega), if_neg (show ¬ (i 1).val < 256 by omega), if_neg (show ¬ (i 1).val < 384 by omega)]
    rw [pickStrip_at trips6 _ k2 k x 3 i h.1 h.2]
  · iexists _
    isplitl [H23]; · iexact H23
    ipureintro
    refine store_tile A23.view f23 (k0_off42_eq k2 k) (k0_off42_inb k2 k) _ _ _ (Nat.lt_of_lt_of_le k.isLt k0_t6_abs.2.1) h23 fun x => ?_
    have h := emb_tile (k0_off42_eq k2 k) (inb := k0_off42_inb k2 k) x
    have hx : (x 1).val < 128 := (x 1).isLt
    unfold ugGrad joinStrips
    generalize (Rect.unit (s := S2048x512) (k0_off42 k2 k) S128x128.size (k0_off42_inb k2 k)).emb x = i at h
    rw [if_neg (show ¬ (i 1).val < 128 by omega), if_neg (show ¬ (i 1).val < 256 by omega), if_neg (show ¬ (i 1).val < 384 by omega)]
    rw [pickStrip_at trips6 _ k2 k x 3 i h.1 h.2]

/-- The sums before trip `n` of the loop over run 0 of lanes, from the sums `f` before the loop. -/
def sums0 (X15 : BufTy.Contents (Elt F) A15.view.ty) (𝒱 : Variants) (c : Dev nD) (bd : Option 𝒱.V) (k2 : Fin k0_t2_loop.trips)
    (f : BufTy.Contents (Elt F) A16.view.ty) : ℕ → BufTy.Contents (Elt F) A16.view.ty
  | 0 => f
  | n + 1 => if h : n < k0_t7_loop.trips then
      A16.view.writes (Elt F) (sums0 X15 𝒱 c bd k2 f n) ((grad0
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X14 X15 𝒱 c bd k2 ⟨n, h⟩).1 (sums0 X15 𝒱 c bd k2 f n))
    else sums0 X15 𝒱 c bd k2 f n

/-- Before trip `n` of the loop over run 0 of lanes. -/
def invSum0 (X15 : BufTy.Contents (Elt F) A15.view.ty) (𝒱 : Variants) (c : Dev nD) (bd : Option 𝒱.V) (k2 : Fin k0_t2_loop.trips)
    (f : BufTy.Contents (Elt F) A16.view.ty) (n : ℕ) : sProp 𝕄 :=
  iprop(Reads3 A14 A15 X14 X15 c ∗ (A16.view.loc (c : Thread nD τ) ↦{fullShare} (sums0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f n)))

/-- A trip of the loop over run 0 of lanes keeps it. -/
theorem stepSum0 (X15 : BufTy.Contents (Elt F) A15.view.ty) (𝒱 : Variants) (c : Dev nD) (bd : Option 𝒱.V) (k2 : Fin k0_t2_loop.trips)
    (f : BufTy.Contents (Elt F) A16.view.ty) (v228 : BitVec 32) (v371 : FVec F S288x512 .f32) (k : Fin k0_t7_loop.trips) :
    invSum0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f k.val
    ⊢ wp frame (wpE (defs₀ (F := F)) 𝒱 (c : Thread nD τ) bd) Set.univ
        (k0_t7_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v371 k PUnit.unit)
        (fun _ => invSum0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f (k.val + 1)) := by
  unfold invSum0
  rw [sums0, dif_pos k.isLt]
  exact (grad0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 k).2 v228 v371 _

/-- The sums before trip `n` of the loop over run 1 of lanes, from the sums `f` before the loop. -/
def sums1 (X15 : BufTy.Contents (Elt F) A15.view.ty) (𝒱 : Variants) (c : Dev nD) (bd : Option 𝒱.V) (k2 : Fin k0_t2_loop.trips)
    (f : BufTy.Contents (Elt F) A16.view.ty) : ℕ → BufTy.Contents (Elt F) A16.view.ty
  | 0 => f
  | n + 1 => if h : n < k0_t8_loop.trips then
      A16.view.writes (Elt F) (sums1 X15 𝒱 c bd k2 f n) ((grad1
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X14 X15 𝒱 c bd k2 ⟨n, h⟩).1 (sums1 X15 𝒱 c bd k2 f n))
    else sums1 X15 𝒱 c bd k2 f n

/-- Before trip `n` of the loop over run 1 of lanes. -/
def invSum1 (X15 : BufTy.Contents (Elt F) A15.view.ty) (𝒱 : Variants) (c : Dev nD) (bd : Option 𝒱.V) (k2 : Fin k0_t2_loop.trips)
    (f : BufTy.Contents (Elt F) A16.view.ty) (n : ℕ) : sProp 𝕄 :=
  iprop(Reads3 A14 A15 X14 X15 c ∗ (A16.view.loc (c : Thread nD τ) ↦{fullShare} (sums1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f n)))

/-- A trip of the loop over run 1 of lanes keeps it. -/
theorem stepSum1 (X15 : BufTy.Contents (Elt F) A15.view.ty) (𝒱 : Variants) (c : Dev nD) (bd : Option 𝒱.V) (k2 : Fin k0_t2_loop.trips)
    (f : BufTy.Contents (Elt F) A16.view.ty) (v228 : BitVec 32) (v371 : FVec F S288x512 .f32) (k : Fin k0_t8_loop.trips) :
    invSum1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f k.val
    ⊢ wp frame (wpE (defs₀ (F := F)) 𝒱 (c : Thread nD τ) bd) Set.univ
        (k0_t8_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v371 k PUnit.unit)
        (fun _ => invSum1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f (k.val + 1)) := by
  unfold invSum1
  rw [sums1, dif_pos k.isLt]
  exact (grad1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 k).2 v228 v371 _

/-- The sums before trip `n` of the loop over run 2 of lanes, from the sums `f` before the loop. -/
def sums2 (X15 : BufTy.Contents (Elt F) A15.view.ty) (𝒱 : Variants) (c : Dev nD) (bd : Option 𝒱.V) (k2 : Fin k0_t2_loop.trips)
    (f : BufTy.Contents (Elt F) A16.view.ty) : ℕ → BufTy.Contents (Elt F) A16.view.ty
  | 0 => f
  | n + 1 => if h : n < k0_t9_loop.trips then
      A16.view.writes (Elt F) (sums2 X15 𝒱 c bd k2 f n) ((grad2
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X14 X15 𝒱 c bd k2 ⟨n, h⟩).1 (sums2 X15 𝒱 c bd k2 f n))
    else sums2 X15 𝒱 c bd k2 f n

/-- Before trip `n` of the loop over run 2 of lanes. -/
def invSum2 (X15 : BufTy.Contents (Elt F) A15.view.ty) (𝒱 : Variants) (c : Dev nD) (bd : Option 𝒱.V) (k2 : Fin k0_t2_loop.trips)
    (f : BufTy.Contents (Elt F) A16.view.ty) (n : ℕ) : sProp 𝕄 :=
  iprop(Reads3 A14 A15 X14 X15 c ∗ (A16.view.loc (c : Thread nD τ) ↦{fullShare} (sums2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f n)))

/-- A trip of the loop over run 2 of lanes keeps it. -/
theorem stepSum2 (X15 : BufTy.Contents (Elt F) A15.view.ty) (𝒱 : Variants) (c : Dev nD) (bd : Option 𝒱.V) (k2 : Fin k0_t2_loop.trips)
    (f : BufTy.Contents (Elt F) A16.view.ty) (v228 : BitVec 32) (v371 : FVec F S288x512 .f32) (k : Fin k0_t9_loop.trips) :
    invSum2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f k.val
    ⊢ wp frame (wpE (defs₀ (F := F)) 𝒱 (c : Thread nD τ) bd) Set.univ
        (k0_t9_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 v371 k PUnit.unit)
        (fun _ => invSum2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f (k.val + 1)) := by
  unfold invSum2
  rw [sums2, dif_pos k.isLt]
  exact (grad2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 k).2 v228 v371 _

/-- The sums before trip `n` of the loop over run 3 of lanes, from the sums `f` before the loop. -/
def sums3 (X15 : BufTy.Contents (Elt F) A15.view.ty) (𝒱 : Variants) (c : Dev nD) (bd : Option 𝒱.V) (k2 : Fin k0_t2_loop.trips)
    (f : BufTy.Contents (Elt F) A16.view.ty) : ℕ → BufTy.Contents (Elt F) A16.view.ty
  | 0 => f
  | n + 1 => if h : n < k0_t10_loop.trips then
      A16.view.writes (Elt F) (sums3 X15 𝒱 c bd k2 f n) ((grad3
        A0 B0 A1 B1 A2 B2 A3 B3 A4 B4 A5 B5 A6 B6 A7 B7 A8 B8 A9
        B9 A10 B10 A11 B11 A12 B12 A13 B13 A14 B14 A15 B15 A16 B16 A17
        B17 A18 B18 A19 B19 A20 B20 A21 B21 A22 B22 A23 B23 A24 B24 A25
        A26 A27 A28
        X14 X15 𝒱 c bd k2 ⟨n, h⟩).1 (sums3 X15 𝒱 c bd k2 f n))
    else sums3 X15 𝒱 c bd k2 f n

/-- Before trip `n` of the loop over run 3 of lanes. -/
def invSum3 (X15 : BufTy.Contents (Elt F) A15.view.ty) (𝒱 : Variants) (c : Dev nD) (bd : Option 𝒱.V) (k2 : Fin k0_t2_loop.trips)
    (f : BufTy.Contents (Elt F) A16.view.ty) (n : ℕ) : sProp 𝕄 :=
  iprop(Reads3 A14 A15 X14 X15 c ∗ (A16.view.loc (c : Thread nD τ) ↦{fullShare} (sums3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f n)))

/-- A trip of the loop over run 3 of lanes keeps it. -/
theorem stepSum3 (X15 : BufTy.Contents (Elt F) A15.view.ty) (𝒱 : Variants) (c : Dev nD) (bd : Option 𝒱.V) (k2 : Fin k0_t2_loop.trips)
    (f : BufTy.Contents (Elt F) A16.view.ty) (v228 : BitVec 32) (w0 w1 : BitVec 32) (k : Fin k0_t10_loop.trips) :
    invSum3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f k.val
    ⊢ wp frame (wpE (defs₀ (F := F)) 𝒱 (c : Thread nD τ) bd) Set.univ
        (k0_t10_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k2 v228 w0 w1 k PUnit.unit)
        (fun _ => invSum3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 f (k.val + 1)) := by
  unfold invSum3
  rw [sums3, dif_pos k.isLt]
  exact (grad3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      X14 X15 𝒱 c bd k2 k).2 v228 w0 w1 _

end Cert.Proof.Conv
-- ==== Proof.ConvT2.lean ====
/-
  The kernel's second loop: eight trips, each over 256 rows. A trip stages eight shifted copies of the rows of the
  gradient at the convolution's output, forms from them the gradients at the two factors' inputs, stages eight shifted
  copies of the gated input's rows, adds to the taps' gradients, and on every second trip sends two blocks of 512 rows.
-/
module

public import proofs.«01_k».proof.Proof.ConvLoops
public import Idealize.ShloMosaic.Lib.Ring

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem cond2_iff : ∀ k : Fin k0_t2_loop.trips, k0_cond2 k = 1#1 ↔ k.val % 2 = 1 := by decide +kernel
theorem off79_eq : ∀ (k : Fin k0_t2_loop.trips), k0_cond2 k = 1#1 → k0_off79 k = ![k.val / 2] := by decide +kernel
theorem off80_eq : ∀ (k : Fin k0_t2_loop.trips), k0_cond2 k = 1#1 → k0_off80 k = ![512 * (k.val / 2), 0] := by decide +kernel

/-- The rows a trip loads of a buffer held at an array are the array's. -/
theorem rows288_unread {a : Memref sig .tc .vmem S2080x512 .f32} (h : a.IsWhole) (U : Vec F S2080x512 .f32) (k : Fin k0_t2_loop.trips) :
    View.readAt (Elt F) a.view (Rect.unit (s := S2080x512) (k0_off6 k) S288x512.size (k0_off6_inb k)).toLoadRect (h.unread U) = rows288 U k := by
  funext x; exact h.readAt_unread U (Rect.unit (s := S2080x512) (k0_off6 k) S288x512.size (k0_off6_inb k)).toLoadRect x

/-- A block whose transfer is not yet issued, opened. -/
theorem open_block (c : Dev nD) (src : Memref sig .tc .vmem S2048x512 .bf16) (dst : Memref sig .tc .hbm S2048x512 .bf16)
    (G : S2048x512.Idx → Elt F .bf16) {sem : DmaSem sig} {N k m : ℕ} {hm : m < 4} (h : ¬ 2 * m + 2 ≤ k) :
    Block c src dst G sem N k m hm ⊢ iprop(∃ (f : BufTy.Contents (Elt F) src.view.ty) (fd : BufTy.Contents (Elt F) dst.view.ty),
      (src.view.loc (c : Thread nD τ) ↦[src.view.setOn (slab m hm).set]{fullShare} f)
      ∗ (dst.view.loc (c : Thread nD τ) ↦[dst.view.setOn (slab m hm).set]{fullShare} fd)
      ∗ semVal ((c : Thread nD τ), SemLoc.dma sem) 0
      ∗ ⌜∀ i ∈ (slab m hm).set, (i 0).val < 256 * k → src.view.read (Elt F) f i = G i⌝) := by
  rw [block_filling _ _ _ _ h]
  exact .rfl

/-- A transfer in flight is the block after its two trips. -/
theorem close_flight (c : Dev nD) (src : Memref sig .tc .vmem S2048x512 .bf16) (dst : Memref sig .tc .hbm S2048x512 .bf16)
    (G : S2048x512.Idx → Elt F .bf16) {sem : DmaSem sig} {N k m : ℕ} {hm : m < 4} (h : 2 * m + 2 ≤ k) :
    Transfers.Flight EC (c : Thread nD τ) (.dma sem) () N (Done c src dst G m hm) ⊢ Block c src dst G sem N k m hm := by
  rw [block_flight _ _ _ _ h]

/-- A block being filled is the block before its transfer. -/
theorem close_filling (c : Dev nD) (src : Memref sig .tc .vmem S2048x512 .bf16) (dst : Memref sig .tc .hbm S2048x512 .bf16)
    (G : S2048x512.Idx → Elt F .bf16) {sem : DmaSem sig} {N k m : ℕ} {hm : m < 4} (h : ¬ 2 * m + 2 ≤ k) :
    Filling c src dst G sem (256 * k) m hm ⊢ Block c src dst G sem N k m hm := by
  rw [block_filling _ _ _ _ h]

variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable (X5 : BufTy.Contents (Elt F) A5.view.ty) (X17 : BufTy.Contents (Elt F) A17.view.ty) (X18 : BufTy.Contents (Elt F) A18.view.ty)
  (Z D : Vec F S2080x512 .f32)

/-- What is known after a run of lanes is what the next run starts from. -/
theorem invTap_next (c : Dev nD) (X15 : BufTy.Contents (Elt F) A15.view.ty) (A B : S2048x512.Idx → Elt F .bf16) (k2 m : ℕ) (hm : m < 4)
    (cc : ℕ) {n : ℕ} (hn : n = 2) :
    invTap A5 A15 A17 A18 A22 A23 X5 X17 X18 c X15 A B k2 m hm cc n
      ⊢ invTap A5 A15 A17 A18 A22 A23 X5 X17 X18 c X15 A B k2 m hm (cc + 1) 0 := by
  subst hn
  unfold invTap
  iintro ⟨HR, ⟨%f, H22, %h⟩, ⟨%g, H23, %h'⟩⟩
  isplitl [HR]; · iexact HR
  isplitl [H22]
  · iexists f
    isplitl [H22]; · iexact H22
    ipureintro
    exact fun i hi hk => h i hi (by unfold Known at hk ⊢; omega)
  · iexists g
    isplitl [H23]; · iexact H23
    ipureintro
    exact fun i hi hk => h' i hi (by unfold Known at hk ⊢; omega)

/-- The sums after trip `k2` of the second loop, from those before it. -/
def sumsTrip (𝒱 : Variants) (c : Dev nD) (bd : Option 𝒱.V) (k2 : Fin k0_t2_loop.trips)
    (f : BufTy.Contents (Elt F) A16.view.ty) : BufTy.Contents (Elt F) A16.view.ty :=
  let f0 := sums0
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f k0_t7_loop.trips
  let f1 := sums1
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f0 k0_t8_loop.trips
  let f2 := sums2
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f1 k0_t9_loop.trips
  sums3
      A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f2 k0_t10_loop.trips

/-- The sums before trip `n` of the second loop, from `f` before the loop. -/
def sumsAt (𝒱 : Variants) (c : Dev nD) (bd : Option 𝒱.V) (f : BufTy.Contents (Elt F) A16.view.ty) : ℕ → BufTy.Contents (Elt F) A16.view.ty
  | 0 => f
  | n + 1 => if h : n < k0_t2_loop.trips then sumsTrip
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 Z D 𝒱 c bd ⟨n, h⟩ (sumsAt 𝒱 c bd f n) else sumsAt 𝒱 c bd f n

/-- Before trip `n` of the second loop. -/
def inv2 (𝒱 : Variants) (c : Dev nD) (bd : Option 𝒱.V) (N : ℕ) (f16 : BufTy.Contents (Elt F) A16.view.ty) (n : ℕ) : sProp 𝕄 :=
  iprop((A5.view.loc (c : Thread nD τ) ↦{fullShare} X5)
    ∗ (A13.view.loc (c : Thread nD τ) ↦{fullShare} (B13.unread Z))
    ∗ (A14.view.loc (c : Thread nD τ) ↦{fullShare} (B14.unread D))
    ∗ (∃ f15 : BufTy.Contents (Elt F) A15.view.ty, (A15.view.loc (c : Thread nD τ) ↦{fullShare} f15))
    ∗ (A16.view.loc (c : Thread nD τ) ↦{fullShare} (sumsAt
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 Z D 𝒱 c bd f16 n))
    ∗ (A17.view.loc (c : Thread nD τ) ↦{fullShare} X17)
    ∗ (A18.view.loc (c : Thread nD τ) ↦{fullShare} X18)
    ∗ Blocks c A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) A26 N n
    ∗ Blocks c A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) A27 N n)

set_option maxHeartbeats 2000000 in
/-- A trip of the second loop keeps its invariant. -/
theorem step2 (𝒱 : Variants) (c : Dev nD) (bd : Option 𝒱.V) (N : ℕ)
    (hN8 : ∀ (m : ℕ) (hm : m < 4) (sem : DmaSem sig), ∀ h2, ((A8.slice (slab m hm) h2).view.amount (.dma sem)) = N)
    (hN9 : ∀ (m : ℕ) (hm : m < 4) (sem : DmaSem sig), ∀ h2, ((A9.slice (slab m hm) h2).view.amount (.dma sem)) = N) (hN0 : 0 < N)
    (f16 : BufTy.Contents (Elt F) A16.view.ty) (k : Fin k0_t2_loop.trips) (acc : Unit) :
    inv2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 Z D 𝒱 c bd N f16 k.val
    ⊢ wp frame (wpE (defs₀ (F := F)) 𝒱 (c : Thread nD τ) bd) Set.univ
        (k0_t2_body (F := F)
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 k acc)
        (fun _ => inv2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 Z D 𝒱 c bd N f16 (k.val + 1)) := by
  have hk : k.val < 8 := Nat.lt_of_lt_of_le k.isLt k0_t2_abs.2.1
  have hm : k.val / 2 < 4 := by omega
  have hb1 : 512 * (k.val / 2) ≤ 256 * k.val := by omega
  have hb2 : 256 * k.val + 256 ≤ 512 * (k.val / 2) + 512 := by omega
  unfold inv2
  rw [sumsAt, dif_pos k.isLt]
  generalize (sumsAt
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 Z D 𝒱 c bd f16 k.val) = F16
  iintro ⟨H5, H13, H14, ⟨%f15, H15⟩, H16, H17, H18, HB8, HB9⟩
  ihave HB8' := (blocks_take c A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) A26 N k.val (k.val / 2) hm rfl) $$ HB8
  icases HB8' with ⟨HB8, HC8⟩
  ihave HB9' := (blocks_take c A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) A27 N k.val (k.val / 2) hm rfl) $$ HB9
  icases HB9' with ⟨HB9, HC9⟩
  unfold k0_t2_body
  set_option sl_exec.stopBefore "k0_t3_loop" in sl_exec
  ihave H15' := (hold_all B15 c _ (shifted (rows288 D k)) _ ?hL ?hc) $$ H15
  case hc => exact Idealize.ShloMosaic.View.cover_of_tiledL _ S1x1x288x128.size (by sl_kernel_rfl)
  case hL =>
    rw [← rows288_unread B14 D k]
    have st := stage_rot (View.readAt (Elt F) A14.view (Rect.unit (s := S2080x512) (k0_off6 k) S288x512.size (k0_off6_inb k)).toLoadRect (B14.unread D))
    have st0 := stage_still (View.readAt (Elt F) A14.view (Rect.unit (s := S2080x512) (k0_off6 k) S288x512.size (k0_off6_inb k)).toLoadRect (B14.unread D))
    refine all_cons (st 7 3 281#32 (by decide) (by decide) (by decide)) ?_
    refine all_cons (st 7 2 281#32 (by decide) (by decide) (by decide)) ?_
    refine all_cons (st 7 1 281#32 (by decide) (by decide) (by decide)) ?_
    refine all_cons (st 7 0 281#32 (by decide) (by decide) (by decide)) ?_
    refine all_cons (st 6 3 282#32 (by decide) (by decide) (by decide)) ?_
    refine all_cons (st 6 2 282#32 (by decide) (by decide) (by decide)) ?_
    refine all_cons (st 6 1 282#32 (by decide) (by decide) (by decide)) ?_
    refine all_cons (st 6 0 282#32 (by decide) (by decide) (by decide)) ?_
    refine all_cons (st 5 3 283#32 (by decide) (by decide) (by decide)) ?_
    refine all_cons (st 5 2 283#32 (by decide) (by decide) (by decide)) ?_
    refine all_cons (st 5 1 283#32 (by decide) (by decide) (by decide)) ?_
    refine all_cons (st 5 0 283#32 (by decide) (by decide) (by decide)) ?_
    refine all_cons (st 4 3 284#32 (by decide) (by decide) (by decide)) ?_
    refine all_cons (st 4 2 284#32 (by decide) (by decide) (by decide)) ?_
    refine all_cons (st 4 1 284#32 (by decide) (by decide) (by decide)) ?_
    refine all_cons (st 4 0 284#32 (by decide) (by decide) (by decide)) ?_
    refine all_cons (st 3 3 285#32 (by decide) (by decide) (by decide)) ?_
    refine all_cons (st 3 2 285#32 (by decide) (by decide) (by decide)) ?_
    refine all_cons (st 3 1 285#32 (by decide) (by decide) (by decide)) ?_
    refine all_cons (st 3 0 285#32 (by decide) (by decide) (by decide)) ?_
    refine all_cons (st 2 3 286#32 (by decide) (by decide) (by decide)) ?_
    refine all_cons (st 2 2 286#32 (by decide) (by decide) (by decide)) ?_
    refine all_cons (st 2 1 286#32 (by decide) (by decide) (by decide)) ?_
    refine all_cons (st 2 0 286#32 (by decide) (by decide) (by decide)) ?_
    refine all_cons (st 1 3 287#32 (by decide) (by decide) (by decide)) ?_
    refine all_cons (st 1 2 287#32 (by decide) (by decide) (by decide)) ?_
    refine all_cons (st 1 1 287#32 (by decide) (by decide) (by decide)) ?_
    refine all_cons (st 1 0 287#32 (by decide) (by decide) (by decide)) ?_
    refine all_cons (st0 3 (by decide) (by decide) (by decide)) ?_
    refine all_cons (st0 2 (by decide) (by decide) (by decide)) ?_
    refine all_cons (st0 1 (by decide) (by decide) (by decide)) ?_
    refine all_cons (st0 0 (by decide) (by decide) (by decide)) ?_
    exact fun _ h => absurd h List.not_mem_nil
  ihave HB8' := (open_block c A22 A8 _ (by omega)) $$ HB8
  ihave HB9' := (open_block c A23 A9 _ (by omega)) $$ HB9
  icases HB8' with ⟨%f22, %fd8, H22, H8, Hs8, %h22⟩
  icases HB9' with ⟨%f23, %fd9, H23, H9, Hs9, %h23⟩
  ihave HI : (invTap A5 A15 A17 A18 A22 A23 X5 X17 X18 c (B15.unread (shifted (rows288 D k)))
    (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 0 0) $$ [H5 H15' H17 H18 H22 H23]
  · unfold invTap Reads2
    isplitl [H5 H15' H17 H18]
    · isplitl [H5]; · iexact H5
      isplitl [H15']; · iexact H15'
      isplitl [H17]; · iexact H17
      iexact H18
    isplitl [H22]
    · iexists f22
      isplitl [H22]; · iexact H22
      ipureintro
      exact fun i hi hk => h22 i hi (by unfold Known at hk; omega)
    · iexists f23
      isplitl [H23]; · iexact H23
      ipureintro
      exact fun i hi hk => h23 i hi (by unfold Known at hk; omega)
  iapply (Scf.wp_for_bind frame (wpE (defs₀ (F := F)) 𝒱 (c : Thread nD τ) bd) Set.univ _ _ _ _ _ _
    (fun n _ => invTap A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 0 n)
    (fun k' _ => stepTap0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd k _ _ (k.val / 2) hm rfl k')) $$ [HI] [H13 H14 H16 HC8 HC9 H8 Hs8 H9 Hs9]
  · iexact HI
  iintro %_ HI
  ihave HI := (invTap_next A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 0 trips3) $$ HI
  iapply (Scf.wp_for_bind frame (wpE (defs₀ (F := F)) 𝒱 (c : Thread nD τ) bd) Set.univ _ _ _ _ _ _
    (fun n _ => invTap A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 1 n)
    (fun k' _ => stepTap1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd k _ _ (k.val / 2) hm rfl k')) $$ [HI] [H13 H14 H16 HC8 HC9 H8 Hs8 H9 Hs9]
  · iexact HI
  iintro %_ HI
  ihave HI := (invTap_next A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 1 trips4) $$ HI
  iapply (Scf.wp_for_bind frame (wpE (defs₀ (F := F)) 𝒱 (c : Thread nD τ) bd) Set.univ _ _ _ _ _ _
    (fun n _ => invTap A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 2 n)
    (fun k' _ => stepTap2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd k _ _ (k.val / 2) hm rfl k')) $$ [HI] [H13 H14 H16 HC8 HC9 H8 Hs8 H9 Hs9]
  · iexact HI
  iintro %_ HI
  ihave HI := (invTap_next A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 2 trips5) $$ HI
  iapply (Scf.wp_for_bind frame (wpE (defs₀ (F := F)) 𝒱 (c : Thread nD τ) bd) Set.univ _ _ _ _ _ _
    (fun n _ => invTap A5 A15 A17 A18 A22 A23 X5 X17 X18 c (B15.unread (shifted (rows288 D k)))
      (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) k.val (k.val / 2) hm 3 n)
    (fun k' _ => stepTap3
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd k _ _ (k.val / 2) hm rfl k')) $$ [HI] [H13 H14 H16 HC8 HC9 H8 Hs8 H9 Hs9]
  · iexact HI
  iintro %_ HI
  unfold invTap Reads2
  icases HI with ⟨⟨H5, H15, H17, H18⟩, ⟨%f22', H22, %h22'⟩, ⟨%f23', H23, %h23'⟩⟩
  set_option sl_exec.stopBefore "k0_t7_loop" in sl_exec
  ihave H15' := (hold_all B15 c _ (shifted (rows288 Z k)) _ ?hL ?hc) $$ H15
  case hc => exact Idealize.ShloMosaic.View.cover_of_tiledL _ S1x1x288x128.size (by sl_kernel_rfl)
  case hL =>
    rw [← rows288_unread B13 Z k]
    have st := stage_rot (View.readAt (Elt F) A13.view (Rect.unit (s := S2080x512) (k0_off6 k) S288x512.size (k0_off6_inb k)).toLoadRect (B13.unread Z))
    have st0 := stage_still (View.readAt (Elt F) A13.view (Rect.unit (s := S2080x512) (k0_off6 k) S288x512.size (k0_off6_inb k)).toLoadRect (B13.unread Z))
    refine all_cons (st 7 3 281#32 (by decide) (by decide) (by decide)) ?_
    refine all_cons (st 7 2 281#32 (by decide) (by decide) (by decide)) ?_
    refine all_cons (st 7 1 281#32 (by decide) (by decide) (by decide)) ?_
    refine all_cons (st 7 0 281#32 (by decide) (by decide) (by decide)) ?_
    refine all_cons (st 6 3 282#32 (by decide) (by decide) (by decide)) ?_
    refine all_cons (st 6 2 282#32 (by decide) (by decide) (by decide)) ?_
    refine all_cons (st 6 1 282#32 (by decide) (by decide) (by decide)) ?_
    refine all_cons (st 6 0 282#32 (by decide) (by decide) (by decide)) ?_
    refine all_cons (st 5 3 283#32 (by decide) (by decide) (by decide)) ?_
    refine all_cons (st 5 2 283#32 (by decide) (by decide) (by decide)) ?_
    refine all_cons (st 5 1 283#32 (by decide) (by decide) (by decide)) ?_
    refine all_cons (st 5 0 283#32 (by decide) (by decide) (by decide)) ?_
    refine all_cons (st 4 3 284#32 (by decide) (by decide) (by decide)) ?_
    refine all_cons (st 4 2 284#32 (by decide) (by decide) (by decide)) ?_
    refine all_cons (st 4 1 284#32 (by decide) (by decide) (by decide)) ?_
    refine all_cons (st 4 0 284#32 (by decide) (by decide) (by decide)) ?_
    refine all_cons (st 3 3 285#32 (by decide) (by decide) (by decide)) ?_
    refine all_cons (st 3 2 285#32 (by decide) (by decide) (by decide)) ?_
    refine all_cons (st 3 1 285#32 (by decide) (by decide) (by decide)) ?_
    refine all_cons (st 3 0 285#32 (by decide) (by decide) (by decide)) ?_
    refine all_cons (st 2 3 286#32 (by decide) (by decide) (by decide)) ?_
    refine all_cons (st 2 2 286#32 (by decide) (by decide) (by decide)) ?_
    refine all_cons (st 2 1 286#32 (by decide) (by decide) (by decide)) ?_
    refine all_cons (st 2 0 286#32 (by decide) (by decide) (by decide)) ?_
    refine all_cons (st 1 3 287#32 (by decide) (by decide) (by decide)) ?_
    refine all_cons (st 1 2 287#32 (by decide) (by decide) (by decide)) ?_
    refine all_cons (st 1 1 287#32 (by decide) (by decide) (by decide)) ?_
    refine all_cons (st 1 0 287#32 (by decide) (by decide) (by decide)) ?_
    refine all_cons (st0 3 (by decide) (by decide) (by decide)) ?_
    refine all_cons (st0 2 (by decide) (by decide) (by decide)) ?_
    refine all_cons (st0 1 (by decide) (by decide) (by decide)) ?_
    refine all_cons (st0 0 (by decide) (by decide) (by decide)) ?_
    exact fun _ h => absurd h List.not_mem_nil
  ihave HI : iprop(Reads3 A14 A15 (B14.unread D) (B15.unread (shifted (rows288 Z k))) c
      ∗ (A16.view.loc (c : Thread nD τ) ↦{fullShare} F16)) $$ [H14 H15' H16]
  · unfold Reads3
    isplitl [H14 H15']
    · isplitl [H14]; · iexact H14
      iexact H15'
    iexact H16
  iapply (Scf.wp_for_bind frame (wpE (defs₀ (F := F)) 𝒱 (c : Thread nD τ) bd) Set.univ _ _ _ _ _ _
    (fun n _ => invSum0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k F16 n)
    (fun k' _ => stepSum0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k F16 _ _ k')) $$ [HI] [H5 H17 H18 H22 H23 H13 HC8 HC9 H8 Hs8 H9 Hs9]
  · unfold invSum0; iexact HI
  iintro %_ HI
  iapply (Scf.wp_for_bind frame (wpE (defs₀ (F := F)) 𝒱 (c : Thread nD τ) bd) Set.univ _ _ _ _ _ _
    (fun n _ => invSum1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k (sums0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k F16 k0_t7_loop.trips) n)
    (fun k' _ => stepSum1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k (sums0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k F16 k0_t7_loop.trips) _ _ k')) $$ [HI] [H5 H17 H18 H22 H23 H13 HC8 HC9 H8 Hs8 H9 Hs9]
  · unfold invSum0 invSum1; iexact HI
  iintro %_ HI
  iapply (Scf.wp_for_bind frame (wpE (defs₀ (F := F)) 𝒱 (c : Thread nD τ) bd) Set.univ _ _ _ _ _ _
    (fun n _ => invSum2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k (sums1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k (sums0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k F16 k0_t7_loop.trips) k0_t8_loop.trips) n)
    (fun k' _ => stepSum2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k (sums1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k (sums0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k F16 k0_t7_loop.trips) k0_t8_loop.trips) _ _ k')) $$ [HI] [H5 H17 H18 H22 H23 H13 HC8 HC9 H8 Hs8 H9 Hs9]
  · unfold invSum1 invSum2; iexact HI
  iintro %_ HI
  set_option sl_exec.stopBefore "k0_t10_loop" in sl_exec
  iapply (Scf.wp_for_bind frame (wpE (defs₀ (F := F)) 𝒱 (c : Thread nD τ) bd) Set.univ _ _ _ _ _ _
    (fun n _ => invSum3
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k (sums2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k (sums1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k (sums0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k F16 k0_t7_loop.trips) k0_t8_loop.trips) k0_t9_loop.trips) n)
    (fun k' _ => stepSum3
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (B14.unread D) (B15.unread (shifted (rows288 Z k))) 𝒱 c bd k (sums2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k (sums1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k (sums0
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28
      (B14.unread D) (B15.unread (shifted (rows288 Z k))) 𝒱 c bd k F16 k0_t7_loop.trips) k0_t8_loop.trips) k0_t9_loop.trips) _ _ _ k')) $$ [HI] [H5 H17 H18 H22 H23 H13 HC8 HC9 H8 Hs8 H9 Hs9]
  · unfold invSum2 invSum3; iexact HI
  iintro %_ HI
  unfold invSum3 Reads3
  icases HI with ⟨⟨H14, H15⟩, H16⟩
  set_option sl_exec.stopBefore "k0_cond2" in sl_exec
  have hf22 : ∀ i ∈ (slab (k.val / 2) hm).set, (i 0).val < 256 * (k.val + 1) → A22.view.read (Elt F) f22' i = uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd i := fun i hi hlt => h22' i hi (by
      have hi1 : (i 1).val < 512 := (i 1).isLt
      have ht : Scf.trips k0_t6_loop.lb k0_t6_loop.ub k0_t6_loop.st = 2 := trips6
      rw [ht]; unfold Known; omega)
  have hf23 : ∀ i ∈ (slab (k.val / 2) hm).set, (i 0).val < 256 * (k.val + 1) → A23.view.read (Elt F) f23' i = ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd i := fun i hi hlt => h23' i hi (by
      have hi1 : (i 1).val < 512 := (i 1).isLt
      have ht : Scf.trips k0_t6_loop.lb k0_t6_loop.ub k0_t6_loop.st = 2 := trips6
      rw [ht]; unfold Known; omega)
  by_cases hc : k0_cond2 k = 1#1
  · have hodd := (cond2_iff k).mp hc
    have ho80 := off80_eq k hc
    have ho79 := off79_eq k hc
    rw [dif_pos hc]
    iapply (issue (n := 256 * (k.val + 1)) (hm := hm) c A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) 𝒱 bd (by omega) ho80
      (congrArg SemLoc.dma (sem4_eq A26 hm (k0_off79_inb k hc) ho79)) ?_ hN0) $$ [H22 H8 Hs8] [H5 H13 H14 H15 H16 H17 H18 HC8 HC9 H23 H9 Hs9]
    · exact amount_eq A8 ho80 _ (hN8 _ hm _)
    · unfold Filling
      iexists _; iexists _
      isplitl [H22]; · iexact H22
      isplitl [H8]; · iexact H8
      isplitl [Hs8]; · iexact Hs8
      ipureintro
      exact hf22
    iintro HF8
    dsimp only [Prog.bind]
    iapply (issue (n := 256 * (k.val + 1)) (hm := hm) c A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 X5 X17 X18 D 𝒱 c bd) 𝒱 bd (by omega) ho80
      (congrArg SemLoc.dma (sem4_eq A27 hm (k0_off79_inb k hc) ho79)) ?_ hN0) $$ [H23 H9 Hs9] [H5 H13 H14 H15 H16 H17 H18 HC8 HC9 HF8]
    · exact amount_eq A9 ho80 _ (hN9 _ hm _)
    · unfold Filling
      iexists _; iexists _
      isplitl [H23]; · iexact H23
      isplitl [H9]; · iexact H9
      isplitl [Hs9]; · iexact Hs9
      ipureintro
      exact hf23
    iintro HF9
    dsimp only [Prog.bind]
    sl_step
    isplitl [H5]; · iexact H5
    isplitl [H13]; · iexact H13
    isplitl [H14]; · iexact H14
    isplitl [H15]; · iexists _; iexact H15
    isplitl [H16]; · unfold sumsTrip; iexact H16
    isplitl [H17]; · iexact H17
    isplitl [H18]; · iexact H18
    isplitl [HC8 HF8]
    · iapply HC8
      iapply (close_flight c A22 A8 _ (by omega)) $$ HF8
    · iapply HC9
      iapply (close_flight c A23 A9 _ (by omega)) $$ HF9
  · have hev : ¬ k.val % 2 = 1 := fun h => hc ((cond2_iff k).mpr h)
    rw [dif_neg hc]
    sl_step
    isplitl [H5]; · iexact H5
    isplitl [H13]; · iexact H13
    isplitl [H14]; · iexact H14
    isplitl [H15]; · iexists _; iexact H15
    isplitl [H16]; · unfold sumsTrip; iexact H16
    isplitl [H17]; · iexact H17
    isplitl [H18]; · iexact H18
    isplitl [HC8 H22 H8 Hs8]
    · iapply HC8
      iapply (close_filling c A22 A8 _ (by omega)) $$ [H22 H8 Hs8]
      unfold Filling
      iexists _; iexists _
      isplitl [H22]; · iexact H22
      isplitl [H8]; · iexact H8
      isplitl [Hs8]; · iexact Hs8
      ipureintro
      exact hf22

    · iapply HC9
      iapply (close_filling c A23 A9 _ (by omega)) $$ [H23 H9 Hs9]
      unfold Filling
      iexists _; iexists _
      isplitl [H23]; · iexact H23
      isplitl [H9]; · iexact H9
      isplitl [Hs9]; · iexact Hs9
      ipureintro
      exact hf23

end Cert.Proof.Conv
-- ==== Proof.ConvJoin.lean ====
/-
  What the kernel holds before its loops and after them: buffers dealt into the four blocks in which they are sent, and
  put together again when all four have arrived; a buffer filled by one whole transfer or one whole store; the two small
  results, stored row by row and tap by tap over zeros.
-/
module

public import proofs.«01_k».proof.Proof.ConvT2

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Every element of a whole memref's buffer lies under an index. -/
theorem mem_setOn_of_whole {sp : Space} {s : Shape} {e : EltTy} (a : Memref sig .tc sp s e) (ha : a.IsWhole) (j : a.view.ty.Idx) :
    ∃ i : s.Idx, a.view.emb i = j := by
  have hj : j ∈ a.view.set := by rw [ha.set_eq_univ]; exact Finset.mem_univ _
  obtain ⟨i, -, hi⟩ := Finset.mem_map.mp hj
  exact ⟨i, hi⟩

/-- The four blocks are the whole buffer. -/
theorem blocks_cover (c : Dev nD) {sp : Space} (a : Memref sig .tc sp S2048x512 .bf16) (ha : a.IsWhole) :
    (Finset.univ : Finset (Idx (a.view.loc (c : Thread nD τ))))
      = a.view.setOn (slab 0 (by decide)).set ∪ (a.view.setOn (slab 1 (by decide)).set
        ∪ (a.view.setOn (slab 2 (by decide)).set ∪ a.view.setOn (slab 3 (by decide)).set)) := by
  symm
  refine Finset.eq_univ_of_forall fun j => ?_
  obtain ⟨i, rfl⟩ := mem_setOn_of_whole a ha j
  have hi : (i 0).val < 2048 := (i 0).isLt
  have key : ∀ (m : ℕ) (hm : m < 4), 512 * m ≤ (i 0).val ∧ (i 0).val < 512 * m + 512 →
      a.view.emb i ∈ a.view.setOn (slab m hm).set := fun m hm h => (View.mem_setOn _).mpr (mem_slab.mpr h)
  rw [Finset.mem_union, Finset.mem_union, Finset.mem_union]
  by_cases h0 : (i 0).val < 512
  · exact Or.inl (key 0 _ (by omega))
  by_cases h1 : (i 0).val < 1024
  · exact Or.inr (Or.inl (key 1 _ (by omega)))
  by_cases h2 : (i 0).val < 1536
  · exact Or.inr (Or.inr (Or.inl (key 2 _ (by omega))))
  · exact Or.inr (Or.inr (Or.inr (key 3 _ (by omega))))

/-- Different blocks have no element in common. -/
theorem blocks_disjoint {sp : Space} (a : Memref sig .tc sp S2048x512 .bf16) (m m' : ℕ) (h : m < 4) (h' : m' < 4) (hne : m ≠ m') :
    Disjoint (a.view.setOn (slab m h).set) (a.view.setOn (slab m' h').set) := by
  unfold View.setOn
  rw [Finset.disjoint_map, Finset.disjoint_left]
  intro i hi hi'
  rw [mem_slab] at hi hi'
  omega

/-- Blocks 2 and 3 together have nothing of block 1, and blocks 1, 2 and 3 together nothing of block 0. -/
theorem blocks_disjoint' {sp : Space} (a : Memref sig .tc sp S2048x512 .bf16) :
    Disjoint (a.view.setOn (slab 0 (by decide)).set) (a.view.setOn (slab 1 (by decide)).set
        ∪ (a.view.setOn (slab 2 (by decide)).set ∪ a.view.setOn (slab 3 (by decide)).set))
    ∧ Disjoint (a.view.setOn (slab 1 (by decide)).set) (a.view.setOn (slab 2 (by decide)).set ∪ a.view.setOn (slab 3 (by decide)).set)
    ∧ Disjoint (a.view.setOn (slab 2 (by decide)).set) (a.view.setOn (slab 3 (by decide)).set) := by
  refine ⟨?_, ?_, blocks_disjoint a _ _ _ _ (by decide)⟩
  · rw [Finset.disjoint_union_right, Finset.disjoint_union_right]
    exact ⟨blocks_disjoint a _ _ _ _ (by decide), blocks_disjoint a _ _ _ _ (by decide), blocks_disjoint a _ _ _ _ (by decide)⟩
  · rw [Finset.disjoint_union_right]
    exact ⟨blocks_disjoint a _ _ _ _ (by decide), blocks_disjoint a _ _ _ _ (by decide)⟩

/-- A buffer split into its four blocks. -/
theorem split4 (c : Dev nD) {sp : Space} (a : Memref sig .tc sp S2048x512 .bf16) (ha : a.IsWhole) (f : BufTy.Contents (Elt F) a.view.ty) :
    (a.view.loc (c : Thread nD τ) ↦{fullShare} f : sProp 𝕄)
      ⊢ iprop((a.view.loc (c : Thread nD τ) ↦[a.view.setOn (slab 0 (by decide)).set]{fullShare} f)
          ∗ (a.view.loc (c : Thread nD τ) ↦[a.view.setOn (slab 1 (by decide)).set]{fullShare} f)
          ∗ (a.view.loc (c : Thread nD τ) ↦[a.view.setOn (slab 2 (by decide)).set]{fullShare} f)
          ∗ (a.view.loc (c : Thread nD τ) ↦[a.view.setOn (slab 3 (by decide)).set]{fullShare} f)) := by
  rw [blocks_cover c a ha]
  exact (pointsTo_union (blocks_disjoint' a).1).1.trans (sep_mono .rfl
    ((pointsTo_union (blocks_disjoint' a).2.1).1.trans (sep_mono .rfl (pointsTo_union (blocks_disjoint' a).2.2).1)))

/-- Four blocks that hold `G`'s values, put together. -/
theorem join4 (c : Dev nD) {sp : Space} (a : Memref sig .tc sp S2048x512 .bf16) (ha : a.IsWhole) (G : S2048x512.Idx → Elt F .bf16)
    (f0 f1 f2 f3 : BufTy.Contents (Elt F) a.view.ty)
    (h0 : ∀ i ∈ (slab 0 (by decide)).set, a.view.read (Elt F) f0 i = G i)
    (h1 : ∀ i ∈ (slab 1 (by decide)).set, a.view.read (Elt F) f1 i = G i)
    (h2 : ∀ i ∈ (slab 2 (by decide)).set, a.view.read (Elt F) f2 i = G i)
    (h3 : ∀ i ∈ (slab 3 (by decide)).set, a.view.read (Elt F) f3 i = G i) :
    iprop((a.view.loc (c : Thread nD τ) ↦[a.view.setOn (slab 0 (by decide)).set]{fullShare} f0)
          ∗ (a.view.loc (c : Thread nD τ) ↦[a.view.setOn (slab 1 (by decide)).set]{fullShare} f1)
          ∗ (a.view.loc (c : Thread nD τ) ↦[a.view.setOn (slab 2 (by decide)).set]{fullShare} f2)
          ∗ (a.view.loc (c : Thread nD τ) ↦[a.view.setOn (slab 3 (by decide)).set]{fullShare} f3))
      ⊢ (a.view.loc (c : Thread nD τ) ↦{fullShare} ha.unread G : sProp 𝕄) := by
  have key : ∀ (m : ℕ) (hm : m < 4) (f : BufTy.Contents (Elt F) a.view.ty),
      (∀ i ∈ (slab m hm).set, a.view.read (Elt F) f i = G i) →
      (a.view.loc (c : Thread nD τ) ↦[a.view.setOn (slab m hm).set]{fullShare} f : sProp 𝕄)
        = (a.view.loc (c : Thread nD τ) ↦[a.view.setOn (slab m hm).set]{fullShare} ha.unread G) := by
    intro m hm f hf
    refine pointsTo_congr fun j hj => ?_
    obtain ⟨i, hi, rfl⟩ := Finset.mem_map.mp hj
    have := (hf i hi).trans (congrFun (ha.read_unread G) i).symm
    exact (cast_inj (congrArg (Elt F) a.view.elt_eq)).mp this
  rw [key _ _ f0 h0, key _ _ f1 h1, key _ _ f2 h2, key _ _ f3 h3, blocks_cover c a ha]
  exact (sep_mono .rfl ((sep_mono .rfl (pointsTo_union (blocks_disjoint' a).2.2).2).trans
    (pointsTo_union (blocks_disjoint' a).2.1).2)).trans (pointsTo_union (blocks_disjoint' a).1).2

section

variable (c : Dev nD) (src : Memref sig .tc .vmem S2048x512 .bf16) (hsrc : src.IsWhole) (dst : Memref sig .tc .hbm S2048x512 .bf16)
  (hdst : dst.IsWhole) (G : S2048x512.Idx → Elt F .bf16) (sems : DmaSems sig S4) (N : ℕ)

include hsrc hdst in
/-- Before the first trip: nothing of a block is written, nothing is in flight. -/
theorem deal (f : BufTy.Contents (Elt F) src.view.ty) (fd : BufTy.Contents (Elt F) dst.view.ty) :
    iprop((src.view.loc (c : Thread nD τ) ↦{fullShare} f) ∗ (dst.view.loc (c : Thread nD τ) ↦{fullShare} fd)
        ∗ semVal ((c : Thread nD τ), SemLoc.dma (sem4 sems 0 (by decide))) 0
        ∗ semVal ((c : Thread nD τ), SemLoc.dma (sem4 sems 1 (by decide))) 0
        ∗ semVal ((c : Thread nD τ), SemLoc.dma (sem4 sems 2 (by decide))) 0
        ∗ semVal ((c : Thread nD τ), SemLoc.dma (sem4 sems 3 (by decide))) 0)
      ⊢ (Blocks c src dst G sems N 0 : sProp 𝕄) := by
  iintro ⟨H, Hd, S0, S1, S2, S3⟩
  ihave H' := (split4 c src hsrc f) $$ H
  ihave Hd' := (split4 c dst hdst fd) $$ Hd
  icases H' with ⟨H0, H1, H2, H3⟩
  icases Hd' with ⟨D0, D1, D2, D3⟩
  unfold Blocks
  rw [block_filling _ _ _ _ (by decide), block_filling _ _ _ _ (by decide), block_filling _ _ _ _ (by decide),
    block_filling _ _ _ _ (by decide)]
  unfold Filling
  isplitl [H0 D0 S0]
  · iexists f; iexists fd
    isplitl [H0]; · iexact H0
    isplitl [D0]; · iexact D0
    isplitl [S0]; · iexact S0
    ipureintro; intro i _ h; omega
  isplitl [H1 D1 S1]
  · iexists f; iexists fd
    isplitl [H1]; · iexact H1
    isplitl [D1]; · iexact D1
    isplitl [S1]; · iexact S1
    ipureintro; intro i _ h; omega
  isplitl [H2 D2 S2]
  · iexists f; iexists fd
    isplitl [H2]; · iexact H2
    isplitl [D2]; · iexact D2
    isplitl [S2]; · iexact S2
    ipureintro; intro i _ h; omega
  iexists f; iexists fd
  isplitl [H3]; · iexact H3
  isplitl [D3]; · iexact D3
  isplitl [S3]; · iexact S3
  ipureintro; intro i _ h; omega

/-- After the last trip all four blocks are in flight. -/
theorem all_flying {k : ℕ} (hk : k = 8) : (Blocks c src dst G sems N k : sProp 𝕄)
      ⊢ iprop(Transfers.Flight EC (c : Thread nD τ) (.dma (sem4 sems 0 (by decide))) () N (Done c src dst G 0 (by decide))
        ∗ Transfers.Flight EC (c : Thread nD τ) (.dma (sem4 sems 1 (by decide))) () N (Done c src dst G 1 (by decide))
        ∗ Transfers.Flight EC (c : Thread nD τ) (.dma (sem4 sems 2 (by decide))) () N (Done c src dst G 2 (by decide))
        ∗ Transfers.Flight EC (c : Thread nD τ) (.dma (sem4 sems 3 (by decide))) () N (Done c src dst G 3 (by decide))) := by
  subst hk
  unfold Blocks
  rw [block_flight _ _ _ _ (by decide), block_flight _ _ _ _ (by decide), block_flight _ _ _ _ (by decide),
    block_flight _ _ _ _ (by decide)]

include hsrc in
/-- All four blocks arrived: the destination holds `G`, and the source is whole again. -/
theorem collect :
    iprop(Done c src dst G 0 (by decide) ∗ Done c src dst G 1 (by decide) ∗ Done c src dst G 2 (by decide) ∗ Done c src dst G 3 (by decide))
      ⊢ (iprop((∃ f : BufTy.Contents (Elt F) src.view.ty, src.view.loc (c : Thread nD τ) ↦{fullShare} f)
          ∗ (dst.view.loc (c : Thread nD τ) ↦{fullShare} hdst.unread G)) : sProp 𝕄) := by
  unfold Done
  iintro ⟨⟨%f0, %g0, H0, D0, %h0⟩, ⟨%f1, %g1, H1, D1, %h1⟩, ⟨%f2, %g2, H2, D2, %h2⟩, ⟨%f3, %g3, H3, D3, %h3⟩⟩
  isplitl [H0 H1 H2 H3]
  · iexists _
    iapply (join4 c src hsrc (fun i => if (i 0).val < 512 then src.view.read (Elt F) f0 i
        else if (i 0).val < 1024 then src.view.read (Elt F) f1 i
        else if (i 0).val < 1536 then src.view.read (Elt F) f2 i else src.view.read (Elt F) f3 i) f0 f1 f2 f3 ?_ ?_ ?_ ?_)
    rotate_left 4
    · isplitl [H0]; · iexact H0
      isplitl [H1]; · iexact H1
      isplitl [H2]; · iexact H2
      iexact H3
    · intro i hi
      rw [mem_slab] at hi
      rw [if_pos (by omega)]
    · intro i hi
      rw [mem_slab] at hi
      rw [if_neg (by omega), if_pos (by omega)]
    · intro i hi
      rw [mem_slab] at hi
      rw [if_neg (by omega), if_neg (by omega), if_pos (by omega)]
    · intro i hi
      rw [mem_slab] at hi
      rw [if_neg (by omega), if_neg (by omega), if_neg (by omega)]
  · iapply (join4 c dst hdst G g0 g1 g2 g3 h0 h1 h2 h3)
    isplitl [D0]; · iexact D0
    isplitl [D1]; · iexact D1
    isplitl [D2]; · iexact D2
    iexact D3

end

/-- A block's transfer is waited for. -/
theorem arrive (𝒱 : Variants) (c : Dev nD) (bd : Option 𝒱.V) {α : Type} (src : Memref sig .tc .vmem S2048x512 .bf16)
    (dst : Memref sig .tc .hbm S2048x512 .bf16) (G : S2048x512.Idx → Elt F .bf16) {sem : DmaSem sig} {N m : ℕ} {hm : m < 4}
    {W : Waits sig Unit}
    {srcw : Memref sig .tc .vmem S512x512 .bf16} {dstw : Memref sig .tc .hbm S512x512 .bf16}
    {hsrc : srcw.view.WordExact} {hdst : dstw.view.WordExact} (hN : dstw.view.dmaCredit = N)
    {k : PUnit → Prog (TpuEff nD τ sig (Elt F) Λ₀ .tc) α} {Q : α → sProp 𝕄} :
    iprop(Transfers.Flight EC (c : Thread nD τ) (.dma sem) () N (Done c src dst G m hm) ∗ owes (c : Thread nD τ) 0 W)
      ⊢ iprop((iprop(Done c src dst G m hm ∗ semVal ((c : Thread nD τ), SemLoc.dma sem) 0
              ∗ (∃ W' : Waits sig Unit, owes (c : Thread nD τ) 0 W'))
            -∗ wp frame (wpE (defs₀ (F := F)) 𝒱 (c : Thread nD τ) bd) Set.univ (k ⟨⟩) Q)
          -∗ wp frame (wpE (defs₀ (F := F)) 𝒱 (c : Thread nD τ) bd) Set.univ (.op (.waitDma2 sem srcw dstw hsrc hdst) k) Q) := by
  iintro ⟨HF, HW⟩ Hk
  iapply (Transfers.wp_waitLocal EC 𝒱 (c : Thread nD τ) bd () hN) $$ [HF HW] [Hk]
  · isplitl [HF]; · iexact HF
    iexact HW
  · iintro ⟨HD, HS, HW⟩
    iapply Hk
    isplitl [HD]; · iexact HD
    isplitl [HS]; · iexact HS
    iexists _; iexact HW

/-- A buffer that one whole transfer filled. -/
theorem landed (c : Dev nD) {sp : Space} {s : Shape} {e : EltTy} (a : Memref sig .tc sp s e) (ha : a.IsWhole) (f : BufTy.Contents (Elt F) a.view.ty)
    (w X : s.Idx → Elt F e) (hw : w = X) :
    (a.view.loc (c : Thread nD τ) ↦{fullShare} a.view.write (Elt F) f w Finset.univ : sProp 𝕄)
      ⊢ (a.view.loc (c : Thread nD τ) ↦{fullShare} ha.unread X) := by
  subst hw
  rw [ha.eq_unread (View.read_write_univ _ _)]

/-- Contents that are known to be `G` at every index. -/
theorem known (c : Dev nD) {sp : Space} {s : Shape} {e : EltTy} (a : Memref sig .tc sp s e) (ha : a.IsWhole) (f : BufTy.Contents (Elt F) a.view.ty)
    (G : s.Idx → Elt F e) (h : ∀ i, a.view.read (Elt F) f i = G i) :
    (a.view.loc (c : Thread nD τ) ↦{fullShare} f : sProp 𝕄) ⊢ (a.view.loc (c : Thread nD τ) ↦{fullShare} ha.unread G) := by
  rw [ha.eq_unread (funext h)]

/-- The contents after the last trip. -/
theorem at_eight (c : Dev nD) {sp : Space} {s : Shape} {e : EltTy} (a : Memref sig .tc sp s e) (f : ℕ → BufTy.Contents (Elt F) a.view.ty)
    {n : ℕ} (hn : n = 8) :
    (a.view.loc (c : Thread nD τ) ↦{fullShare} f n : sProp 𝕄) ⊢ (a.view.loc (c : Thread nD τ) ↦{fullShare} f 8) := by
  subst hn; exact .rfl

/-- One whole store leaves what was stored. -/
theorem store_whole {κ : Kind} {sp : Space} {R C : ℕ} {e : EltTy} (v : View sig κ sp ⟨2, ![R, C]⟩ e) (f : BufTy.Contents (Elt F) v.ty)
    (inb : ∀ a : Fin 2, (![0, 0] : Fin 2 → ℕ) a + (![R, C] : Fin 2 → ℕ) a ≤ (![R, C] : Fin 2 → ℕ) a) (w : (⟨2, ![R, C]⟩ : Shape).Idx → Elt F e)
    (i : (⟨2, ![R, C]⟩ : Shape).Idx) :
    v.read (Elt F) (v.writes (Elt F) f [⟨Rect.unit (s := ⟨2, ![R, C]⟩) ![0, 0] (![R, C] : Fin 2 → ℕ) inb, w⟩]) i = w i := by
  have hx : ∀ x : (⟨2, ![R, C]⟩ : Shape).Idx, (Rect.unit (s := ⟨2, ![R, C]⟩) ![0, 0] (![R, C] : Fin 2 → ℕ) inb).emb x = x := by
    intro x; funext a; apply Fin.ext
    fin_cases a <;> exact (Rect.emb_apply _ _ _).trans (by simp)
  refine store_extends v f (Rect.unit (s := ⟨2, ![R, C]⟩) ![0, 0] (![R, C] : Fin 2 → ℕ) inb) w w (fun _ => False) (fun _ h => h.elim)
    (fun x => (congrArg w (hx x)).symm) i (Or.inr ?_)
  rw [Rect.mem_set_unit, Fin.forall_fin_two]
  have h0 : (i 0).val < R := (i 0).isLt
  have h1 : (i 1).val < C := (i 1).isLt
  exact ⟨⟨Nat.zero_le _, by simpa using h0⟩, ⟨Nat.zero_le _, by simpa using h1⟩⟩

end Cert.Proof.Conv
-- ==== Proof.ConvBody.lean ====
/-
  The kernel's run: the five arrays are fetched, the first loop computes the gradient at the convolution's output and
  the gradient of the gate, the second the gradients of the two factors of the gated input and the sums of each tap;
  then the twelve blocks in flight are waited for and the sums of each tap are added up. Given are the contents of the
  arguments, and the contents of the five results are told.
-/
module

public import proofs.«01_k».proof.Proof.ConvJoin

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Entry `m` of an array of five semaphores. -/
abbrev sem5 (a : DmaSems sig S5) (m : ℕ) (hm : m < 5) : DmaSem sig :=
  ((a.slice (Rect.unit (s := S5) ![m] S1.size (by intro a; fin_cases a; simp [S1]; omega))).squeeze S_ squeezes_S1_S_).sem

/-- The three column sums as rows of one array, five rows of zeros under them. -/
def vecRows (a : Acc F) : Vec F S8x512 .f32 := fun i =>
  if (i 0).val = 0 then a.1 (ix2 (0 : Fin 1) (⟨(i 1).val, (i 1).isLt⟩ : Fin 512))
  else if (i 0).val = 1 then a.2.1 (ix2 (0 : Fin 1) (⟨(i 1).val, (i 1).isLt⟩ : Fin 512))
  else if (i 0).val = 2 then a.2.2 (ix2 (0 : Fin 1) (⟨(i 1).val, (i 1).isLt⟩ : Fin 512))
  else k0_pay943 i

/-- Rows `8 j` to `8 j + 7` of the taps' partial sums. -/
def tapPart (U : Vec F S256x512 .f32) (j : ℕ) (hj : j < 32) : Vec F S8x512 .f32 := fun x =>
  U (ix2 (⟨8 * j + (x 0).val, by have h : (x 0).val < 8 := (x 0).isLt; omega⟩ : Fin 256) (⟨(x 1).val, (x 1).isLt⟩ : Fin 512))

/-- The sums of the taps, two taps a row; what stands in the place of the 32nd tap is zero. -/
def tapRows (U : Vec F S256x512 .f32) : Vec F S16x1024 .f32 := fun i =>
  if h : 2 * (i 0).val + (i 1).val / 512 < 31 then
    k0_pay946 (tapPart U (2 * (i 0).val + (i 1).val / 512) (by omega))
      (ix2 (0 : Fin 1) (⟨(i 1).val % 512, Nat.mod_lt _ (by decide)⟩ : Fin 512))
  else k0_pay945 i

/-- Storing the row `n` of the column sums. -/
theorem store_vec (a : Acc F) {κ : Kind} {sp : Space} (v : View sig κ sp S8x512 .f32) (f : BufTy.Contents (Elt F) v.ty) {n : ℕ} (hn : n < 3)
    {off : Fin 2 → ℕ} (hoff : off = ![n, 0]) (inb : ∀ a, off a + S1x512.size a ≤ S8x512.size a) (w : Vec F S1x512 .f32)
    (hw : w = if n = 0 then a.1 else if n = 1 then a.2.1 else a.2.2)
    (hP : ∀ i : S8x512.Idx, ((i 0).val < n ∨ 3 ≤ (i 0).val) → v.read (Elt F) f i = vecRows a i) :
    ∀ i : S8x512.Idx, ((i 0).val < n + 1 ∨ 3 ≤ (i 0).val) →
      v.read (Elt F) (v.writes (Elt F) f [⟨Rect.unit (s := S8x512) off S1x512.size inb, w⟩]) i = vecRows a i := by
  intro i hi
  subst hoff
  refine store_extends v f (Rect.unit (s := S8x512) ![n, 0] S1x512.size inb) w (vecRows a) (fun i => (i 0).val < n ∨ 3 ≤ (i 0).val) hP ?_ i ?_
  · intro x
    obtain ⟨e0, e1⟩ := emb_rows (R := 8) (W := 1) (off := ![n, 0]) rfl (inb := inb) x
    have hx : (x 0).val < 1 := (x 0).isLt
    have hx1 : (x 1).val < 512 := (x 1).isLt
    have e0' : (((Rect.unit (s := S8x512) ![n, 0] S1x512.size inb).emb x) 0).val = n := e0.trans (by omega)
    have ex : x = ix2 (0 : Fin 1) (⟨(x 1).val, hx1⟩ : Fin 512) := by
      funext a; apply Fin.ext
      fin_cases a
      · show (x 0).val = 0; omega
      · rfl
    have e1' : (⟨(((Rect.unit (s := S8x512) ![n, 0] S1x512.size inb).emb x) 1).val, (((Rect.unit (s := S8x512) ![n, 0] S1x512.size inb).emb x) 1).isLt⟩ : Fin 512)
        = ⟨(x 1).val, hx1⟩ := Fin.ext e1
    unfold vecRows
    rw [e0', e1', hw]
    conv_lhs => rw [ex]
    rcases (by omega : n = 0 ∨ n = 1 ∨ n = 2) with rfl | rfl | rfl <;> simp
  · by_cases h : (i 0).val = n
    · exact Or.inr ((mem_rows (R := 8) (W := 1) rfl).mpr (by omega))
    · exact Or.inl (by omega)

/-- Storing the sums of tap `n`. -/
theorem store_tap (U : Vec F S256x512 .f32) {κ : Kind} {sp : Space} (v : View sig κ sp S16x1024 .f32) (f : BufTy.Contents (Elt F) v.ty)
    {n : ℕ} (hn : n < 31) {off : Fin 2 → ℕ} (hoff : off = ![n / 2, 512 * (n % 2)]) (inb : ∀ a, off a + S1x512.size a ≤ S16x1024.size a)
    (w : Vec F S1x512 .f32) (hw : w = k0_pay946 (tapPart U n (by omega)))
    (hP : ∀ i : S16x1024.Idx, (2 * (i 0).val + (i 1).val / 512 < n ∨ 31 ≤ 2 * (i 0).val + (i 1).val / 512) →
      v.read (Elt F) f i = tapRows U i) :
    ∀ i : S16x1024.Idx, (2 * (i 0).val + (i 1).val / 512 < n + 1 ∨ 31 ≤ 2 * (i 0).val + (i 1).val / 512) →
      v.read (Elt F) (v.writes (Elt F) f [⟨Rect.unit (s := S16x1024) off S1x512.size inb, w⟩]) i = tapRows U i := by
  intro i hi
  subst hoff
  refine store_extends v f (Rect.unit (s := S16x1024) ![n / 2, 512 * (n % 2)] S1x512.size inb) w (tapRows U)
    (fun i => 2 * (i 0).val + (i 1).val / 512 < n ∨ 31 ≤ 2 * (i 0).val + (i 1).val / 512) hP ?_ i ?_
  · intro x
    have e0 : (((Rect.unit (s := S16x1024) ![n / 2, 512 * (n % 2)] S1x512.size inb).emb x) 0).val = n / 2 + (x 0).val := by
      rw [Rect.emb_apply]; simp
    have e1 : (((Rect.unit (s := S16x1024) ![n / 2, 512 * (n % 2)] S1x512.size inb).emb x) 1).val = 512 * (n % 2) + (x 1).val := by
      rw [Rect.emb_apply]; simp
    have hx : (x 0).val < 1 := (x 0).isLt
    have hx1 : (x 1).val < 512 := (x 1).isLt
    have ex : x = ix2 (0 : Fin 1) (⟨(x 1).val, hx1⟩ : Fin 512) := by
      funext a; apply Fin.ext
      fin_cases a
      · show (x 0).val = 0; omega
      · rfl
    generalize (Rect.unit (s := S16x1024) ![n / 2, 512 * (n % 2)] S1x512.size inb).emb x = y at e0 e1 ⊢
    have ej : 2 * (y 0).val + (y 1).val / 512 = n := by rw [e0, e1]; omega
    have ec : (⟨(y 1).val % 512, Nat.mod_lt _ (by decide)⟩ : Fin 512) = ⟨(x 1).val, hx1⟩ := Fin.ext (by show (y 1).val % 512 = (x 1).val; rw [e1]; omega)
    unfold tapRows
    rw [dif_pos (by omega), ec, hw]
    have et : ∀ (j : ℕ) (hj : j < 32), j = n → tapPart U j hj = tapPart U n (by omega) := by rintro j hj rfl; rfl
    rw [et _ _ ej]
    conv_lhs => rw [ex]
  · by_cases h : 2 * (i 0).val + (i 1).val / 512 = n
    · refine Or.inr ?_
      have h1 : (i 1).val < 1024 := (i 1).isLt
      rw [Rect.mem_set_unit, Fin.forall_fin_two]
      have ha : n / 2 ≤ (i 0).val ∧ (i 0).val < n / 2 + 1 := by omega
      have hb : 512 * (n % 2) ≤ (i 1).val ∧ (i 1).val < 512 * (n % 2) + 512 := by omega
      exact ⟨ha, hb⟩
    · exact Or.inl (by omega)

/-- Storing the first 32 rows of zeros. -/
theorem zeros13 (A13 : Memref sig .tc .vmem S2080x512 .f32) (f : BufTy.Contents (Elt F) A13.view.ty)
    (inb : ∀ a, (![0, 0] : Fin 2 → ℕ) a + S32x512.size a ≤ S2080x512.size a) (ua ug : Vec F S2048x512 .f32) (c : Dev nD) :
    (A13.view.loc (c : Thread nD τ) ↦{fullShare} A13.view.writes (Elt F) f [⟨Rect.unit (s := S2080x512) ![0, 0] S32x512.size inb, k0_pay936⟩] : sProp 𝕄)
      ⊢ iprop(∃ f13 : BufTy.Contents (Elt F) A13.view.ty, (A13.view.loc (c : Thread nD τ) ↦{fullShare} f13)
        ∗ ⌜∀ i : S2080x512.Idx, (i 0).val < 256 * 0 + 32 → A13.view.read (Elt F) f13 i = gatedPad ua ug i⌝) := by
  iintro H
  iexists _
  isplitl [H]; · iexact H
  ipureintro
  intro i hi
  refine store_extends A13.view f (Rect.unit (s := S2080x512) ![0, 0] S32x512.size inb) k0_pay936 (gatedPad ua ug) (fun _ => False)
    (fun _ h => h.elim) ?_ i (Or.inr ((mem_rows (R := 2080) (W := 32) rfl).mpr (by omega)))
  intro x
  obtain ⟨e0, e1⟩ := emb_rows (R := 2080) (W := 32) (off := ![0, 0]) rfl (inb := inb) x
  have hx : (x 0).val < 32 := (x 0).isLt
  have e0' : (((Rect.unit (s := S2080x512) ![0, 0] S32x512.size inb).emb x) 0).val = 0 + (x 0).val := e0
  unfold gatedPad
  rw [dif_pos (by show (((Rect.unit (s := S2080x512) ![0, 0] S32x512.size inb).emb x) 0).val < 32; omega)]
  congr 1
  funext a; apply Fin.ext
  fin_cases a
  · show (x 0).val = (((Rect.unit (s := S2080x512) ![0, 0] S32x512.size inb).emb x) 0).val; omega
  · exact e1.symm

/-- Storing the last 32 rows of zeros. -/
theorem zeros14 (A14 : Memref sig .tc .vmem S2080x512 .f32) (f : BufTy.Contents (Elt F) A14.view.ty)
    (inb : ∀ a, (![2048, 0] : Fin 2 → ℕ) a + S32x512.size a ≤ S2080x512.size a) (gb cz : Vec F S2048x512 .f32) (dm : Vec F S2048x512 .bf16)
    (lw lb : Vec F S1x512 .f32) (c : Dev nD) :
    (A14.view.loc (c : Thread nD τ) ↦{fullShare} A14.view.writes (Elt F) f [⟨Rect.unit (s := S2080x512) ![2048, 0] S32x512.size inb, k0_pay937⟩] : sProp 𝕄)
      ⊢ iprop(∃ f14 : BufTy.Contents (Elt F) A14.view.ty, (A14.view.loc (c : Thread nD τ) ↦{fullShare} f14)
        ∗ ⌜∀ i : S2080x512.Idx, ((i 0).val < 256 * 0 ∨ 2048 ≤ (i 0).val) → A14.view.read (Elt F) f14 i = dconvPad gb cz dm lw lb i⌝) := by
  iintro H
  iexists _
  isplitl [H]; · iexact H
  ipureintro
  intro i hi
  have hi2 : (i 0).val < 2080 := (i 0).isLt
  refine store_extends A14.view f (Rect.unit (s := S2080x512) ![2048, 0] S32x512.size inb) k0_pay937 (dconvPad gb cz dm lw lb) (fun _ => False)
    (fun _ h => h.elim) ?_ i (Or.inr ((mem_rows (R := 2080) (W := 32) rfl).mpr (by omega)))
  intro x
  obtain ⟨e0, e1⟩ := emb_rows (R := 2080) (W := 32) (off := ![2048, 0]) rfl (inb := inb) x
  have hx : (x 0).val < 32 := (x 0).isLt
  have e0' : (((Rect.unit (s := S2080x512) ![2048, 0] S32x512.size inb).emb x) 0).val = 2048 + (x 0).val := e0
  unfold dconvPad
  rw [dif_neg (by show ¬ (((Rect.unit (s := S2080x512) ![2048, 0] S32x512.size inb).emb x) 0).val < 2048; omega)]
  congr 1
  funext a; apply Fin.ext
  fin_cases a
  · show (x 0).val = (((Rect.unit (s := S2080x512) ![2048, 0] S32x512.size inb).emb x) 0).val - 2048; omega
  · exact e1.symm

/-- A load of eight rows of the partial sums. -/
theorem load_tap {κ : Kind} {sp : Space} (v : View sig κ sp S256x512 .f32) (f : BufTy.Contents (Elt F) v.ty) (n : ℕ) (hn : n < 32)
    {off : Fin 2 → ℕ} (hoff : off = ![8 * n, 0]) (inb : ∀ a, off a + S8x512.size a ≤ S256x512.size a) :
    v.readAt (Elt F) (Rect.unit (s := S256x512) off S8x512.size inb).toLoadRect f = tapPart (v.read (Elt F) f) n hn := by
  subst hoff
  funext x
  show v.read (Elt F) f ((Rect.unit (s := S256x512) ![8 * n, 0] S8x512.size inb).emb x) = _
  unfold tapPart
  congr 1
  obtain ⟨e0, e1⟩ := emb_rows (R := 256) (W := 8) (off := ![8 * n, 0]) rfl (inb := inb) x
  funext a; apply Fin.ext
  fin_cases a
  · exact e0
  · exact e1

/-- The newest of two or more stores is stored over the others. -/
theorem writes_cons2 {κ : Kind} {sp : Space} {s : Shape} {e : EltTy} (v : View sig κ sp s e) (f : BufTy.Contents (Elt F) v.ty)
    (p q : Σ r : Rect s, r.shape.Idx → Elt F e) (L : List (Σ r : Rect s, r.shape.Idx → Elt F e)) :
    v.writes (Elt F) f (p :: q :: L) = v.writes (Elt F) (v.writes (Elt F) f (q :: L)) [p] := rfl

/-- The column sums stored over zeros. -/
theorem vec_written (a : Acc F) {κ : Kind} {sp : Space} (v : View sig κ sp S8x512 .f32) (f : BufTy.Contents (Elt F) v.ty)
    (b : ∀ a, (![0, 0] : Fin 2 → ℕ) a + S8x512.size a ≤ S8x512.size a)
    (b0 : ∀ a, (![0, 0] : Fin 2 → ℕ) a + S1x512.size a ≤ S8x512.size a)
    (b1 : ∀ a, (![1, 0] : Fin 2 → ℕ) a + S1x512.size a ≤ S8x512.size a)
    (b2 : ∀ a, (![2, 0] : Fin 2 → ℕ) a + S1x512.size a ≤ S8x512.size a) (i : S8x512.Idx) :
    v.read (Elt F) (v.writes (Elt F) f [⟨Rect.unit (s := S8x512) ![2, 0] S1x512.size b2, a.2.2⟩,
        ⟨Rect.unit (s := S8x512) ![1, 0] S1x512.size b1, a.2.1⟩, ⟨Rect.unit (s := S8x512) ![0, 0] S1x512.size b0, a.1⟩,
        ⟨Rect.unit (s := S8x512) ![0, 0] S8x512.size b, k0_pay943⟩]) i = vecRows a i := by
  have hb : ∀ i : S8x512.Idx, ((i 0).val < 0 ∨ 3 ≤ (i 0).val) →
      v.read (Elt F) (v.writes (Elt F) f [⟨Rect.unit (s := S8x512) ![0, 0] S8x512.size b, k0_pay943⟩]) i = vecRows a i := by
    intro i hi
    refine (store_whole (R := 8) (C := 512) v f b k0_pay943 i).trans ?_
    unfold vecRows
    rw [if_neg (by omega), if_neg (by omega), if_neg (by omega)]
  have s0 := store_vec a v _ (n := 0) (by decide) (off := ![0, 0]) rfl b0 a.1 (if_pos rfl).symm hb
  have s1 := store_vec a v _ (n := 1) (by decide) (off := ![1, 0]) rfl b1 a.2.1 ((if_neg (by decide)).trans (if_pos rfl)).symm s0
  have s2 := store_vec a v _ (n := 2) (by decide) (off := ![2, 0]) rfl b2 a.2.2 ((if_neg (by decide)).trans (if_neg (by decide))).symm s1
  simp only [writes_cons2]
  exact s2 i (by omega)

/-- The sums of the 31 taps stored over zeros. -/
theorem tap_written (U : Vec F S256x512 .f32) {κ : Kind} {sp : Space} (v : View sig κ sp S16x1024 .f32) (f : BufTy.Contents (Elt F) v.ty)
    {w0 w1 w2 w3 w4 w5 w6 w7 w8 w9 w10 w11 w12 w13 w14 w15 w16 w17 w18 w19 w20 w21 w22 w23 w24 w25 w26 w27 w28 w29 w30 : Vec F S1x512 .f32}
    (b : ∀ a, (![0, 0] : Fin 2 → ℕ) a + S16x1024.size a ≤ S16x1024.size a)
    (b0 : ∀ a, (![0, 0] : Fin 2 → ℕ) a + S1x512.size a ≤ S16x1024.size a) (b1 : ∀ a, (![0, 512] : Fin 2 → ℕ) a + S1x512.size a ≤ S16x1024.size a)
    (b2 : ∀ a, (![1, 0] : Fin 2 → ℕ) a + S1x512.size a ≤ S16x1024.size a) (b3 : ∀ a, (![1, 512] : Fin 2 → ℕ) a + S1x512.size a ≤ S16x1024.size a)
    (b4 : ∀ a, (![2, 0] : Fin 2 → ℕ) a + S1x512.size a ≤ S16x1024.size a) (b5 : ∀ a, (![2, 512] : Fin 2 → ℕ) a + S1x512.size a ≤ S16x1024.size a)
    (b6 : ∀ a, (![3, 0] : Fin 2 → ℕ) a + S1x512.size a ≤ S16x1024.size a) (b7 : ∀ a, (![3, 512] : Fin 2 → ℕ) a + S1x512.size a ≤ S16x1024.size a)
    (b8 : ∀ a, (![4, 0] : Fin 2 → ℕ) a + S1x512.size a ≤ S16x1024.size a) (b9 : ∀ a, (![4, 512] : Fin 2 → ℕ) a + S1x512.size a ≤ S16x1024.size a)
    (b10 : ∀ a, (![5, 0] : Fin 2 → ℕ) a + S1x512.size a ≤ S16x1024.size a) (b11 : ∀ a, (![5, 512] : Fin 2 → ℕ) a + S1x512.size a ≤ S16x1024.size a)
    (b12 : ∀ a, (![6, 0] : Fin 2 → ℕ) a + S1x512.size a ≤ S16x1024.size a) (b13 : ∀ a, (![6, 512] : Fin 2 → ℕ) a + S1x512.size a ≤ S16x1024.size a)
    (b14 : ∀ a, (![7, 0] : Fin 2 → ℕ) a + S1x512.size a ≤ S16x1024.size a) (b15 : ∀ a, (![7, 512] : Fin 2 → ℕ) a + S1x512.size a ≤ S16x1024.size a)
    (b16 : ∀ a, (![8, 0] : Fin 2 → ℕ) a + S1x512.size a ≤ S16x1024.size a) (b17 : ∀ a, (![8, 512] : Fin 2 → ℕ) a + S1x512.size a ≤ S16x1024.size a)
    (b18 : ∀ a, (![9, 0] : Fin 2 → ℕ) a + S1x512.size a ≤ S16x1024.size a) (b19 : ∀ a, (![9, 512] : Fin 2 → ℕ) a + S1x512.size a ≤ S16x1024.size a)
    (b20 : ∀ a, (![10, 0] : Fin 2 → ℕ) a + S1x512.size a ≤ S16x1024.size a) (b21 : ∀ a, (![10, 512] : Fin 2 → ℕ) a + S1x512.size a ≤ S16x1024.size a)
    (b22 : ∀ a, (![11, 0] : Fin 2 → ℕ) a + S1x512.size a ≤ S16x1024.size a) (b23 : ∀ a, (![11, 512] : Fin 2 → ℕ) a + S1x512.size a ≤ S16x1024.size a)
    (b24 : ∀ a, (![12, 0] : Fin 2 → ℕ) a + S1x512.size a ≤ S16x1024.size a) (b25 : ∀ a, (![12, 512] : Fin 2 → ℕ) a + S1x512.size a ≤ S16x1024.size a)
    (b26 : ∀ a, (![13, 0] : Fin 2 → ℕ) a + S1x512.size a ≤ S16x1024.size a) (b27 : ∀ a, (![13, 512] : Fin 2 → ℕ) a + S1x512.size a ≤ S16x1024.size a)
    (b28 : ∀ a, (![14, 0] : Fin 2 → ℕ) a + S1x512.size a ≤ S16x1024.size a) (b29 : ∀ a, (![14, 512] : Fin 2 → ℕ) a + S1x512.size a ≤ S16x1024.size a)
    (b30 : ∀ a, (![15, 0] : Fin 2 → ℕ) a + S1x512.size a ≤ S16x1024.size a)
    (h0 : w0 = k0_pay946 (tapPart U 0 (by decide)))
    (h1 : w1 = k0_pay946 (tapPart U 1 (by decide)))
    (h2 : w2 = k0_pay946 (tapPart U 2 (by decide)))
    (h3 : w3 = k0_pay946 (tapPart U 3 (by decide)))
    (h4 : w4 = k0_pay946 (tapPart U 4 (by decide)))
    (h5 : w5 = k0_pay946 (tapPart U 5 (by decide)))
    (h6 : w6 = k0_pay946 (tapPart U 6 (by decide)))
    (h7 : w7 = k0_pay946 (tapPart U 7 (by decide)))
    (h8 : w8 = k0_pay946 (tapPart U 8 (by decide)))
    (h9 : w9 = k0_pay946 (tapPart U 9 (by decide)))
    (h10 : w10 = k0_pay946 (tapPart U 10 (by decide)))
    (h11 : w11 = k0_pay946 (tapPart U 11 (by decide)))
    (h12 : w12 = k0_pay946 (tapPart U 12 (by decide)))
    (h13 : w13 = k0_pay946 (tapPart U 13 (by decide)))
    (h14 : w14 = k0_pay946 (tapPart U 14 (by decide)))
    (h15 : w15 = k0_pay946 (tapPart U 15 (by decide)))
    (h16 : w16 = k0_pay946 (tapPart U 16 (by decide)))
    (h17 : w17 = k0_pay946 (tapPart U 17 (by decide)))
    (h18 : w18 = k0_pay946 (tapPart U 18 (by decide)))
    (h19 : w19 = k0_pay946 (tapPart U 19 (by decide)))
    (h20 : w20 = k0_pay946 (tapPart U 20 (by decide)))
    (h21 : w21 = k0_pay946 (tapPart U 21 (by decide)))
    (h22 : w22 = k0_pay946 (tapPart U 22 (by decide)))
    (h23 : w23 = k0_pay946 (tapPart U 23 (by decide)))
    (h24 : w24 = k0_pay946 (tapPart U 24 (by decide)))
    (h25 : w25 = k0_pay946 (tapPart U 25 (by decide)))
    (h26 : w26 = k0_pay946 (tapPart U 26 (by decide)))
    (h27 : w27 = k0_pay946 (tapPart U 27 (by decide)))
    (h28 : w28 = k0_pay946 (tapPart U 28 (by decide)))
    (h29 : w29 = k0_pay946 (tapPart U 29 (by decide)))
    (h30 : w30 = k0_pay946 (tapPart U 30 (by decide)))
    (i : S16x1024.Idx) :
    v.read (Elt F) (v.writes (Elt F) f [
        ⟨Rect.unit (s := S16x1024) ![15, 0] S1x512.size b30, w30⟩,
        ⟨Rect.unit (s := S16x1024) ![14, 512] S1x512.size b29, w29⟩,
        ⟨Rect.unit (s := S16x1024) ![14, 0] S1x512.size b28, w28⟩,
        ⟨Rect.unit (s := S16x1024) ![13, 512] S1x512.size b27, w27⟩,
        ⟨Rect.unit (s := S16x1024) ![13, 0] S1x512.size b26, w26⟩,
        ⟨Rect.unit (s := S16x1024) ![12, 512] S1x512.size b25, w25⟩,
        ⟨Rect.unit (s := S16x1024) ![12, 0] S1x512.size b24, w24⟩,
        ⟨Rect.unit (s := S16x1024) ![11, 512] S1x512.size b23, w23⟩,
        ⟨Rect.unit (s := S16x1024) ![11, 0] S1x512.size b22, w22⟩,
        ⟨Rect.unit (s := S16x1024) ![10, 512] S1x512.size b21, w21⟩,
        ⟨Rect.unit (s := S16x1024) ![10, 0] S1x512.size b20, w20⟩,
        ⟨Rect.unit (s := S16x1024) ![9, 512] S1x512.size b19, w19⟩,
        ⟨Rect.unit (s := S16x1024) ![9, 0] S1x512.size b18, w18⟩,
        ⟨Rect.unit (s := S16x1024) ![8, 512] S1x512.size b17, w17⟩,
        ⟨Rect.unit (s := S16x1024) ![8, 0] S1x512.size b16, w16⟩,
        ⟨Rect.unit (s := S16x1024) ![7, 512] S1x512.size b15, w15⟩,
        ⟨Rect.unit (s := S16x1024) ![7, 0] S1x512.size b14, w14⟩,
        ⟨Rect.unit (s := S16x1024) ![6, 512] S1x512.size b13, w13⟩,
        ⟨Rect.unit (s := S16x1024) ![6, 0] S1x512.size b12, w12⟩,
        ⟨Rect.unit (s := S16x1024) ![5, 512] S1x512.size b11, w11⟩,
        ⟨Rect.unit (s := S16x1024) ![5, 0] S1x512.size b10, w10⟩,
        ⟨Rect.unit (s := S16x1024) ![4, 512] S1x512.size b9, w9⟩,
        ⟨Rect.unit (s := S16x1024) ![4, 0] S1x512.size b8, w8⟩,
        ⟨Rect.unit (s := S16x1024) ![3, 512] S1x512.size b7, w7⟩,
        ⟨Rect.unit (s := S16x1024) ![3, 0] S1x512.size b6, w6⟩,
        ⟨Rect.unit (s := S16x1024) ![2, 512] S1x512.size b5, w5⟩,
        ⟨Rect.unit (s := S16x1024) ![2, 0] S1x512.size b4, w4⟩,
        ⟨Rect.unit (s := S16x1024) ![1, 512] S1x512.size b3, w3⟩,
        ⟨Rect.unit (s := S16x1024) ![1, 0] S1x512.size b2, w2⟩,
        ⟨Rect.unit (s := S16x1024) ![0, 512] S1x512.size b1, w1⟩,
        ⟨Rect.unit (s := S16x1024) ![0, 0] S1x512.size b0, w0⟩,
        ⟨Rect.unit (s := S16x1024) ![0, 0] S16x1024.size b, k0_pay945⟩]) i = tapRows U i := by
  have hb : ∀ i : S16x1024.Idx, (2 * (i 0).val + (i 1).val / 512 < 0 ∨ 31 ≤ 2 * (i 0).val + (i 1).val / 512) →
      v.read (Elt F) (v.writes (Elt F) f [⟨Rect.unit (s := S16x1024) ![0, 0] S16x1024.size b, k0_pay945⟩]) i = tapRows U i := by
    intro i hi
    refine (store_whole (R := 16) (C := 1024) v f b k0_pay945 i).trans ?_
    unfold tapRows
    rw [dif_neg (by omega)]
  have s0 := store_tap U v _ (n := 0) (by decide) (off := ![0, 0]) rfl b0 w0 h0 hb
  have s1 := store_tap U v _ (n := 1) (by decide) (off := ![0, 512]) rfl b1 w1 h1 s0
  have s2 := store_tap U v _ (n := 2) (by decide) (off := ![1, 0]) rfl b2 w2 h2 s1
  have s3 := store_tap U v _ (n := 3) (by decide) (off := ![1, 512]) rfl b3 w3 h3 s2
  have s4 := store_tap U v _ (n := 4) (by decide) (off := ![2, 0]) rfl b4 w4 h4 s3
  have s5 := store_tap U v _ (n := 5) (by decide) (off := ![2, 512]) rfl b5 w5 h5 s4
  have s6 := store_tap U v _ (n := 6) (by decide) (off := ![3, 0]) rfl b6 w6 h6 s5
  have s7 := store_tap U v _ (n := 7) (by decide) (off := ![3, 512]) rfl b7 w7 h7 s6
  have s8 := store_tap U v _ (n := 8) (by decide) (off := ![4, 0]) rfl b8 w8 h8 s7
  have s9 := store_tap U v _ (n := 9) (by decide) (off := ![4, 512]) rfl b9 w9 h9 s8
  have s10 := store_tap U v _ (n := 10) (by decide) (off := ![5, 0]) rfl b10 w10 h10 s9
  have s11 := store_tap U v _ (n := 11) (by decide) (off := ![5, 512]) rfl b11 w11 h11 s10
  have s12 := store_tap U v _ (n := 12) (by decide) (off := ![6, 0]) rfl b12 w12 h12 s11
  have s13 := store_tap U v _ (n := 13) (by decide) (off := ![6, 512]) rfl b13 w13 h13 s12
  have s14 := store_tap U v _ (n := 14) (by decide) (off := ![7, 0]) rfl b14 w14 h14 s13
  have s15 := store_tap U v _ (n := 15) (by decide) (off := ![7, 512]) rfl b15 w15 h15 s14
  have s16 := store_tap U v _ (n := 16) (by decide) (off := ![8, 0]) rfl b16 w16 h16 s15
  have s17 := store_tap U v _ (n := 17) (by decide) (off := ![8, 512]) rfl b17 w17 h17 s16
  have s18 := store_tap U v _ (n := 18) (by decide) (off := ![9, 0]) rfl b18 w18 h18 s17
  have s19 := store_tap U v _ (n := 19) (by decide) (off := ![9, 512]) rfl b19 w19 h19 s18
  have s20 := store_tap U v _ (n := 20) (by decide) (off := ![10, 0]) rfl b20 w20 h20 s19
  have s21 := store_tap U v _ (n := 21) (by decide) (off := ![10, 512]) rfl b21 w21 h21 s20
  have s22 := store_tap U v _ (n := 22) (by decide) (off := ![11, 0]) rfl b22 w22 h22 s21
  have s23 := store_tap U v _ (n := 23) (by decide) (off := ![11, 512]) rfl b23 w23 h23 s22
  have s24 := store_tap U v _ (n := 24) (by decide) (off := ![12, 0]) rfl b24 w24 h24 s23
  have s25 := store_tap U v _ (n := 25) (by decide) (off := ![12, 512]) rfl b25 w25 h25 s24
  have s26 := store_tap U v _ (n := 26) (by decide) (off := ![13, 0]) rfl b26 w26 h26 s25
  have s27 := store_tap U v _ (n := 27) (by decide) (off := ![13, 512]) rfl b27 w27 h27 s26
  have s28 := store_tap U v _ (n := 28) (by decide) (off := ![14, 0]) rfl b28 w28 h28 s27
  have s29 := store_tap U v _ (n := 29) (by decide) (off := ![14, 512]) rfl b29 w29 h29 s28
  have s30 := store_tap U v _ (n := 30) (by decide) (off := ![15, 0]) rfl b30 w30 h30 s29
  simp only [writes_cons2]
  exact s30 i (by omega)

/-- The sum of eight rows that were loaded is the sum of the tap they belong to. -/
theorem tap_sum {κ : Kind} {sp : Space} (v : View sig κ sp S256x512 .f32) (f : BufTy.Contents (Elt F) v.ty) (n : ℕ) (hn : n < 32)
    {off : Fin 2 → ℕ} (hoff : off = ![8 * n, 0]) (inb : ∀ a, off a + S8x512.size a ≤ S256x512.size a) {w : Vec F S1x512 .f32}
    (hw : w = k0_pay946 (v.readAt (Elt F) (Rect.unit (s := S256x512) off S8x512.size inb).toLoadRect f)) :
    w = k0_pay946 (tapPart (v.read (Elt F) f) n hn) :=
  hw.trans (congrArg k0_pay946 (load_tap v f n hn hoff inb))

variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable (ua ug gb cz : Vec F S2048x512 .f32) (dm : Vec F S2048x512 .bf16) (lw lb : Vec F S1x512 .f32)

/-- What is held when the kernel starts. -/
def heldBefore (c : Dev nD) (W : Waits sig Unit)
    (f5 : BufTy.Contents (Elt F) A5.view.ty) (f8 : BufTy.Contents (Elt F) A8.view.ty) (f9 : BufTy.Contents (Elt F) A9.view.ty)
    (f10 : BufTy.Contents (Elt F) A10.view.ty) (f11 : BufTy.Contents (Elt F) A11.view.ty) (f12 : BufTy.Contents (Elt F) A12.view.ty)
    (f13 : BufTy.Contents (Elt F) A13.view.ty) (f14 : BufTy.Contents (Elt F) A14.view.ty) (f15 : BufTy.Contents (Elt F) A15.view.ty)
    (f16 : BufTy.Contents (Elt F) A16.view.ty) (f17 : BufTy.Contents (Elt F) A17.view.ty) (f18 : BufTy.Contents (Elt F) A18.view.ty)
    (f19 : BufTy.Contents (Elt F) A19.view.ty) (f20 : BufTy.Contents (Elt F) A20.view.ty) (f21 : BufTy.Contents (Elt F) A21.view.ty)
    (f22 : BufTy.Contents (Elt F) A22.view.ty) (f23 : BufTy.Contents (Elt F) A23.view.ty) (f24 : BufTy.Contents (Elt F) A24.view.ty) : sProp 𝕄 :=
  iprop((A0.view.loc (c : Thread nD τ) ↦{fullShare} B0.unread ua)
        ∗ (A1.view.loc (c : Thread nD τ) ↦{fullShare} B1.unread ug)
        ∗ (A2.view.loc (c : Thread nD τ) ↦{fullShare} B2.unread gb)
        ∗ (A3.view.loc (c : Thread nD τ) ↦{fullShare} B3.unread cz)
        ∗ (A4.view.loc (c : Thread nD τ) ↦{fullShare} B4.unread dm)
        ∗ (A5.view.loc (c : Thread nD τ) ↦{fullShare} f5)
        ∗ (A6.view.loc (c : Thread nD τ) ↦{fullShare} B6.unread lw)
        ∗ (A7.view.loc (c : Thread nD τ) ↦{fullShare} B7.unread lb)
        ∗ (A8.view.loc (c : Thread nD τ) ↦{fullShare} f8)
        ∗ (A9.view.loc (c : Thread nD τ) ↦{fullShare} f9)
        ∗ (A10.view.loc (c : Thread nD τ) ↦{fullShare} f10)
        ∗ (A11.view.loc (c : Thread nD τ) ↦{fullShare} f11)
        ∗ (A12.view.loc (c : Thread nD τ) ↦{fullShare} f12)
        ∗ (A13.view.loc (c : Thread nD τ) ↦{fullShare} f13)
        ∗ (A14.view.loc (c : Thread nD τ) ↦{fullShare} f14)
        ∗ (A15.view.loc (c : Thread nD τ) ↦{fullShare} f15)
        ∗ (A16.view.loc (c : Thread nD τ) ↦{fullShare} f16)
        ∗ (A17.view.loc (c : Thread nD τ) ↦{fullShare} f17)
        ∗ (A18.view.loc (c : Thread nD τ) ↦{fullShare} f18)
        ∗ (A19.view.loc (c : Thread nD τ) ↦{fullShare} f19)
        ∗ (A20.view.loc (c : Thread nD τ) ↦{fullShare} f20)
        ∗ (A21.view.loc (c : Thread nD τ) ↦{fullShare} f21)
        ∗ (A22.view.loc (c : Thread nD τ) ↦{fullShare} f22)
        ∗ (A23.view.loc (c : Thread nD τ) ↦{fullShare} f23)
        ∗ (A24.view.loc (c : Thread nD τ) ↦{fullShare} f24)
        ∗ semVal ((c : Thread nD τ), SemLoc.dma (sem5 A25 0 (by decide))) 0
        ∗ semVal ((c : Thread nD τ), SemLoc.dma (sem5 A25 1 (by decide))) 0
        ∗ semVal ((c : Thread nD τ), SemLoc.dma (sem5 A25 2 (by decide))) 0
        ∗ semVal ((c : Thread nD τ), SemLoc.dma (sem5 A25 3 (by decide))) 0
        ∗ semVal ((c : Thread nD τ), SemLoc.dma (sem5 A25 4 (by decide))) 0
        ∗ semVal ((c : Thread nD τ), SemLoc.dma (sem4 A26 0 (by decide))) 0
        ∗ semVal ((c : Thread nD τ), SemLoc.dma (sem4 A26 1 (by decide))) 0
        ∗ semVal ((c : Thread nD τ), SemLoc.dma (sem4 A26 2 (by decide))) 0
        ∗ semVal ((c : Thread nD τ), SemLoc.dma (sem4 A26 3 (by decide))) 0
        ∗ semVal ((c : Thread nD τ), SemLoc.dma (sem4 A27 0 (by decide))) 0
        ∗ semVal ((c : Thread nD τ), SemLoc.dma (sem4 A27 1 (by decide))) 0
        ∗ semVal ((c : Thread nD τ), SemLoc.dma (sem4 A27 2 (by decide))) 0
        ∗ semVal ((c : Thread nD τ), SemLoc.dma (sem4 A27 3 (by decide))) 0
        ∗ semVal ((c : Thread nD τ), SemLoc.dma (sem4 A28 0 (by decide))) 0
        ∗ semVal ((c : Thread nD τ), SemLoc.dma (sem4 A28 1 (by decide))) 0
        ∗ semVal ((c : Thread nD τ), SemLoc.dma (sem4 A28 2 (by decide))) 0
        ∗ semVal ((c : Thread nD τ), SemLoc.dma (sem4 A28 3 (by decide))) 0
        ∗ owes (c : Thread nD τ) 0 W)

/-- What is held when the kernel ends. -/
def heldAfter (𝒱 : Variants) (c : Dev nD) (bd : Option 𝒱.V) (f5 : BufTy.Contents (Elt F) A5.view.ty) : sProp 𝕄 :=
  iprop((A0.view.loc (c : Thread nD τ) ↦{fullShare} B0.unread ua)
        ∗ (A1.view.loc (c : Thread nD τ) ↦{fullShare} B1.unread ug)
        ∗ (A2.view.loc (c : Thread nD τ) ↦{fullShare} B2.unread gb)
        ∗ (A3.view.loc (c : Thread nD τ) ↦{fullShare} B3.unread cz)
        ∗ (A4.view.loc (c : Thread nD τ) ↦{fullShare} B4.unread dm)
        ∗ (A5.view.loc (c : Thread nD τ) ↦{fullShare} f5)
        ∗ (A6.view.loc (c : Thread nD τ) ↦{fullShare} B6.unread lw)
        ∗ (A7.view.loc (c : Thread nD τ) ↦{fullShare} B7.unread lb)
        ∗ (A8.view.loc (c : Thread nD τ) ↦{fullShare} B8.unread (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd))
        ∗ (A9.view.loc (c : Thread nD τ) ↦{fullShare} B9.unread (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd))
        ∗ (A10.view.loc (c : Thread nD τ) ↦{fullShare} B10.unread (gateGrad gb cz dm lw lb))
        ∗ (A11.view.loc (c : Thread nD τ) ↦{fullShare} B11.unread (tapRows (A16.view.read (Elt F) (sumsAt
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (gatedPad ua ug) (dconvPad gb cz dm lw lb) 𝒱 c bd (B16.unread k0_pay938) 8))))
        ∗ (A12.view.loc (c : Thread nD τ) ↦{fullShare} B12.unread (vecRows (accAt gb cz dm lw lb 8)))
        ∗ (∃ f : BufTy.Contents (Elt F) A13.view.ty, (A13.view.loc (c : Thread nD τ) ↦{fullShare} f))
        ∗ (∃ f : BufTy.Contents (Elt F) A14.view.ty, (A14.view.loc (c : Thread nD τ) ↦{fullShare} f))
        ∗ (∃ f : BufTy.Contents (Elt F) A15.view.ty, (A15.view.loc (c : Thread nD τ) ↦{fullShare} f))
        ∗ (∃ f : BufTy.Contents (Elt F) A16.view.ty, (A16.view.loc (c : Thread nD τ) ↦{fullShare} f))
        ∗ (∃ f : BufTy.Contents (Elt F) A17.view.ty, (A17.view.loc (c : Thread nD τ) ↦{fullShare} f))
        ∗ (∃ f : BufTy.Contents (Elt F) A18.view.ty, (A18.view.loc (c : Thread nD τ) ↦{fullShare} f))
        ∗ (∃ f : BufTy.Contents (Elt F) A19.view.ty, (A19.view.loc (c : Thread nD τ) ↦{fullShare} f))
        ∗ (∃ f : BufTy.Contents (Elt F) A20.view.ty, (A20.view.loc (c : Thread nD τ) ↦{fullShare} f))
        ∗ (∃ f : BufTy.Contents (Elt F) A21.view.ty, (A21.view.loc (c : Thread nD τ) ↦{fullShare} f))
        ∗ (∃ f : BufTy.Contents (Elt F) A22.view.ty, (A22.view.loc (c : Thread nD τ) ↦{fullShare} f))
        ∗ (∃ f : BufTy.Contents (Elt F) A23.view.ty, (A23.view.loc (c : Thread nD τ) ↦{fullShare} f))
        ∗ (∃ f : BufTy.Contents (Elt F) A24.view.ty, (A24.view.loc (c : Thread nD τ) ↦{fullShare} f))
        ∗ semVal ((c : Thread nD τ), SemLoc.dma (sem5 A25 0 (by decide))) 0
        ∗ semVal ((c : Thread nD τ), SemLoc.dma (sem5 A25 1 (by decide))) 0
        ∗ semVal ((c : Thread nD τ), SemLoc.dma (sem5 A25 2 (by decide))) 0
        ∗ semVal ((c : Thread nD τ), SemLoc.dma (sem5 A25 3 (by decide))) 0
        ∗ semVal ((c : Thread nD τ), SemLoc.dma (sem5 A25 4 (by decide))) 0
        ∗ semVal ((c : Thread nD τ), SemLoc.dma (sem4 A26 0 (by decide))) 0
        ∗ semVal ((c : Thread nD τ), SemLoc.dma (sem4 A26 1 (by decide))) 0
        ∗ semVal ((c : Thread nD τ), SemLoc.dma (sem4 A26 2 (by decide))) 0
        ∗ semVal ((c : Thread nD τ), SemLoc.dma (sem4 A26 3 (by decide))) 0
        ∗ semVal ((c : Thread nD τ), SemLoc.dma (sem4 A27 0 (by decide))) 0
        ∗ semVal ((c : Thread nD τ), SemLoc.dma (sem4 A27 1 (by decide))) 0
        ∗ semVal ((c : Thread nD τ), SemLoc.dma (sem4 A27 2 (by decide))) 0
        ∗ semVal ((c : Thread nD τ), SemLoc.dma (sem4 A27 3 (by decide))) 0
        ∗ semVal ((c : Thread nD τ), SemLoc.dma (sem4 A28 0 (by decide))) 0
        ∗ semVal ((c : Thread nD τ), SemLoc.dma (sem4 A28 1 (by decide))) 0
        ∗ semVal ((c : Thread nD τ), SemLoc.dma (sem4 A28 2 (by decide))) 0
        ∗ semVal ((c : Thread nD τ), SemLoc.dma (sem4 A28 3 (by decide))) 0
        ∗ (∃ W' : Waits sig Unit, owes (c : Thread nD τ) 0 W'))

set_option maxHeartbeats 8000000 in
/-- The kernel run from what is held before it to what is held after it. -/
theorem run_body (𝒱 : Variants) (c : Dev nD) (bd : Option 𝒱.V) (N : ℕ) (hN0 : 0 < N)
    (hN8 : ∀ (m : ℕ) (hm : m < 4) (sem : DmaSem sig), ∀ h2, ((A8.slice (slab m hm) h2).view.amount (.dma sem)) = N)
    (hC8 : ∀ (m : ℕ) (hm : m < 4), ∀ h2, (A8.slice (slab m hm) h2).view.dmaCredit = N)
    (hN9 : ∀ (m : ℕ) (hm : m < 4) (sem : DmaSem sig), ∀ h2, ((A9.slice (slab m hm) h2).view.amount (.dma sem)) = N)
    (hC9 : ∀ (m : ℕ) (hm : m < 4), ∀ h2, (A9.slice (slab m hm) h2).view.dmaCredit = N)
    (hN10 : ∀ (m : ℕ) (hm : m < 4) (sem : DmaSem sig), ∀ h2, ((A10.slice (slab m hm) h2).view.amount (.dma sem)) = N)
    (hC10 : ∀ (m : ℕ) (hm : m < 4), ∀ h2, (A10.slice (slab m hm) h2).view.dmaCredit = N)
    (W : Waits sig Unit)
    (f5 : BufTy.Contents (Elt F) A5.view.ty) (f8 : BufTy.Contents (Elt F) A8.view.ty) (f9 : BufTy.Contents (Elt F) A9.view.ty)
    (f10 : BufTy.Contents (Elt F) A10.view.ty) (f11 : BufTy.Contents (Elt F) A11.view.ty) (f12 : BufTy.Contents (Elt F) A12.view.ty)
    (f13 : BufTy.Contents (Elt F) A13.view.ty) (f14 : BufTy.Contents (Elt F) A14.view.ty) (f15 : BufTy.Contents (Elt F) A15.view.ty)
    (f16 : BufTy.Contents (Elt F) A16.view.ty) (f17 : BufTy.Contents (Elt F) A17.view.ty) (f18 : BufTy.Contents (Elt F) A18.view.ty)
    (f19 : BufTy.Contents (Elt F) A19.view.ty) (f20 : BufTy.Contents (Elt F) A20.view.ty) (f21 : BufTy.Contents (Elt F) A21.view.ty)
    (f22 : BufTy.Contents (Elt F) A22.view.ty) (f23 : BufTy.Contents (Elt F) A23.view.ty) (f24 : BufTy.Contents (Elt F) A24.view.ty)
    (Q : PUnit → sProp 𝕄) :
    iprop(heldBefore A0 B0 A1 B1 A2 B2 A3 B3 A4 B4 A5 A6 B6 A7 B7 A8 A9 A10 A11 A12 A13 A14 A15 A16 A17 A18 A19 A20 A21 A22 A23 A24 A25 A26 A27 A28 ua ug gb cz dm lw lb c W f5 f8 f9 f10 f11 f12 f13 f14 f15 f16 f17 f18 f19 f20 f21 f22 f23 f24
        ∗ (heldAfter
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 ua ug gb cz dm lw lb 𝒱 c bd f5 -∗ Q ⟨⟩))
    ⊢ wp frame (wpE (defs₀ (F := F)) 𝒱 (c : Thread nD τ) bd) Set.univ
        (cc0_conv_bwd (F := F)
          A0 B0 A1 B1 A2 B2 A3 B3 A4 B4 A5 B5 A6 B6 A7 B7 A8 B8
          A9 B9 A10 B10 A11 B11 A12 B12 A13 B13 A14 B14 A15 B15 A16 B16
          A17 B17 A18 B18 A19 B19 A20 B20 A21 B21 A22 B22 A23 B23 A24
          B24 A25 A26 A27 A28) Q := by
  rw [cc0_conv_bwd_eq_skeleton]; unfold cc0_conv_bwd_skel heldBefore
  iintro ⟨⟨H0, H1, H2, H3, H4, H5, H6, H7, H8, H9, H10, H11, H12, H13, H14, H15, H16, H17, H18, H19, H20, H21, H22, H23, H24, S25_0, S25_1, S25_2, S25_3, S25_4, S26_0, S26_1, S26_2, S26_3, S27_0, S27_1, S27_2, S27_3, S28_0, S28_1, S28_2, S28_3, HW⟩, Hk⟩
  ihave B8 := (deal c A22 B22 A8 B8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) A26 N f22 f8) $$ [H22 H8 S26_0 S26_1 S26_2 S26_3]
  · isplitl [H22]; · iexact H22
    isplitl [H8]; · iexact H8
    isplitl [S26_0]; · iexact S26_0
    isplitl [S26_1]; · iexact S26_1
    isplitl [S26_2]; · iexact S26_2
    iexact S26_3
  ihave B9 := (deal c A23 B23 A9 B9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) A27 N f23 f9) $$ [H23 H9 S27_0 S27_1 S27_2 S27_3]
  · isplitl [H23]; · iexact H23
    isplitl [H9]; · iexact H9
    isplitl [S27_0]; · iexact S27_0
    isplitl [S27_1]; · iexact S27_1
    isplitl [S27_2]; · iexact S27_2
    iexact S27_3
  ihave B10 := (deal c A24 B24 A10 B10 (gateGrad gb cz dm lw lb) A28 N f24 f10) $$ [H24 H10 S28_0 S28_1 S28_2 S28_3]
  · isplitl [H24]; · iexact H24
    isplitl [H10]; · iexact H10
    isplitl [S28_0]; · iexact S28_0
    isplitl [S28_1]; · iexact S28_1
    isplitl [S28_2]; · iexact S28_2
    iexact S28_3
  set_option sl_exec.stopBefore "k0_t1_loop" in sl_exec
  unfold run_body.sl.dma0 run_body.sl.dma0_1 run_body.sl.dma0_2 run_body.sl.dma0_3 run_body.sl.dma0_4 run_body.sl.H16_1
  ihave H17' := (landed c A17 B17 f17 _ ua (B0.read_unread ua)) $$ H17
  ihave H18' := (landed c A18 B18 f18 _ ug (B1.read_unread ug)) $$ H18
  ihave H19' := (landed c A19 B19 f19 _ gb (B2.read_unread gb)) $$ H19
  ihave H20' := (landed c A20 B20 f20 _ cz (B3.read_unread cz)) $$ H20
  ihave H21' := (landed c A21 B21 f21 _ dm (B4.read_unread dm)) $$ H21
  ihave H16' := (known c A16 B16 _ k0_pay938 (store_whole (R := 256) (C := 512) A16.view _ _ k0_pay938)) $$ H16
  ihave H13' := (zeros13 A13 _ _ ua ug c) $$ H13
  ihave H14' := (zeros14 A14 _ _ gb cz dm lw lb c) $$ H14
  iapply (Scf.wp_for_bind frame (wpE (defs₀ (F := F)) 𝒱 (c : Thread nD τ) bd) Set.univ _ _ _ _ _ _
    (fun n acc => inv1 A6 B6 A7 B7 A10 A13 A14 A17 B17 A18 B18 A19 B19 A20 B20 A21 B21
      A24 A28 ua ug gb cz dm lw lb c N n acc)
    (fun k' acc => step1
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 ua ug gb cz dm lw lb 𝒱 c bd N hN10 hN0 k' acc)) $$
    [H6 H7 H13' H14' H17' H18' H19' H20' H21' B10] [H0 H1 H2 H3 H4 H5 H11 H12 H15 H16' B8 B9 S25_0 S25_1 S25_2 S25_3 S25_4 HW Hk]
  · unfold inv1 Given1 Reads1
    isplitr; · ipureintro; rfl
    isplitl [H6 H7 H17' H18' H19' H20' H21']
    · isplitl [H6]; · iexact H6
      isplitl [H7]; · iexact H7
      isplitl [H17']; · iexact H17'
      isplitl [H18']; · iexact H18'
      isplitl [H19']; · iexact H19'
      isplitl [H20']; · iexact H20'
      iexact H21'
    isplitl [H13']; · iexact H13'
    isplitl [H14']; · iexact H14'
    iexact B10
  iintro %acc HI
  unfold inv1 Given1 Reads1
  icases HI with ⟨%ha, ⟨H6, H7, H17, H18, H19, H20, H21⟩, ⟨%g13, H13, %h13⟩, ⟨%g14, H14, %h14⟩, B10⟩
  have ht1 : Scf.trips k0_t1_loop.lb k0_t1_loop.ub k0_t1_loop.st = 8 := trips1
  ihave H13' := (known c A13 B13 g13 (gatedPad ua ug) (fun i => h13 i (by
    have h : (i 0).val < 2080 := (i 0).isLt
    rw [ht1]; omega))) $$ H13
  ihave H14' := (known c A14 B14 g14 (dconvPad gb cz dm lw lb) (fun i => h14 i (by rw [ht1]; omega))) $$ H14
  rw [ht1] at ha
  obtain ⟨a0, a1, a2⟩ := acc
  set_option sl_exec.stopBefore "k0_t2_loop" in sl_exec
  unfold run_body.sl.H12_4
  ihave H12' := (known c A12 B12 _ (vecRows (a0, a1, a2)) (vec_written (a0, a1, a2) A12.view _ _ _ _ _)) $$ H12
  rw [ha]
  iapply (Scf.wp_for_bind frame (wpE (defs₀ (F := F)) 𝒱 (c : Thread nD τ) bd) Set.univ _ _ _ _ _ _
    (fun n _ => inv2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (gatedPad ua ug) (dconvPad gb cz dm lw lb) 𝒱 c bd N (B16.unread k0_pay938) n)
    (fun k' acc => step2
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (gatedPad ua ug) (dconvPad gb cz dm lw lb) 𝒱 c bd N hN8 hN9 hN0 (B16.unread k0_pay938) k' acc)) $$
    [H5 H13' H14' H15 H16' H17 H18 B8 B9] [H0 H1 H2 H3 H4 H6 H7 H11 H12' H19 H20 H21 B10 S25_0 S25_1 S25_2 S25_3 S25_4 HW Hk]
  · unfold inv2
    isplitl [H5]; · iexact H5
    isplitl [H13']; · iexact H13'
    isplitl [H14']; · iexact H14'
    isplitl [H15]; · iexists f15; iexact H15
    isplitl [H16']; · iexact H16'
    isplitl [H17]; · iexact H17
    isplitl [H18]; · iexact H18
    isplitl [B8]; · iexact B8
    iexact B9
  iintro %_ HI
  unfold inv2
  icases HI with ⟨H5, H13, H14, ⟨%g15, H15⟩, H16, H17, H18, B8, B9⟩
  have ht2 : Scf.trips k0_t2_loop.lb k0_t2_loop.ub k0_t2_loop.st = 8 := trips2
  ihave H16' := (at_eight c A16 (sumsAt
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (gatedPad ua ug) (dconvPad gb cz dm lw lb) 𝒱 c bd (B16.unread k0_pay938)) ht2) $$ H16
  ihave B8' := (all_flying c A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) A26 N ht2) $$ B8
  icases B8' with ⟨F26_0, F26_1, F26_2, F26_3⟩
  ihave B9' := (all_flying c A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) A27 N ht2) $$ B9
  icases B9' with ⟨F27_0, F27_1, F27_2, F27_3⟩
  ihave B10' := (all_flying c A24 A10 (gateGrad gb cz dm lw lb) A28 N ht1) $$ B10
  icases B10' with ⟨F28_0, F28_1, F28_2, F28_3⟩
  sl_exec
  iapply (arrive (sem := sem4 A26 0 (by decide)) (N := N) (m := 0) (hm := by decide) 𝒱 c bd A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F26_0 HW] [H0 H1 H2 H3 H4 H5 H6 H7 H11 H12' H13 H14 H15 H16' H17 H18 H19 H20 H21 S25_0 S25_1 S25_2 S25_3 S25_4 F26_1 F26_2 F26_3 F27_0 F27_1 F27_2 F27_3 F28_0 F28_1 F28_2 F28_3 Hk]
  · exact hC8 0 (by decide) _
  · isplitl [F26_0]; · iexact F26_0
    iexact HW
  iintro ⟨D26_0, S26_0, ⟨%W0, HW⟩⟩
  dsimp only [Prog.bind]
  try sl_exec
  iapply (arrive (sem := sem4 A26 1 (by decide)) (N := N) (m := 1) (hm := by decide) 𝒱 c bd A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F26_1 HW] [H0 H1 H2 H3 H4 H5 H6 H7 H11 H12' H13 H14 H15 H16' H17 H18 H19 H20 H21 S25_0 S25_1 S25_2 S25_3 S25_4 D26_0 S26_0 F26_2 F26_3 F27_0 F27_1 F27_2 F27_3 F28_0 F28_1 F28_2 F28_3 Hk]
  · exact hC8 1 (by decide) _
  · isplitl [F26_1]; · iexact F26_1
    iexact HW
  iintro ⟨D26_1, S26_1, ⟨%W1, HW⟩⟩
  dsimp only [Prog.bind]
  try sl_exec
  iapply (arrive (sem := sem4 A26 2 (by decide)) (N := N) (m := 2) (hm := by decide) 𝒱 c bd A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F26_2 HW] [H0 H1 H2 H3 H4 H5 H6 H7 H11 H12' H13 H14 H15 H16' H17 H18 H19 H20 H21 S25_0 S25_1 S25_2 S25_3 S25_4 D26_0 S26_0 D26_1 S26_1 F26_3 F27_0 F27_1 F27_2 F27_3 F28_0 F28_1 F28_2 F28_3 Hk]
  · exact hC8 2 (by decide) _
  · isplitl [F26_2]; · iexact F26_2
    iexact HW
  iintro ⟨D26_2, S26_2, ⟨%W2, HW⟩⟩
  dsimp only [Prog.bind]
  try sl_exec
  iapply (arrive (sem := sem4 A26 3 (by decide)) (N := N) (m := 3) (hm := by decide) 𝒱 c bd A22 A8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F26_3 HW] [H0 H1 H2 H3 H4 H5 H6 H7 H11 H12' H13 H14 H15 H16' H17 H18 H19 H20 H21 S25_0 S25_1 S25_2 S25_3 S25_4 D26_0 S26_0 D26_1 S26_1 D26_2 S26_2 F27_0 F27_1 F27_2 F27_3 F28_0 F28_1 F28_2 F28_3 Hk]
  · exact hC8 3 (by decide) _
  · isplitl [F26_3]; · iexact F26_3
    iexact HW
  iintro ⟨D26_3, S26_3, ⟨%W3, HW⟩⟩
  dsimp only [Prog.bind]
  try sl_exec
  iapply (arrive (sem := sem4 A27 0 (by decide)) (N := N) (m := 0) (hm := by decide) 𝒱 c bd A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F27_0 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 F27_1 F27_2 F27_3 F28_0 F28_1 F28_2 F28_3 Hk]
  · exact hC9 0 (by decide) _
  · isplitl [F27_0]; · iexact F27_0
    iexact HW
  iintro ⟨D27_0, S27_0, ⟨%W4, HW⟩⟩
  dsimp only [Prog.bind]
  try sl_exec
  iapply (arrive (sem := sem4 A27 1 (by decide)) (N := N) (m := 1) (hm := by decide) 𝒱 c bd A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F27_1 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 F27_2 F27_3 F28_0 F28_1 F28_2 F28_3 Hk]
  · exact hC9 1 (by decide) _
  · isplitl [F27_1]; · iexact F27_1
    iexact HW
  iintro ⟨D27_1, S27_1, ⟨%W5, HW⟩⟩
  dsimp only [Prog.bind]
  try sl_exec
  iapply (arrive (sem := sem4 A27 2 (by decide)) (N := N) (m := 2) (hm := by decide) 𝒱 c bd A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F27_2 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 D27_1 S27_1 F27_3 F28_0 F28_1 F28_2 F28_3 Hk]
  · exact hC9 2 (by decide) _
  · isplitl [F27_2]; · iexact F27_2
    iexact HW
  iintro ⟨D27_2, S27_2, ⟨%W6, HW⟩⟩
  dsimp only [Prog.bind]
  try sl_exec
  iapply (arrive (sem := sem4 A27 3 (by decide)) (N := N) (m := 3) (hm := by decide) 𝒱 c bd A23 A9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd) ?_) $$ [F27_3 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 D27_1 S27_1 D27_2 S27_2 F28_0 F28_1 F28_2 F28_3 Hk]
  · exact hC9 3 (by decide) _
  · isplitl [F27_3]; · iexact F27_3
    iexact HW
  iintro ⟨D27_3, S27_3, ⟨%W7, HW⟩⟩
  dsimp only [Prog.bind]
  try sl_exec
  iapply (arrive (sem := sem4 A28 0 (by decide)) (N := N) (m := 0) (hm := by decide) 𝒱 c bd A24 A10 (gateGrad gb cz dm lw lb) ?_) $$ [F28_0 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 D27_1 S27_1 D27_2 S27_2 D27_3 S27_3 F28_1 F28_2 F28_3 Hk]
  · exact hC10 0 (by decide) _
  · isplitl [F28_0]; · iexact F28_0
    iexact HW
  iintro ⟨D28_0, S28_0, ⟨%W8, HW⟩⟩
  dsimp only [Prog.bind]
  try sl_exec
  iapply (arrive (sem := sem4 A28 1 (by decide)) (N := N) (m := 1) (hm := by decide) 𝒱 c bd A24 A10 (gateGrad gb cz dm lw lb) ?_) $$ [F28_1 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 D27_1 S27_1 D27_2 S27_2 D27_3 S27_3 D28_0 S28_0 F28_2 F28_3 Hk]
  · exact hC10 1 (by decide) _
  · isplitl [F28_1]; · iexact F28_1
    iexact HW
  iintro ⟨D28_1, S28_1, ⟨%W9, HW⟩⟩
  dsimp only [Prog.bind]
  try sl_exec
  iapply (arrive (sem := sem4 A28 2 (by decide)) (N := N) (m := 2) (hm := by decide) 𝒱 c bd A24 A10 (gateGrad gb cz dm lw lb) ?_) $$ [F28_2 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 D27_1 S27_1 D27_2 S27_2 D27_3 S27_3 D28_0 S28_0 D28_1 S28_1 F28_3 Hk]
  · exact hC10 2 (by decide) _
  · isplitl [F28_2]; · iexact F28_2
    iexact HW
  iintro ⟨D28_2, S28_2, ⟨%W10, HW⟩⟩
  dsimp only [Prog.bind]
  try sl_exec
  iapply (arrive (sem := sem4 A28 3 (by decide)) (N := N) (m := 3) (hm := by decide) 𝒱 c bd A24 A10 (gateGrad gb cz dm lw lb) ?_) $$ [F28_3 HW] [H0 H1 H2 H3 H4 H5 H6 H7 H11 H12' H13 H14 H15 H16' H17 H18 H19 H20 H21 S25_0 S25_1 S25_2 S25_3 S25_4 D26_0 S26_0 D26_1 S26_1 D26_2 S26_2 D26_3 S26_3 D27_0 S27_0 D27_1 S27_1 D27_2 S27_2 D27_3 S27_3 D28_0 S28_0 D28_1 S28_1 D28_2 S28_2 Hk]
  · exact hC10 3 (by decide) _
  · isplitl [F28_3]; · iexact F28_3
    iexact HW
  iintro ⟨D28_3, S28_3, ⟨%W11, HW⟩⟩
  dsimp only [Prog.bind]
  try sl_exec
  ihave C8 := (collect c A22 B22 A8 B8 (uaGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd)) $$ [D26_0 D26_1 D26_2 D26_3]
  · isplitl [D26_0]; · iexact D26_0
    isplitl [D26_1]; · iexact D26_1
    isplitl [D26_2]; · iexact D26_2
    iexact D26_3
  icases C8 with ⟨H22, H8⟩
  ihave C9 := (collect c A23 B23 A9 B9 (ugGrad
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 f5 (B17.unread ua) (B18.unread ug) (dconvPad gb cz dm lw lb) 𝒱 c bd)) $$ [D27_0 D27_1 D27_2 D27_3]
  · isplitl [D27_0]; · iexact D27_0
    isplitl [D27_1]; · iexact D27_1
    isplitl [D27_2]; · iexact D27_2
    iexact D27_3
  icases C9 with ⟨H23, H9⟩
  ihave C10 := (collect c A24 B24 A10 B10 (gateGrad gb cz dm lw lb)) $$ [D28_0 D28_1 D28_2 D28_3]
  · isplitl [D28_0]; · iexact D28_0
    isplitl [D28_1]; · iexact D28_1
    isplitl [D28_2]; · iexact D28_2
    iexact D28_3
  icases C10 with ⟨H24, H10⟩
  sl_step
  iapply Hk
  unfold heldAfter
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (known c A11 B11 _ (tapRows (A16.view.read (Elt F) (sumsAt
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (gatedPad ua ug) (dconvPad gb cz dm lw lb) 𝒱 c bd (B16.unread k0_pay938) 8)))
      (tap_written (A16.view.read (Elt F) (sumsAt
      A0 B0 A1 B1 A2 B2 A3 B3 A4 B4 A5 B5 A6 B6 A7 B7 A8 B8 A9 B9 A10 B10 A11 B11 A12 B12 A13 B13
      A14 B14 A15 B15 A16 B16 A17 B17 A18 B18 A19 B19 A20 B20 A21 B21 A22 B22 A23 B23 A24 B24 A25 A26 A27 A28 (gatedPad ua ug) (dconvPad gb cz dm lw lb) 𝒱 c bd (B16.unread k0_pay938) 8)) A11.view _ _ _ _ _ _ _ _ _ _ _ _ _ _ _ _ _ _ _ _ _ _ _ _ _ _ _ _ _ _ _ _ _
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_)) $$ H11
    · exact tap_sum _ _ 0 (by decide) (off := ![0, 0]) rfl inb_S256x512_S8x512_0_0 rfl
    · exact tap_sum _ _ 1 (by decide) (off := ![8, 0]) rfl inb_S256x512_S8x512_8_0 rfl
    · exact tap_sum _ _ 2 (by decide) (off := ![16, 0]) rfl inb_S256x512_S8x512_16_0 rfl
    · exact tap_sum _ _ 3 (by decide) (off := ![24, 0]) rfl inb_S256x512_S8x512_24_0 rfl
    · exact tap_sum _ _ 4 (by decide) (off := ![32, 0]) rfl inb_S256x512_S8x512_32_0 rfl
    · exact tap_sum _ _ 5 (by decide) (off := ![40, 0]) rfl inb_S256x512_S8x512_40_0 rfl
    · exact tap_sum _ _ 6 (by decide) (off := ![48, 0]) rfl inb_S256x512_S8x512_48_0 rfl
    · exact tap_sum _ _ 7 (by decide) (off := ![56, 0]) rfl inb_S256x512_S8x512_56_0 rfl
    · exact tap_sum _ _ 8 (by decide) (off := ![64, 0]) rfl inb_S256x512_S8x512_64_0 rfl
    · exact tap_sum _ _ 9 (by decide) (off := ![72, 0]) rfl inb_S256x512_S8x512_72_0 rfl
    · exact tap_sum _ _ 10 (by decide) (off := ![80, 0]) rfl inb_S256x512_S8x512_80_0 rfl
    · exact tap_sum _ _ 11 (by decide) (off := ![88, 0]) rfl inb_S256x512_S8x512_88_0 rfl
    · exact tap_sum _ _ 12 (by decide) (off := ![96, 0]) rfl inb_S256x512_S8x512_96_0 rfl
    · exact tap_sum _ _ 13 (by decide) (off := ![104, 0]) rfl inb_S256x512_S8x512_104_0 rfl
    · exact tap_sum _ _ 14 (by decide) (off := ![112, 0]) rfl inb_S256x512_S8x512_112_0 rfl
    · exact tap_sum _ _ 15 (by decide) (off := ![120, 0]) rfl inb_S256x512_S8x512_120_0 rfl
    · exact tap_sum _ _ 16 (by decide) (off := ![128, 0]) rfl inb_S256x512_S8x512_128_0 rfl
    · exact tap_sum _ _ 17 (by decide) (off := ![136, 0]) rfl inb_S256x512_S8x512_136_0 rfl
    · exact tap_sum _ _ 18 (by decide) (off := ![144, 0]) rfl inb_S256x512_S8x512_144_0 rfl
    · exact tap_sum _ _ 19 (by decide) (off := ![152, 0]) rfl inb_S256x512_S8x512_152_0 rfl
    · exact tap_sum _ _ 20 (by decide) (off := ![160, 0]) rfl inb_S256x512_S8x512_160_0 rfl
    · exact tap_sum _ _ 21 (by decide) (off := ![168, 0]) rfl inb_S256x512_S8x512_168_0 rfl
    · exact tap_sum _ _ 22 (by decide) (off := ![176, 0]) rfl inb_S256x512_S8x512_176_0 rfl
    · exact tap_sum _ _ 23 (by decide) (off := ![184, 0]) rfl inb_S256x512_S8x512_184_0 rfl
    · exact tap_sum _ _ 24 (by decide) (off := ![192, 0]) rfl inb_S256x512_S8x512_192_0 rfl
    · exact tap_sum _ _ 25 (by decide) (off := ![200, 0]) rfl inb_S256x512_S8x512_200_0 rfl
    · exact tap_sum _ _ 26 (by decide) (off := ![208, 0]) rfl inb_S256x512_S8x512_208_0 rfl
    · exact tap_sum _ _ 27 (by decide) (off := ![216, 0]) rfl inb_S256x512_S8x512_216_0 rfl
    · exact tap_sum _ _ 28 (by decide) (off := ![224, 0]) rfl inb_S256x512_S8x512_224_0 rfl
    · exact tap_sum _ _ 29 (by decide) (off := ![232, 0]) rfl inb_S256x512_S8x512_232_0 rfl
    · exact tap_sum _ _ 30 (by decide) (off := ![240, 0]) rfl inb_S256x512_S8x512_240_0 rfl
  isplitl [H12']; · iexact H12'
  isplitl [H13]; · iexists _; iexact H13
  isplitl [H14]; · iexists _; iexact H14
  isplitl [H15]; · iexists _; iexact H15
  isplitl [H16']; · iexists _; iexact H16'
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexact H24
  isplitl [S25_0]; · iexact S25_0
  isplitl [S25_1]; · iexact S25_1
  isplitl [S25_2]; · iexact S25_2
  isplitl [S25_3]; · iexact S25_3
  isplitl [S25_4]; · iexact S25_4
  isplitl [S26_0]; · iexact S26_0
  isplitl [S26_1]; · iexact S26_1
  isplitl [S26_2]; · iexact S26_2
  isplitl [S26_3]; · iexact S26_3
  isplitl [S27_0]; · iexact S27_0
  isplitl [S27_1]; · iexact S27_1
  isplitl [S27_2]; · iexact S27_2
  isplitl [S27_3]; · iexact S27_3
  isplitl [S28_0]; · iexact S28_0
  isplitl [S28_1]; · iexact S28_1
  isplitl [S28_2]; · iexact S28_2
  isplitl [S28_3]; · iexact S28_3
  iexists _; iexact HW

end Cert.Proof.Conv
-- ==== Proof.ConvFrame.lean ====
/-
  The convolution's backward call run on one device: what the host code leaves, the kernel's run between it and the
  five results, and the contents those results end with. Everything is at any reading of the floats.
-/
module

public import proofs.«01_k».proof.Proof.ConvBody
public import proofs.«01_k».proof.Proof.Gen.KernelIdeal.Frame
public import Idealize.ShloMosaic.Lib.Pipeline.FrameValue
public import Idealize.ShloMosaic.Lib.Pipeline.FrameBody

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

set_option maxHeartbeats 800000 in
/-- The host code up to the call. -/
theorem hmainUD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! ## The arguments and the results -/

/-- The first factor of the gated input. -/
abbrev uaIn (c : Dev nD) : Vec F S2048x512 .f32 := (Memref.whole main_arg0).view.read (Elt F) (V m c main_arg0)
/-- The gate of the gated input. -/
abbrev ugIn (c : Dev nD) : Vec F S2048x512 .f32 := (Memref.whole main_arg1).view.read (Elt F) (V m c main_arg1)
/-- The gate of the branch. -/
abbrev gbIn (c : Dev nD) : Vec F S2048x512 .f32 := (Memref.whole main_arg2).view.read (Elt F) (V m c main_arg2)
/-- The convolution's output, as the host code made it. -/
abbrev czIn (c : Dev nD) : Vec F S2048x512 .f32 := (Memref.whole main_v167).view.read (Elt F) (V m c main_v167)
/-- The gradient that arrives. -/
abbrev dmIn (c : Dev nD) : Vec F S2048x512 .bf16 := (Memref.whole main_arg7).view.read (Elt F) (V m c main_arg7)
/-- The weights of the normalisation. -/
abbrev lwIn (c : Dev nD) : Vec F S1x512 .f32 := iblk m c 1 t0_0
/-- The biases of the normalisation. -/
abbrev lbIn (c : Dev nD) : Vec F S1x512 .f32 := iblk m c 2 t0_0
/-- The taps, reordered by the host code. -/
abbrev cwIn (c : Dev nD) : Vec F S4x32x128 .f32 := iblk m c 0 t0_0

/-- The gradient of the first factor, as the kernel leaves it. -/
def uaOut (c : Dev nD) : Vec F S2048x512 .bf16 :=
  uaGrad
      (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15
      ((hstage0_0 0).unread (cwIn m c)) ((Memref.isWhole_whole cc0_scratch4).unread (uaIn m c))
    ((Memref.isWhole_whole cc0_scratch5).unread (ugIn m c)) (dconvPad (gbIn m c) (czIn m c) (dmIn m c) (lwIn m c) (lbIn m c)) Variants.none c none
/-- The gradient of the gate of the gated input, as the kernel leaves it. -/
def ugOut (c : Dev nD) : Vec F S2048x512 .bf16 :=
  ugGrad
      (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15
      ((hstage0_0 0).unread (cwIn m c)) ((Memref.isWhole_whole cc0_scratch4).unread (uaIn m c))
    ((Memref.isWhole_whole cc0_scratch5).unread (ugIn m c)) (dconvPad (gbIn m c) (czIn m c) (dmIn m c) (lwIn m c) (lbIn m c)) Variants.none c none
/-- The gradient of the gate of the branch, as the kernel leaves it. -/
def gbOut (c : Dev nD) : Vec F S2048x512 .bf16 := gateGrad (gbIn m c) (czIn m c) (dmIn m c) (lwIn m c) (lbIn m c)
/-- The gradients of the taps, as the kernel leaves them. -/
def tapOut (c : Dev nD) : Vec F S16x1024 .f32 :=
  tapRows ((Memref.whole cc0_scratch3).view.read (Elt F) (sumsAt
      (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15
      (gatedPad (uaIn m c) (ugIn m c)) (dconvPad (gbIn m c) (czIn m c) (dmIn m c) (lwIn m c) (lbIn m c))
    Variants.none c none ((Memref.isWhole_whole cc0_scratch3).unread k0_pay938) 8))
/-- The three column sums, as the kernel leaves them. -/
def vecOut (c : Dev nD) : Vec F S8x512 .f32 := vecRows (accAt (gbIn m c) (czIn m c) (dmIn m c) (lwIn m c) (lbIn m c) 8)

/-- The kernel's seventeen semaphores. -/
abbrev osem0 : Fin 17 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 17 → SemLoc sig) j
theorem ownSemFacts0 : Pipeline.OwnSemFacts spec0 osem0 := by decide
/-- They are at zero one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11, 12, 13, 14, 15, 16] (by decide) (by decide)]; rfl
/-- The arrays the kernel fetches. -/
def H0 : Finset (Ref sig .tc) := {main_arg0, main_arg1, main_arg2, main_v167, main_arg7}
theorem H0_sub : H0 ⊆ Pipeline.restRefs sig spec0 := by decide
/-- The arrays the kernel writes block by block. -/
def R0 : Finset (Ref sig .tc) := {main_v168_0, main_v168_1, main_v168_2}
theorem R0_sub : R0 ⊆ Pipeline.restRefs sig spec0 \ H0 := by decide
/-- The fetched arrays one by one. -/
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_v167) ↦{fullShare} V m c main_v167) ∗ (((c : Thread nD τ).loc main_arg7) ↦{fullShare} V m c main_arg7)) := by
  rw [BI.bigSep_eq_bigSepL_of_eq [main_arg0, main_arg1, main_arg2, main_v167, main_arg7] (by decide) (by decide)]; rfl
/-- The written arrays one by one. -/
theorem routed0_eq (c : Dev nD) (G : (b : Ref sig .tc) → Buf (Elt F) ((c.tc : Thread nD τ).loc b)) :
    (Pipeline.routed R0 c G : sProp 𝕄)
      = iprop((((c : Thread nD τ).loc main_v168_0) ↦{fullShare} G main_v168_0) ∗ (((c : Thread nD τ).loc main_v168_1) ↦{fullShare} G main_v168_1) ∗ (((c : Thread nD τ).loc main_v168_2) ↦{fullShare} G main_v168_2)) := by
  unfold Pipeline.routed; rw [BI.bigSep_eq_bigSepL_of_eq [main_v168_0, main_v168_1, main_v168_2] (by decide) (by decide)]; rfl

/-- What the kernel holds outside its staged blocks, piece by piece. -/
theorem heldOutside_eq (c : Dev nD) (G : (c : Dev nD) → (b : Ref sig .tc) → Buf (Elt F) ((c.tc : Thread nD τ).loc b)) :
    (Pipeline.ΦDRG osem0 spec0 H0 R0 (V m) G c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f))
        ∗ (∃ r, prngReg c r)
        ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
        ∗ iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_v167) ↦{fullShare} V m c main_v167) ∗ (((c : Thread nD τ).loc main_arg7) ↦{fullShare} V m c main_arg7))
        ∗ iprop((((c : Thread nD τ).loc main_v168_0) ↦{fullShare} G c main_v168_0) ∗ (((c : Thread nD τ).loc main_v168_1) ↦{fullShare} G c main_v168_1) ∗ (((c : Thread nD τ).loc main_v168_2) ↦{fullShare} G c main_v168_2))) := by
  rw [Pipeline.ΦDRG_eq, scopedRest0_eq, ownSems00_eq, hbmPts0_eq, routed0_eq]

/-- The written arrays afterwards; any other as before. -/
def G (c : Dev nD) : (b : Ref sig .tc) → Buf (Elt F) ((c.tc : Thread nD τ).loc b) :=
  Function.update (Function.update (Function.update (V m c)
    main_v168_2 ((Memref.isWhole_whole main_v168_2).unread (gbOut m c)))
    main_v168_1 ((Memref.isWhole_whole main_v168_1).unread (ugOut m c)))
    main_v168_0 ((Memref.isWhole_whole main_v168_0).unread (uaOut m c))
theorem G_0 (c : Dev nD) : G m c main_v168_0 = (Memref.isWhole_whole main_v168_0).unread (uaOut m c) := by
  unfold G; rw [Function.update_self]
theorem G_1 (c : Dev nD) : G m c main_v168_1 = (Memref.isWhole_whole main_v168_1).unread (ugOut m c) := by
  unfold G; rw [Function.update_of_ne (by decide), Function.update_self]
theorem G_2 (c : Dev nD) : G m c main_v168_2 = (Memref.isWhole_whole main_v168_2).unread (gbOut m c) := by
  unfold G; rw [Function.update_of_ne (by decide), Function.update_of_ne (by decide), Function.update_self]

/-! ## The call's data and its body -/

/-- The call's data on one core: its arrays as the host code left them, the staged inputs left alone, the two staged
    results at their contents, and the arrays written block by block at theirs after the one grid point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tapOut m c
    | ⟨4, _⟩ => vecOut m c
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tapOut m c := by dsimp only [dats]
theorem after0_4 (c : Dev nD) (t : Fin cfg0.N) : (dats m 0 c).after 4 t = vecOut m c := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- What the body is given at a grid point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)))
/-- What the body gives back at a grid point. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t))

/-- The contents of a whole buffer are those whose reading they give. -/
theorem whole_eq {S : Shape} {e : EltTy} {sp : Space} (M : Memref sig .tc sp S e) (h : M.IsWhole)
    (f : BufTy.Contents (Elt F) M.view.ty) : h.unread (M.view.read (Elt F) f) = f := (h.eq_unread rfl).symm

/-- A block held at a reading is its buffer held at the contents of that reading. -/
theorem staged_whole (c : Dev nD) {S : Shape} {e : EltTy} {sp : Space} (M : Memref sig .tc sp S e) (h : M.IsWhole) (X : Vec F S e) :
    (owns (c : Thread nD τ) M fullShare X : sProp 𝕄) ⊢ (M.view.loc (c : Thread nD τ) ↦{fullShare} h.unread X) := by
  unfold owns; rw [h.set_eq_univ]; iintro ⟨%f, %hf, H⟩
  rw [h.eq_unread hf]; iexact H
/-- The other way round. -/
theorem whole_staged (c : Dev nD) {S : Shape} {e : EltTy} {sp : Space} (M : Memref sig .tc sp S e) (h : M.IsWhole) (X : Vec F S e) :
    (M.view.loc (c : Thread nD τ) ↦{fullShare} h.unread X : sProp 𝕄) ⊢ owns (c : Thread nD τ) M fullShare X := by
  unfold owns; rw [h.set_eq_univ]; iintro H
  iexists (h.unread X); isplitr
  · ipureintro; exact h.read_unread X
  iexact H

set_option maxHeartbeats 4000000 in
/-- The body at its grid point. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, after0_1, after0_2, after0_3, after0_4]
  simp only [before0_0, before0_1, before0_2]
  rw [show (dats m 0 c).Φ t0_0.castSucc = Pipeline.ΦDRG osem0 spec0 H0 R0 (V m) (V m) c from rfl,
    show (dats m 0 c).Φ t0_0.succ = Pipeline.ΦDRG osem0 spec0 H0 R0 (V m) (G m) c from rfl, heldOutside_eq, heldOutside_eq,
    G_0, G_1, G_2]
  unfold Dat.owesAt Pipeline.owesWithin
  rw [show (dats m 0 c).owed t0_0.castSucc = 0 from rfl, show (dats m 0 c).owed t0_0.succ = 0 from rfl]
  iintro ⟨⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩, Hg, ⟨S5, S6, S7, S8, S9, S10, S11, S12, S13, S14, S15, S16, S17, S18, S19, S20, S21⟩, ⟨H0, H1, H2, H3, H4⟩, ⟨H8, H9, H10⟩⟩, ⟨%W, -, HW⟩, ⟨%d0, O5⟩, ⟨%d1, O6⟩, ⟨%d2, O7⟩, ⟨%d3, O11⟩, ⟨%d4, O12⟩⟩
  ihave H5 := (staged_whole c (win0_0.stage (cfg0.slots t0_0 0)) (hstage0_0 0) _) $$ O5
  ihave H6 := (staged_whole c (win0_1.stage (cfg0.slots t0_0 1)) (hstage0_1 0) _) $$ O6
  ihave H7 := (staged_whole c (win0_2.stage (cfg0.slots t0_0 2)) (hstage0_2 0) _) $$ O7
  ihave H11 := (staged_whole c (win0_3.stage (cfg0.slots t0_0 3)) (hstage0_3 0) _) $$ O11
  ihave H12 := (staged_whole c (win0_4.stage (cfg0.slots t0_0 4)) (hstage0_4 0) _) $$ O12
  iapply (run_body
      (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15

      (uaIn m c) (ugIn m c) (gbIn m c) (czIn m c) (dmIn m c) (lwIn m c) (lbIn m c) Variants.none c none ((Memref.whole main_v168_0).slice (slab 0 (by decide)) (fun _ => rfl)).view.dmaCredit (by decide)
      (fun _ _ _ _ => rfl) (fun _ _ _ => rfl) (fun _ _ _ _ => rfl) (fun _ _ _ => rfl) (fun _ _ _ _ => rfl) (fun _ _ _ => rfl)
      W ((hstage0_0 0).unread (cwIn m c)) (V m c main_v168_0) (V m c main_v168_1) (V m c main_v168_2) _ _ f13 f14 f15 f16 f17 f18 f19 f20 f21 f22 f23 f24 _)
  unfold heldBefore heldAfter
  rw [whole_eq (Memref.whole main_arg0), whole_eq (Memref.whole main_arg1), whole_eq (Memref.whole main_arg2),
    whole_eq (Memref.whole main_v167), whole_eq (Memref.whole main_arg7)]
  isplitl [H0 H1 H2 H3 H4 H5 H6 H7 H8 H9 H10 H11 H12 H13 H14 H15 H16 H17 H18 H19 H20 H21 H22 H23 H24 S5 S6 S7 S8 S9 S10 S11 S12 S13 S14 S15 S16 S17 S18 S19 S20 S21 HW]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact HW
  iintro ⟨H0, H1, H2, H3, H4, H5, H6, H7, H8, H9, H10, H11, H12, H13, H14, H15, H16, H17, H18, H19, H20, H21, H22, H23, H24, S5, S6, S7, S8, S9, S10, S11, S12, S13, S14, S15, S16, S17, S18, S19, S20, S21, HW⟩
  ihave O5 := (whole_staged c (win0_0.stage (cfg0.slots t0_0 0)) (hstage0_0 0) _) $$ H5
  ihave O6 := (whole_staged c (win0_1.stage (cfg0.slots t0_0 1)) (hstage0_1 0) _) $$ H6
  ihave O7 := (whole_staged c (win0_2.stage (cfg0.slots t0_0 2)) (hstage0_2 0) _) $$ H7
  ihave O11 := (whole_staged c (win0_3.stage (cfg0.slots t0_0 3)) (hstage0_3 0) _) $$ H11
  ihave O12 := (whole_staged c (win0_4.stage (cfg0.slots t0_0 4)) (hstage0_4 0) _) $$ H12
  isplitl [H13 H14 H15 H16 H17 H18 H19 H20 H21 H22 H23 H24 Hg S5 S6 S7 S8 S9 S10 S11 S12 S13 S14 S15 S16 S17 S18 S19 S20 S21 H0 H1 H2 H3 H4 H8 H9 H10]
  · isplitl [H13 H14 H15 H16 H17 H18 H19 H20 H21 H22 H23 H24]
    · isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24
    isplitl [Hg]; · iexact Hg
    isplitl [S5 S6 S7 S8 S9 S10 S11 S12 S13 S14 S15 S16 S17 S18 S19 S20 S21]
    · isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      iexact S21
    isplitl [H0 H1 H2 H3 H4]
    · isplitl [H0]; · iexact H0
      isplitl [H1]; · iexact H1
      isplitl [H2]; · iexact H2
      isplitl [H3]; · iexact H3
      iexact H4
    isplitl [H8]; · iexact H8
    isplitl [H9]; · iexact H9
    iexact H10
  isplitl [HW]
  · icases HW with ⟨%W', HW⟩
    iexists W'; isplitr; · ipureintro; exact fun _ _ => Or.inl trivial
    iexact HW
  isplitl [O5]; · iexact O5
  isplitl [O6]; · iexact O6
  isplitl [O7]; · iexact O7
  isplitl [O11]; · iexact O11
  iexact O12

theorem defs₀_row (t : Fin cfg0.N) :
    defs₀ (F := F) .tc cfg0.body (cfg0.bodyArgs t (cfg0.slots t)) = bodyAt0 t := by
  unfold defs₀; rw [Defs.onTc_tc]

/-- The body meets what the call asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, and its arrays end as told. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainUD m Variants.none) (hA := A_eq m) (G := G m)
    (hin := fun _ => .rfl) (hout := fun _ => .rfl)

end Cert.Proof.Conv

end
-- ==== Proof.ConvEnd.lean ====
/-
  What the convolution's backward call leaves: its arguments as they were, its counters at zero, and its five results at
  the contents told in the run. The same run serves both readings of the floats.
-/
module

public import proofs.«01_k».proof.Proof.ConvFrame
public import Idealize.ShloMosaic.Lib.Pipeline.ValueKit.Geometry

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The gradients of the taps end in their array. -/
theorem final3 (c : Dev nD) : (dats m 0 c).arrAt 3 cfg0.N = tapOut m c :=
  (dats m 0 c).arrAt_eq_of_after_last 3 t0_0 (by decide +kernel) _ fun j => rfl
/-- The column sums end in their array. -/
theorem final4 (c : Dev nD) : (dats m 0 c).arrAt 4 cfg0.N = vecOut m c :=
  (dats m 0 c).arrAt_eq_of_after_last 4 t0_0 (by decide +kernel) _ fun j => rfl

/-- The staged blocks are their whole arrays. -/
theorem cwIn_eq (c : Dev nD) : (cwIn m c : Vec F S4x32x128 .f32) = V m c main_v2 := by
  have hi : win0_0.index t0_0 0 = 0 ∧ win0_0.index t0_0 1 = 0 ∧ win0_0.index t0_0 2 = 0 := by decide
  funext j
  unfold cwIn iblk
  rw [View.read_apply]
  show V m c main_v2 _ = V m c main_v2 _
  congr 1
  funext a
  apply Fin.ext
  match a with
  | ⟨0, _⟩ => show win0_0.index t0_0 0 * 4 + 1 * (j 0).val = (j 0).val; rw [hi.1]; omega
  | ⟨1, _⟩ => show win0_0.index t0_0 1 * 32 + 1 * (j 1).val = (j 1).val; rw [hi.2.1]; omega
  | ⟨2, _⟩ => show win0_0.index t0_0 2 * 128 + 1 * (j 2).val = (j 2).val; rw [hi.2.2]; omega
theorem lwIn_eq (c : Dev nD) : (lwIn m c : Vec F S1x512 .f32) = m ((c : Thread nD τ).loc main_arg5) := by
  have hi : win0_1.index t0_0 0 = 0 ∧ win0_1.index t0_0 1 = 0 := by decide
  refine Eq.trans ?_ (V_main_arg5 m c)
  funext j
  unfold lwIn iblk
  rw [View.read_apply]
  show V m c main_arg5 _ = V m c main_arg5 _
  congr 1
  funext a
  apply Fin.ext
  match a with
  | ⟨0, _⟩ => show win0_1.index t0_0 0 * 1 + 1 * (j 0).val = (j 0).val; rw [hi.1]; omega
  | ⟨1, _⟩ => show win0_1.index t0_0 1 * 512 + 1 * (j 1).val = (j 1).val; rw [hi.2]; omega
theorem lbIn_eq (c : Dev nD) : (lbIn m c : Vec F S1x512 .f32) = m ((c : Thread nD τ).loc main_arg6) := by
  have hi : win0_2.index t0_0 0 = 0 ∧ win0_2.index t0_0 1 = 0 := by decide
  refine Eq.trans ?_ (V_main_arg6 m c)
  funext j
  unfold lbIn iblk
  rw [View.read_apply]
  show V m c main_arg6 _ = V m c main_arg6 _
  congr 1
  funext a
  apply Fin.ext
  match a with
  | ⟨0, _⟩ => show win0_2.index t0_0 0 * 1 + 1 * (j 0).val = (j 0).val; rw [hi.1]; omega
  | ⟨1, _⟩ => show win0_2.index t0_0 1 * 512 + 1 * (j 1).val = (j 1).val; rw [hi.2]; omega
theorem uaIn_eq (c : Dev nD) : (uaIn m c : Vec F S2048x512 .f32) = m ((c : Thread nD τ).loc main_arg0) := V_main_arg0 m c
theorem ugIn_eq (c : Dev nD) : (ugIn m c : Vec F S2048x512 .f32) = m ((c : Thread nD τ).loc main_arg1) := V_main_arg1 m c
theorem gbIn_eq (c : Dev nD) : (gbIn m c : Vec F S2048x512 .f32) = m ((c : Thread nD τ).loc main_arg2) := V_main_arg2 m c
theorem dmIn_eq (c : Dev nD) : (dmIn m c : Vec F S2048x512 .bf16) = m ((c : Thread nD τ).loc main_arg7) := V_main_arg7 m c
theorem czIn_eq (c : Dev nD) : (czIn m c : Vec F S2048x512 .f32) = V m c main_v167 := rfl

/-- The program runs; its results, its arguments and its counters at the end. -/
theorem conv_run : θ_run defs (onTc (τ := τ) (main (F := F))) ⟨m, fun _ => 0, ρ⟩ (fun r => (∀ c : Dev nD,
      (r.2.mem ((c.tc : Thread nD τ).loc main_v168_0) = uaOut m c
      ∧ r.2.mem ((c.tc : Thread nD τ).loc main_v168_1) = ugOut m c
      ∧ r.2.mem ((c.tc : Thread nD τ).loc main_v168_2) = gbOut m c
      ∧ r.2.mem ((c.tc : Thread nD τ).loc main_v168_3) = tapOut m c
      ∧ r.2.mem ((c.tc : Thread nD τ).loc main_v168_4) = vecOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨⟨(h.1.2 c main_v168_0 (by decide)).trans ((G_0 m c).trans ((Memref.isWhole_whole main_v168_0).eq_unread (f := uaOut m c) rfl).symm), (h.1.2 c main_v168_1 (by decide)).trans ((G_1 m c).trans ((Memref.isWhole_whole main_v168_1).eq_unread (f := ugOut m c) rfl).symm),
      (h.1.2 c main_v168_2 (by decide)).trans ((G_2 m c).trans ((Memref.isWhole_whole main_v168_2).eq_unread (f := gbOut m c) rfl).symm), ((h.1.1 c).1 3).trans (final3 m c), ((h.1.1 c).1 4).trans (final4 m c)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).1 1).trans (((dats m 0 c).arrAt_in 1 rfl _).trans ((A_eq m c 1).trans (V_main_arg5 m c))),
      ((h.1.1 c).1 2).trans (((dats m 0 c).arrAt_in 2 rfl _).trans ((A_eq m c 2).trans (V_main_arg6 m c))),
      ((h.1.1 c).2 main_arg7 (Finset.mem_sdiff.mpr ⟨Pipeline.mem_restRefs_of main_arg7 (by decide) (by decide), by decide⟩)).trans (V_main_arg7 m c)⟩, h.2⟩)
    (run_main m ρ)

end Cert.Proof.Conv

end
-- ==== Proof.ConvClaim.lean ====
/-
  The claims about the convolution's backward call that come from its run: it ends, keeps its arguments and leaves its
  counters at zero, at the machine's floats and at the ideal ones; and the same of the reference.
-/
module

public import proofs.«01_k».proof.Defs
public import proofs.«01_k».proof.Proof.Gen.Kernel
public import proofs.«01_k».proof.Proof.Gen.ReferenceIdeal.Run
public import proofs.«01_k».proof.Proof.Gen.Pre_finite
public import proofs.«01_k».proof.Proof.ConvEnd

@[expose] public section

namespace Cert.Proof

open Idealize.ShloMosaic Idealize.ShloMosaic.TcCoe Idealize.SL.Sem

/-- The convolution's backward call runs, whatever the floats: it ends, keeps its arguments and leaves every counter at zero. -/
theorem conv_frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
        ∧ r.2.sem = fun _ => 0) :=
  (θ_run Cert.KernelIdeal.defs _ _).mono (fun _ h => ⟨fun c => (h.1 c).2, h.2⟩) (Conv.conv_run (F := F) m ρ)

/-- The call runs at the ideal floats. -/
theorem conv_frame_ideal : Cert.quiescent_KernelIdeal := fun m ρ _ => conv_frame_any (F := Ideal) m ρ

/-- The same with the precondition that is used for the values. -/
theorem conv_frame_ideal_finite : Cert.quiescent_KernelIdeal_pre_finite := fun m ρ _ => conv_frame_any (F := Ideal) m ρ

/-- The two printed programs have one text: their body tables are equal. -/
theorem conv_defs₀ {F : FTy → Type} [FloatOps F] : Cert.Kernel.defs₀ (F := F) = Cert.KernelIdeal.defs₀ (F := F) := by
  unfold Cert.Kernel.defs₀ Cert.KernelIdeal.defs₀
  congr 1
  funext l a
  match l, a with
  | ⟨0, _⟩, (t, s) => rfl

/-- So are the tables with the call's pipeline. -/
theorem conv_defs {F : FTy → Type} [FloatOps F] : Cert.Kernel.defs (F := F) = Cert.KernelIdeal.defs (F := F) := by
  unfold Cert.Kernel.defs Cert.KernelIdeal.defs
  rw [conv_defs₀]
  rfl

set_option maxRecDepth 100000 in
set_option maxHeartbeats 4000000 in
/-- So are the host's texts. -/
theorem conv_main {F : FTy → Type} [FloatOps F] : Cert.Kernel.main (F := F) = Cert.KernelIdeal.main (F := F) := rfl

set_option maxHeartbeats 4000000 in
/-- The call runs at the machine's floats: the program's text is the same. -/
theorem conv_frame : Cert.quiescent_Kernel := fun m ρ _ => by
  have h := conv_frame_any (F := Bits) m ρ
  rw [conv_defs, conv_main]
  exact h

/-- The reference runs and keeps its arguments; it declares no semaphore. -/
theorem conv_frame_ref : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The same with the precondition. -/
theorem conv_frame_ref_finite : Cert.quiescent_ReferenceIdeal_pre_finite := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- No operation was rewritten. -/
theorem conv_preserves : Cert.preserves_Kernel_KernelIdeal := trivial

end Cert.Proof

end
-- ==== Proof.ConvReal.lean ====
/-
  The first loop of the convolution's backward call over numbers: where every entry it reads is a number, what it computes
  is the gradient of the normalised, gated product, written here with real numbers.
-/
module

public import proofs.«01_k».proof.Proof.Gen.KernelIdeal.Frame
public import proofs.«01_k».proof.Proof.ConvT1
public import proofs.«01_k».proof.Proof.ConvSpec
public import Idealize.ShloMosaic.Lib.ValueIdx
public import Idealize.ShloMosaic.Lib.Pointwise

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A sum of numbers is a number. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The number added under the square root. -/
def epsR : ℝ := (Ideal.ofBits .f32 0x358637BD#32).toReal
theorem eps_eq : (Ideal.ofBits .f32 0x358637BD#32 : EReal) = ((epsR : ℝ) : EReal) := by
  unfold epsR
  simp [Ideal.ofBits, Ideal.ieee, -EReal.coe_mul]
theorem eps_pos : 0 < epsR := by
  unfold epsR
  simp [Ideal.ofBits, Ideal.ieee, -EReal.coe_mul]
theorem one_eq : (Ideal.ofBits .f32 0x3F800000#32 : EReal) = ((1 : ℝ) : EReal) := by
  simp [Ideal.ofBits, Ideal.ieee, -EReal.coe_mul]; norm_num
theorem zero_eq : (Ideal.ofBits .f32 0x00000000#32 : EReal) = ((0 : ℝ) : EReal) := by
  simp [Ideal.ofBits, Ideal.ieee, -EReal.coe_mul]
theorem n512_eq : (Ideal.ofBits .f32 0x44000000#32 : EReal) = ((512 : ℝ) : EReal) := by
  simp [Ideal.ofBits, Ideal.ieee, -EReal.coe_mul]; norm_num

/-- A quotient of numbers is a number. -/
theorem div_real (a : ℝ) {b : ℝ} (hb : b ≠ 0) : Ideal.div (a : EReal) (b : EReal) = ((a / b : ℝ) : EReal) := by
  rw [Ideal.div_coe hb, ← EReal.coe_mul]; congr 1; field_simp

theorem one_add_real (a : ℝ) : (1 : EReal) + (a : EReal) = ((1 + a : ℝ) : EReal) := by rw [EReal.coe_add, EReal.coe_one]
theorem one_sub_real (a : ℝ) : (1 : EReal) - (a : EReal) = ((1 - a : ℝ) : EReal) := by rw [EReal.coe_sub, EReal.coe_one]

/-- The logistic function. -/
def sgm (x : ℝ) : ℝ := 1 / (1 + Real.exp (-x))
theorem sgm_eq (x : ℝ) : Ideal.div 1 (1 + Ideal.exp (-(x : EReal))) = ((sgm x : ℝ) : EReal) := by
  have h : (1 + Real.exp (-x)) ≠ 0 := by positivity
  rw [← EReal.coe_neg, Ideal.exp_coe, one_add_real, ← EReal.coe_one, div_real _ h]; rfl

section
variable (z lw lb g d : Fin 512 → ℝ)
/-- The mean of a row. -/
def rmean : ℝ := (∑ n, z n) / 512
/-- The inverse standard deviation of a row. -/
def rinv : ℝ := (Real.sqrt ((∑ n, (z n - rmean z) * (z n - rmean z)) / 512 + epsR))⁻¹
/-- The row normalised. -/
def rxh (n : Fin 512) : ℝ := (z n - rmean z) * rinv z
/-- The row normalised, scaled and shifted. -/
def rln (n : Fin 512) : ℝ := rxh z n * lw n + lb n
/-- The gradient at the scaled and shifted row. -/
def rdl (n : Fin 512) : ℝ := d n * (g n * sgm (g n)) * (sgm (rln z lw lb n) * (1 + rln z lw lb n * (1 - sgm (rln z lw lb n))))
/-- The gradient at the gate. -/
def rdg (n : Fin 512) : ℝ := d n * (rln z lw lb n * sgm (rln z lw lb n)) * (sgm (g n) * (1 + g n * (1 - sgm (g n))))
/-- The gradient at the normalised row. -/
def rdx (n : Fin 512) : ℝ := rdl z lw lb g d n * lw n
/-- The gradient at the row. -/
def rdz (n : Fin 512) : ℝ := rinv z * (rdx z lw lb g d n - (∑ k, rdx z lw lb g d k) / 512
  - rxh z n * ((∑ k, rdx z lw lb g d k * rxh z k) / 512))
end

/-- What stands under the square root is positive. -/
theorem var_pos (z : Fin 512 → ℝ) : 0 < (∑ n, (z n - rmean z) * (z n - rmean z)) / 512 + epsR :=
  add_pos_of_nonneg_of_pos (div_nonneg (Finset.sum_nonneg fun n _ => mul_self_nonneg _) (by norm_num)) eps_pos

theorem rsqrt_eq {v : ℝ} (hv : 0 < v) : Ideal.rsqrt (v : EReal) = (((Real.sqrt v)⁻¹ : ℝ) : EReal) := by
  rw [Ideal.rsqrt_coe, if_neg (not_lt.mpr hv.le), if_neg hv.ne']

section
variable (cz gb : FVec Ideal S256x512 .f32) (dm : FVec Ideal S256x512 .bf16) (lw lb : FVec Ideal S1x512 .f32)
  (z g d : Fin 256 → Fin 512 → ℝ) (w b : Fin 512 → ℝ)
  (hz : ∀ r n, cz (ix2 r n) = ((z r n : ℝ) : EReal)) (hg : ∀ r n, gb (ix2 r n) = ((g r n : ℝ) : EReal))
  (hd : ∀ r n, dm (ix2 r n) = ((d r n : ℝ) : EReal)) (hw : ∀ n, lw (ix2 (0 : Fin 1) n) = ((w n : ℝ) : EReal))
  (hb : ∀ n, lb (ix2 (0 : Fin 1) n) = ((b n : ℝ) : EReal))

include hz in
theorem pay2_real (r : Fin 256) (n : Fin 512) : (k0_pay2 (F := Ideal) cz (ix2 r n) : EReal) = ((z r n - rmean (z r) : ℝ) : EReal) := by
  pointwise [k0_pay2]
  simp only [hz, n512_eq, ← coe_sum]
  rw [div_real _ (by norm_num : (512 : ℝ) ≠ 0), ← EReal.coe_sub]; rfl
include hz in
theorem pay3_real (r : Fin 256) : (k0_pay3 (F := Ideal) cz (ix2 r (0 : Fin 1)) : EReal) = ((rinv (z r) : ℝ) : EReal) := by
  pointwise [k0_pay3]
  simp only [pay2_real cz z hz, n512_eq, eps_eq, ← EReal.coe_mul, ← coe_sum]
  rw [div_real _ (by norm_num : (512 : ℝ) ≠ 0), ← EReal.coe_add, rsqrt_eq (var_pos (z r))]; rfl
include hz in
theorem pay4_real (r : Fin 256) (n : Fin 512) : (k0_pay4 (F := Ideal) cz (ix2 r n) : EReal) = ((rxh (z r) n : ℝ) : EReal) := by
  pointwise [k0_pay4]
  simp only [pay2_real cz z hz, pay3_real cz z hz, ← EReal.coe_mul]; rfl
include hz hw hb in
theorem pay6_real (r : Fin 256) (n : Fin 512) :
    (k0_pay6 (F := Ideal) (k0_pay5 (F := Ideal) cz lw) lb (ix2 r n) : EReal) = ((rln (z r) w b n : ℝ) : EReal) := by
  pointwise [k0_pay6, k0_pay5]
  simp only [pay4_real cz z hz, hw, hb, ← EReal.coe_mul, ← EReal.coe_add]; rfl
include hg hd in
theorem pay9_real (r : Fin 256) (n : Fin 512) :
    (k0_pay9 (F := Ideal) gb dm (ix2 r n) : EReal) = ((d r n * (g r n * sgm (g r n)) : ℝ) : EReal) := by
  pointwise [k0_pay9, k0_pay7]
  simp only [hg, hd, zero_sub, sgm_eq, ← EReal.coe_mul]
include hz hw hb hg hd in
theorem pay10_real (r : Fin 256) (n : Fin 512) :
    (k0_pay10 (F := Ideal) (normTile (F := Ideal) cz lw lb) (k0_pay9 (F := Ideal) gb dm) (ix2 r n) : EReal) = ((rdl (z r) w b (g r) (d r) n : ℝ) : EReal) := by
  pointwise [k0_pay10]
  simp only [zero_sub, pay6_real cz lw lb z w b hz hw hb, pay9_real gb dm g d hg hd, sgm_eq, ← EReal.coe_mul, one_sub_real, one_add_real]
  rfl
include hz hw hb hg hd in
theorem pay11_real (r : Fin 256) (n : Fin 512) :
    (dconvTile (F := Ideal) cz gb dm lw lb (ix2 r n) : EReal) = ((rdz (z r) w b (g r) (d r) n : ℝ) : EReal) := by
  pointwise [k0_pay11]
  simp only [pay4_real cz z hz, pay3_real cz z hz, pay10_real cz gb dm lw lb z g d w b hz hg hd hw hb, hw, n512_eq, ← EReal.coe_mul, ← coe_sum]
  simp only [div_real _ (by norm_num : (512 : ℝ) ≠ 0), ← EReal.coe_mul, ← EReal.coe_sub]
  rfl
include hz hw hb hg hd in
theorem pay12_real (r : Fin 256) (n : Fin 512) :
    (dconvStored (F := Ideal) cz gb dm lw lb (ix2 r n) : EReal) = ((rdz (z r) w b (g r) (d r) n : ℝ) : EReal) := by
  refine Eq.trans ?_ (pay11_real cz gb dm lw lb z g d w b hz hg hd hw hb r n)
  pointwise [k0_pay12]
include hz hw hb hg hd in
theorem pay8_real (r : Fin 256) (n : Fin 512) :
    (gateTile (F := Ideal) cz gb dm lw lb (ix2 r n) : EReal) = ((rdg (z r) w b (g r) (d r) n : ℝ) : EReal) := by
  pointwise [k0_pay8, k0_pay7]
  simp only [zero_sub, pay6_real cz lw lb z w b hz hw hb, hg, hd, sgm_eq, ← EReal.coe_mul, one_sub_real, one_add_real]
  rfl
end

end Cert.Proof.Conv

end
-- ==== Proof.ConvTapReal.lean ====
/-
  What a trip of the loops over the taps stores, over numbers: the gradient at the gated input is the sum of the taps' terms.
-/
module

public import proofs.«01_k».proof.Proof.ConvReal
public import proofs.«01_k».proof.Proof.ConvLoops

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A shifted copy of the gradient's rows, read at a block. -/
theorem read_shifted {A15 : Memref sig .tc .vmem S8x4x288x128 .f32} (h : A15.IsWhole) {D : Vec Ideal S2080x512 .f32} {Dr : ℕ → ℕ → ℝ}
    (hD : ∀ (q : Fin 2080) (n : Fin 512), (D (ix2 q n) : EReal) = ((Dr q.val n.val : ℝ) : EReal)) (k2 : Fin k0_t2_loop.trips)
    {off : Fin 4 → ℕ} {a cc o : ℕ} (hoff : off = ![a, cc, o, 0]) {inb : ∀ i, off i + (![1, 1, 128, 128] : Fin 4 → ℕ) i ≤ S8x4x288x128.size i}
    (r n : Fin 128) {q l : ℕ} (ho : o + 128 + a ≤ 288) (hc : cc < 4) (hq : 256 * k2.val + (o + r.val + a) = q) (hl : 128 * cc + n.val = l) :
    (View.readAt (Elt Ideal) A15.view (Rect.unit (s := S8x4x288x128) off ![1, 1, 128, 128] inb).toLoadRect
      (h.unread (shifted (rows288 D k2))) (ix4 (0 : Fin 1) (0 : Fin 1) r n) : EReal)
      = ((Dr q l : ℝ) : EReal) := by
  subst hoff hq hl
  refine (h.readAt_unread _ _ _).trans ?_
  unfold shifted rows288
  refine Eq.trans ?_ (hD ⟨256 * k2.val + (o + r.val + a), by
    have h8 : k2.val < 8 := Nat.lt_of_lt_of_eq k2.isLt trips2
    omega⟩ ⟨128 * cc + n.val, by omega⟩)
  congr 1
  have e := emb_rows (R := 2080) (W := 288) (k0_off6_eq k2) (inb := k0_off6_inb k2)
  funext b
  match b with
  | ⟨0, _⟩ =>
    refine Fin.ext ((e _).1.trans ?_)
    show 256 * k2.val + ((o + 1 * r.val) + (a + 1 * 0)) % 288 = 256 * k2.val + (o + r.val + a)
    rw [Nat.mod_eq_of_lt (by omega)]; omega
  | ⟨1, _⟩ =>
    refine Fin.ext ((e _).2.trans ?_)
    show 128 * (cc + 1 * 0) + (0 + 1 * n.val) = 128 * cc + n.val
    omega

/-- A tap's weights for a strip of lanes. -/
theorem read_weights {A5 : Memref sig .tc .vmem S4x32x128 .f32} (h : A5.IsWhole) {T : Vec Ideal S4x32x128 .f32} {W : ℕ → ℕ → ℝ}
    (hT : ∀ (cc : Fin 4) (j : Fin 32) (l : Fin 128), j.val < 31 → (T (ix3 cc j l) : EReal) = ((W j.val (128 * cc.val + l.val) : ℝ) : EReal))
    {cc j : ℕ} {inb : ∀ i, (![cc, j, 0] : Fin 3 → ℕ) i + (![1, 1, 128] : Fin 3 → ℕ) i ≤ S4x32x128.size i} (n : Fin 128) {l : ℕ} (hc : cc < 4) (hj : j < 31)
    (hl : 128 * cc + n.val = l) :
    (View.readAt (Elt Ideal) A5.view (Rect.unit (s := S4x32x128) ![cc, j, 0] ![1, 1, 128] inb).toLoadRect
      (h.unread T) (ix3 (0 : Fin 1) (0 : Fin 1) n) : EReal) = ((W j l : ℝ) : EReal) := by
  subst hl
  refine (h.readAt_unread _ _ _).trans ?_
  refine Eq.trans ?_ (hT ⟨cc, hc⟩ ⟨j, by omega⟩ n hj)
  congr 1
  funext b
  match b with
  | ⟨0, _⟩ => exact Fin.ext (by show cc + 1 * 0 = cc; omega)
  | ⟨1, _⟩ => exact Fin.ext (by show j + 1 * 0 = j; omega)
  | ⟨2, _⟩ => exact Fin.ext (by show 0 + 1 * n.val = n.val; omega)

/-- A tile of an array of rows. -/
theorem read_tile {arg : Memref sig .tc .vmem S2048x512 .f32} (h : arg.IsWhole) {U : Vec Ideal S2048x512 .f32} {Ur : ℕ → ℕ → ℝ}
    (hU : ∀ (p : Fin 2048) (n : Fin 512), (U (ix2 p n) : EReal) = ((Ur p.val n.val : ℝ) : EReal))
    {off : Fin 2 → ℕ} {o l : ℕ} (hoff : off = ![o, l]) {inb : ∀ i, off i + (![128, 128] : Fin 2 → ℕ) i ≤ S2048x512.size i}
    (r n : Fin 128) {p m : ℕ} (hp : o + r.val = p) (hm : l + n.val = m) :
    (View.readAt (Elt Ideal) arg.view (Rect.unit (s := S2048x512) off ![128, 128] inb).toLoadRect (h.unread U) (ix2 r n) : EReal)
      = ((Ur p m : ℝ) : EReal) := by
  subst hoff hp hm
  have i0 : o + 128 ≤ 2048 := inb 0
  have i1 : l + 128 ≤ 512 := inb 1
  refine (h.readAt_unread _ _ _).trans ?_
  refine Eq.trans ?_ (hU ⟨o + r.val, by omega⟩ ⟨l + n.val, by omega⟩)
  congr 1
  funext b
  match b with
  | ⟨0, _⟩ => exact Fin.ext (by show o + 1 * r.val = o + r.val; omega)
  | ⟨1, _⟩ => exact Fin.ext (by show l + 1 * n.val = l + n.val; omega)

/-- The gradient at the gated input's row `p`: the taps' terms, `Dr` the gradient at the convolution's output with zero rows below. -/
def gatedGrad (Dr W : ℕ → ℕ → ℝ) (p n : ℕ) : ℝ := ∑ j ∈ Finset.range 31, Dr (p + (30 - j)) n * W j n

theorem gatedGrad_eq (Dr W : ℕ → ℕ → ℝ) (p n : ℕ) : gatedGrad Dr W p n
    = Dr (p + 30) n * W 0 n + Dr (p + 29) n * W 1 n + Dr (p + 28) n * W 2 n + Dr (p + 27) n * W 3 n + Dr (p + 26) n * W 4 n + Dr (p + 25) n * W 5 n + Dr (p + 24) n * W 6 n + Dr (p + 23) n * W 7 n + Dr (p + 22) n * W 8 n + Dr (p + 21) n * W 9 n + Dr (p + 20) n * W 10 n + Dr (p + 19) n * W 11 n + Dr (p + 18) n * W 12 n + Dr (p + 17) n * W 13 n + Dr (p + 16) n * W 14 n + Dr (p + 15) n * W 15 n + Dr (p + 14) n * W 16 n + Dr (p + 13) n * W 17 n + Dr (p + 12) n * W 18 n + Dr (p + 11) n * W 19 n + Dr (p + 10) n * W 20 n + Dr (p + 9) n * W 21 n + Dr (p + 8) n * W 22 n + Dr (p + 7) n * W 23 n + Dr (p + 6) n * W 24 n + Dr (p + 5) n * W 25 n + Dr (p + 4) n * W 26 n + Dr (p + 3) n * W 27 n + Dr (p + 2) n * W 28 n + Dr (p + 1) n * W 29 n + Dr (p + 0) n * W 30 n := by
  unfold gatedGrad
  simp only [Finset.sum_range_succ, Finset.sum_range_zero, zero_add]

theorem mul_num {x y : EReal} {a b : ℝ} (hx : x = (a : EReal)) (hy : y = (b : EReal)) : x * y = ((a * b : ℝ) : EReal) := by
  rw [hx, hy, EReal.coe_mul]

theorem add_num {x y : EReal} {a b : ℝ} (hx : x = (a : EReal)) (hy : y = (b : EReal)) : x + y = ((a + b : ℝ) : EReal) := by
  rw [hx, hy, EReal.coe_add]

/-- One tap of the gradient: a shifted row times a weight. -/
theorem tap_term {A15 : Memref sig .tc .vmem S8x4x288x128 .f32} (h : A15.IsWhole) {D : Vec Ideal S2080x512 .f32} {Dr : ℕ → ℕ → ℝ}
    (hD : ∀ (q : Fin 2080) (n : Fin 512), (D (ix2 q n) : EReal) = ((Dr q.val n.val : ℝ) : EReal)) (k2 : Fin k0_t2_loop.trips)
    {off : Fin 4 → ℕ} {a cc o : ℕ} (hoff : off = ![a, cc, o, 0]) {inb : ∀ i, off i + (![1, 1, 128, 128] : Fin 4 → ℕ) i ≤ S8x4x288x128.size i}
    {A5 : Memref sig .tc .vmem S4x32x128 .f32} (h' : A5.IsWhole) {T : Vec Ideal S4x32x128 .f32} {W : ℕ → ℕ → ℝ}
    (hT : ∀ (cc : Fin 4) (j : Fin 32) (l : Fin 128), j.val < 31 → (T (ix3 cc j l) : EReal) = ((W j.val (128 * cc.val + l.val) : ℝ) : EReal))
    {j : ℕ} {inb' : ∀ i, (![cc, j, 0] : Fin 3 → ℕ) i + (![1, 1, 128] : Fin 3 → ℕ) i ≤ S4x32x128.size i}
    (r n : Fin 128) {q l : ℕ} (ho : o + 128 + a ≤ 288 := by omega) (hc : cc < 4 := by omega) (hq : 256 * k2.val + (o + r.val + a) = q := by omega)
    (hl : 128 * cc + n.val = l := by omega) (hj : j < 31 := by omega) :
    (View.readAt (Elt Ideal) A15.view (Rect.unit (s := S8x4x288x128) off ![1, 1, 128, 128] inb).toLoadRect
      (h.unread (shifted (rows288 D k2))) (ix4 (0 : Fin 1) (0 : Fin 1) r n) : EReal)
      * View.readAt (Elt Ideal) A5.view (Rect.unit (s := S4x32x128) ![cc, j, 0] ![1, 1, 128] inb').toLoadRect
        (h'.unread T) (ix3 (0 : Fin 1) (0 : Fin 1) n) = ((Dr q l * W j l : ℝ) : EReal) :=
  mul_num (read_shifted h hD k2 hoff r n ho hc hq hl) (read_weights h' hT n hc hj hl)

theorem sgm_num {x : EReal} {u : ℝ} (hx : x = (u : EReal)) : Ideal.div 1 (1 + Ideal.exp (0 - x)) = ((sgm u : ℝ) : EReal) := by
  rw [hx, zero_sub, sgm_eq]

theorem one_sub_num {x : EReal} {u : ℝ} (hx : x = (u : EReal)) : 1 - x = ((1 - u : ℝ) : EReal) := by
  rw [hx, one_sub_real]

section
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable (A U : Vec Ideal S2048x512 .f32) (D : Vec Ideal S2080x512 .f32) (T : Vec Ideal S4x32x128 .f32) (Ar Ur Dr W : ℕ → ℕ → ℝ)
  (hA : ∀ (p : Fin 2048) (n : Fin 512), (A (ix2 p n) : EReal) = ((Ar p.val n.val : ℝ) : EReal))
  (hU : ∀ (p : Fin 2048) (n : Fin 512), (U (ix2 p n) : EReal) = ((Ur p.val n.val : ℝ) : EReal))
  (hD : ∀ (q : Fin 2080) (n : Fin 512), (D (ix2 q n) : EReal) = ((Dr q.val n.val : ℝ) : EReal))
  (hT : ∀ (cc : Fin 4) (j : Fin 32) (l : Fin 128), j.val < 31 → (T (ix3 cc j l) : EReal) = ((W j.val (128 * cc.val + l.val) : ℝ) : EReal))
include hA hU hD hT

set_option maxHeartbeats 4000000 in
/-- What the loop over lanes 0 to 127 stores of the gradient at the first factor. -/
theorem tap0_0_real (𝒱 : Variants) (c : Dev nD) (bd : Option 𝒱.V) (k2 : Fin k0_t2_loop.trips)
    (k : Fin k0_t3_loop.trips) (r n : Fin 128) : ((tap0 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).1 (ix2 r n) : EReal)
      = ((gatedGrad Dr W (256 * k2.val + 128 * k.val + r.val) (128 * 0 + n.val) * sgm (Ur (256 * k2.val + 128 * k.val + r.val) (128 * 0 + n.val)) : ℝ) : EReal) := by
  have hk : k.val < 2 := Nat.lt_of_lt_of_eq k.isLt trips3
  unfold tap0
  dsimp only
  pointwise [tap0.sl.r, tap0.sl.r_1, tap0.sl.r_2, tap0.sl.r_3, tap0.sl.r_4, tap0.sl.r_5, tap0.sl.r_6, tap0.sl.r_7, tap0.sl.r_8, tap0.sl.r_9, tap0.sl.r_10, tap0.sl.r_11, tap0.sl.r_12, tap0.sl.r_13, tap0.sl.r_14, k0_pay887, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  rw [gatedGrad_eq]
  refine mul_num (add_num (add_num (add_num (add_num (add_num (add_num (add_num (add_num (add_num (add_num (add_num (add_num (add_num (add_num (add_num (add_num (add_num (add_num (add_num (add_num (add_num (add_num (add_num ?_ (tap_term B15 hD k2 (k0_off7_eq k 2) B5 hT r n)) (tap_term B15 hD k2 (k0_off8_eq k 2) B5 hT r n)) (tap_term B15 hD k2 (k0_off9_eq k 2) B5 hT r n)) (tap_term B15 hD k2 (k0_off10_eq k 2) B5 hT r n)) (tap_term B15 hD k2 (k0_off11_eq k 2) B5 hT r n)) (tap_term B15 hD k2 (k0_off12_eq k 2) B5 hT r n)) (tap_term B15 hD k2 (k0_off13_eq k 2) B5 hT r n)) (tap_term B15 hD k2 (k0_off14_eq k 1) B5 hT r n)) (tap_term B15 hD k2 (k0_off7_eq k 1) B5 hT r n)) (tap_term B15 hD k2 (k0_off8_eq k 1) B5 hT r n)) (tap_term B15 hD k2 (k0_off9_eq k 1) B5 hT r n)) (tap_term B15 hD k2 (k0_off10_eq k 1) B5 hT r n)) (tap_term B15 hD k2 (k0_off11_eq k 1) B5 hT r n)) (tap_term B15 hD k2 (k0_off12_eq k 1) B5 hT r n)) (tap_term B15 hD k2 (k0_off13_eq k 1) B5 hT r n)) (tap_term B15 hD k2 (k0_off14_eq k 0) B5 hT r n)) (tap_term B15 hD k2 (k0_off7_eq k 0) B5 hT r n)) (tap_term B15 hD k2 (k0_off8_eq k 0) B5 hT r n)) (tap_term B15 hD k2 (k0_off9_eq k 0) B5 hT r n)) (tap_term B15 hD k2 (k0_off10_eq k 0) B5 hT r n)) (tap_term B15 hD k2 (k0_off11_eq k 0) B5 hT r n)) (tap_term B15 hD k2 (k0_off12_eq k 0) B5 hT r n)) (tap_term B15 hD k2 (k0_off13_eq k 0) B5 hT r n))
    (sgm_num (read_tile B18 hU (k0_off15_eq k2 k) r n (by omega) (by omega)))
  pointwise [tap0.sl.r, tap0.sl.r_1, tap0.sl.r_2, tap0.sl.r_3, tap0.sl.r_4, tap0.sl.r_5, tap0.sl.r_6, tap0.sl.r_7, tap0.sl.r_8, tap0.sl.r_9, tap0.sl.r_10, tap0.sl.r_11, tap0.sl.r_12, tap0.sl.r_13, tap0.sl.r_14, k0_pay887, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  refine (add_num (add_num (add_num (add_num (add_num ?_ (tap_term B15 hD k2 (k0_off10_eq k 3) B5 hT r n)) (tap_term B15 hD k2 (k0_off11_eq k 3) B5 hT r n)) (tap_term B15 hD k2 (k0_off12_eq k 3) B5 hT r n)) (tap_term B15 hD k2 (k0_off13_eq k 3) B5 hT r n)) (tap_term B15 hD k2 (k0_off14_eq k 2) B5 hT r n))
  try pointwise [tap0.sl.r, tap0.sl.r_1, tap0.sl.r_2, tap0.sl.r_3, tap0.sl.r_4, tap0.sl.r_5, tap0.sl.r_6, tap0.sl.r_7, tap0.sl.r_8, tap0.sl.r_9, tap0.sl.r_10, tap0.sl.r_11, tap0.sl.r_12, tap0.sl.r_13, tap0.sl.r_14, k0_pay887, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  exact (add_num (add_num (tap_term B15 hD k2 (k0_off7_eq k 3) B5 hT r n) (tap_term B15 hD k2 (k0_off8_eq k 3) B5 hT r n)) (tap_term B15 hD k2 (k0_off9_eq k 3) B5 hT r n))

set_option maxHeartbeats 4000000 in
/-- What the loop over lanes 0 to 127 stores of the gradient at the gate. -/
theorem tap0_1_real (𝒱 : Variants) (c : Dev nD) (bd : Option 𝒱.V) (k2 : Fin k0_t2_loop.trips)
    (k : Fin k0_t3_loop.trips) (r n : Fin 128) : ((tap0 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).2.1 (ix2 r n) : EReal)
      = ((gatedGrad Dr W (256 * k2.val + 128 * k.val + r.val) (128 * 0 + n.val) * Ar (256 * k2.val + 128 * k.val + r.val) (128 * 0 + n.val) * sgm (Ur (256 * k2.val + 128 * k.val + r.val) (128 * 0 + n.val)) * (1 - sgm (Ur (256 * k2.val + 128 * k.val + r.val) (128 * 0 + n.val))) : ℝ) : EReal) := by
  have hk : k.val < 2 := Nat.lt_of_lt_of_eq k.isLt trips3
  unfold tap0
  dsimp only
  pointwise [tap0.sl.r, tap0.sl.r_1, tap0.sl.r_2, tap0.sl.r_3, tap0.sl.r_4, tap0.sl.r_5, tap0.sl.r_6, tap0.sl.r_7, tap0.sl.r_8, tap0.sl.r_9, tap0.sl.r_10, tap0.sl.r_11, tap0.sl.r_12, tap0.sl.r_13, tap0.sl.r_14, k0_pay887, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  rw [gatedGrad_eq]
  refine mul_num (mul_num (mul_num (add_num (add_num (add_num (add_num (add_num (add_num (add_num (add_num (add_num (add_num (add_num (add_num (add_num (add_num (add_num (add_num (add_num (add_num (add_num (add_num (add_num (add_num (add_num ?_ (tap_term B15 hD k2 (k0_off7_eq k 2) B5 hT r n)) (tap_term B15 hD k2 (k0_off8_eq k 2) B5 hT r n)) (tap_term B15 hD k2 (k0_off9_eq k 2) B5 hT r n)) (tap_term B15 hD k2 (k0_off10_eq k 2) B5 hT r n)) (tap_term B15 hD k2 (k0_off11_eq k 2) B5 hT r n)) (tap_term B15 hD k2 (k0_off12_eq k 2) B5 hT r n)) (tap_term B15 hD k2 (k0_off13_eq k 2) B5 hT r n)) (tap_term B15 hD k2 (k0_off14_eq k 1) B5 hT r n)) (tap_term B15 hD k2 (k0_off7_eq k 1) B5 hT r n)) (tap_term B15 hD k2 (k0_off8_eq k 1) B5 hT r n)) (tap_term B15 hD k2 (k0_off9_eq k 1) B5 hT r n)) (tap_term B15 hD k2 (k0_off10_eq k 1) B5 hT r n)) (tap_term B15 hD k2 (k0_off11_eq k 1) B5 hT r n)) (tap_term B15 hD k2 (k0_off12_eq k 1) B5 hT r n)) (tap_term B15 hD k2 (k0_off13_eq k 1) B5 hT r n)) (tap_term B15 hD k2 (k0_off14_eq k 0) B5 hT r n)) (tap_term B15 hD k2 (k0_off7_eq k 0) B5 hT r n)) (tap_term B15 hD k2 (k0_off8_eq k 0) B5 hT r n)) (tap_term B15 hD k2 (k0_off9_eq k 0) B5 hT r n)) (tap_term B15 hD k2 (k0_off10_eq k 0) B5 hT r n)) (tap_term B15 hD k2 (k0_off11_eq k 0) B5 hT r n)) (tap_term B15 hD k2 (k0_off12_eq k 0) B5 hT r n)) (tap_term B15 hD k2 (k0_off13_eq k 0) B5 hT r n))
    (read_tile B17 hA (k0_off15_eq k2 k) r n (by omega) (by omega)))
    (sgm_num (read_tile B18 hU (k0_off15_eq k2 k) r n (by omega) (by omega))))
    (one_sub_num (sgm_num (read_tile B18 hU (k0_off15_eq k2 k) r n (by omega) (by omega))))
  pointwise [tap0.sl.r, tap0.sl.r_1, tap0.sl.r_2, tap0.sl.r_3, tap0.sl.r_4, tap0.sl.r_5, tap0.sl.r_6, tap0.sl.r_7, tap0.sl.r_8, tap0.sl.r_9, tap0.sl.r_10, tap0.sl.r_11, tap0.sl.r_12, tap0.sl.r_13, tap0.sl.r_14, k0_pay887, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  refine (add_num (add_num (add_num (add_num (add_num ?_ (tap_term B15 hD k2 (k0_off10_eq k 3) B5 hT r n)) (tap_term B15 hD k2 (k0_off11_eq k 3) B5 hT r n)) (tap_term B15 hD k2 (k0_off12_eq k 3) B5 hT r n)) (tap_term B15 hD k2 (k0_off13_eq k 3) B5 hT r n)) (tap_term B15 hD k2 (k0_off14_eq k 2) B5 hT r n))
  try pointwise [tap0.sl.r, tap0.sl.r_1, tap0.sl.r_2, tap0.sl.r_3, tap0.sl.r_4, tap0.sl.r_5, tap0.sl.r_6, tap0.sl.r_7, tap0.sl.r_8, tap0.sl.r_9, tap0.sl.r_10, tap0.sl.r_11, tap0.sl.r_12, tap0.sl.r_13, tap0.sl.r_14, k0_pay887, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  exact (add_num (add_num (tap_term B15 hD k2 (k0_off7_eq k 3) B5 hT r n) (tap_term B15 hD k2 (k0_off8_eq k 3) B5 hT r n)) (tap_term B15 hD k2 (k0_off9_eq k 3) B5 hT r n))

set_option maxHeartbeats 4000000 in
/-- What the loop over lanes 128 to 255 stores of the gradient at the first factor. -/
theorem tap1_0_real (𝒱 : Variants) (c : Dev nD) (bd : Option 𝒱.V) (k2 : Fin k0_t2_loop.trips)
    (k : Fin k0_t4_loop.trips) (r n : Fin 128) : ((tap1 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).1 (ix2 r n) : EReal)
      = ((gatedGrad Dr W (256 * k2.val + 128 * k.val + r.val) (128 * 1 + n.val) * sgm (Ur (256 * k2.val + 128 * k.val + r.val) (128 * 1 + n.val)) : ℝ) : EReal) := by
  have hk : k.val < 2 := Nat.lt_of_lt_of_eq k.isLt trips4
  unfold tap1
  dsimp only
  pointwise [tap1.sl.r, tap1.sl.r_1, tap1.sl.r_2, tap1.sl.r_3, tap1.sl.r_4, tap1.sl.r_5, tap1.sl.r_6, tap1.sl.r_7, tap1.sl.r_8, tap1.sl.r_9, tap1.sl.r_10, tap1.sl.r_11, tap1.sl.r_12, tap1.sl.r_13, tap1.sl.r_14, k0_pay888, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  rw [gatedGrad_eq]
  refine mul_num (add_num (add_num (add_num (add_num (add_num (add_num (add_num (add_num (add_num (add_num (add_num (add_num (add_num (add_num (add_num (add_num (add_num (add_num (add_num (add_num (add_num (add_num (add_num ?_ (tap_term B15 hD k2 (k0_off16_eq k 2) B5 hT r n)) (tap_term B15 hD k2 (k0_off17_eq k 2) B5 hT r n)) (tap_term B15 hD k2 (k0_off18_eq k 2) B5 hT r n)) (tap_term B15 hD k2 (k0_off19_eq k 2) B5 hT r n)) (tap_term B15 hD k2 (k0_off20_eq k 2) B5 hT r n)) (tap_term B15 hD k2 (k0_off21_eq k 2) B5 hT r n)) (tap_term B15 hD k2 (k0_off22_eq k 2) B5 hT r n)) (tap_term B15 hD k2 (k0_off23_eq k 1) B5 hT r n)) (tap_term B15 hD k2 (k0_off16_eq k 1) B5 hT r n)) (tap_term B15 hD k2 (k0_off17_eq k 1) B5 hT r n)) (tap_term B15 hD k2 (k0_off18_eq k 1) B5 hT r n)) (tap_term B15 hD k2 (k0_off19_eq k 1) B5 hT r n)) (tap_term B15 hD k2 (k0_off20_eq k 1) B5 hT r n)) (tap_term B15 hD k2 (k0_off21_eq k 1) B5 hT r n)) (tap_term B15 hD k2 (k0_off22_eq k 1) B5 hT r n)) (tap_term B15 hD k2 (k0_off23_eq k 0) B5 hT r n)) (tap_term B15 hD k2 (k0_off16_eq k 0) B5 hT r n)) (tap_term B15 hD k2 (k0_off17_eq k 0) B5 hT r n)) (tap_term B15 hD k2 (k0_off18_eq k 0) B5 hT r n)) (tap_term B15 hD k2 (k0_off19_eq k 0) B5 hT r n)) (tap_term B15 hD k2 (k0_off20_eq k 0) B5 hT r n)) (tap_term B15 hD k2 (k0_off21_eq k 0) B5 hT r n)) (tap_term B15 hD k2 (k0_off22_eq k 0) B5 hT r n))
    (sgm_num (read_tile B18 hU (k0_off24_eq k2 k) r n (by omega) (by omega)))
  pointwise [tap1.sl.r, tap1.sl.r_1, tap1.sl.r_2, tap1.sl.r_3, tap1.sl.r_4, tap1.sl.r_5, tap1.sl.r_6, tap1.sl.r_7, tap1.sl.r_8, tap1.sl.r_9, tap1.sl.r_10, tap1.sl.r_11, tap1.sl.r_12, tap1.sl.r_13, tap1.sl.r_14, k0_pay888, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  refine (add_num (add_num (add_num (add_num (add_num ?_ (tap_term B15 hD k2 (k0_off19_eq k 3) B5 hT r n)) (tap_term B15 hD k2 (k0_off20_eq k 3) B5 hT r n)) (tap_term B15 hD k2 (k0_off21_eq k 3) B5 hT r n)) (tap_term B15 hD k2 (k0_off22_eq k 3) B5 hT r n)) (tap_term B15 hD k2 (k0_off23_eq k 2) B5 hT r n))
  try pointwise [tap1.sl.r, tap1.sl.r_1, tap1.sl.r_2, tap1.sl.r_3, tap1.sl.r_4, tap1.sl.r_5, tap1.sl.r_6, tap1.sl.r_7, tap1.sl.r_8, tap1.sl.r_9, tap1.sl.r_10, tap1.sl.r_11, tap1.sl.r_12, tap1.sl.r_13, tap1.sl.r_14, k0_pay888, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  exact (add_num (add_num (tap_term B15 hD k2 (k0_off16_eq k 3) B5 hT r n) (tap_term B15 hD k2 (k0_off17_eq k 3) B5 hT r n)) (tap_term B15 hD k2 (k0_off18_eq k 3) B5 hT r n))

set_option maxHeartbeats 4000000 in
/-- What the loop over lanes 128 to 255 stores of the gradient at the gate. -/
theorem tap1_1_real (𝒱 : Variants) (c : Dev nD) (bd : Option 𝒱.V) (k2 : Fin k0_t2_loop.trips)
    (k : Fin k0_t4_loop.trips) (r n : Fin 128) : ((tap1 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).2.1 (ix2 r n) : EReal)
      = ((gatedGrad Dr W (256 * k2.val + 128 * k.val + r.val) (128 * 1 + n.val) * Ar (256 * k2.val + 128 * k.val + r.val) (128 * 1 + n.val) * sgm (Ur (256 * k2.val + 128 * k.val + r.val) (128 * 1 + n.val)) * (1 - sgm (Ur (256 * k2.val + 128 * k.val + r.val) (128 * 1 + n.val))) : ℝ) : EReal) := by
  have hk : k.val < 2 := Nat.lt_of_lt_of_eq k.isLt trips4
  unfold tap1
  dsimp only
  pointwise [tap1.sl.r, tap1.sl.r_1, tap1.sl.r_2, tap1.sl.r_3, tap1.sl.r_4, tap1.sl.r_5, tap1.sl.r_6, tap1.sl.r_7, tap1.sl.r_8, tap1.sl.r_9, tap1.sl.r_10, tap1.sl.r_11, tap1.sl.r_12, tap1.sl.r_13, tap1.sl.r_14, k0_pay888, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  rw [gatedGrad_eq]
  refine mul_num (mul_num (mul_num (add_num (add_num (add_num (add_num (add_num (add_num (add_num (add_num (add_num (add_num (add_num (add_num (add_num (add_num (add_num (add_num (add_num (add_num (add_num (add_num (add_num (add_num (add_num ?_ (tap_term B15 hD k2 (k0_off16_eq k 2) B5 hT r n)) (tap_term B15 hD k2 (k0_off17_eq k 2) B5 hT r n)) (tap_term B15 hD k2 (k0_off18_eq k 2) B5 hT r n)) (tap_term B15 hD k2 (k0_off19_eq k 2) B5 hT r n)) (tap_term B15 hD k2 (k0_off20_eq k 2) B5 hT r n)) (tap_term B15 hD k2 (k0_off21_eq k 2) B5 hT r n)) (tap_term B15 hD k2 (k0_off22_eq k 2) B5 hT r n)) (tap_term B15 hD k2 (k0_off23_eq k 1) B5 hT r n)) (tap_term B15 hD k2 (k0_off16_eq k 1) B5 hT r n)) (tap_term B15 hD k2 (k0_off17_eq k 1) B5 hT r n)) (tap_term B15 hD k2 (k0_off18_eq k 1) B5 hT r n)) (tap_term B15 hD k2 (k0_off19_eq k 1) B5 hT r n)) (tap_term B15 hD k2 (k0_off20_eq k 1) B5 hT r n)) (tap_term B15 hD k2 (k0_off21_eq k 1) B5 hT r n)) (tap_term B15 hD k2 (k0_off22_eq k 1) B5 hT r n)) (tap_term B15 hD k2 (k0_off23_eq k 0) B5 hT r n)) (tap_term B15 hD k2 (k0_off16_eq k 0) B5 hT r n)) (tap_term B15 hD k2 (k0_off17_eq k 0) B5 hT r n)) (tap_term B15 hD k2 (k0_off18_eq k 0) B5 hT r n)) (tap_term B15 hD k2 (k0_off19_eq k 0) B5 hT r n)) (tap_term B15 hD k2 (k0_off20_eq k 0) B5 hT r n)) (tap_term B15 hD k2 (k0_off21_eq k 0) B5 hT r n)) (tap_term B15 hD k2 (k0_off22_eq k 0) B5 hT r n))
    (read_tile B17 hA (k0_off24_eq k2 k) r n (by omega) (by omega)))
    (sgm_num (read_tile B18 hU (k0_off24_eq k2 k) r n (by omega) (by omega))))
    (one_sub_num (sgm_num (read_tile B18 hU (k0_off24_eq k2 k) r n (by omega) (by omega))))
  pointwise [tap1.sl.r, tap1.sl.r_1, tap1.sl.r_2, tap1.sl.r_3, tap1.sl.r_4, tap1.sl.r_5, tap1.sl.r_6, tap1.sl.r_7, tap1.sl.r_8, tap1.sl.r_9, tap1.sl.r_10, tap1.sl.r_11, tap1.sl.r_12, tap1.sl.r_13, tap1.sl.r_14, k0_pay888, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  refine (add_num (add_num (add_num (add_num (add_num ?_ (tap_term B15 hD k2 (k0_off19_eq k 3) B5 hT r n)) (tap_term B15 hD k2 (k0_off20_eq k 3) B5 hT r n)) (tap_term B15 hD k2 (k0_off21_eq k 3) B5 hT r n)) (tap_term B15 hD k2 (k0_off22_eq k 3) B5 hT r n)) (tap_term B15 hD k2 (k0_off23_eq k 2) B5 hT r n))
  try pointwise [tap1.sl.r, tap1.sl.r_1, tap1.sl.r_2, tap1.sl.r_3, tap1.sl.r_4, tap1.sl.r_5, tap1.sl.r_6, tap1.sl.r_7, tap1.sl.r_8, tap1.sl.r_9, tap1.sl.r_10, tap1.sl.r_11, tap1.sl.r_12, tap1.sl.r_13, tap1.sl.r_14, k0_pay888, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  exact (add_num (add_num (tap_term B15 hD k2 (k0_off16_eq k 3) B5 hT r n) (tap_term B15 hD k2 (k0_off17_eq k 3) B5 hT r n)) (tap_term B15 hD k2 (k0_off18_eq k 3) B5 hT r n))

set_option maxHeartbeats 4000000 in
/-- What the loop over lanes 256 to 383 stores of the gradient at the first factor. -/
theorem tap2_0_real (𝒱 : Variants) (c : Dev nD) (bd : Option 𝒱.V) (k2 : Fin k0_t2_loop.trips)
    (k : Fin k0_t5_loop.trips) (r n : Fin 128) : ((tap2 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).1 (ix2 r n) : EReal)
      = ((gatedGrad Dr W (256 * k2.val + 128 * k.val + r.val) (128 * 2 + n.val) * sgm (Ur (256 * k2.val + 128 * k.val + r.val) (128 * 2 + n.val)) : ℝ) : EReal) := by
  have hk : k.val < 2 := Nat.lt_of_lt_of_eq k.isLt trips5
  unfold tap2
  dsimp only
  pointwise [tap2.sl.r, tap2.sl.r_1, tap2.sl.r_2, tap2.sl.r_3, tap2.sl.r_4, tap2.sl.r_5, tap2.sl.r_6, tap2.sl.r_7, tap2.sl.r_8, tap2.sl.r_9, tap2.sl.r_10, tap2.sl.r_11, tap2.sl.r_12, tap2.sl.r_13, tap2.sl.r_14, k0_pay889, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  rw [gatedGrad_eq]
  refine mul_num (add_num (add_num (add_num (add_num (add_num (add_num (add_num (add_num (add_num (add_num (add_num (add_num (add_num (add_num (add_num (add_num (add_num (add_num (add_num (add_num (add_num (add_num (add_num ?_ (tap_term B15 hD k2 (k0_off25_eq k 2) B5 hT r n)) (tap_term B15 hD k2 (k0_off26_eq k 2) B5 hT r n)) (tap_term B15 hD k2 (k0_off27_eq k 2) B5 hT r n)) (tap_term B15 hD k2 (k0_off28_eq k 2) B5 hT r n)) (tap_term B15 hD k2 (k0_off29_eq k 2) B5 hT r n)) (tap_term B15 hD k2 (k0_off30_eq k 2) B5 hT r n)) (tap_term B15 hD k2 (k0_off31_eq k 2) B5 hT r n)) (tap_term B15 hD k2 (k0_off32_eq k 1) B5 hT r n)) (tap_term B15 hD k2 (k0_off25_eq k 1) B5 hT r n)) (tap_term B15 hD k2 (k0_off26_eq k 1) B5 hT r n)) (tap_term B15 hD k2 (k0_off27_eq k 1) B5 hT r n)) (tap_term B15 hD k2 (k0_off28_eq k 1) B5 hT r n)) (tap_term B15 hD k2 (k0_off29_eq k 1) B5 hT r n)) (tap_term B15 hD k2 (k0_off30_eq k 1) B5 hT r n)) (tap_term B15 hD k2 (k0_off31_eq k 1) B5 hT r n)) (tap_term B15 hD k2 (k0_off32_eq k 0) B5 hT r n)) (tap_term B15 hD k2 (k0_off25_eq k 0) B5 hT r n)) (tap_term B15 hD k2 (k0_off26_eq k 0) B5 hT r n)) (tap_term B15 hD k2 (k0_off27_eq k 0) B5 hT r n)) (tap_term B15 hD k2 (k0_off28_eq k 0) B5 hT r n)) (tap_term B15 hD k2 (k0_off29_eq k 0) B5 hT r n)) (tap_term B15 hD k2 (k0_off30_eq k 0) B5 hT r n)) (tap_term B15 hD k2 (k0_off31_eq k 0) B5 hT r n))
    (sgm_num (read_tile B18 hU (k0_off33_eq k2 k) r n (by omega) (by omega)))
  pointwise [tap2.sl.r, tap2.sl.r_1, tap2.sl.r_2, tap2.sl.r_3, tap2.sl.r_4, tap2.sl.r_5, tap2.sl.r_6, tap2.sl.r_7, tap2.sl.r_8, tap2.sl.r_9, tap2.sl.r_10, tap2.sl.r_11, tap2.sl.r_12, tap2.sl.r_13, tap2.sl.r_14, k0_pay889, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  refine (add_num (add_num (add_num (add_num (add_num ?_ (tap_term B15 hD k2 (k0_off28_eq k 3) B5 hT r n)) (tap_term B15 hD k2 (k0_off29_eq k 3) B5 hT r n)) (tap_term B15 hD k2 (k0_off30_eq k 3) B5 hT r n)) (tap_term B15 hD k2 (k0_off31_eq k 3) B5 hT r n)) (tap_term B15 hD k2 (k0_off32_eq k 2) B5 hT r n))
  try pointwise [tap2.sl.r, tap2.sl.r_1, tap2.sl.r_2, tap2.sl.r_3, tap2.sl.r_4, tap2.sl.r_5, tap2.sl.r_6, tap2.sl.r_7, tap2.sl.r_8, tap2.sl.r_9, tap2.sl.r_10, tap2.sl.r_11, tap2.sl.r_12, tap2.sl.r_13, tap2.sl.r_14, k0_pay889, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  exact (add_num (add_num (tap_term B15 hD k2 (k0_off25_eq k 3) B5 hT r n) (tap_term B15 hD k2 (k0_off26_eq k 3) B5 hT r n)) (tap_term B15 hD k2 (k0_off27_eq k 3) B5 hT r n))

set_option maxHeartbeats 4000000 in
/-- What the loop over lanes 256 to 383 stores of the gradient at the gate. -/
theorem tap2_1_real (𝒱 : Variants) (c : Dev nD) (bd : Option 𝒱.V) (k2 : Fin k0_t2_loop.trips)
    (k : Fin k0_t5_loop.trips) (r n : Fin 128) : ((tap2 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).2.1 (ix2 r n) : EReal)
      = ((gatedGrad Dr W (256 * k2.val + 128 * k.val + r.val) (128 * 2 + n.val) * Ar (256 * k2.val + 128 * k.val + r.val) (128 * 2 + n.val) * sgm (Ur (256 * k2.val + 128 * k.val + r.val) (128 * 2 + n.val)) * (1 - sgm (Ur (256 * k2.val + 128 * k.val + r.val) (128 * 2 + n.val))) : ℝ) : EReal) := by
  have hk : k.val < 2 := Nat.lt_of_lt_of_eq k.isLt trips5
  unfold tap2
  dsimp only
  pointwise [tap2.sl.r, tap2.sl.r_1, tap2.sl.r_2, tap2.sl.r_3, tap2.sl.r_4, tap2.sl.r_5, tap2.sl.r_6, tap2.sl.r_7, tap2.sl.r_8, tap2.sl.r_9, tap2.sl.r_10, tap2.sl.r_11, tap2.sl.r_12, tap2.sl.r_13, tap2.sl.r_14, k0_pay889, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  rw [gatedGrad_eq]
  refine mul_num (mul_num (mul_num (add_num (add_num (add_num (add_num (add_num (add_num (add_num (add_num (add_num (add_num (add_num (add_num (add_num (add_num (add_num (add_num (add_num (add_num (add_num (add_num (add_num (add_num (add_num ?_ (tap_term B15 hD k2 (k0_off25_eq k 2) B5 hT r n)) (tap_term B15 hD k2 (k0_off26_eq k 2) B5 hT r n)) (tap_term B15 hD k2 (k0_off27_eq k 2) B5 hT r n)) (tap_term B15 hD k2 (k0_off28_eq k 2) B5 hT r n)) (tap_term B15 hD k2 (k0_off29_eq k 2) B5 hT r n)) (tap_term B15 hD k2 (k0_off30_eq k 2) B5 hT r n)) (tap_term B15 hD k2 (k0_off31_eq k 2) B5 hT r n)) (tap_term B15 hD k2 (k0_off32_eq k 1) B5 hT r n)) (tap_term B15 hD k2 (k0_off25_eq k 1) B5 hT r n)) (tap_term B15 hD k2 (k0_off26_eq k 1) B5 hT r n)) (tap_term B15 hD k2 (k0_off27_eq k 1) B5 hT r n)) (tap_term B15 hD k2 (k0_off28_eq k 1) B5 hT r n)) (tap_term B15 hD k2 (k0_off29_eq k 1) B5 hT r n)) (tap_term B15 hD k2 (k0_off30_eq k 1) B5 hT r n)) (tap_term B15 hD k2 (k0_off31_eq k 1) B5 hT r n)) (tap_term B15 hD k2 (k0_off32_eq k 0) B5 hT r n)) (tap_term B15 hD k2 (k0_off25_eq k 0) B5 hT r n)) (tap_term B15 hD k2 (k0_off26_eq k 0) B5 hT r n)) (tap_term B15 hD k2 (k0_off27_eq k 0) B5 hT r n)) (tap_term B15 hD k2 (k0_off28_eq k 0) B5 hT r n)) (tap_term B15 hD k2 (k0_off29_eq k 0) B5 hT r n)) (tap_term B15 hD k2 (k0_off30_eq k 0) B5 hT r n)) (tap_term B15 hD k2 (k0_off31_eq k 0) B5 hT r n))
    (read_tile B17 hA (k0_off33_eq k2 k) r n (by omega) (by omega)))
    (sgm_num (read_tile B18 hU (k0_off33_eq k2 k) r n (by omega) (by omega))))
    (one_sub_num (sgm_num (read_tile B18 hU (k0_off33_eq k2 k) r n (by omega) (by omega))))
  pointwise [tap2.sl.r, tap2.sl.r_1, tap2.sl.r_2, tap2.sl.r_3, tap2.sl.r_4, tap2.sl.r_5, tap2.sl.r_6, tap2.sl.r_7, tap2.sl.r_8, tap2.sl.r_9, tap2.sl.r_10, tap2.sl.r_11, tap2.sl.r_12, tap2.sl.r_13, tap2.sl.r_14, k0_pay889, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  refine (add_num (add_num (add_num (add_num (add_num ?_ (tap_term B15 hD k2 (k0_off28_eq k 3) B5 hT r n)) (tap_term B15 hD k2 (k0_off29_eq k 3) B5 hT r n)) (tap_term B15 hD k2 (k0_off30_eq k 3) B5 hT r n)) (tap_term B15 hD k2 (k0_off31_eq k 3) B5 hT r n)) (tap_term B15 hD k2 (k0_off32_eq k 2) B5 hT r n))
  try pointwise [tap2.sl.r, tap2.sl.r_1, tap2.sl.r_2, tap2.sl.r_3, tap2.sl.r_4, tap2.sl.r_5, tap2.sl.r_6, tap2.sl.r_7, tap2.sl.r_8, tap2.sl.r_9, tap2.sl.r_10, tap2.sl.r_11, tap2.sl.r_12, tap2.sl.r_13, tap2.sl.r_14, k0_pay889, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
  exact (add_num (add_num (tap_term B15 hD k2 (k0_off25_eq k 3) B5 hT r n) (tap_term B15 hD k2 (k0_off26_eq k 3) B5 hT r n)) (tap_term B15 hD k2 (k0_off27_eq k 3) B5 hT r n))

set_option maxHeartbeats 4000000 in
/-- What the loop over lanes 384 to 511 stores of the gradient at the first factor. -/
theorem tap3_0_real (𝒱 : Variants) (c : Dev nD) (bd : Option 𝒱.V) (k2 : Fin k0_t2_loop.trips)
    (k : Fin k0_t6_loop.trips) (r n : Fin 128) : ((tap3 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).1 (ix2 r n) : EReal)
      = ((gatedGrad Dr W (256 * k2.val + 128 * k.val + r.val) (128 * 3 + n.val) * sgm (Ur (256 * k2.val + 128 * k.val + r.val) (128 * 3 + n.val)) : ℝ) : EReal) := by
  have hk : k.val < 2 := Nat.lt_of_lt_of_eq k.isLt trips6
  unfold tap3
  dsimp only
  pointwise [tap3.sl.r, tap3.sl.r_1, tap3.sl.r_2, tap3.sl.r_3, tap3.sl.r_4, tap3.sl.r_5, tap3.sl.r_6, tap3.sl.r_7, tap3.sl.r_8, tap3.sl.r_9, tap3.sl.r_10, tap3.sl.r_11, tap3.sl.r_12, tap3.sl.r_13, tap3.sl.r_14, k0_pay890, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  rw [gatedGrad_eq]
  refine mul_num (add_num (add_num (add_num (add_num (add_num (add_num (add_num (add_num (add_num (add_num (add_num (add_num (add_num (add_num (add_num (add_num (add_num (add_num (add_num (add_num (add_num (add_num (add_num ?_ (tap_term B15 hD k2 (k0_off34_eq k 2) B5 hT r n)) (tap_term B15 hD k2 (k0_off35_eq k 2) B5 hT r n)) (tap_term B15 hD k2 (k0_off36_eq k 2) B5 hT r n)) (tap_term B15 hD k2 (k0_off37_eq k 2) B5 hT r n)) (tap_term B15 hD k2 (k0_off38_eq k 2) B5 hT r n)) (tap_term B15 hD k2 (k0_off39_eq k 2) B5 hT r n)) (tap_term B15 hD k2 (k0_off40_eq k 2) B5 hT r n)) (tap_term B15 hD k2 (k0_off41_eq k 1) B5 hT r n)) (tap_term B15 hD k2 (k0_off34_eq k 1) B5 hT r n)) (tap_term B15 hD k2 (k0_off35_eq k 1) B5 hT r n)) (tap_term B15 hD k2 (k0_off36_eq k 1) B5 hT r n)) (tap_term B15 hD k2 (k0_off37_eq k 1) B5 hT r n)) (tap_term B15 hD k2 (k0_off38_eq k 1) B5 hT r n)) (tap_term B15 hD k2 (k0_off39_eq k 1) B5 hT r n)) (tap_term B15 hD k2 (k0_off40_eq k 1) B5 hT r n)) (tap_term B15 hD k2 (k0_off41_eq k 0) B5 hT r n)) (tap_term B15 hD k2 (k0_off34_eq k 0) B5 hT r n)) (tap_term B15 hD k2 (k0_off35_eq k 0) B5 hT r n)) (tap_term B15 hD k2 (k0_off36_eq k 0) B5 hT r n)) (tap_term B15 hD k2 (k0_off37_eq k 0) B5 hT r n)) (tap_term B15 hD k2 (k0_off38_eq k 0) B5 hT r n)) (tap_term B15 hD k2 (k0_off39_eq k 0) B5 hT r n)) (tap_term B15 hD k2 (k0_off40_eq k 0) B5 hT r n))
    (sgm_num (read_tile B18 hU (k0_off42_eq k2 k) r n (by omega) (by omega)))
  pointwise [tap3.sl.r, tap3.sl.r_1, tap3.sl.r_2, tap3.sl.r_3, tap3.sl.r_4, tap3.sl.r_5, tap3.sl.r_6, tap3.sl.r_7, tap3.sl.r_8, tap3.sl.r_9, tap3.sl.r_10, tap3.sl.r_11, tap3.sl.r_12, tap3.sl.r_13, tap3.sl.r_14, k0_pay890, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  refine (add_num (add_num (add_num (add_num (add_num ?_ (tap_term B15 hD k2 (k0_off37_eq k 3) B5 hT r n)) (tap_term B15 hD k2 (k0_off38_eq k 3) B5 hT r n)) (tap_term B15 hD k2 (k0_off39_eq k 3) B5 hT r n)) (tap_term B15 hD k2 (k0_off40_eq k 3) B5 hT r n)) (tap_term B15 hD k2 (k0_off41_eq k 2) B5 hT r n))
  try pointwise [tap3.sl.r, tap3.sl.r_1, tap3.sl.r_2, tap3.sl.r_3, tap3.sl.r_4, tap3.sl.r_5, tap3.sl.r_6, tap3.sl.r_7, tap3.sl.r_8, tap3.sl.r_9, tap3.sl.r_10, tap3.sl.r_11, tap3.sl.r_12, tap3.sl.r_13, tap3.sl.r_14, k0_pay890, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  exact (add_num (add_num (tap_term B15 hD k2 (k0_off34_eq k 3) B5 hT r n) (tap_term B15 hD k2 (k0_off35_eq k 3) B5 hT r n)) (tap_term B15 hD k2 (k0_off36_eq k 3) B5 hT r n))

set_option maxHeartbeats 4000000 in
/-- What the loop over lanes 384 to 511 stores of the gradient at the gate. -/
theorem tap3_1_real (𝒱 : Variants) (c : Dev nD) (bd : Option 𝒱.V) (k2 : Fin k0_t2_loop.trips)
    (k : Fin k0_t6_loop.trips) (r n : Fin 128) : ((tap3 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B15.unread (shifted (rows288 D k2))) (B17.unread A) (B18.unread U) 𝒱 c bd k2 k).2.1 (ix2 r n) : EReal)
      = ((gatedGrad Dr W (256 * k2.val + 128 * k.val + r.val) (128 * 3 + n.val) * Ar (256 * k2.val + 128 * k.val + r.val) (128 * 3 + n.val) * sgm (Ur (256 * k2.val + 128 * k.val + r.val) (128 * 3 + n.val)) * (1 - sgm (Ur (256 * k2.val + 128 * k.val + r.val) (128 * 3 + n.val))) : ℝ) : EReal) := by
  have hk : k.val < 2 := Nat.lt_of_lt_of_eq k.isLt trips6
  unfold tap3
  dsimp only
  pointwise [tap3.sl.r, tap3.sl.r_1, tap3.sl.r_2, tap3.sl.r_3, tap3.sl.r_4, tap3.sl.r_5, tap3.sl.r_6, tap3.sl.r_7, tap3.sl.r_8, tap3.sl.r_9, tap3.sl.r_10, tap3.sl.r_11, tap3.sl.r_12, tap3.sl.r_13, tap3.sl.r_14, k0_pay890, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  rw [gatedGrad_eq]
  refine mul_num (mul_num (mul_num (add_num (add_num (add_num (add_num (add_num (add_num (add_num (add_num (add_num (add_num (add_num (add_num (add_num (add_num (add_num (add_num (add_num (add_num (add_num (add_num (add_num (add_num (add_num ?_ (tap_term B15 hD k2 (k0_off34_eq k 2) B5 hT r n)) (tap_term B15 hD k2 (k0_off35_eq k 2) B5 hT r n)) (tap_term B15 hD k2 (k0_off36_eq k 2) B5 hT r n)) (tap_term B15 hD k2 (k0_off37_eq k 2) B5 hT r n)) (tap_term B15 hD k2 (k0_off38_eq k 2) B5 hT r n)) (tap_term B15 hD k2 (k0_off39_eq k 2) B5 hT r n)) (tap_term B15 hD k2 (k0_off40_eq k 2) B5 hT r n)) (tap_term B15 hD k2 (k0_off41_eq k 1) B5 hT r n)) (tap_term B15 hD k2 (k0_off34_eq k 1) B5 hT r n)) (tap_term B15 hD k2 (k0_off35_eq k 1) B5 hT r n)) (tap_term B15 hD k2 (k0_off36_eq k 1) B5 hT r n)) (tap_term B15 hD k2 (k0_off37_eq k 1) B5 hT r n)) (tap_term B15 hD k2 (k0_off38_eq k 1) B5 hT r n)) (tap_term B15 hD k2 (k0_off39_eq k 1) B5 hT r n)) (tap_term B15 hD k2 (k0_off40_eq k 1) B5 hT r n)) (tap_term B15 hD k2 (k0_off41_eq k 0) B5 hT r n)) (tap_term B15 hD k2 (k0_off34_eq k 0) B5 hT r n)) (tap_term B15 hD k2 (k0_off35_eq k 0) B5 hT r n)) (tap_term B15 hD k2 (k0_off36_eq k 0) B5 hT r n)) (tap_term B15 hD k2 (k0_off37_eq k 0) B5 hT r n)) (tap_term B15 hD k2 (k0_off38_eq k 0) B5 hT r n)) (tap_term B15 hD k2 (k0_off39_eq k 0) B5 hT r n)) (tap_term B15 hD k2 (k0_off40_eq k 0) B5 hT r n))
    (read_tile B17 hA (k0_off42_eq k2 k) r n (by omega) (by omega)))
    (sgm_num (read_tile B18 hU (k0_off42_eq k2 k) r n (by omega) (by omega))))
    (one_sub_num (sgm_num (read_tile B18 hU (k0_off42_eq k2 k) r n (by omega) (by omega))))
  pointwise [tap3.sl.r, tap3.sl.r_1, tap3.sl.r_2, tap3.sl.r_3, tap3.sl.r_4, tap3.sl.r_5, tap3.sl.r_6, tap3.sl.r_7, tap3.sl.r_8, tap3.sl.r_9, tap3.sl.r_10, tap3.sl.r_11, tap3.sl.r_12, tap3.sl.r_13, tap3.sl.r_14, k0_pay890, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  refine (add_num (add_num (add_num (add_num (add_num ?_ (tap_term B15 hD k2 (k0_off37_eq k 3) B5 hT r n)) (tap_term B15 hD k2 (k0_off38_eq k 3) B5 hT r n)) (tap_term B15 hD k2 (k0_off39_eq k 3) B5 hT r n)) (tap_term B15 hD k2 (k0_off40_eq k 3) B5 hT r n)) (tap_term B15 hD k2 (k0_off41_eq k 2) B5 hT r n))
  try pointwise [tap3.sl.r, tap3.sl.r_1, tap3.sl.r_2, tap3.sl.r_3, tap3.sl.r_4, tap3.sl.r_5, tap3.sl.r_6, tap3.sl.r_7, tap3.sl.r_8, tap3.sl.r_9, tap3.sl.r_10, tap3.sl.r_11, tap3.sl.r_12, tap3.sl.r_13, tap3.sl.r_14, k0_pay890, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  exact (add_num (add_num (tap_term B15 hD k2 (k0_off34_eq k 3) B5 hT r n) (tap_term B15 hD k2 (k0_off35_eq k 3) B5 hT r n)) (tap_term B15 hD k2 (k0_off36_eq k 3) B5 hT r n))

end

end Cert.Proof.Conv

end
-- ==== Proof.ConvGrads.lean ====
/-
  The gradients at the two halves of the gated input, entry by entry, over numbers.
-/
module

public import proofs.«01_k».proof.Proof.ConvTapReal

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)
variable (A U : Vec Ideal S2048x512 .f32) (D : Vec Ideal S2080x512 .f32) (T : Vec Ideal S4x32x128 .f32) (Ar Ur Dr W : ℕ → ℕ → ℝ)
  (hA : ∀ (p : Fin 2048) (n : Fin 512), (A (ix2 p n) : EReal) = ((Ar p.val n.val : ℝ) : EReal))
  (hU : ∀ (p : Fin 2048) (n : Fin 512), (U (ix2 p n) : EReal) = ((Ur p.val n.val : ℝ) : EReal))
  (hD : ∀ (q : Fin 2080) (n : Fin 512), (D (ix2 q n) : EReal) = ((Dr q.val n.val : ℝ) : EReal))
  (hT : ∀ (cc : Fin 4) (j : Fin 32) (l : Fin 128), j.val < 31 → (T (ix3 cc j l) : EReal) = ((W j.val (128 * cc.val + l.val) : ℝ) : EReal))
include hA hU hD hT

/-- The gradient at the first factor, at an entry. -/
theorem uaGrad_real (𝒱 : Variants) (c : Dev nD) (bd : Option 𝒱.V) (p : Fin 2048) (n : Fin 512) :
    (uaGrad A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B17.unread A) (B18.unread U) D 𝒱 c bd (ix2 p n) : EReal)
      = ((gatedGrad Dr W p.val n.val * sgm (Ur p.val n.val) : ℝ) : EReal) := by
  unfold uaGrad joinStrips
  have hp : p.val / 256 < k0_t2_loop.trips := by rw [trips2]; omega
  by_cases h0 : n.val < 128
  · rw [if_pos (show ((ix2 p n : S2048x512.Idx) 1).val < 128 from h0)]
    have hk : p.val % 256 / 128 < k0_t3_loop.trips := by rw [trips3]; omega
    rw [pickStrip_at trips3 _ ⟨p.val / 256, hp⟩ ⟨p.val % 256 / 128, hk⟩ (ix2 (⟨p.val % 128, by omega⟩ : Fin 128) (⟨n.val - 0, by omega⟩ : Fin 128)) 0 (ix2 p n)
      (by show p.val = 256 * (p.val / 256) + 128 * (p.val % 256 / 128) + p.val % 128; omega) (by show n.val = 128 * 0 + (n.val - 0); omega)]
    refine (tap0_0_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      A U D T Ar Ur Dr W hA hU hD hT 𝒱 c bd _ _ _ _).trans ?_
    rw [show 256 * (⟨p.val / 256, hp⟩ : Fin k0_t2_loop.trips).val + 128 * (⟨p.val % 256 / 128, hk⟩ : Fin k0_t3_loop.trips).val + (⟨p.val % 128, by omega⟩ : Fin 128).val = p.val from (by show 256 * (p.val / 256) + 128 * (p.val % 256 / 128) + p.val % 128 = p.val; omega),
      show 128 * 0 + (⟨n.val - 0, by omega⟩ : Fin 128).val = n.val from (by show 128 * 0 + (n.val - 0) = n.val; omega)]
  rw [if_neg (show ¬ ((ix2 p n : S2048x512.Idx) 1).val < 128 from h0)]
  by_cases h1 : n.val < 256
  · rw [if_pos (show ((ix2 p n : S2048x512.Idx) 1).val < 256 from h1)]
    have hk : p.val % 256 / 128 < k0_t4_loop.trips := by rw [trips4]; omega
    rw [pickStrip_at trips4 _ ⟨p.val / 256, hp⟩ ⟨p.val % 256 / 128, hk⟩ (ix2 (⟨p.val % 128, by omega⟩ : Fin 128) (⟨n.val - 128, by omega⟩ : Fin 128)) 1 (ix2 p n)
      (by show p.val = 256 * (p.val / 256) + 128 * (p.val % 256 / 128) + p.val % 128; omega) (by show n.val = 128 * 1 + (n.val - 128); omega)]
    refine (tap1_0_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      A U D T Ar Ur Dr W hA hU hD hT 𝒱 c bd _ _ _ _).trans ?_
    rw [show 256 * (⟨p.val / 256, hp⟩ : Fin k0_t2_loop.trips).val + 128 * (⟨p.val % 256 / 128, hk⟩ : Fin k0_t4_loop.trips).val + (⟨p.val % 128, by omega⟩ : Fin 128).val = p.val from (by show 256 * (p.val / 256) + 128 * (p.val % 256 / 128) + p.val % 128 = p.val; omega),
      show 128 * 1 + (⟨n.val - 128, by omega⟩ : Fin 128).val = n.val from (by show 128 * 1 + (n.val - 128) = n.val; omega)]
  rw [if_neg (show ¬ ((ix2 p n : S2048x512.Idx) 1).val < 256 from h1)]
  by_cases h2 : n.val < 384
  · rw [if_pos (show ((ix2 p n : S2048x512.Idx) 1).val < 384 from h2)]
    have hk : p.val % 256 / 128 < k0_t5_loop.trips := by rw [trips5]; omega
    rw [pickStrip_at trips5 _ ⟨p.val / 256, hp⟩ ⟨p.val % 256 / 128, hk⟩ (ix2 (⟨p.val % 128, by omega⟩ : Fin 128) (⟨n.val - 256, by omega⟩ : Fin 128)) 2 (ix2 p n)
      (by show p.val = 256 * (p.val / 256) + 128 * (p.val % 256 / 128) + p.val % 128; omega) (by show n.val = 128 * 2 + (n.val - 256); omega)]
    refine (tap2_0_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      A U D T Ar Ur Dr W hA hU hD hT 𝒱 c bd _ _ _ _).trans ?_
    rw [show 256 * (⟨p.val / 256, hp⟩ : Fin k0_t2_loop.trips).val + 128 * (⟨p.val % 256 / 128, hk⟩ : Fin k0_t5_loop.trips).val + (⟨p.val % 128, by omega⟩ : Fin 128).val = p.val from (by show 256 * (p.val / 256) + 128 * (p.val % 256 / 128) + p.val % 128 = p.val; omega),
      show 128 * 2 + (⟨n.val - 256, by omega⟩ : Fin 128).val = n.val from (by show 128 * 2 + (n.val - 256) = n.val; omega)]
  rw [if_neg (show ¬ ((ix2 p n : S2048x512.Idx) 1).val < 384 from h2)]
  have hk : p.val % 256 / 128 < k0_t6_loop.trips := by rw [trips6]; omega
  rw [pickStrip_at trips6 _ ⟨p.val / 256, hp⟩ ⟨p.val % 256 / 128, hk⟩ (ix2 (⟨p.val % 128, by omega⟩ : Fin 128) (⟨n.val - 384, by omega⟩ : Fin 128)) 3 (ix2 p n)
    (by show p.val = 256 * (p.val / 256) + 128 * (p.val % 256 / 128) + p.val % 128; omega) (by show n.val = 128 * 3 + (n.val - 384); omega)]
  refine (tap3_0_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
    A U D T Ar Ur Dr W hA hU hD hT 𝒱 c bd _ _ _ _).trans ?_
  rw [show 256 * (⟨p.val / 256, hp⟩ : Fin k0_t2_loop.trips).val + 128 * (⟨p.val % 256 / 128, hk⟩ : Fin k0_t6_loop.trips).val + (⟨p.val % 128, by omega⟩ : Fin 128).val = p.val from (by show 256 * (p.val / 256) + 128 * (p.val % 256 / 128) + p.val % 128 = p.val; omega),
    show 128 * 3 + (⟨n.val - 384, by omega⟩ : Fin 128).val = n.val from (by show 128 * 3 + (n.val - 384) = n.val; omega)]

/-- The gradient at the gate, at an entry. -/
theorem ugGrad_real (𝒱 : Variants) (c : Dev nD) (bd : Option 𝒱.V) (p : Fin 2048) (n : Fin 512) :
    (ugGrad A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B5.unread T) (B17.unread A) (B18.unread U) D 𝒱 c bd (ix2 p n) : EReal)
      = ((gatedGrad Dr W p.val n.val * Ar p.val n.val * sgm (Ur p.val n.val) * (1 - sgm (Ur p.val n.val)) : ℝ) : EReal) := by
  unfold ugGrad joinStrips
  have hp : p.val / 256 < k0_t2_loop.trips := by rw [trips2]; omega
  by_cases h0 : n.val < 128
  · rw [if_pos (show ((ix2 p n : S2048x512.Idx) 1).val < 128 from h0)]
    have hk : p.val % 256 / 128 < k0_t3_loop.trips := by rw [trips3]; omega
    rw [pickStrip_at trips3 _ ⟨p.val / 256, hp⟩ ⟨p.val % 256 / 128, hk⟩ (ix2 (⟨p.val % 128, by omega⟩ : Fin 128) (⟨n.val - 0, by omega⟩ : Fin 128)) 0 (ix2 p n)
      (by show p.val = 256 * (p.val / 256) + 128 * (p.val % 256 / 128) + p.val % 128; omega) (by show n.val = 128 * 0 + (n.val - 0); omega)]
    refine (tap0_1_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      A U D T Ar Ur Dr W hA hU hD hT 𝒱 c bd _ _ _ _).trans ?_
    rw [show 256 * (⟨p.val / 256, hp⟩ : Fin k0_t2_loop.trips).val + 128 * (⟨p.val % 256 / 128, hk⟩ : Fin k0_t3_loop.trips).val + (⟨p.val % 128, by omega⟩ : Fin 128).val = p.val from (by show 256 * (p.val / 256) + 128 * (p.val % 256 / 128) + p.val % 128 = p.val; omega),
      show 128 * 0 + (⟨n.val - 0, by omega⟩ : Fin 128).val = n.val from (by show 128 * 0 + (n.val - 0) = n.val; omega)]
  rw [if_neg (show ¬ ((ix2 p n : S2048x512.Idx) 1).val < 128 from h0)]
  by_cases h1 : n.val < 256
  · rw [if_pos (show ((ix2 p n : S2048x512.Idx) 1).val < 256 from h1)]
    have hk : p.val % 256 / 128 < k0_t4_loop.trips := by rw [trips4]; omega
    rw [pickStrip_at trips4 _ ⟨p.val / 256, hp⟩ ⟨p.val % 256 / 128, hk⟩ (ix2 (⟨p.val % 128, by omega⟩ : Fin 128) (⟨n.val - 128, by omega⟩ : Fin 128)) 1 (ix2 p n)
      (by show p.val = 256 * (p.val / 256) + 128 * (p.val % 256 / 128) + p.val % 128; omega) (by show n.val = 128 * 1 + (n.val - 128); omega)]
    refine (tap1_1_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      A U D T Ar Ur Dr W hA hU hD hT 𝒱 c bd _ _ _ _).trans ?_
    rw [show 256 * (⟨p.val / 256, hp⟩ : Fin k0_t2_loop.trips).val + 128 * (⟨p.val % 256 / 128, hk⟩ : Fin k0_t4_loop.trips).val + (⟨p.val % 128, by omega⟩ : Fin 128).val = p.val from (by show 256 * (p.val / 256) + 128 * (p.val % 256 / 128) + p.val % 128 = p.val; omega),
      show 128 * 1 + (⟨n.val - 128, by omega⟩ : Fin 128).val = n.val from (by show 128 * 1 + (n.val - 128) = n.val; omega)]
  rw [if_neg (show ¬ ((ix2 p n : S2048x512.Idx) 1).val < 256 from h1)]
  by_cases h2 : n.val < 384
  · rw [if_pos (show ((ix2 p n : S2048x512.Idx) 1).val < 384 from h2)]
    have hk : p.val % 256 / 128 < k0_t5_loop.trips := by rw [trips5]; omega
    rw [pickStrip_at trips5 _ ⟨p.val / 256, hp⟩ ⟨p.val % 256 / 128, hk⟩ (ix2 (⟨p.val % 128, by omega⟩ : Fin 128) (⟨n.val - 256, by omega⟩ : Fin 128)) 2 (ix2 p n)
      (by show p.val = 256 * (p.val / 256) + 128 * (p.val % 256 / 128) + p.val % 128; omega) (by show n.val = 128 * 2 + (n.val - 256); omega)]
    refine (tap2_1_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      A U D T Ar Ur Dr W hA hU hD hT 𝒱 c bd _ _ _ _).trans ?_
    rw [show 256 * (⟨p.val / 256, hp⟩ : Fin k0_t2_loop.trips).val + 128 * (⟨p.val % 256 / 128, hk⟩ : Fin k0_t5_loop.trips).val + (⟨p.val % 128, by omega⟩ : Fin 128).val = p.val from (by show 256 * (p.val / 256) + 128 * (p.val % 256 / 128) + p.val % 128 = p.val; omega),
      show 128 * 2 + (⟨n.val - 256, by omega⟩ : Fin 128).val = n.val from (by show 128 * 2 + (n.val - 256) = n.val; omega)]
  rw [if_neg (show ¬ ((ix2 p n : S2048x512.Idx) 1).val < 384 from h2)]
  have hk : p.val % 256 / 128 < k0_t6_loop.trips := by rw [trips6]; omega
  rw [pickStrip_at trips6 _ ⟨p.val / 256, hp⟩ ⟨p.val % 256 / 128, hk⟩ (ix2 (⟨p.val % 128, by omega⟩ : Fin 128) (⟨n.val - 384, by omega⟩ : Fin 128)) 3 (ix2 p n)
    (by show p.val = 256 * (p.val / 256) + 128 * (p.val % 256 / 128) + p.val % 128; omega) (by show n.val = 128 * 3 + (n.val - 384); omega)]
  refine (tap3_1_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
    A U D T Ar Ur Dr W hA hU hD hT 𝒱 c bd _ _ _ _).trans ?_
  rw [show 256 * (⟨p.val / 256, hp⟩ : Fin k0_t2_loop.trips).val + 128 * (⟨p.val % 256 / 128, hk⟩ : Fin k0_t6_loop.trips).val + (⟨p.val % 128, by omega⟩ : Fin 128).val = p.val from (by show 256 * (p.val / 256) + 128 * (p.val % 256 / 128) + p.val % 128 = p.val; omega),
    show 128 * 3 + (⟨n.val - 384, by omega⟩ : Fin 128).val = n.val from (by show 128 * 3 + (n.val - 384) = n.val; omega)]

end

end Cert.Proof.Conv

end
-- ==== Proof.ConvTapsIn.lean ====
/-
  The taps as the lines before the call lay them out: by strips of 128 lanes, with a row of zeros at the end.
-/
module

public import proofs.«01_k».proof.Proof.Gen.KernelIdeal.Frame
public import Idealize.ShloMosaic.Lib.StableHlo.RunRead
public import Idealize.ShloMosaic.Lib.StableHlo.ReadAt
public import Idealize.ShloMosaic.Lib.KernelVsHost

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A row of zeros below, then the strips apart, then strips first. -/
theorem strips_at (X : Vec Ideal S31x512 .f32) (z : Vec Ideal S_ .f32) (cc : Fin 4) (j : Fin 32) (l : Fin 128) (hj : j.val < 31) :
    transpose S4x32x128 [1, 0, 2] (shapeCast S32x4x128 (pad S32x512 ![0, 0] ![1, 0] ![0, 0] X z pads_S31x512_S32x512_010_000 h_S_)
      shapeCasts_S32x512_S32x4x128) transposes_S32x4x128_S4x32x128_1_0_2 (ix3 cc j l)
      = X (ix2 (⟨j.val, hj⟩ : Fin 31) (⟨128 * cc.val + l.val, by omega⟩ : Fin 512)) := by
  pointwise []
  rw [dif_pos ⟨hj, by omega⟩]
  exact congrArg X (congrArg (ix2 _) (Fin.ext (by show cc.val * 128 + l.val = 128 * cc.val + l.val; omega)))

variable (m : (ℓ : Loc nD τ sig) → Buf (Elt Ideal) ℓ)

set_option maxHeartbeats 4000000 in
/-- Lane `l` of strip `cc` of tap `j`. -/
theorem taps_at (c : Dev nD) (cc : Fin 4) (j : Fin 32) (l : Fin 128) (hj : j.val < 31) :
    ((V m c main_v2 : Vec Ideal S4x32x128 .f32) (ix3 cc j l) : EReal)
      = (m ((c : Thread nD τ).loc main_arg3) : Vec Ideal S31x512 .f32) (ix2 (⟨j.val, hj⟩ : Fin 31) (⟨128 * cc.val + l.val, by omega⟩ : Fin 512)) := by
  unfold V
  after_reads_simp
  exact strips_at _ _ cc j l hj

end Cert.Proof.Conv

end
-- ==== Proof.ConvGradReal.lean ====
/-
  What a trip of the loops over the taps' sums adds, over numbers: to row `8 j + r` of a strip, the products of the tile's
  rows `r`, `8 + r`, …, `120 + r` with the gated input's rows shifted by the tap.
-/
module

public import proofs.«01_k».proof.Proof.ConvTapReal

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The sixteen products of a tile that one row of a tap's sums takes. -/
def tileSum (Dr Zr : ℕ → ℕ → ℝ) (p j n : ℕ) : ℝ := ∑ t ∈ Finset.range 16, Dr (p + 8 * t) n * Zr (p + 8 * t + j + 2) n

/-- The sums after a tile of strip `c` whose first row is `o`. -/
def addTile (S Dr Zr : ℕ → ℕ → ℝ) (o c q n : ℕ) : ℝ :=
  if n / 128 = c ∧ q < 248 then S q n + tileSum Dr Zr (o + q % 8) (q / 8) n else S q n

/-- After a list of stores that all agree with `G`, and with `G` what the rest holds, the contents are `G`. -/
theorem read_writes_all {κ : Kind} {sp : Space} {s : Shape} {e : EltTy} (v : View sig κ sp s e) (f : BufTy.Contents (Elt Ideal) v.ty)
    (G : s.Idx → Elt Ideal e) (i : s.Idx) : ∀ L : List (View.Piece (Elt Ideal) s e), (∀ p ∈ L, ∀ x, p.2 x = G (p.1.emb x)) →
      ((∀ p ∈ L, i ∉ p.1.set) → v.read (Elt Ideal) f i = G i) → v.read (Elt Ideal) (v.writes (Elt Ideal) f L) i = G i
  | [], _, h => h (fun p hp => absurd hp (by simp))
  | p :: L, hL, h => by
    show v.read (Elt Ideal) ((v.slice p.1).write (Elt Ideal) (v.writes (Elt Ideal) f L) p.2 Finset.univ) i = G i
    by_cases hi : i ∈ p.1.set
    · rw [← Rect.map_emb_univ, Finset.mem_map] at hi
      obtain ⟨x, -, rfl⟩ := hi
      rw [View.read_slice_write_emb (v := v) (Val := Elt Ideal) _ _ _ (Finset.mem_univ x), (List.forall_mem_cons.mp hL).1 x]
    · rw [View.read_slice_write_of_not_mem (v := v) (Val := Elt Ideal) _ _ _ _ (by rw [Rect.map_emb_univ]; exact hi)]
      exact read_writes_all v f G i L (List.forall_mem_cons.mp hL).2 (fun h' => h (List.forall_mem_cons.mpr ⟨hi, h'⟩))

/-- An entry of the strip outside a tap's eight rows, and not above them, is below them. -/
theorem past {j c : ℕ} {inb : ∀ a, (![8 * j, 128 * c] : Fin 2 → ℕ) a + (![8, 128] : Fin 2 → ℕ) a ≤ S256x512.size a} {i : S256x512.Idx}
    (h : i ∉ (Rect.unit (s := S256x512) ![8 * j, 128 * c] ![8, 128] inb).set) (hn : (i 1).val / 128 = c) (hq : 8 * j ≤ (i 0).val) :
    8 * (j + 1) ≤ (i 0).val := by
  by_contra hc
  apply h
  rw [Rect.mem_set_unit, Fin.forall_fin_two]
  exact ⟨⟨hq, show (i 0).val < 8 * j + 8 by omega⟩, ⟨show 128 * c ≤ (i 1).val by omega, show (i 1).val < 128 * c + 128 by omega⟩⟩

theorem pay85_real (d : Vec Ideal S128x128 .f32) (z : Vec Ideal S1x1x128x128 .f32) (a : Vec Ideal S8x128 .f32) (Dt Zt : ℕ → ℝ) (s : ℝ)
    (r : Fin 8) (l : Fin 128) (hd : ∀ t (ht : t < 16), (d (ix2 (⟨8 * t + r.val, by omega⟩ : Fin 128) l) : EReal) = ((Dt t : ℝ) : EReal))
    (hz : ∀ t (ht : t < 16), (z (ix4 (0 : Fin 1) (0 : Fin 1) (⟨8 * t + r.val, by omega⟩ : Fin 128) l) : EReal) = ((Zt t : ℝ) : EReal))
    (ha : (a (ix2 r l) : EReal) = ((s : ℝ) : EReal)) :
    (k0_pay85 (F := Ideal) d z a (ix2 r l) : EReal) = ((s + ∑ t ∈ Finset.range 16, Dt t * Zt t : ℝ) : EReal) := by
  have er : (⟨r.val, by omega⟩ : Fin 128) = ⟨8 * 0 + r.val, by omega⟩ := Fin.ext (by show r.val = 8 * 0 + r.val; omega)
  have hd0 : (d (ix2 (⟨r.val, by omega⟩ : Fin 128) l) : EReal) = ((Dt 0 : ℝ) : EReal) := by rw [er]; exact hd 0 (by omega)
  have hz0 : (z (ix4 (0 : Fin 1) (0 : Fin 1) (⟨r.val, by omega⟩ : Fin 128) l) : EReal) = ((Zt 0 : ℝ) : EReal) := by rw [er]; exact hz 0 (by omega)
  pointwise [k0_pay85]
  refine (add_num ha (add_num (add_num (add_num (add_num (mul_num hd0 hz0) (mul_num (hd 1 (by omega)) (hz 1 (by omega)))) (add_num (mul_num (hd 2 (by omega)) (hz 2 (by omega))) (mul_num (hd 3 (by omega)) (hz 3 (by omega))))) (add_num (add_num (mul_num (hd 4 (by omega)) (hz 4 (by omega))) (mul_num (hd 5 (by omega)) (hz 5 (by omega)))) (add_num (mul_num (hd 6 (by omega)) (hz 6 (by omega))) (mul_num (hd 7 (by omega)) (hz 7 (by omega)))))) (add_num (add_num (add_num (mul_num (hd 8 (by omega)) (hz 8 (by omega))) (mul_num (hd 9 (by omega)) (hz 9 (by omega)))) (add_num (mul_num (hd 10 (by omega)) (hz 10 (by omega))) (mul_num (hd 11 (by omega)) (hz 11 (by omega))))) (add_num (add_num (mul_num (hd 12 (by omega)) (hz 12 (by omega))) (mul_num (hd 13 (by omega)) (hz 13 (by omega)))) (add_num (mul_num (hd 14 (by omega)) (hz 14 (by omega))) (mul_num (hd 15 (by omega)) (hz 15 (by omega)))))))).trans (congrArg Real.toEReal ?_)
  simp only [Finset.sum_range_succ, Finset.sum_range_zero]
  ring

/-- One tile's part of one tap's sums. -/
theorem tile_piece {A14 : Memref sig .tc .vmem S2080x512 .f32} (h14 : A14.IsWhole) {D : Vec Ideal S2080x512 .f32} {Dr : ℕ → ℕ → ℝ}
    (hD : ∀ (q : Fin 2080) (n : Fin 512), (D (ix2 q n) : EReal) = ((Dr q.val n.val : ℝ) : EReal))
    {A15 : Memref sig .tc .vmem S8x4x288x128 .f32} (h15 : A15.IsWhole) {Z : Vec Ideal S2080x512 .f32} {Zr : ℕ → ℕ → ℝ}
    (hZ : ∀ (q : Fin 2080) (n : Fin 512), (Z (ix2 q n) : EReal) = ((Zr q.val n.val : ℝ) : EReal)) (k2 : Fin k0_t2_loop.trips)
    (A16 : Memref sig .tc .vmem S256x512 .f32) (f : BufTy.Contents (Elt Ideal) A16.view.ty) {S : ℕ → ℕ → ℝ}
    (hS : ∀ (q : Fin 256) (n : Fin 512), (A16.view.read (Elt Ideal) f (ix2 q n) : EReal) = ((S q.val n.val : ℝ) : EReal)) {kk c j : ℕ}
    {offd : Fin 2 → ℕ} (hoffd : offd = ![256 * k2.val + 128 * kk, 128 * c]) {inbd : ∀ i, offd i + (![128, 128] : Fin 2 → ℕ) i ≤ S2080x512.size i}
    {off : Fin 4 → ℕ} {a o : ℕ} (hoff : off = ![a, c, o, 0]) {inb : ∀ i, off i + (![1, 1, 128, 128] : Fin 4 → ℕ) i ≤ S8x4x288x128.size i}
    {inb' : ∀ a, (![8 * j, 128 * c] : Fin 2 → ℕ) a + (![8, 128] : Fin 2 → ℕ) a ≤ S256x512.size a}
    (hk : kk < 2) (hc : c < 4 := by omega) (hj : j < 31 := by omega) (ho : o + a = 128 * kk + j + 2 := by omega) (x : S8x128.Idx) :
    (k0_pay85 (F := Ideal)
        (View.readAt (Elt Ideal) A14.view (Rect.unit (s := S2080x512) offd ![128, 128] inbd).toLoadRect (h14.unread D))
        (View.readAt (Elt Ideal) A15.view (Rect.unit (s := S8x4x288x128) off ![1, 1, 128, 128] inb).toLoadRect (h15.unread (shifted (rows288 Z k2))))
        (View.readAt (Elt Ideal) A16.view (Rect.unit (s := S256x512) ![8 * j, 128 * c] ![8, 128] inb').toLoadRect f) x : EReal)
      = ((addTile S Dr Zr (256 * k2.val + 128 * kk) c ((Rect.unit (s := S256x512) ![8 * j, 128 * c] ![8, 128] inb').emb x 0).val
          ((Rect.unit (s := S256x512) ![8 * j, 128 * c] ![8, 128] inb').emb x 1).val : ℝ) : EReal) := by
  have hx0 : (x 0).val < 8 := (x 0).isLt
  have hx1 : (x 1).val < 128 := (x 1).isLt
  have h8 : k2.val < 8 := Nat.lt_of_lt_of_eq k2.isLt trips2
  have ex : x = ix2 (⟨(x 0).val, hx0⟩ : Fin 8) (⟨(x 1).val, hx1⟩ : Fin 128) := by
    funext a; match a with | ⟨0, _⟩ => rfl | ⟨1, _⟩ => rfl
  have e0 : ((Rect.unit (s := S256x512) ![8 * j, 128 * c] ![8, 128] inb').emb x 0).val = 8 * j + (x 0).val := by
    rw [Rect.emb_apply]; simp
  have e1 : ((Rect.unit (s := S256x512) ![8 * j, 128 * c] ![8, 128] inb').emb x 1).val = 128 * c + (x 1).val := by
    rw [Rect.emb_apply]; simp
  rw [e0, e1]
  unfold addTile
  rw [if_pos ⟨by omega, by omega⟩, show (8 * j + (x 0).val) % 8 = (x 0).val by omega, show (8 * j + (x 0).val) / 8 = j by omega]
  subst hoffd
  conv_lhs => rw [ex]
  refine pay85_real _ _ _ (fun t => Dr (256 * k2.val + 128 * kk + (x 0).val + 8 * t) (128 * c + (x 1).val))
    (fun t => Zr (256 * k2.val + 128 * kk + (x 0).val + 8 * t + j + 2) (128 * c + (x 1).val)) _ _ _ (fun t ht => ?_) (fun t ht => ?_) ?_
  · refine (h14.readAt_unread _ _ _).trans ?_
    refine Eq.trans ?_ ((hD ⟨256 * k2.val + 128 * kk + (x 0).val + 8 * t, by omega⟩ ⟨128 * c + (x 1).val, by omega⟩))
    congr 1
    funext a
    apply Fin.ext
    match a with
    | ⟨0, _⟩ => show (256 * k2.val + 128 * kk) + 1 * (8 * t + (x 0).val) = 256 * k2.val + 128 * kk + (x 0).val + 8 * t; omega
    | ⟨1, _⟩ => show 128 * c + 1 * (x 1).val = 128 * c + (x 1).val; omega
  · exact read_shifted h15 hZ k2 hoff (⟨8 * t + (x 0).val, by omega⟩ : Fin 128) (⟨(x 1).val, hx1⟩ : Fin 128) (by omega) hc
      (by show 256 * k2.val + (o + (8 * t + (x 0).val) + a) = _; omega) rfl
  · refine Eq.trans ?_ (hS ⟨8 * j + (x 0).val, by omega⟩ ⟨128 * c + (x 1).val, by omega⟩)
    rw [View.readAt_apply]
    show A16.view.read (Elt Ideal) f _ = A16.view.read (Elt Ideal) f _
    congr 1
    funext a
    apply Fin.ext
    match a with
    | ⟨0, _⟩ => show 8 * j + 1 * (x 0).val = 8 * j + (x 0).val; omega
    | ⟨1, _⟩ => show 128 * c + 1 * (x 1).val = 128 * c + (x 1).val; omega

section
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)

variable (D Z : Vec Ideal S2080x512 .f32) (Dr Zr S : ℕ → ℕ → ℝ)
  (hD : ∀ (q : Fin 2080) (n : Fin 512), (D (ix2 q n) : EReal) = ((Dr q.val n.val : ℝ) : EReal))
  (hZ : ∀ (q : Fin 2080) (n : Fin 512), (Z (ix2 q n) : EReal) = ((Zr q.val n.val : ℝ) : EReal))
  (f : BufTy.Contents (Elt Ideal) A16.view.ty)
  (hS : ∀ (q : Fin 256) (n : Fin 512), (A16.view.read (Elt Ideal) f (ix2 q n) : EReal) = ((S q.val n.val : ℝ) : EReal))
include hD hZ hS

set_option maxHeartbeats 4000000 in
/-- A trip of the loop over lanes 0 to 127. -/
theorem grad0_real (𝒱 : Variants) (c : Dev nD) (bd : Option 𝒱.V) (k2 : Fin k0_t2_loop.trips)
    (k : Fin k0_t7_loop.trips) (i : S256x512.Idx) : (A16.view.read (Elt Ideal) (A16.view.writes (Elt Ideal) f ((grad0 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 k).1 f)) i : EReal)
      = ((addTile S Dr Zr (256 * k2.val + 128 * k.val) 0 (i 0).val (i 1).val : ℝ) : EReal) := by
  have hk : k.val < 2 := Nat.lt_of_lt_of_le k.isLt k0_t7_abs.2.1
  have hkk := k0_off43_eq k2 k
  unfold grad0
  refine read_writes_all A16.view f (fun i => ((addTile S Dr Zr (256 * k2.val + 128 * k.val) 0 (i 0).val (i 1).val : ℝ) : EReal)) i _ ?_ ?_
  · refine all_cons (tile_piece (c := 0) (j := 30) B14 hD B15 hZ k2 A16 f hS hkk (k0_off50_eq k 3) hk) ?_
    refine all_cons (tile_piece (c := 0) (j := 29) B14 hD B15 hZ k2 A16 f hS hkk (k0_off49_eq k 3) hk) ?_
    refine all_cons (tile_piece (c := 0) (j := 28) B14 hD B15 hZ k2 A16 f hS hkk (k0_off48_eq k 3) hk) ?_
    refine all_cons (tile_piece (c := 0) (j := 27) B14 hD B15 hZ k2 A16 f hS hkk (k0_off47_eq k 3) hk) ?_
    refine all_cons (tile_piece (c := 0) (j := 26) B14 hD B15 hZ k2 A16 f hS hkk (k0_off46_eq k 3) hk) ?_
    refine all_cons (tile_piece (c := 0) (j := 25) B14 hD B15 hZ k2 A16 f hS hkk (k0_off45_eq k 3) hk) ?_
    refine all_cons (tile_piece (c := 0) (j := 24) B14 hD B15 hZ k2 A16 f hS hkk (k0_off44_eq k 3) hk) ?_
    refine all_cons (tile_piece (c := 0) (j := 23) B14 hD B15 hZ k2 A16 f hS hkk (k0_off51_eq k 2) hk) ?_
    refine all_cons (tile_piece (c := 0) (j := 22) B14 hD B15 hZ k2 A16 f hS hkk (k0_off50_eq k 2) hk) ?_
    refine all_cons (tile_piece (c := 0) (j := 21) B14 hD B15 hZ k2 A16 f hS hkk (k0_off49_eq k 2) hk) ?_
    refine all_cons (tile_piece (c := 0) (j := 20) B14 hD B15 hZ k2 A16 f hS hkk (k0_off48_eq k 2) hk) ?_
    refine all_cons (tile_piece (c := 0) (j := 19) B14 hD B15 hZ k2 A16 f hS hkk (k0_off47_eq k 2) hk) ?_
    refine all_cons (tile_piece (c := 0) (j := 18) B14 hD B15 hZ k2 A16 f hS hkk (k0_off46_eq k 2) hk) ?_
    refine all_cons (tile_piece (c := 0) (j := 17) B14 hD B15 hZ k2 A16 f hS hkk (k0_off45_eq k 2) hk) ?_
    refine all_cons (tile_piece (c := 0) (j := 16) B14 hD B15 hZ k2 A16 f hS hkk (k0_off44_eq k 2) hk) ?_
    refine all_cons (tile_piece (c := 0) (j := 15) B14 hD B15 hZ k2 A16 f hS hkk (k0_off51_eq k 1) hk) ?_
    refine all_cons (tile_piece (c := 0) (j := 14) B14 hD B15 hZ k2 A16 f hS hkk (k0_off50_eq k 1) hk) ?_
    refine all_cons (tile_piece (c := 0) (j := 13) B14 hD B15 hZ k2 A16 f hS hkk (k0_off49_eq k 1) hk) ?_
    refine all_cons (tile_piece (c := 0) (j := 12) B14 hD B15 hZ k2 A16 f hS hkk (k0_off48_eq k 1) hk) ?_
    refine all_cons (tile_piece (c := 0) (j := 11) B14 hD B15 hZ k2 A16 f hS hkk (k0_off47_eq k 1) hk) ?_
    refine all_cons (tile_piece (c := 0) (j := 10) B14 hD B15 hZ k2 A16 f hS hkk (k0_off46_eq k 1) hk) ?_
    refine all_cons (tile_piece (c := 0) (j := 9) B14 hD B15 hZ k2 A16 f hS hkk (k0_off45_eq k 1) hk) ?_
    refine all_cons (tile_piece (c := 0) (j := 8) B14 hD B15 hZ k2 A16 f hS hkk (k0_off44_eq k 1) hk) ?_
    refine all_cons (tile_piece (c := 0) (j := 7) B14 hD B15 hZ k2 A16 f hS hkk (k0_off51_eq k 0) hk) ?_
    refine all_cons (tile_piece (c := 0) (j := 6) B14 hD B15 hZ k2 A16 f hS hkk (k0_off50_eq k 0) hk) ?_
    refine all_cons (tile_piece (c := 0) (j := 5) B14 hD B15 hZ k2 A16 f hS hkk (k0_off49_eq k 0) hk) ?_
    refine all_cons (tile_piece (c := 0) (j := 4) B14 hD B15 hZ k2 A16 f hS hkk (k0_off48_eq k 0) hk) ?_
    refine all_cons (tile_piece (c := 0) (j := 3) B14 hD B15 hZ k2 A16 f hS hkk (k0_off47_eq k 0) hk) ?_
    refine all_cons (tile_piece (c := 0) (j := 2) B14 hD B15 hZ k2 A16 f hS hkk (k0_off46_eq k 0) hk) ?_
    refine all_cons (tile_piece (c := 0) (j := 1) B14 hD B15 hZ k2 A16 f hS hkk (k0_off45_eq k 0) hk) ?_
    refine all_cons (tile_piece (c := 0) (j := 0) B14 hD B15 hZ k2 A16 f hS hkk (k0_off44_eq k 0) hk) ?_
    exact fun p hp => absurd hp (by simp)
  · intro h
    simp only [List.forall_mem_cons] at h
    obtain ⟨h30, h29, h28, h27, h26, h25, h24, h23, h22, h21, h20, h19, h18, h17, h16, h15, h14, h13, h12, h11, h10, h9, h8, h7, h6, h5, h4, h3, h2, h1, h0, -⟩ := h
    have e : ¬ ((i 1).val / 128 = 0 ∧ (i 0).val < 248) := by
      rintro ⟨hn, hq⟩
      have q0 : 8 * 0 ≤ (i 0).val := Nat.zero_le _
      have q1 := past (j := 0) (c := 0) h0 hn q0
      have q2 := past (j := 1) (c := 0) h1 hn q1
      have q3 := past (j := 2) (c := 0) h2 hn q2
      have q4 := past (j := 3) (c := 0) h3 hn q3
      have q5 := past (j := 4) (c := 0) h4 hn q4
      have q6 := past (j := 5) (c := 0) h5 hn q5
      have q7 := past (j := 6) (c := 0) h6 hn q6
      have q8 := past (j := 7) (c := 0) h7 hn q7
      have q9 := past (j := 8) (c := 0) h8 hn q8
      have q10 := past (j := 9) (c := 0) h9 hn q9
      have q11 := past (j := 10) (c := 0) h10 hn q10
      have q12 := past (j := 11) (c := 0) h11 hn q11
      have q13 := past (j := 12) (c := 0) h12 hn q12
      have q14 := past (j := 13) (c := 0) h13 hn q13
      have q15 := past (j := 14) (c := 0) h14 hn q14
      have q16 := past (j := 15) (c := 0) h15 hn q15
      have q17 := past (j := 16) (c := 0) h16 hn q16
      have q18 := past (j := 17) (c := 0) h17 hn q17
      have q19 := past (j := 18) (c := 0) h18 hn q18
      have q20 := past (j := 19) (c := 0) h19 hn q19
      have q21 := past (j := 20) (c := 0) h20 hn q20
      have q22 := past (j := 21) (c := 0) h21 hn q21
      have q23 := past (j := 22) (c := 0) h22 hn q22
      have q24 := past (j := 23) (c := 0) h23 hn q23
      have q25 := past (j := 24) (c := 0) h24 hn q24
      have q26 := past (j := 25) (c := 0) h25 hn q25
      have q27 := past (j := 26) (c := 0) h26 hn q26
      have q28 := past (j := 27) (c := 0) h27 hn q27
      have q29 := past (j := 28) (c := 0) h28 hn q28
      have q30 := past (j := 29) (c := 0) h29 hn q29
      have q31 := past (j := 30) (c := 0) h30 hn q30
      omega
    show _ = ((addTile S Dr Zr _ 0 (i 0).val (i 1).val : ℝ) : EReal)
    unfold addTile
    rw [if_neg e]
    exact (congrArg (A16.view.read (Elt Ideal) f) (show i = ix2 (⟨(i 0).val, (i 0).isLt⟩ : Fin 256) (⟨(i 1).val, (i 1).isLt⟩ : Fin 512) from by
      funext a; match a with | ⟨0, _⟩ => rfl | ⟨1, _⟩ => rfl)).trans (hS _ _)

set_option maxHeartbeats 4000000 in
/-- A trip of the loop over lanes 128 to 255. -/
theorem grad1_real (𝒱 : Variants) (c : Dev nD) (bd : Option 𝒱.V) (k2 : Fin k0_t2_loop.trips)
    (k : Fin k0_t8_loop.trips) (i : S256x512.Idx) : (A16.view.read (Elt Ideal) (A16.view.writes (Elt Ideal) f ((grad1 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 k).1 f)) i : EReal)
      = ((addTile S Dr Zr (256 * k2.val + 128 * k.val) 1 (i 0).val (i 1).val : ℝ) : EReal) := by
  have hk : k.val < 2 := Nat.lt_of_lt_of_le k.isLt k0_t8_abs.2.1
  have hkk := k0_off52_eq k2 k
  unfold grad1
  refine read_writes_all A16.view f (fun i => ((addTile S Dr Zr (256 * k2.val + 128 * k.val) 1 (i 0).val (i 1).val : ℝ) : EReal)) i _ ?_ ?_
  · refine all_cons (tile_piece (c := 1) (j := 30) B14 hD B15 hZ k2 A16 f hS hkk (k0_off59_eq k 3) hk) ?_
    refine all_cons (tile_piece (c := 1) (j := 29) B14 hD B15 hZ k2 A16 f hS hkk (k0_off58_eq k 3) hk) ?_
    refine all_cons (tile_piece (c := 1) (j := 28) B14 hD B15 hZ k2 A16 f hS hkk (k0_off57_eq k 3) hk) ?_
    refine all_cons (tile_piece (c := 1) (j := 27) B14 hD B15 hZ k2 A16 f hS hkk (k0_off56_eq k 3) hk) ?_
    refine all_cons (tile_piece (c := 1) (j := 26) B14 hD B15 hZ k2 A16 f hS hkk (k0_off55_eq k 3) hk) ?_
    refine all_cons (tile_piece (c := 1) (j := 25) B14 hD B15 hZ k2 A16 f hS hkk (k0_off54_eq k 3) hk) ?_
    refine all_cons (tile_piece (c := 1) (j := 24) B14 hD B15 hZ k2 A16 f hS hkk (k0_off53_eq k 3) hk) ?_
    refine all_cons (tile_piece (c := 1) (j := 23) B14 hD B15 hZ k2 A16 f hS hkk (k0_off60_eq k 2) hk) ?_
    refine all_cons (tile_piece (c := 1) (j := 22) B14 hD B15 hZ k2 A16 f hS hkk (k0_off59_eq k 2) hk) ?_
    refine all_cons (tile_piece (c := 1) (j := 21) B14 hD B15 hZ k2 A16 f hS hkk (k0_off58_eq k 2) hk) ?_
    refine all_cons (tile_piece (c := 1) (j := 20) B14 hD B15 hZ k2 A16 f hS hkk (k0_off57_eq k 2) hk) ?_
    refine all_cons (tile_piece (c := 1) (j := 19) B14 hD B15 hZ k2 A16 f hS hkk (k0_off56_eq k 2) hk) ?_
    refine all_cons (tile_piece (c := 1) (j := 18) B14 hD B15 hZ k2 A16 f hS hkk (k0_off55_eq k 2) hk) ?_
    refine all_cons (tile_piece (c := 1) (j := 17) B14 hD B15 hZ k2 A16 f hS hkk (k0_off54_eq k 2) hk) ?_
    refine all_cons (tile_piece (c := 1) (j := 16) B14 hD B15 hZ k2 A16 f hS hkk (k0_off53_eq k 2) hk) ?_
    refine all_cons (tile_piece (c := 1) (j := 15) B14 hD B15 hZ k2 A16 f hS hkk (k0_off60_eq k 1) hk) ?_
    refine all_cons (tile_piece (c := 1) (j := 14) B14 hD B15 hZ k2 A16 f hS hkk (k0_off59_eq k 1) hk) ?_
    refine all_cons (tile_piece (c := 1) (j := 13) B14 hD B15 hZ k2 A16 f hS hkk (k0_off58_eq k 1) hk) ?_
    refine all_cons (tile_piece (c := 1) (j := 12) B14 hD B15 hZ k2 A16 f hS hkk (k0_off57_eq k 1) hk) ?_
    refine all_cons (tile_piece (c := 1) (j := 11) B14 hD B15 hZ k2 A16 f hS hkk (k0_off56_eq k 1) hk) ?_
    refine all_cons (tile_piece (c := 1) (j := 10) B14 hD B15 hZ k2 A16 f hS hkk (k0_off55_eq k 1) hk) ?_
    refine all_cons (tile_piece (c := 1) (j := 9) B14 hD B15 hZ k2 A16 f hS hkk (k0_off54_eq k 1) hk) ?_
    refine all_cons (tile_piece (c := 1) (j := 8) B14 hD B15 hZ k2 A16 f hS hkk (k0_off53_eq k 1) hk) ?_
    refine all_cons (tile_piece (c := 1) (j := 7) B14 hD B15 hZ k2 A16 f hS hkk (k0_off60_eq k 0) hk) ?_
    refine all_cons (tile_piece (c := 1) (j := 6) B14 hD B15 hZ k2 A16 f hS hkk (k0_off59_eq k 0) hk) ?_
    refine all_cons (tile_piece (c := 1) (j := 5) B14 hD B15 hZ k2 A16 f hS hkk (k0_off58_eq k 0) hk) ?_
    refine all_cons (tile_piece (c := 1) (j := 4) B14 hD B15 hZ k2 A16 f hS hkk (k0_off57_eq k 0) hk) ?_
    refine all_cons (tile_piece (c := 1) (j := 3) B14 hD B15 hZ k2 A16 f hS hkk (k0_off56_eq k 0) hk) ?_
    refine all_cons (tile_piece (c := 1) (j := 2) B14 hD B15 hZ k2 A16 f hS hkk (k0_off55_eq k 0) hk) ?_
    refine all_cons (tile_piece (c := 1) (j := 1) B14 hD B15 hZ k2 A16 f hS hkk (k0_off54_eq k 0) hk) ?_
    refine all_cons (tile_piece (c := 1) (j := 0) B14 hD B15 hZ k2 A16 f hS hkk (k0_off53_eq k 0) hk) ?_
    exact fun p hp => absurd hp (by simp)
  · intro h
    simp only [List.forall_mem_cons] at h
    obtain ⟨h30, h29, h28, h27, h26, h25, h24, h23, h22, h21, h20, h19, h18, h17, h16, h15, h14, h13, h12, h11, h10, h9, h8, h7, h6, h5, h4, h3, h2, h1, h0, -⟩ := h
    have e : ¬ ((i 1).val / 128 = 1 ∧ (i 0).val < 248) := by
      rintro ⟨hn, hq⟩
      have q0 : 8 * 0 ≤ (i 0).val := Nat.zero_le _
      have q1 := past (j := 0) (c := 1) h0 hn q0
      have q2 := past (j := 1) (c := 1) h1 hn q1
      have q3 := past (j := 2) (c := 1) h2 hn q2
      have q4 := past (j := 3) (c := 1) h3 hn q3
      have q5 := past (j := 4) (c := 1) h4 hn q4
      have q6 := past (j := 5) (c := 1) h5 hn q5
      have q7 := past (j := 6) (c := 1) h6 hn q6
      have q8 := past (j := 7) (c := 1) h7 hn q7
      have q9 := past (j := 8) (c := 1) h8 hn q8
      have q10 := past (j := 9) (c := 1) h9 hn q9
      have q11 := past (j := 10) (c := 1) h10 hn q10
      have q12 := past (j := 11) (c := 1) h11 hn q11
      have q13 := past (j := 12) (c := 1) h12 hn q12
      have q14 := past (j := 13) (c := 1) h13 hn q13
      have q15 := past (j := 14) (c := 1) h14 hn q14
      have q16 := past (j := 15) (c := 1) h15 hn q15
      have q17 := past (j := 16) (c := 1) h16 hn q16
      have q18 := past (j := 17) (c := 1) h17 hn q17
      have q19 := past (j := 18) (c := 1) h18 hn q18
      have q20 := past (j := 19) (c := 1) h19 hn q19
      have q21 := past (j := 20) (c := 1) h20 hn q20
      have q22 := past (j := 21) (c := 1) h21 hn q21
      have q23 := past (j := 22) (c := 1) h22 hn q22
      have q24 := past (j := 23) (c := 1) h23 hn q23
      have q25 := past (j := 24) (c := 1) h24 hn q24
      have q26 := past (j := 25) (c := 1) h25 hn q25
      have q27 := past (j := 26) (c := 1) h26 hn q26
      have q28 := past (j := 27) (c := 1) h27 hn q27
      have q29 := past (j := 28) (c := 1) h28 hn q28
      have q30 := past (j := 29) (c := 1) h29 hn q29
      have q31 := past (j := 30) (c := 1) h30 hn q30
      omega
    show _ = ((addTile S Dr Zr _ 1 (i 0).val (i 1).val : ℝ) : EReal)
    unfold addTile
    rw [if_neg e]
    exact (congrArg (A16.view.read (Elt Ideal) f) (show i = ix2 (⟨(i 0).val, (i 0).isLt⟩ : Fin 256) (⟨(i 1).val, (i 1).isLt⟩ : Fin 512) from by
      funext a; match a with | ⟨0, _⟩ => rfl | ⟨1, _⟩ => rfl)).trans (hS _ _)

set_option maxHeartbeats 4000000 in
/-- A trip of the loop over lanes 256 to 383. -/
theorem grad2_real (𝒱 : Variants) (c : Dev nD) (bd : Option 𝒱.V) (k2 : Fin k0_t2_loop.trips)
    (k : Fin k0_t9_loop.trips) (i : S256x512.Idx) : (A16.view.read (Elt Ideal) (A16.view.writes (Elt Ideal) f ((grad2 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 k).1 f)) i : EReal)
      = ((addTile S Dr Zr (256 * k2.val + 128 * k.val) 2 (i 0).val (i 1).val : ℝ) : EReal) := by
  have hk : k.val < 2 := Nat.lt_of_lt_of_le k.isLt k0_t9_abs.2.1
  have hkk := k0_off61_eq k2 k
  unfold grad2
  refine read_writes_all A16.view f (fun i => ((addTile S Dr Zr (256 * k2.val + 128 * k.val) 2 (i 0).val (i 1).val : ℝ) : EReal)) i _ ?_ ?_
  · refine all_cons (tile_piece (c := 2) (j := 30) B14 hD B15 hZ k2 A16 f hS hkk (k0_off68_eq k 3) hk) ?_
    refine all_cons (tile_piece (c := 2) (j := 29) B14 hD B15 hZ k2 A16 f hS hkk (k0_off67_eq k 3) hk) ?_
    refine all_cons (tile_piece (c := 2) (j := 28) B14 hD B15 hZ k2 A16 f hS hkk (k0_off66_eq k 3) hk) ?_
    refine all_cons (tile_piece (c := 2) (j := 27) B14 hD B15 hZ k2 A16 f hS hkk (k0_off65_eq k 3) hk) ?_
    refine all_cons (tile_piece (c := 2) (j := 26) B14 hD B15 hZ k2 A16 f hS hkk (k0_off64_eq k 3) hk) ?_
    refine all_cons (tile_piece (c := 2) (j := 25) B14 hD B15 hZ k2 A16 f hS hkk (k0_off63_eq k 3) hk) ?_
    refine all_cons (tile_piece (c := 2) (j := 24) B14 hD B15 hZ k2 A16 f hS hkk (k0_off62_eq k 3) hk) ?_
    refine all_cons (tile_piece (c := 2) (j := 23) B14 hD B15 hZ k2 A16 f hS hkk (k0_off69_eq k 2) hk) ?_
    refine all_cons (tile_piece (c := 2) (j := 22) B14 hD B15 hZ k2 A16 f hS hkk (k0_off68_eq k 2) hk) ?_
    refine all_cons (tile_piece (c := 2) (j := 21) B14 hD B15 hZ k2 A16 f hS hkk (k0_off67_eq k 2) hk) ?_
    refine all_cons (tile_piece (c := 2) (j := 20) B14 hD B15 hZ k2 A16 f hS hkk (k0_off66_eq k 2) hk) ?_
    refine all_cons (tile_piece (c := 2) (j := 19) B14 hD B15 hZ k2 A16 f hS hkk (k0_off65_eq k 2) hk) ?_
    refine all_cons (tile_piece (c := 2) (j := 18) B14 hD B15 hZ k2 A16 f hS hkk (k0_off64_eq k 2) hk) ?_
    refine all_cons (tile_piece (c := 2) (j := 17) B14 hD B15 hZ k2 A16 f hS hkk (k0_off63_eq k 2) hk) ?_
    refine all_cons (tile_piece (c := 2) (j := 16) B14 hD B15 hZ k2 A16 f hS hkk (k0_off62_eq k 2) hk) ?_
    refine all_cons (tile_piece (c := 2) (j := 15) B14 hD B15 hZ k2 A16 f hS hkk (k0_off69_eq k 1) hk) ?_
    refine all_cons (tile_piece (c := 2) (j := 14) B14 hD B15 hZ k2 A16 f hS hkk (k0_off68_eq k 1) hk) ?_
    refine all_cons (tile_piece (c := 2) (j := 13) B14 hD B15 hZ k2 A16 f hS hkk (k0_off67_eq k 1) hk) ?_
    refine all_cons (tile_piece (c := 2) (j := 12) B14 hD B15 hZ k2 A16 f hS hkk (k0_off66_eq k 1) hk) ?_
    refine all_cons (tile_piece (c := 2) (j := 11) B14 hD B15 hZ k2 A16 f hS hkk (k0_off65_eq k 1) hk) ?_
    refine all_cons (tile_piece (c := 2) (j := 10) B14 hD B15 hZ k2 A16 f hS hkk (k0_off64_eq k 1) hk) ?_
    refine all_cons (tile_piece (c := 2) (j := 9) B14 hD B15 hZ k2 A16 f hS hkk (k0_off63_eq k 1) hk) ?_
    refine all_cons (tile_piece (c := 2) (j := 8) B14 hD B15 hZ k2 A16 f hS hkk (k0_off62_eq k 1) hk) ?_
    refine all_cons (tile_piece (c := 2) (j := 7) B14 hD B15 hZ k2 A16 f hS hkk (k0_off69_eq k 0) hk) ?_
    refine all_cons (tile_piece (c := 2) (j := 6) B14 hD B15 hZ k2 A16 f hS hkk (k0_off68_eq k 0) hk) ?_
    refine all_cons (tile_piece (c := 2) (j := 5) B14 hD B15 hZ k2 A16 f hS hkk (k0_off67_eq k 0) hk) ?_
    refine all_cons (tile_piece (c := 2) (j := 4) B14 hD B15 hZ k2 A16 f hS hkk (k0_off66_eq k 0) hk) ?_
    refine all_cons (tile_piece (c := 2) (j := 3) B14 hD B15 hZ k2 A16 f hS hkk (k0_off65_eq k 0) hk) ?_
    refine all_cons (tile_piece (c := 2) (j := 2) B14 hD B15 hZ k2 A16 f hS hkk (k0_off64_eq k 0) hk) ?_
    refine all_cons (tile_piece (c := 2) (j := 1) B14 hD B15 hZ k2 A16 f hS hkk (k0_off63_eq k 0) hk) ?_
    refine all_cons (tile_piece (c := 2) (j := 0) B14 hD B15 hZ k2 A16 f hS hkk (k0_off62_eq k 0) hk) ?_
    exact fun p hp => absurd hp (by simp)
  · intro h
    simp only [List.forall_mem_cons] at h
    obtain ⟨h30, h29, h28, h27, h26, h25, h24, h23, h22, h21, h20, h19, h18, h17, h16, h15, h14, h13, h12, h11, h10, h9, h8, h7, h6, h5, h4, h3, h2, h1, h0, -⟩ := h
    have e : ¬ ((i 1).val / 128 = 2 ∧ (i 0).val < 248) := by
      rintro ⟨hn, hq⟩
      have q0 : 8 * 0 ≤ (i 0).val := Nat.zero_le _
      have q1 := past (j := 0) (c := 2) h0 hn q0
      have q2 := past (j := 1) (c := 2) h1 hn q1
      have q3 := past (j := 2) (c := 2) h2 hn q2
      have q4 := past (j := 3) (c := 2) h3 hn q3
      have q5 := past (j := 4) (c := 2) h4 hn q4
      have q6 := past (j := 5) (c := 2) h5 hn q5
      have q7 := past (j := 6) (c := 2) h6 hn q6
      have q8 := past (j := 7) (c := 2) h7 hn q7
      have q9 := past (j := 8) (c := 2) h8 hn q8
      have q10 := past (j := 9) (c := 2) h9 hn q9
      have q11 := past (j := 10) (c := 2) h10 hn q10
      have q12 := past (j := 11) (c := 2) h11 hn q11
      have q13 := past (j := 12) (c := 2) h12 hn q12
      have q14 := past (j := 13) (c := 2) h13 hn q13
      have q15 := past (j := 14) (c := 2) h14 hn q14
      have q16 := past (j := 15) (c := 2) h15 hn q15
      have q17 := past (j := 16) (c := 2) h16 hn q16
      have q18 := past (j := 17) (c := 2) h17 hn q17
      have q19 := past (j := 18) (c := 2) h18 hn q18
      have q20 := past (j := 19) (c := 2) h19 hn q19
      have q21 := past (j := 20) (c := 2) h20 hn q20
      have q22 := past (j := 21) (c := 2) h21 hn q21
      have q23 := past (j := 22) (c := 2) h22 hn q22
      have q24 := past (j := 23) (c := 2) h23 hn q23
      have q25 := past (j := 24) (c := 2) h24 hn q24
      have q26 := past (j := 25) (c := 2) h25 hn q25
      have q27 := past (j := 26) (c := 2) h26 hn q26
      have q28 := past (j := 27) (c := 2) h27 hn q27
      have q29 := past (j := 28) (c := 2) h28 hn q28
      have q30 := past (j := 29) (c := 2) h29 hn q29
      have q31 := past (j := 30) (c := 2) h30 hn q30
      omega
    show _ = ((addTile S Dr Zr _ 2 (i 0).val (i 1).val : ℝ) : EReal)
    unfold addTile
    rw [if_neg e]
    exact (congrArg (A16.view.read (Elt Ideal) f) (show i = ix2 (⟨(i 0).val, (i 0).isLt⟩ : Fin 256) (⟨(i 1).val, (i 1).isLt⟩ : Fin 512) from by
      funext a; match a with | ⟨0, _⟩ => rfl | ⟨1, _⟩ => rfl)).trans (hS _ _)

set_option maxHeartbeats 4000000 in
/-- A trip of the loop over lanes 384 to 511. -/
theorem grad3_real (𝒱 : Variants) (c : Dev nD) (bd : Option 𝒱.V) (k2 : Fin k0_t2_loop.trips)
    (k : Fin k0_t10_loop.trips) (i : S256x512.Idx) : (A16.view.read (Elt Ideal) (A16.view.writes (Elt Ideal) f ((grad3 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 k).1 f)) i : EReal)
      = ((addTile S Dr Zr (256 * k2.val + 128 * k.val) 3 (i 0).val (i 1).val : ℝ) : EReal) := by
  have hk : k.val < 2 := Nat.lt_of_lt_of_le k.isLt k0_t10_abs.2.1
  have hkk := k0_off70_eq k2 k
  unfold grad3
  refine read_writes_all A16.view f (fun i => ((addTile S Dr Zr (256 * k2.val + 128 * k.val) 3 (i 0).val (i 1).val : ℝ) : EReal)) i _ ?_ ?_
  · refine all_cons (tile_piece (c := 3) (j := 30) B14 hD B15 hZ k2 A16 f hS hkk (k0_off77_eq k 3) hk) ?_
    refine all_cons (tile_piece (c := 3) (j := 29) B14 hD B15 hZ k2 A16 f hS hkk (k0_off76_eq k 3) hk) ?_
    refine all_cons (tile_piece (c := 3) (j := 28) B14 hD B15 hZ k2 A16 f hS hkk (k0_off75_eq k 3) hk) ?_
    refine all_cons (tile_piece (c := 3) (j := 27) B14 hD B15 hZ k2 A16 f hS hkk (k0_off74_eq k 3) hk) ?_
    refine all_cons (tile_piece (c := 3) (j := 26) B14 hD B15 hZ k2 A16 f hS hkk (k0_off73_eq k 3) hk) ?_
    refine all_cons (tile_piece (c := 3) (j := 25) B14 hD B15 hZ k2 A16 f hS hkk (k0_off72_eq k 3) hk) ?_
    refine all_cons (tile_piece (c := 3) (j := 24) B14 hD B15 hZ k2 A16 f hS hkk (k0_off71_eq k 3) hk) ?_
    refine all_cons (tile_piece (c := 3) (j := 23) B14 hD B15 hZ k2 A16 f hS hkk (k0_off78_eq k 2) hk) ?_
    refine all_cons (tile_piece (c := 3) (j := 22) B14 hD B15 hZ k2 A16 f hS hkk (k0_off77_eq k 2) hk) ?_
    refine all_cons (tile_piece (c := 3) (j := 21) B14 hD B15 hZ k2 A16 f hS hkk (k0_off76_eq k 2) hk) ?_
    refine all_cons (tile_piece (c := 3) (j := 20) B14 hD B15 hZ k2 A16 f hS hkk (k0_off75_eq k 2) hk) ?_
    refine all_cons (tile_piece (c := 3) (j := 19) B14 hD B15 hZ k2 A16 f hS hkk (k0_off74_eq k 2) hk) ?_
    refine all_cons (tile_piece (c := 3) (j := 18) B14 hD B15 hZ k2 A16 f hS hkk (k0_off73_eq k 2) hk) ?_
    refine all_cons (tile_piece (c := 3) (j := 17) B14 hD B15 hZ k2 A16 f hS hkk (k0_off72_eq k 2) hk) ?_
    refine all_cons (tile_piece (c := 3) (j := 16) B14 hD B15 hZ k2 A16 f hS hkk (k0_off71_eq k 2) hk) ?_
    refine all_cons (tile_piece (c := 3) (j := 15) B14 hD B15 hZ k2 A16 f hS hkk (k0_off78_eq k 1) hk) ?_
    refine all_cons (tile_piece (c := 3) (j := 14) B14 hD B15 hZ k2 A16 f hS hkk (k0_off77_eq k 1) hk) ?_
    refine all_cons (tile_piece (c := 3) (j := 13) B14 hD B15 hZ k2 A16 f hS hkk (k0_off76_eq k 1) hk) ?_
    refine all_cons (tile_piece (c := 3) (j := 12) B14 hD B15 hZ k2 A16 f hS hkk (k0_off75_eq k 1) hk) ?_
    refine all_cons (tile_piece (c := 3) (j := 11) B14 hD B15 hZ k2 A16 f hS hkk (k0_off74_eq k 1) hk) ?_
    refine all_cons (tile_piece (c := 3) (j := 10) B14 hD B15 hZ k2 A16 f hS hkk (k0_off73_eq k 1) hk) ?_
    refine all_cons (tile_piece (c := 3) (j := 9) B14 hD B15 hZ k2 A16 f hS hkk (k0_off72_eq k 1) hk) ?_
    refine all_cons (tile_piece (c := 3) (j := 8) B14 hD B15 hZ k2 A16 f hS hkk (k0_off71_eq k 1) hk) ?_
    refine all_cons (tile_piece (c := 3) (j := 7) B14 hD B15 hZ k2 A16 f hS hkk (k0_off78_eq k 0) hk) ?_
    refine all_cons (tile_piece (c := 3) (j := 6) B14 hD B15 hZ k2 A16 f hS hkk (k0_off77_eq k 0) hk) ?_
    refine all_cons (tile_piece (c := 3) (j := 5) B14 hD B15 hZ k2 A16 f hS hkk (k0_off76_eq k 0) hk) ?_
    refine all_cons (tile_piece (c := 3) (j := 4) B14 hD B15 hZ k2 A16 f hS hkk (k0_off75_eq k 0) hk) ?_
    refine all_cons (tile_piece (c := 3) (j := 3) B14 hD B15 hZ k2 A16 f hS hkk (k0_off74_eq k 0) hk) ?_
    refine all_cons (tile_piece (c := 3) (j := 2) B14 hD B15 hZ k2 A16 f hS hkk (k0_off73_eq k 0) hk) ?_
    refine all_cons (tile_piece (c := 3) (j := 1) B14 hD B15 hZ k2 A16 f hS hkk (k0_off72_eq k 0) hk) ?_
    refine all_cons (tile_piece (c := 3) (j := 0) B14 hD B15 hZ k2 A16 f hS hkk (k0_off71_eq k 0) hk) ?_
    exact fun p hp => absurd hp (by simp)
  · intro h
    simp only [List.forall_mem_cons] at h
    obtain ⟨h30, h29, h28, h27, h26, h25, h24, h23, h22, h21, h20, h19, h18, h17, h16, h15, h14, h13, h12, h11, h10, h9, h8, h7, h6, h5, h4, h3, h2, h1, h0, -⟩ := h
    have e : ¬ ((i 1).val / 128 = 3 ∧ (i 0).val < 248) := by
      rintro ⟨hn, hq⟩
      have q0 : 8 * 0 ≤ (i 0).val := Nat.zero_le _
      have q1 := past (j := 0) (c := 3) h0 hn q0
      have q2 := past (j := 1) (c := 3) h1 hn q1
      have q3 := past (j := 2) (c := 3) h2 hn q2
      have q4 := past (j := 3) (c := 3) h3 hn q3
      have q5 := past (j := 4) (c := 3) h4 hn q4
      have q6 := past (j := 5) (c := 3) h5 hn q5
      have q7 := past (j := 6) (c := 3) h6 hn q6
      have q8 := past (j := 7) (c := 3) h7 hn q7
      have q9 := past (j := 8) (c := 3) h8 hn q8
      have q10 := past (j := 9) (c := 3) h9 hn q9
      have q11 := past (j := 10) (c := 3) h10 hn q10
      have q12 := past (j := 11) (c := 3) h11 hn q11
      have q13 := past (j := 12) (c := 3) h12 hn q12
      have q14 := past (j := 13) (c := 3) h13 hn q13
      have q15 := past (j := 14) (c := 3) h14 hn q14
      have q16 := past (j := 15) (c := 3) h15 hn q15
      have q17 := past (j := 16) (c := 3) h16 hn q16
      have q18 := past (j := 17) (c := 3) h17 hn q17
      have q19 := past (j := 18) (c := 3) h18 hn q18
      have q20 := past (j := 19) (c := 3) h19 hn q19
      have q21 := past (j := 20) (c := 3) h20 hn q20
      have q22 := past (j := 21) (c := 3) h21 hn q21
      have q23 := past (j := 22) (c := 3) h22 hn q22
      have q24 := past (j := 23) (c := 3) h23 hn q23
      have q25 := past (j := 24) (c := 3) h24 hn q24
      have q26 := past (j := 25) (c := 3) h25 hn q25
      have q27 := past (j := 26) (c := 3) h26 hn q26
      have q28 := past (j := 27) (c := 3) h27 hn q27
      have q29 := past (j := 28) (c := 3) h28 hn q28
      have q30 := past (j := 29) (c := 3) h29 hn q29
      have q31 := past (j := 30) (c := 3) h30 hn q30
      omega
    show _ = ((addTile S Dr Zr _ 3 (i 0).val (i 1).val : ℝ) : EReal)
    unfold addTile
    rw [if_neg e]
    exact (congrArg (A16.view.read (Elt Ideal) f) (show i = ix2 (⟨(i 0).val, (i 0).isLt⟩ : Fin 256) (⟨(i 1).val, (i 1).isLt⟩ : Fin 512) from by
      funext a; match a with | ⟨0, _⟩ => rfl | ⟨1, _⟩ => rfl)).trans (hS _ _)

end

end Cert.Proof.Conv

end
-- ==== Proof.ConvSums.lean ====
/-
  The first loop's arrays and column sums over numbers.
-/
module

public import proofs.«01_k».proof.Proof.ConvReal

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row `r` of trip `k`. -/
abbrev rowAt (k : Fin k0_t1_loop.trips) (r : Fin 256) : Fin 2048 :=
  ⟨256 * k.val + r.val, by have h : k.val < 8 := Nat.lt_of_lt_of_eq k.isLt trips1; omega⟩

theorem rowsOf_at {e : EltTy} (U : Vec Ideal S2048x512 e) (k : Fin k0_t1_loop.trips) (r : Fin 256) (n : Fin 512) :
    rowsOf U k (ix2 r n) = U (ix2 (rowAt k r) n) := by
  have h := emb_rows (R := 2048) (W := 256) (k0_off1_eq k) (inb := k0_off1_inb k) (ix2 r n)
  unfold rowsOf
  congr 1
  funext a
  match a with
  | ⟨0, _⟩ => exact Fin.ext h.1
  | ⟨1, _⟩ => exact Fin.ext h.2

/-- Every row is a row of a trip. -/
theorem row_split (p : Fin 2048) : ∃ k r, p = rowAt k r :=
  ⟨⟨p.val / 256, by rw [trips1]; omega⟩, ⟨p.val % 256, Nat.mod_lt _ (by decide)⟩, Fin.ext (by show p.val = 256 * (p.val / 256) + p.val % 256; omega)⟩

section
variable (cz gb : Vec Ideal S2048x512 .f32) (dm : Vec Ideal S2048x512 .bf16) (lw lb : Vec Ideal S1x512 .f32)
  (Z Gt Dm : Fin 2048 → Fin 512 → ℝ) (w b : Fin 512 → ℝ)
  (hz : ∀ r n, cz (ix2 r n) = ((Z r n : ℝ) : EReal)) (hg : ∀ r n, gb (ix2 r n) = ((Gt r n : ℝ) : EReal))
  (hd : ∀ r n, dm (ix2 r n) = ((Dm r n : ℝ) : EReal)) (hw : ∀ n, lw (ix2 (0 : Fin 1) n) = ((w n : ℝ) : EReal))
  (hb : ∀ n, lb (ix2 (0 : Fin 1) n) = ((b n : ℝ) : EReal))

include hz hg hd hw hb
/-- The gradient at the gate, at an entry. -/
theorem gateGrad_real (p : Fin 2048) (n : Fin 512) :
    (gateGrad (F := Ideal) gb cz dm lw lb (ix2 p n) : EReal) = ((rdg (Z p) w b (Gt p) (Dm p) n : ℝ) : EReal) := by
  obtain ⟨k, r, rfl⟩ := row_split p
  unfold gateGrad
  rw [pickRows_at _ k (ix2 r n) _ rfl rfl]
  exact pay8_real _ _ _ lw lb (fun r => Z (rowAt k r)) (fun r => Gt (rowAt k r)) (fun r => Dm (rowAt k r)) w b
    (fun r n => (rowsOf_at cz k r n).trans (hz _ n)) (fun r n => (rowsOf_at gb k r n).trans (hg _ n))
    (fun r n => (rowsOf_at dm k r n).trans (hd _ n)) hw hb r n

/-- The gradient at the convolution's output, at an entry. -/
theorem dconvPad_real (q : Fin 2080) (n : Fin 512) : (dconvPad (F := Ideal) gb cz dm lw lb (ix2 q n) : EReal)
    = if h : q.val < 2048 then ((rdz (Z ⟨q.val, h⟩) w b (Gt ⟨q.val, h⟩) (Dm ⟨q.val, h⟩) n : ℝ) : EReal) else 0 := by
  unfold dconvPad
  by_cases h : q.val < 2048
  · rw [dif_pos h, dif_pos (show ((ix2 q n : S2080x512.Idx) 0).val < 2048 from h)]
    obtain ⟨k, r, hp⟩ := row_split ⟨q.val, h⟩
    have hq : q.val = 256 * k.val + r.val := congrArg Fin.val hp
    rw [pickRows_at _ k (ix2 r n) _ hq rfl, hp]
    exact pay12_real _ _ _ lw lb (fun r => Z (rowAt k r)) (fun r => Gt (rowAt k r)) (fun r => Dm (rowAt k r)) w b
      (fun r n => (rowsOf_at cz k r n).trans (hz _ n)) (fun r n => (rowsOf_at gb k r n).trans (hg _ n))
      (fun r n => (rowsOf_at dm k r n).trans (hd _ n)) hw hb r n
  · rw [dif_neg h, dif_neg (show ¬ ((ix2 q n : S2080x512.Idx) 0).val < 2048 from h)]
    pointwise [k0_pay937]

/-- The column sums before trip `m`, at an entry. -/
theorem accAt_real (m : ℕ) (hm : m ≤ 8) (n : Fin 512) :
    ((accAt (F := Ideal) gb cz dm lw lb m).1 (ix2 (0 : Fin 1) n) : EReal)
        = ((∑ k ∈ Finset.range m, ∑ r : Fin 256, if h : 256 * k + r.val < 2048 then
            rdz (Z ⟨256 * k + r.val, h⟩) w b (Gt ⟨256 * k + r.val, h⟩) (Dm ⟨256 * k + r.val, h⟩) n else 0 : ℝ) : EReal)
    ∧ ((accAt (F := Ideal) gb cz dm lw lb m).2.1 (ix2 (0 : Fin 1) n) : EReal)
        = ((∑ k ∈ Finset.range m, ∑ r : Fin 256, if h : 256 * k + r.val < 2048 then
            rdl (Z ⟨256 * k + r.val, h⟩) w b (Gt ⟨256 * k + r.val, h⟩) (Dm ⟨256 * k + r.val, h⟩) n * rxh (Z ⟨256 * k + r.val, h⟩) n else 0 : ℝ) : EReal)
    ∧ ((accAt (F := Ideal) gb cz dm lw lb m).2.2 (ix2 (0 : Fin 1) n) : EReal)
        = ((∑ k ∈ Finset.range m, ∑ r : Fin 256, if h : 256 * k + r.val < 2048 then
            rdl (Z ⟨256 * k + r.val, h⟩) w b (Gt ⟨256 * k + r.val, h⟩) (Dm ⟨256 * k + r.val, h⟩) n else 0 : ℝ) : EReal) := by
  induction m with
  | zero =>
    rw [Finset.range_zero]
    simp only [Finset.sum_empty]
    unfold accAt
    refine ⟨?_, ?_, ?_⟩ <;> (dsimp only; pointwise [k0_pay939]; rfl)
  | succ m ih =>
    have hk : m < k0_t1_loop.trips := by rw [trips1]; omega
    obtain ⟨i1, i2, i3⟩ := ih (by omega)
    have hrow : ∀ r : Fin 256, 256 * m + r.val < 2048 := fun r => by omega
    have e := accAt_succ (F := Ideal) gb cz dm lw lb ⟨m, hk⟩
    rw [show (⟨m, hk⟩ : Fin k0_t1_loop.trips).val = m from rfl] at e
    have hz' := fun r n => (rowsOf_at cz ⟨m, hk⟩ r n).trans (hz _ n)
    have hg' := fun r n => (rowsOf_at gb ⟨m, hk⟩ r n).trans (hg _ n)
    have hd' := fun r n => (rowsOf_at dm ⟨m, hk⟩ r n).trans (hd _ n)
    rw [e]
    unfold accStep
    simp only [Finset.sum_range_succ, EReal.coe_add, dif_pos (hrow _)]
    refine ⟨?_, ?_, ?_⟩
    · pointwise [k0_pay940]
      rw [i1]
      congr 1
      rw [coe_sum]
      exact Finset.sum_congr rfl fun r _ => pay11_real _ _ _ lw lb _ _ _ w b hz' hg' hd' hw hb r n
    · pointwise [k0_pay941]
      rw [i2]
      congr 1
      rw [coe_sum]
      refine Finset.sum_congr rfl fun r _ => ?_
      rw [EReal.coe_mul]
      exact congrArg₂ (· * ·) (pay10_real _ _ _ lw lb _ _ _ w b hz' hg' hd' hw hb r n) (pay4_real _ _ hz' r n)
    · pointwise [k0_pay942]
      rw [i3]
      congr 1
      rw [coe_sum]
      exact Finset.sum_congr rfl fun r _ => pay10_real _ _ _ lw lb _ _ _ w b hz' hg' hd' hw hb r n
omit hz hg hd hw hb

/-- A sum over eight runs of 256 rows is the sum over all the rows. -/
theorem sum_rows (f : Fin 2048 → ℝ) : (∑ k ∈ Finset.range 8, ∑ r : Fin 256, if h : 256 * k + r.val < 2048 then f ⟨256 * k + r.val, h⟩ else 0) = ∑ p, f p := by
  rw [Fin.sum_univ_tiles 8 256 rfl, ← Fin.sum_univ_eq_sum_range (fun k => ∑ r : Fin 256, if h : 256 * k + r.val < 2048 then f ⟨256 * k + r.val, h⟩ else 0)]
  refine Finset.sum_congr rfl fun k _ => Finset.sum_congr rfl fun r _ => ?_
  rw [dif_pos (by omega)]
  congr 1
  exact Fin.ext (by show 256 * k.val + r.val = k.val * 256 + r.val; omega)

include hz hg hd hw hb in
/-- The three column sums after the loop. -/
theorem acc_real (n : Fin 512) :
    ((accAt (F := Ideal) gb cz dm lw lb 8).1 (ix2 (0 : Fin 1) n) : EReal) = ((∑ p, rdz (Z p) w b (Gt p) (Dm p) n : ℝ) : EReal)
    ∧ ((accAt (F := Ideal) gb cz dm lw lb 8).2.1 (ix2 (0 : Fin 1) n) : EReal) = ((∑ p, rdl (Z p) w b (Gt p) (Dm p) n * rxh (Z p) n : ℝ) : EReal)
    ∧ ((accAt (F := Ideal) gb cz dm lw lb 8).2.2 (ix2 (0 : Fin 1) n) : EReal) = ((∑ p, rdl (Z p) w b (Gt p) (Dm p) n : ℝ) : EReal) := by
  have h := accAt_real cz gb dm lw lb Z Gt Dm w b hz hg hd hw hb 8 le_rfl n
  rw [sum_rows (fun p => rdz (Z p) w b (Gt p) (Dm p) n), sum_rows (fun p => rdl (Z p) w b (Gt p) (Dm p) n * rxh (Z p) n),
    sum_rows (fun p => rdl (Z p) w b (Gt p) (Dm p) n)] at h
  exact h
end

end Cert.Proof.Conv

end
-- ==== Proof.ConvDcw.lean ====
/-
  The taps' gradient as the kernel adds it up, over numbers: eight partial sums a tap over all the tiles, then their sum.
-/
module

public import proofs.«01_k».proof.Proof.ConvGradReal
public import proofs.«01_k».proof.Proof.ConvSums
public import proofs.«01_k».proof.Proof.ConvBody

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The sums after `m` tiles of strip `c` from row `o` on. -/
def addTiles (S Dr Zr : ℕ → ℕ → ℝ) (o c : ℕ) : ℕ → ℕ → ℕ → ℝ
  | 0 => S
  | m + 1 => addTile (addTiles S Dr Zr o c m) Dr Zr (o + 128 * m) c

/-- The sums after one trip of the second loop. -/
def addTrip (S Dr Zr : ℕ → ℕ → ℝ) (k2 : ℕ) : ℕ → ℕ → ℝ :=
  addTiles (addTiles (addTiles (addTiles S Dr Zr (256 * k2) 0 2) Dr Zr (256 * k2) 1 2) Dr Zr (256 * k2) 2 2) Dr Zr (256 * k2) 3 2

/-- The sums before trip `m` of the second loop. -/
def addTrips (Dr Zr : ℕ → ℕ → ℝ) : ℕ → ℕ → ℕ → ℝ
  | 0 => fun _ _ => 0
  | m + 1 => addTrip (addTrips Dr Zr m) Dr Zr m

theorem addTiles_two (S Dr Zr : ℕ → ℕ → ℝ) (o c q n : ℕ) : addTiles S Dr Zr o c 2 q n
    = if n / 128 = c ∧ q < 248 then S q n + tileSum Dr Zr (o + q % 8) (q / 8) n + tileSum Dr Zr (o + 128 + q % 8) (q / 8) n else S q n := by
  show addTile (addTile S Dr Zr (o + 128 * 0) c) Dr Zr (o + 128 * 1) c q n = _
  unfold addTile
  by_cases h : n / 128 = c ∧ q < 248
  · rw [if_pos h, if_pos h, if_pos h]
    rfl
  · rw [if_neg h, if_neg h, if_neg h]

theorem addTrip_eq (S Dr Zr : ℕ → ℕ → ℝ) (k2 q n : ℕ) (hq : q < 248) (hn : n < 512) : addTrip S Dr Zr k2 q n
    = S q n + (tileSum Dr Zr (256 * k2 + q % 8) (q / 8) n + tileSum Dr Zr (256 * k2 + 128 + q % 8) (q / 8) n) := by
  unfold addTrip
  rw [addTiles_two, addTiles_two, addTiles_two, addTiles_two, ← add_assoc]
  have hc : n / 128 = 0 ∨ n / 128 = 1 ∨ n / 128 = 2 ∨ n / 128 = 3 := by omega
  rcases hc with h | h | h | h <;> simp [h, hq]

theorem addTrips_eq (Dr Zr : ℕ → ℕ → ℝ) (m q n : ℕ) (hq : q < 248) (hn : n < 512) : addTrips Dr Zr m q n
    = ∑ k2 ∈ Finset.range m, (tileSum Dr Zr (256 * k2 + q % 8) (q / 8) n + tileSum Dr Zr (256 * k2 + 128 + q % 8) (q / 8) n) := by
  induction m with
  | zero => rfl
  | succ m ih => rw [Finset.sum_range_succ, ← ih]; exact addTrip_eq _ _ _ _ _ _ hq hn

/-- A sum over a run of tiles. -/
theorem range_tiles (J T : ℕ) (f : ℕ → ℝ) : ∑ p ∈ Finset.range (J * T), f p = ∑ j ∈ Finset.range J, ∑ t ∈ Finset.range T, f (j * T + t) := by
  induction J with
  | zero => simp
  | succ J ih => rw [Finset.sum_range_succ, ← ih, Nat.succ_mul, Finset.sum_range_add]

/-- The eight partial sums of a tap add up to the sum over all the rows. -/
theorem eight_parts (Dr Zr : ℕ → ℕ → ℝ) (j n : ℕ) (hj : j < 31) (hn : n < 512) :
    ∑ r ∈ Finset.range 8, addTrips Dr Zr 8 (8 * j + r) n = ∑ p ∈ Finset.range 2048, Dr p n * Zr (p + j + 2) n := by
  have e : ∀ r ∈ Finset.range 8, addTrips Dr Zr 8 (8 * j + r) n
      = ∑ k2 ∈ Finset.range 8, ∑ b ∈ Finset.range 2, ∑ t ∈ Finset.range 16, Dr (k2 * 256 + (b * 128 + (t * 8 + r))) n * Zr (k2 * 256 + (b * 128 + (t * 8 + r)) + j + 2) n := by
    intro r hr
    have hr8 : r < 8 := Finset.mem_range.mp hr
    rw [addTrips_eq _ _ _ _ _ (by omega) hn, show (8 * j + r) % 8 = r by omega, show (8 * j + r) / 8 = j by omega]
    refine Finset.sum_congr rfl fun k2 _ => ?_
    rw [Finset.sum_range_succ, Finset.sum_range_one]
    unfold tileSum
    refine congrArg₂ (· + ·) (Finset.sum_congr rfl fun t _ => ?_) (Finset.sum_congr rfl fun t _ => ?_)
    · rw [show 256 * k2 + r + 8 * t = k2 * 256 + (0 * 128 + (t * 8 + r)) by omega]
    · rw [show 256 * k2 + 128 + r + 8 * t = k2 * 256 + (1 * 128 + (t * 8 + r)) by omega]
  rw [Finset.sum_congr rfl e, show (2048 : ℕ) = 8 * 256 from rfl, range_tiles, Finset.sum_comm]
  refine Finset.sum_congr rfl fun k2 _ => ?_
  rw [show (256 : ℕ) = 2 * 128 from rfl, range_tiles, Finset.sum_comm]
  refine Finset.sum_congr rfl fun b _ => ?_
  rw [show (128 : ℕ) = 16 * 8 from rfl, range_tiles, Finset.sum_comm]

section
variable (A0 : Memref sig .tc .hbm S2048x512 .f32) (B0 : A0.IsWhole)
   (A1 : Memref sig .tc .hbm S2048x512 .f32) (B1 : A1.IsWhole) (A2 : Memref sig .tc .hbm S2048x512 .f32)
   (B2 : A2.IsWhole) (A3 : Memref sig .tc .hbm S2048x512 .f32) (B3 : A3.IsWhole)
   (A4 : Memref sig .tc .hbm S2048x512 .bf16) (B4 : A4.IsWhole) (A5 : Memref sig .tc .vmem S4x32x128 .f32)
   (B5 : A5.IsWhole) (A6 : Memref sig .tc .vmem S1x512 .f32) (B6 : A6.IsWhole)
   (A7 : Memref sig .tc .vmem S1x512 .f32) (B7 : A7.IsWhole) (A8 : Memref sig .tc .hbm S2048x512 .bf16)
   (B8 : A8.IsWhole) (A9 : Memref sig .tc .hbm S2048x512 .bf16) (B9 : A9.IsWhole)
   (A10 : Memref sig .tc .hbm S2048x512 .bf16) (B10 : A10.IsWhole)
   (A11 : Memref sig .tc .vmem S16x1024 .f32) (B11 : A11.IsWhole) (A12 : Memref sig .tc .vmem S8x512 .f32)
   (B12 : A12.IsWhole) (A13 : Memref sig .tc .vmem S2080x512 .f32) (B13 : A13.IsWhole)
   (A14 : Memref sig .tc .vmem S2080x512 .f32) (B14 : A14.IsWhole)
   (A15 : Memref sig .tc .vmem S8x4x288x128 .f32) (B15 : A15.IsWhole)
   (A16 : Memref sig .tc .vmem S256x512 .f32) (B16 : A16.IsWhole)
   (A17 : Memref sig .tc .vmem S2048x512 .f32) (B17 : A17.IsWhole)
   (A18 : Memref sig .tc .vmem S2048x512 .f32) (B18 : A18.IsWhole)
   (A19 : Memref sig .tc .vmem S2048x512 .f32) (B19 : A19.IsWhole)
   (A20 : Memref sig .tc .vmem S2048x512 .f32) (B20 : A20.IsWhole)
   (A21 : Memref sig .tc .vmem S2048x512 .bf16) (B21 : A21.IsWhole)
   (A22 : Memref sig .tc .vmem S2048x512 .bf16) (B22 : A22.IsWhole)
   (A23 : Memref sig .tc .vmem S2048x512 .bf16) (B23 : A23.IsWhole)
   (A24 : Memref sig .tc .vmem S2048x512 .bf16) (B24 : A24.IsWhole) (A25 : DmaSems sig S5)
   (A26 : DmaSems sig S4) (A27 : DmaSems sig S4) (A28 : DmaSems sig S4)

variable (D Z : Vec Ideal S2080x512 .f32) (Dr Zr : ℕ → ℕ → ℝ)
  (hD : ∀ (q : Fin 2080) (n : Fin 512), (D (ix2 q n) : EReal) = ((Dr q.val n.val : ℝ) : EReal))
  (hZ : ∀ (q : Fin 2080) (n : Fin 512), (Z (ix2 q n) : EReal) = ((Zr q.val n.val : ℝ) : EReal))

/-- The contents are these numbers. -/
def Holds (f : BufTy.Contents (Elt Ideal) A16.view.ty) (S : ℕ → ℕ → ℝ) : Prop :=
  ∀ (q : Fin 256) (n : Fin 512), (A16.view.read (Elt Ideal) f (ix2 q n) : EReal) = ((S q.val n.val : ℝ) : EReal)

include hD hZ

theorem sums0_real (𝒱 : Variants) (c : Dev nD) (bd : Option 𝒱.V) (k2 : Fin k0_t2_loop.trips) (f : BufTy.Contents (Elt Ideal) A16.view.ty)
    (S : ℕ → ℕ → ℝ) (hS : Holds A16 f S) (m : ℕ) (hm : m ≤ k0_t7_loop.trips) : Holds A16 (sums0 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f m) (addTiles S Dr Zr (256 * k2.val) 0 m) := by
  induction m with
  | zero => exact hS
  | succ m ih =>
    intro q n
    rw [sums0, dif_pos (show m < k0_t7_loop.trips from hm)]
    exact grad0_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr (addTiles S Dr Zr (256 * k2.val) 0 m) hD hZ _ (ih (by omega)) 𝒱 c bd k2 ⟨m, hm⟩ (ix2 q n)

theorem sums1_real (𝒱 : Variants) (c : Dev nD) (bd : Option 𝒱.V) (k2 : Fin k0_t2_loop.trips) (f : BufTy.Contents (Elt Ideal) A16.view.ty)
    (S : ℕ → ℕ → ℝ) (hS : Holds A16 f S) (m : ℕ) (hm : m ≤ k0_t8_loop.trips) : Holds A16 (sums1 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f m) (addTiles S Dr Zr (256 * k2.val) 1 m) := by
  induction m with
  | zero => exact hS
  | succ m ih =>
    intro q n
    rw [sums1, dif_pos (show m < k0_t8_loop.trips from hm)]
    exact grad1_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr (addTiles S Dr Zr (256 * k2.val) 1 m) hD hZ _ (ih (by omega)) 𝒱 c bd k2 ⟨m, hm⟩ (ix2 q n)

theorem sums2_real (𝒱 : Variants) (c : Dev nD) (bd : Option 𝒱.V) (k2 : Fin k0_t2_loop.trips) (f : BufTy.Contents (Elt Ideal) A16.view.ty)
    (S : ℕ → ℕ → ℝ) (hS : Holds A16 f S) (m : ℕ) (hm : m ≤ k0_t9_loop.trips) : Holds A16 (sums2 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f m) (addTiles S Dr Zr (256 * k2.val) 2 m) := by
  induction m with
  | zero => exact hS
  | succ m ih =>
    intro q n
    rw [sums2, dif_pos (show m < k0_t9_loop.trips from hm)]
    exact grad2_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr (addTiles S Dr Zr (256 * k2.val) 2 m) hD hZ _ (ih (by omega)) 𝒱 c bd k2 ⟨m, hm⟩ (ix2 q n)

theorem sums3_real (𝒱 : Variants) (c : Dev nD) (bd : Option 𝒱.V) (k2 : Fin k0_t2_loop.trips) (f : BufTy.Contents (Elt Ideal) A16.view.ty)
    (S : ℕ → ℕ → ℝ) (hS : Holds A16 f S) (m : ℕ) (hm : m ≤ k0_t10_loop.trips) : Holds A16 (sums3 A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      (B14.unread D) (B15.unread (shifted (rows288 Z k2))) 𝒱 c bd k2 f m) (addTiles S Dr Zr (256 * k2.val) 3 m) := by
  induction m with
  | zero => exact hS
  | succ m ih =>
    intro q n
    rw [sums3, dif_pos (show m < k0_t10_loop.trips from hm)]
    exact grad3_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr (addTiles S Dr Zr (256 * k2.val) 3 m) hD hZ _ (ih (by omega)) 𝒱 c bd k2 ⟨m, hm⟩ (ix2 q n)

theorem sumsTrip_real (𝒱 : Variants) (c : Dev nD) (bd : Option 𝒱.V) (k2 : Fin k0_t2_loop.trips) (f : BufTy.Contents (Elt Ideal) A16.view.ty)
    (S : ℕ → ℕ → ℝ) (hS : Holds A16 f S) : Holds A16 (sumsTrip A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      Z D 𝒱 c bd k2 f) (addTrip S Dr Zr k2.val) := by
  have t7 : k0_t7_loop.trips = 2 := by decide +kernel
  have t8 : k0_t8_loop.trips = 2 := by decide +kernel
  have t9 : k0_t9_loop.trips = 2 := by decide +kernel
  have t10 : k0_t10_loop.trips = 2 := by decide +kernel
  have h0 := sums0_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr hD hZ 𝒱 c bd k2 f S hS _ le_rfl
  have h1 := sums1_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr hD hZ 𝒱 c bd k2 _ _ h0 _ le_rfl
  have h2 := sums2_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr hD hZ 𝒱 c bd k2 _ _ h1 _ le_rfl
  have h3 := sums3_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr hD hZ 𝒱 c bd k2 _ _ h2 _ le_rfl
  have e : addTrip S Dr Zr k2.val = addTiles (addTiles (addTiles (addTiles S Dr Zr (256 * k2.val) 0 k0_t7_loop.trips) Dr Zr (256 * k2.val) 1 k0_t8_loop.trips)
      Dr Zr (256 * k2.val) 2 k0_t9_loop.trips) Dr Zr (256 * k2.val) 3 k0_t10_loop.trips := by simp only [t7, t8, t9, t10]; rfl
  rw [e]
  exact h3

theorem sumsAt_real (𝒱 : Variants) (c : Dev nD) (bd : Option 𝒱.V) (f : BufTy.Contents (Elt Ideal) A16.view.ty)
    (hf : Holds A16 f (fun _ _ => 0)) (m : ℕ) (hm : m ≤ 8) : Holds A16 (sumsAt A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      Z D 𝒱 c bd f m) (addTrips Dr Zr m) := by
  induction m with
  | zero => exact hf
  | succ m ih =>
    have hm' : m < k0_t2_loop.trips := by rw [trips2]; omega
    rw [sumsAt, dif_pos hm']
    exact sumsTrip_real A0 B0 A1 B1 A2 B2 A3 B3 A4 B4 A5 B5 A6 B6 A7 B7 A8 B8 A9
      B9 A10 B10 A11 B11 A12 B12 A13 B13 A14 B14 A15 B15 A16 B16 A17
      B17 A18 B18 A19 B19 A20 B20 A21 B21 A22 B22 A23 B23 A24 B24 A25
      A26 A27 A28
      D Z Dr Zr hD hZ 𝒱 c bd ⟨m, hm'⟩ _ _ (ih (by omega))

end

/-- The rows of the taps' gradient, two taps a row. -/
theorem tapRows_real (U : Vec Ideal S256x512 .f32) (S : ℕ → ℕ → ℝ)
    (hU : ∀ (q : Fin 256) (n : Fin 512), (U (ix2 q n) : EReal) = ((S q.val n.val : ℝ) : EReal)) (i : Fin 16) (k : Fin 1024) :
    (tapRows (F := Ideal) U (ix2 i k) : EReal)
      = ((if 2 * i.val + k.val / 512 < 31 then ∑ r ∈ Finset.range 8, S (8 * (2 * i.val + k.val / 512) + r) (k.val % 512) else 0 : ℝ) : EReal) := by
  unfold tapRows
  by_cases h : 2 * i.val + k.val / 512 < 31
  · rw [dif_pos (show 2 * ((ix2 i k : S16x1024.Idx) 0).val + ((ix2 i k : S16x1024.Idx) 1).val / 512 < 31 from h), if_pos h]
    have e : ∀ (r : Fin 8) (n : Fin 512), (tapPart (F := Ideal) U (2 * i.val + k.val / 512) (by omega) (ix2 r n) : EReal)
        = ((S (8 * (2 * i.val + k.val / 512) + r.val) n.val : ℝ) : EReal) := fun r n => hU ⟨8 * (2 * i.val + k.val / 512) + r.val, by omega⟩ n
    show (k0_pay946 (F := Ideal) (tapPart U (2 * i.val + k.val / 512) (by omega)) (ix2 (0 : Fin 1) (⟨k.val % 512, Nat.mod_lt _ (by decide)⟩ : Fin 512)) : EReal) = _
    generalize tapPart (F := Ideal) U (2 * i.val + k.val / 512) (by omega) = y at e ⊢
    pointwise [k0_pay946]
    simp only [e]
    rw [← coe_sum, Finset.sum_range]
  · rw [dif_neg (show ¬ 2 * ((ix2 i k : S16x1024.Idx) 0).val + ((ix2 i k : S16x1024.Idx) 1).val / 512 < 31 from h), if_neg h]
    pointwise [k0_pay945]
    rfl

/-- The gated input under 32 rows of zeros. -/
theorem gatedPad_real (ua ug : Vec Ideal S2048x512 .f32) (A U : ℕ → ℕ → ℝ)
    (hA : ∀ (p : Fin 2048) (n : Fin 512), (ua (ix2 p n) : EReal) = ((A p.val n.val : ℝ) : EReal))
    (hU : ∀ (p : Fin 2048) (n : Fin 512), (ug (ix2 p n) : EReal) = ((U p.val n.val : ℝ) : EReal)) (q : Fin 2080) (n : Fin 512) :
    (gatedPad (F := Ideal) ua ug (ix2 q n) : EReal)
      = ((if q.val < 32 then 0 else A (q.val - 32) n.val * sgm (U (q.val - 32) n.val) : ℝ) : EReal) := by
  unfold gatedPad
  by_cases h : q.val < 32
  · rw [dif_pos (show ((ix2 q n : S2080x512.Idx) 0).val < 32 from h), if_pos h]
    pointwise [k0_pay936]
    rfl
  · rw [dif_neg (show ¬ ((ix2 q n : S2080x512.Idx) 0).val < 32 from h), if_neg h]
    obtain ⟨k, r, hp⟩ := row_split ⟨q.val - 32, by omega⟩
    have hq : q.val - 32 = 256 * k.val + r.val := congrArg Fin.val hp
    have ha : (rowsOf ua k (ix2 r n) : EReal) = ((A (q.val - 32) n.val : ℝ) : EReal) := (rowsOf_at ua k r n).trans (by rw [← hp]; exact hA _ n)
    have hu : (rowsOf ug k (ix2 r n) : EReal) = ((U (q.val - 32) n.val : ℝ) : EReal) := (rowsOf_at ug k r n).trans (by rw [← hp]; exact hU _ n)
    rw [pickRows_at _ k (ix2 r n) _ hq rfl]
    generalize rowsOf ua k = y at ha ⊢
    generalize rowsOf ug k = z at hu ⊢
    pointwise [k0_pay1]
    exact mul_num ha (sgm_num hu)

end Cert.Proof.Conv

end
-- ==== Proof.ConvHost.lean ====
/-
  What the lines before the call leave in the two arrays they compute: the convolution of the gated halves, and the taps
  laid out by strips.
-/
module

public import proofs.«01_k».proof.Proof.Gen.KernelIdeal.Frame
public import proofs.«01_k».proof.Proof.Gen.ReferenceIdeal.Read
public import Idealize.ShloMosaic.Lib.StableHlo.RunRead
public import Idealize.ShloMosaic.Lib.StableHlo.ReadAt

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- The convolved array that the lines prepare is the reference's, written by the same lines. -/
theorem cz_eq (c : Dev nD) : (V m c main_v167 : Vec F S2048x512 .f32)
    = Cert.ReferenceIdeal.Read.val_main_v168 (F := F) (m ((c : Thread nD τ).loc main_arg0)) (m ((c : Thread nD τ).loc main_arg1))
        (m ((c : Thread nD τ).loc main_arg3)) (m ((c : Thread nD τ).loc main_arg4)) := by
  unfold V
  after_reads_simp
  rfl

end Cert.Proof.Conv

end
-- ==== Proof.ConvRefNorm.lean ====
/-
  The reference's normalisation and gates over numbers, up to the gradient at the convolution's output.
-/
module

public import proofs.«01_k».proof.Proof.ConvReal
public import proofs.«01_k».proof.Proof.Gen.ReferenceIdeal.Read

@[expose] public section

set_option maxRecDepth 16384

noncomputable section

namespace Cert.Proof.Conv

open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem nhalf_eq : (Ideal.ofBits .f32 0xBF000000#32 : EReal) = ((-(1 / 2) : ℝ) : EReal) := by
  simp [Ideal.ofBits, Ideal.ieee, -EReal.coe_mul]; norm_num
theorem two_eq : (Ideal.ofBits .f32 0x40000000#32 : EReal) = ((2 : ℝ) : EReal) := by
  simp [Ideal.ofBits, Ideal.ieee, -EReal.coe_mul]; norm_num

/-- The variance of a row with the small number added. -/
def rve (z : Fin 512 → ℝ) : ℝ := (∑ n, (z n - rmean z) * (z n - rmean z)) / 512 + epsR

theorem rve_pos (z : Fin 512 → ℝ) : 0 < rve z := var_pos z

/-- The entries of a row less their mean add up to zero. -/
theorem sum_centred (z : Fin 512 → ℝ) : ∑ n, (z n - rmean z) = 0 := by
  rw [Finset.sum_sub_distrib, Finset.sum_const, Finset.card_univ, Fintype.card_fin]
  unfold rmean
  rw [nsmul_eq_mul]; push_cast; ring

/-- The inverse standard deviation over the variance is its cube. -/
theorem rinv_cube (z : Fin 512 → ℝ) : rinv z / rve z = rinv z * rinv z * rinv z := by
  have hv : 0 < rve z := var_pos z
  have hs : Real.sqrt (rve z) ≠ 0 := (Real.sqrt_pos.mpr hv).ne'
  have h2 : Real.sqrt (rve z) * Real.sqrt (rve z) = rve z := Real.mul_self_sqrt hv.le
  have e : rinv z = (Real.sqrt (rve z))⁻¹ := rfl
  rw [e]
  generalize Real.sqrt (rve z) = s at hs h2 ⊢
  rw [div_eq_iff hv.ne', ← h2]
  field_simp

/-- The reference's sum of the gradient's terms is the gradient. -/
theorem rdz_ref (z w b g d : Fin 512 → ℝ) (n : Fin 512) :
    rdx z w b g d n * rinv z
      + (∑ k, (z k - rmean z) * rdx z w b g d k) * (-(1 / 2) * (rinv z / rve z)) / 512 * (2 * (z n - rmean z))
      + ((∑ k, -(rdx z w b g d k * rinv z))
        + ∑ k, -((∑ k, (z k - rmean z) * rdx z w b g d k) * (-(1 / 2) * (rinv z / rve z)) / 512 * (2 * (z k - rmean z)))) / 512
    = rdz z w b g d n := by
  have h1 : (∑ k, -(rdx z w b g d k * rinv z)) = -((∑ k, rdx z w b g d k) * rinv z) := by
    rw [Finset.sum_neg_distrib, ← Finset.sum_mul]
  have h2 : ∀ q : ℝ, (∑ k, -(q * (2 * (z k - rmean z)))) = 0 := fun q => by
    rw [Finset.sum_neg_distrib, ← Finset.mul_sum, ← Finset.mul_sum, sum_centred]; ring
  have h3 : (∑ k, rdx z w b g d k * rxh z k) = (∑ k, (z k - rmean z) * rdx z w b g d k) * rinv z := by
    rw [Finset.sum_mul]
    refine Finset.sum_congr rfl fun k _ => ?_
    unfold rxh; ring
  rw [h1, h2, rinv_cube]
  unfold rdz
  rw [h3]
  unfold rxh; ring

section
variable (x0 x1 x2 : (⟨S2048x512, .f32⟩ : BufTy).Contents (Elt Ideal)) (x3 : (⟨S31x512, .f32⟩ : BufTy).Contents (Elt Ideal))
  (x4 x5 x6 : (⟨S1x512, .f32⟩ : BufTy).Contents (Elt Ideal)) (x7 : (⟨S2048x512, .bf16⟩ : BufTy).Contents (Elt Ideal))
  (Z Gt Dm : Fin 2048 → Fin 512 → ℝ) (w b : Fin 512 → ℝ)
  (hz : ∀ p n, (val_main_v168 (F := Ideal) x0 x1 x3 x4 (ix2 p n) : EReal) = ((Z p n : ℝ) : EReal))
  (hg : ∀ p n, (x2 (ix2 p n) : EReal) = ((Gt p n : ℝ) : EReal)) (hd : ∀ p n, (x7 (ix2 p n) : EReal) = ((Dm p n : ℝ) : EReal))
  (hw : ∀ n, (x5 (ix2 (0 : Fin 1) n) : EReal) = ((w n : ℝ) : EReal)) (hb : ∀ n, (x6 (ix2 (0 : Fin 1) n) : EReal) = ((b n : ℝ) : EReal))

include hz in
theorem v174_real (p : Fin 2048) (n : Fin 512) : (val_main_v174 (F := Ideal) x0 x1 x3 x4 (ix2 p n) : EReal) = ((Z p n - rmean (Z p) : ℝ) : EReal) := by
  pointwise [val_main_v174, val_main_v173, val_main_v172, val_main_v171, val_main_v170, val_main_v169, val_main_cst_4, val_main_cst_5]
  simp only [hz, n512_eq, ← EReal.coe_mul, ← EReal.coe_neg, ← coe_sum]
  simp only [div_real _ (by norm_num : (512 : ℝ) ≠ 0), ← EReal.coe_mul, ← EReal.coe_sub, ← EReal.coe_add]
  rfl

include hz in
theorem v183_real (p : Fin 2048) (n : Fin 512) : (val_main_v183 (F := Ideal) x0 x1 x3 x4 (ix2 p n) : EReal) = ((Z p n - rmean (Z p) : ℝ) : EReal) := by
  pointwise [val_main_v183, val_main_v182, val_main_v172, val_main_v171, val_main_v170, val_main_v169, val_main_cst_4, val_main_cst_5]
  simp only [hz, n512_eq, ← EReal.coe_mul, ← EReal.coe_neg, ← coe_sum]
  simp only [div_real _ (by norm_num : (512 : ℝ) ≠ 0), ← EReal.coe_mul, ← EReal.coe_sub, ← EReal.coe_add]
  rfl

include hz in
theorem v185_real (p : Fin 2048) : (val_main_v185 (F := Ideal) x0 x1 x3 x4 (ix2 p (0 : Fin 1)) : EReal) = ((rve (Z p) : ℝ) : EReal) := by
  pointwise [val_main_v185, val_main_v184, val_main_v181, val_main_v180, val_main_v179, val_main_v178, val_main_v175, val_main_cst_7, val_main_cst_8, val_main_cst_9]
  simp only [v174_real x0 x1 x3 x4 Z hz, n512_eq, eps_eq, ← EReal.coe_mul, ← EReal.coe_neg, ← coe_sum]
  simp only [div_real _ (by norm_num : (512 : ℝ) ≠ 0), ← EReal.coe_mul, ← EReal.coe_sub, ← EReal.coe_add]
  rfl

include hz in
theorem v186_real (p : Fin 2048) : (val_main_v186 (F := Ideal) x0 x1 x3 x4 (ix2 p (0 : Fin 1)) : EReal) = ((rinv (Z p) : ℝ) : EReal) := by
  pointwise [val_main_v186]
  simp only [v185_real x0 x1 x3 x4 Z hz, ← EReal.coe_mul, ← EReal.coe_neg, ← coe_sum]
  rw [rsqrt_eq (rve_pos (Z p))]; rfl

include hz in
theorem v189_real (p : Fin 2048) : (val_main_v189 (F := Ideal) x0 x1 x3 x4 (ix2 p (0 : Fin 1)) : EReal) = ((-(1 / 2) * (rinv (Z p) / rve (Z p)) : ℝ) : EReal) := by
  pointwise [val_main_v189, val_main_v188, val_main_v187, val_main_cst_10]
  simp only [v185_real x0 x1 x3 x4 Z hz, v186_real x0 x1 x3 x4 Z hz, nhalf_eq, ← EReal.coe_mul, ← EReal.coe_neg, ← coe_sum]
  rw [div_real _ (ne_of_gt (rve_pos (Z p))), ← EReal.coe_mul]

include hz in
theorem v191_real (p : Fin 2048) (n : Fin 512) : (val_main_v191 (F := Ideal) x0 x1 x3 x4 (ix2 p n) : EReal) = ((rxh (Z p) n : ℝ) : EReal) := by
  pointwise [val_main_v191, val_main_v190]
  simp only [v183_real x0 x1 x3 x4 Z hz, v186_real x0 x1 x3 x4 Z hz, ← EReal.coe_mul, ← EReal.coe_neg, ← coe_sum]
  rfl

include hz hw hb in
theorem v195_real (p : Fin 2048) (n : Fin 512) : (val_main_v195 (F := Ideal) x0 x1 x3 x4 x5 x6 (ix2 p n) : EReal) = ((rln (Z p) w b n : ℝ) : EReal) := by
  pointwise [val_main_v195, val_main_v194, val_main_v193, val_main_v192]
  simp only [v191_real x0 x1 x3 x4 Z hz, hw, hb, ← EReal.coe_mul, ← EReal.coe_neg, ← coe_sum, ← EReal.coe_add]
  rfl

include hz hw hb in
theorem v196_2_real (p : Fin 2048) (n : Fin 512) : (val_main_v196_2 (F := Ideal) x0 x1 x3 x4 x5 x6 (ix2 p n) : EReal) = ((sgm (rln (Z p) w b n) : ℝ) : EReal) := by
  pointwise [val_main_v196_2, val_main_call0_v4, val_main_call0_v3, val_main_call0_v2, val_main_call0_v1, val_main_call0_v0, val_main_call0_cst, val_main_call0_cst_0]
  simp only [v195_real x0 x1 x3 x4 x5 x6 Z w b hz hw hb, ← EReal.coe_mul, ← EReal.coe_neg, ← coe_sum]
  rw [EReal.coe_neg, sgm_eq]

include hz hw hb in
theorem v196_1_real (p : Fin 2048) (n : Fin 512) : (val_main_v196_1 (F := Ideal) x0 x1 x3 x4 x5 x6 (ix2 p n) : EReal) = ((sgm (rln (Z p) w b n) * (1 - sgm (rln (Z p) w b n)) : ℝ) : EReal) := by
  pointwise [val_main_v196_1, val_main_call0_v7, val_main_call0_v6, val_main_call0_cst_1]
  simp only [v196_2_real x0 x1 x3 x4 x5 x6 Z w b hz hw hb, ← EReal.coe_mul, ← EReal.coe_neg, ← coe_sum, one_sub_real]
  done

include hz hw hb in
theorem v196_0_real (p : Fin 2048) (n : Fin 512) : (val_main_v196_0 (F := Ideal) x0 x1 x3 x4 x5 x6 (ix2 p n) : EReal) = ((rln (Z p) w b n * sgm (rln (Z p) w b n) : ℝ) : EReal) := by
  pointwise [val_main_v196_0]
  simp only [v195_real x0 x1 x3 x4 x5 x6 Z w b hz hw hb, v196_2_real x0 x1 x3 x4 x5 x6 Z w b hz hw hb, ← EReal.coe_mul, ← EReal.coe_neg, ← coe_sum]
  done

include hg in
theorem v197_2_real (p : Fin 2048) (n : Fin 512) : (val_main_v197_2 (F := Ideal) x2 (ix2 p n) : EReal) = ((sgm (Gt p n) : ℝ) : EReal) := by
  pointwise [val_main_v197_2, val_main_call1_v4, val_main_call1_v3, val_main_call1_v2, val_main_call1_v1, val_main_call1_v0, val_main_call1_cst, val_main_call1_cst_0]
  simp only [hg, ← EReal.coe_mul, ← EReal.coe_neg, ← coe_sum]
  rw [EReal.coe_neg, sgm_eq]

include hg in
theorem v197_1_real (p : Fin 2048) (n : Fin 512) : (val_main_v197_1 (F := Ideal) x2 (ix2 p n) : EReal) = ((sgm (Gt p n) * (1 - sgm (Gt p n)) : ℝ) : EReal) := by
  pointwise [val_main_v197_1, val_main_call1_v7, val_main_call1_v6, val_main_call1_cst_1]
  simp only [v197_2_real x2 Gt hg, ← EReal.coe_mul, ← EReal.coe_neg, ← coe_sum, one_sub_real]
  done

include hg in
theorem v197_0_real (p : Fin 2048) (n : Fin 512) : (val_main_v197_0 (F := Ideal) x2 (ix2 p n) : EReal) = ((Gt p n * sgm (Gt p n) : ℝ) : EReal) := by
  pointwise [val_main_v197_0]
  simp only [hg, v197_2_real x2 Gt hg, ← EReal.coe_mul, ← EReal.coe_neg, ← coe_sum]
  done

include hz hg hd hw hb in
theorem v203_real (p : Fin 2048) (n : Fin 512) : (val_main_v203 (F := Ideal) x0 x1 x2 x3 x4 x5 x6 x7 (ix2 p n) : EReal) = ((rdl (Z p) w b (Gt p) (Dm p) n : ℝ) : EReal) := by
  pointwise [val_main_v203, val_main_call3_v2, val_main_call3_v1, val_main_call3_v0, val_main_v201, val_main_v199]
  simp only [v195_real x0 x1 x3 x4 x5 x6 Z w b hz hw hb, v196_2_real x0 x1 x3 x4 x5 x6 Z w b hz hw hb, v196_1_real x0 x1 x3 x4 x5 x6 Z w b hz hw hb, v197_0_real x2 Gt hg, hd, ← EReal.coe_mul, ← EReal.coe_neg, ← coe_sum, ← EReal.coe_add]
  congr 1; unfold rdl; ring

include hz hg hd hw hb in
theorem v202_real (p : Fin 2048) (n : Fin 512) : (val_main_v202 (F := Ideal) x0 x1 x2 x3 x4 x5 x6 x7 (ix2 p n) : EReal) = ((rdg (Z p) w b (Gt p) (Dm p) n : ℝ) : EReal) := by
  pointwise [val_main_v202, val_main_call2_v2, val_main_call2_v1, val_main_call2_v0, val_main_v200, val_main_v199]
  simp only [hg, v196_0_real x0 x1 x3 x4 x5 x6 Z w b hz hw hb, v197_2_real x2 Gt hg, v197_1_real x2 Gt hg, hd, ← EReal.coe_mul, ← EReal.coe_neg, ← coe_sum, ← EReal.coe_add]
  congr 1; unfold rdg; ring

include hz hg hd hw hb in
theorem v205_real (n : Fin 512) : (val_main_v205 (F := Ideal) x0 x1 x2 x3 x4 x5 x6 x7 (ix2 (0 : Fin 1) n) : EReal) = ((∑ p, rdl (Z p) w b (Gt p) (Dm p) n : ℝ) : EReal) := by
  pointwise [val_main_v205, val_main_v204, val_main_cst_11]
  simp only [v203_real x0 x1 x2 x3 x4 x5 x6 x7 Z Gt Dm w b hz hg hd hw hb, ← EReal.coe_mul, ← EReal.coe_neg, ← coe_sum]
  done

include hz hg hd hw hb in
theorem v208_real (n : Fin 512) : (val_main_v208 (F := Ideal) x0 x1 x2 x3 x4 x5 x6 x7 (ix2 (0 : Fin 1) n) : EReal) = ((∑ p, rxh (Z p) n * rdl (Z p) w b (Gt p) (Dm p) n : ℝ) : EReal) := by
  pointwise [val_main_v208, val_main_v207, val_main_v206, val_main_cst_12]
  simp only [v203_real x0 x1 x2 x3 x4 x5 x6 x7 Z Gt Dm w b hz hg hd hw hb, v191_real x0 x1 x3 x4 Z hz, ← EReal.coe_mul, ← EReal.coe_neg, ← coe_sum]
  done

include hz hg hd hw hb in
theorem v210_real (p : Fin 2048) (n : Fin 512) : (val_main_v210 (F := Ideal) x0 x1 x2 x3 x4 x5 x6 x7 (ix2 p n) : EReal) = ((rdx (Z p) w b (Gt p) (Dm p) n : ℝ) : EReal) := by
  pointwise [val_main_v210, val_main_v209]
  simp only [v203_real x0 x1 x2 x3 x4 x5 x6 x7 Z Gt Dm w b hz hg hd hw hb, hw, ← EReal.coe_mul, ← EReal.coe_neg, ← coe_sum]
  rfl

include hz hg hd hw hb in
theorem v213_real (p : Fin 2048) : (val_main_v213 (F := Ideal) x0 x1 x2 x3 x4 x5 x6 x7 (ix2 p (0 : Fin 1)) : EReal) = ((∑ k, (Z p k - rmean (Z p)) * rdx (Z p) w b (Gt p) (Dm p) k : ℝ) : EReal) := by
  pointwise [val_main_v213, val_main_v212, val_main_v211, val_main_cst_13]
  simp only [v183_real x0 x1 x3 x4 Z hz, v210_real x0 x1 x2 x3 x4 x5 x6 x7 Z Gt Dm w b hz hg hd hw hb, ← EReal.coe_mul, ← EReal.coe_neg, ← coe_sum]
  done

include hz hg hd hw hb in
theorem v215_real (p : Fin 2048) (n : Fin 512) : (val_main_v215 (F := Ideal) x0 x1 x2 x3 x4 x5 x6 x7 (ix2 p n) : EReal) = ((rdx (Z p) w b (Gt p) (Dm p) n * rinv (Z p) : ℝ) : EReal) := by
  pointwise [val_main_v215, val_main_v214]
  simp only [v210_real x0 x1 x2 x3 x4 x5 x6 x7 Z Gt Dm w b hz hg hd hw hb, v186_real x0 x1 x3 x4 Z hz, ← EReal.coe_mul, ← EReal.coe_neg, ← coe_sum]
  done

include hz hg hd hw hb in
theorem v219_real (p : Fin 2048) : (val_main_v219 (F := Ideal) x0 x1 x2 x3 x4 x5 x6 x7 (ix2 p (0 : Fin 1)) : EReal) = ((∑ k, -(rdx (Z p) w b (Gt p) (Dm p) k * rinv (Z p)) : ℝ) : EReal) := by
  pointwise [val_main_v219, val_main_v218, val_main_v217, val_main_cst_14]
  simp only [v215_real x0 x1 x2 x3 x4 x5 x6 x7 Z Gt Dm w b hz hg hd hw hb, ← EReal.coe_mul, ← EReal.coe_neg, ← coe_sum]
  done

include hz hg hd hw hb in
theorem v221_real (p : Fin 2048) : (val_main_v221 (F := Ideal) x0 x1 x2 x3 x4 x5 x6 x7 (ix2 p (0 : Fin 1)) : EReal) = ((((∑ k, (Z p k - rmean (Z p)) * rdx (Z p) w b (Gt p) (Dm p) k) * (-(1 / 2) * (rinv (Z p) / rve (Z p))) / 512) : ℝ) : EReal) := by
  pointwise [val_main_v221, val_main_v220, val_main_v216, val_main_cst_15]
  simp only [v213_real x0 x1 x2 x3 x4 x5 x6 x7 Z Gt Dm w b hz hg hd hw hb, v189_real x0 x1 x3 x4 Z hz, n512_eq, ← EReal.coe_mul, ← EReal.coe_neg, ← coe_sum]
  rw [div_real _ (by norm_num : (512 : ℝ) ≠ 0)]

include hz hg hd hw hb in
theorem v224_real (p : Fin 2048) (n : Fin 512) : (val_main_v224 (F := Ideal) x0 x1 x2 x3 x4 x5 x6 x7 (ix2 p n) : EReal) = ((((∑ k, (Z p k - rmean (Z p)) * rdx (Z p) w b (Gt p) (Dm p) k) * (-(1 / 2) * (rinv (Z p) / rve (Z p))) / 512) * (2 * (Z p n - rmean (Z p))) : ℝ) : EReal) := by
  pointwise [val_main_v224, val_main_v223, val_main_v222, val_main_cst_16, val_main_v177, val_main_v176, val_main_cst_6]
  simp only [Fin.sum_univ_one, v221_real x0 x1 x2 x3 x4 x5 x6 x7 Z Gt Dm w b hz hg hd hw hb, v174_real x0 x1 x3 x4 Z hz, two_eq, ← EReal.coe_mul, ← EReal.coe_neg, ← coe_sum]
  done

include hz hg hd hw hb in
theorem v227_real (p : Fin 2048) : (val_main_v227 (F := Ideal) x0 x1 x2 x3 x4 x5 x6 x7 (ix2 p (0 : Fin 1)) : EReal) = ((∑ k, -(((∑ k, (Z p k - rmean (Z p)) * rdx (Z p) w b (Gt p) (Dm p) k) * (-(1 / 2) * (rinv (Z p) / rve (Z p))) / 512) * (2 * (Z p k - rmean (Z p)))) : ℝ) : EReal) := by
  pointwise [val_main_v227, val_main_v226, val_main_v225, val_main_cst_17]
  simp only [v224_real x0 x1 x2 x3 x4 x5 x6 x7 Z Gt Dm w b hz hg hd hw hb, ← EReal.coe_mul, ← EReal.coe_neg, ← coe_sum]
  done

include hz hg hd hw hb in
theorem v231_real (p : Fin 2048) : (val_main_v231 (F := Ideal) x0 x1 x2 x3 x4 x5 x6 x7 (ix2 p (0 : Fin 1)) : EReal) = ((((∑ k, -(rdx (Z p) w b (Gt p) (Dm p) k * rinv (Z p))) + ∑ k, -(((∑ k, (Z p k - rmean (Z p)) * rdx (Z p) w b (Gt p) (Dm p) k) * (-(1 / 2) * (rinv (Z p) / rve (Z p))) / 512) * (2 * (Z p k - rmean (Z p))))) / 512 : ℝ) : EReal) := by
  pointwise [val_main_v231, val_main_v230, val_main_v229, val_main_cst_18]
  simp only [v219_real x0 x1 x2 x3 x4 x5 x6 x7 Z Gt Dm w b hz hg hd hw hb, v227_real x0 x1 x2 x3 x4 x5 x6 x7 Z Gt Dm w b hz hg hd hw hb, n512_eq, ← EReal.coe_mul, ← EReal.coe_neg, ← coe_sum, ← EReal.coe_add]
  rw [div_real _ (by norm_num : (512 : ℝ) ≠ 0)]

include hz hg hd hw hb in
theorem v234_real (p : Fin 2048) (n : Fin 512) : (val_main_v234 (F := Ideal) x0 x1 x2 x3 x4 x5 x6 x7 (ix2 p n) : EReal) = ((rdz (Z p) w b (Gt p) (Dm p) n : ℝ) : EReal) := by
  pointwise [val_main_v234, val_main_v233, val_main_v232, val_main_cst_19, val_main_v228]
  simp only [Fin.sum_univ_one, v231_real x0 x1 x2 x3 x4 x5 x6 x7 Z Gt Dm w b hz hg hd hw hb, v224_real x0 x1 x2 x3 x4 x5 x6 x7 Z Gt Dm w b hz hg hd hw hb, v215_real x0 x1 x2 x3 x4 x5 x6 x7 Z Gt Dm w b hz hg hd hw hb, ← EReal.coe_mul, ← EReal.coe_neg, ← coe_sum, ← EReal.coe_add]
  rw [rdz_ref]

include hz hg hd hw hb in
theorem v236_real (n : Fin 512) : (val_main_v236 (F := Ideal) x0 x1 x2 x3 x4 x5 x6 x7 (ix2 (0 : Fin 1) n) : EReal) = ((∑ p, rdz (Z p) w b (Gt p) (Dm p) n : ℝ) : EReal) := by
  pointwise [val_main_v236, val_main_v235, val_main_cst_20]
  simp only [v234_real x0 x1 x2 x3 x4 x5 x6 x7 Z Gt Dm w b hz hg hd hw hb, ← EReal.coe_mul, ← EReal.coe_neg, ← coe_sum]
  done

end

end Cert.Proof.Conv

end
-- ==== Proof.ConvFinite.lean ====
/-
  Every number the convolution's backward call is given is finite, and so is the convolution's output.
-/
module

public import proofs.«01_k».proof.Proof.ConvReal
public import proofs.«01_k».proof.Proof.Gen.ReferenceIdeal.Read
public import proofs.«01_k».proof.Proof.Gen.Pre_finite
public import proofs.«01_k».proof.Defs

@[expose] public section

set_option maxRecDepth 16384

noncomputable section

namespace Cert.Proof.Conv

open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- An extended real that is a number. -/
def IsNum (x : EReal) : Prop := ∃ r : ℝ, x = (r : EReal)

theorem isNum_add {a b : EReal} (ha : IsNum a) (hb : IsNum b) : IsNum (a + b) := by
  obtain ⟨x, rfl⟩ := ha; obtain ⟨y, rfl⟩ := hb; exact ⟨x + y, rfl⟩

theorem isNum_mul {a b : EReal} (ha : IsNum a) (hb : IsNum b) : IsNum (a * b) := by
  obtain ⟨x, rfl⟩ := ha; obtain ⟨y, rfl⟩ := hb; exact ⟨x * y, rfl⟩

/-- A number whose magnitude compares below infinity is finite. -/
theorem isNum_of_abs {x : EReal} (h : max x (-x) < ⊤) : IsNum x := by
  induction x using EReal.rec with
  | bot => simp at h
  | top => simp at h
  | coe r => exact ⟨r, rfl⟩

theorem inf_eq : (Ideal.ofBits .f32 0x7F800000#32 : EReal) = ⊤ := by
  simp [Ideal.ofBits, Ideal.ieee]

/-- An array that is a table of numbers. -/
theorem table {R : Nat} {X : (⟨2, ![R, 512]⟩ : Shape).Idx → EReal} (h : ∀ i, IsNum (X i)) :
    ∃ T : Fin R → Fin 512 → ℝ, ∀ p n, X (ix2 p n) = ((T p n : ℝ) : EReal) :=
  ⟨fun p n => (h (ix2 p n)).choose, fun p n => (h (ix2 p n)).choose_spec⟩

section
variable (x0 x1 : (⟨S2048x512, .f32⟩ : BufTy).Contents (Elt Ideal)) (x3 : (⟨S31x512, .f32⟩ : BufTy).Contents (Elt Ideal))
  (x4 : (⟨S1x512, .f32⟩ : BufTy).Contents (Elt Ideal)) (A U : Fin 2048 → Fin 512 → ℝ)
  (h0 : ∀ p n, x0 (ix2 p n) = ((A p n : ℝ) : EReal)) (h1 : ∀ p n, x1 (ix2 p n) = ((U p n : ℝ) : EReal))

include h0 h1
/-- The gated input, at an entry. -/
theorem v9_real (p : Fin 2048) (n : Fin 512) :
    (val_main_v9 (F := Ideal) x0 x1 (ix2 p n) : EReal) = ((A p n * sgm (U p n) : ℝ) : EReal) := by
  pointwise [val_main_v9, val_main_v5, val_main_v4, val_main_v3, val_main_v2, val_main_v1, val_main_v0, val_main_cst, val_main_cst_0]
  rw [h0, h1]
  first
    | rw [zero_sub, sgm_eq, ← EReal.coe_mul]
    | rw [sgm_eq, ← EReal.coe_mul]

/-- The gated input with its zero rows in front, at an entry. -/
theorem v11_real (q : Fin 2078) (n : Fin 512) :
    (val_main_v11 (F := Ideal) x0 x1 (ix2 q n) : EReal)
      = ((if h : 30 ≤ q.val then A ⟨q.val - 30, by omega⟩ n * sgm (U ⟨q.val - 30, by omega⟩ n) else 0 : ℝ) : EReal) := by
  unfold val_main_v11
  by_cases h : 30 ≤ q.val
  · rw [dif_pos h]
    refine Eq.trans ?_ (v9_real x0 x1 A U h0 h1 ⟨q.val - 30, by omega⟩ n)
    generalize val_main_v9 (F := Ideal) x0 x1 = y
    pointwise
    rw [dif_neg (by omega)]
  · rw [dif_neg h]
    pointwise
    rw [dif_pos (by omega)]
    pointwise [val_main_v10, val_main_cst_2]
    rfl

theorem v11_num (i) : IsNum (val_main_v11 (F := Ideal) x0 x1 i) := by
  have e : i = ix2 (i 0) (i 1) := by
    funext a; match a with
    | ⟨0, _⟩ => rfl
    | ⟨1, _⟩ => rfl
  rw [e]
  exact ⟨_, v11_real x0 x1 A U h0 h1 (i 0) (i 1)⟩

/-- The convolution's output is a table of numbers. -/
theorem v168_num (h3 : ∀ i, IsNum (x3 i)) (h4 : ∀ i, IsNum (x4 i)) (p : Fin 2048) (n : Fin 512) :
    IsNum (val_main_v168 (F := Ideal) x0 x1 x3 x4 (ix2 p n)) := by
  have h11 := v11_num x0 x1 A U h0 h1
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168]
  generalize val_main_v11 (F := Ideal) x0 x1 = y at h11
  repeat' first
    | exact h11 _
    | exact h3 _
    | exact h4 _
    | apply isNum_add
    | apply isNum_mul
end

/-- What the precondition says of the memory: every argument is a table of numbers. -/
theorem args_num (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, IsNum (m ((c.tc : Thread Cert.KernelIdeal.nD Cert.KernelIdeal.τ).loc Cert.KernelIdeal.main_arg0) i))
    ∧ (∀ i, IsNum (m ((c.tc : Thread Cert.KernelIdeal.nD Cert.KernelIdeal.τ).loc Cert.KernelIdeal.main_arg1) i))
    ∧ (∀ i, IsNum (m ((c.tc : Thread Cert.KernelIdeal.nD Cert.KernelIdeal.τ).loc Cert.KernelIdeal.main_arg2) i))
    ∧ (∀ i, IsNum (m ((c.tc : Thread Cert.KernelIdeal.nD Cert.KernelIdeal.τ).loc Cert.KernelIdeal.main_arg3) i))
    ∧ (∀ i, IsNum (m ((c.tc : Thread Cert.KernelIdeal.nD Cert.KernelIdeal.τ).loc Cert.KernelIdeal.main_arg4) i))
    ∧ (∀ i, IsNum (m ((c.tc : Thread Cert.KernelIdeal.nD Cert.KernelIdeal.τ).loc Cert.KernelIdeal.main_arg5) i))
    ∧ (∀ i, IsNum (m ((c.tc : Thread Cert.KernelIdeal.nD Cert.KernelIdeal.τ).loc Cert.KernelIdeal.main_arg6) i))
    ∧ (∀ i, IsNum (m ((c.tc : Thread Cert.KernelIdeal.nD Cert.KernelIdeal.τ).loc Cert.KernelIdeal.main_arg7) i))
    := by
  obtain ⟨g0, g1, g2, g3, g4, g5, g6, g7⟩ := h c
  have key : ∀ x : EReal, BitVec.ofBool (decide (max x (-x) < (Ideal.ofBits .f32 0x7F800000#32 : EReal))) = 1#1 → IsNum x := by
    intro x hx
    rw [inf_eq] at hx
    by_cases hl : max x (-x) < ⊤
    · exact isNum_of_abs hl
    · rw [decide_eq_false hl] at hx; exact absurd hx (by decide)
  refine ⟨?_, ?_, ?_, ?_, ?_, ?_, ?_, ?_⟩
  · intro i
    have q := congrFun g0 i
    unfold Cert.Pre_finite.fn Cert.Pre_finite.fn_part1 at q
    dsimp only at q
    pointwise at q
    exact key _ q
  · intro i
    have q := congrFun g1 i
    unfold Cert.Pre_finite.fn Cert.Pre_finite.fn_part1 at q
    dsimp only at q
    pointwise at q
    exact key _ q
  · intro i
    have q := congrFun g2 i
    unfold Cert.Pre_finite.fn Cert.Pre_finite.fn_part1 at q
    dsimp only at q
    pointwise at q
    exact key _ q
  · intro i
    have q := congrFun g3 i
    unfold Cert.Pre_finite.fn Cert.Pre_finite.fn_part1 at q
    dsimp only at q
    pointwise at q
    exact key _ q
  · intro i
    have q := congrFun g4 i
    unfold Cert.Pre_finite.fn Cert.Pre_finite.fn_part1 at q
    dsimp only at q
    pointwise at q
    exact key _ q
  · intro i
    have q := congrFun g5 i
    unfold Cert.Pre_finite.fn Cert.Pre_finite.fn_part1 at q
    dsimp only at q
    pointwise at q
    exact key _ q
  · intro i
    have q := congrFun g6 i
    unfold Cert.Pre_finite.fn Cert.Pre_finite.fn_part1 at q
    dsimp only at q
    pointwise at q
    exact key _ q
  · intro i
    have q := congrFun g7 i
    unfold Cert.Pre_finite.fn Cert.Pre_finite.fn_part1 at q
    dsimp only at q
    pointwise at q
    exact key _ q

end Cert.Proof.Conv

end
-- ==== Proof.ConvRefTaps.lean ====
/-
  The reference's gradient through the convolution: at the gated input, one padded term a tap, and at the taps, one padded
  column sum a tap.
-/
module

public import proofs.«01_k».proof.Proof.ConvRefNorm
public import proofs.«01_k».proof.Proof.ConvFinite
public import Idealize.ShloMosaic.Lib.KernelVsHost

@[expose] public section

set_option maxRecDepth 16384

noncomputable section

namespace Cert.Proof.Conv

open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The 31 taps' terms, from the last to the first. -/
theorem sum31 (f : Fin 31 → ℝ) :
    f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 = ∑ j, f j := by
  rw [Fin.sum_univ_def, show List.finRange 31 = [0, 1, 2, 3, 4, 5, 6, 7, 8, 9, 10, 11, 12, 13, 14, 15, 16, 17, 18, 19, 20, 21, 22, 23, 24, 25, 26, 27, 28, 29, 30] from by decide]
  simp only [List.map_cons, List.map_nil, List.sum_cons, List.sum_nil]
  ring

/-- A padded array of rows, at an entry. -/
theorem pad_rows {α : Type} {R Q : Nat} (lo hi : Nat) (x : (⟨2, ![R, 512]⟩ : Shape).Idx → α) {u : Shape} (v : u.Idx → α)
    (h : (⟨2, ![R, 512]⟩ : Shape).Pads (![lo, 0] : Fin 2 → Nat) ![hi, 0] ![0, 0] (⟨2, ![Q, 512]⟩ : Shape)) (hu : 0 < u.numel)
    (q : Fin Q) (n : Fin 512) :
    pad (⟨2, ![Q, 512]⟩ : Shape) ![lo, 0] ![hi, 0] ![0, 0] x v h hu (ix2 q n)
      = if g : lo ≤ q.val ∧ q.val < lo + R then x (ix2 ⟨q.val - lo, by omega⟩ n) else v (Shape.Idx.first hu) := by
  by_cases g : lo ≤ q.val ∧ q.val < lo + R
  · rw [dif_pos g]
    refine pad_apply_of_inside _ _ _ x v h hu _ _ (fun a => ?_)
    match a with
    | ⟨0, _⟩ => show q.val = lo + (q.val - lo) * (0 + 1); omega
    | ⟨1, _⟩ => show n.val = 0 + n.val * (0 + 1); omega
  · rw [dif_neg g]
    refine pad_apply_of_not_inside _ _ _ x v h hu _ (0 : Fin 2) ?_
    show ¬(lo ≤ q.val ∧ (q.val - lo) % (0 + 1) = 0 ∧ (q.val - lo) / (0 + 1) < R)
    intro hc; apply g; omega

/-- A tap's term at a row of the padded gradient. -/
def padTerm (Dz : Fin 2048 → Fin 512 → ℝ) (W : Fin 31 → Fin 512 → ℝ) (j : Fin 31) (q : Fin 2078) (n : Fin 512) : ℝ :=
  if h : j.val ≤ q.val ∧ q.val < j.val + 2048 then Dz ⟨q.val - j.val, by omega⟩ n * W j n else 0

theorem pad_term {R Q : Nat} (lo hi : Nat) (x : (⟨2, ![R, 512]⟩ : Shape).Idx → EReal) (X : Fin R → Fin 512 → ℝ)
    (hx : ∀ p n, x (ix2 p n) = ((X p n : ℝ) : EReal)) {u : Shape} (v : u.Idx → EReal) (hv : ∀ i, v i = ((0 : ℝ) : EReal))
    (h : (⟨2, ![R, 512]⟩ : Shape).Pads (![lo, 0] : Fin 2 → Nat) ![hi, 0] ![0, 0] (⟨2, ![Q, 512]⟩ : Shape)) (hu : 0 < u.numel)
    (q : Fin Q) (n : Fin 512) :
    pad (⟨2, ![Q, 512]⟩ : Shape) ![lo, 0] ![hi, 0] ![0, 0] x v h hu (ix2 q n)
      = ((if g : lo ≤ q.val ∧ q.val < lo + R then X ⟨q.val - lo, by omega⟩ n else 0 : ℝ) : EReal) := by
  rw [pad_rows]
  by_cases g : lo ≤ q.val ∧ q.val < lo + R
  · rw [dif_pos g, dif_pos g, hx]
  · rw [dif_neg g, dif_neg g, hv]

/-- A tap's column sum: the gated input, with its zero rows in front, shifted by the tap, against the gradient. -/
def tapSum (V : Fin 2078 → Fin 512 → ℝ) (Dz : Fin 2048 → Fin 512 → ℝ) (j : Fin 31) (n : Fin 512) : ℝ :=
  ∑ p : Fin 2048, V ⟨p.val + j.val, by omega⟩ n * Dz p n

section
variable (x0 x1 x2 : (⟨S2048x512, .f32⟩ : BufTy).Contents (Elt Ideal)) (x3 : (⟨S31x512, .f32⟩ : BufTy).Contents (Elt Ideal))
  (x4 x5 x6 : (⟨S1x512, .f32⟩ : BufTy).Contents (Elt Ideal)) (x7 : (⟨S2048x512, .bf16⟩ : BufTy).Contents (Elt Ideal))
  (Dz : Fin 2048 → Fin 512 → ℝ) (W : Fin 31 → Fin 512 → ℝ) (V : Fin 2078 → Fin 512 → ℝ)
  (hD : ∀ p n, (val_main_v234 (F := Ideal) x0 x1 x2 x3 x4 x5 x6 x7 (ix2 p n) : EReal) = ((Dz p n : ℝ) : EReal))
  (hW : ∀ j n, (x3 (ix2 j n) : EReal) = ((W j n : ℝ) : EReal))
  (hV : ∀ q n, (val_main_v11 (F := Ideal) x0 x1 (ix2 q n) : EReal) = ((V q n : ℝ) : EReal))

include hD hW
theorem term30 (q : Fin 2078) (n : Fin 512) : (val_main_v243 (F := Ideal) x0 x1 x2 x3 x4 x5 x6 x7 (ix2 q n) : EReal) = ((padTerm Dz W 30 q n : ℝ) : EReal) :=
  pad_term 30 0 _ (fun p n => Dz p n * W 30 n) (fun p n => by
    pointwise [val_main_v241, val_main_v240, val_main_v163]; rw [hD, EReal.coe_mul]; congr 1; exact hW 30 n) _ (fun _ => zero_eq) _ _ q n
theorem term29 (q : Fin 2078) (n : Fin 512) : (val_main_v251 (F := Ideal) x0 x1 x2 x3 x4 x5 x6 x7 (ix2 q n) : EReal) = ((padTerm Dz W 29 q n : ℝ) : EReal) :=
  pad_term 29 1 _ (fun p n => Dz p n * W 29 n) (fun p n => by
    pointwise [val_main_v248, val_main_v247, val_main_v158]; rw [hD, EReal.coe_mul]; congr 1; exact hW 29 n) _ (fun _ => zero_eq) _ _ q n
theorem term28 (q : Fin 2078) (n : Fin 512) : (val_main_v260 (F := Ideal) x0 x1 x2 x3 x4 x5 x6 x7 (ix2 q n) : EReal) = ((padTerm Dz W 28 q n : ℝ) : EReal) :=
  pad_term 28 2 _ (fun p n => Dz p n * W 28 n) (fun p n => by
    pointwise [val_main_v257, val_main_v256, val_main_v153]; rw [hD, EReal.coe_mul]; congr 1; exact hW 28 n) _ (fun _ => zero_eq) _ _ q n
theorem term27 (q : Fin 2078) (n : Fin 512) : (val_main_v269 (F := Ideal) x0 x1 x2 x3 x4 x5 x6 x7 (ix2 q n) : EReal) = ((padTerm Dz W 27 q n : ℝ) : EReal) :=
  pad_term 27 3 _ (fun p n => Dz p n * W 27 n) (fun p n => by
    pointwise [val_main_v266, val_main_v265, val_main_v148]; rw [hD, EReal.coe_mul]; congr 1; exact hW 27 n) _ (fun _ => zero_eq) _ _ q n
theorem term26 (q : Fin 2078) (n : Fin 512) : (val_main_v278 (F := Ideal) x0 x1 x2 x3 x4 x5 x6 x7 (ix2 q n) : EReal) = ((padTerm Dz W 26 q n : ℝ) : EReal) :=
  pad_term 26 4 _ (fun p n => Dz p n * W 26 n) (fun p n => by
    pointwise [val_main_v275, val_main_v274, val_main_v143]; rw [hD, EReal.coe_mul]; congr 1; exact hW 26 n) _ (fun _ => zero_eq) _ _ q n
theorem term25 (q : Fin 2078) (n : Fin 512) : (val_main_v287 (F := Ideal) x0 x1 x2 x3 x4 x5 x6 x7 (ix2 q n) : EReal) = ((padTerm Dz W 25 q n : ℝ) : EReal) :=
  pad_term 25 5 _ (fun p n => Dz p n * W 25 n) (fun p n => by
    pointwise [val_main_v284, val_main_v283, val_main_v138]; rw [hD, EReal.coe_mul]; congr 1; exact hW 25 n) _ (fun _ => zero_eq) _ _ q n
theorem term24 (q : Fin 2078) (n : Fin 512) : (val_main_v296 (F := Ideal) x0 x1 x2 x3 x4 x5 x6 x7 (ix2 q n) : EReal) = ((padTerm Dz W 24 q n : ℝ) : EReal) :=
  pad_term 24 6 _ (fun p n => Dz p n * W 24 n) (fun p n => by
    pointwise [val_main_v293, val_main_v292, val_main_v133]; rw [hD, EReal.coe_mul]; congr 1; exact hW 24 n) _ (fun _ => zero_eq) _ _ q n
theorem term23 (q : Fin 2078) (n : Fin 512) : (val_main_v305 (F := Ideal) x0 x1 x2 x3 x4 x5 x6 x7 (ix2 q n) : EReal) = ((padTerm Dz W 23 q n : ℝ) : EReal) :=
  pad_term 23 7 _ (fun p n => Dz p n * W 23 n) (fun p n => by
    pointwise [val_main_v302, val_main_v301, val_main_v128]; rw [hD, EReal.coe_mul]; congr 1; exact hW 23 n) _ (fun _ => zero_eq) _ _ q n
theorem term22 (q : Fin 2078) (n : Fin 512) : (val_main_v314 (F := Ideal) x0 x1 x2 x3 x4 x5 x6 x7 (ix2 q n) : EReal) = ((padTerm Dz W 22 q n : ℝ) : EReal) :=
  pad_term 22 8 _ (fun p n => Dz p n * W 22 n) (fun p n => by
    pointwise [val_main_v311, val_main_v310, val_main_v123]; rw [hD, EReal.coe_mul]; congr 1; exact hW 22 n) _ (fun _ => zero_eq) _ _ q n
theorem term21 (q : Fin 2078) (n : Fin 512) : (val_main_v323 (F := Ideal) x0 x1 x2 x3 x4 x5 x6 x7 (ix2 q n) : EReal) = ((padTerm Dz W 21 q n : ℝ) : EReal) :=
  pad_term 21 9 _ (fun p n => Dz p n * W 21 n) (fun p n => by
    pointwise [val_main_v320, val_main_v319, val_main_v118]; rw [hD, EReal.coe_mul]; congr 1; exact hW 21 n) _ (fun _ => zero_eq) _ _ q n
theorem term20 (q : Fin 2078) (n : Fin 512) : (val_main_v332 (F := Ideal) x0 x1 x2 x3 x4 x5 x6 x7 (ix2 q n) : EReal) = ((padTerm Dz W 20 q n : ℝ) : EReal) :=
  pad_term 20 10 _ (fun p n => Dz p n * W 20 n) (fun p n => by
    pointwise [val_main_v329, val_main_v328, val_main_v113]; rw [hD, EReal.coe_mul]; congr 1; exact hW 20 n) _ (fun _ => zero_eq) _ _ q n
theorem term19 (q : Fin 2078) (n : Fin 512) : (val_main_v341 (F := Ideal) x0 x1 x2 x3 x4 x5 x6 x7 (ix2 q n) : EReal) = ((padTerm Dz W 19 q n : ℝ) : EReal) :=
  pad_term 19 11 _ (fun p n => Dz p n * W 19 n) (fun p n => by
    pointwise [val_main_v338, val_main_v337, val_main_v108]; rw [hD, EReal.coe_mul]; congr 1; exact hW 19 n) _ (fun _ => zero_eq) _ _ q n
theorem term18 (q : Fin 2078) (n : Fin 512) : (val_main_v350 (F := Ideal) x0 x1 x2 x3 x4 x5 x6 x7 (ix2 q n) : EReal) = ((padTerm Dz W 18 q n : ℝ) : EReal) :=
  pad_term 18 12 _ (fun p n => Dz p n * W 18 n) (fun p n => by
    pointwise [val_main_v347, val_main_v346, val_main_v103]; rw [hD, EReal.coe_mul]; congr 1; exact hW 18 n) _ (fun _ => zero_eq) _ _ q n
theorem term17 (q : Fin 2078) (n : Fin 512) : (val_main_v359 (F := Ideal) x0 x1 x2 x3 x4 x5 x6 x7 (ix2 q n) : EReal) = ((padTerm Dz W 17 q n : ℝ) : EReal) :=
  pad_term 17 13 _ (fun p n => Dz p n * W 17 n) (fun p n => by
    pointwise [val_main_v356, val_main_v355, val_main_v98]; rw [hD, EReal.coe_mul]; congr 1; exact hW 17 n) _ (fun _ => zero_eq) _ _ q n
theorem term16 (q : Fin 2078) (n : Fin 512) : (val_main_v368 (F := Ideal) x0 x1 x2 x3 x4 x5 x6 x7 (ix2 q n) : EReal) = ((padTerm Dz W 16 q n : ℝ) : EReal) :=
  pad_term 16 14 _ (fun p n => Dz p n * W 16 n) (fun p n => by
    pointwise [val_main_v365, val_main_v364, val_main_v93]; rw [hD, EReal.coe_mul]; congr 1; exact hW 16 n) _ (fun _ => zero_eq) _ _ q n
theorem term15 (q : Fin 2078) (n : Fin 512) : (val_main_v377 (F := Ideal) x0 x1 x2 x3 x4 x5 x6 x7 (ix2 q n) : EReal) = ((padTerm Dz W 15 q n : ℝ) : EReal) :=
  pad_term 15 15 _ (fun p n => Dz p n * W 15 n) (fun p n => by
    pointwise [val_main_v374, val_main_v373, val_main_v88]; rw [hD, EReal.coe_mul]; congr 1; exact hW 15 n) _ (fun _ => zero_eq) _ _ q n
theorem term14 (q : Fin 2078) (n : Fin 512) : (val_main_v386 (F := Ideal) x0 x1 x2 x3 x4 x5 x6 x7 (ix2 q n) : EReal) = ((padTerm Dz W 14 q n : ℝ) : EReal) :=
  pad_term 14 16 _ (fun p n => Dz p n * W 14 n) (fun p n => by
    pointwise [val_main_v383, val_main_v382, val_main_v83]; rw [hD, EReal.coe_mul]; congr 1; exact hW 14 n) _ (fun _ => zero_eq) _ _ q n
theorem term13 (q : Fin 2078) (n : Fin 512) : (val_main_v395 (F := Ideal) x0 x1 x2 x3 x4 x5 x6 x7 (ix2 q n) : EReal) = ((padTerm Dz W 13 q n : ℝ) : EReal) :=
  pad_term 13 17 _ (fun p n => Dz p n * W 13 n) (fun p n => by
    pointwise [val_main_v392, val_main_v391, val_main_v78]; rw [hD, EReal.coe_mul]; congr 1; exact hW 13 n) _ (fun _ => zero_eq) _ _ q n
theorem term12 (q : Fin 2078) (n : Fin 512) : (val_main_v404 (F := Ideal) x0 x1 x2 x3 x4 x5 x6 x7 (ix2 q n) : EReal) = ((padTerm Dz W 12 q n : ℝ) : EReal) :=
  pad_term 12 18 _ (fun p n => Dz p n * W 12 n) (fun p n => by
    pointwise [val_main_v401, val_main_v400, val_main_v73]; rw [hD, EReal.coe_mul]; congr 1; exact hW 12 n) _ (fun _ => zero_eq) _ _ q n
theorem term11 (q : Fin 2078) (n : Fin 512) : (val_main_v413 (F := Ideal) x0 x1 x2 x3 x4 x5 x6 x7 (ix2 q n) : EReal) = ((padTerm Dz W 11 q n : ℝ) : EReal) :=
  pad_term 11 19 _ (fun p n => Dz p n * W 11 n) (fun p n => by
    pointwise [val_main_v410, val_main_v409, val_main_v68]; rw [hD, EReal.coe_mul]; congr 1; exact hW 11 n) _ (fun _ => zero_eq) _ _ q n
theorem term10 (q : Fin 2078) (n : Fin 512) : (val_main_v422 (F := Ideal) x0 x1 x2 x3 x4 x5 x6 x7 (ix2 q n) : EReal) = ((padTerm Dz W 10 q n : ℝ) : EReal) :=
  pad_term 10 20 _ (fun p n => Dz p n * W 10 n) (fun p n => by
    pointwise [val_main_v419, val_main_v418, val_main_v63]; rw [hD, EReal.coe_mul]; congr 1; exact hW 10 n) _ (fun _ => zero_eq) _ _ q n
theorem term9 (q : Fin 2078) (n : Fin 512) : (val_main_v431 (F := Ideal) x0 x1 x2 x3 x4 x5 x6 x7 (ix2 q n) : EReal) = ((padTerm Dz W 9 q n : ℝ) : EReal) :=
  pad_term 9 21 _ (fun p n => Dz p n * W 9 n) (fun p n => by
    pointwise [val_main_v428, val_main_v427, val_main_v58]; rw [hD, EReal.coe_mul]; congr 1; exact hW 9 n) _ (fun _ => zero_eq) _ _ q n
theorem term8 (q : Fin 2078) (n : Fin 512) : (val_main_v440 (F := Ideal) x0 x1 x2 x3 x4 x5 x6 x7 (ix2 q n) : EReal) = ((padTerm Dz W 8 q n : ℝ) : EReal) :=
  pad_term 8 22 _ (fun p n => Dz p n * W 8 n) (fun p n => by
    pointwise [val_main_v437, val_main_v436, val_main_v53]; rw [hD, EReal.coe_mul]; congr 1; exact hW 8 n) _ (fun _ => zero_eq) _ _ q n
theorem term7 (q : Fin 2078) (n : Fin 512) : (val_main_v449 (F := Ideal) x0 x1 x2 x3 x4 x5 x6 x7 (ix2 q n) : EReal) = ((padTerm Dz W 7 q n : ℝ) : EReal) :=
  pad_term 7 23 _ (fun p n => Dz p n * W 7 n) (fun p n => by
    pointwise [val_main_v446, val_main_v445, val_main_v48]; rw [hD, EReal.coe_mul]; congr 1; exact hW 7 n) _ (fun _ => zero_eq) _ _ q n
theorem term6 (q : Fin 2078) (n : Fin 512) : (val_main_v458 (F := Ideal) x0 x1 x2 x3 x4 x5 x6 x7 (ix2 q n) : EReal) = ((padTerm Dz W 6 q n : ℝ) : EReal) :=
  pad_term 6 24 _ (fun p n => Dz p n * W 6 n) (fun p n => by
    pointwise [val_main_v455, val_main_v454, val_main_v43]; rw [hD, EReal.coe_mul]; congr 1; exact hW 6 n) _ (fun _ => zero_eq) _ _ q n
theorem term5 (q : Fin 2078) (n : Fin 512) : (val_main_v467 (F := Ideal) x0 x1 x2 x3 x4 x5 x6 x7 (ix2 q n) : EReal) = ((padTerm Dz W 5 q n : ℝ) : EReal) :=
  pad_term 5 25 _ (fun p n => Dz p n * W 5 n) (fun p n => by
    pointwise [val_main_v464, val_main_v463, val_main_v38]; rw [hD, EReal.coe_mul]; congr 1; exact hW 5 n) _ (fun _ => zero_eq) _ _ q n
theorem term4 (q : Fin 2078) (n : Fin 512) : (val_main_v476 (F := Ideal) x0 x1 x2 x3 x4 x5 x6 x7 (ix2 q n) : EReal) = ((padTerm Dz W 4 q n : ℝ) : EReal) :=
  pad_term 4 26 _ (fun p n => Dz p n * W 4 n) (fun p n => by
    pointwise [val_main_v473, val_main_v472, val_main_v33]; rw [hD, EReal.coe_mul]; congr 1; exact hW 4 n) _ (fun _ => zero_eq) _ _ q n
theorem term3 (q : Fin 2078) (n : Fin 512) : (val_main_v485 (F := Ideal) x0 x1 x2 x3 x4 x5 x6 x7 (ix2 q n) : EReal) = ((padTerm Dz W 3 q n : ℝ) : EReal) :=
  pad_term 3 27 _ (fun p n => Dz p n * W 3 n) (fun p n => by
    pointwise [val_main_v482, val_main_v481, val_main_v28]; rw [hD, EReal.coe_mul]; congr 1; exact hW 3 n) _ (fun _ => zero_eq) _ _ q n
theorem term2 (q : Fin 2078) (n : Fin 512) : (val_main_v494 (F := Ideal) x0 x1 x2 x3 x4 x5 x6 x7 (ix2 q n) : EReal) = ((padTerm Dz W 2 q n : ℝ) : EReal) :=
  pad_term 2 28 _ (fun p n => Dz p n * W 2 n) (fun p n => by
    pointwise [val_main_v491, val_main_v490, val_main_v23]; rw [hD, EReal.coe_mul]; congr 1; exact hW 2 n) _ (fun _ => zero_eq) _ _ q n
theorem term1 (q : Fin 2078) (n : Fin 512) : (val_main_v503 (F := Ideal) x0 x1 x2 x3 x4 x5 x6 x7 (ix2 q n) : EReal) = ((padTerm Dz W 1 q n : ℝ) : EReal) :=
  pad_term 1 29 _ (fun p n => Dz p n * W 1 n) (fun p n => by
    pointwise [val_main_v500, val_main_v499, val_main_v18]; rw [hD, EReal.coe_mul]; congr 1; exact hW 1 n) _ (fun _ => zero_eq) _ _ q n
theorem term0 (q : Fin 2078) (n : Fin 512) : (val_main_v512 (F := Ideal) x0 x1 x2 x3 x4 x5 x6 x7 (ix2 q n) : EReal) = ((padTerm Dz W 0 q n : ℝ) : EReal) :=
  pad_term 0 30 _ (fun p n => Dz p n * W 0 n) (fun p n => by
    pointwise [val_main_v509, val_main_v508, val_main_v14]; rw [hD, EReal.coe_mul]; congr 1; exact hW 0 n) _ (fun _ => zero_eq) _ _ q n

/-- The gradient at the gated input with its zero rows in front. -/
theorem v513_real (q : Fin 2078) (n : Fin 512) : (val_main_v513 (F := Ideal) x0 x1 x2 x3 x4 x5 x6 x7 (ix2 q n) : EReal) = ((∑ j, padTerm Dz W j q n : ℝ) : EReal) := by
  pointwise [val_main_v513, val_main_v504, val_main_v495, val_main_v486, val_main_v477, val_main_v468, val_main_v459, val_main_v450, val_main_v441, val_main_v432, val_main_v423, val_main_v414, val_main_v405, val_main_v396, val_main_v387, val_main_v378, val_main_v369, val_main_v360, val_main_v351, val_main_v342, val_main_v333, val_main_v324, val_main_v315, val_main_v306, val_main_v297, val_main_v288, val_main_v279, val_main_v270, val_main_v261, val_main_v252]
  rw [term30 x0 x1 x2 x3 x4 x5 x6 x7 Dz W hD hW q n, term29 x0 x1 x2 x3 x4 x5 x6 x7 Dz W hD hW q n, term28 x0 x1 x2 x3 x4 x5 x6 x7 Dz W hD hW q n, term27 x0 x1 x2 x3 x4 x5 x6 x7 Dz W hD hW q n, term26 x0 x1 x2 x3 x4 x5 x6 x7 Dz W hD hW q n, term25 x0 x1 x2 x3 x4 x5 x6 x7 Dz W hD hW q n, term24 x0 x1 x2 x3 x4 x5 x6 x7 Dz W hD hW q n, term23 x0 x1 x2 x3 x4 x5 x6 x7 Dz W hD hW q n, term22 x0 x1 x2 x3 x4 x5 x6 x7 Dz W hD hW q n, term21 x0 x1 x2 x3 x4 x5 x6 x7 Dz W hD hW q n, term20 x0 x1 x2 x3 x4 x5 x6 x7 Dz W hD hW q n, term19 x0 x1 x2 x3 x4 x5 x6 x7 Dz W hD hW q n, term18 x0 x1 x2 x3 x4 x5 x6 x7 Dz W hD hW q n, term17 x0 x1 x2 x3 x4 x5 x6 x7 Dz W hD hW q n, term16 x0 x1 x2 x3 x4 x5 x6 x7 Dz W hD hW q n, term15 x0 x1 x2 x3 x4 x5 x6 x7 Dz W hD hW q n, term14 x0 x1 x2 x3 x4 x5 x6 x7 Dz W hD hW q n, term13 x0 x1 x2 x3 x4 x5 x6 x7 Dz W hD hW q n, term12 x0 x1 x2 x3 x4 x5 x6 x7 Dz W hD hW q n, term11 x0 x1 x2 x3 x4 x5 x6 x7 Dz W hD hW q n, term10 x0 x1 x2 x3 x4 x5 x6 x7 Dz W hD hW q n, term9 x0 x1 x2 x3 x4 x5 x6 x7 Dz W hD hW q n, term8 x0 x1 x2 x3 x4 x5 x6 x7 Dz W hD hW q n, term7 x0 x1 x2 x3 x4 x5 x6 x7 Dz W hD hW q n, term6 x0 x1 x2 x3 x4 x5 x6 x7 Dz W hD hW q n, term5 x0 x1 x2 x3 x4 x5 x6 x7 Dz W hD hW q n, term4 x0 x1 x2 x3 x4 x5 x6 x7 Dz W hD hW q n, term3 x0 x1 x2 x3 x4 x5 x6 x7 Dz W hD hW q n, term2 x0 x1 x2 x3 x4 x5 x6 x7 Dz W hD hW q n, term1 x0 x1 x2 x3 x4 x5 x6 x7 Dz W hD hW q n, term0 x0 x1 x2 x3 x4 x5 x6 x7 Dz W hD hW q n]
  simp only [← EReal.coe_add]
  exact congrArg Real.toEReal (sum31 (fun j => padTerm Dz W j q n))
omit hW
include hV
theorem col30 (J : Fin 31) (n : Fin 512) : (val_main_v242 (F := Ideal) x0 x1 x2 x3 x4 x5 x6 x7 (ix2 J n) : EReal)
    = ((if g : 30 ≤ J.val ∧ J.val < 30 + 1 then tapSum V Dz 30 n else 0 : ℝ) : EReal) :=
  pad_term 30 0 _ (fun _ n => tapSum V Dz 30 n) (fun p n => by
    obtain rfl : p = 0 := Subsingleton.elim _ _
    pointwise [val_main_v239, val_main_v238, val_main_v237, val_main_v162, val_main_cst_21]; simp only [hD, hV, ← EReal.coe_mul, ← coe_sum]; rfl) _ (fun _ => zero_eq) _ _ J n
theorem col29 (J : Fin 31) (n : Fin 512) : (val_main_v249 (F := Ideal) x0 x1 x2 x3 x4 x5 x6 x7 (ix2 J n) : EReal)
    = ((if g : 29 ≤ J.val ∧ J.val < 29 + 1 then tapSum V Dz 29 n else 0 : ℝ) : EReal) :=
  pad_term 29 1 _ (fun _ n => tapSum V Dz 29 n) (fun p n => by
    obtain rfl : p = 0 := Subsingleton.elim _ _
    pointwise [val_main_v246, val_main_v245, val_main_v244, val_main_v157, val_main_cst_24]; simp only [hD, hV, ← EReal.coe_mul, ← coe_sum]; rfl) _ (fun _ => zero_eq) _ _ J n
theorem col28 (J : Fin 31) (n : Fin 512) : (val_main_v258 (F := Ideal) x0 x1 x2 x3 x4 x5 x6 x7 (ix2 J n) : EReal)
    = ((if g : 28 ≤ J.val ∧ J.val < 28 + 1 then tapSum V Dz 28 n else 0 : ℝ) : EReal) :=
  pad_term 28 2 _ (fun _ n => tapSum V Dz 28 n) (fun p n => by
    obtain rfl : p = 0 := Subsingleton.elim _ _
    pointwise [val_main_v255, val_main_v254, val_main_v253, val_main_v152, val_main_cst_27]; simp only [hD, hV, ← EReal.coe_mul, ← coe_sum]; rfl) _ (fun _ => zero_eq) _ _ J n
theorem col27 (J : Fin 31) (n : Fin 512) : (val_main_v267 (F := Ideal) x0 x1 x2 x3 x4 x5 x6 x7 (ix2 J n) : EReal)
    = ((if g : 27 ≤ J.val ∧ J.val < 27 + 1 then tapSum V Dz 27 n else 0 : ℝ) : EReal) :=
  pad_term 27 3 _ (fun _ n => tapSum V Dz 27 n) (fun p n => by
    obtain rfl : p = 0 := Subsingleton.elim _ _
    pointwise [val_main_v264, val_main_v263, val_main_v262, val_main_v147, val_main_cst_30]; simp only [hD, hV, ← EReal.coe_mul, ← coe_sum]; rfl) _ (fun _ => zero_eq) _ _ J n
theorem col26 (J : Fin 31) (n : Fin 512) : (val_main_v276 (F := Ideal) x0 x1 x2 x3 x4 x5 x6 x7 (ix2 J n) : EReal)
    = ((if g : 26 ≤ J.val ∧ J.val < 26 + 1 then tapSum V Dz 26 n else 0 : ℝ) : EReal) :=
  pad_term 26 4 _ (fun _ n => tapSum V Dz 26 n) (fun p n => by
    obtain rfl : p = 0 := Subsingleton.elim _ _
    pointwise [val_main_v273, val_main_v272, val_main_v271, val_main_v142, val_main_cst_33]; simp only [hD, hV, ← EReal.coe_mul, ← coe_sum]; rfl) _ (fun _ => zero_eq) _ _ J n
theorem col25 (J : Fin 31) (n : Fin 512) : (val_main_v285 (F := Ideal) x0 x1 x2 x3 x4 x5 x6 x7 (ix2 J n) : EReal)
    = ((if g : 25 ≤ J.val ∧ J.val < 25 + 1 then tapSum V Dz 25 n else 0 : ℝ) : EReal) :=
  pad_term 25 5 _ (fun _ n => tapSum V Dz 25 n) (fun p n => by
    obtain rfl : p = 0 := Subsingleton.elim _ _
    pointwise [val_main_v282, val_main_v281, val_main_v280, val_main_v137, val_main_cst_36]; simp only [hD, hV, ← EReal.coe_mul, ← coe_sum]; rfl) _ (fun _ => zero_eq) _ _ J n
theorem col24 (J : Fin 31) (n : Fin 512) : (val_main_v294 (F := Ideal) x0 x1 x2 x3 x4 x5 x6 x7 (ix2 J n) : EReal)
    = ((if g : 24 ≤ J.val ∧ J.val < 24 + 1 then tapSum V Dz 24 n else 0 : ℝ) : EReal) :=
  pad_term 24 6 _ (fun _ n => tapSum V Dz 24 n) (fun p n => by
    obtain rfl : p = 0 := Subsingleton.elim _ _
    pointwise [val_main_v291, val_main_v290, val_main_v289, val_main_v132, val_main_cst_39]; simp only [hD, hV, ← EReal.coe_mul, ← coe_sum]; rfl) _ (fun _ => zero_eq) _ _ J n
theorem col23 (J : Fin 31) (n : Fin 512) : (val_main_v303 (F := Ideal) x0 x1 x2 x3 x4 x5 x6 x7 (ix2 J n) : EReal)
    = ((if g : 23 ≤ J.val ∧ J.val < 23 + 1 then tapSum V Dz 23 n else 0 : ℝ) : EReal) :=
  pad_term 23 7 _ (fun _ n => tapSum V Dz 23 n) (fun p n => by
    obtain rfl : p = 0 := Subsingleton.elim _ _
    pointwise [val_main_v300, val_main_v299, val_main_v298, val_main_v127, val_main_cst_42]; simp only [hD, hV, ← EReal.coe_mul, ← coe_sum]; rfl) _ (fun _ => zero_eq) _ _ J n
theorem col22 (J : Fin 31) (n : Fin 512) : (val_main_v312 (F := Ideal) x0 x1 x2 x3 x4 x5 x6 x7 (ix2 J n) : EReal)
    = ((if g : 22 ≤ J.val ∧ J.val < 22 + 1 then tapSum V Dz 22 n else 0 : ℝ) : EReal) :=
  pad_term 22 8 _ (fun _ n => tapSum V Dz 22 n) (fun p n => by
    obtain rfl : p = 0 := Subsingleton.elim _ _
    pointwise [val_main_v309, val_main_v308, val_main_v307, val_main_v122, val_main_cst_45]; simp only [hD, hV, ← EReal.coe_mul, ← coe_sum]; rfl) _ (fun _ => zero_eq) _ _ J n
theorem col21 (J : Fin 31) (n : Fin 512) : (val_main_v321 (F := Ideal) x0 x1 x2 x3 x4 x5 x6 x7 (ix2 J n) : EReal)
    = ((if g : 21 ≤ J.val ∧ J.val < 21 + 1 then tapSum V Dz 21 n else 0 : ℝ) : EReal) :=
  pad_term 21 9 _ (fun _ n => tapSum V Dz 21 n) (fun p n => by
    obtain rfl : p = 0 := Subsingleton.elim _ _
    pointwise [val_main_v318, val_main_v317, val_main_v316, val_main_v117, val_main_cst_48]; simp only [hD, hV, ← EReal.coe_mul, ← coe_sum]; rfl) _ (fun _ => zero_eq) _ _ J n
theorem col20 (J : Fin 31) (n : Fin 512) : (val_main_v330 (F := Ideal) x0 x1 x2 x3 x4 x5 x6 x7 (ix2 J n) : EReal)
    = ((if g : 20 ≤ J.val ∧ J.val < 20 + 1 then tapSum V Dz 20 n else 0 : ℝ) : EReal) :=
  pad_term 20 10 _ (fun _ n => tapSum V Dz 20 n) (fun p n => by
    obtain rfl : p = 0 := Subsingleton.elim _ _
    pointwise [val_main_v327, val_main_v326, val_main_v325, val_main_v112, val_main_cst_51]; simp only [hD, hV, ← EReal.coe_mul, ← coe_sum]; rfl) _ (fun _ => zero_eq) _ _ J n
theorem col19 (J : Fin 31) (n : Fin 512) : (val_main_v339 (F := Ideal) x0 x1 x2 x3 x4 x5 x6 x7 (ix2 J n) : EReal)
    = ((if g : 19 ≤ J.val ∧ J.val < 19 + 1 then tapSum V Dz 19 n else 0 : ℝ) : EReal) :=
  pad_term 19 11 _ (fun _ n => tapSum V Dz 19 n) (fun p n => by
    obtain rfl : p = 0 := Subsingleton.elim _ _
    pointwise [val_main_v336, val_main_v335, val_main_v334, val_main_v107, val_main_cst_54]; simp only [hD, hV, ← EReal.coe_mul, ← coe_sum]; rfl) _ (fun _ => zero_eq) _ _ J n
theorem col18 (J : Fin 31) (n : Fin 512) : (val_main_v348 (F := Ideal) x0 x1 x2 x3 x4 x5 x6 x7 (ix2 J n) : EReal)
    = ((if g : 18 ≤ J.val ∧ J.val < 18 + 1 then tapSum V Dz 18 n else 0 : ℝ) : EReal) :=
  pad_term 18 12 _ (fun _ n => tapSum V Dz 18 n) (fun p n => by
    obtain rfl : p = 0 := Subsingleton.elim _ _
    pointwise [val_main_v345, val_main_v344, val_main_v343, val_main_v102, val_main_cst_57]; simp only [hD, hV, ← EReal.coe_mul, ← coe_sum]; rfl) _ (fun _ => zero_eq) _ _ J n
theorem col17 (J : Fin 31) (n : Fin 512) : (val_main_v357 (F := Ideal) x0 x1 x2 x3 x4 x5 x6 x7 (ix2 J n) : EReal)
    = ((if g : 17 ≤ J.val ∧ J.val < 17 + 1 then tapSum V Dz 17 n else 0 : ℝ) : EReal) :=
  pad_term 17 13 _ (fun _ n => tapSum V Dz 17 n) (fun p n => by
    obtain rfl : p = 0 := Subsingleton.elim _ _
    pointwise [val_main_v354, val_main_v353, val_main_v352, val_main_v97, val_main_cst_60]; simp only [hD, hV, ← EReal.coe_mul, ← coe_sum]; rfl) _ (fun _ => zero_eq) _ _ J n
theorem col16 (J : Fin 31) (n : Fin 512) : (val_main_v366 (F := Ideal) x0 x1 x2 x3 x4 x5 x6 x7 (ix2 J n) : EReal)
    = ((if g : 16 ≤ J.val ∧ J.val < 16 + 1 then tapSum V Dz 16 n else 0 : ℝ) : EReal) :=
  pad_term 16 14 _ (fun _ n => tapSum V Dz 16 n) (fun p n => by
    obtain rfl : p = 0 := Subsingleton.elim _ _
    pointwise [val_main_v363, val_main_v362, val_main_v361, val_main_v92, val_main_cst_63]; simp only [hD, hV, ← EReal.coe_mul, ← coe_sum]; rfl) _ (fun _ => zero_eq) _ _ J n
theorem col15 (J : Fin 31) (n : Fin 512) : (val_main_v375 (F := Ideal) x0 x1 x2 x3 x4 x5 x6 x7 (ix2 J n) : EReal)
    = ((if g : 15 ≤ J.val ∧ J.val < 15 + 1 then tapSum V Dz 15 n else 0 : ℝ) : EReal) :=
  pad_term 15 15 _ (fun _ n => tapSum V Dz 15 n) (fun p n => by
    obtain rfl : p = 0 := Subsingleton.elim _ _
    pointwise [val_main_v372, val_main_v371, val_main_v370, val_main_v87, val_main_cst_66]; simp only [hD, hV, ← EReal.coe_mul, ← coe_sum]; rfl) _ (fun _ => zero_eq) _ _ J n
theorem col14 (J : Fin 31) (n : Fin 512) : (val_main_v384 (F := Ideal) x0 x1 x2 x3 x4 x5 x6 x7 (ix2 J n) : EReal)
    = ((if g : 14 ≤ J.val ∧ J.val < 14 + 1 then tapSum V Dz 14 n else 0 : ℝ) : EReal) :=
  pad_term 14 16 _ (fun _ n => tapSum V Dz 14 n) (fun p n => by
    obtain rfl : p = 0 := Subsingleton.elim _ _
    pointwise [val_main_v381, val_main_v380, val_main_v379, val_main_v82, val_main_cst_69]; simp only [hD, hV, ← EReal.coe_mul, ← coe_sum]; rfl) _ (fun _ => zero_eq) _ _ J n
theorem col13 (J : Fin 31) (n : Fin 512) : (val_main_v393 (F := Ideal) x0 x1 x2 x3 x4 x5 x6 x7 (ix2 J n) : EReal)
    = ((if g : 13 ≤ J.val ∧ J.val < 13 + 1 then tapSum V Dz 13 n else 0 : ℝ) : EReal) :=
  pad_term 13 17 _ (fun _ n => tapSum V Dz 13 n) (fun p n => by
    obtain rfl : p = 0 := Subsingleton.elim _ _
    pointwise [val_main_v390, val_main_v389, val_main_v388, val_main_v77, val_main_cst_72]; simp only [hD, hV, ← EReal.coe_mul, ← coe_sum]; rfl) _ (fun _ => zero_eq) _ _ J n
theorem col12 (J : Fin 31) (n : Fin 512) : (val_main_v402 (F := Ideal) x0 x1 x2 x3 x4 x5 x6 x7 (ix2 J n) : EReal)
    = ((if g : 12 ≤ J.val ∧ J.val < 12 + 1 then tapSum V Dz 12 n else 0 : ℝ) : EReal) :=
  pad_term 12 18 _ (fun _ n => tapSum V Dz 12 n) (fun p n => by
    obtain rfl : p = 0 := Subsingleton.elim _ _
    pointwise [val_main_v399, val_main_v398, val_main_v397, val_main_v72, val_main_cst_75]; simp only [hD, hV, ← EReal.coe_mul, ← coe_sum]; rfl) _ (fun _ => zero_eq) _ _ J n
theorem col11 (J : Fin 31) (n : Fin 512) : (val_main_v411 (F := Ideal) x0 x1 x2 x3 x4 x5 x6 x7 (ix2 J n) : EReal)
    = ((if g : 11 ≤ J.val ∧ J.val < 11 + 1 then tapSum V Dz 11 n else 0 : ℝ) : EReal) :=
  pad_term 11 19 _ (fun _ n => tapSum V Dz 11 n) (fun p n => by
    obtain rfl : p = 0 := Subsingleton.elim _ _
    pointwise [val_main_v408, val_main_v407, val_main_v406, val_main_v67, val_main_cst_78]; simp only [hD, hV, ← EReal.coe_mul, ← coe_sum]; rfl) _ (fun _ => zero_eq) _ _ J n
theorem col10 (J : Fin 31) (n : Fin 512) : (val_main_v420 (F := Ideal) x0 x1 x2 x3 x4 x5 x6 x7 (ix2 J n) : EReal)
    = ((if g : 10 ≤ J.val ∧ J.val < 10 + 1 then tapSum V Dz 10 n else 0 : ℝ) : EReal) :=
  pad_term 10 20 _ (fun _ n => tapSum V Dz 10 n) (fun p n => by
    obtain rfl : p = 0 := Subsingleton.elim _ _
    pointwise [val_main_v417, val_main_v416, val_main_v415, val_main_v62, val_main_cst_81]; simp only [hD, hV, ← EReal.coe_mul, ← coe_sum]; rfl) _ (fun _ => zero_eq) _ _ J n
theorem col9 (J : Fin 31) (n : Fin 512) : (val_main_v429 (F := Ideal) x0 x1 x2 x3 x4 x5 x6 x7 (ix2 J n) : EReal)
    = ((if g : 9 ≤ J.val ∧ J.val < 9 + 1 then tapSum V Dz 9 n else 0 : ℝ) : EReal) :=
  pad_term 9 21 _ (fun _ n => tapSum V Dz 9 n) (fun p n => by
    obtain rfl : p = 0 := Subsingleton.elim _ _
    pointwise [val_main_v426, val_main_v425, val_main_v424, val_main_v57, val_main_cst_84]; simp only [hD, hV, ← EReal.coe_mul, ← coe_sum]; rfl) _ (fun _ => zero_eq) _ _ J n
theorem col8 (J : Fin 31) (n : Fin 512) : (val_main_v438 (F := Ideal) x0 x1 x2 x3 x4 x5 x6 x7 (ix2 J n) : EReal)
    = ((if g : 8 ≤ J.val ∧ J.val < 8 + 1 then tapSum V Dz 8 n else 0 : ℝ) : EReal) :=
  pad_term 8 22 _ (fun _ n => tapSum V Dz 8 n) (fun p n => by
    obtain rfl : p = 0 := Subsingleton.elim _ _
    pointwise [val_main_v435, val_main_v434, val_main_v433, val_main_v52, val_main_cst_87]; simp only [hD, hV, ← EReal.coe_mul, ← coe_sum]; rfl) _ (fun _ => zero_eq) _ _ J n
theorem col7 (J : Fin 31) (n : Fin 512) : (val_main_v447 (F := Ideal) x0 x1 x2 x3 x4 x5 x6 x7 (ix2 J n) : EReal)
    = ((if g : 7 ≤ J.val ∧ J.val < 7 + 1 then tapSum V Dz 7 n else 0 : ℝ) : EReal) :=
  pad_term 7 23 _ (fun _ n => tapSum V Dz 7 n) (fun p n => by
    obtain rfl : p = 0 := Subsingleton.elim _ _
    pointwise [val_main_v444, val_main_v443, val_main_v442, val_main_v47, val_main_cst_90]; simp only [hD, hV, ← EReal.coe_mul, ← coe_sum]; rfl) _ (fun _ => zero_eq) _ _ J n
theorem col6 (J : Fin 31) (n : Fin 512) : (val_main_v456 (F := Ideal) x0 x1 x2 x3 x4 x5 x6 x7 (ix2 J n) : EReal)
    = ((if g : 6 ≤ J.val ∧ J.val < 6 + 1 then tapSum V Dz 6 n else 0 : ℝ) : EReal) :=
  pad_term 6 24 _ (fun _ n => tapSum V Dz 6 n) (fun p n => by
    obtain rfl : p = 0 := Subsingleton.elim _ _
    pointwise [val_main_v453, val_main_v452, val_main_v451, val_main_v42, val_main_cst_93]; simp only [hD, hV, ← EReal.coe_mul, ← coe_sum]; rfl) _ (fun _ => zero_eq) _ _ J n
theorem col5 (J : Fin 31) (n : Fin 512) : (val_main_v465 (F := Ideal) x0 x1 x2 x3 x4 x5 x6 x7 (ix2 J n) : EReal)
    = ((if g : 5 ≤ J.val ∧ J.val < 5 + 1 then tapSum V Dz 5 n else 0 : ℝ) : EReal) :=
  pad_term 5 25 _ (fun _ n => tapSum V Dz 5 n) (fun p n => by
    obtain rfl : p = 0 := Subsingleton.elim _ _
    pointwise [val_main_v462, val_main_v461, val_main_v460, val_main_v37, val_main_cst_96]; simp only [hD, hV, ← EReal.coe_mul, ← coe_sum]; rfl) _ (fun _ => zero_eq) _ _ J n
theorem col4 (J : Fin 31) (n : Fin 512) : (val_main_v474 (F := Ideal) x0 x1 x2 x3 x4 x5 x6 x7 (ix2 J n) : EReal)
    = ((if g : 4 ≤ J.val ∧ J.val < 4 + 1 then tapSum V Dz 4 n else 0 : ℝ) : EReal) :=
  pad_term 4 26 _ (fun _ n => tapSum V Dz 4 n) (fun p n => by
    obtain rfl : p = 0 := Subsingleton.elim _ _
    pointwise [val_main_v471, val_main_v470, val_main_v469, val_main_v32, val_main_cst_99]; simp only [hD, hV, ← EReal.coe_mul, ← coe_sum]; rfl) _ (fun _ => zero_eq) _ _ J n
theorem col3 (J : Fin 31) (n : Fin 512) : (val_main_v483 (F := Ideal) x0 x1 x2 x3 x4 x5 x6 x7 (ix2 J n) : EReal)
    = ((if g : 3 ≤ J.val ∧ J.val < 3 + 1 then tapSum V Dz 3 n else 0 : ℝ) : EReal) :=
  pad_term 3 27 _ (fun _ n => tapSum V Dz 3 n) (fun p n => by
    obtain rfl : p = 0 := Subsingleton.elim _ _
    pointwise [val_main_v480, val_main_v479, val_main_v478, val_main_v27, val_main_cst_102]; simp only [hD, hV, ← EReal.coe_mul, ← coe_sum]; rfl) _ (fun _ => zero_eq) _ _ J n
theorem col2 (J : Fin 31) (n : Fin 512) : (val_main_v492 (F := Ideal) x0 x1 x2 x3 x4 x5 x6 x7 (ix2 J n) : EReal)
    = ((if g : 2 ≤ J.val ∧ J.val < 2 + 1 then tapSum V Dz 2 n else 0 : ℝ) : EReal) :=
  pad_term 2 28 _ (fun _ n => tapSum V Dz 2 n) (fun p n => by
    obtain rfl : p = 0 := Subsingleton.elim _ _
    pointwise [val_main_v489, val_main_v488, val_main_v487, val_main_v22, val_main_cst_105]; simp only [hD, hV, ← EReal.coe_mul, ← coe_sum]; rfl) _ (fun _ => zero_eq) _ _ J n
theorem col1 (J : Fin 31) (n : Fin 512) : (val_main_v501 (F := Ideal) x0 x1 x2 x3 x4 x5 x6 x7 (ix2 J n) : EReal)
    = ((if g : 1 ≤ J.val ∧ J.val < 1 + 1 then tapSum V Dz 1 n else 0 : ℝ) : EReal) :=
  pad_term 1 29 _ (fun _ n => tapSum V Dz 1 n) (fun p n => by
    obtain rfl : p = 0 := Subsingleton.elim _ _
    pointwise [val_main_v498, val_main_v497, val_main_v496, val_main_v17, val_main_cst_108]; simp only [hD, hV, ← EReal.coe_mul, ← coe_sum]; rfl) _ (fun _ => zero_eq) _ _ J n
theorem col0 (J : Fin 31) (n : Fin 512) : (val_main_v510 (F := Ideal) x0 x1 x2 x3 x4 x5 x6 x7 (ix2 J n) : EReal)
    = ((if g : 0 ≤ J.val ∧ J.val < 0 + 1 then tapSum V Dz 0 n else 0 : ℝ) : EReal) :=
  pad_term 0 30 _ (fun _ n => tapSum V Dz 0 n) (fun p n => by
    obtain rfl : p = 0 := Subsingleton.elim _ _
    pointwise [val_main_v507, val_main_v506, val_main_v505, val_main_v13, val_main_cst_111]; simp only [hD, hV, ← EReal.coe_mul, ← coe_sum]; rfl) _ (fun _ => zero_eq) _ _ J n

/-- The taps' gradient. -/
theorem v511_real (J : Fin 31) (n : Fin 512) : (val_main_v511 (F := Ideal) x0 x1 x2 x3 x4 x5 x6 x7 (ix2 J n) : EReal) = ((tapSum V Dz J n : ℝ) : EReal) := by
  pointwise [val_main_v511, val_main_v502, val_main_v493, val_main_v484, val_main_v475, val_main_v466, val_main_v457, val_main_v448, val_main_v439, val_main_v430, val_main_v421, val_main_v412, val_main_v403, val_main_v394, val_main_v385, val_main_v376, val_main_v367, val_main_v358, val_main_v349, val_main_v340, val_main_v331, val_main_v322, val_main_v313, val_main_v304, val_main_v295, val_main_v286, val_main_v277, val_main_v268, val_main_v259, val_main_v250]
  rw [col30 x0 x1 x2 x3 x4 x5 x6 x7 Dz V hD hV J n, col29 x0 x1 x2 x3 x4 x5 x6 x7 Dz V hD hV J n, col28 x0 x1 x2 x3 x4 x5 x6 x7 Dz V hD hV J n, col27 x0 x1 x2 x3 x4 x5 x6 x7 Dz V hD hV J n, col26 x0 x1 x2 x3 x4 x5 x6 x7 Dz V hD hV J n, col25 x0 x1 x2 x3 x4 x5 x6 x7 Dz V hD hV J n, col24 x0 x1 x2 x3 x4 x5 x6 x7 Dz V hD hV J n, col23 x0 x1 x2 x3 x4 x5 x6 x7 Dz V hD hV J n, col22 x0 x1 x2 x3 x4 x5 x6 x7 Dz V hD hV J n, col21 x0 x1 x2 x3 x4 x5 x6 x7 Dz V hD hV J n, col20 x0 x1 x2 x3 x4 x5 x6 x7 Dz V hD hV J n, col19 x0 x1 x2 x3 x4 x5 x6 x7 Dz V hD hV J n, col18 x0 x1 x2 x3 x4 x5 x6 x7 Dz V hD hV J n, col17 x0 x1 x2 x3 x4 x5 x6 x7 Dz V hD hV J n, col16 x0 x1 x2 x3 x4 x5 x6 x7 Dz V hD hV J n, col15 x0 x1 x2 x3 x4 x5 x6 x7 Dz V hD hV J n, col14 x0 x1 x2 x3 x4 x5 x6 x7 Dz V hD hV J n, col13 x0 x1 x2 x3 x4 x5 x6 x7 Dz V hD hV J n, col12 x0 x1 x2 x3 x4 x5 x6 x7 Dz V hD hV J n, col11 x0 x1 x2 x3 x4 x5 x6 x7 Dz V hD hV J n, col10 x0 x1 x2 x3 x4 x5 x6 x7 Dz V hD hV J n, col9 x0 x1 x2 x3 x4 x5 x6 x7 Dz V hD hV J n, col8 x0 x1 x2 x3 x4 x5 x6 x7 Dz V hD hV J n, col7 x0 x1 x2 x3 x4 x5 x6 x7 Dz V hD hV J n, col6 x0 x1 x2 x3 x4 x5 x6 x7 Dz V hD hV J n, col5 x0 x1 x2 x3 x4 x5 x6 x7 Dz V hD hV J n, col4 x0 x1 x2 x3 x4 x5 x6 x7 Dz V hD hV J n, col3 x0 x1 x2 x3 x4 x5 x6 x7 Dz V hD hV J n, col2 x0 x1 x2 x3 x4 x5 x6 x7 Dz V hD hV J n, col1 x0 x1 x2 x3 x4 x5 x6 x7 Dz V hD hV J n, col0 x0 x1 x2 x3 x4 x5 x6 x7 Dz V hD hV J n]
  simp only [← EReal.coe_add]
  refine congrArg Real.toEReal ((sum31 (fun j => if g : j.val ≤ J.val ∧ J.val < j.val + 1 then tapSum V Dz j n else 0)).trans ?_)
  rw [Finset.sum_eq_single J (fun j _ hj => dif_neg (fun hc => hj (Fin.ext (by omega)))) (fun h => absurd (Finset.mem_univ J) h)]
  exact dif_pos ⟨le_rfl, Nat.lt_succ_self _⟩
end

end Cert.Proof.Conv

end
-- ==== Proof.ConvRefEnd.lean ====
/-
  The reference's five results, entry by entry, over numbers.
-/
module

public import proofs.«01_k».proof.Proof.ConvRefTaps

@[expose] public section

set_option maxRecDepth 16384

noncomputable section

namespace Cert.Proof.Conv

open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable (x0 x1 x2 : (⟨S2048x512, .f32⟩ : BufTy).Contents (Elt Ideal)) (x3 : (⟨S31x512, .f32⟩ : BufTy).Contents (Elt Ideal))
  (x4 x5 x6 : (⟨S1x512, .f32⟩ : BufTy).Contents (Elt Ideal)) (x7 : (⟨S2048x512, .bf16⟩ : BufTy).Contents (Elt Ideal))
  (A U Dz : Fin 2048 → Fin 512 → ℝ) (W : Fin 31 → Fin 512 → ℝ) (V : Fin 2078 → Fin 512 → ℝ)
  (h0 : ∀ p n, (x0 (ix2 p n) : EReal) = ((A p n : ℝ) : EReal)) (h1 : ∀ p n, (x1 (ix2 p n) : EReal) = ((U p n : ℝ) : EReal))
  (hD : ∀ p n, (val_main_v234 (F := Ideal) x0 x1 x2 x3 x4 x5 x6 x7 (ix2 p n) : EReal) = ((Dz p n : ℝ) : EReal))
  (hW : ∀ j n, (x3 (ix2 j n) : EReal) = ((W j n : ℝ) : EReal))
  (hV : ∀ q n, (val_main_v11 (F := Ideal) x0 x1 (ix2 q n) : EReal) = ((V q n : ℝ) : EReal))

/-- The gradient at the gated input. -/
def gatedRef (Dz : Fin 2048 → Fin 512 → ℝ) (W : Fin 31 → Fin 512 → ℝ) (p : Fin 2048) (n : Fin 512) : ℝ :=
  ∑ j, padTerm Dz W j ⟨p.val + 30, by omega⟩ n

include hD hW in
theorem v515_real (p : Fin 2048) (n : Fin 512) :
    (val_main_v515 (F := Ideal) x0 x1 x2 x3 x4 x5 x6 x7 (ix2 p n) : EReal) = ((gatedRef Dz W p n : ℝ) : EReal) := by
  refine Eq.trans ?_ (v513_real x0 x1 x2 x3 x4 x5 x6 x7 Dz W hD hW ⟨p.val + 30, by omega⟩ n)
  unfold val_main_v515
  generalize val_main_v513 (F := Ideal) x0 x1 x2 x3 x4 x5 x6 x7 = y
  pointwise []
  exact congrArg (fun q => y (ix2 q n)) (Fin.ext (Nat.add_comm _ _))

include h1 in
theorem v5_real (p : Fin 2048) (n : Fin 512) : (val_main_v5 (F := Ideal) x1 (ix2 p n) : EReal) = ((sgm (U p n) : ℝ) : EReal) := by
  pointwise [val_main_v5, val_main_v4, val_main_v3, val_main_v2, val_main_v1, val_main_v0, val_main_cst, val_main_cst_0]
  rw [h1]
  first
    | rw [zero_sub, sgm_eq]
    | rw [sgm_eq]

include h1 hD hW in
/-- The gradient at the first factor. -/
theorem v523_real (p : Fin 2048) (n : Fin 512) : (val_main_v523 (F := Ideal) x0 x1 x2 x3 x4 x5 x6 x7 (ix2 p n) : EReal)
    = ((gatedRef Dz W p n * sgm (U p n) : ℝ) : EReal) := by
  pointwise [val_main_v523, val_main_v517]
  rw [v515_real x0 x1 x2 x3 x4 x5 x6 x7 Dz W hD hW, v5_real x1 U h1, EReal.coe_mul]

include h0 h1 hD hW in
/-- The gradient at the gate. -/
theorem v524_real (p : Fin 2048) (n : Fin 512) : (val_main_v524 (F := Ideal) x0 x1 x2 x3 x4 x5 x6 x7 (ix2 p n) : EReal)
    = ((gatedRef Dz W p n * A p n * sgm (U p n) * (1 - sgm (U p n)) : ℝ) : EReal) := by
  pointwise [val_main_v524, val_main_v518, val_main_v516, val_main_v8, val_main_v7, val_main_v6, val_main_cst_1]
  rw [h0, v515_real x0 x1 x2 x3 x4 x5 x6 x7 Dz W hD hW, v5_real x1 U h1, one_sub_real]
  simp only [← EReal.coe_mul]
  congr 1
  ring

include hD hV in
/-- The taps' gradient, two taps a row, and a tap of zeros. -/
theorem v520_real (i : Fin 16) (k : Fin 1024) : (val_main_v520 (F := Ideal) x0 x1 x2 x3 x4 x5 x6 x7 (ix2 i k) : EReal)
    = ((if h : 2 * i.val + k.val / 512 < 31 then tapSum V Dz ⟨2 * i.val + k.val / 512, h⟩ ⟨k.val % 512, Nat.mod_lt _ (by decide)⟩ else 0 : ℝ) : EReal) := by
  have e : ∀ J n, val_main_v511 (F := Ideal) x0 x1 x2 x3 x4 x5 x6 x7 (ix2 J n) = _ := v511_real x0 x1 x2 x3 x4 x5 x6 x7 Dz V hD hV
  unfold val_main_v520 val_main_v519
  generalize val_main_v511 (F := Ideal) x0 x1 x2 x3 x4 x5 x6 x7 = y at e
  pointwise [val_main_call4_v0, val_main_c]
  by_cases h : 2 * i.val + k.val / 512 < 31
  · rw [dif_pos ⟨by omega, by omega⟩, dif_pos h]
    refine Eq.trans ?_ (e _ _)
    exact congrArg (fun q => y (ix2 q _)) (Fin.ext (by show i.val * 2 + k.val / 512 = 2 * i.val + k.val / 512; omega))
  · rw [dif_neg (by omega), dif_neg h]
    show ((((0#32 : BitVec 32).toInt : ℝ)) : EReal) = _
    simp

/-- The eight rows of column sums. -/
theorem v522_real (i : Fin 8) (n : Fin 512) : (val_main_v522 (F := Ideal) x0 x1 x2 x3 x4 x5 x6 x7 (ix2 i n) : EReal)
    = if i.val = 0 then val_main_v236 (F := Ideal) x0 x1 x2 x3 x4 x5 x6 x7 (ix2 (0 : Fin 1) n)
      else if i.val = 1 then val_main_v208 (F := Ideal) x0 x1 x2 x3 x4 x5 x6 x7 (ix2 (0 : Fin 1) n)
      else if i.val = 2 then val_main_v205 (F := Ideal) x0 x1 x2 x3 x4 x5 x6 x7 (ix2 (0 : Fin 1) n) else 0 := by
  unfold val_main_v522
  generalize val_main_v236 (F := Ideal) x0 x1 x2 x3 x4 x5 x6 x7 = y0
  generalize val_main_v208 (F := Ideal) x0 x1 x2 x3 x4 x5 x6 x7 = y1
  generalize val_main_v205 (F := Ideal) x0 x1 x2 x3 x4 x5 x6 x7 = y2
  pointwise [val_main_v521, val_main_cst_114]
  by_cases a : i.val = 0
  · rw [dif_pos (by omega), if_pos a]
    exact congrArg (fun q => y0 (ix2 q n)) (Fin.ext a)
  rw [dif_neg (by omega), if_neg a]
  by_cases b : i.val = 1
  · rw [dif_pos (by omega), if_pos b]
    exact congrArg (fun q => y1 (ix2 q n)) (Fin.ext (by show i.val - 1 = 0; omega))
  rw [dif_neg (by omega), if_neg b]
  by_cases d : i.val = 2
  · rw [dif_pos (by omega), if_pos d]
    exact congrArg (fun q => y2 (ix2 q n)) (Fin.ext (by show i.val - 1 - 1 = 0; omega))
  rw [dif_neg (by omega), if_neg d]

end

end Cert.Proof.Conv

end
-- ==== Proof.ConvValue.lean ====
/-
  The five results of the convolution's backward step: what the kernel leaves is what the reference computes.
-/
module

public import proofs.«01_k».proof.Proof.ConvGrads
public import proofs.«01_k».proof.Proof.ConvTapsIn
public import proofs.«01_k».proof.Proof.ConvDcw
public import proofs.«01_k».proof.Proof.ConvEnd
public import proofs.«01_k».proof.Proof.ConvHost
public import proofs.«01_k».proof.Proof.ConvRefNorm
public import proofs.«01_k».proof.Proof.ConvRefEnd
public import proofs.«01_k».proof.Proof.ConvFinite

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.ReferenceIdeal.Read

/-- A table of numbers, zero outside. -/
def wide {R : Nat} (T : Fin R → Fin 512 → ℝ) (p n : ℕ) : ℝ := if h : p < R ∧ n < 512 then T ⟨p, h.1⟩ ⟨n, h.2⟩ else 0

theorem wide_at {R : Nat} (T : Fin R → Fin 512 → ℝ) (p : Fin R) (n : Fin 512) : wide T p.val n.val = T p n := dif_pos ⟨p.isLt, n.isLt⟩

theorem idx2 {R C : Nat} (i : (⟨2, ![R, C]⟩ : Shape).Idx) : ∃ (p : Fin R) (n : Fin C), i = ix2 p n :=
  ⟨⟨(i 0).val, (i 0).isLt⟩, ⟨(i 1).val, (i 1).isLt⟩, funext fun a => match a with | ⟨0, _⟩ => rfl | ⟨1, _⟩ => rfl⟩

/-- The convolution turned round, of the padded rows and of the rows with no padding. -/
theorem gated_wide (Dz : Fin 2048 → Fin 512 → ℝ) (W : Fin 31 → Fin 512 → ℝ) (p : Fin 2048) (n : Fin 512) :
    gatedGrad (wide Dz) (wide W) p.val n.val = gatedRef Dz W p n := by
  unfold gatedGrad gatedRef
  rw [Finset.sum_range]
  refine Finset.sum_congr rfl fun j _ => ?_
  unfold padTerm
  rw [wide_at W j n]
  by_cases h : p.val + (30 - j.val) < 2048
  · rw [dif_pos (show j.val ≤ p.val + 30 ∧ p.val + 30 < j.val + 2048 by omega)]
    refine congrArg (· * W j n) ((dif_pos ⟨h, n.isLt⟩).trans (congrArg (fun q => Dz q n) (Fin.ext ?_)))
    show p.val + (30 - j.val) = p.val + 30 - j.val
    omega
  · rw [dif_neg (show ¬ (j.val ≤ p.val + 30 ∧ p.val + 30 < j.val + 2048) by omega)]
    rw [show wide Dz (p.val + (30 - j.val)) n.val = 0 from dif_neg fun h' => h h'.1, zero_mul]

/-- The gated input under 30 rows of zeros. -/
def padIn (A U : Fin 2048 → Fin 512 → ℝ) (q : Fin 2078) (n : Fin 512) : ℝ :=
  if h : 30 ≤ q.val then A ⟨q.val - 30, by omega⟩ n * sgm (U ⟨q.val - 30, by omega⟩ n) else 0

theorem padIn_wide (A U : Fin 2048 → Fin 512 → ℝ) (p : Fin 2048) (j : ℕ) (hj : j < 31) (n : Fin 512) :
    (if p.val + j + 2 < 32 then 0 else wide A (p.val + j + 2 - 32) n.val * sgm (wide U (p.val + j + 2 - 32) n.val)) = padIn A U ⟨p.val + j, by omega⟩ n := by
  unfold padIn
  by_cases hp : 30 ≤ p.val + j
  · have hx : p.val + j + 2 - 32 = p.val + j - 30 := by omega
    have ea : wide A (p.val + j - 30) n.val = A ⟨p.val + j - 30, by omega⟩ n := wide_at A ⟨p.val + j - 30, by omega⟩ n
    have eu : wide U (p.val + j - 30) n.val = U ⟨p.val + j - 30, by omega⟩ n := wide_at U ⟨p.val + j - 30, by omega⟩ n
    rw [if_neg (show ¬ p.val + j + 2 < 32 by omega), dif_pos (show 30 ≤ (⟨p.val + j, by omega⟩ : Fin 2078).val from hp), hx, ea, eu]
  · rw [if_pos (show p.val + j + 2 < 32 by omega), dif_neg (show ¬ 30 ≤ (⟨p.val + j, by omega⟩ : Fin 2078).val from hp)]

theorem zeros_at (q : Fin 256) (n : Fin 512) : (k0_pay938 (F := Ideal) (ix2 q n) : EReal) = ((0 : ℝ) : EReal) := by
  pointwise [k0_pay938]
  rfl

section
variable (m : (ℓ : Loc nD τ sig) → Buf (Elt Ideal) ℓ) (c : Dev nD)

/-- Argument 0. -/
abbrev in0 : Vec Ideal S2048x512 .f32 := m ((c : Thread nD τ).loc main_arg0)
/-- Argument 1. -/
abbrev in1 : Vec Ideal S2048x512 .f32 := m ((c : Thread nD τ).loc main_arg1)
/-- Argument 2. -/
abbrev in2 : Vec Ideal S2048x512 .f32 := m ((c : Thread nD τ).loc main_arg2)
/-- Argument 3. -/
abbrev in3 : Vec Ideal S31x512 .f32 := m ((c : Thread nD τ).loc main_arg3)
/-- Argument 4. -/
abbrev in4 : Vec Ideal S1x512 .f32 := m ((c : Thread nD τ).loc main_arg4)
/-- Argument 5. -/
abbrev in5 : Vec Ideal S1x512 .f32 := m ((c : Thread nD τ).loc main_arg5)
/-- Argument 6. -/
abbrev in6 : Vec Ideal S1x512 .f32 := m ((c : Thread nD τ).loc main_arg6)
/-- Argument 7. -/
abbrev in7 : Vec Ideal S2048x512 .bf16 := m ((c : Thread nD τ).loc main_arg7)

variable
  (A U Gt Dm Z : Fin 2048 → Fin 512 → ℝ) (W : Fin 31 → Fin 512 → ℝ) (w b : Fin 512 → ℝ)
  (h0 : ∀ p n, ((m ((c : Thread nD τ).loc main_arg0) : Vec Ideal S2048x512 .f32) (ix2 p n) : EReal) = ((A p n : ℝ) : EReal))
  (h1 : ∀ p n, ((m ((c : Thread nD τ).loc main_arg1) : Vec Ideal S2048x512 .f32) (ix2 p n) : EReal) = ((U p n : ℝ) : EReal))
  (h2 : ∀ p n, ((m ((c : Thread nD τ).loc main_arg2) : Vec Ideal S2048x512 .f32) (ix2 p n) : EReal) = ((Gt p n : ℝ) : EReal))
  (h3 : ∀ p n, ((m ((c : Thread nD τ).loc main_arg3) : Vec Ideal S31x512 .f32) (ix2 p n) : EReal) = ((W p n : ℝ) : EReal))
  (h5 : ∀ n, ((m ((c : Thread nD τ).loc main_arg5) : Vec Ideal S1x512 .f32) (ix2 (0 : Fin 1) n) : EReal) = ((w n : ℝ) : EReal))
  (h6 : ∀ n, ((m ((c : Thread nD τ).loc main_arg6) : Vec Ideal S1x512 .f32) (ix2 (0 : Fin 1) n) : EReal) = ((b n : ℝ) : EReal))
  (h7 : ∀ p n, ((m ((c : Thread nD τ).loc main_arg7) : Vec Ideal S2048x512 .bf16) (ix2 p n) : EReal) = ((Dm p n : ℝ) : EReal))
  (hz : ∀ p n, (val_main_v168 (F := Ideal) (in0 m c) (in1 m c) (in3 m c)
    (in4 m c) (ix2 p n) : EReal) = ((Z p n : ℝ) : EReal))

include hz in
theorem czIn_real (p : Fin 2048) (n : Fin 512) : ((czIn m c : Vec Ideal S2048x512 .f32) (ix2 p n) : EReal) = ((Z p n : ℝ) : EReal) := by
  rw [czIn_eq, cz_eq]; exact hz p n
include h0 in
theorem uaIn_real (p : Fin 2048) (n : Fin 512) : ((uaIn m c : Vec Ideal S2048x512 .f32) (ix2 p n) : EReal) = ((A p n : ℝ) : EReal) := by
  rw [uaIn_eq]; exact h0 p n
include h1 in
theorem ugIn_real (p : Fin 2048) (n : Fin 512) : ((ugIn m c : Vec Ideal S2048x512 .f32) (ix2 p n) : EReal) = ((U p n : ℝ) : EReal) := by
  rw [ugIn_eq]; exact h1 p n
include h2 in
theorem gbIn_real (p : Fin 2048) (n : Fin 512) : ((gbIn m c : Vec Ideal S2048x512 .f32) (ix2 p n) : EReal) = ((Gt p n : ℝ) : EReal) := by
  rw [gbIn_eq]; exact h2 p n
include h7 in
theorem dmIn_real (p : Fin 2048) (n : Fin 512) : ((dmIn m c : Vec Ideal S2048x512 .bf16) (ix2 p n) : EReal) = ((Dm p n : ℝ) : EReal) := by
  rw [dmIn_eq]; exact h7 p n
include h5 in
theorem lwIn_real (n : Fin 512) : ((lwIn m c : Vec Ideal S1x512 .f32) (ix2 (0 : Fin 1) n) : EReal) = ((w n : ℝ) : EReal) := by
  rw [lwIn_eq]; exact h5 n
include h6 in
theorem lbIn_real (n : Fin 512) : ((lbIn m c : Vec Ideal S1x512 .f32) (ix2 (0 : Fin 1) n) : EReal) = ((b n : ℝ) : EReal) := by
  rw [lbIn_eq]; exact h6 n
include h3 in
theorem cwIn_real (cc : Fin 4) (j : Fin 32) (l : Fin 128) (hj : j.val < 31) :
    ((cwIn m c : Vec Ideal S4x32x128 .f32) (ix3 cc j l) : EReal) = ((wide W j.val (128 * cc.val + l.val) : ℝ) : EReal) := by
  rw [cwIn_eq, taps_at m c cc j l hj]
  exact (h3 _ _).trans (congrArg _ (wide_at W ⟨j.val, hj⟩ ⟨128 * cc.val + l.val, by omega⟩).symm)

/-- The gradient at the convolution's output. -/
def outGrad (p : Fin 2048) (n : Fin 512) : ℝ := rdz (Z p) w b (Gt p) (Dm p) n

include h2 h5 h6 h7 hz in
/-- The kernel's padded rows of it. -/
theorem outGrad_pad (q : Fin 2080) (n : Fin 512) : (dconvPad (F := Ideal) (gbIn m c) (czIn m c) (dmIn m c) (lwIn m c) (lbIn m c) (ix2 q n) : EReal)
    = ((wide (outGrad Gt Dm Z w b) q.val n.val : ℝ) : EReal) := by
  rw [dconvPad_real (czIn m c) (gbIn m c) (dmIn m c) (lwIn m c) (lbIn m c) Z Gt Dm w b (czIn_real m c Z hz) (gbIn_real m c Gt h2) (dmIn_real m c Dm h7)
    (lwIn_real m c w h5) (lbIn_real m c b h6) q n]
  unfold wide
  by_cases h : q.val < 2048
  · rw [dif_pos h, dif_pos ⟨h, n.isLt⟩]; rfl
  · rw [dif_neg h, dif_neg (fun h' => h h'.1)]; rfl

include h2 h5 h6 h7 hz in
theorem outGrad_ref (p : Fin 2048) (n : Fin 512) : (val_main_v234 (F := Ideal) (in0 m c) (in1 m c) (in2 m c) (in3 m c)
        (in4 m c) (in5 m c) (in6 m c) (in7 m c) (ix2 p n) : EReal)
    = ((outGrad Gt Dm Z w b p n : ℝ) : EReal) :=
  v234_real (in0 m c) (in1 m c) (in2 m c) (in3 m c)
        (in4 m c) (in5 m c) (in6 m c) (in7 m c) Z Gt Dm w b hz h2 h7 h5 h6 p n

include h0 h1 h2 h3 h5 h6 h7 hz in
/-- The first result. -/
theorem uaOut_eq : (uaOut m c : Vec Ideal S2048x512 .bf16) = val_main_v523 (F := Ideal) (in0 m c) (in1 m c) (in2 m c) (in3 m c)
        (in4 m c) (in5 m c) (in6 m c) (in7 m c) := by
  funext i
  obtain ⟨p, n, rfl⟩ := idx2 i
  refine Eq.trans ?_ (v523_real (in0 m c) (in1 m c) (in2 m c) (in3 m c)
        (in4 m c) (in5 m c) (in6 m c) (in7 m c) U (outGrad Gt Dm Z w b) W h1
    (outGrad_ref m c Gt Dm Z w b h2 h5 h6 h7 hz) h3 p n).symm
  refine (uaGrad_real (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15
    (uaIn m c) (ugIn m c) (dconvPad (gbIn m c) (czIn m c) (dmIn m c) (lwIn m c) (lbIn m c)) (cwIn m c) (wide A) (wide U) (wide (outGrad Gt Dm Z w b)) (wide W)
    (fun p n => (uaIn_real m c A h0 p n).trans (congrArg _ (wide_at A p n).symm)) (fun p n => (ugIn_real m c U h1 p n).trans (congrArg _ (wide_at U p n).symm))
    (outGrad_pad m c Gt Dm Z w b h2 h5 h6 h7 hz) (cwIn_real m c W h3) Variants.none c none p n).trans ?_
  rw [gated_wide, wide_at]

include h0 h1 h2 h3 h5 h6 h7 hz in
/-- The second result. -/
theorem ugOut_eq : (ugOut m c : Vec Ideal S2048x512 .bf16) = val_main_v524 (F := Ideal) (in0 m c) (in1 m c) (in2 m c) (in3 m c)
        (in4 m c) (in5 m c) (in6 m c) (in7 m c) := by
  funext i
  obtain ⟨p, n, rfl⟩ := idx2 i
  refine Eq.trans ?_ (v524_real (in0 m c) (in1 m c) (in2 m c) (in3 m c)
        (in4 m c) (in5 m c) (in6 m c) (in7 m c) A U (outGrad Gt Dm Z w b) W h0 h1
    (outGrad_ref m c Gt Dm Z w b h2 h5 h6 h7 hz) h3 p n).symm
  refine (ugGrad_real (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15
    (uaIn m c) (ugIn m c) (dconvPad (gbIn m c) (czIn m c) (dmIn m c) (lwIn m c) (lbIn m c)) (cwIn m c) (wide A) (wide U) (wide (outGrad Gt Dm Z w b)) (wide W)
    (fun p n => (uaIn_real m c A h0 p n).trans (congrArg _ (wide_at A p n).symm)) (fun p n => (ugIn_real m c U h1 p n).trans (congrArg _ (wide_at U p n).symm))
    (outGrad_pad m c Gt Dm Z w b h2 h5 h6 h7 hz) (cwIn_real m c W h3) Variants.none c none p n).trans ?_
  rw [gated_wide, wide_at, wide_at]

include h2 h5 h6 h7 hz in
/-- The third result. -/
theorem gbOut_eq : (gbOut m c : Vec Ideal S2048x512 .bf16) = val_main_v525 (F := Ideal) (in0 m c) (in1 m c) (in2 m c) (in3 m c)
        (in4 m c) (in5 m c) (in6 m c) (in7 m c) := by
  funext i
  obtain ⟨p, n, rfl⟩ := idx2 i
  refine (gateGrad_real (czIn m c) (gbIn m c) (dmIn m c) (lwIn m c) (lbIn m c) Z Gt Dm w b (czIn_real m c Z hz) (gbIn_real m c Gt h2) (dmIn_real m c Dm h7)
    (lwIn_real m c w h5) (lbIn_real m c b h6) p n).trans ?_
  exact (v202_real (in0 m c) (in1 m c) (in2 m c) (in3 m c)
        (in4 m c) (in5 m c) (in6 m c) (in7 m c) Z Gt Dm w b hz h2 h7 h5 h6 p n).symm

include h0 h1 h2 h5 h6 h7 hz in
/-- The fourth result. -/
theorem tapOut_eq : (tapOut m c : Vec Ideal S16x1024 .f32) = val_main_v520 (F := Ideal) (in0 m c) (in1 m c) (in2 m c) (in3 m c)
        (in4 m c) (in5 m c) (in6 m c) (in7 m c) := by
  funext x
  obtain ⟨i, k, rfl⟩ := idx2 x
  refine Eq.trans ?_ (v520_real (in0 m c) (in1 m c) (in2 m c) (in3 m c)
        (in4 m c) (in5 m c) (in6 m c) (in7 m c) (outGrad Gt Dm Z w b) (padIn A U)
    (outGrad_ref m c Gt Dm Z w b h2 h5 h6 h7 hz) (v11_real (in0 m c) (in1 m c) A U h0 h1) i k).symm
  have ez : (Memref.whole cc0_scratch3).view.read (Elt Ideal) ((Memref.isWhole_whole cc0_scratch3).unread (k0_pay938 (F := Ideal))) = k0_pay938 (F := Ideal) :=
    (Memref.isWhole_whole cc0_scratch3).read_unread _
  have hs := sumsAt_real (Memref.whole main_arg0) (Memref.isWhole_whole _) (Memref.whole main_arg1) (Memref.isWhole_whole _)
      (Memref.whole main_arg2) (Memref.isWhole_whole _) (Memref.whole main_v167) (Memref.isWhole_whole _)
      (Memref.whole main_arg7) (Memref.isWhole_whole _) (win0_0.stage (cfg0.slots t0_0 0)) (hstage0_0 0)
      (win0_1.stage (cfg0.slots t0_0 1)) (hstage0_1 0) (win0_2.stage (cfg0.slots t0_0 2)) (hstage0_2 0)
      (Memref.whole main_v168_0) (Memref.isWhole_whole _) (Memref.whole main_v168_1) (Memref.isWhole_whole _)
      (Memref.whole main_v168_2) (Memref.isWhole_whole _) (win0_3.stage (cfg0.slots t0_0 3)) (hstage0_3 0)
      (win0_4.stage (cfg0.slots t0_0 4)) (hstage0_4 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      (Memref.whole cc0_scratch9) (Memref.isWhole_whole _) (Memref.whole cc0_scratch10) (Memref.isWhole_whole _)
      (Memref.whole cc0_scratch11) (Memref.isWhole_whole _) cc0_scratch12 cc0_scratch13 cc0_scratch14
      cc0_scratch15
    (dconvPad (gbIn m c) (czIn m c) (dmIn m c) (lwIn m c) (lbIn m c)) (gatedPad (uaIn m c) (ugIn m c)) (wide (outGrad Gt Dm Z w b))
    (fun q n => if q < 32 then 0 else wide A (q - 32) n * sgm (wide U (q - 32) n)) (outGrad_pad m c Gt Dm Z w b h2 h5 h6 h7 hz)
    (gatedPad_real (uaIn m c) (ugIn m c) (wide A) (wide U) (fun p n => (uaIn_real m c A h0 p n).trans (congrArg _ (wide_at A p n).symm))
      (fun p n => (ugIn_real m c U h1 p n).trans (congrArg _ (wide_at U p n).symm)))
    Variants.none c none ((Memref.isWhole_whole cc0_scratch3).unread (k0_pay938 (F := Ideal)))
    (fun q n => (congrFun ez (ix2 q n)).trans (zeros_at q n)) 8 le_rfl
  refine (tapRows_real _ _ hs i k).trans (congrArg _ ?_)
  by_cases h : 2 * i.val + k.val / 512 < 31
  · rw [if_pos h, dif_pos h, eight_parts _ _ _ _ h (Nat.mod_lt _ (by decide)), Finset.sum_range]
    unfold tapSum
    refine Finset.sum_congr rfl fun p _ => ?_
    have hn : k.val % 512 < 512 := Nat.mod_lt _ (by decide)
    have e : wide (outGrad Gt Dm Z w b) p.val (k.val % 512) = outGrad Gt Dm Z w b p ⟨k.val % 512, hn⟩ := wide_at _ p ⟨k.val % 512, hn⟩
    rw [e, mul_comm]
    refine congrArg (· * outGrad Gt Dm Z w b p ⟨k.val % 512, hn⟩) ?_
    exact padIn_wide A U p _ h ⟨k.val % 512, hn⟩
  · rw [if_neg h, dif_neg h]

include h2 h5 h6 h7 hz in
/-- The fifth result. -/
theorem vecOut_eq : (vecOut m c : Vec Ideal S8x512 .f32) = val_main_v522 (F := Ideal) (in0 m c) (in1 m c) (in2 m c) (in3 m c)
        (in4 m c) (in5 m c) (in6 m c) (in7 m c) := by
  funext x
  obtain ⟨i, n, rfl⟩ := idx2 x
  refine Eq.trans ?_ (v522_real (in0 m c) (in1 m c) (in2 m c) (in3 m c)
        (in4 m c) (in5 m c) (in6 m c) (in7 m c) i n).symm
  obtain ⟨e0, e1, e2⟩ := acc_real (czIn m c) (gbIn m c) (dmIn m c) (lwIn m c) (lbIn m c) Z Gt Dm w b (czIn_real m c Z hz) (gbIn_real m c Gt h2)
    (dmIn_real m c Dm h7) (lwIn_real m c w h5) (lbIn_real m c b h6) n
  have r0 := v236_real (in0 m c) (in1 m c) (in2 m c) (in3 m c)
        (in4 m c) (in5 m c) (in6 m c) (in7 m c) Z Gt Dm w b hz h2 h7 h5 h6 n
  have r1 := v208_real (in0 m c) (in1 m c) (in2 m c) (in3 m c)
        (in4 m c) (in5 m c) (in6 m c) (in7 m c) Z Gt Dm w b hz h2 h7 h5 h6 n
  have r2 := v205_real (in0 m c) (in1 m c) (in2 m c) (in3 m c)
        (in4 m c) (in5 m c) (in6 m c) (in7 m c) Z Gt Dm w b hz h2 h7 h5 h6 n
  rw [r0, r1, r2]
  unfold vecOut vecRows
  generalize accAt (F := Ideal) (gbIn m c) (czIn m c) (dmIn m c) (lwIn m c) (lbIn m c) 8 = a at e0 e1 e2 ⊢
  by_cases i0 : i.val = 0
  · rw [if_pos i0]; exact (if_pos i0).trans e0
  rw [if_neg i0]
  refine (if_neg i0).trans ?_
  by_cases i1 : i.val = 1
  · rw [if_pos i1]
    exact (if_pos i1).trans (e1.trans (congrArg _ (Finset.sum_congr rfl fun p _ => mul_comm _ _)))
  rw [if_neg i1]
  refine (if_neg i1).trans ?_
  by_cases i2 : i.val = 2
  · rw [if_pos i2]; exact (if_pos i2).trans e2
  rw [if_neg i2]
  refine (if_neg i2).trans ?_
  pointwise [k0_pay943]

end

/-- The five results, where every argument is finite. -/
theorem conv_values (m : (ℓ : Loc nD τ sig) → Buf (Elt Ideal) ℓ) (h : Cert.Pre_KernelIdeal_finite m) (c : Dev nD) :
    (uaOut m c : Vec Ideal S2048x512 .bf16) = val_main_v523 (F := Ideal) (in0 m c) (in1 m c) (in2 m c) (in3 m c)
        (in4 m c) (in5 m c) (in6 m c) (in7 m c)
    ∧ (ugOut m c : Vec Ideal S2048x512 .bf16) = val_main_v524 (F := Ideal) (in0 m c) (in1 m c) (in2 m c) (in3 m c)
        (in4 m c) (in5 m c) (in6 m c) (in7 m c)
    ∧ (gbOut m c : Vec Ideal S2048x512 .bf16) = val_main_v525 (F := Ideal) (in0 m c) (in1 m c) (in2 m c) (in3 m c)
        (in4 m c) (in5 m c) (in6 m c) (in7 m c)
    ∧ (tapOut m c : Vec Ideal S16x1024 .f32) = val_main_v520 (F := Ideal) (in0 m c) (in1 m c) (in2 m c) (in3 m c)
        (in4 m c) (in5 m c) (in6 m c) (in7 m c)
    ∧ (vecOut m c : Vec Ideal S8x512 .f32) = val_main_v522 (F := Ideal) (in0 m c) (in1 m c) (in2 m c) (in3 m c)
        (in4 m c) (in5 m c) (in6 m c) (in7 m c) := by
  obtain ⟨n0, n1, n2, n3, n4, n5, n6, n7⟩ := args_num m h c
  obtain ⟨A, h0⟩ := table n0
  obtain ⟨U, h1⟩ := table n1
  obtain ⟨Gt, h2⟩ := table n2
  obtain ⟨W, h3⟩ := table n3
  obtain ⟨w, h5⟩ := table n5
  obtain ⟨b, h6⟩ := table n6
  obtain ⟨Dm, h7⟩ := table n7
  have nz := v168_num _ _ _ _ A U h0 h1 n3 n4
  have hz : ∀ p n, _ = (((fun p n => (nz p n).choose) p n : ℝ) : EReal) := fun p n => (nz p n).choose_spec
  exact ⟨uaOut_eq m c A U Gt Dm _ W (w 0) (b 0) h0 h1 h2 h3 (h5 0) (h6 0) h7 hz, ugOut_eq m c A U Gt Dm _ W (w 0) (b 0) h0 h1 h2 h3 (h5 0) (h6 0) h7 hz,
    gbOut_eq m c Gt Dm _ (w 0) (b 0) h2 (h5 0) (h6 0) h7 hz, tapOut_eq m c A U Gt Dm _ (w 0) (b 0) h0 h1 h2 (h5 0) (h6 0) h7 hz,
    vecOut_eq m c Gt Dm _ (w 0) (b 0) h2 (h5 0) (h6 0) h7 hz⟩

end Cert.Proof.Conv

end
-- ==== Proof.ConvAlg.lean ====
/-
  The convolution's backward step: both programs run, and end with the same results.
-/
module

public import proofs.«01_k».proof.Proof.ConvValue
public import proofs.«01_k».proof.Proof.Gen.ReferenceIdeal.Run

@[expose] public section

set_option maxRecDepth 16384

noncomputable section

namespace Cert.Proof

open Idealize.ShloMosaic Idealize.ShloMosaic.TcCoe Idealize.ShloMosaic.Tactic
open Idealize.SL Idealize.SL.Sem Cert.Proof.Conv

/-- The kernel's five results are the reference's, where every argument is finite. -/
theorem conv_algebraic : Cert.algebraic_KernelIdeal_ReferenceIdeal_pre_finite := by
  intro m ρ m' ρ' hm ha
  refine ⟨fun c => uaOut m c, fun c => ugOut m c, fun c => gbOut m c, fun c => tapOut m c, fun c => vecOut m c,
    (θ_run Cert.KernelIdeal.defs _ _).mono (fun r h c => ?_) (conv_run m ρ),
    (θ_run Cert.ReferenceIdeal.defs _ _).mono (fun r h c => ?_) (Cert.ReferenceIdeal.Value.run (F := Ideal) m' ρ')⟩
  · obtain ⟨⟨k0, k1, k2, k3, k4⟩, hargs⟩ := h.1 c
    exact ⟨k0, k1, k2, k3, k4, hargs⟩
  · obtain ⟨h523, h524, h525, h520, h522, hargs⟩ := h c
    obtain ⟨a0, a1, a2, a3, a4, a5, a6, a7⟩ := ha c
    obtain ⟨e0, e1, e2, e3, e4⟩ := conv_values m hm c
    rw [Cert.ReferenceIdeal.Read.val_main_v523_eq] at h523
    rw [Cert.ReferenceIdeal.Read.val_main_v524_eq] at h524
    rw [Cert.ReferenceIdeal.Read.val_main_v525_eq] at h525
    rw [Cert.ReferenceIdeal.Read.val_main_v520_eq] at h520
    rw [Cert.ReferenceIdeal.Read.val_main_v522_eq] at h522
    have l0 : StableHlo.launchContents m' c (Proc.devRef .tc Cert.ReferenceIdeal.main_arg0)
        = m ((c.tc : Thread Cert.KernelIdeal.nD Cert.KernelIdeal.τ).loc Cert.KernelIdeal.main_arg0) := a0
    have l1 : StableHlo.launchContents m' c (Proc.devRef .tc Cert.ReferenceIdeal.main_arg1)
        = m ((c.tc : Thread Cert.KernelIdeal.nD Cert.KernelIdeal.τ).loc Cert.KernelIdeal.main_arg1) := a1
    have l2 : StableHlo.launchContents m' c (Proc.devRef .tc Cert.ReferenceIdeal.main_arg2)
        = m ((c.tc : Thread Cert.KernelIdeal.nD Cert.KernelIdeal.τ).loc Cert.KernelIdeal.main_arg2) := a2
    have l3 : StableHlo.launchContents m' c (Proc.devRef .tc Cert.ReferenceIdeal.main_arg3)
        = m ((c.tc : Thread Cert.KernelIdeal.nD Cert.KernelIdeal.τ).loc Cert.KernelIdeal.main_arg3) := a3
    have l4 : StableHlo.launchContents m' c (Proc.devRef .tc Cert.ReferenceIdeal.main_arg4)
        = m ((c.tc : Thread Cert.KernelIdeal.nD Cert.KernelIdeal.τ).loc Cert.KernelIdeal.main_arg4) := a4
    have l5 : StableHlo.launchContents m' c (Proc.devRef .tc Cert.ReferenceIdeal.main_arg5)
        = m ((c.tc : Thread Cert.KernelIdeal.nD Cert.KernelIdeal.τ).loc Cert.KernelIdeal.main_arg5) := a5
    have l6 : StableHlo.launchContents m' c (Proc.devRef .tc Cert.ReferenceIdeal.main_arg6)
        = m ((c.tc : Thread Cert.KernelIdeal.nD Cert.KernelIdeal.τ).loc Cert.KernelIdeal.main_arg6) := a6
    have l7 : StableHlo.launchContents m' c (Proc.devRef .tc Cert.ReferenceIdeal.main_arg7)
        = m ((c.tc : Thread Cert.KernelIdeal.nD Cert.KernelIdeal.τ).loc Cert.KernelIdeal.main_arg7) := a7
    rw [l0, l1, l2, l3, l4, l5, l6, l7] at h523 h524 h525 h520 h522
    exact ⟨h523.trans e0.symm, h524.trans e1.symm, h525.trans e2.symm, h520.trans e3.symm, h522.trans e4.symm, hargs⟩

end Cert.Proof

end
-- ==== Proof.InCase.lean ====
/-
  What one step of the input projection's grid leaves in each of its staging buffers: the case lemmas.
  The steps come in three cases (the first, a middle one, the last); in each of them the body's stores are
  read back as the payloads of the step's input blocks.
-/
module

public import proofs.«01_k».proof.Proof.Gen.Kernel3Ideal.Value
public import Idealize.ShloMosaic.Lib.Pipeline.Value
public import Idealize.ShloMosaic.Lib.Tactic
public import Idealize.ShloMosaic.Lib.Pipeline.ReadBack
public import Idealize.ShloMosaic.Lib.WritesUnit
public import Idealize.ShloMosaic.Lib.ValueIdx

@[expose] public section

noncomputable section

namespace Cert.Kernel3Ideal.InCase

open Cert.Kernel3Ideal Cert.Kernel3Ideal.Gen Idealize.ShloMosaic Idealize.ShloMosaic.TcCoe Idealize.SL.Sem
open Idealize.ShloMosaic.Pipeline (Dat)
open Idealize.ShloMosaic.ValueIdx (ix2)

variable {F : FTy → Type} [FloatOps F]
variable (c : Dev nD) (i : grid0.Coords)
  (a1 : Memref sig .tc .vmem S256x512 .bf16) (h1 : a1.IsWhole)
  (a2 : Memref sig .tc .vmem S256x256 .bf16) (h2 : a2.IsWhole)
  (a3 : Memref sig .tc .vmem S256x512 .bf16) (h3 : a3.IsWhole)
  (a4 : Memref sig .tc .vmem S256x512 .bf16) (h4 : a4.IsWhole)
  (a5 : Memref sig .tc .vmem S256x512 .bf16) (h5 : a5.IsWhole)
  (a6 : Memref sig .tc .vmem S256x512 .bf16) (h6 : a6.IsWhole)
  (a7 : Memref sig .tc .vmem S256x1024 .f32) (h7 : a7.IsWhole)
  (a8 : Memref sig .tc .vmem S256x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S2816x1024 .bf16) (h12 : a12.IsWhole)
  (a13 : Memref sig .tc .vmem S256x1024 .f32) (h13 : a13.IsWhole)
  (a14 : Memref sig .tc .vmem S2816x1024 .bf16) (h14 : a14.IsWhole)
  (a15 : Memref sig .tc .vmem S8x1024 .f32) (h15 : a15.IsWhole)
  (a16 : Memref sig .tc .vmem S2816x1024 .f32) (h16 : a16.IsWhole)
variable (x0 : Vec F S256x512 .bf16) (x1 : Vec F S256x256 .bf16) (x2 x3 x4 x5 : Vec F S256x512 .bf16) (x6 x7 : Vec F S256x1024 .f32)
  (x8 x9 x10 : Vec F S1x1024 .f32) (x11 : Vec F S2816x1024 .bf16) (xo : Vec F S8x1024 .f32) (xs : Vec F S2816x1024 .f32)

/-- The two zero offsets of a whole load or store, as a constant function. -/
theorem hz : (![0, 0] : Fin 2 → Nat) = fun _ => 0 := funext fun a => by fin_cases a <;> rfl

/-- The cotangent of the residual stream a step writes. -/
def gxStep : FVec F S256x1024 .f32 :=
  k0_pay1 (k0_pay5 x6) (k0_pay6 x6) (k0_pay14 (k0_pay9 x0 x1 x2 x3 x4 x5) x11 x8) x10 x7

/-- The weight-gradient accumulator after a step, over what it held before. -/
def accStep (Z : Vec F S2816x1024 .f32) : FVec F S2816x1024 .f32 :=
  k0_pay11 (k0_pay8 x6 x10 x8 x9) (k0_pay9 x0 x1 x2 x3 x4 x5) Z

/-- Row `r` of the reduction buffer. -/
def rowOf (r : Fin 8) (Z : Vec F S8x1024 .f32) : Vec F S1x1024 .f32 := fun j => Z (ix2 r (j 1))

/-- The reduction buffer with row `r` replaced. -/
def rowOver (r : Fin 8) (p : Vec F S1x1024 .f32) (Z : Vec F S8x1024 .f32) : Vec F S8x1024 .f32 := fun y =>
  if (y 0).val = r.val then p (ix2 0 (y 1)) else Z y

/-- The reduction buffer after a step, from what it held before. -/
def redStep (Z : Vec F S8x1024 .f32) : Vec F S8x1024 .f32 :=
  rowOver 2 (k0_pay15 (k0_pay6 x6) (k0_pay9 x0 x1 x2 x3 x4 x5) x11 x8 (rowOf 2 Z))
    (rowOver 1 (k0_pay13 (k0_pay7 x6 x10) (k0_pay9 x0 x1 x2 x3 x4 x5) x11 (rowOf 1 Z))
      (rowOver 0 (k0_pay12 (k0_pay9 x0 x1 x2 x3 x4 x5) x11 (rowOf 0 Z)) Z))

omit [FloatOps F] in
/-- A store of one row over any earlier contents. -/
theorem read_row {sg : RefSig} {κ : Kind} {sp : Space} (v : View sg κ sp S8x1024 .f32) (f : v.ty.Contents (Elt F)) {o : Fin 2 → Nat}
    (r : Fin 8) (h0 : o 0 = r.val) (h1 : o 1 = 0) (inb) (p : Vec F S1x1024 .f32) (L : List (View.Piece (Elt F) S8x1024 .f32)) :
    v.read (Elt F) (v.writes (Elt F) f ((⟨Rect.unit o ![1, 1024] inb, p⟩ : View.Piece (Elt F) S8x1024 .f32) :: L))
      = rowOver r p (v.read (Elt F) (v.writes (Elt F) f L)) := by
  funext y
  unfold rowOver
  split_ifs with h
  · exact View.read_writes_cons_unit_of_mem v f inb p _ y (ix2 0 (y 1)) rfl (fun a => by
      fin_cases a
      · exact h.trans h0.symm
      · exact ((congrArg (· + _) h1).trans (Nat.zero_add _)).symm)
  · exact View.read_writes_cons_unit_of_not_mem v f inb p _ y rfl 0 (by
      show (y 0).val < o 0 ∨ o 0 + 1 ≤ (y 0).val; omega)

omit [FloatOps F] in
/-- A load of row `r`. -/
theorem ld_row {o : Fin 2 → Nat} (r : Fin 8) (h0 : o 0 = r.val) (h1 : o 1 = 0) (Z : Vec F S8x1024 .f32) (inb) :
    View.ld (S := S8x1024) (e' := .f32) Z (Rect.unit o ![1, 1024] inb) = rowOf r Z :=
  funext fun j => congrArg Z (funext fun a => by
    have hj : (j 0).val < 1 := (j 0).isLt
    fin_cases a
    · exact Fin.ext (by show o 0 + 1 * (j 0).val = r.val; omega)
    · exact Fin.ext (by show o 1 + 1 * (j 1).val = (j 1).val; omega))

/-- A load of row `r` after a fill. -/
theorem fill_row {sg : RefSig} {κ : Kind} {sp : Space} (v : View sg κ sp S8x1024 .f32) (Z : Vec F S8x1024 .f32) {o : Fin 2 → Nat}
    (r : Fin 8) (h0 : o 0 = r.val) (h1 : o 1 = 0) (inb inb') :
    v.readCov [(⟨Rect.unit (s := S8x1024) ![0, 0] S8x1024.size inb, Z⟩ : View.Piece (Elt F) S8x1024 .f32)]
      (Rect.unit (s := S8x1024) o S1x1024.size inb').toLoadRect = rowOf r Z :=
  (View.readCov_fill v inb Z [] (Rect.unit (s := S8x1024) o S1x1024.size inb') (fun a => by fin_cases a <;> rfl)).trans (ld_row r h0 h1 Z inb')

/-- A load of row 1 after a fill and a store of row 0. -/
theorem fill_row1 {sg : RefSig} {κ : Kind} {sp : Space} (v : View sg κ sp S8x1024 .f32) (Z : Vec F S8x1024 .f32)
    (p0 : Vec F S1x1024 .f32) (inb inb0 inb') :
    v.readCov [(⟨Rect.unit (s := S8x1024) ![0, 0] S1x1024.size inb0, p0⟩ : View.Piece (Elt F) S8x1024 .f32),
        (⟨Rect.unit (s := S8x1024) ![0, 0] S8x1024.size inb, Z⟩ : View.Piece (Elt F) S8x1024 .f32)]
      (Rect.unit (s := S8x1024) ![1, 0] S1x1024.size inb').toLoadRect = rowOf 1 Z :=
  (View.readCov_skip v (Rect.unit (s := S8x1024) ![0, 0] S1x1024.size inb0) p0 _ _ (by rfl)).trans (fill_row v Z 1 rfl rfl inb inb')

/-- A load of row 2 after a fill and stores of rows 0 and 1. -/
theorem fill_row2 {sg : RefSig} {κ : Kind} {sp : Space} (v : View sg κ sp S8x1024 .f32) (Z : Vec F S8x1024 .f32)
    (p0 p1 : Vec F S1x1024 .f32) (inb inb0 inb1 inb') :
    v.readCov [(⟨Rect.unit (s := S8x1024) ![1, 0] S1x1024.size inb1, p1⟩ : View.Piece (Elt F) S8x1024 .f32),
        (⟨Rect.unit (s := S8x1024) ![0, 0] S1x1024.size inb0, p0⟩ : View.Piece (Elt F) S8x1024 .f32),
        (⟨Rect.unit (s := S8x1024) ![0, 0] S8x1024.size inb, Z⟩ : View.Piece (Elt F) S8x1024 .f32)]
      (Rect.unit (s := S8x1024) ![2, 0] S1x1024.size inb').toLoadRect = rowOf 2 Z :=
  (View.readCov_skip v (Rect.unit (s := S8x1024) ![1, 0] S1x1024.size inb1) p1 _ _ (by rfl)).trans
    ((View.readCov_skip v (Rect.unit (s := S8x1024) ![0, 0] S1x1024.size inb0) p0 _ _ (by rfl)).trans (fill_row v Z 2 rfl rfl inb inb'))

/-- Case A: the cotangent of the residual stream. -/
theorem v_out0_A_12 (hc0 : cond0_0 i) (hc1 : ¬cond0_1 i) :
    out0_A_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11
      = gxStep x0 x1 x2 x3 x4 x5 x6 x7 x8 x10 x11 := by
  unfold out0_A_12
  rw [View.read_writes_eq_canon _ _ _ (fun _ => cover0_A_12 ..)]
  unfold kernelRun0_A
  dsimp only
  sl_unfold_words
  rw [View.canon_unit_zero hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case B: the cotangent of the residual stream. -/
theorem v_out0_B_12 (hc0 : ¬cond0_0 i) (hc1 : ¬cond0_1 i) :
    out0_B_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = gxStep x0 x1 x2 x3 x4 x5 x6 x7 x8 x10 x11 := by
  unfold out0_B_12
  rw [View.read_writes_eq_canon _ _ _ (fun _ => cover0_B_12 ..)]
  unfold kernelRun0_B
  dsimp only
  sl_unfold_words
  rw [View.canon_unit_zero hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case C: the cotangent of the residual stream. -/
theorem v_out0_C_12 (hc0 : ¬cond0_0 i) (hc1 : cond0_1 i) :
    out0_C_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = gxStep x0 x1 x2 x3 x4 x5 x6 x7 x8 x10 x11 := by
  unfold out0_C_12
  rw [View.read_writes_eq_canon _ _ _ (fun _ => cover0_C_12 ..)]
  unfold kernelRun0_C
  dsimp only
  sl_unfold_words
  rw [View.canon_unit_zero hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case A: the carried weight-gradient accumulator. -/
theorem v_sout0_A (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11
      = accStep x0 x1 x2 x3 x4 x5 x6 x8 x9 x10 k0_pay3 := by
  unfold sout0_A_0
  unfold kernelRun0_A
  dsimp only
  sl_unfold_words
  rw [View.read_writes_junk_eq_canon, View.canon_cons_unit_zero (S := S2816x1024) hz, View.readCov_unit_zero (S := S2816x1024) _ hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case B: the carried weight-gradient accumulator. -/
theorem v_sout0_B (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = accStep x0 x1 x2 x3 x4 x5 x6 x8 x9 x10 xs := by
  unfold sout0_B_0
  unfold kernelRun0_B
  dsimp only
  sl_unfold_words
  rw [View.read_writes_junk_eq_canon, View.canon_cons_unit_zero (S := S2816x1024) hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case C: the carried weight-gradient accumulator. -/
theorem v_sout0_C (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = accStep x0 x1 x2 x3 x4 x5 x6 x8 x9 x10 xs := by
  unfold sout0_C_0
  unfold kernelRun0_C
  dsimp only
  sl_unfold_words
  rw [View.read_writes_junk_eq_canon, View.canon_cons_unit_zero (S := S2816x1024) hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case C: the weight gradient, the accumulator rounded to bf16. -/
theorem v_out0_C_13 (hc0 : ¬cond0_0 i) (hc1 : cond0_1 i) :
    out0_C_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = k0_pay2 (accStep x0 x1 x2 x3 x4 x5 x6 x8 x9 x10 xs) := by
  unfold out0_C_13
  unfold kernelRun0_C
  dsimp only
  sl_unfold_words
  rw [View.read_writes_junk_eq_canon, View.canon_cons_unit_zero (S := S2816x1024) hz, View.readCov_unit_zero (S := S2816x1024) _ hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rfl

/-- Case A: the reduction buffer, started from zero. -/
theorem v_out0_A_14 (hc0 : cond0_0 i) (hc1 : ¬cond0_1 i) :
    out0_A_14 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11
      = redStep x0 x1 x2 x3 x4 x5 x6 x8 x10 x11 k0_pay4 := by
  unfold out0_A_14
  unfold kernelRun0_A
  dsimp only
  sl_unfold_words
  refine (read_row VO0_14 _ 2 rfl rfl _ _ _).trans ?_
  refine (congrArg _ ((read_row VO0_14 _ 1 rfl rfl _ _ _).trans (congrArg _ (read_row VO0_14 _ 0 rfl rfl _ _ _)))).trans ?_
  unfold redStep
  rw [fill_row2, fill_row1, fill_row (o := ![0, 0]) _ _ 0 rfl rfl]
  rw [View.read_writes_junk_eq_canon, View.canon_cons_unit_zero (S := S8x1024) hz]
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]

/-- Case B: the reduction buffer, one tile further. -/
theorem v_out0_B_14 (hc0 : ¬cond0_0 i) (hc1 : ¬cond0_1 i) :
    out0_B_14 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = redStep x0 x1 x2 x3 x4 x5 x6 x8 x10 x11 xo := by
  unfold out0_B_14
  unfold kernelRun0_B
  dsimp only
  sl_unfold_words
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rw [ld_row (o := ![0, 0]) 0 rfl rfl, ld_row (o := ![1, 0]) 1 rfl rfl, ld_row (o := ![2, 0]) 2 rfl rfl]
  refine (read_row a15.view _ 2 rfl rfl _ _ _).trans ?_
  refine (congrArg _ ((read_row a15.view _ 1 rfl rfl _ _ _).trans (congrArg _ (read_row a15.view _ 0 rfl rfl _ _ _)))).trans ?_
  unfold redStep
  rw [View.writes_nil, h15.read_unread]

/-- Case C: the reduction buffer, one tile further. -/
theorem v_out0_C_14 (hc0 : ¬cond0_0 i) (hc1 : cond0_1 i) :
    out0_C_14 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xo xs
      = redStep x0 x1 x2 x3 x4 x5 x6 x8 x10 x11 xo := by
  unfold out0_C_14
  unfold kernelRun0_C
  dsimp only
  sl_unfold_words
  simp only [View.readAt_eq_ld, Memref.IsWhole.read_unread, View.ld_unit_zero (S := S1x1024) hz, View.ld_unit_zero (S := S256x1024) hz, View.ld_unit_zero (S := S256x256) hz, View.ld_unit_zero (S := S256x512) hz, View.ld_unit_zero (S := S2816x1024) hz]
  rw [ld_row (o := ![0, 0]) 0 rfl rfl, ld_row (o := ![1, 0]) 1 rfl rfl, ld_row (o := ![2, 0]) 2 rfl rfl]
  refine (read_row a15.view _ 2 rfl rfl _ _ _).trans ?_
  refine (congrArg _ ((read_row a15.view _ 1 rfl rfl _ _ _).trans (congrArg _ (read_row a15.view _ 0 rfl rfl _ _ _)))).trans ?_
  unfold redStep
  rw [View.writes_nil, h15.read_unread]

end Cert.Kernel3Ideal.InCase

end
-- ==== Proof.InFold.lean ====
/-
  The input projection's grid as a fold: the residual cotangent of each tile, and the two buffers carried from one
  step to the next (the reduction rows and the weight-gradient accumulator).
-/
module

public import proofs.«01_k».proof.Proof.InCase

@[expose] public section

noncomputable section

namespace Cert.Kernel3Ideal.InFold

open Cert.Kernel3Ideal Cert.Kernel3Ideal.Gen Cert.Kernel3Ideal.InCase Cert.Kernel3Ideal.Value
open Idealize.ShloMosaic Idealize.ShloMosaic.TcCoe Idealize.SL.Sem

variable {F : FTy → Type} [FloatOps F]
variable (m : (ℓ : Loc nD τ sig) → Buf (Elt F) ℓ) (c : Dev nD)

/-- The residual cotangent of tile `t`. -/
def tileX (t : Fin cfg0.N) : FVec F S256x1024 .f32 :=
  gxStep (iblk m c 0 t) (iblk m c 1 t) (iblk m c 2 t) (iblk m c 3 t) (iblk m c 4 t) (iblk m c 5 t) (iblk m c 6 t) (iblk m c 7 t)
    (iblk m c 8 t) (iblk m c 10 t) (iblk m c 11 t)

/-- The reduction rows after a step at tile `t`, over what they held before. -/
def tileRed (t : Fin cfg0.N) (Z : Vec F S8x1024 .f32) : Vec F S8x1024 .f32 :=
  redStep (iblk m c 0 t) (iblk m c 1 t) (iblk m c 2 t) (iblk m c 3 t) (iblk m c 4 t) (iblk m c 5 t) (iblk m c 6 t)
    (iblk m c 8 t) (iblk m c 10 t) (iblk m c 11 t) Z

/-- The weight-gradient accumulator after a step at tile `t`, over what it held before. -/
def tileAcc (t : Fin cfg0.N) (Z : Vec F S2816x1024 .f32) : FVec F S2816x1024 .f32 :=
  accStep (iblk m c 0 t) (iblk m c 1 t) (iblk m c 2 t) (iblk m c 3 t) (iblk m c 4 t) (iblk m c 5 t) (iblk m c 6 t)
    (iblk m c 8 t) (iblk m c 9 t) (iblk m c 10 t) Z

/-- The reduction rows after step `n`. -/
def redAt : (n : ℕ) → n < cfg0.N → Vec F S8x1024 .f32
  | 0, h => tileRed m c ⟨0, h⟩ k0_pay4
  | n + 1, h => tileRed m c ⟨n + 1, h⟩ (redAt n (Nat.lt_of_succ_lt h))

/-- The weight-gradient accumulator after step `n`. -/
def accAt : (n : ℕ) → n < cfg0.N → Vec F S2816x1024 .f32
  | 0, h => tileAcc m c ⟨0, h⟩ k0_pay3
  | n + 1, h => tileAcc m c ⟨n + 1, h⟩ (accAt n (Nat.lt_of_succ_lt h))

/-- Step `n` leaves the residual cotangent of its own tile. -/
theorem outs_12 (n : ℕ) (h : n < cfg0.N) : (outsAt0 m c n h).1 = tileX m c ⟨n, h⟩ := by
  have hN := lt_of_lt_of_eq h (show cfg0.N = 8 from N_0)
  by_cases h0 : n % 8 = 0
  · have h1 : ¬ n % 8 = 7 := by omega
    rw [outsAt0_A m c ⟨n, h⟩ h0 h1]; dsimp only [tileX]; rw [v_out0_A_12]
  · by_cases h1 : n % 8 = 7
    · rw [outsAt0_C m c ⟨n, h⟩ h0 h1]; dsimp only [tileX]; rw [v_out0_C_12]
    · rw [outsAt0_B m c ⟨n, h⟩ h0 h1]; dsimp only [tileX]; rw [v_out0_B_12]

/-- Step `n` leaves the reduction rows as the fold says. -/
theorem outs_red : ∀ (n : ℕ) (h : n < cfg0.N), (outsAt0 m c n h).2.2.1 = redAt m c n h
  | 0, h => by
    rw [outsAt0_A m c ⟨0, h⟩ (Nat.zero_mod 8) (by change ¬ 0 % 8 = 7; decide)]
    dsimp only [redAt, tileRed]; rw [v_out0_A_14]
  | n + 1, h => by
    have hN := lt_of_lt_of_eq h (show cfg0.N = 8 from N_0)
    have h0 : ¬(n + 1) % 8 = 0 := by omega
    have ih := outs_red n (Nat.lt_of_succ_lt h)
    by_cases h1 : (n + 1) % 8 = 7
    · rw [outsAt0_C m c ⟨n + 1, h⟩ h0 h1]
      dsimp only [redAt, tileRed]
      rw [v_out0_C_14, ← ih]; rfl
    · rw [outsAt0_B m c ⟨n + 1, h⟩ h0 h1]
      dsimp only [redAt, tileRed]
      rw [v_out0_B_14, ← ih]; rfl

/-- Step `n` leaves the weight-gradient accumulator as the fold says. -/
theorem outs_acc : ∀ (n : ℕ) (h : n < cfg0.N), (outsAt0 m c n h).2.2.2 = accAt m c n h
  | 0, h => by
    rw [outsAt0_A m c ⟨0, h⟩ (Nat.zero_mod 8) (by change ¬ 0 % 8 = 7; decide)]
    dsimp only [accAt, tileAcc]; rw [v_sout0_A]
  | n + 1, h => by
    have hN := lt_of_lt_of_eq h (show cfg0.N = 8 from N_0)
    have h0 : ¬(n + 1) % 8 = 0 := by omega
    have ih := outs_acc n (Nat.lt_of_succ_lt h)
    by_cases h1 : (n + 1) % 8 = 7
    · rw [outsAt0_C m c ⟨n + 1, h⟩ h0 h1]
      dsimp only [accAt, tileAcc]
      rw [v_sout0_C, ← ih]; rfl
    · rw [outsAt0_B m c ⟨n + 1, h⟩ h0 h1]
      dsimp only [accAt, tileAcc]
      rw [v_sout0_B, ← ih]; rfl

/-- The last step leaves the weight gradient: the accumulator rounded. -/
theorem outs_13 (h : 7 < cfg0.N) : (outsAt0 m c 7 h).2.1 = k0_pay2 (accAt m c 7 h) := by
  rw [outsAt0_C m c ⟨7, h⟩ (by change ¬ 7 % 8 = 0; decide) (by change 7 % 8 = 7; decide)]
  rw [show accAt m c 7 h = tileAcc m c ⟨7, h⟩ (accAt m c 6 (Nat.lt_of_succ_lt h)) from rfl, ← outs_acc]
  dsimp only [tileAcc]
  rw [v_out0_C_13]

/-- The residual cotangent's array, at an index: the tile that holds it. -/
theorem G12_apply (i : S2048x1024.Idx) (h : pt12Of i < cfg0.N) : G12 m c i = tileX m c ⟨pt12Of i, h⟩ (loc12Of i) := by
  unfold G12
  rw [dif_pos h, ← outsAt0_sweep, outs_12]

/-- The weight gradient's array. -/
theorem G13_eq (h : 7 < cfg0.N) : G13 m c = k0_pay2 (accAt m c 7 h) := by
  rw [G13_last, ← outsAt0_sweep, outs_13]

/-- The reduction rows' array. -/
theorem G14_eq (h : 7 < cfg0.N) : G14 m c = redAt m c 7 h := by
  rw [G14_last, ← outsAt0_sweep, outs_red]

end Cert.Kernel3Ideal.InFold

end
-- ==== Proof.InRead.lean ====
/-
  The input projection's arithmetic read at an index, over the ideal floats: the normalised row, the cotangent's
  product with the weight, and the sums of a tile.
-/
module

public import proofs.«01_k».proof.Proof.InFold
public import Idealize.ShloMosaic.Lib.Pointwise

@[expose] public section

set_option maxRecDepth 16384

noncomputable section

namespace Cert.Kernel3Ideal.InRead

open Cert.Kernel3Ideal Cert.Kernel3Ideal.Gen Cert.Kernel3Ideal.InCase
open Idealize.ShloMosaic Idealize.ShloMosaic.TcCoe Idealize.SL.Sem

variable (b0 : Vec Ideal S256x512 .bf16) (b1 : Vec Ideal S256x256 .bf16) (b2 b3 b4 b5 : Vec Ideal S256x512 .bf16)
  (x d : Vec Ideal S256x1024 .f32) (s sh nw z : Vec Ideal S1x1024 .f32) (N : Vec Ideal S256x2816 .bf16)
  (w : Vec Ideal S2816x1024 .bf16)

/-- The inverse root mean square of a row. -/
theorem pay5_apply (r : Fin 256) : k0_pay5 x (ix2 r 0) = Ideal.rsqrt (Ideal.div (∑ k : Fin 1024, x (ix2 r k) * x (ix2 r k))
    (Ideal.ofBits .f32 0x44800000#32) + Ideal.ofBits .f32 0x358637BD#32) := by
  pointwise [k0_pay5]

/-- The row over its root mean square. -/
theorem pay6_apply (r : Fin 256) (n : Fin 1024) : k0_pay6 x (ix2 r n) = x (ix2 r n) * k0_pay5 x (ix2 r 0) := by
  pointwise [k0_pay6]

/-- The same by the norm's weight. -/
theorem pay7_apply (r : Fin 256) (n : Fin 1024) : k0_pay7 x nw (ix2 r n) = k0_pay6 x (ix2 r n) * nw (ix2 0 n) := by
  pointwise [k0_pay7]

/-- The projection's input. -/
theorem pay8_apply (r : Fin 256) (n : Fin 1024) :
    k0_pay8 x nw s sh (ix2 r n) = k0_pay7 x nw (ix2 r n) * s (ix2 0 n) + sh (ix2 0 n) := by
  pointwise [k0_pay8]

/-- The six cotangents side by side. -/
theorem pay9_apply (r : Fin 256) (k : Fin 2816) : k0_pay9 b0 b1 b2 b3 b4 b5 (ix2 r k)
    = if h : k.val < 512 then b0 (ix2 r ⟨k.val, h⟩)
      else if h : k.val - 512 < 256 then b1 (ix2 r ⟨k.val - 512, h⟩)
      else if h : k.val - 512 - 256 < 512 then b2 (ix2 r ⟨k.val - 512 - 256, h⟩)
      else if h : k.val - 512 - 256 - 512 < 512 then b3 (ix2 r ⟨k.val - 512 - 256 - 512, h⟩)
      else if h : k.val - 512 - 256 - 512 - 512 < 512 then b4 (ix2 r ⟨k.val - 512 - 256 - 512 - 512, h⟩)
      else b5 (ix2 r ⟨k.val - 512 - 256 - 512 - 512 - 512, by omega⟩) := by
  pointwise [k0_pay9]

/-- The cotangent of the projection's input. -/
theorem pay10_apply (r : Fin 256) (n : Fin 1024) : k0_pay10 N w (ix2 r n) = ∑ k : Fin 2816, N (ix2 r k) * w (ix2 k n) := by
  pointwise [k0_pay10]

/-- The weight gradient's step. -/
theorem pay11_apply (h : Vec Ideal S256x1024 .bf16) (Z : Vec Ideal S2816x1024 .f32) (k : Fin 2816) (n : Fin 1024) :
    k0_pay11 h N Z (ix2 k n) = Z (ix2 k n) + ∑ r : Fin 256, N (ix2 r k) * h (ix2 r n) := by
  pointwise [k0_pay11]

/-- The shift's row, a step. -/
theorem pay12_apply (n : Fin 1024) : k0_pay12 N w z (ix2 0 n) = z (ix2 0 n) + ∑ r : Fin 256, k0_pay10 N w (ix2 r n) := by
  pointwise [k0_pay12]

/-- The scale's row, a step. -/
theorem pay13_apply (n : Fin 1024) :
    k0_pay13 d N w z (ix2 0 n) = z (ix2 0 n) + ∑ r : Fin 256, k0_pay10 N w (ix2 r n) * d (ix2 r n) := by
  pointwise [k0_pay13]

/-- The cotangent of the weighted norm. -/
theorem pay14_apply (r : Fin 256) (n : Fin 1024) : k0_pay14 N w s (ix2 r n) = k0_pay10 N w (ix2 r n) * s (ix2 0 n) := by
  pointwise [k0_pay14]

/-- The norm weight's row, a step. -/
theorem pay15_apply (n : Fin 1024) :
    k0_pay15 d N w s z (ix2 0 n) = z (ix2 0 n) + ∑ r : Fin 256, k0_pay14 N w s (ix2 r n) * d (ix2 r n) := by
  pointwise [k0_pay15]

/-- The cotangent of the residual stream. -/
theorem pay1_apply (q : Vec Ideal S256x1 .f32) (u e : Vec Ideal S256x1024 .f32) (r : Fin 256) (n : Fin 1024) :
    k0_pay1 q x u nw e (ix2 r n) = e (ix2 r n) + q (ix2 r 0) * (u (ix2 r n) * nw (ix2 0 n)
      - x (ix2 r n) * Ideal.div (∑ k : Fin 1024, u (ix2 r k) * nw (ix2 0 k) * x (ix2 r k)) (Ideal.ofBits .f32 0x44800000#32)) := by
  pointwise [k0_pay1]

/-- The weight gradient's rounding. -/
theorem pay2_apply (Z : Vec Ideal S2816x1024 .f32) (k : Fin 2816) (n : Fin 1024) : k0_pay2 Z (ix2 k n) = Z (ix2 k n) := by
  pointwise [k0_pay2]

/-- The weight gradient's start. -/
theorem pay3_apply (k : Fin 2816) (n : Fin 1024) : (k0_pay3 (F := Ideal)) (ix2 k n) = 0 := by
  pointwise [k0_pay3]

/-- The reduction rows' start. -/
theorem pay4_apply (a : Fin 8) (n : Fin 1024) : (k0_pay4 (F := Ideal)) (ix2 a n) = 0 := by
  pointwise [k0_pay4]

end Cert.Kernel3Ideal.InRead

end
-- ==== Proof.InRef.lean ====
/-
  The reference of the input projection read at an index, over the ideal floats: each of its values as the plain
  formula, in the names of the values before it.
-/
module

public import proofs.«01_k».proof.Proof.Gen.Reference3Ideal.Read
public import Idealize.ShloMosaic.Lib.Pointwise

@[expose] public section

set_option maxRecDepth 16384

noncomputable section

namespace Cert.Reference3Ideal.InRef

open Cert.Reference3Ideal Cert.Reference3Ideal.Read
open Idealize.ShloMosaic Idealize.ShloMosaic.TcCoe Idealize.SL.Sem

variable (x0 : (⟨S2048x512, .bf16⟩ : BufTy).Contents (Elt Ideal)) (x1 : (⟨S2048x256, .bf16⟩ : BufTy).Contents (Elt Ideal))
  (x2 x3 x4 x5 : (⟨S2048x512, .bf16⟩ : BufTy).Contents (Elt Ideal)) (x6 x7 : (⟨S2048x1024, .f32⟩ : BufTy).Contents (Elt Ideal))
  (x8 x9 x10 : (⟨S1x1024, .f32⟩ : BufTy).Contents (Elt Ideal)) (x11 : (⟨S1024x2816, .f32⟩ : BufTy).Contents (Elt Ideal))

/-- The mean square of a row, with the small number. -/
theorem var (r : Fin 2048) : val_main_v6 (F := Ideal) x6 (ix2 r 0)
    = Ideal.div (∑ k : Fin 1024, x6 (ix2 r k) * x6 (ix2 r k)) (Ideal.ofBits .f32 0x44800000#32) + Ideal.ofBits .f32 0x358637BD#32 := by
  pointwise [val_main_v6, val_main_v5, val_main_v4, val_main_v3, val_main_v2, val_main_v1, val_main_v0, val_main_cst, val_main_cst_0, val_main_cst_1]

/-- The inverse root mean square of a row. -/
theorem inv (r : Fin 2048) : val_main_v7 (F := Ideal) x6 (ix2 r 0)
    = Ideal.rsqrt (val_main_v6 (F := Ideal) x6 (ix2 r 0)) := by
  pointwise [val_main_v7]

/-- The row over its root mean square. -/
theorem xh (r : Fin 2048) (n : Fin 1024) : val_main_v12 (F := Ideal) x6 (ix2 r n)
    = x6 (ix2 r n) * val_main_v7 (F := Ideal) x6 (ix2 r 0) := by
  pointwise [val_main_v12, val_main_v11]

/-- The same by the norm's weight. -/
theorem nrm (r : Fin 2048) (n : Fin 1024) : val_main_v14 (F := Ideal) x6 x10 (ix2 r n)
    = val_main_v12 (F := Ideal) x6 (ix2 r n) * x10 (ix2 0 n) := by
  pointwise [val_main_v14, val_main_v13]

/-- The projection's input. -/
theorem h (r : Fin 2048) (n : Fin 1024) : val_main_v20 (F := Ideal) x6 x8 x9 x10 (ix2 r n)
    = val_main_v14 (F := Ideal) x6 x10 (ix2 r n) * val_main_v16 (F := Ideal) x9 (ix2 0 n) + x8 (ix2 0 n) := by
  pointwise [val_main_v20, val_main_v19, val_main_v18, val_main_v17]

/-- The six cotangents side by side. -/
theorem dp (r : Fin 2048) (k : Fin 2816) : val_main_v28 (F := Ideal) x0 x1 x2 x3 x4 x5 (ix2 r k)
    = if h : k.val < 512 then x0 (ix2 r ⟨k.val, h⟩)
      else if h : k.val - 512 < 256 then x1 (ix2 r ⟨k.val - 512, h⟩)
      else if h : k.val - 512 - 256 < 512 then x2 (ix2 r ⟨k.val - 512 - 256, h⟩)
      else if h : k.val - 512 - 256 - 512 < 512 then x3 (ix2 r ⟨k.val - 512 - 256 - 512, h⟩)
      else if h : k.val - 512 - 256 - 512 - 512 < 512 then x4 (ix2 r ⟨k.val - 512 - 256 - 512 - 512, h⟩)
      else x5 (ix2 r ⟨k.val - 512 - 256 - 512 - 512 - 512, by omega⟩) := by
  pointwise [val_main_v28, val_main_v27, val_main_v26, val_main_v25, val_main_v24, val_main_v23, val_main_v22]

/-- The cotangent of the projection's input. -/
theorem dh (r : Fin 2048) (n : Fin 1024) : val_main_v31 (F := Ideal) x0 x1 x2 x3 x4 x5 x11 (ix2 r n)
    = ∑ k : Fin 2816, val_main_v28 (F := Ideal) x0 x1 x2 x3 x4 x5 (ix2 r k) * x11 (ix2 n k) := by
  pointwise [val_main_v31]

/-- The cotangent of the weighted norm. -/
theorem dn (r : Fin 2048) (n : Fin 1024) : val_main_v38 (F := Ideal) x0 x1 x2 x3 x4 x5 x9 x11 (ix2 r n)
    = val_main_v31 (F := Ideal) x0 x1 x2 x3 x4 x5 x11 (ix2 r n) * val_main_v16 (F := Ideal) x9 (ix2 0 n) := by
  pointwise [val_main_v38, val_main_v37]

/-- The cotangent of the norm. -/
theorem dxh (r : Fin 2048) (n : Fin 1024) : val_main_v43 (F := Ideal) x0 x1 x2 x3 x4 x5 x9 x10 x11 (ix2 r n)
    = val_main_v38 (F := Ideal) x0 x1 x2 x3 x4 x5 x9 x11 (ix2 r n) * x10 (ix2 0 n) := by
  pointwise [val_main_v43, val_main_v42]

/-- The cotangent of the mean square, over the width. -/
theorem dv (r : Fin 2048) : val_main_v53 (F := Ideal) x0 x1 x2 x3 x4 x5 x6 x9 x10 x11 (ix1 r)
    = Ideal.div ((∑ k : Fin 1024, x6 (ix2 r k) * val_main_v43 (F := Ideal) x0 x1 x2 x3 x4 x5 x9 x10 x11 (ix2 r k)) * (Ideal.ofBits .f32 0xBF000000#32 * Ideal.div (val_main_v7 (F := Ideal) x6 (ix2 r 0)) (val_main_v6 (F := Ideal) x6 (ix2 r 0)))) (Ideal.ofBits .f32 0x44800000#32) := by
  pointwise [val_main_v53, val_main_v52, val_main_v51, val_main_v50, val_main_v46, val_main_v45, val_main_v44, val_main_v10, val_main_v9, val_main_v8, val_main_cst_2, val_main_cst_7, val_main_cst_8, val_main_cst_9]
  exact Fin.sum_univ_one _

/-- The cotangent of the residual stream. -/
theorem dx (r : Fin 2048) (n : Fin 1024) : val_main_v58 (F := Ideal) x0 x1 x2 x3 x4 x5 x6 x7 x9 x10 x11 (ix2 r n)
    = x7 (ix2 r n) + val_main_v43 (F := Ideal) x0 x1 x2 x3 x4 x5 x9 x10 x11 (ix2 r n) * val_main_v7 (F := Ideal) x6 (ix2 r 0) + x6 (ix2 r n) * val_main_v53 (F := Ideal) x0 x1 x2 x3 x4 x5 x6 x9 x10 x11 (ix1 r) + val_main_v53 (F := Ideal) x0 x1 x2 x3 x4 x5 x6 x9 x10 x11 (ix1 r) * x6 (ix2 r n) := by
  pointwise [val_main_v58, val_main_v57, val_main_v56, val_main_v55, val_main_v54, val_main_v49, val_main_v48, val_main_v47]

/-- The weight's gradient. -/
theorem dw (k : Fin 2816) (n : Fin 1024) : val_main_v62 (F := Ideal) x0 x1 x2 x3 x4 x5 x6 x8 x9 x10 (ix2 k n)
    = ∑ r : Fin 2048, val_main_v28 (F := Ideal) x0 x1 x2 x3 x4 x5 (ix2 r k) * val_main_v20 (F := Ideal) x6 x8 x9 x10 (ix2 r n) := by
  pointwise [val_main_v62, val_main_v61, val_main_v30, val_main_v29]

/-- The reduction rows: the gradients of the shift, the scale and the norm's weight, five rows of zeros. -/
theorem red (a : Fin 8) (n : Fin 1024) : val_main_v60 (F := Ideal) x0 x1 x2 x3 x4 x5 x6 x9 x10 x11 (ix2 a n)
    = if a.val = 0 then ∑ r : Fin 2048, val_main_v31 (F := Ideal) x0 x1 x2 x3 x4 x5 x11 (ix2 r n)
      else if a.val = 1 then ∑ r : Fin 2048, val_main_v14 (F := Ideal) x6 x10 (ix2 r n) * val_main_v31 (F := Ideal) x0 x1 x2 x3 x4 x5 x11 (ix2 r n)
      else if a.val = 2 then ∑ r : Fin 2048, val_main_v12 (F := Ideal) x6 (ix2 r n) * val_main_v38 (F := Ideal) x0 x1 x2 x3 x4 x5 x9 x11 (ix2 r n) else 0 := by
  pointwise [val_main_v60, val_main_v59, val_main_v41, val_main_v40, val_main_v39, val_main_v36, val_main_v35, val_main_v34, val_main_v33, val_main_v32, val_main_cst_4, val_main_cst_5, val_main_cst_6, val_main_cst_10]
  have ha := a.isLt
  split_ifs <;> first | rfl | omega

end Cert.Reference3Ideal.InRef

end
-- ==== Proof.InAlg.lean ====
/-
  The row normalisation's gradient: the input projection writes it with the row's inverse root mean square taken out, the
  reference as the chain rule gives it. The two agree at every extended real.
-/
module

public import proofs.«01_k».proof.Proof.ConvRefNorm
public import proofs.«01_k».proof.Proof.ConvFinite

@[expose] public section

set_option maxRecDepth 16384

noncomputable section

namespace Cert.Proof.In

open Cert.Proof.Conv
open Idealize.ShloMosaic

theorem n1024_eq : (Ideal.ofBits .f32 0x44800000#32 : EReal) = ((1024 : ℝ) : EReal) := by
  simp [Ideal.ofBits, Ideal.ieee, -EReal.coe_mul]; norm_num

/-- A quotient by a number other than zero is a product by its inverse. -/
theorem div_coe (x : EReal) {b : ℝ} (hb : b ≠ 0) : Ideal.div x (b : EReal) = x * ((b⁻¹ : ℝ) : EReal) := by
  unfold Ideal.div
  rw [if_neg (by exact_mod_cast hb), EReal.coe_inv]

/-- A number that is not negative distributes over any sum. -/
theorem sum_mul_coe {n : ℕ} (f : Fin n → EReal) {r : ℝ} (hr : 0 ≤ r) : ∑ k, f k * (r : EReal) = (∑ k, f k) * (r : EReal) := by
  classical
  refine Finset.induction_on (Finset.univ : Finset (Fin n)) (by simp) fun a s ha ih => ?_
  rw [Finset.sum_insert ha, Finset.sum_insert ha, ih,
    EReal.right_distrib_of_nonneg_of_ne_top (by exact_mod_cast hr) (EReal.coe_ne_top r)]

/-- Twice a multiple by a number. -/
theorem mul_double (S : EReal) (a : ℝ) : S * (a : EReal) + S * (a : EReal) = S * ((2 * a : ℝ) : EReal) := by
  induction S with
  | coe s => rw [← EReal.coe_mul, ← EReal.coe_add, ← EReal.coe_mul]; congr 1; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A square is at least zero. -/
theorem mul_self_nonneg' (x : EReal) : 0 ≤ x * x := by
  induction x with
  | coe s => rw [← EReal.coe_mul]; exact_mod_cast mul_self_nonneg s
  | top => simp
  | bot => simp

/-- A sum of squares with one infinite entry is infinite. -/
theorem sum_sq_top (x : Fin 1024 → EReal) (k : Fin 1024) (hk : ¬ IsNum (x k)) : ∑ k, x k * x k = ⊤ := by
  have h1 : x k * x k = ⊤ := by
    revert hk
    induction x k with
    | coe s => intro h; exact absurd ⟨s, rfl⟩ h
    | top => intro _; simp
    | bot => intro _; simp
  exact top_le_iff.mp (h1 ▸ Finset.single_le_sum (f := fun k => x k * x k) (fun k _ => mul_self_nonneg' (x k)) (Finset.mem_univ k))

/-- The two forms of the residual stream's cotangent. -/
theorem norm_eq (x g : Fin 1024 → EReal) (n : Fin 1024) (d v r P : EReal)
    (hv : v = Ideal.div (∑ k, x k * x k) (Ideal.ofBits .f32 0x44800000#32) + Ideal.ofBits .f32 0x358637BD#32) (hr : r = Ideal.rsqrt v)
    (hP : P = Ideal.div ((∑ k, x k * g k) * (Ideal.ofBits .f32 0xBF000000#32 * Ideal.div r v)) (Ideal.ofBits .f32 0x44800000#32)) :
    d + r * (g n - x n * r * Ideal.div (∑ k, g k * (x k * r)) (Ideal.ofBits .f32 0x44800000#32)) = d + g n * r + x n * P + P * x n := by
  have h0 : (1024 : ℝ) ≠ 0 := by norm_num
  by_cases hx : ∀ k, IsNum (x k)
  · choose X hX using hx
    have hp : 0 < (∑ k, X k * X k) / 1024 + epsR :=
      add_pos_of_nonneg_of_pos (div_nonneg (Finset.sum_nonneg fun k _ => mul_self_nonneg _) (by norm_num)) eps_pos
    have hs : (∑ k, x k * x k) = ((∑ k, X k * X k : ℝ) : EReal) := by
      rw [coe_sum]; exact Finset.sum_congr rfl fun k _ => by rw [hX k, EReal.coe_mul]
    rw [hs, n1024_eq, eps_eq, div_real _ h0, ← EReal.coe_add] at hv
    generalize (∑ k, X k * X k) / 1024 + epsR = w at hp hv
    rw [hv, rsqrt_eq hp] at hr
    have hs0 : 0 < Real.sqrt w := Real.sqrt_pos.mpr hp
    have h2 : Real.sqrt w * Real.sqrt w = w := Real.mul_self_sqrt hp.le
    generalize Real.sqrt w = s at hs0 h2 hr
    subst hr
    have e : ∑ k, g k * (x k * ((s⁻¹ : ℝ) : EReal)) = (∑ k, x k * g k) * ((s⁻¹ : ℝ) : EReal) := by
      rw [← sum_mul_coe _ (inv_nonneg.mpr hs0.le)]
      exact Finset.sum_congr rfl fun k _ => by rw [← mul_assoc, mul_comm (g k)]
    rw [hv, n1024_eq, nhalf_eq, div_real _ hp.ne', ← EReal.coe_mul, div_coe _ h0] at hP
    rw [e, n1024_eq, div_coe _ h0, hX n]
    generalize (∑ k, x k * g k) = S at hP
    have eP : ((X n : ℝ) : EReal) * P = S * ((X n * (-(1 / 2) * (s⁻¹ / w)) * 1024⁻¹ : ℝ) : EReal) := by
      rw [hP]; simp only [EReal.coe_mul]; ac_rfl
    rw [mul_comm P, eP, sub_eq_add_neg, EReal.left_distrib_of_nonneg_of_ne_top
      (by exact_mod_cast (inv_pos.mpr hs0).le) (EReal.coe_ne_top _), add_assoc (d + _), mul_double, ← add_assoc]
    refine congrArg₂ (· + ·) (by rw [mul_comm (g n)]) ?_
    have eK : ((s⁻¹ : ℝ) : EReal) * -(((X n : ℝ) : EReal) * ((s⁻¹ : ℝ) : EReal) * (S * ((s⁻¹ : ℝ) : EReal) * ((1024⁻¹ : ℝ) : EReal)))
        = S * ((-(s⁻¹ * X n * s⁻¹ * s⁻¹ * 1024⁻¹) : ℝ) : EReal) := by
      rw [EReal.coe_neg, mul_neg, mul_neg]; simp only [EReal.coe_mul]; congr 1; ac_rfl
    rw [eK]
    congr 2
    rw [← h2]
    field_simp
  · push Not at hx
    obtain ⟨k, hk⟩ := hx
    have hv' : v = ⊤ := by
      rw [hv, sum_sq_top x k hk, n1024_eq, eps_eq, div_coe _ h0, EReal.top_mul_coe_of_pos (by norm_num), EReal.top_add_coe]
    have hr' : r = 0 := by rw [hr, hv']; rfl
    have hP' : P = 0 := by
      rw [hP, hr', hv', n1024_eq, div_coe _ h0]; simp [Ideal.div]
    rw [hP', hr']; simp

end Cert.Proof.In

end
-- ==== Proof.InValue.lean ====
/-
  The input projection's three results are the reference's: the residual cotangent, the weight gradient (eight tiles
  of rows summed) and the reduction rows.
-/
module

public import proofs.«01_k».proof.Proof.InRead
public import proofs.«01_k».proof.Proof.InRef
public import proofs.«01_k».proof.Proof.InAlg
public import Idealize.ShloMosaic.Lib.StableHlo.RunRead

@[expose] public section

set_option maxRecDepth 16384

noncomputable section

namespace Cert.Kernel3Ideal.InValue

open Cert.Kernel3Ideal Cert.Kernel3Ideal.Gen Cert.Kernel3Ideal.InCase Cert.Kernel3Ideal.InFold Cert.Kernel3Ideal.InRead
open Cert.Kernel3Ideal.Value Cert.Reference3Ideal.Read
open Idealize.ShloMosaic Idealize.ShloMosaic.TcCoe Idealize.ShloMosaic.Tactic Idealize.SL.Sem

/-- Row `r` of tile `t`, among all the rows. -/
def row (t : Fin cfg0.N) (r : Fin 256) : Fin 2048 :=
  ⟨t.val * 256 + r.val, by have := lt_of_lt_of_eq t.isLt (show cfg0.N = 8 from N_0); omega⟩

section Blocks

variable {F : FTy → Type} [FloatOps F]
variable (m : (ℓ : Loc nD τ sig) → Buf (Elt F) ℓ) (c : Dev nD) (t : Fin cfg0.N)

/-- Window 0's block at tile `t`: the tile's rows of the argument. -/
theorem blk0 (r : Fin 256) (k : Fin 512) :
    (iblk m c 0 t : Vec F S256x512 .bf16) (ix2 r k) = m ((c : Thread nD τ).loc main_arg0) (ix2 (row t r) k) := by
  have hi : win0_0.index t 0 = t.val ∧ win0_0.index t 1 = 0 := by rcases fin_N0 t with rfl | rfl | rfl | rfl | rfl | rfl | rfl | rfl <;> decide
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [hi.1]; omega
  | ⟨1, _⟩ => show win0_0.index t 1 * 512 + 1 * k.val = k.val; rw [hi.2]; omega

/-- Window 1's block at tile `t`: the tile's rows of the argument. -/
theorem blk1 (r : Fin 256) (k : Fin 256) :
    (iblk m c 1 t : Vec F S256x256 .bf16) (ix2 r k) = m ((c : Thread nD τ).loc main_arg1) (ix2 (row t r) k) := by
  have hi : win0_1.index t 0 = t.val ∧ win0_1.index t 1 = 0 := by rcases fin_N0 t with rfl | rfl | rfl | rfl | rfl | rfl | rfl | rfl <;> decide
  unfold iblk
  rw [View.read_apply]
  show V m c main_arg1 _ = _
  rw [V_main_arg1]
  congr 1
  funext a
  apply Fin.ext
  match a with
  | ⟨0, _⟩ => show win0_1.index t 0 * 256 + 1 * r.val = t.val * 256 + r.val; rw [hi.1]; omega
  | ⟨1, _⟩ => show win0_1.index t 1 * 256 + 1 * k.val = k.val; rw [hi.2]; omega

/-- Window 2's block at tile `t`: the tile's rows of the argument. -/
theorem blk2 (r : Fin 256) (k : Fin 512) :
    (iblk m c 2 t : Vec F S256x512 .bf16) (ix2 r k) = m ((c : Thread nD τ).loc main_arg2) (ix2 (row t r) k) := by
  have hi : win0_2.index t 0 = t.val ∧ win0_2.index t 1 = 0 := by rcases fin_N0 t with rfl | rfl | rfl | rfl | rfl | rfl | rfl | rfl <;> decide
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [hi.1]; omega
  | ⟨1, _⟩ => show win0_2.index t 1 * 512 + 1 * k.val = k.val; rw [hi.2]; omega

/-- Window 3's block at tile `t`: the tile's rows of the argument. -/
theorem blk3 (r : Fin 256) (k : Fin 512) :
    (iblk m c 3 t : Vec F S256x512 .bf16) (ix2 r k) = m ((c : Thread nD τ).loc main_arg3) (ix2 (row t r) k) := by
  have hi : win0_3.index t 0 = t.val ∧ win0_3.index t 1 = 0 := by rcases fin_N0 t with rfl | rfl | rfl | rfl | rfl | rfl | rfl | rfl <;> decide
  unfold iblk
  rw [View.read_apply]
  show V m c main_arg3 _ = _
  rw [V_main_arg3]
  congr 1
  funext a
  apply Fin.ext
  match a with
  | ⟨0, _⟩ => show win0_3.index t 0 * 256 + 1 * r.val = t.val * 256 + r.val; rw [hi.1]; omega
  | ⟨1, _⟩ => show win0_3.index t 1 * 512 + 1 * k.val = k.val; rw [hi.2]; omega

/-- Window 4's block at tile `t`: the tile's rows of the argument. -/
theorem blk4 (r : Fin 256) (k : Fin 512) :
    (iblk m c 4 t : Vec F S256x512 .bf16) (ix2 r k) = m ((c : Thread nD τ).loc main_arg4) (ix2 (row t r) k) := by
  have hi : win0_4.index t 0 = t.val ∧ win0_4.index t 1 = 0 := by rcases fin_N0 t with rfl | rfl | rfl | rfl | rfl | rfl | rfl | rfl <;> decide
  unfold iblk
  rw [View.read_apply]
  show V m c main_arg4 _ = _
  rw [V_main_arg4]
  congr 1
  funext a
  apply Fin.ext
  match a with
  | ⟨0, _⟩ => show win0_4.index t 0 * 256 + 1 * r.val = t.val * 256 + r.val; rw [hi.1]; omega
  | ⟨1, _⟩ => show win0_4.index t 1 * 512 + 1 * k.val = k.val; rw [hi.2]; omega

/-- Window 5's block at tile `t`: the tile's rows of the argument. -/
theorem blk5 (r : Fin 256) (k : Fin 512) :
    (iblk m c 5 t : Vec F S256x512 .bf16) (ix2 r k) = m ((c : Thread nD τ).loc main_arg5) (ix2 (row t r) k) := by
  have hi : win0_5.index t 0 = t.val ∧ win0_5.index t 1 = 0 := by rcases fin_N0 t with rfl | rfl | rfl | rfl | rfl | rfl | rfl | rfl <;> decide
  unfold iblk
  rw [View.read_apply]
  show V m c main_arg5 _ = _
  rw [V_main_arg5]
  congr 1
  funext a
  apply Fin.ext
  match a with
  | ⟨0, _⟩ => show win0_5.index t 0 * 256 + 1 * r.val = t.val * 256 + r.val; rw [hi.1]; omega
  | ⟨1, _⟩ => show win0_5.index t 1 * 512 + 1 * k.val = k.val; rw [hi.2]; omega

/-- Window 6's block at tile `t`: the tile's rows of the argument. -/
theorem blk6 (r : Fin 256) (k : Fin 1024) :
    (iblk m c 6 t : Vec F S256x1024 .f32) (ix2 r k) = m ((c : Thread nD τ).loc main_arg6) (ix2 (row t r) k) := by
  have hi : win0_6.index t 0 = t.val ∧ win0_6.index t 1 = 0 := by rcases fin_N0 t with rfl | rfl | rfl | rfl | rfl | rfl | rfl | rfl <;> decide
  unfold iblk
  rw [View.read_apply]
  show V m c main_arg6 _ = _
  rw [V_main_arg6]
  congr 1
  funext a
  apply Fin.ext
  match a with
  | ⟨0, _⟩ => show win0_6.index t 0 * 256 + 1 * r.val = t.val * 256 + r.val; rw [hi.1]; omega
  | ⟨1, _⟩ => show win0_6.index t 1 * 1024 + 1 * k.val = k.val; rw [hi.2]; omega

/-- Window 7's block at tile `t`: the tile's rows of the argument. -/
theorem blk7 (r : Fin 256) (k : Fin 1024) :
    (iblk m c 7 t : Vec F S256x1024 .f32) (ix2 r k) = m ((c : Thread nD τ).loc main_arg7) (ix2 (row t r) k) := by
  have hi : win0_7.index t 0 = t.val ∧ win0_7.index t 1 = 0 := by rcases fin_N0 t with rfl | rfl | rfl | rfl | rfl | rfl | rfl | rfl <;> decide
  unfold iblk
  rw [View.read_apply]
  show V m c main_arg7 _ = _
  rw [V_main_arg7]
  congr 1
  funext a
  apply Fin.ext
  match a with
  | ⟨0, _⟩ => show win0_7.index t 0 * 256 + 1 * r.val = t.val * 256 + r.val; rw [hi.1]; omega
  | ⟨1, _⟩ => show win0_7.index t 1 * 1024 + 1 * k.val = k.val; rw [hi.2]; omega

/-- Window 8's block is the whole array. -/
theorem blk8 : (iblk m c 8 t : Vec F S1x1024 .f32) = V m c main_v1 := by
  have hi : win0_8.index t 0 = 0 ∧ win0_8.index t 1 = 0 := by rcases fin_N0 t with rfl | rfl | rfl | rfl | rfl | rfl | rfl | rfl <;> decide
  funext j
  unfold iblk
  rw [View.read_apply]
  show V m c main_v1 _ = V m c main_v1 _
  congr 1
  funext a
  apply Fin.ext
  match a with
  | ⟨0, _⟩ => show win0_8.index t 0 * 1 + 1 * (j 0).val = (j 0).val; rw [hi.1]; omega
  | ⟨1, _⟩ => show win0_8.index t 1 * 1024 + 1 * (j 1).val = (j 1).val; rw [hi.2]; omega

/-- Window 9's block is the whole array. -/
theorem blk9 : (iblk m c 9 t : Vec F S1x1024 .f32) = V m c main_arg8 := by
  have hi : win0_9.index t 0 = 0 ∧ win0_9.index t 1 = 0 := by rcases fin_N0 t with rfl | rfl | rfl | rfl | rfl | rfl | rfl | rfl <;> decide
  funext j
  unfold iblk
  rw [View.read_apply]
  show V m c main_arg8 _ = V m c main_arg8 _
  congr 1
  funext a
  apply Fin.ext
  match a with
  | ⟨0, _⟩ => show win0_9.index t 0 * 1 + 1 * (j 0).val = (j 0).val; rw [hi.1]; omega
  | ⟨1, _⟩ => show win0_9.index t 1 * 1024 + 1 * (j 1).val = (j 1).val; rw [hi.2]; omega

/-- Window 10's block is the whole array. -/
theorem blk10 : (iblk m c 10 t : Vec F S1x1024 .f32) = V m c main_arg10 := by
  have hi : win0_10.index t 0 = 0 ∧ win0_10.index t 1 = 0 := by rcases fin_N0 t with rfl | rfl | rfl | rfl | rfl | rfl | rfl | rfl <;> decide
  funext j
  unfold iblk
  rw [View.read_apply]
  show V m c main_arg10 _ = V m c main_arg10 _
  congr 1
  funext a
  apply Fin.ext
  match a with
  | ⟨0, _⟩ => show win0_10.index t 0 * 1 + 1 * (j 0).val = (j 0).val; rw [hi.1]; omega
  | ⟨1, _⟩ => show win0_10.index t 1 * 1024 + 1 * (j 1).val = (j 1).val; rw [hi.2]; omega

/-- Window 11's block is the whole array. -/
theorem blk11 : (iblk m c 11 t : Vec F S2816x1024 .bf16) = V m c main_v3 := by
  have hi : win0_11.index t 0 = 0 ∧ win0_11.index t 1 = 0 := by rcases fin_N0 t with rfl | rfl | rfl | rfl | rfl | rfl | rfl | rfl <;> decide
  funext j
  unfold iblk
  rw [View.read_apply]
  show V m c main_v3 _ = V m c main_v3 _
  congr 1
  funext a
  apply Fin.ext
  match a with
  | ⟨0, _⟩ => show win0_11.index t 0 * 2816 + 1 * (j 0).val = (j 0).val; rw [hi.1]; omega
  | ⟨1, _⟩ => show win0_11.index t 1 * 1024 + 1 * (j 1).val = (j 1).val; rw [hi.2]; omega

end Blocks

variable (m : (ℓ : Loc nD τ sig) → Buf (Elt Ideal) ℓ) (c : Dev nD)

/-- Argument 0: the queries' cotangent. -/
abbrev Dq : Vec Ideal S2048x512 .bf16 := m ((c : Thread nD τ).loc main_arg0)
/-- Argument 1: the keys' and values' cotangent. -/
abbrev Dkv : Vec Ideal S2048x256 .bf16 := m ((c : Thread nD τ).loc main_arg1)
/-- Argument 2: the gate's cotangent. -/
abbrev Dga : Vec Ideal S2048x512 .bf16 := m ((c : Thread nD τ).loc main_arg2)
/-- Argument 3: the first branch's cotangent. -/
abbrev Dua : Vec Ideal S2048x512 .bf16 := m ((c : Thread nD τ).loc main_arg3)
/-- Argument 4: the second branch's cotangent. -/
abbrev Dug : Vec Ideal S2048x512 .bf16 := m ((c : Thread nD τ).loc main_arg4)
/-- Argument 5: the second gate's cotangent. -/
abbrev Dgb : Vec Ideal S2048x512 .bf16 := m ((c : Thread nD τ).loc main_arg5)
/-- Argument 6: the residual stream. -/
abbrev Xv : Vec Ideal S2048x1024 .f32 := m ((c : Thread nD τ).loc main_arg6)
/-- Argument 7: the stream's own cotangent. -/
abbrev Do : Vec Ideal S2048x1024 .f32 := m ((c : Thread nD τ).loc main_arg7)
/-- Argument 8: the shift. -/
abbrev Sh : Vec Ideal S1x1024 .f32 := m ((c : Thread nD τ).loc main_arg8)
/-- Argument 9: the scale. -/
abbrev Sc : Vec Ideal S1x1024 .f32 := m ((c : Thread nD τ).loc main_arg9)
/-- Argument 10: the norm's weight. -/
abbrev Nw : Vec Ideal S1x1024 .f32 := m ((c : Thread nD τ).loc main_arg10)
/-- Argument 11: the weight. -/
abbrev Wi : Vec Ideal S1024x2816 .f32 := m ((c : Thread nD τ).loc main_arg11)

/-- The reference's value at the kernel's arguments: one and the scale. -/
abbrev S1 : Vec Ideal S1x1024 .f32 := val_main_v16 (F := Ideal) (Sc m c)
/-- The reference's value at the kernel's arguments: the mean squares. -/
abbrev Va : Vec Ideal Cert.Reference3Ideal.S2048x1 .f32 := val_main_v6 (F := Ideal) (Xv m c)
/-- The reference's value at the kernel's arguments: the inverse root mean squares. -/
abbrev Rv : Vec Ideal Cert.Reference3Ideal.S2048x1 .f32 := val_main_v7 (F := Ideal) (Xv m c)
/-- The reference's value at the kernel's arguments: the normalised rows. -/
abbrev Xh : Vec Ideal S2048x1024 .f32 := val_main_v12 (F := Ideal) (Xv m c)
/-- The reference's value at the kernel's arguments: the weighted norm. -/
abbrev Nn : Vec Ideal S2048x1024 .f32 := val_main_v14 (F := Ideal) (Xv m c) (Nw m c)
/-- The reference's value at the kernel's arguments: the projection's input. -/
abbrev Hv : Vec Ideal S2048x1024 .f32 := val_main_v20 (F := Ideal) (Xv m c) (Sh m c) (Sc m c) (Nw m c)
/-- The reference's value at the kernel's arguments: the six cotangents side by side. -/
abbrev Dp : Vec Ideal Cert.Reference3Ideal.S2048x2816 .f32 := val_main_v28 (F := Ideal) (Dq m c) (Dkv m c) (Dga m c) (Dua m c) (Dug m c) (Dgb m c)
/-- The reference's value at the kernel's arguments: the cotangent of the projection's input. -/
abbrev Dh : Vec Ideal S2048x1024 .f32 := val_main_v31 (F := Ideal) (Dq m c) (Dkv m c) (Dga m c) (Dua m c) (Dug m c) (Dgb m c) (Wi m c)
/-- The reference's value at the kernel's arguments: the cotangent of the weighted norm. -/
abbrev Dn : Vec Ideal S2048x1024 .f32 := val_main_v38 (F := Ideal) (Dq m c) (Dkv m c) (Dga m c) (Dua m c) (Dug m c) (Dgb m c) (Sc m c) (Wi m c)
/-- The reference's value at the kernel's arguments: the cotangent of the norm. -/
abbrev Dx : Vec Ideal S2048x1024 .f32 := val_main_v43 (F := Ideal) (Dq m c) (Dkv m c) (Dga m c) (Dua m c) (Dug m c) (Dgb m c) (Sc m c) (Nw m c) (Wi m c)

set_option maxHeartbeats 4000000 in
/-- The prepared factor is one and the scale. -/
theorem s1_eq : (V m c main_v1 : Vec Ideal S1x1024 .f32) = S1 m c := by
  unfold V
  after_reads_simp
  rfl

set_option maxHeartbeats 4000000 in
/-- The prepared weight is the weight transposed. -/
theorem w_apply (k : Fin 2816) (n : Fin 1024) : (V m c main_v3 : Vec Ideal S2816x1024 .bf16) (ix2 k n) = Wi m c (ix2 n k) := by
  unfold V
  after_reads_simp
  pointwise

variable (t : Fin cfg0.N)

/-- A tile's cotangents. -/
abbrev tN : FVec Ideal S256x2816 .bf16 :=
  k0_pay9 (iblk m c 0 t) (iblk m c 1 t) (iblk m c 2 t) (iblk m c 3 t) (iblk m c 4 t) (iblk m c 5 t)

/-- A tile's cotangents are its rows of the reference's. -/
theorem tile_dp (r : Fin 256) (k : Fin 2816) : tN m c t (ix2 r k) = Dp m c (ix2 (row t r) k) := by
  refine (pay9_apply ..).trans (Eq.trans ?_ (Cert.Reference3Ideal.InRef.dp ..).symm)
  split_ifs
  · exact blk0 m c t r _
  · exact blk1 m c t r _
  · exact blk2 m c t r _
  · exact blk3 m c t r _
  · exact blk4 m c t r _
  · exact blk5 m c t r _

/-- A tile's inverse root mean squares. -/
theorem tile_inv (r : Fin 256) : k0_pay5 (iblk m c 6 t) (ix2 r 0) = Rv m c (ix2 (row t r) 0) := by
  refine (pay5_apply ..).trans (Eq.trans ?_ (Cert.Reference3Ideal.InRef.inv ..).symm)
  rw [Cert.Reference3Ideal.InRef.var]
  simp only [blk6]

/-- A tile's normalised rows. -/
theorem tile_xh (r : Fin 256) (n : Fin 1024) : k0_pay6 (iblk m c 6 t) (ix2 r n) = Xh m c (ix2 (row t r) n) := by
  rw [pay6_apply, tile_inv, blk6]; exact (Cert.Reference3Ideal.InRef.xh ..).symm

/-- A tile's weighted norm. -/
theorem tile_nrm (r : Fin 256) (n : Fin 1024) :
    k0_pay7 (iblk m c 6 t) (iblk m c 10 t) (ix2 r n) = Nn m c (ix2 (row t r) n) := by
  rw [pay7_apply, tile_xh, blk10, V_main_arg10]; exact (Cert.Reference3Ideal.InRef.nrm ..).symm

/-- A tile's projection input. -/
theorem tile_h (r : Fin 256) (n : Fin 1024) :
    k0_pay8 (iblk m c 6 t) (iblk m c 10 t) (iblk m c 8 t) (iblk m c 9 t) (ix2 r n) = Hv m c (ix2 (row t r) n) := by
  rw [pay8_apply, tile_nrm, blk8, blk9, s1_eq, V_main_arg8]; exact (Cert.Reference3Ideal.InRef.h ..).symm

/-- A tile's cotangent of the projection's input. -/
theorem tile_dh (r : Fin 256) (n : Fin 1024) : k0_pay10 (tN m c t) (iblk m c 11 t) (ix2 r n) = Dh m c (ix2 (row t r) n) := by
  rw [pay10_apply, blk11]
  refine Eq.trans ?_ (Cert.Reference3Ideal.InRef.dh ..).symm
  exact Finset.sum_congr rfl fun k _ => congrArg₂ (· * ·) (tile_dp m c t r k) (w_apply m c k n)

/-- A tile's cotangent of the weighted norm. -/
theorem tile_dn (r : Fin 256) (n : Fin 1024) :
    k0_pay14 (tN m c t) (iblk m c 11 t) (iblk m c 8 t) (ix2 r n) = Dn m c (ix2 (row t r) n) := by
  rw [pay14_apply, tile_dh, blk8, s1_eq]; exact (Cert.Reference3Ideal.InRef.dn ..).symm

/-- A tile's cotangent of the norm. -/
theorem tile_dx (r : Fin 256) (n : Fin 1024) :
    k0_pay14 (tN m c t) (iblk m c 11 t) (iblk m c 8 t) (ix2 r n) * Nw m c (ix2 0 n) = Dx m c (ix2 (row t r) n) := by
  rw [tile_dn]; exact (Cert.Reference3Ideal.InRef.dxh ..).symm

/-- An index of an array of 2048 rows: its tile and its row in the tile. -/
theorem row_split (a : Fin 2048) (h : a.val / 256 < cfg0.N) : row ⟨a.val / 256, h⟩ ⟨a.val % 256, by omega⟩ = a := by
  apply Fin.ext; show a.val / 256 * 256 + a.val % 256 = a.val; omega

/-- One step of the weight gradient. -/
theorem tileAcc_apply (Z : Vec Ideal S2816x1024 .f32) (k : Fin 2816) (n : Fin 1024) :
    tileAcc m c t Z (ix2 k n) = Z (ix2 k n) + ∑ r : Fin 256, Dp m c (ix2 (row t r) k) * Hv m c (ix2 (row t r) n) := by
  unfold tileAcc accStep
  rw [pay11_apply]
  exact congrArg (Z (ix2 k n) + ·) (Finset.sum_congr rfl fun r _ => congrArg₂ (· * ·) (tile_dp m c t r k) (tile_h m c t r n))

/-- One step of the reduction rows. -/
theorem tileRed_apply (Z : Vec Ideal S8x1024 .f32) (a : Fin 8) (n : Fin 1024) :
    tileRed m c t Z (ix2 a n) = if a.val = 0 then Z (ix2 a n) + ∑ r : Fin 256, Dh m c (ix2 (row t r) n)
      else if a.val = 1 then Z (ix2 a n) + ∑ r : Fin 256, Nn m c (ix2 (row t r) n) * Dh m c (ix2 (row t r) n)
      else if a.val = 2 then Z (ix2 a n) + ∑ r : Fin 256, Xh m c (ix2 (row t r) n) * Dn m c (ix2 (row t r) n)
      else Z (ix2 a n) := by
  unfold tileRed redStep rowOver
  show (if a.val = 2 then _ else if a.val = 1 then _ else if a.val = 0 then _ else _) = _
  by_cases h0 : a.val = 0
  · obtain rfl : a = 0 := Fin.ext h0
    refine (pay12_apply ..).trans ?_
    exact congrArg₂ (· + ·) rfl (Finset.sum_congr rfl fun r _ => tile_dh m c t r n)
  by_cases h1 : a.val = 1
  · obtain rfl : a = 1 := Fin.ext h1
    refine (pay13_apply ..).trans ?_
    exact congrArg₂ (· + ·) rfl (Finset.sum_congr rfl fun r _ =>
      (congrArg₂ (· * ·) (tile_dh m c t r n) (tile_nrm m c t r n)).trans (mul_comm _ _))
  by_cases h2 : a.val = 2
  · obtain rfl : a = 2 := Fin.ext h2
    refine (pay15_apply ..).trans ?_
    exact congrArg₂ (· + ·) rfl (Finset.sum_congr rfl fun r _ =>
      (congrArg₂ (· * ·) (tile_dn m c t r n) (tile_xh m c t r n)).trans (mul_comm _ _))
  rw [if_neg h2, if_neg h1, if_neg h0, if_neg h0, if_neg h1, if_neg h2]

/-- A sum over all the rows, tile by tile. -/
theorem sum_rows (f : Fin 2048 → EReal) (h7 : 7 < cfg0.N) : ∑ r : Fin 2048, f r
    = 0 + ∑ r : Fin 256, f (row ⟨0, by omega⟩ r) + ∑ r : Fin 256, f (row ⟨1, by omega⟩ r)
      + ∑ r : Fin 256, f (row ⟨2, by omega⟩ r) + ∑ r : Fin 256, f (row ⟨3, by omega⟩ r) + ∑ r : Fin 256, f (row ⟨4, by omega⟩ r)
      + ∑ r : Fin 256, f (row ⟨5, by omega⟩ r) + ∑ r : Fin 256, f (row ⟨6, by omega⟩ r) + ∑ r : Fin 256, f (row ⟨7, h7⟩ r) := by
  rw [Fin.sum_univ_tiles 8 256 (by norm_num) f, Fin.sum_univ_eight, zero_add]
  rfl

/-- The weight gradient is the reference's. -/
theorem value13 : G13 m c = val_main_v62 (F := Ideal) (Dq m c) (Dkv m c) (Dga m c) (Dua m c) (Dug m c) (Dgb m c) (Xv m c) (Sh m c) (Sc m c) (Nw m c) := by
  have h7 : 7 < cfg0.N := by rw [show cfg0.N = 8 from N_0]; omega
  rw [G13_eq m c h7]
  funext i
  idx_vars i
  refine (pay2_apply ..).trans (Eq.trans ?_ (Cert.Reference3Ideal.InRef.dw ..).symm)
  refine Eq.trans ?_ (sum_rows (fun r => Dp m c (ix2 r i0) * Hv m c (ix2 r i1)) h7).symm
  simp only [accAt, tileAcc_apply, pay3_apply]

/-- The reduction rows are the reference's. -/
theorem value14 : G14 m c = val_main_v60 (F := Ideal) (Dq m c) (Dkv m c) (Dga m c) (Dua m c) (Dug m c) (Dgb m c) (Xv m c) (Sc m c) (Nw m c) (Wi m c) := by
  have h7 : 7 < cfg0.N := by rw [show cfg0.N = 8 from N_0]; omega
  rw [G14_eq m c h7]
  funext i
  idx_vars i
  refine Eq.trans ?_ (Cert.Reference3Ideal.InRef.red ..).symm
  have e0 := sum_rows (fun r => Dh m c (ix2 r i1)) h7
  have e1 := sum_rows (fun r => Nn m c (ix2 r i1) * Dh m c (ix2 r i1)) h7
  have e2 := sum_rows (fun r => Xh m c (ix2 r i1) * Dn m c (ix2 r i1)) h7
  by_cases h0 : i0.val = 0
  · simp only [redAt, tileRed_apply, pay4_apply, if_pos h0]
    exact e0.symm
  by_cases h1 : i0.val = 1
  · simp only [redAt, tileRed_apply, pay4_apply, if_neg h0, if_pos h1]
    exact e1.symm
  by_cases h2 : i0.val = 2
  · simp only [redAt, tileRed_apply, pay4_apply, if_neg h0, if_neg h1, if_pos h2]
    exact e2.symm
  simp only [redAt, tileRed_apply, pay4_apply, if_neg h0, if_neg h1, if_neg h2]

/-- A tile's residual cotangent, by the reference's values. -/
theorem tileX_apply (r : Fin 256) (n : Fin 1024) : tileX m c t (ix2 r n) = Do m c (ix2 (row t r) n)
    + Rv m c (ix2 (row t r) 0) * (Dx m c (ix2 (row t r) n) - Xv m c (ix2 (row t r) n) * Rv m c (ix2 (row t r) 0)
      * Ideal.div (∑ k : Fin 1024, Dx m c (ix2 (row t r) k) * (Xv m c (ix2 (row t r) k) * Rv m c (ix2 (row t r) 0)))
        (Ideal.ofBits .f32 0x44800000#32)) := by
  unfold tileX gxStep
  refine (pay1_apply ..).trans ?_
  rw [blk10, V_main_arg10]
  simp only [tile_dn, tile_inv, tile_xh, blk7]
  simp only [Cert.Reference3Ideal.InRef.xh, Cert.Reference3Ideal.InRef.dxh]

/-- The reference's residual cotangent, in the tile's form. -/
theorem ref_x (a : Fin 2048) (n : Fin 1024) : Do m c (ix2 a n)
    + Rv m c (ix2 a 0) * (Dx m c (ix2 a n) - Xv m c (ix2 a n) * Rv m c (ix2 a 0)
      * Ideal.div (∑ k : Fin 1024, Dx m c (ix2 a k) * (Xv m c (ix2 a k) * Rv m c (ix2 a 0))) (Ideal.ofBits .f32 0x44800000#32))
    = val_main_v58 (F := Ideal) (Dq m c) (Dkv m c) (Dga m c) (Dua m c) (Dug m c) (Dgb m c) (Xv m c) (Do m c) (Sc m c) (Nw m c) (Wi m c) (ix2 a n) := by
  rw [Cert.Reference3Ideal.InRef.dx]
  have hv := Cert.Reference3Ideal.InRef.var (Xv m c) a
  have hr := Cert.Reference3Ideal.InRef.inv (Xv m c) a
  have hP := Cert.Reference3Ideal.InRef.dv (Dq m c) (Dkv m c) (Dga m c) (Dua m c) (Dug m c) (Dgb m c) (Xv m c) (Sc m c) (Nw m c) (Wi m c) a
  exact Cert.Proof.In.norm_eq (fun k => Xv m c (ix2 a k)) (fun k => Dx m c (ix2 a k)) n (Do m c (ix2 a n)) _ _ _ hv hr hP

/-- The residual cotangent is the reference's. -/
theorem value12 : G12 m c = val_main_v58 (F := Ideal) (Dq m c) (Dkv m c) (Dga m c) (Dua m c) (Dug m c) (Dgb m c) (Xv m c) (Do m c) (Sc m c) (Nw m c) (Wi m c) := by
  funext i
  idx_vars i
  have hN : i0.val / 256 < cfg0.N := lt_of_lt_of_eq (by omega) (show cfg0.N = 8 from N_0).symm
  have hp : pt12Of (ix2 i0 i1) = i0.val / 256 := by
    show 1 * (i0.val / 256 - 0) + 1 * (i1.val / 1024 - 0) = _; omega
  have hl : loc12Of (ix2 i0 i1) = ix2 (⟨i0.val % 256, by omega⟩ : Fin 256) i1 := by
    funext a
    match a with
    | ⟨0, _⟩ => rfl
    | ⟨1, _⟩ => exact Fin.ext (show i1.val % 1024 = i1.val by omega)
  have ht : (⟨pt12Of (ix2 i0 i1), hp ▸ hN⟩ : Fin cfg0.N) = ⟨i0.val / 256, hN⟩ := Fin.ext hp
  rw [G12_apply m c _ (hp ▸ hN), hl, ht, tileX_apply, row_split]
  exact ref_x m c i0 i1

end Cert.Kernel3Ideal.InValue

end
-- ==== Proof.InClaim.lean ====
/-
  The claims about the input projection's backward call: it runs and keeps its arguments, and its three results are the
  reference's.
-/
module

public import proofs.«01_k».proof.Defs
public import proofs.«01_k».proof.Proof.Gen.Kernel3.Frame
public import proofs.«01_k».proof.Proof.Gen.Reference3Ideal.Run
public import proofs.«01_k».proof.Proof.InValue

@[expose] public section

namespace Cert.Proof

open Idealize.ShloMosaic Idealize.ShloMosaic.TcCoe Idealize.SL.Sem

/-- The call runs, at the machine's floats: it ends, keeps its arguments and leaves every counter at zero. -/
theorem in_frame : Cert.quiescent_Kernel3 := fun m ρ _ => Cert.Kernel3.Gen.frame m ρ

/-- The same at the ideal floats. -/
theorem in_frame_ideal : Cert.quiescent_Kernel3Ideal := fun m ρ _ => Cert.Kernel3Ideal.Gen.frame m ρ

/-- The reference runs and keeps its arguments; it declares no semaphore. -/
theorem in_frame_ref : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- No operation was rewritten. -/
theorem in_preserves : Cert.preserves_Kernel3_Kernel3Ideal := trivial

/-- The call's results are the reference's, over the ideal floats. -/
theorem in_algebraic : Cert.algebraic_Kernel3Ideal_Reference3Ideal := by
  intro m ρ m' ρ' _ ha
  refine ⟨fun c => Cert.Kernel3Ideal.Value.G12 m c, fun c => Cert.Kernel3Ideal.Value.G13 m c,
    fun c => Cert.Kernel3Ideal.Value.G14 m c, Cert.Kernel3Ideal.Value.run m ρ,
    (θ_run Cert.Reference3Ideal.defs _ _).mono (fun r h c => ?_) (Cert.Reference3Ideal.Value.run (F := Ideal) m' ρ')⟩
  obtain ⟨h58, h62, h60, hargs⟩ := h c
  obtain ⟨a0, a1, a2, a3, a4, a5, a6, a7, a8, a9, a10, a11⟩ := ha c
  rw [Cert.Reference3Ideal.Read.val_main_v58_eq] at h58
  rw [Cert.Reference3Ideal.Read.val_main_v62_eq] at h62
  rw [Cert.Reference3Ideal.Read.val_main_v60_eq] at h60
  rw [a0, a1, a2, a3, a4, a5, a6, a7, a9, a10, a11] at h58
  rw [a0, a1, a2, a3, a4, a5, a6, a8, a9, a10] at h62
  rw [a0, a1, a2, a3, a4, a5, a6, a9, a10, a11] at h60
  exact ⟨h58.trans (Cert.Kernel3Ideal.InValue.value12 m c).symm, h62.trans (Cert.Kernel3Ideal.InValue.value13 m c).symm,
    h60.trans (Cert.Kernel3Ideal.InValue.value14 m c).symm, hargs⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Loops
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.OutClaim
public import proofs.«01_k».proof.Proof.ConvClaim
public import proofs.«01_k».proof.Proof.ConvAlg
public import proofs.«01_k».proof.Proof.InClaim

@[expose] public section

namespace Cert.Proof

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts,
    conv_frame, conv_frame_ideal, conv_frame_ideal_finite, conv_frame_ref, conv_frame_ref_finite, out_frame, out_frame_ideal, out_frame_ref,
    in_frame, in_frame_ideal, in_frame_ref,
    conv_preserves, conv_algebraic, out_preserves, out_algebraic, in_preserves, in_algebraic⟩

end Cert.Proof

end
